-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x128x1024 : Shape := ⟨3, ![4, 128, 1024]⟩
abbrev S512x1024 : Shape := ⟨2, ![512, 1024]⟩
abbrev S8128x1024 : Shape := ⟨2, ![8128, 1024]⟩
abbrev S16x1024 : Shape := ⟨2, ![16, 1024]⟩
abbrev S_ : Shape := ⟨0, ![]⟩
abbrev S1x16 : Shape := ⟨2, ![1, 16]⟩
abbrev S16 : Shape := ⟨1, ![16]⟩
abbrev S1x1024 : Shape := ⟨2, ![1, 1024]⟩

abbrev nBuf : Table → Nat
  | .hbm => 6
  | .local .scVector .vmem => 6
  | _ => 0

abbrev bufTy : (tb : Table) → Fin (nBuf tb) → BufTy
  | .hbm, ⟨0, _⟩ => ⟨S4x128x1024, .f32⟩
  | .hbm, ⟨1, _⟩ => ⟨S512x1024, .f32⟩
  | .hbm, ⟨2, _⟩ => ⟨S8128x1024, .f32⟩
  | .hbm, ⟨3, _⟩ => ⟨S8128x1024, .f32⟩
  | .hbm, ⟨4, _⟩ => ⟨S8128x1024, .f32⟩
  | .hbm, ⟨5, _⟩ => ⟨S8128x1024, .f32⟩
  | .local .scVector .vmem, ⟨0, _⟩ => ⟨S16x1024, .f32⟩
  | .local .scVector .vmem, ⟨1, _⟩ => ⟨S16x1024, .f32⟩
  | .local .scVector .vmem, ⟨2, _⟩ => ⟨S16x1024, .f32⟩
  | .local .scVector .vmem, ⟨3, _⟩ => ⟨S16x1024, .f32⟩
  | .local .scVector .vmem, ⟨4, _⟩ => ⟨S16x1024, .f32⟩
  | .local .scVector .vmem, ⟨5, _⟩ => ⟨S16x1024, .f32⟩
  | _, _ => ⟨S4x128x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v0_scv : Ref sig .scVector := ⟨.hbm, 1, rfl⟩
abbrev main_v1_0_scv : Ref sig .scVector := ⟨.hbm, 2, rfl⟩
abbrev main_v1_1_scv : Ref sig .scVector := ⟨.hbm, 3, rfl⟩
abbrev main_v1_2_scv : Ref sig .scVector := ⟨.hbm, 4, rfl⟩
abbrev main_v1_3_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32_7 : BitVec 32 := 28#32
  let v43 : BitVec 1 := Scalar.cmpi .slt v1 c28_i32_7
  let c7_i32 : BitVec 32 := 7#32
  let v2 : BitVec 1 := Scalar.cmpi .sge v1 c7_i32
  let v3 : BitVec 32 := Scalar.extui v2
  let c13_i32 : BitVec 32 := 13#32
  let v4 : BitVec 1 := Scalar.cmpi .sge v1 c13_i32
  let v5 : BitVec 32 := Scalar.extui v4
  let v6 : BitVec 32 := Scalar.addi v3 v5
  let c18_i32 : BitVec 32 := 18#32
  let v7 : BitVec 1 := Scalar.cmpi .sge v1 c18_i32
  let v8 : BitVec 32 := Scalar.extui v7
  let v9 : BitVec 32 := Scalar.addi v6 v8
  let c22_i32 : BitVec 32 := 22#32
  let v10 : BitVec 1 := Scalar.cmpi .sge v1 c22_i32
  let v11 : BitVec 32 := Scalar.extui v10
  let v12 : BitVec 32 := Scalar.addi v9 v11
  let c25_i32 : BitVec 32 := 25#32
  let v13 : BitVec 1 := Scalar.cmpi .sge v1 c25_i32
  let v14 : BitVec 32 := Scalar.extui v13
  let v15 : BitVec 32 := Scalar.addi v12 v14
  let c27_i32 : BitVec 32 := 27#32
  let v16 : BitVec 1 := Scalar.cmpi .sge v1 c27_i32
  let v17 : BitVec 32 := Scalar.extui v16
  let v18 : BitVec 32 := Scalar.addi v15 v17
  let c2_i32_6 : BitVec 32 := 2#32
  let c28_i32 : BitVec 32 := 28#32
  let v41 : BitVec 32 := Scalar.subi v1 c28_i32
  let v42 : BitVec 32 := Scalar.muli c2_i32_6 v41
  let v44 : BitVec 32 := Scalar.select v43 v18 v42
  let c16_i32 : BitVec 32 := 16#32
  let v45 : BitVec 32 := Scalar.muli v44 c16_i32
  let v50 : BitVec 32 := Scalar.addi c0_i32_11 v45
  let c0_i32_12 : BitVec 32 := 0#32
  ![v50.toNat, 0]
def k0_off2 (i : grid0.Coords) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32_8 : BitVec 32 := 28#32
  let v46 : BitVec 1 := Scalar.cmpi .slt v1 c28_i32_8
  let c7_i32 : BitVec 32 := 7#32
  let v2 : BitVec 1 := Scalar.cmpi .sge v1 c7_i32
  let v3 : BitVec 32 := Scalar.extui v2
  let c13_i32 : BitVec 32 := 13#32
  let v4 : BitVec 1 := Scalar.cmpi .sge v1 c13_i32
  let v5 : BitVec 32 := Scalar.extui v4
  let v6 : BitVec 32 := Scalar.addi v3 v5
  let c18_i32 : BitVec 32 := 18#32
  let v7 : BitVec 1 := Scalar.cmpi .sge v1 c18_i32
  let v8 : BitVec 32 := Scalar.extui v7
  let v9 : BitVec 32 := Scalar.addi v6 v8
  let c22_i32 : BitVec 32 := 22#32
  let v10 : BitVec 1 := Scalar.cmpi .sge v1 c22_i32
  let v11 : BitVec 32 := Scalar.extui v10
  let v12 : BitVec 32 := Scalar.addi v9 v11
  let c25_i32 : BitVec 32 := 25#32
  let v13 : BitVec 1 := Scalar.cmpi .sge v1 c25_i32
  let v14 : BitVec 32 := Scalar.extui v13
  let v15 : BitVec 32 := Scalar.addi v12 v14
  let c27_i32 : BitVec 32 := 27#32
  let v16 : BitVec 1 := Scalar.cmpi .sge v1 c27_i32
  let v17 : BitVec 32 := Scalar.extui v16
  let v18 : BitVec 32 := Scalar.addi v15 v17
  let c15_i32 : BitVec 32 := 15#32
  let v19 : BitVec 32 := Scalar.subi c15_i32 v18
  let v20 : BitVec 32 := Scalar.muli v18 v19
  let c0_i32 : BitVec 32 := 0#32
  let v22 : BitVec 1 := Scalar.cmpi .sgt v20 c0_i32
  let v23 : BitVec 32 := Scalar.extui v22
  let c0_i32_1 : BitVec 32 := 0#32
  let v24 : BitVec 1 := Scalar.cmpi .slt v20 c0_i32_1
  let v25 : BitVec 32 := Scalar.extui v24
  let v26 : BitVec 32 := Scalar.subi v23 v25
  let c2_i32_0 : BitVec 32 := 2#32
  let c0_i32_2 : BitVec 32 := 0#32
  let v27 : BitVec 1 := Scalar.cmpi .sgt c2_i32_0 c0_i32_2
  let v28 : BitVec 32 := Scalar.extui v27
  let c0_i32_3 : BitVec 32 := 0#32
  let v29 : BitVec 1 := Scalar.cmpi .slt c2_i32_0 c0_i32_3
  let v30 : BitVec 32 := Scalar.extui v29
  let v31 : BitVec 32 := Scalar.subi v28 v30
  let v32 : BitVec 1 := Scalar.cmpi .ne v26 v31
  let v33 : BitVec 32 := Scalar.remsi v20 c2_i32_0
  let c0_i32_4 : BitVec 32 := 0#32
  let v34 : BitVec 1 := Scalar.cmpi .ne v33 c0_i32_4
  let v35 : BitVec 1 := Scalar.andi v32 v34
  let v21 : BitVec 32 := Scalar.divsi v20 c2_i32_0
  let c1_i32 : BitVec 32 := 1#32
  let v36 : BitVec 32 := Scalar.subi v21 c1_i32
  let v37 : BitVec 32 := Scalar.select v35 v36 v21
  let v38 : BitVec 32 := Scalar.subi v1 v37
  let v39 : BitVec 32 := Scalar.addi v38 v18
  let c1_i32_5 : BitVec 32 := 1#32
  let v40 : BitVec 32 := Scalar.addi v39 c1_i32_5
  let c2_i32_6 : BitVec 32 := 2#32
  let c28_i32 : BitVec 32 := 28#32
  let v41 : BitVec 32 := Scalar.subi v1 c28_i32
  let v42 : BitVec 32 := Scalar.muli c2_i32_6 v41
  let c1_i32_9 : BitVec 32 := 1#32
  let v47 : BitVec 32 := Scalar.addi v42 c1_i32_9
  let v48 : BitVec 32 := Scalar.select v46 v40 v47
  let c16_i32_10 : BitVec 32 := 16#32
  let v49 : BitVec 32 := Scalar.muli v48 c16_i32_10
  let v53 : BitVec 32 := Scalar.addi c0_i32_14 v49
  let c0_i32_15 : BitVec 32 := 0#32
  ![v53.toNat, 0]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32_30 : BitVec 32 := 28#32
  let v66 : BitVec 1 := Scalar.cmpi .slt v1 c28_i32_30
  let v67 : BitVec 32 := Scalar.extui v66
  let c0_i32_31 : BitVec 32 := 0#32
  let v68 : BitVec 1 := Scalar.cmpi .ne v67 c0_i32_31
  v68

@[reducible] def k0_t1_loop : Scf.Loop 32 :=
  let c0_i32_81 : BitVec 32 := 0#32
  let c8_i32 : BitVec 32 := 8#32
  let v114 : BitVec 32 := Scalar.addi c0_i32_81 c8_i32
  let c1_i32_82 : BitVec 32 := 1#32
  ⟨c0_i32_81, v114, c1_i32_82⟩
def k0_off3 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v125 : Index := Scalar.indexCast v121
  let c0 : Index := 0#32
  ![v125.toNat, 0]
def k0_off4 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v128 : Index := Scalar.indexCast v121
  let c16 : Index := 16#32
  ![v128.toNat, 16]
def k0_off5 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v131 : Index := Scalar.indexCast v121
  let c32 : Index := 32#32
  ![v131.toNat, 32]
def k0_off6 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v134 : Index := Scalar.indexCast v121
  let c48 : Index := 48#32
  ![v134.toNat, 48]
def k0_off7 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v137 : Index := Scalar.indexCast v121
  let c64 : Index := 64#32
  ![v137.toNat, 64]
def k0_off8 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v140 : Index := Scalar.indexCast v121
  let c80 : Index := 80#32
  ![v140.toNat, 80]
def k0_off9 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v143 : Index := Scalar.indexCast v121
  let c96 : Index := 96#32
  ![v143.toNat, 96]
def k0_off10 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v146 : Index := Scalar.indexCast v121
  let c112 : Index := 112#32
  ![v146.toNat, 112]
def k0_off11 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v149 : Index := Scalar.indexCast v121
  let c128 : Index := 128#32
  ![v149.toNat, 128]
def k0_off12 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v152 : Index := Scalar.indexCast v121
  let c144 : Index := 144#32
  ![v152.toNat, 144]
def k0_off13 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v155 : Index := Scalar.indexCast v121
  let c160 : Index := 160#32
  ![v155.toNat, 160]
def k0_off14 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v158 : Index := Scalar.indexCast v121
  let c176 : Index := 176#32
  ![v158.toNat, 176]
def k0_off15 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v161 : Index := Scalar.indexCast v121
  let c192 : Index := 192#32
  ![v161.toNat, 192]
def k0_off16 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v164 : Index := Scalar.indexCast v121
  let c208 : Index := 208#32
  ![v164.toNat, 208]
def k0_off17 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v167 : Index := Scalar.indexCast v121
  let c224 : Index := 224#32
  ![v167.toNat, 224]
def k0_off18 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v170 : Index := Scalar.indexCast v121
  let c240 : Index := 240#32
  ![v170.toNat, 240]
def k0_off19 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v173 : Index := Scalar.indexCast v121
  let c256 : Index := 256#32
  ![v173.toNat, 256]
def k0_off20 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v176 : Index := Scalar.indexCast v121
  let c272 : Index := 272#32
  ![v176.toNat, 272]
def k0_off21 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v179 : Index := Scalar.indexCast v121
  let c288 : Index := 288#32
  ![v179.toNat, 288]
def k0_off22 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v182 : Index := Scalar.indexCast v121
  let c304 : Index := 304#32
  ![v182.toNat, 304]
def k0_off23 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v185 : Index := Scalar.indexCast v121
  let c320 : Index := 320#32
  ![v185.toNat, 320]
def k0_off24 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v188 : Index := Scalar.indexCast v121
  let c336 : Index := 336#32
  ![v188.toNat, 336]
def k0_off25 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v191 : Index := Scalar.indexCast v121
  let c352 : Index := 352#32
  ![v191.toNat, 352]
def k0_off26 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v194 : Index := Scalar.indexCast v121
  let c368 : Index := 368#32
  ![v194.toNat, 368]
def k0_off27 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v197 : Index := Scalar.indexCast v121
  let c384 : Index := 384#32
  ![v197.toNat, 384]
def k0_off28 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v200 : Index := Scalar.indexCast v121
  let c400 : Index := 400#32
  ![v200.toNat, 400]
def k0_off29 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v203 : Index := Scalar.indexCast v121
  let c416 : Index := 416#32
  ![v203.toNat, 416]
def k0_off30 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v206 : Index := Scalar.indexCast v121
  let c432 : Index := 432#32
  ![v206.toNat, 432]
def k0_off31 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v209 : Index := Scalar.indexCast v121
  let c448 : Index := 448#32
  ![v209.toNat, 448]
def k0_off32 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v212 : Index := Scalar.indexCast v121
  let c464 : Index := 464#32
  ![v212.toNat, 464]
def k0_off33 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v215 : Index := Scalar.indexCast v121
  let c480 : Index := 480#32
  ![v215.toNat, 480]
def k0_off34 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v218 : Index := Scalar.indexCast v121
  let c496 : Index := 496#32
  ![v218.toNat, 496]
@[reducible] def k0_t2_loop : Scf.Loop 32 :=
  let c0_i32_97 : BitVec 32 := 0#32
  let c16_i32_98 : BitVec 32 := 16#32
  let v221 : BitVec 32 := Scalar.addi c0_i32_97 c16_i32_98
  let c1_i32_99 : BitVec 32 := 1#32
  ⟨c0_i32_97, v221, c1_i32_99⟩
def k0_off35 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v576 : Index := Scalar.indexCast arg22
  let c0_212 : Index := 0#32
  ![v576.toNat, 0]
def k0_off36 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v585 : Index := Scalar.indexCast arg22
  let c16_214 : Index := 16#32
  ![v585.toNat, 16]
def k0_off37 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v594 : Index := Scalar.indexCast arg22
  let c32_216 : Index := 32#32
  ![v594.toNat, 32]
def k0_off38 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v603 : Index := Scalar.indexCast arg22
  let c48_218 : Index := 48#32
  ![v603.toNat, 48]
def k0_off39 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v612 : Index := Scalar.indexCast arg22
  let c64_220 : Index := 64#32
  ![v612.toNat, 64]
def k0_off40 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v621 : Index := Scalar.indexCast arg22
  let c80_222 : Index := 80#32
  ![v621.toNat, 80]
def k0_off41 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v630 : Index := Scalar.indexCast arg22
  let c96_224 : Index := 96#32
  ![v630.toNat, 96]
def k0_off42 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v639 : Index := Scalar.indexCast arg22
  let c112_226 : Index := 112#32
  ![v639.toNat, 112]
def k0_off43 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v648 : Index := Scalar.indexCast arg22
  let c128_228 : Index := 128#32
  ![v648.toNat, 128]
def k0_off44 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v657 : Index := Scalar.indexCast arg22
  let c144_230 : Index := 144#32
  ![v657.toNat, 144]
def k0_off45 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v666 : Index := Scalar.indexCast arg22
  let c160_232 : Index := 160#32
  ![v666.toNat, 160]
def k0_off46 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v675 : Index := Scalar.indexCast arg22
  let c176_234 : Index := 176#32
  ![v675.toNat, 176]
def k0_off47 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v684 : Index := Scalar.indexCast arg22
  let c192_236 : Index := 192#32
  ![v684.toNat, 192]
def k0_off48 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v693 : Index := Scalar.indexCast arg22
  let c208_238 : Index := 208#32
  ![v693.toNat, 208]
def k0_off49 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v702 : Index := Scalar.indexCast arg22
  let c224_240 : Index := 224#32
  ![v702.toNat, 224]
def k0_off50 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v711 : Index := Scalar.indexCast arg22
  let c240_242 : Index := 240#32
  ![v711.toNat, 240]
def k0_off51 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v720 : Index := Scalar.indexCast arg22
  let c256_244 : Index := 256#32
  ![v720.toNat, 256]
def k0_off52 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v729 : Index := Scalar.indexCast arg22
  let c272_246 : Index := 272#32
  ![v729.toNat, 272]
def k0_off53 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v738 : Index := Scalar.indexCast arg22
  let c288_248 : Index := 288#32
  ![v738.toNat, 288]
def k0_off54 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v747 : Index := Scalar.indexCast arg22
  let c304_250 : Index := 304#32
  ![v747.toNat, 304]
def k0_off55 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v756 : Index := Scalar.indexCast arg22
  let c320_252 : Index := 320#32
  ![v756.toNat, 320]
def k0_off56 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v765 : Index := Scalar.indexCast arg22
  let c336_254 : Index := 336#32
  ![v765.toNat, 336]
def k0_off57 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v774 : Index := Scalar.indexCast arg22
  let c352_256 : Index := 352#32
  ![v774.toNat, 352]
def k0_off58 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v783 : Index := Scalar.indexCast arg22
  let c368_258 : Index := 368#32
  ![v783.toNat, 368]
def k0_off59 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v792 : Index := Scalar.indexCast arg22
  let c384_260 : Index := 384#32
  ![v792.toNat, 384]
def k0_off60 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v801 : Index := Scalar.indexCast arg22
  let c400_262 : Index := 400#32
  ![v801.toNat, 400]
def k0_off61 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v810 : Index := Scalar.indexCast arg22
  let c416_264 : Index := 416#32
  ![v810.toNat, 416]
def k0_off62 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v819 : Index := Scalar.indexCast arg22
  let c432_266 : Index := 432#32
  ![v819.toNat, 432]
def k0_off63 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v828 : Index := Scalar.indexCast arg22
  let c448_268 : Index := 448#32
  ![v828.toNat, 448]
def k0_off64 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v837 : Index := Scalar.indexCast arg22
  let c464_270 : Index := 464#32
  ![v837.toNat, 464]
def k0_off65 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v846 : Index := Scalar.indexCast arg22
  let c480_272 : Index := 480#32
  ![v846.toNat, 480]
def k0_off66 (k0_t2 : Fin k0_t2_loop.trips) : Fin 2 → Nat :=
  let c0_i32_97 : BitVec 32 := 0#32
  let c1_i32_99 : BitVec 32 := 1#32
  let arg22 : BitVec 32 := Scf.iv c0_i32_97 c1_i32_99 k0_t2
  let v855 : Index := Scalar.indexCast arg22
  let c496_274 : Index := 496#32
  ![v855.toNat, 496]
def k0_off67 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v222 : Index := Scalar.indexCast v121
  let c512 : Index := 512#32
  ![v222.toNat, 512]
def k0_off68 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v225 : Index := Scalar.indexCast v121
  let c528 : Index := 528#32
  ![v225.toNat, 528]
def k0_off69 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v228 : Index := Scalar.indexCast v121
  let c544 : Index := 544#32
  ![v228.toNat, 544]
def k0_off70 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v231 : Index := Scalar.indexCast v121
  let c560 : Index := 560#32
  ![v231.toNat, 560]
def k0_off71 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v234 : Index := Scalar.indexCast v121
  let c576 : Index := 576#32
  ![v234.toNat, 576]
def k0_off72 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v237 : Index := Scalar.indexCast v121
  let c592 : Index := 592#32
  ![v237.toNat, 592]
def k0_off73 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v240 : Index := Scalar.indexCast v121
  let c608 : Index := 608#32
  ![v240.toNat, 608]
def k0_off74 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v243 : Index := Scalar.indexCast v121
  let c624 : Index := 624#32
  ![v243.toNat, 624]
def k0_off75 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v246 : Index := Scalar.indexCast v121
  let c640 : Index := 640#32
  ![v246.toNat, 640]
def k0_off76 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v249 : Index := Scalar.indexCast v121
  let c656 : Index := 656#32
  ![v249.toNat, 656]
def k0_off77 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v252 : Index := Scalar.indexCast v121
  let c672 : Index := 672#32
  ![v252.toNat, 672]
def k0_off78 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v255 : Index := Scalar.indexCast v121
  let c688 : Index := 688#32
  ![v255.toNat, 688]
def k0_off79 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v258 : Index := Scalar.indexCast v121
  let c704 : Index := 704#32
  ![v258.toNat, 704]
def k0_off80 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v261 : Index := Scalar.indexCast v121
  let c720 : Index := 720#32
  ![v261.toNat, 720]
def k0_off81 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v264 : Index := Scalar.indexCast v121
  let c736 : Index := 736#32
  ![v264.toNat, 736]
def k0_off82 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v267 : Index := Scalar.indexCast v121
  let c752 : Index := 752#32
  ![v267.toNat, 752]
def k0_off83 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v270 : Index := Scalar.indexCast v121
  let c768 : Index := 768#32
  ![v270.toNat, 768]
def k0_off84 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v273 : Index := Scalar.indexCast v121
  let c784 : Index := 784#32
  ![v273.toNat, 784]
def k0_off85 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v276 : Index := Scalar.indexCast v121
  let c800 : Index := 800#32
  ![v276.toNat, 800]
def k0_off86 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v279 : Index := Scalar.indexCast v121
  let c816 : Index := 816#32
  ![v279.toNat, 816]
def k0_off87 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v282 : Index := Scalar.indexCast v121
  let c832 : Index := 832#32
  ![v282.toNat, 832]
def k0_off88 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v285 : Index := Scalar.indexCast v121
  let c848 : Index := 848#32
  ![v285.toNat, 848]
def k0_off89 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v288 : Index := Scalar.indexCast v121
  let c864 : Index := 864#32
  ![v288.toNat, 864]
def k0_off90 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v291 : Index := Scalar.indexCast v121
  let c880 : Index := 880#32
  ![v291.toNat, 880]
def k0_off91 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v294 : Index := Scalar.indexCast v121
  let c896 : Index := 896#32
  ![v294.toNat, 896]
def k0_off92 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v297 : Index := Scalar.indexCast v121
  let c912 : Index := 912#32
  ![v297.toNat, 912]
def k0_off93 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v300 : Index := Scalar.indexCast v121
  let c928 : Index := 928#32
  ![v300.toNat, 928]
def k0_off94 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v303 : Index := Scalar.indexCast v121
  let c944 : Index := 944#32
  ![v303.toNat, 944]
def k0_off95 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v306 : Index := Scalar.indexCast v121
  let c960 : Index := 960#32
  ![v306.toNat, 960]
def k0_off96 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v309 : Index := Scalar.indexCast v121
  let c976 : Index := 976#32
  ![v309.toNat, 976]
def k0_off97 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v312 : Index := Scalar.indexCast v121
  let c992 : Index := 992#32
  ![v312.toNat, 992]
def k0_off98 (k0_t1 : Fin k0_t1_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v315 : Index := Scalar.indexCast v121
  let c1008 : Index := 1008#32
  ![v315.toNat, 1008]
@[reducible] def k0_t3_loop : Scf.Loop 32 :=
  let c0_i32_102 : BitVec 32 := 0#32
  let c16_i32_103 : BitVec 32 := 16#32
  let v318 : BitVec 32 := Scalar.addi c0_i32_102 c16_i32_103
  let c1_i32_104 : BitVec 32 := 1#32
  ⟨c0_i32_102, v318, c1_i32_104⟩
def k0_off99 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v576 : Index := Scalar.indexCast arg22
  let c512_212 : Index := 512#32
  ![v576.toNat, 512]
def k0_off100 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v585 : Index := Scalar.indexCast arg22
  let c528_214 : Index := 528#32
  ![v585.toNat, 528]
def k0_off101 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v594 : Index := Scalar.indexCast arg22
  let c544_216 : Index := 544#32
  ![v594.toNat, 544]
def k0_off102 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v603 : Index := Scalar.indexCast arg22
  let c560_218 : Index := 560#32
  ![v603.toNat, 560]
def k0_off103 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v612 : Index := Scalar.indexCast arg22
  let c576_220 : Index := 576#32
  ![v612.toNat, 576]
def k0_off104 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v621 : Index := Scalar.indexCast arg22
  let c592_222 : Index := 592#32
  ![v621.toNat, 592]
def k0_off105 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v630 : Index := Scalar.indexCast arg22
  let c608_224 : Index := 608#32
  ![v630.toNat, 608]
def k0_off106 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v639 : Index := Scalar.indexCast arg22
  let c624_226 : Index := 624#32
  ![v639.toNat, 624]
def k0_off107 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v648 : Index := Scalar.indexCast arg22
  let c640_228 : Index := 640#32
  ![v648.toNat, 640]
def k0_off108 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v657 : Index := Scalar.indexCast arg22
  let c656_230 : Index := 656#32
  ![v657.toNat, 656]
def k0_off109 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v666 : Index := Scalar.indexCast arg22
  let c672_232 : Index := 672#32
  ![v666.toNat, 672]
def k0_off110 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v675 : Index := Scalar.indexCast arg22
  let c688_234 : Index := 688#32
  ![v675.toNat, 688]
def k0_off111 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v684 : Index := Scalar.indexCast arg22
  let c704_236 : Index := 704#32
  ![v684.toNat, 704]
def k0_off112 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v693 : Index := Scalar.indexCast arg22
  let c720_238 : Index := 720#32
  ![v693.toNat, 720]
def k0_off113 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v702 : Index := Scalar.indexCast arg22
  let c736_240 : Index := 736#32
  ![v702.toNat, 736]
def k0_off114 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v711 : Index := Scalar.indexCast arg22
  let c752_242 : Index := 752#32
  ![v711.toNat, 752]
def k0_off115 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v720 : Index := Scalar.indexCast arg22
  let c768_244 : Index := 768#32
  ![v720.toNat, 768]
def k0_off116 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v729 : Index := Scalar.indexCast arg22
  let c784_246 : Index := 784#32
  ![v729.toNat, 784]
def k0_off117 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v738 : Index := Scalar.indexCast arg22
  let c800_248 : Index := 800#32
  ![v738.toNat, 800]
def k0_off118 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v747 : Index := Scalar.indexCast arg22
  let c816_250 : Index := 816#32
  ![v747.toNat, 816]
def k0_off119 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v756 : Index := Scalar.indexCast arg22
  let c832_252 : Index := 832#32
  ![v756.toNat, 832]
def k0_off120 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v765 : Index := Scalar.indexCast arg22
  let c848_254 : Index := 848#32
  ![v765.toNat, 848]
def k0_off121 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v774 : Index := Scalar.indexCast arg22
  let c864_256 : Index := 864#32
  ![v774.toNat, 864]
def k0_off122 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v783 : Index := Scalar.indexCast arg22
  let c880_258 : Index := 880#32
  ![v783.toNat, 880]
def k0_off123 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v792 : Index := Scalar.indexCast arg22
  let c896_260 : Index := 896#32
  ![v792.toNat, 896]
def k0_off124 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v801 : Index := Scalar.indexCast arg22
  let c912_262 : Index := 912#32
  ![v801.toNat, 912]
def k0_off125 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v810 : Index := Scalar.indexCast arg22
  let c928_264 : Index := 928#32
  ![v810.toNat, 928]
def k0_off126 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v819 : Index := Scalar.indexCast arg22
  let c944_266 : Index := 944#32
  ![v819.toNat, 944]
def k0_off127 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v828 : Index := Scalar.indexCast arg22
  let c960_268 : Index := 960#32
  ![v828.toNat, 960]
def k0_off128 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v837 : Index := Scalar.indexCast arg22
  let c976_270 : Index := 976#32
  ![v837.toNat, 976]
def k0_off129 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v846 : Index := Scalar.indexCast arg22
  let c992_272 : Index := 992#32
  ![v846.toNat, 992]
def k0_off130 (k0_t3 : Fin k0_t3_loop.trips) : Fin 2 → Nat :=
  let c0_i32_102 : BitVec 32 := 0#32
  let c1_i32_104 : BitVec 32 := 1#32
  let arg22 : BitVec 32 := Scf.iv c0_i32_102 c1_i32_104 k0_t3
  let v855 : Index := Scalar.indexCast arg22
  let c1008_274 : Index := 1008#32
  ![v855.toNat, 1008]
def k0_off131 (i : grid0.Coords) (k0_t1 : Fin k0_t1_loop.trips) (c0_i32_93 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32 : BitVec 32 := 7#32
  let v2 : BitVec 1 := Scalar.cmpi .sge v1 c7_i32
  let v3 : BitVec 32 := Scalar.extui v2
  let c13_i32 : BitVec 32 := 13#32
  let v4 : BitVec 1 := Scalar.cmpi .sge v1 c13_i32
  let v5 : BitVec 32 := Scalar.extui v4
  let v6 : BitVec 32 := Scalar.addi v3 v5
  let c18_i32 : BitVec 32 := 18#32
  let v7 : BitVec 1 := Scalar.cmpi .sge v1 c18_i32
  let v8 : BitVec 32 := Scalar.extui v7
  let v9 : BitVec 32 := Scalar.addi v6 v8
  let c22_i32 : BitVec 32 := 22#32
  let v10 : BitVec 1 := Scalar.cmpi .sge v1 c22_i32
  let v11 : BitVec 32 := Scalar.extui v10
  let v12 : BitVec 32 := Scalar.addi v9 v11
  let c25_i32 : BitVec 32 := 25#32
  let v13 : BitVec 1 := Scalar.cmpi .sge v1 c25_i32
  let v14 : BitVec 32 := Scalar.extui v13
  let v15 : BitVec 32 := Scalar.addi v12 v14
  let c27_i32 : BitVec 32 := 27#32
  let v16 : BitVec 1 := Scalar.cmpi .sge v1 c27_i32
  let v17 : BitVec 32 := Scalar.extui v16
  let v18 : BitVec 32 := Scalar.addi v15 v17
  let c16_i32_106 : BitVec 32 := 16#32
  let v319 : BitVec 32 := Scalar.muli v18 c16_i32_106
  let c2_i32_92 : BitVec 32 := 2#32
  let c0_i32_81 : BitVec 32 := 0#32
  let c1_i32_82 : BitVec 32 := 1#32
  let arg20 : BitVec 32 := Scf.iv c0_i32_81 c1_i32_82 k0_t1
  let v120 : BitVec 32 := Scalar.muli c2_i32_92 arg20
  let v121 : BitVec 32 := Scalar.addi v120 c0_i32_93
  let v320 : BitVec 32 := Scalar.addi v319 v121
  let c127_i32 : BitVec 32 := 127#32
  let v321 : BitVec 32 := Scalar.muli v320 c127_i32
  let c1_i32_107 : BitVec 32 := 1#32
  let v322 : BitVec 32 := Scalar.subi v320 c1_i32_107
  let v323 : BitVec 32 := Scalar.muli v320 v322
  let c0_i32_109 : BitVec 32 := 0#32
  let v325 : BitVec 1 := Scalar.cmpi .sgt v323 c0_i32_109
  let v326 : BitVec 32 := Scalar.extui v325
  let c0_i32_110 : BitVec 32 := 0#32
  let v327 : BitVec 1 := Scalar.cmpi .slt v323 c0_i32_110
  let v328 : BitVec 32 := Scalar.extui v327
  let v329 : BitVec 32 := Scalar.subi v326 v328
  let c2_i32_108 : BitVec 32 := 2#32
  let c0_i32_111 : BitVec 32 := 0#32
  let v330 : BitVec 1 := Scalar.cmpi .sgt c2_i32_108 c0_i32_111
  let v331 : BitVec 32 := Scalar.extui v330
  let c0_i32_112 : BitVec 32 := 0#32
  let v332 : BitVec 1 := Scalar.cmpi .slt c2_i32_108 c0_i32_112
  let v333 : BitVec 32 := Scalar.extui v332
  let v334 : BitVec 32 := Scalar.subi v331 v333
  let v335 : BitVec 1 := Scalar.cmpi .ne v329 v334
  let v336 : BitVec 32 := Scalar.remsi v323 c2_i32_108
  let c0_i32_113 : BitVec 32 := 0#32
  let v337 : BitVec 1 := Scalar.cmpi .ne v336 c0_i32_113
  let v338 : BitVec 1 := Scalar.andi v335 v337
  let v324 : BitVec 32 := Scalar.divsi v323 c2_i32_108
  let c1_i32_114 : BitVec 32 := 1#32
  let v339 : BitVec 32 := Scalar.subi v324 c1_i32_114
  let v340 : BitVec 32 := Scalar.select v338 v339 v324
  let v341 : BitVec 32 := Scalar.subi v321 v340
  let c15_i32 : BitVec 32 := 15#32
  let v19 : BitVec 32 := Scalar.subi c15_i32 v18
  let v20 : BitVec 32 := Scalar.muli v18 v19
  let c0_i32 : BitVec 32 := 0#32
  let v22 : BitVec 1 := Scalar.cmpi .sgt v20 c0_i32
  let v23 : BitVec 32 := Scalar.extui v22
  let c0_i32_1 : BitVec 32 := 0#32
  let v24 : BitVec 1 := Scalar.cmpi .slt v20 c0_i32_1
  let v25 : BitVec 32 := Scalar.extui v24
  let v26 : BitVec 32 := Scalar.subi v23 v25
  let c2_i32_0 : BitVec 32 := 2#32
  let c0_i32_2 : BitVec 32 := 0#32
  let v27 : BitVec 1 := Scalar.cmpi .sgt c2_i32_0 c0_i32_2
  let v28 : BitVec 32 := Scalar.extui v27
  let c0_i32_3 : BitVec 32 := 0#32
  let v29 : BitVec 1 := Scalar.cmpi .slt c2_i32_0 c0_i32_3
  let v30 : BitVec 32 := Scalar.extui v29
  let v31 : BitVec 32 := Scalar.subi v28 v30
  let v32 : BitVec 1 := Scalar.cmpi .ne v26 v31
  let v33 : BitVec 32 := Scalar.remsi v20 c2_i32_0
  let c0_i32_4 : BitVec 32 := 0#32
  let v34 : BitVec 1 := Scalar.cmpi .ne v33 c0_i32_4
  let v35 : BitVec 1 := Scalar.andi v32 v34
  let v21 : BitVec 32 := Scalar.divsi v20 c2_i32_0
  let c1_i32 : BitVec 32 := 1#32
  let v36 : BitVec 32 := Scalar.subi v21 c1_i32
  let v37 : BitVec 32 := Scalar.select v35 v36 v21
  let v38 : BitVec 32 := Scalar.subi v1 v37
  let v39 : BitVec 32 := Scalar.addi v38 v18
  let c1_i32_5 : BitVec 32 := 1#32
  let v40 : BitVec 32 := Scalar.addi v39 c1_i32_5
  let c16_i32_115 : BitVec 32 := 16#32
  let v342 : BitVec 32 := Scalar.muli v40 c16_i32_115
  let v343 : BitVec 32 := Scalar.addi v341 v342
  let v344 : BitVec 32 := Scalar.subi v343 v320
  let c1_i32_116 : BitVec 32 := 1#32
  let v345 : BitVec 32 := Scalar.subi v344 c1_i32_116
  let c0_i32_117 : BitVec 32 := 0#32
  ![v345.toNat, 0]
@[reducible] def k0_t4_loop : Scf.Loop 32 :=
  let c0_i32_156 : BitVec 32 := 0#32
  let c16_i32_157 : BitVec 32 := 16#32
  let v449 : BitVec 32 := Scalar.addi c0_i32_156 c16_i32_157
  let c1_i32_158 : BitVec 32 := 1#32
  ⟨c0_i32_156, v449, c1_i32_158⟩
def k0_off132 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v576 : Index := Scalar.indexCast arg22
  let c0_212 : Index := 0#32
  ![v576.toNat, 0]
def k0_off133 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v585 : Index := Scalar.indexCast arg22
  let c16_214 : Index := 16#32
  ![v585.toNat, 16]
def k0_off134 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v594 : Index := Scalar.indexCast arg22
  let c32_216 : Index := 32#32
  ![v594.toNat, 32]
def k0_off135 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v603 : Index := Scalar.indexCast arg22
  let c48_218 : Index := 48#32
  ![v603.toNat, 48]
def k0_off136 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v612 : Index := Scalar.indexCast arg22
  let c64_220 : Index := 64#32
  ![v612.toNat, 64]
def k0_off137 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v621 : Index := Scalar.indexCast arg22
  let c80_222 : Index := 80#32
  ![v621.toNat, 80]
def k0_off138 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v630 : Index := Scalar.indexCast arg22
  let c96_224 : Index := 96#32
  ![v630.toNat, 96]
def k0_off139 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v639 : Index := Scalar.indexCast arg22
  let c112_226 : Index := 112#32
  ![v639.toNat, 112]
def k0_off140 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v648 : Index := Scalar.indexCast arg22
  let c128_228 : Index := 128#32
  ![v648.toNat, 128]
def k0_off141 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v657 : Index := Scalar.indexCast arg22
  let c144_230 : Index := 144#32
  ![v657.toNat, 144]
def k0_off142 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v666 : Index := Scalar.indexCast arg22
  let c160_232 : Index := 160#32
  ![v666.toNat, 160]
def k0_off143 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v675 : Index := Scalar.indexCast arg22
  let c176_234 : Index := 176#32
  ![v675.toNat, 176]
def k0_off144 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v684 : Index := Scalar.indexCast arg22
  let c192_236 : Index := 192#32
  ![v684.toNat, 192]
def k0_off145 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v693 : Index := Scalar.indexCast arg22
  let c208_238 : Index := 208#32
  ![v693.toNat, 208]
def k0_off146 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v702 : Index := Scalar.indexCast arg22
  let c224_240 : Index := 224#32
  ![v702.toNat, 224]
def k0_off147 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v711 : Index := Scalar.indexCast arg22
  let c240_242 : Index := 240#32
  ![v711.toNat, 240]
def k0_off148 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v720 : Index := Scalar.indexCast arg22
  let c256_244 : Index := 256#32
  ![v720.toNat, 256]
def k0_off149 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v729 : Index := Scalar.indexCast arg22
  let c272_246 : Index := 272#32
  ![v729.toNat, 272]
def k0_off150 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v738 : Index := Scalar.indexCast arg22
  let c288_248 : Index := 288#32
  ![v738.toNat, 288]
def k0_off151 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v747 : Index := Scalar.indexCast arg22
  let c304_250 : Index := 304#32
  ![v747.toNat, 304]
def k0_off152 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v756 : Index := Scalar.indexCast arg22
  let c320_252 : Index := 320#32
  ![v756.toNat, 320]
def k0_off153 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v765 : Index := Scalar.indexCast arg22
  let c336_254 : Index := 336#32
  ![v765.toNat, 336]
def k0_off154 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v774 : Index := Scalar.indexCast arg22
  let c352_256 : Index := 352#32
  ![v774.toNat, 352]
def k0_off155 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v783 : Index := Scalar.indexCast arg22
  let c368_258 : Index := 368#32
  ![v783.toNat, 368]
def k0_off156 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v792 : Index := Scalar.indexCast arg22
  let c384_260 : Index := 384#32
  ![v792.toNat, 384]
def k0_off157 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v801 : Index := Scalar.indexCast arg22
  let c400_262 : Index := 400#32
  ![v801.toNat, 400]
def k0_off158 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v810 : Index := Scalar.indexCast arg22
  let c416_264 : Index := 416#32
  ![v810.toNat, 416]
def k0_off159 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v819 : Index := Scalar.indexCast arg22
  let c432_266 : Index := 432#32
  ![v819.toNat, 432]
def k0_off160 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v828 : Index := Scalar.indexCast arg22
  let c448_268 : Index := 448#32
  ![v828.toNat, 448]
def k0_off161 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v837 : Index := Scalar.indexCast arg22
  let c464_270 : Index := 464#32
  ![v837.toNat, 464]
def k0_off162 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v846 : Index := Scalar.indexCast arg22
  let c480_272 : Index := 480#32
  ![v846.toNat, 480]
def k0_off163 (k0_t4 : Fin k0_t4_loop.trips) : Fin 2 → Nat :=
  let c0_i32_156 : BitVec 32 := 0#32
  let c1_i32_158 : BitVec 32 := 1#32
  let arg22 : BitVec 32 := Scf.iv c0_i32_156 c1_i32_158 k0_t4
  let v855 : Index := Scalar.indexCast arg22
  let c496_274 : Index := 496#32
  ![v855.toNat, 496]
@[reducible] def k0_t5_loop : Scf.Loop 32 :=
  let c0_i32_193 : BitVec 32 := 0#32
  let c16_i32_194 : BitVec 32 := 16#32
  let v546 : BitVec 32 := Scalar.addi c0_i32_193 c16_i32_194
  let c1_i32_195 : BitVec 32 := 1#32
  ⟨c0_i32_193, v546, c1_i32_195⟩
def k0_off164 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v576 : Index := Scalar.indexCast arg22
  let c512_212 : Index := 512#32
  ![v576.toNat, 512]
def k0_off165 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v585 : Index := Scalar.indexCast arg22
  let c528_214 : Index := 528#32
  ![v585.toNat, 528]
def k0_off166 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v594 : Index := Scalar.indexCast arg22
  let c544_216 : Index := 544#32
  ![v594.toNat, 544]
def k0_off167 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v603 : Index := Scalar.indexCast arg22
  let c560_218 : Index := 560#32
  ![v603.toNat, 560]
def k0_off168 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v612 : Index := Scalar.indexCast arg22
  let c576_220 : Index := 576#32
  ![v612.toNat, 576]
def k0_off169 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v621 : Index := Scalar.indexCast arg22
  let c592_222 : Index := 592#32
  ![v621.toNat, 592]
def k0_off170 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v630 : Index := Scalar.indexCast arg22
  let c608_224 : Index := 608#32
  ![v630.toNat, 608]
def k0_off171 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v639 : Index := Scalar.indexCast arg22
  let c624_226 : Index := 624#32
  ![v639.toNat, 624]
def k0_off172 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v648 : Index := Scalar.indexCast arg22
  let c640_228 : Index := 640#32
  ![v648.toNat, 640]
def k0_off173 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v657 : Index := Scalar.indexCast arg22
  let c656_230 : Index := 656#32
  ![v657.toNat, 656]
def k0_off174 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v666 : Index := Scalar.indexCast arg22
  let c672_232 : Index := 672#32
  ![v666.toNat, 672]
def k0_off175 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v675 : Index := Scalar.indexCast arg22
  let c688_234 : Index := 688#32
  ![v675.toNat, 688]
def k0_off176 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v684 : Index := Scalar.indexCast arg22
  let c704_236 : Index := 704#32
  ![v684.toNat, 704]
def k0_off177 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v693 : Index := Scalar.indexCast arg22
  let c720_238 : Index := 720#32
  ![v693.toNat, 720]
def k0_off178 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v702 : Index := Scalar.indexCast arg22
  let c736_240 : Index := 736#32
  ![v702.toNat, 736]
def k0_off179 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v711 : Index := Scalar.indexCast arg22
  let c752_242 : Index := 752#32
  ![v711.toNat, 752]
def k0_off180 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v720 : Index := Scalar.indexCast arg22
  let c768_244 : Index := 768#32
  ![v720.toNat, 768]
def k0_off181 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v729 : Index := Scalar.indexCast arg22
  let c784_246 : Index := 784#32
  ![v729.toNat, 784]
def k0_off182 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v738 : Index := Scalar.indexCast arg22
  let c800_248 : Index := 800#32
  ![v738.toNat, 800]
def k0_off183 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v747 : Index := Scalar.indexCast arg22
  let c816_250 : Index := 816#32
  ![v747.toNat, 816]
def k0_off184 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v756 : Index := Scalar.indexCast arg22
  let c832_252 : Index := 832#32
  ![v756.toNat, 832]
def k0_off185 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v765 : Index := Scalar.indexCast arg22
  let c848_254 : Index := 848#32
  ![v765.toNat, 848]
def k0_off186 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v774 : Index := Scalar.indexCast arg22
  let c864_256 : Index := 864#32
  ![v774.toNat, 864]
def k0_off187 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v783 : Index := Scalar.indexCast arg22
  let c880_258 : Index := 880#32
  ![v783.toNat, 880]
def k0_off188 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v792 : Index := Scalar.indexCast arg22
  let c896_260 : Index := 896#32
  ![v792.toNat, 896]
def k0_off189 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v801 : Index := Scalar.indexCast arg22
  let c912_262 : Index := 912#32
  ![v801.toNat, 912]
def k0_off190 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v810 : Index := Scalar.indexCast arg22
  let c928_264 : Index := 928#32
  ![v810.toNat, 928]
def k0_off191 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v819 : Index := Scalar.indexCast arg22
  let c944_266 : Index := 944#32
  ![v819.toNat, 944]
def k0_off192 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v828 : Index := Scalar.indexCast arg22
  let c960_268 : Index := 960#32
  ![v828.toNat, 960]
def k0_off193 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v837 : Index := Scalar.indexCast arg22
  let c976_270 : Index := 976#32
  ![v837.toNat, 976]
def k0_off194 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v846 : Index := Scalar.indexCast arg22
  let c992_272 : Index := 992#32
  ![v846.toNat, 992]
def k0_off195 (k0_t5 : Fin k0_t5_loop.trips) : Fin 2 → Nat :=
  let c0_i32_193 : BitVec 32 := 0#32
  let c1_i32_195 : BitVec 32 := 1#32
  let arg22 : BitVec 32 := Scf.iv c0_i32_193 c1_i32_195 k0_t5
  let v855 : Index := Scalar.indexCast arg22
  let c1008_274 : Index := 1008#32
  ![v855.toNat, 1008]
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32_32 : BitVec 32 := 28#32
  let v69 : BitVec 1 := Scalar.cmpi .sge v1 c28_i32_32
  let v70 : BitVec 32 := Scalar.extui v69
  let c0_i32_33 : BitVec 32 := 0#32
  let v71 : BitVec 1 := Scalar.cmpi .ne v70 c0_i32_33
  v71

@[reducible] def k0_t6_loop : Scf.Loop 32 :=
  let c0_i32_82 : BitVec 32 := 0#32
  let c15_i32_83 : BitVec 32 := 15#32
  let v115 : BitVec 32 := Scalar.addi c0_i32_82 c15_i32_83
  let c1_i32_84 : BitVec 32 := 1#32
  ⟨c0_i32_82, v115, c1_i32_84⟩
@[reducible] def k0_t7_loop (k0_t6 : Fin k0_t6_loop.trips) : Scf.Loop 32 :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_105 : BitVec 32 := 1#32
  ⟨c0_i32_103, v146, c1_i32_105⟩
def k0_off196 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v152 : Index := Scalar.indexCast arg20
  let c0 : Index := 0#32
  ![v152.toNat, 0]
def k0_off197 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_112 : BitVec 32 := 1#32
  let v155 : BitVec 32 := Scalar.addi arg20 c1_i32_112
  let c0_i32_103 : BitVec 32 := 0#32
  let c1_i32_105 : BitVec 32 := 1#32
  let arg21 : BitVec 32 := Scf.iv c0_i32_103 c1_i32_105 k0_t7
  let v156 : BitVec 32 := Scalar.addi v155 arg21
  let v157 : Index := Scalar.indexCast v156
  let c0_113 : Index := 0#32
  ![v157.toNat, 0]
def k0_off198 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v162 : Index := Scalar.indexCast arg21
  let c0_114 : Index := 0#32
  ![v162.toNat, 0]
def k0_off199 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v166 : Index := Scalar.indexCast arg20
  let c16 : Index := 16#32
  ![v166.toNat, 16]
def k0_off200 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_115 : BitVec 32 := 1#32
  let v169 : BitVec 32 := Scalar.addi arg20 c1_i32_115
  let c0_i32_103 : BitVec 32 := 0#32
  let c1_i32_105 : BitVec 32 := 1#32
  let arg21 : BitVec 32 := Scf.iv c0_i32_103 c1_i32_105 k0_t7
  let v170 : BitVec 32 := Scalar.addi v169 arg21
  let v171 : Index := Scalar.indexCast v170
  let c16_116 : Index := 16#32
  ![v171.toNat, 16]
def k0_off201 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v176 : Index := Scalar.indexCast arg21
  let c16_117 : Index := 16#32
  ![v176.toNat, 16]
def k0_off202 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v180 : Index := Scalar.indexCast arg20
  let c32 : Index := 32#32
  ![v180.toNat, 32]
def k0_off203 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_118 : BitVec 32 := 1#32
  let v183 : BitVec 32 := Scalar.addi arg20 c1_i32_118
  let c0_i32_103 : BitVec 32 := 0#32
  let c1_i32_105 : BitVec 32 := 1#32
  let arg21 : BitVec 32 := Scf.iv c0_i32_103 c1_i32_105 k0_t7
  let v184 : BitVec 32 := Scalar.addi v183 arg21
  let v185 : Index := Scalar.indexCast v184
  let c32_119 : Index := 32#32
  ![v185.toNat, 32]
def k0_off204 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v190 : Index := Scalar.indexCast arg21
  let c32_120 : Index := 32#32
  ![v190.toNat, 32]
def k0_off205 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v194 : Index := Scalar.indexCast arg20
  let c48 : Index := 48#32
  ![v194.toNat, 48]
def k0_off206 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_121 : BitVec 32 := 1#32
  let v197 : BitVec 32 := Scalar.addi arg20 c1_i32_121
  let c0_i32_103 : BitVec 32 := 0#32
  let c1_i32_105 : BitVec 32 := 1#32
  let arg21 : BitVec 32 := Scf.iv c0_i32_103 c1_i32_105 k0_t7
  let v198 : BitVec 32 := Scalar.addi v197 arg21
  let v199 : Index := Scalar.indexCast v198
  let c48_122 : Index := 48#32
  ![v199.toNat, 48]
def k0_off207 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v204 : Index := Scalar.indexCast arg21
  let c48_123 : Index := 48#32
  ![v204.toNat, 48]
def k0_off208 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v208 : Index := Scalar.indexCast arg20
  let c64 : Index := 64#32
  ![v208.toNat, 64]
def k0_off209 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_124 : BitVec 32 := 1#32
  let v211 : BitVec 32 := Scalar.addi arg20 c1_i32_124
  let c0_i32_103 : BitVec 32 := 0#32
  let c1_i32_105 : BitVec 32 := 1#32
  let arg21 : BitVec 32 := Scf.iv c0_i32_103 c1_i32_105 k0_t7
  let v212 : BitVec 32 := Scalar.addi v211 arg21
  let v213 : Index := Scalar.indexCast v212
  let c64_125 : Index := 64#32
  ![v213.toNat, 64]
def k0_off210 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v218 : Index := Scalar.indexCast arg21
  let c64_126 : Index := 64#32
  ![v218.toNat, 64]
def k0_off211 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v222 : Index := Scalar.indexCast arg20
  let c80 : Index := 80#32
  ![v222.toNat, 80]
def k0_off212 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_127 : BitVec 32 := 1#32
  let v225 : BitVec 32 := Scalar.addi arg20 c1_i32_127
  let c0_i32_103 : BitVec 32 := 0#32
  let c1_i32_105 : BitVec 32 := 1#32
  let arg21 : BitVec 32 := Scf.iv c0_i32_103 c1_i32_105 k0_t7
  let v226 : BitVec 32 := Scalar.addi v225 arg21
  let v227 : Index := Scalar.indexCast v226
  let c80_128 : Index := 80#32
  ![v227.toNat, 80]
def k0_off213 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v232 : Index := Scalar.indexCast arg21
  let c80_129 : Index := 80#32
  ![v232.toNat, 80]
def k0_off214 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v236 : Index := Scalar.indexCast arg20
  let c96 : Index := 96#32
  ![v236.toNat, 96]
def k0_off215 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_130 : BitVec 32 := 1#32
  let v239 : BitVec 32 := Scalar.addi arg20 c1_i32_130
  let c0_i32_103 : BitVec 32 := 0#32
  let c1_i32_105 : BitVec 32 := 1#32
  let arg21 : BitVec 32 := Scf.iv c0_i32_103 c1_i32_105 k0_t7
  let v240 : BitVec 32 := Scalar.addi v239 arg21
  let v241 : Index := Scalar.indexCast v240
  let c96_131 : Index := 96#32
  ![v241.toNat, 96]
def k0_off216 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v246 : Index := Scalar.indexCast arg21
  let c96_132 : Index := 96#32
  ![v246.toNat, 96]
def k0_off217 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v250 : Index := Scalar.indexCast arg20
  let c112 : Index := 112#32
  ![v250.toNat, 112]
def k0_off218 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_133 : BitVec 32 := 1#32
  let v253 : BitVec 32 := Scalar.addi arg20 c1_i32_133
  let c0_i32_103 : BitVec 32 := 0#32
  let c1_i32_105 : BitVec 32 := 1#32
  let arg21 : BitVec 32 := Scf.iv c0_i32_103 c1_i32_105 k0_t7
  let v254 : BitVec 32 := Scalar.addi v253 arg21
  let v255 : Index := Scalar.indexCast v254
  let c112_134 : Index := 112#32
  ![v255.toNat, 112]
def k0_off219 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v260 : Index := Scalar.indexCast arg21
  let c112_135 : Index := 112#32
  ![v260.toNat, 112]
def k0_off220 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v264 : Index := Scalar.indexCast arg20
  let c128 : Index := 128#32
  ![v264.toNat, 128]
def k0_off221 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_136 : BitVec 32 := 1#32
  let v267 : BitVec 32 := Scalar.addi arg20 c1_i32_136
  let c0_i32_103 : BitVec 32 := 0#32
  let c1_i32_105 : BitVec 32 := 1#32
  let arg21 : BitVec 32 := Scf.iv c0_i32_103 c1_i32_105 k0_t7
  let v268 : BitVec 32 := Scalar.addi v267 arg21
  let v269 : Index := Scalar.indexCast v268
  let c128_137 : Index := 128#32
  ![v269.toNat, 128]
def k0_off222 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v274 : Index := Scalar.indexCast arg21
  let c128_138 : Index := 128#32
  ![v274.toNat, 128]
def k0_off223 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v278 : Index := Scalar.indexCast arg20
  let c144 : Index := 144#32
  ![v278.toNat, 144]
def k0_off224 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_139 : BitVec 32 := 1#32
  let v281 : BitVec 32 := Scalar.addi arg20 c1_i32_139
  let c0_i32_103 : BitVec 32 := 0#32
  let c1_i32_105 : BitVec 32 := 1#32
  let arg21 : BitVec 32 := Scf.iv c0_i32_103 c1_i32_105 k0_t7
  let v282 : BitVec 32 := Scalar.addi v281 arg21
  let v283 : Index := Scalar.indexCast v282
  let c144_140 : Index := 144#32
  ![v283.toNat, 144]
def k0_off225 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v288 : Index := Scalar.indexCast arg21
  let c144_141 : Index := 144#32
  ![v288.toNat, 144]
def k0_off226 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v292 : Index := Scalar.indexCast arg20
  let c160 : Index := 160#32
  ![v292.toNat, 160]
def k0_off227 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_142 : BitVec 32 := 1#32
  let v295 : BitVec 32 := Scalar.addi arg20 c1_i32_142
  let c0_i32_103 : BitVec 32 := 0#32
  let c1_i32_105 : BitVec 32 := 1#32
  let arg21 : BitVec 32 := Scf.iv c0_i32_103 c1_i32_105 k0_t7
  let v296 : BitVec 32 := Scalar.addi v295 arg21
  let v297 : Index := Scalar.indexCast v296
  let c160_143 : Index := 160#32
  ![v297.toNat, 160]
def k0_off228 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v302 : Index := Scalar.indexCast arg21
  let c160_144 : Index := 160#32
  ![v302.toNat, 160]
def k0_off229 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v306 : Index := Scalar.indexCast arg20
  let c176 : Index := 176#32
  ![v306.toNat, 176]
def k0_off230 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_145 : BitVec 32 := 1#32
  let v309 : BitVec 32 := Scalar.addi arg20 c1_i32_145
  let c0_i32_103 : BitVec 32 := 0#32
  let c1_i32_105 : BitVec 32 := 1#32
  let arg21 : BitVec 32 := Scf.iv c0_i32_103 c1_i32_105 k0_t7
  let v310 : BitVec 32 := Scalar.addi v309 arg21
  let v311 : Index := Scalar.indexCast v310
  let c176_146 : Index := 176#32
  ![v311.toNat, 176]
def k0_off231 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v316 : Index := Scalar.indexCast arg21
  let c176_147 : Index := 176#32
  ![v316.toNat, 176]
def k0_off232 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v320 : Index := Scalar.indexCast arg20
  let c192 : Index := 192#32
  ![v320.toNat, 192]
def k0_off233 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_148 : BitVec 32 := 1#32
  let v323 : BitVec 32 := Scalar.addi arg20 c1_i32_148
  let c0_i32_103 : BitVec 32 := 0#32
  let c1_i32_105 : BitVec 32 := 1#32
  let arg21 : BitVec 32 := Scf.iv c0_i32_103 c1_i32_105 k0_t7
  let v324 : BitVec 32 := Scalar.addi v323 arg21
  let v325 : Index := Scalar.indexCast v324
  let c192_149 : Index := 192#32
  ![v325.toNat, 192]
def k0_off234 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v330 : Index := Scalar.indexCast arg21
  let c192_150 : Index := 192#32
  ![v330.toNat, 192]
def k0_off235 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v334 : Index := Scalar.indexCast arg20
  let c208 : Index := 208#32
  ![v334.toNat, 208]
def k0_off236 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_151 : BitVec 32 := 1#32
  let v337 : BitVec 32 := Scalar.addi arg20 c1_i32_151
  let c0_i32_103 : BitVec 32 := 0#32
  let c1_i32_105 : BitVec 32 := 1#32
  let arg21 : BitVec 32 := Scf.iv c0_i32_103 c1_i32_105 k0_t7
  let v338 : BitVec 32 := Scalar.addi v337 arg21
  let v339 : Index := Scalar.indexCast v338
  let c208_152 : Index := 208#32
  ![v339.toNat, 208]
def k0_off237 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v344 : Index := Scalar.indexCast arg21
  let c208_153 : Index := 208#32
  ![v344.toNat, 208]
def k0_off238 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v348 : Index := Scalar.indexCast arg20
  let c224 : Index := 224#32
  ![v348.toNat, 224]
def k0_off239 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_154 : BitVec 32 := 1#32
  let v351 : BitVec 32 := Scalar.addi arg20 c1_i32_154
  let c0_i32_103 : BitVec 32 := 0#32
  let c1_i32_105 : BitVec 32 := 1#32
  let arg21 : BitVec 32 := Scf.iv c0_i32_103 c1_i32_105 k0_t7
  let v352 : BitVec 32 := Scalar.addi v351 arg21
  let v353 : Index := Scalar.indexCast v352
  let c224_155 : Index := 224#32
  ![v353.toNat, 224]
def k0_off240 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v358 : Index := Scalar.indexCast arg21
  let c224_156 : Index := 224#32
  ![v358.toNat, 224]
def k0_off241 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v362 : Index := Scalar.indexCast arg20
  let c240 : Index := 240#32
  ![v362.toNat, 240]
def k0_off242 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_157 : BitVec 32 := 1#32
  let v365 : BitVec 32 := Scalar.addi arg20 c1_i32_157
  let c0_i32_103 : BitVec 32 := 0#32
  let c1_i32_105 : BitVec 32 := 1#32
  let arg21 : BitVec 32 := Scf.iv c0_i32_103 c1_i32_105 k0_t7
  let v366 : BitVec 32 := Scalar.addi v365 arg21
  let v367 : Index := Scalar.indexCast v366
  let c240_158 : Index := 240#32
  ![v367.toNat, 240]
def k0_off243 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v372 : Index := Scalar.indexCast arg21
  let c240_159 : Index := 240#32
  ![v372.toNat, 240]
def k0_off244 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v376 : Index := Scalar.indexCast arg20
  let c256 : Index := 256#32
  ![v376.toNat, 256]
def k0_off245 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_160 : BitVec 32 := 1#32
  let v379 : BitVec 32 := Scalar.addi arg20 c1_i32_160
  let c0_i32_103 : BitVec 32 := 0#32
  let c1_i32_105 : BitVec 32 := 1#32
  let arg21 : BitVec 32 := Scf.iv c0_i32_103 c1_i32_105 k0_t7
  let v380 : BitVec 32 := Scalar.addi v379 arg21
  let v381 : Index := Scalar.indexCast v380
  let c256_161 : Index := 256#32
  ![v381.toNat, 256]
def k0_off246 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v386 : Index := Scalar.indexCast arg21
  let c256_162 : Index := 256#32
  ![v386.toNat, 256]
def k0_off247 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v390 : Index := Scalar.indexCast arg20
  let c272 : Index := 272#32
  ![v390.toNat, 272]
def k0_off248 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_163 : BitVec 32 := 1#32
  let v393 : BitVec 32 := Scalar.addi arg20 c1_i32_163
  let c0_i32_103 : BitVec 32 := 0#32
  let c1_i32_105 : BitVec 32 := 1#32
  let arg21 : BitVec 32 := Scf.iv c0_i32_103 c1_i32_105 k0_t7
  let v394 : BitVec 32 := Scalar.addi v393 arg21
  let v395 : Index := Scalar.indexCast v394
  let c272_164 : Index := 272#32
  ![v395.toNat, 272]
def k0_off249 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v400 : Index := Scalar.indexCast arg21
  let c272_165 : Index := 272#32
  ![v400.toNat, 272]
def k0_off250 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v404 : Index := Scalar.indexCast arg20
  let c288 : Index := 288#32
  ![v404.toNat, 288]
def k0_off251 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_166 : BitVec 32 := 1#32
  let v407 : BitVec 32 := Scalar.addi arg20 c1_i32_166
  let c0_i32_103 : BitVec 32 := 0#32
  let c1_i32_105 : BitVec 32 := 1#32
  let arg21 : BitVec 32 := Scf.iv c0_i32_103 c1_i32_105 k0_t7
  let v408 : BitVec 32 := Scalar.addi v407 arg21
  let v409 : Index := Scalar.indexCast v408
  let c288_167 : Index := 288#32
  ![v409.toNat, 288]
def k0_off252 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v414 : Index := Scalar.indexCast arg21
  let c288_168 : Index := 288#32
  ![v414.toNat, 288]
def k0_off253 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v418 : Index := Scalar.indexCast arg20
  let c304 : Index := 304#32
  ![v418.toNat, 304]
def k0_off254 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_169 : BitVec 32 := 1#32
  let v421 : BitVec 32 := Scalar.addi arg20 c1_i32_169
  let c0_i32_103 : BitVec 32 := 0#32
  let c1_i32_105 : BitVec 32 := 1#32
  let arg21 : BitVec 32 := Scf.iv c0_i32_103 c1_i32_105 k0_t7
  let v422 : BitVec 32 := Scalar.addi v421 arg21
  let v423 : Index := Scalar.indexCast v422
  let c304_170 : Index := 304#32
  ![v423.toNat, 304]
def k0_off255 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v428 : Index := Scalar.indexCast arg21
  let c304_171 : Index := 304#32
  ![v428.toNat, 304]
def k0_off256 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v432 : Index := Scalar.indexCast arg20
  let c320 : Index := 320#32
  ![v432.toNat, 320]
def k0_off257 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_172 : BitVec 32 := 1#32
  let v435 : BitVec 32 := Scalar.addi arg20 c1_i32_172
  let c0_i32_103 : BitVec 32 := 0#32
  let c1_i32_105 : BitVec 32 := 1#32
  let arg21 : BitVec 32 := Scf.iv c0_i32_103 c1_i32_105 k0_t7
  let v436 : BitVec 32 := Scalar.addi v435 arg21
  let v437 : Index := Scalar.indexCast v436
  let c320_173 : Index := 320#32
  ![v437.toNat, 320]
def k0_off258 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v442 : Index := Scalar.indexCast arg21
  let c320_174 : Index := 320#32
  ![v442.toNat, 320]
def k0_off259 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v446 : Index := Scalar.indexCast arg20
  let c336 : Index := 336#32
  ![v446.toNat, 336]
def k0_off260 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_175 : BitVec 32 := 1#32
  let v449 : BitVec 32 := Scalar.addi arg20 c1_i32_175
  let c0_i32_103 : BitVec 32 := 0#32
  let c1_i32_105 : BitVec 32 := 1#32
  let arg21 : BitVec 32 := Scf.iv c0_i32_103 c1_i32_105 k0_t7
  let v450 : BitVec 32 := Scalar.addi v449 arg21
  let v451 : Index := Scalar.indexCast v450
  let c336_176 : Index := 336#32
  ![v451.toNat, 336]
def k0_off261 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v456 : Index := Scalar.indexCast arg21
  let c336_177 : Index := 336#32
  ![v456.toNat, 336]
def k0_off262 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v460 : Index := Scalar.indexCast arg20
  let c352 : Index := 352#32
  ![v460.toNat, 352]
def k0_off263 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_178 : BitVec 32 := 1#32
  let v463 : BitVec 32 := Scalar.addi arg20 c1_i32_178
  let c0_i32_103 : BitVec 32 := 0#32
  let c1_i32_105 : BitVec 32 := 1#32
  let arg21 : BitVec 32 := Scf.iv c0_i32_103 c1_i32_105 k0_t7
  let v464 : BitVec 32 := Scalar.addi v463 arg21
  let v465 : Index := Scalar.indexCast v464
  let c352_179 : Index := 352#32
  ![v465.toNat, 352]
def k0_off264 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v470 : Index := Scalar.indexCast arg21
  let c352_180 : Index := 352#32
  ![v470.toNat, 352]
def k0_off265 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v474 : Index := Scalar.indexCast arg20
  let c368 : Index := 368#32
  ![v474.toNat, 368]
def k0_off266 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_181 : BitVec 32 := 1#32
  let v477 : BitVec 32 := Scalar.addi arg20 c1_i32_181
  let c0_i32_103 : BitVec 32 := 0#32
  let c1_i32_105 : BitVec 32 := 1#32
  let arg21 : BitVec 32 := Scf.iv c0_i32_103 c1_i32_105 k0_t7
  let v478 : BitVec 32 := Scalar.addi v477 arg21
  let v479 : Index := Scalar.indexCast v478
  let c368_182 : Index := 368#32
  ![v479.toNat, 368]
def k0_off267 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v484 : Index := Scalar.indexCast arg21
  let c368_183 : Index := 368#32
  ![v484.toNat, 368]
def k0_off268 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v488 : Index := Scalar.indexCast arg20
  let c384 : Index := 384#32
  ![v488.toNat, 384]
def k0_off269 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_184 : BitVec 32 := 1#32
  let v491 : BitVec 32 := Scalar.addi arg20 c1_i32_184
  let c0_i32_103 : BitVec 32 := 0#32
  let c1_i32_105 : BitVec 32 := 1#32
  let arg21 : BitVec 32 := Scf.iv c0_i32_103 c1_i32_105 k0_t7
  let v492 : BitVec 32 := Scalar.addi v491 arg21
  let v493 : Index := Scalar.indexCast v492
  let c384_185 : Index := 384#32
  ![v493.toNat, 384]
def k0_off270 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v498 : Index := Scalar.indexCast arg21
  let c384_186 : Index := 384#32
  ![v498.toNat, 384]
def k0_off271 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v502 : Index := Scalar.indexCast arg20
  let c400 : Index := 400#32
  ![v502.toNat, 400]
def k0_off272 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_187 : BitVec 32 := 1#32
  let v505 : BitVec 32 := Scalar.addi arg20 c1_i32_187
  let c0_i32_103 : BitVec 32 := 0#32
  let c1_i32_105 : BitVec 32 := 1#32
  let arg21 : BitVec 32 := Scf.iv c0_i32_103 c1_i32_105 k0_t7
  let v506 : BitVec 32 := Scalar.addi v505 arg21
  let v507 : Index := Scalar.indexCast v506
  let c400_188 : Index := 400#32
  ![v507.toNat, 400]
def k0_off273 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v512 : Index := Scalar.indexCast arg21
  let c400_189 : Index := 400#32
  ![v512.toNat, 400]
def k0_off274 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v516 : Index := Scalar.indexCast arg20
  let c416 : Index := 416#32
  ![v516.toNat, 416]
def k0_off275 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_190 : BitVec 32 := 1#32
  let v519 : BitVec 32 := Scalar.addi arg20 c1_i32_190
  let c0_i32_103 : BitVec 32 := 0#32
  let c1_i32_105 : BitVec 32 := 1#32
  let arg21 : BitVec 32 := Scf.iv c0_i32_103 c1_i32_105 k0_t7
  let v520 : BitVec 32 := Scalar.addi v519 arg21
  let v521 : Index := Scalar.indexCast v520
  let c416_191 : Index := 416#32
  ![v521.toNat, 416]
def k0_off276 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v526 : Index := Scalar.indexCast arg21
  let c416_192 : Index := 416#32
  ![v526.toNat, 416]
def k0_off277 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v530 : Index := Scalar.indexCast arg20
  let c432 : Index := 432#32
  ![v530.toNat, 432]
def k0_off278 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_193 : BitVec 32 := 1#32
  let v533 : BitVec 32 := Scalar.addi arg20 c1_i32_193
  let c0_i32_103 : BitVec 32 := 0#32
  let c1_i32_105 : BitVec 32 := 1#32
  let arg21 : BitVec 32 := Scf.iv c0_i32_103 c1_i32_105 k0_t7
  let v534 : BitVec 32 := Scalar.addi v533 arg21
  let v535 : Index := Scalar.indexCast v534
  let c432_194 : Index := 432#32
  ![v535.toNat, 432]
def k0_off279 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v540 : Index := Scalar.indexCast arg21
  let c432_195 : Index := 432#32
  ![v540.toNat, 432]
def k0_off280 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v544 : Index := Scalar.indexCast arg20
  let c448 : Index := 448#32
  ![v544.toNat, 448]
def k0_off281 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_196 : BitVec 32 := 1#32
  let v547 : BitVec 32 := Scalar.addi arg20 c1_i32_196
  let c0_i32_103 : BitVec 32 := 0#32
  let c1_i32_105 : BitVec 32 := 1#32
  let arg21 : BitVec 32 := Scf.iv c0_i32_103 c1_i32_105 k0_t7
  let v548 : BitVec 32 := Scalar.addi v547 arg21
  let v549 : Index := Scalar.indexCast v548
  let c448_197 : Index := 448#32
  ![v549.toNat, 448]
def k0_off282 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v554 : Index := Scalar.indexCast arg21
  let c448_198 : Index := 448#32
  ![v554.toNat, 448]
def k0_off283 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v558 : Index := Scalar.indexCast arg20
  let c464 : Index := 464#32
  ![v558.toNat, 464]
def k0_off284 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_199 : BitVec 32 := 1#32
  let v561 : BitVec 32 := Scalar.addi arg20 c1_i32_199
  let c0_i32_103 : BitVec 32 := 0#32
  let c1_i32_105 : BitVec 32 := 1#32
  let arg21 : BitVec 32 := Scf.iv c0_i32_103 c1_i32_105 k0_t7
  let v562 : BitVec 32 := Scalar.addi v561 arg21
  let v563 : Index := Scalar.indexCast v562
  let c464_200 : Index := 464#32
  ![v563.toNat, 464]
def k0_off285 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v568 : Index := Scalar.indexCast arg21
  let c464_201 : Index := 464#32
  ![v568.toNat, 464]
def k0_off286 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v572 : Index := Scalar.indexCast arg20
  let c480 : Index := 480#32
  ![v572.toNat, 480]
def k0_off287 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_202 : BitVec 32 := 1#32
  let v575 : BitVec 32 := Scalar.addi arg20 c1_i32_202
  let c0_i32_103 : BitVec 32 := 0#32
  let c1_i32_105 : BitVec 32 := 1#32
  let arg21 : BitVec 32 := Scf.iv c0_i32_103 c1_i32_105 k0_t7
  let v576 : BitVec 32 := Scalar.addi v575 arg21
  let v577 : Index := Scalar.indexCast v576
  let c480_203 : Index := 480#32
  ![v577.toNat, 480]
def k0_off288 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v582 : Index := Scalar.indexCast arg21
  let c480_204 : Index := 480#32
  ![v582.toNat, 480]
def k0_off289 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v586 : Index := Scalar.indexCast arg20
  let c496 : Index := 496#32
  ![v586.toNat, 496]
def k0_off290 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_205 : BitVec 32 := 1#32
  let v589 : BitVec 32 := Scalar.addi arg20 c1_i32_205
  let c0_i32_103 : BitVec 32 := 0#32
  let c1_i32_105 : BitVec 32 := 1#32
  let arg21 : BitVec 32 := Scf.iv c0_i32_103 c1_i32_105 k0_t7
  let v590 : BitVec 32 := Scalar.addi v589 arg21
  let v591 : Index := Scalar.indexCast v590
  let c496_206 : Index := 496#32
  ![v591.toNat, 496]
def k0_off291 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v596 : Index := Scalar.indexCast arg21
  let c496_207 : Index := 496#32
  ![v596.toNat, 496]
def k0_off292 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v600 : Index := Scalar.indexCast arg20
  let c512 : Index := 512#32
  ![v600.toNat, 512]
def k0_off293 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_208 : BitVec 32 := 1#32
  let v603 : BitVec 32 := Scalar.addi arg20 c1_i32_208
  let c0_i32_103 : BitVec 32 := 0#32
  let c1_i32_105 : BitVec 32 := 1#32
  let arg21 : BitVec 32 := Scf.iv c0_i32_103 c1_i32_105 k0_t7
  let v604 : BitVec 32 := Scalar.addi v603 arg21
  let v605 : Index := Scalar.indexCast v604
  let c512_209 : Index := 512#32
  ![v605.toNat, 512]
def k0_off294 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v610 : Index := Scalar.indexCast arg21
  let c512_210 : Index := 512#32
  ![v610.toNat, 512]
def k0_off295 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v614 : Index := Scalar.indexCast arg20
  let c528 : Index := 528#32
  ![v614.toNat, 528]
def k0_off296 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_211 : BitVec 32 := 1#32
  let v617 : BitVec 32 := Scalar.addi arg20 c1_i32_211
  let c0_i32_103 : BitVec 32 := 0#32
  let c1_i32_105 : BitVec 32 := 1#32
  let arg21 : BitVec 32 := Scf.iv c0_i32_103 c1_i32_105 k0_t7
  let v618 : BitVec 32 := Scalar.addi v617 arg21
  let v619 : Index := Scalar.indexCast v618
  let c528_212 : Index := 528#32
  ![v619.toNat, 528]
def k0_off297 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v624 : Index := Scalar.indexCast arg21
  let c528_213 : Index := 528#32
  ![v624.toNat, 528]
def k0_off298 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v628 : Index := Scalar.indexCast arg20
  let c544 : Index := 544#32
  ![v628.toNat, 544]
def k0_off299 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_214 : BitVec 32 := 1#32
  let v631 : BitVec 32 := Scalar.addi arg20 c1_i32_214
  let c0_i32_103 : BitVec 32 := 0#32
  let c1_i32_105 : BitVec 32 := 1#32
  let arg21 : BitVec 32 := Scf.iv c0_i32_103 c1_i32_105 k0_t7
  let v632 : BitVec 32 := Scalar.addi v631 arg21
  let v633 : Index := Scalar.indexCast v632
  let c544_215 : Index := 544#32
  ![v633.toNat, 544]
def k0_off300 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v638 : Index := Scalar.indexCast arg21
  let c544_216 : Index := 544#32
  ![v638.toNat, 544]
def k0_off301 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v642 : Index := Scalar.indexCast arg20
  let c560 : Index := 560#32
  ![v642.toNat, 560]
def k0_off302 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_217 : BitVec 32 := 1#32
  let v645 : BitVec 32 := Scalar.addi arg20 c1_i32_217
  let c0_i32_103 : BitVec 32 := 0#32
  let c1_i32_105 : BitVec 32 := 1#32
  let arg21 : BitVec 32 := Scf.iv c0_i32_103 c1_i32_105 k0_t7
  let v646 : BitVec 32 := Scalar.addi v645 arg21
  let v647 : Index := Scalar.indexCast v646
  let c560_218 : Index := 560#32
  ![v647.toNat, 560]
def k0_off303 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v652 : Index := Scalar.indexCast arg21
  let c560_219 : Index := 560#32
  ![v652.toNat, 560]
def k0_off304 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v656 : Index := Scalar.indexCast arg20
  let c576 : Index := 576#32
  ![v656.toNat, 576]
def k0_off305 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_220 : BitVec 32 := 1#32
  let v659 : BitVec 32 := Scalar.addi arg20 c1_i32_220
  let c0_i32_103 : BitVec 32 := 0#32
  let c1_i32_105 : BitVec 32 := 1#32
  let arg21 : BitVec 32 := Scf.iv c0_i32_103 c1_i32_105 k0_t7
  let v660 : BitVec 32 := Scalar.addi v659 arg21
  let v661 : Index := Scalar.indexCast v660
  let c576_221 : Index := 576#32
  ![v661.toNat, 576]
def k0_off306 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v666 : Index := Scalar.indexCast arg21
  let c576_222 : Index := 576#32
  ![v666.toNat, 576]
def k0_off307 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v670 : Index := Scalar.indexCast arg20
  let c592 : Index := 592#32
  ![v670.toNat, 592]
def k0_off308 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_223 : BitVec 32 := 1#32
  let v673 : BitVec 32 := Scalar.addi arg20 c1_i32_223
  let c0_i32_103 : BitVec 32 := 0#32
  let c1_i32_105 : BitVec 32 := 1#32
  let arg21 : BitVec 32 := Scf.iv c0_i32_103 c1_i32_105 k0_t7
  let v674 : BitVec 32 := Scalar.addi v673 arg21
  let v675 : Index := Scalar.indexCast v674
  let c592_224 : Index := 592#32
  ![v675.toNat, 592]
def k0_off309 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v680 : Index := Scalar.indexCast arg21
  let c592_225 : Index := 592#32
  ![v680.toNat, 592]
def k0_off310 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v684 : Index := Scalar.indexCast arg20
  let c608 : Index := 608#32
  ![v684.toNat, 608]
def k0_off311 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_226 : BitVec 32 := 1#32
  let v687 : BitVec 32 := Scalar.addi arg20 c1_i32_226
  let c0_i32_103 : BitVec 32 := 0#32
  let c1_i32_105 : BitVec 32 := 1#32
  let arg21 : BitVec 32 := Scf.iv c0_i32_103 c1_i32_105 k0_t7
  let v688 : BitVec 32 := Scalar.addi v687 arg21
  let v689 : Index := Scalar.indexCast v688
  let c608_227 : Index := 608#32
  ![v689.toNat, 608]
def k0_off312 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v694 : Index := Scalar.indexCast arg21
  let c608_228 : Index := 608#32
  ![v694.toNat, 608]
def k0_off313 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v698 : Index := Scalar.indexCast arg20
  let c624 : Index := 624#32
  ![v698.toNat, 624]
def k0_off314 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_229 : BitVec 32 := 1#32
  let v701 : BitVec 32 := Scalar.addi arg20 c1_i32_229
  let c0_i32_103 : BitVec 32 := 0#32
  let c1_i32_105 : BitVec 32 := 1#32
  let arg21 : BitVec 32 := Scf.iv c0_i32_103 c1_i32_105 k0_t7
  let v702 : BitVec 32 := Scalar.addi v701 arg21
  let v703 : Index := Scalar.indexCast v702
  let c624_230 : Index := 624#32
  ![v703.toNat, 624]
def k0_off315 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v708 : Index := Scalar.indexCast arg21
  let c624_231 : Index := 624#32
  ![v708.toNat, 624]
def k0_off316 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v712 : Index := Scalar.indexCast arg20
  let c640 : Index := 640#32
  ![v712.toNat, 640]
def k0_off317 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_232 : BitVec 32 := 1#32
  let v715 : BitVec 32 := Scalar.addi arg20 c1_i32_232
  let c0_i32_103 : BitVec 32 := 0#32
  let c1_i32_105 : BitVec 32 := 1#32
  let arg21 : BitVec 32 := Scf.iv c0_i32_103 c1_i32_105 k0_t7
  let v716 : BitVec 32 := Scalar.addi v715 arg21
  let v717 : Index := Scalar.indexCast v716
  let c640_233 : Index := 640#32
  ![v717.toNat, 640]
def k0_off318 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v722 : Index := Scalar.indexCast arg21
  let c640_234 : Index := 640#32
  ![v722.toNat, 640]
def k0_off319 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v726 : Index := Scalar.indexCast arg20
  let c656 : Index := 656#32
  ![v726.toNat, 656]
def k0_off320 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_235 : BitVec 32 := 1#32
  let v729 : BitVec 32 := Scalar.addi arg20 c1_i32_235
  let c0_i32_103 : BitVec 32 := 0#32
  let c1_i32_105 : BitVec 32 := 1#32
  let arg21 : BitVec 32 := Scf.iv c0_i32_103 c1_i32_105 k0_t7
  let v730 : BitVec 32 := Scalar.addi v729 arg21
  let v731 : Index := Scalar.indexCast v730
  let c656_236 : Index := 656#32
  ![v731.toNat, 656]
def k0_off321 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v736 : Index := Scalar.indexCast arg21
  let c656_237 : Index := 656#32
  ![v736.toNat, 656]
def k0_off322 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v740 : Index := Scalar.indexCast arg20
  let c672 : Index := 672#32
  ![v740.toNat, 672]
def k0_off323 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_238 : BitVec 32 := 1#32
  let v743 : BitVec 32 := Scalar.addi arg20 c1_i32_238
  let c0_i32_103 : BitVec 32 := 0#32
  let c1_i32_105 : BitVec 32 := 1#32
  let arg21 : BitVec 32 := Scf.iv c0_i32_103 c1_i32_105 k0_t7
  let v744 : BitVec 32 := Scalar.addi v743 arg21
  let v745 : Index := Scalar.indexCast v744
  let c672_239 : Index := 672#32
  ![v745.toNat, 672]
def k0_off324 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v750 : Index := Scalar.indexCast arg21
  let c672_240 : Index := 672#32
  ![v750.toNat, 672]
def k0_off325 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v754 : Index := Scalar.indexCast arg20
  let c688 : Index := 688#32
  ![v754.toNat, 688]
def k0_off326 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_241 : BitVec 32 := 1#32
  let v757 : BitVec 32 := Scalar.addi arg20 c1_i32_241
  let c0_i32_103 : BitVec 32 := 0#32
  let c1_i32_105 : BitVec 32 := 1#32
  let arg21 : BitVec 32 := Scf.iv c0_i32_103 c1_i32_105 k0_t7
  let v758 : BitVec 32 := Scalar.addi v757 arg21
  let v759 : Index := Scalar.indexCast v758
  let c688_242 : Index := 688#32
  ![v759.toNat, 688]
def k0_off327 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v764 : Index := Scalar.indexCast arg21
  let c688_243 : Index := 688#32
  ![v764.toNat, 688]
def k0_off328 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v768 : Index := Scalar.indexCast arg20
  let c704 : Index := 704#32
  ![v768.toNat, 704]
def k0_off329 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_244 : BitVec 32 := 1#32
  let v771 : BitVec 32 := Scalar.addi arg20 c1_i32_244
  let c0_i32_103 : BitVec 32 := 0#32
  let c1_i32_105 : BitVec 32 := 1#32
  let arg21 : BitVec 32 := Scf.iv c0_i32_103 c1_i32_105 k0_t7
  let v772 : BitVec 32 := Scalar.addi v771 arg21
  let v773 : Index := Scalar.indexCast v772
  let c704_245 : Index := 704#32
  ![v773.toNat, 704]
def k0_off330 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v778 : Index := Scalar.indexCast arg21
  let c704_246 : Index := 704#32
  ![v778.toNat, 704]
def k0_off331 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v782 : Index := Scalar.indexCast arg20
  let c720 : Index := 720#32
  ![v782.toNat, 720]
def k0_off332 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_247 : BitVec 32 := 1#32
  let v785 : BitVec 32 := Scalar.addi arg20 c1_i32_247
  let c0_i32_103 : BitVec 32 := 0#32
  let c1_i32_105 : BitVec 32 := 1#32
  let arg21 : BitVec 32 := Scf.iv c0_i32_103 c1_i32_105 k0_t7
  let v786 : BitVec 32 := Scalar.addi v785 arg21
  let v787 : Index := Scalar.indexCast v786
  let c720_248 : Index := 720#32
  ![v787.toNat, 720]
def k0_off333 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v792 : Index := Scalar.indexCast arg21
  let c720_249 : Index := 720#32
  ![v792.toNat, 720]
def k0_off334 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v796 : Index := Scalar.indexCast arg20
  let c736 : Index := 736#32
  ![v796.toNat, 736]
def k0_off335 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_250 : BitVec 32 := 1#32
  let v799 : BitVec 32 := Scalar.addi arg20 c1_i32_250
  let c0_i32_103 : BitVec 32 := 0#32
  let c1_i32_105 : BitVec 32 := 1#32
  let arg21 : BitVec 32 := Scf.iv c0_i32_103 c1_i32_105 k0_t7
  let v800 : BitVec 32 := Scalar.addi v799 arg21
  let v801 : Index := Scalar.indexCast v800
  let c736_251 : Index := 736#32
  ![v801.toNat, 736]
def k0_off336 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v806 : Index := Scalar.indexCast arg21
  let c736_252 : Index := 736#32
  ![v806.toNat, 736]
def k0_off337 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v810 : Index := Scalar.indexCast arg20
  let c752 : Index := 752#32
  ![v810.toNat, 752]
def k0_off338 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_253 : BitVec 32 := 1#32
  let v813 : BitVec 32 := Scalar.addi arg20 c1_i32_253
  let c0_i32_103 : BitVec 32 := 0#32
  let c1_i32_105 : BitVec 32 := 1#32
  let arg21 : BitVec 32 := Scf.iv c0_i32_103 c1_i32_105 k0_t7
  let v814 : BitVec 32 := Scalar.addi v813 arg21
  let v815 : Index := Scalar.indexCast v814
  let c752_254 : Index := 752#32
  ![v815.toNat, 752]
def k0_off339 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v820 : Index := Scalar.indexCast arg21
  let c752_255 : Index := 752#32
  ![v820.toNat, 752]
def k0_off340 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v824 : Index := Scalar.indexCast arg20
  let c768 : Index := 768#32
  ![v824.toNat, 768]
def k0_off341 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_256 : BitVec 32 := 1#32
  let v827 : BitVec 32 := Scalar.addi arg20 c1_i32_256
  let c0_i32_103 : BitVec 32 := 0#32
  let c1_i32_105 : BitVec 32 := 1#32
  let arg21 : BitVec 32 := Scf.iv c0_i32_103 c1_i32_105 k0_t7
  let v828 : BitVec 32 := Scalar.addi v827 arg21
  let v829 : Index := Scalar.indexCast v828
  let c768_257 : Index := 768#32
  ![v829.toNat, 768]
def k0_off342 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v834 : Index := Scalar.indexCast arg21
  let c768_258 : Index := 768#32
  ![v834.toNat, 768]
def k0_off343 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v838 : Index := Scalar.indexCast arg20
  let c784 : Index := 784#32
  ![v838.toNat, 784]
def k0_off344 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_259 : BitVec 32 := 1#32
  let v841 : BitVec 32 := Scalar.addi arg20 c1_i32_259
  let c0_i32_103 : BitVec 32 := 0#32
  let c1_i32_105 : BitVec 32 := 1#32
  let arg21 : BitVec 32 := Scf.iv c0_i32_103 c1_i32_105 k0_t7
  let v842 : BitVec 32 := Scalar.addi v841 arg21
  let v843 : Index := Scalar.indexCast v842
  let c784_260 : Index := 784#32
  ![v843.toNat, 784]
def k0_off345 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v848 : Index := Scalar.indexCast arg21
  let c784_261 : Index := 784#32
  ![v848.toNat, 784]
def k0_off346 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v852 : Index := Scalar.indexCast arg20
  let c800 : Index := 800#32
  ![v852.toNat, 800]
def k0_off347 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_262 : BitVec 32 := 1#32
  let v855 : BitVec 32 := Scalar.addi arg20 c1_i32_262
  let c0_i32_103 : BitVec 32 := 0#32
  let c1_i32_105 : BitVec 32 := 1#32
  let arg21 : BitVec 32 := Scf.iv c0_i32_103 c1_i32_105 k0_t7
  let v856 : BitVec 32 := Scalar.addi v855 arg21
  let v857 : Index := Scalar.indexCast v856
  let c800_263 : Index := 800#32
  ![v857.toNat, 800]
def k0_off348 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v862 : Index := Scalar.indexCast arg21
  let c800_264 : Index := 800#32
  ![v862.toNat, 800]
def k0_off349 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v866 : Index := Scalar.indexCast arg20
  let c816 : Index := 816#32
  ![v866.toNat, 816]
def k0_off350 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_265 : BitVec 32 := 1#32
  let v869 : BitVec 32 := Scalar.addi arg20 c1_i32_265
  let c0_i32_103 : BitVec 32 := 0#32
  let c1_i32_105 : BitVec 32 := 1#32
  let arg21 : BitVec 32 := Scf.iv c0_i32_103 c1_i32_105 k0_t7
  let v870 : BitVec 32 := Scalar.addi v869 arg21
  let v871 : Index := Scalar.indexCast v870
  let c816_266 : Index := 816#32
  ![v871.toNat, 816]
def k0_off351 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v876 : Index := Scalar.indexCast arg21
  let c816_267 : Index := 816#32
  ![v876.toNat, 816]
def k0_off352 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v880 : Index := Scalar.indexCast arg20
  let c832 : Index := 832#32
  ![v880.toNat, 832]
def k0_off353 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_268 : BitVec 32 := 1#32
  let v883 : BitVec 32 := Scalar.addi arg20 c1_i32_268
  let c0_i32_103 : BitVec 32 := 0#32
  let c1_i32_105 : BitVec 32 := 1#32
  let arg21 : BitVec 32 := Scf.iv c0_i32_103 c1_i32_105 k0_t7
  let v884 : BitVec 32 := Scalar.addi v883 arg21
  let v885 : Index := Scalar.indexCast v884
  let c832_269 : Index := 832#32
  ![v885.toNat, 832]
def k0_off354 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v890 : Index := Scalar.indexCast arg21
  let c832_270 : Index := 832#32
  ![v890.toNat, 832]
def k0_off355 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v894 : Index := Scalar.indexCast arg20
  let c848 : Index := 848#32
  ![v894.toNat, 848]
def k0_off356 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_271 : BitVec 32 := 1#32
  let v897 : BitVec 32 := Scalar.addi arg20 c1_i32_271
  let c0_i32_103 : BitVec 32 := 0#32
  let c1_i32_105 : BitVec 32 := 1#32
  let arg21 : BitVec 32 := Scf.iv c0_i32_103 c1_i32_105 k0_t7
  let v898 : BitVec 32 := Scalar.addi v897 arg21
  let v899 : Index := Scalar.indexCast v898
  let c848_272 : Index := 848#32
  ![v899.toNat, 848]
def k0_off357 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v904 : Index := Scalar.indexCast arg21
  let c848_273 : Index := 848#32
  ![v904.toNat, 848]
def k0_off358 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v908 : Index := Scalar.indexCast arg20
  let c864 : Index := 864#32
  ![v908.toNat, 864]
def k0_off359 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_274 : BitVec 32 := 1#32
  let v911 : BitVec 32 := Scalar.addi arg20 c1_i32_274
  let c0_i32_103 : BitVec 32 := 0#32
  let c1_i32_105 : BitVec 32 := 1#32
  let arg21 : BitVec 32 := Scf.iv c0_i32_103 c1_i32_105 k0_t7
  let v912 : BitVec 32 := Scalar.addi v911 arg21
  let v913 : Index := Scalar.indexCast v912
  let c864_275 : Index := 864#32
  ![v913.toNat, 864]
def k0_off360 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v918 : Index := Scalar.indexCast arg21
  let c864_276 : Index := 864#32
  ![v918.toNat, 864]
def k0_off361 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v922 : Index := Scalar.indexCast arg20
  let c880 : Index := 880#32
  ![v922.toNat, 880]
def k0_off362 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_277 : BitVec 32 := 1#32
  let v925 : BitVec 32 := Scalar.addi arg20 c1_i32_277
  let c0_i32_103 : BitVec 32 := 0#32
  let c1_i32_105 : BitVec 32 := 1#32
  let arg21 : BitVec 32 := Scf.iv c0_i32_103 c1_i32_105 k0_t7
  let v926 : BitVec 32 := Scalar.addi v925 arg21
  let v927 : Index := Scalar.indexCast v926
  let c880_278 : Index := 880#32
  ![v927.toNat, 880]
def k0_off363 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v932 : Index := Scalar.indexCast arg21
  let c880_279 : Index := 880#32
  ![v932.toNat, 880]
def k0_off364 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v936 : Index := Scalar.indexCast arg20
  let c896 : Index := 896#32
  ![v936.toNat, 896]
def k0_off365 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_280 : BitVec 32 := 1#32
  let v939 : BitVec 32 := Scalar.addi arg20 c1_i32_280
  let c0_i32_103 : BitVec 32 := 0#32
  let c1_i32_105 : BitVec 32 := 1#32
  let arg21 : BitVec 32 := Scf.iv c0_i32_103 c1_i32_105 k0_t7
  let v940 : BitVec 32 := Scalar.addi v939 arg21
  let v941 : Index := Scalar.indexCast v940
  let c896_281 : Index := 896#32
  ![v941.toNat, 896]
def k0_off366 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v946 : Index := Scalar.indexCast arg21
  let c896_282 : Index := 896#32
  ![v946.toNat, 896]
def k0_off367 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v950 : Index := Scalar.indexCast arg20
  let c912 : Index := 912#32
  ![v950.toNat, 912]
def k0_off368 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_283 : BitVec 32 := 1#32
  let v953 : BitVec 32 := Scalar.addi arg20 c1_i32_283
  let c0_i32_103 : BitVec 32 := 0#32
  let c1_i32_105 : BitVec 32 := 1#32
  let arg21 : BitVec 32 := Scf.iv c0_i32_103 c1_i32_105 k0_t7
  let v954 : BitVec 32 := Scalar.addi v953 arg21
  let v955 : Index := Scalar.indexCast v954
  let c912_284 : Index := 912#32
  ![v955.toNat, 912]
def k0_off369 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v960 : Index := Scalar.indexCast arg21
  let c912_285 : Index := 912#32
  ![v960.toNat, 912]
def k0_off370 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v964 : Index := Scalar.indexCast arg20
  let c928 : Index := 928#32
  ![v964.toNat, 928]
def k0_off371 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_286 : BitVec 32 := 1#32
  let v967 : BitVec 32 := Scalar.addi arg20 c1_i32_286
  let c0_i32_103 : BitVec 32 := 0#32
  let c1_i32_105 : BitVec 32 := 1#32
  let arg21 : BitVec 32 := Scf.iv c0_i32_103 c1_i32_105 k0_t7
  let v968 : BitVec 32 := Scalar.addi v967 arg21
  let v969 : Index := Scalar.indexCast v968
  let c928_287 : Index := 928#32
  ![v969.toNat, 928]
def k0_off372 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v974 : Index := Scalar.indexCast arg21
  let c928_288 : Index := 928#32
  ![v974.toNat, 928]
def k0_off373 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v978 : Index := Scalar.indexCast arg20
  let c944 : Index := 944#32
  ![v978.toNat, 944]
def k0_off374 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_289 : BitVec 32 := 1#32
  let v981 : BitVec 32 := Scalar.addi arg20 c1_i32_289
  let c0_i32_103 : BitVec 32 := 0#32
  let c1_i32_105 : BitVec 32 := 1#32
  let arg21 : BitVec 32 := Scf.iv c0_i32_103 c1_i32_105 k0_t7
  let v982 : BitVec 32 := Scalar.addi v981 arg21
  let v983 : Index := Scalar.indexCast v982
  let c944_290 : Index := 944#32
  ![v983.toNat, 944]
def k0_off375 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v988 : Index := Scalar.indexCast arg21
  let c944_291 : Index := 944#32
  ![v988.toNat, 944]
def k0_off376 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v992 : Index := Scalar.indexCast arg20
  let c960 : Index := 960#32
  ![v992.toNat, 960]
def k0_off377 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_292 : BitVec 32 := 1#32
  let v995 : BitVec 32 := Scalar.addi arg20 c1_i32_292
  let c0_i32_103 : BitVec 32 := 0#32
  let c1_i32_105 : BitVec 32 := 1#32
  let arg21 : BitVec 32 := Scf.iv c0_i32_103 c1_i32_105 k0_t7
  let v996 : BitVec 32 := Scalar.addi v995 arg21
  let v997 : Index := Scalar.indexCast v996
  let c960_293 : Index := 960#32
  ![v997.toNat, 960]
def k0_off378 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v1002 : Index := Scalar.indexCast arg21
  let c960_294 : Index := 960#32
  ![v1002.toNat, 960]
def k0_off379 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v1006 : Index := Scalar.indexCast arg20
  let c976 : Index := 976#32
  ![v1006.toNat, 976]
def k0_off380 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_295 : BitVec 32 := 1#32
  let v1009 : BitVec 32 := Scalar.addi arg20 c1_i32_295
  let c0_i32_103 : BitVec 32 := 0#32
  let c1_i32_105 : BitVec 32 := 1#32
  let arg21 : BitVec 32 := Scf.iv c0_i32_103 c1_i32_105 k0_t7
  let v1010 : BitVec 32 := Scalar.addi v1009 arg21
  let v1011 : Index := Scalar.indexCast v1010
  let c976_296 : Index := 976#32
  ![v1011.toNat, 976]
def k0_off381 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v1016 : Index := Scalar.indexCast arg21
  let c976_297 : Index := 976#32
  ![v1016.toNat, 976]
def k0_off382 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v1020 : Index := Scalar.indexCast arg20
  let c992 : Index := 992#32
  ![v1020.toNat, 992]
def k0_off383 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_298 : BitVec 32 := 1#32
  let v1023 : BitVec 32 := Scalar.addi arg20 c1_i32_298
  let c0_i32_103 : BitVec 32 := 0#32
  let c1_i32_105 : BitVec 32 := 1#32
  let arg21 : BitVec 32 := Scf.iv c0_i32_103 c1_i32_105 k0_t7
  let v1024 : BitVec 32 := Scalar.addi v1023 arg21
  let v1025 : Index := Scalar.indexCast v1024
  let c992_299 : Index := 992#32
  ![v1025.toNat, 992]
def k0_off384 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v1030 : Index := Scalar.indexCast arg21
  let c992_300 : Index := 992#32
  ![v1030.toNat, 992]
def k0_off385 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v1034 : Index := Scalar.indexCast arg20
  let c1008 : Index := 1008#32
  ![v1034.toNat, 1008]
def k0_off386 (k0_t6 : Fin k0_t6_loop.trips) (k0_t7 : Fin (k0_t7_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_301 : BitVec 32 := 1#32
  let v1037 : BitVec 32 := Scalar.addi arg20 c1_i32_301
  let c0_i32_103 : BitVec 32 := 0#32
  let c1_i32_105 : BitVec 32 := 1#32
  let arg21 : BitVec 32 := Scf.iv c0_i32_103 c1_i32_105 k0_t7
  let v1038 : BitVec 32 := Scalar.addi v1037 arg21
  let v1039 : Index := Scalar.indexCast v1038
  let c1008_302 : Index := 1008#32
  ![v1039.toNat, 1008]
def k0_off387 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let v1044 : Index := Scalar.indexCast arg21
  let c1008_303 : Index := 1008#32
  ![v1044.toNat, 1008]
def k0_off388 (k0_t6 : Fin k0_t6_loop.trips) (k0_t7 : Fin (k0_t7_loop k0_t6).trips) : Fin 2 → Nat :=
  let c0_i32_103 : BitVec 32 := 0#32
  let c1_i32_105 : BitVec 32 := 1#32
  let arg21 : BitVec 32 := Scf.iv c0_i32_103 c1_i32_105 k0_t7
  let c0_i32_304 : BitVec 32 := 0#32
  ![arg21.toNat, 0]
def k0_off389 (i : grid0.Coords) (k0_t6 : Fin k0_t6_loop.trips) (k0_t7 : Fin (k0_t7_loop k0_t6).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c0_i32_80 : BitVec 32 := 0#32
  let v114 : BitVec 32 := Scalar.addi v42 c0_i32_80
  let c16_i32_93 : BitVec 32 := 16#32
  let v119 : BitVec 32 := Scalar.muli v114 c16_i32_93
  let c0_i32_82 : BitVec 32 := 0#32
  let c1_i32_84 : BitVec 32 := 1#32
  let arg20 : BitVec 32 := Scf.iv c0_i32_82 c1_i32_84 k0_t6
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c1_i32_105 : BitVec 32 := 1#32
  let arg21 : BitVec 32 := Scf.iv c0_i32_103 c1_i32_105 k0_t7
  let v1048 : BitVec 32 := Scalar.addi v141 arg21
  let c0_i32_305 : BitVec 32 := 0#32
  ![v1048.toNat, 0]
@[reducible] def k0_t8_loop (k0_t6 : Fin k0_t6_loop.trips) : Scf.Loop 32 :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let v143 : BitVec 32 := Scalar.addi c0_i32_103 v142
  let c1_i32_106 : BitVec 32 := 1#32
  ⟨v146, v143, c1_i32_106⟩
def k0_off390 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v152 : Index := Scalar.indexCast arg20
  let c0 : Index := 0#32
  ![v152.toNat, 0]
def k0_off391 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_112 : BitVec 32 := 1#32
  let v155 : BitVec 32 := Scalar.addi arg20 c1_i32_112
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v156 : BitVec 32 := Scalar.addi v155 arg21
  let v157 : Index := Scalar.indexCast v156
  let c0_113 : Index := 0#32
  ![v157.toNat, 0]
def k0_off392 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v162 : Index := Scalar.indexCast arg21
  let c0_114 : Index := 0#32
  ![v162.toNat, 0]
def k0_off393 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v166 : Index := Scalar.indexCast arg20
  let c16 : Index := 16#32
  ![v166.toNat, 16]
def k0_off394 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_115 : BitVec 32 := 1#32
  let v169 : BitVec 32 := Scalar.addi arg20 c1_i32_115
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v170 : BitVec 32 := Scalar.addi v169 arg21
  let v171 : Index := Scalar.indexCast v170
  let c16_116 : Index := 16#32
  ![v171.toNat, 16]
def k0_off395 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v176 : Index := Scalar.indexCast arg21
  let c16_117 : Index := 16#32
  ![v176.toNat, 16]
def k0_off396 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v180 : Index := Scalar.indexCast arg20
  let c32 : Index := 32#32
  ![v180.toNat, 32]
def k0_off397 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_118 : BitVec 32 := 1#32
  let v183 : BitVec 32 := Scalar.addi arg20 c1_i32_118
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v184 : BitVec 32 := Scalar.addi v183 arg21
  let v185 : Index := Scalar.indexCast v184
  let c32_119 : Index := 32#32
  ![v185.toNat, 32]
def k0_off398 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v190 : Index := Scalar.indexCast arg21
  let c32_120 : Index := 32#32
  ![v190.toNat, 32]
def k0_off399 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v194 : Index := Scalar.indexCast arg20
  let c48 : Index := 48#32
  ![v194.toNat, 48]
def k0_off400 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_121 : BitVec 32 := 1#32
  let v197 : BitVec 32 := Scalar.addi arg20 c1_i32_121
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v198 : BitVec 32 := Scalar.addi v197 arg21
  let v199 : Index := Scalar.indexCast v198
  let c48_122 : Index := 48#32
  ![v199.toNat, 48]
def k0_off401 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v204 : Index := Scalar.indexCast arg21
  let c48_123 : Index := 48#32
  ![v204.toNat, 48]
def k0_off402 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v208 : Index := Scalar.indexCast arg20
  let c64 : Index := 64#32
  ![v208.toNat, 64]
def k0_off403 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_124 : BitVec 32 := 1#32
  let v211 : BitVec 32 := Scalar.addi arg20 c1_i32_124
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v212 : BitVec 32 := Scalar.addi v211 arg21
  let v213 : Index := Scalar.indexCast v212
  let c64_125 : Index := 64#32
  ![v213.toNat, 64]
def k0_off404 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v218 : Index := Scalar.indexCast arg21
  let c64_126 : Index := 64#32
  ![v218.toNat, 64]
def k0_off405 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v222 : Index := Scalar.indexCast arg20
  let c80 : Index := 80#32
  ![v222.toNat, 80]
def k0_off406 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_127 : BitVec 32 := 1#32
  let v225 : BitVec 32 := Scalar.addi arg20 c1_i32_127
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v226 : BitVec 32 := Scalar.addi v225 arg21
  let v227 : Index := Scalar.indexCast v226
  let c80_128 : Index := 80#32
  ![v227.toNat, 80]
def k0_off407 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v232 : Index := Scalar.indexCast arg21
  let c80_129 : Index := 80#32
  ![v232.toNat, 80]
def k0_off408 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v236 : Index := Scalar.indexCast arg20
  let c96 : Index := 96#32
  ![v236.toNat, 96]
def k0_off409 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_130 : BitVec 32 := 1#32
  let v239 : BitVec 32 := Scalar.addi arg20 c1_i32_130
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v240 : BitVec 32 := Scalar.addi v239 arg21
  let v241 : Index := Scalar.indexCast v240
  let c96_131 : Index := 96#32
  ![v241.toNat, 96]
def k0_off410 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v246 : Index := Scalar.indexCast arg21
  let c96_132 : Index := 96#32
  ![v246.toNat, 96]
def k0_off411 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v250 : Index := Scalar.indexCast arg20
  let c112 : Index := 112#32
  ![v250.toNat, 112]
def k0_off412 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_133 : BitVec 32 := 1#32
  let v253 : BitVec 32 := Scalar.addi arg20 c1_i32_133
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v254 : BitVec 32 := Scalar.addi v253 arg21
  let v255 : Index := Scalar.indexCast v254
  let c112_134 : Index := 112#32
  ![v255.toNat, 112]
def k0_off413 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v260 : Index := Scalar.indexCast arg21
  let c112_135 : Index := 112#32
  ![v260.toNat, 112]
def k0_off414 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v264 : Index := Scalar.indexCast arg20
  let c128 : Index := 128#32
  ![v264.toNat, 128]
def k0_off415 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_136 : BitVec 32 := 1#32
  let v267 : BitVec 32 := Scalar.addi arg20 c1_i32_136
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v268 : BitVec 32 := Scalar.addi v267 arg21
  let v269 : Index := Scalar.indexCast v268
  let c128_137 : Index := 128#32
  ![v269.toNat, 128]
def k0_off416 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v274 : Index := Scalar.indexCast arg21
  let c128_138 : Index := 128#32
  ![v274.toNat, 128]
def k0_off417 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v278 : Index := Scalar.indexCast arg20
  let c144 : Index := 144#32
  ![v278.toNat, 144]
def k0_off418 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_139 : BitVec 32 := 1#32
  let v281 : BitVec 32 := Scalar.addi arg20 c1_i32_139
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v282 : BitVec 32 := Scalar.addi v281 arg21
  let v283 : Index := Scalar.indexCast v282
  let c144_140 : Index := 144#32
  ![v283.toNat, 144]
def k0_off419 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v288 : Index := Scalar.indexCast arg21
  let c144_141 : Index := 144#32
  ![v288.toNat, 144]
def k0_off420 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v292 : Index := Scalar.indexCast arg20
  let c160 : Index := 160#32
  ![v292.toNat, 160]
def k0_off421 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_142 : BitVec 32 := 1#32
  let v295 : BitVec 32 := Scalar.addi arg20 c1_i32_142
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v296 : BitVec 32 := Scalar.addi v295 arg21
  let v297 : Index := Scalar.indexCast v296
  let c160_143 : Index := 160#32
  ![v297.toNat, 160]
def k0_off422 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v302 : Index := Scalar.indexCast arg21
  let c160_144 : Index := 160#32
  ![v302.toNat, 160]
def k0_off423 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v306 : Index := Scalar.indexCast arg20
  let c176 : Index := 176#32
  ![v306.toNat, 176]
def k0_off424 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_145 : BitVec 32 := 1#32
  let v309 : BitVec 32 := Scalar.addi arg20 c1_i32_145
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v310 : BitVec 32 := Scalar.addi v309 arg21
  let v311 : Index := Scalar.indexCast v310
  let c176_146 : Index := 176#32
  ![v311.toNat, 176]
def k0_off425 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v316 : Index := Scalar.indexCast arg21
  let c176_147 : Index := 176#32
  ![v316.toNat, 176]
def k0_off426 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v320 : Index := Scalar.indexCast arg20
  let c192 : Index := 192#32
  ![v320.toNat, 192]
def k0_off427 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_148 : BitVec 32 := 1#32
  let v323 : BitVec 32 := Scalar.addi arg20 c1_i32_148
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v324 : BitVec 32 := Scalar.addi v323 arg21
  let v325 : Index := Scalar.indexCast v324
  let c192_149 : Index := 192#32
  ![v325.toNat, 192]
def k0_off428 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v330 : Index := Scalar.indexCast arg21
  let c192_150 : Index := 192#32
  ![v330.toNat, 192]
def k0_off429 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v334 : Index := Scalar.indexCast arg20
  let c208 : Index := 208#32
  ![v334.toNat, 208]
def k0_off430 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_151 : BitVec 32 := 1#32
  let v337 : BitVec 32 := Scalar.addi arg20 c1_i32_151
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v338 : BitVec 32 := Scalar.addi v337 arg21
  let v339 : Index := Scalar.indexCast v338
  let c208_152 : Index := 208#32
  ![v339.toNat, 208]
def k0_off431 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v344 : Index := Scalar.indexCast arg21
  let c208_153 : Index := 208#32
  ![v344.toNat, 208]
def k0_off432 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v348 : Index := Scalar.indexCast arg20
  let c224 : Index := 224#32
  ![v348.toNat, 224]
def k0_off433 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_154 : BitVec 32 := 1#32
  let v351 : BitVec 32 := Scalar.addi arg20 c1_i32_154
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v352 : BitVec 32 := Scalar.addi v351 arg21
  let v353 : Index := Scalar.indexCast v352
  let c224_155 : Index := 224#32
  ![v353.toNat, 224]
def k0_off434 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v358 : Index := Scalar.indexCast arg21
  let c224_156 : Index := 224#32
  ![v358.toNat, 224]
def k0_off435 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v362 : Index := Scalar.indexCast arg20
  let c240 : Index := 240#32
  ![v362.toNat, 240]
def k0_off436 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_157 : BitVec 32 := 1#32
  let v365 : BitVec 32 := Scalar.addi arg20 c1_i32_157
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v366 : BitVec 32 := Scalar.addi v365 arg21
  let v367 : Index := Scalar.indexCast v366
  let c240_158 : Index := 240#32
  ![v367.toNat, 240]
def k0_off437 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v372 : Index := Scalar.indexCast arg21
  let c240_159 : Index := 240#32
  ![v372.toNat, 240]
def k0_off438 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v376 : Index := Scalar.indexCast arg20
  let c256 : Index := 256#32
  ![v376.toNat, 256]
def k0_off439 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_160 : BitVec 32 := 1#32
  let v379 : BitVec 32 := Scalar.addi arg20 c1_i32_160
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v380 : BitVec 32 := Scalar.addi v379 arg21
  let v381 : Index := Scalar.indexCast v380
  let c256_161 : Index := 256#32
  ![v381.toNat, 256]
def k0_off440 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v386 : Index := Scalar.indexCast arg21
  let c256_162 : Index := 256#32
  ![v386.toNat, 256]
def k0_off441 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v390 : Index := Scalar.indexCast arg20
  let c272 : Index := 272#32
  ![v390.toNat, 272]
def k0_off442 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_163 : BitVec 32 := 1#32
  let v393 : BitVec 32 := Scalar.addi arg20 c1_i32_163
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v394 : BitVec 32 := Scalar.addi v393 arg21
  let v395 : Index := Scalar.indexCast v394
  let c272_164 : Index := 272#32
  ![v395.toNat, 272]
def k0_off443 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v400 : Index := Scalar.indexCast arg21
  let c272_165 : Index := 272#32
  ![v400.toNat, 272]
def k0_off444 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v404 : Index := Scalar.indexCast arg20
  let c288 : Index := 288#32
  ![v404.toNat, 288]
def k0_off445 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_166 : BitVec 32 := 1#32
  let v407 : BitVec 32 := Scalar.addi arg20 c1_i32_166
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v408 : BitVec 32 := Scalar.addi v407 arg21
  let v409 : Index := Scalar.indexCast v408
  let c288_167 : Index := 288#32
  ![v409.toNat, 288]
def k0_off446 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v414 : Index := Scalar.indexCast arg21
  let c288_168 : Index := 288#32
  ![v414.toNat, 288]
def k0_off447 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v418 : Index := Scalar.indexCast arg20
  let c304 : Index := 304#32
  ![v418.toNat, 304]
def k0_off448 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_169 : BitVec 32 := 1#32
  let v421 : BitVec 32 := Scalar.addi arg20 c1_i32_169
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v422 : BitVec 32 := Scalar.addi v421 arg21
  let v423 : Index := Scalar.indexCast v422
  let c304_170 : Index := 304#32
  ![v423.toNat, 304]
def k0_off449 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v428 : Index := Scalar.indexCast arg21
  let c304_171 : Index := 304#32
  ![v428.toNat, 304]
def k0_off450 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v432 : Index := Scalar.indexCast arg20
  let c320 : Index := 320#32
  ![v432.toNat, 320]
def k0_off451 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_172 : BitVec 32 := 1#32
  let v435 : BitVec 32 := Scalar.addi arg20 c1_i32_172
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v436 : BitVec 32 := Scalar.addi v435 arg21
  let v437 : Index := Scalar.indexCast v436
  let c320_173 : Index := 320#32
  ![v437.toNat, 320]
def k0_off452 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v442 : Index := Scalar.indexCast arg21
  let c320_174 : Index := 320#32
  ![v442.toNat, 320]
def k0_off453 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v446 : Index := Scalar.indexCast arg20
  let c336 : Index := 336#32
  ![v446.toNat, 336]
def k0_off454 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_175 : BitVec 32 := 1#32
  let v449 : BitVec 32 := Scalar.addi arg20 c1_i32_175
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v450 : BitVec 32 := Scalar.addi v449 arg21
  let v451 : Index := Scalar.indexCast v450
  let c336_176 : Index := 336#32
  ![v451.toNat, 336]
def k0_off455 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v456 : Index := Scalar.indexCast arg21
  let c336_177 : Index := 336#32
  ![v456.toNat, 336]
def k0_off456 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v460 : Index := Scalar.indexCast arg20
  let c352 : Index := 352#32
  ![v460.toNat, 352]
def k0_off457 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_178 : BitVec 32 := 1#32
  let v463 : BitVec 32 := Scalar.addi arg20 c1_i32_178
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v464 : BitVec 32 := Scalar.addi v463 arg21
  let v465 : Index := Scalar.indexCast v464
  let c352_179 : Index := 352#32
  ![v465.toNat, 352]
def k0_off458 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v470 : Index := Scalar.indexCast arg21
  let c352_180 : Index := 352#32
  ![v470.toNat, 352]
def k0_off459 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v474 : Index := Scalar.indexCast arg20
  let c368 : Index := 368#32
  ![v474.toNat, 368]
def k0_off460 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_181 : BitVec 32 := 1#32
  let v477 : BitVec 32 := Scalar.addi arg20 c1_i32_181
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v478 : BitVec 32 := Scalar.addi v477 arg21
  let v479 : Index := Scalar.indexCast v478
  let c368_182 : Index := 368#32
  ![v479.toNat, 368]
def k0_off461 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v484 : Index := Scalar.indexCast arg21
  let c368_183 : Index := 368#32
  ![v484.toNat, 368]
def k0_off462 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v488 : Index := Scalar.indexCast arg20
  let c384 : Index := 384#32
  ![v488.toNat, 384]
def k0_off463 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_184 : BitVec 32 := 1#32
  let v491 : BitVec 32 := Scalar.addi arg20 c1_i32_184
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v492 : BitVec 32 := Scalar.addi v491 arg21
  let v493 : Index := Scalar.indexCast v492
  let c384_185 : Index := 384#32
  ![v493.toNat, 384]
def k0_off464 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v498 : Index := Scalar.indexCast arg21
  let c384_186 : Index := 384#32
  ![v498.toNat, 384]
def k0_off465 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v502 : Index := Scalar.indexCast arg20
  let c400 : Index := 400#32
  ![v502.toNat, 400]
def k0_off466 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_187 : BitVec 32 := 1#32
  let v505 : BitVec 32 := Scalar.addi arg20 c1_i32_187
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v506 : BitVec 32 := Scalar.addi v505 arg21
  let v507 : Index := Scalar.indexCast v506
  let c400_188 : Index := 400#32
  ![v507.toNat, 400]
def k0_off467 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v512 : Index := Scalar.indexCast arg21
  let c400_189 : Index := 400#32
  ![v512.toNat, 400]
def k0_off468 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v516 : Index := Scalar.indexCast arg20
  let c416 : Index := 416#32
  ![v516.toNat, 416]
def k0_off469 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_190 : BitVec 32 := 1#32
  let v519 : BitVec 32 := Scalar.addi arg20 c1_i32_190
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v520 : BitVec 32 := Scalar.addi v519 arg21
  let v521 : Index := Scalar.indexCast v520
  let c416_191 : Index := 416#32
  ![v521.toNat, 416]
def k0_off470 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v526 : Index := Scalar.indexCast arg21
  let c416_192 : Index := 416#32
  ![v526.toNat, 416]
def k0_off471 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v530 : Index := Scalar.indexCast arg20
  let c432 : Index := 432#32
  ![v530.toNat, 432]
def k0_off472 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_193 : BitVec 32 := 1#32
  let v533 : BitVec 32 := Scalar.addi arg20 c1_i32_193
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v534 : BitVec 32 := Scalar.addi v533 arg21
  let v535 : Index := Scalar.indexCast v534
  let c432_194 : Index := 432#32
  ![v535.toNat, 432]
def k0_off473 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v540 : Index := Scalar.indexCast arg21
  let c432_195 : Index := 432#32
  ![v540.toNat, 432]
def k0_off474 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v544 : Index := Scalar.indexCast arg20
  let c448 : Index := 448#32
  ![v544.toNat, 448]
def k0_off475 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_196 : BitVec 32 := 1#32
  let v547 : BitVec 32 := Scalar.addi arg20 c1_i32_196
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v548 : BitVec 32 := Scalar.addi v547 arg21
  let v549 : Index := Scalar.indexCast v548
  let c448_197 : Index := 448#32
  ![v549.toNat, 448]
def k0_off476 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v554 : Index := Scalar.indexCast arg21
  let c448_198 : Index := 448#32
  ![v554.toNat, 448]
def k0_off477 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v558 : Index := Scalar.indexCast arg20
  let c464 : Index := 464#32
  ![v558.toNat, 464]
def k0_off478 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_199 : BitVec 32 := 1#32
  let v561 : BitVec 32 := Scalar.addi arg20 c1_i32_199
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v562 : BitVec 32 := Scalar.addi v561 arg21
  let v563 : Index := Scalar.indexCast v562
  let c464_200 : Index := 464#32
  ![v563.toNat, 464]
def k0_off479 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v568 : Index := Scalar.indexCast arg21
  let c464_201 : Index := 464#32
  ![v568.toNat, 464]
def k0_off480 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v572 : Index := Scalar.indexCast arg20
  let c480 : Index := 480#32
  ![v572.toNat, 480]
def k0_off481 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_202 : BitVec 32 := 1#32
  let v575 : BitVec 32 := Scalar.addi arg20 c1_i32_202
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v576 : BitVec 32 := Scalar.addi v575 arg21
  let v577 : Index := Scalar.indexCast v576
  let c480_203 : Index := 480#32
  ![v577.toNat, 480]
def k0_off482 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v582 : Index := Scalar.indexCast arg21
  let c480_204 : Index := 480#32
  ![v582.toNat, 480]
def k0_off483 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v586 : Index := Scalar.indexCast arg20
  let c496 : Index := 496#32
  ![v586.toNat, 496]
def k0_off484 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_205 : BitVec 32 := 1#32
  let v589 : BitVec 32 := Scalar.addi arg20 c1_i32_205
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v590 : BitVec 32 := Scalar.addi v589 arg21
  let v591 : Index := Scalar.indexCast v590
  let c496_206 : Index := 496#32
  ![v591.toNat, 496]
def k0_off485 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v596 : Index := Scalar.indexCast arg21
  let c496_207 : Index := 496#32
  ![v596.toNat, 496]
def k0_off486 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v600 : Index := Scalar.indexCast arg20
  let c512 : Index := 512#32
  ![v600.toNat, 512]
def k0_off487 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_208 : BitVec 32 := 1#32
  let v603 : BitVec 32 := Scalar.addi arg20 c1_i32_208
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v604 : BitVec 32 := Scalar.addi v603 arg21
  let v605 : Index := Scalar.indexCast v604
  let c512_209 : Index := 512#32
  ![v605.toNat, 512]
def k0_off488 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v610 : Index := Scalar.indexCast arg21
  let c512_210 : Index := 512#32
  ![v610.toNat, 512]
def k0_off489 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v614 : Index := Scalar.indexCast arg20
  let c528 : Index := 528#32
  ![v614.toNat, 528]
def k0_off490 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_211 : BitVec 32 := 1#32
  let v617 : BitVec 32 := Scalar.addi arg20 c1_i32_211
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v618 : BitVec 32 := Scalar.addi v617 arg21
  let v619 : Index := Scalar.indexCast v618
  let c528_212 : Index := 528#32
  ![v619.toNat, 528]
def k0_off491 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v624 : Index := Scalar.indexCast arg21
  let c528_213 : Index := 528#32
  ![v624.toNat, 528]
def k0_off492 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v628 : Index := Scalar.indexCast arg20
  let c544 : Index := 544#32
  ![v628.toNat, 544]
def k0_off493 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_214 : BitVec 32 := 1#32
  let v631 : BitVec 32 := Scalar.addi arg20 c1_i32_214
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v632 : BitVec 32 := Scalar.addi v631 arg21
  let v633 : Index := Scalar.indexCast v632
  let c544_215 : Index := 544#32
  ![v633.toNat, 544]
def k0_off494 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v638 : Index := Scalar.indexCast arg21
  let c544_216 : Index := 544#32
  ![v638.toNat, 544]
def k0_off495 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v642 : Index := Scalar.indexCast arg20
  let c560 : Index := 560#32
  ![v642.toNat, 560]
def k0_off496 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_217 : BitVec 32 := 1#32
  let v645 : BitVec 32 := Scalar.addi arg20 c1_i32_217
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v646 : BitVec 32 := Scalar.addi v645 arg21
  let v647 : Index := Scalar.indexCast v646
  let c560_218 : Index := 560#32
  ![v647.toNat, 560]
def k0_off497 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v652 : Index := Scalar.indexCast arg21
  let c560_219 : Index := 560#32
  ![v652.toNat, 560]
def k0_off498 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v656 : Index := Scalar.indexCast arg20
  let c576 : Index := 576#32
  ![v656.toNat, 576]
def k0_off499 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_220 : BitVec 32 := 1#32
  let v659 : BitVec 32 := Scalar.addi arg20 c1_i32_220
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v660 : BitVec 32 := Scalar.addi v659 arg21
  let v661 : Index := Scalar.indexCast v660
  let c576_221 : Index := 576#32
  ![v661.toNat, 576]
def k0_off500 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v666 : Index := Scalar.indexCast arg21
  let c576_222 : Index := 576#32
  ![v666.toNat, 576]
def k0_off501 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v670 : Index := Scalar.indexCast arg20
  let c592 : Index := 592#32
  ![v670.toNat, 592]
def k0_off502 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_223 : BitVec 32 := 1#32
  let v673 : BitVec 32 := Scalar.addi arg20 c1_i32_223
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v674 : BitVec 32 := Scalar.addi v673 arg21
  let v675 : Index := Scalar.indexCast v674
  let c592_224 : Index := 592#32
  ![v675.toNat, 592]
def k0_off503 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v680 : Index := Scalar.indexCast arg21
  let c592_225 : Index := 592#32
  ![v680.toNat, 592]
def k0_off504 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v684 : Index := Scalar.indexCast arg20
  let c608 : Index := 608#32
  ![v684.toNat, 608]
def k0_off505 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_226 : BitVec 32 := 1#32
  let v687 : BitVec 32 := Scalar.addi arg20 c1_i32_226
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v688 : BitVec 32 := Scalar.addi v687 arg21
  let v689 : Index := Scalar.indexCast v688
  let c608_227 : Index := 608#32
  ![v689.toNat, 608]
def k0_off506 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v694 : Index := Scalar.indexCast arg21
  let c608_228 : Index := 608#32
  ![v694.toNat, 608]
def k0_off507 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v698 : Index := Scalar.indexCast arg20
  let c624 : Index := 624#32
  ![v698.toNat, 624]
def k0_off508 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_229 : BitVec 32 := 1#32
  let v701 : BitVec 32 := Scalar.addi arg20 c1_i32_229
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v702 : BitVec 32 := Scalar.addi v701 arg21
  let v703 : Index := Scalar.indexCast v702
  let c624_230 : Index := 624#32
  ![v703.toNat, 624]
def k0_off509 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v708 : Index := Scalar.indexCast arg21
  let c624_231 : Index := 624#32
  ![v708.toNat, 624]
def k0_off510 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v712 : Index := Scalar.indexCast arg20
  let c640 : Index := 640#32
  ![v712.toNat, 640]
def k0_off511 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_232 : BitVec 32 := 1#32
  let v715 : BitVec 32 := Scalar.addi arg20 c1_i32_232
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v716 : BitVec 32 := Scalar.addi v715 arg21
  let v717 : Index := Scalar.indexCast v716
  let c640_233 : Index := 640#32
  ![v717.toNat, 640]
def k0_off512 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v722 : Index := Scalar.indexCast arg21
  let c640_234 : Index := 640#32
  ![v722.toNat, 640]
def k0_off513 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v726 : Index := Scalar.indexCast arg20
  let c656 : Index := 656#32
  ![v726.toNat, 656]
def k0_off514 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_235 : BitVec 32 := 1#32
  let v729 : BitVec 32 := Scalar.addi arg20 c1_i32_235
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v730 : BitVec 32 := Scalar.addi v729 arg21
  let v731 : Index := Scalar.indexCast v730
  let c656_236 : Index := 656#32
  ![v731.toNat, 656]
def k0_off515 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v736 : Index := Scalar.indexCast arg21
  let c656_237 : Index := 656#32
  ![v736.toNat, 656]
def k0_off516 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v740 : Index := Scalar.indexCast arg20
  let c672 : Index := 672#32
  ![v740.toNat, 672]
def k0_off517 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_238 : BitVec 32 := 1#32
  let v743 : BitVec 32 := Scalar.addi arg20 c1_i32_238
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v744 : BitVec 32 := Scalar.addi v743 arg21
  let v745 : Index := Scalar.indexCast v744
  let c672_239 : Index := 672#32
  ![v745.toNat, 672]
def k0_off518 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v750 : Index := Scalar.indexCast arg21
  let c672_240 : Index := 672#32
  ![v750.toNat, 672]
def k0_off519 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v754 : Index := Scalar.indexCast arg20
  let c688 : Index := 688#32
  ![v754.toNat, 688]
def k0_off520 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_241 : BitVec 32 := 1#32
  let v757 : BitVec 32 := Scalar.addi arg20 c1_i32_241
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v758 : BitVec 32 := Scalar.addi v757 arg21
  let v759 : Index := Scalar.indexCast v758
  let c688_242 : Index := 688#32
  ![v759.toNat, 688]
def k0_off521 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v764 : Index := Scalar.indexCast arg21
  let c688_243 : Index := 688#32
  ![v764.toNat, 688]
def k0_off522 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v768 : Index := Scalar.indexCast arg20
  let c704 : Index := 704#32
  ![v768.toNat, 704]
def k0_off523 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_244 : BitVec 32 := 1#32
  let v771 : BitVec 32 := Scalar.addi arg20 c1_i32_244
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v772 : BitVec 32 := Scalar.addi v771 arg21
  let v773 : Index := Scalar.indexCast v772
  let c704_245 : Index := 704#32
  ![v773.toNat, 704]
def k0_off524 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v778 : Index := Scalar.indexCast arg21
  let c704_246 : Index := 704#32
  ![v778.toNat, 704]
def k0_off525 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v782 : Index := Scalar.indexCast arg20
  let c720 : Index := 720#32
  ![v782.toNat, 720]
def k0_off526 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_247 : BitVec 32 := 1#32
  let v785 : BitVec 32 := Scalar.addi arg20 c1_i32_247
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v786 : BitVec 32 := Scalar.addi v785 arg21
  let v787 : Index := Scalar.indexCast v786
  let c720_248 : Index := 720#32
  ![v787.toNat, 720]
def k0_off527 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v792 : Index := Scalar.indexCast arg21
  let c720_249 : Index := 720#32
  ![v792.toNat, 720]
def k0_off528 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v796 : Index := Scalar.indexCast arg20
  let c736 : Index := 736#32
  ![v796.toNat, 736]
def k0_off529 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_250 : BitVec 32 := 1#32
  let v799 : BitVec 32 := Scalar.addi arg20 c1_i32_250
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v800 : BitVec 32 := Scalar.addi v799 arg21
  let v801 : Index := Scalar.indexCast v800
  let c736_251 : Index := 736#32
  ![v801.toNat, 736]
def k0_off530 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v806 : Index := Scalar.indexCast arg21
  let c736_252 : Index := 736#32
  ![v806.toNat, 736]
def k0_off531 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v810 : Index := Scalar.indexCast arg20
  let c752 : Index := 752#32
  ![v810.toNat, 752]
def k0_off532 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_253 : BitVec 32 := 1#32
  let v813 : BitVec 32 := Scalar.addi arg20 c1_i32_253
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v814 : BitVec 32 := Scalar.addi v813 arg21
  let v815 : Index := Scalar.indexCast v814
  let c752_254 : Index := 752#32
  ![v815.toNat, 752]
def k0_off533 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v820 : Index := Scalar.indexCast arg21
  let c752_255 : Index := 752#32
  ![v820.toNat, 752]
def k0_off534 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v824 : Index := Scalar.indexCast arg20
  let c768 : Index := 768#32
  ![v824.toNat, 768]
def k0_off535 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_256 : BitVec 32 := 1#32
  let v827 : BitVec 32 := Scalar.addi arg20 c1_i32_256
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v828 : BitVec 32 := Scalar.addi v827 arg21
  let v829 : Index := Scalar.indexCast v828
  let c768_257 : Index := 768#32
  ![v829.toNat, 768]
def k0_off536 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v834 : Index := Scalar.indexCast arg21
  let c768_258 : Index := 768#32
  ![v834.toNat, 768]
def k0_off537 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v838 : Index := Scalar.indexCast arg20
  let c784 : Index := 784#32
  ![v838.toNat, 784]
def k0_off538 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_259 : BitVec 32 := 1#32
  let v841 : BitVec 32 := Scalar.addi arg20 c1_i32_259
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v842 : BitVec 32 := Scalar.addi v841 arg21
  let v843 : Index := Scalar.indexCast v842
  let c784_260 : Index := 784#32
  ![v843.toNat, 784]
def k0_off539 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v848 : Index := Scalar.indexCast arg21
  let c784_261 : Index := 784#32
  ![v848.toNat, 784]
def k0_off540 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v852 : Index := Scalar.indexCast arg20
  let c800 : Index := 800#32
  ![v852.toNat, 800]
def k0_off541 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_262 : BitVec 32 := 1#32
  let v855 : BitVec 32 := Scalar.addi arg20 c1_i32_262
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v856 : BitVec 32 := Scalar.addi v855 arg21
  let v857 : Index := Scalar.indexCast v856
  let c800_263 : Index := 800#32
  ![v857.toNat, 800]
def k0_off542 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v862 : Index := Scalar.indexCast arg21
  let c800_264 : Index := 800#32
  ![v862.toNat, 800]
def k0_off543 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v866 : Index := Scalar.indexCast arg20
  let c816 : Index := 816#32
  ![v866.toNat, 816]
def k0_off544 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_265 : BitVec 32 := 1#32
  let v869 : BitVec 32 := Scalar.addi arg20 c1_i32_265
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v870 : BitVec 32 := Scalar.addi v869 arg21
  let v871 : Index := Scalar.indexCast v870
  let c816_266 : Index := 816#32
  ![v871.toNat, 816]
def k0_off545 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v876 : Index := Scalar.indexCast arg21
  let c816_267 : Index := 816#32
  ![v876.toNat, 816]
def k0_off546 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v880 : Index := Scalar.indexCast arg20
  let c832 : Index := 832#32
  ![v880.toNat, 832]
def k0_off547 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_268 : BitVec 32 := 1#32
  let v883 : BitVec 32 := Scalar.addi arg20 c1_i32_268
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v884 : BitVec 32 := Scalar.addi v883 arg21
  let v885 : Index := Scalar.indexCast v884
  let c832_269 : Index := 832#32
  ![v885.toNat, 832]
def k0_off548 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v890 : Index := Scalar.indexCast arg21
  let c832_270 : Index := 832#32
  ![v890.toNat, 832]
def k0_off549 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v894 : Index := Scalar.indexCast arg20
  let c848 : Index := 848#32
  ![v894.toNat, 848]
def k0_off550 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_271 : BitVec 32 := 1#32
  let v897 : BitVec 32 := Scalar.addi arg20 c1_i32_271
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v898 : BitVec 32 := Scalar.addi v897 arg21
  let v899 : Index := Scalar.indexCast v898
  let c848_272 : Index := 848#32
  ![v899.toNat, 848]
def k0_off551 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v904 : Index := Scalar.indexCast arg21
  let c848_273 : Index := 848#32
  ![v904.toNat, 848]
def k0_off552 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v908 : Index := Scalar.indexCast arg20
  let c864 : Index := 864#32
  ![v908.toNat, 864]
def k0_off553 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_274 : BitVec 32 := 1#32
  let v911 : BitVec 32 := Scalar.addi arg20 c1_i32_274
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v912 : BitVec 32 := Scalar.addi v911 arg21
  let v913 : Index := Scalar.indexCast v912
  let c864_275 : Index := 864#32
  ![v913.toNat, 864]
def k0_off554 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v918 : Index := Scalar.indexCast arg21
  let c864_276 : Index := 864#32
  ![v918.toNat, 864]
def k0_off555 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v922 : Index := Scalar.indexCast arg20
  let c880 : Index := 880#32
  ![v922.toNat, 880]
def k0_off556 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_277 : BitVec 32 := 1#32
  let v925 : BitVec 32 := Scalar.addi arg20 c1_i32_277
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v926 : BitVec 32 := Scalar.addi v925 arg21
  let v927 : Index := Scalar.indexCast v926
  let c880_278 : Index := 880#32
  ![v927.toNat, 880]
def k0_off557 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v932 : Index := Scalar.indexCast arg21
  let c880_279 : Index := 880#32
  ![v932.toNat, 880]
def k0_off558 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v936 : Index := Scalar.indexCast arg20
  let c896 : Index := 896#32
  ![v936.toNat, 896]
def k0_off559 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_280 : BitVec 32 := 1#32
  let v939 : BitVec 32 := Scalar.addi arg20 c1_i32_280
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v940 : BitVec 32 := Scalar.addi v939 arg21
  let v941 : Index := Scalar.indexCast v940
  let c896_281 : Index := 896#32
  ![v941.toNat, 896]
def k0_off560 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v946 : Index := Scalar.indexCast arg21
  let c896_282 : Index := 896#32
  ![v946.toNat, 896]
def k0_off561 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v950 : Index := Scalar.indexCast arg20
  let c912 : Index := 912#32
  ![v950.toNat, 912]
def k0_off562 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_283 : BitVec 32 := 1#32
  let v953 : BitVec 32 := Scalar.addi arg20 c1_i32_283
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v954 : BitVec 32 := Scalar.addi v953 arg21
  let v955 : Index := Scalar.indexCast v954
  let c912_284 : Index := 912#32
  ![v955.toNat, 912]
def k0_off563 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v960 : Index := Scalar.indexCast arg21
  let c912_285 : Index := 912#32
  ![v960.toNat, 912]
def k0_off564 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v964 : Index := Scalar.indexCast arg20
  let c928 : Index := 928#32
  ![v964.toNat, 928]
def k0_off565 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_286 : BitVec 32 := 1#32
  let v967 : BitVec 32 := Scalar.addi arg20 c1_i32_286
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v968 : BitVec 32 := Scalar.addi v967 arg21
  let v969 : Index := Scalar.indexCast v968
  let c928_287 : Index := 928#32
  ![v969.toNat, 928]
def k0_off566 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v974 : Index := Scalar.indexCast arg21
  let c928_288 : Index := 928#32
  ![v974.toNat, 928]
def k0_off567 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v978 : Index := Scalar.indexCast arg20
  let c944 : Index := 944#32
  ![v978.toNat, 944]
def k0_off568 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_289 : BitVec 32 := 1#32
  let v981 : BitVec 32 := Scalar.addi arg20 c1_i32_289
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v982 : BitVec 32 := Scalar.addi v981 arg21
  let v983 : Index := Scalar.indexCast v982
  let c944_290 : Index := 944#32
  ![v983.toNat, 944]
def k0_off569 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v988 : Index := Scalar.indexCast arg21
  let c944_291 : Index := 944#32
  ![v988.toNat, 944]
def k0_off570 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v992 : Index := Scalar.indexCast arg20
  let c960 : Index := 960#32
  ![v992.toNat, 960]
def k0_off571 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_292 : BitVec 32 := 1#32
  let v995 : BitVec 32 := Scalar.addi arg20 c1_i32_292
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v996 : BitVec 32 := Scalar.addi v995 arg21
  let v997 : Index := Scalar.indexCast v996
  let c960_293 : Index := 960#32
  ![v997.toNat, 960]
def k0_off572 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v1002 : Index := Scalar.indexCast arg21
  let c960_294 : Index := 960#32
  ![v1002.toNat, 960]
def k0_off573 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v1006 : Index := Scalar.indexCast arg20
  let c976 : Index := 976#32
  ![v1006.toNat, 976]
def k0_off574 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_295 : BitVec 32 := 1#32
  let v1009 : BitVec 32 := Scalar.addi arg20 c1_i32_295
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v1010 : BitVec 32 := Scalar.addi v1009 arg21
  let v1011 : Index := Scalar.indexCast v1010
  let c976_296 : Index := 976#32
  ![v1011.toNat, 976]
def k0_off575 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v1016 : Index := Scalar.indexCast arg21
  let c976_297 : Index := 976#32
  ![v1016.toNat, 976]
def k0_off576 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v1020 : Index := Scalar.indexCast arg20
  let c992 : Index := 992#32
  ![v1020.toNat, 992]
def k0_off577 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_298 : BitVec 32 := 1#32
  let v1023 : BitVec 32 := Scalar.addi arg20 c1_i32_298
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v1024 : BitVec 32 := Scalar.addi v1023 arg21
  let v1025 : Index := Scalar.indexCast v1024
  let c992_299 : Index := 992#32
  ![v1025.toNat, 992]
def k0_off578 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v1030 : Index := Scalar.indexCast arg21
  let c992_300 : Index := 992#32
  ![v1030.toNat, 992]
def k0_off579 (k0_t6 : Fin k0_t6_loop.trips) : Fin 2 → Nat :=
  let c0_i32_82 : BitVec 32 := 0#32
  let c1_i32_84 : BitVec 32 := 1#32
  let arg20 : BitVec 32 := Scf.iv c0_i32_82 c1_i32_84 k0_t6
  let v1034 : Index := Scalar.indexCast arg20
  let c1008 : Index := 1008#32
  ![v1034.toNat, 1008]
def k0_off580 (k0_t6 : Fin k0_t6_loop.trips) (k0_t8 : Fin (k0_t8_loop k0_t6).trips) : Fin 2 → Nat :=
  let c0_i32_82 : BitVec 32 := 0#32
  let c1_i32_84 : BitVec 32 := 1#32
  let arg20 : BitVec 32 := Scf.iv c0_i32_82 c1_i32_84 k0_t6
  let c1_i32_301 : BitVec 32 := 1#32
  let v1037 : BitVec 32 := Scalar.addi arg20 c1_i32_301
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v1038 : BitVec 32 := Scalar.addi v1037 arg21
  let v1039 : Index := Scalar.indexCast v1038
  let c1008_302 : Index := 1008#32
  ![v1039.toNat, 1008]
def k0_off581 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v1044 : Index := Scalar.indexCast arg21
  let c1008_303 : Index := 1008#32
  ![v1044.toNat, 1008]
def k0_off582 (k0_t6 : Fin k0_t6_loop.trips) (k0_t8 : Fin (k0_t8_loop k0_t6).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let c0_i32_304 : BitVec 32 := 0#32
  ![arg21.toNat, 0]
def k0_off583 (i : grid0.Coords) (k0_t6 : Fin k0_t6_loop.trips) (k0_t8 : Fin (k0_t8_loop k0_t6).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c0_i32_80 : BitVec 32 := 0#32
  let v114 : BitVec 32 := Scalar.addi v42 c0_i32_80
  let c16_i32_93 : BitVec 32 := 16#32
  let v119 : BitVec 32 := Scalar.muli v114 c16_i32_93
  let c0_i32_82 : BitVec 32 := 0#32
  let c1_i32_84 : BitVec 32 := 1#32
  let arg20 : BitVec 32 := Scf.iv c0_i32_82 c1_i32_84 k0_t6
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t8
  let v1048 : BitVec 32 := Scalar.addi v141 arg21
  let c0_i32_305 : BitVec 32 := 0#32
  ![v1048.toNat, 0]
@[reducible] def k0_t9_loop (k0_t6 : Fin k0_t6_loop.trips) : Scf.Loop 32 :=
  let c0_i32_108 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let c1_i32_110 : BitVec 32 := 1#32
  ⟨c0_i32_108, v151, c1_i32_110⟩
@[reducible] def k0_t10_loop (k0_t6 : Fin k0_t6_loop.trips) : Scf.Loop 32 :=
  let c0_i32_108 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t6
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let v148 : BitVec 32 := Scalar.addi c0_i32_108 v147
  let c1_i32_111 : BitVec 32 := 1#32
  ⟨v151, v148, c1_i32_111⟩
@[reducible] def k0_t11_loop : Scf.Loop 32 :=
  let c0_i32_88 : BitVec 32 := 0#32
  let c15_i32_89 : BitVec 32 := 15#32
  let v117 : BitVec 32 := Scalar.addi c0_i32_88 c15_i32_89
  let c1_i32_90 : BitVec 32 := 1#32
  ⟨c0_i32_88, v117, c1_i32_90⟩
@[reducible] def k0_t12_loop (k0_t11 : Fin k0_t11_loop.trips) : Scf.Loop 32 :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_105 : BitVec 32 := 1#32
  ⟨c0_i32_103, v146, c1_i32_105⟩
def k0_off584 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v152 : Index := Scalar.indexCast arg20
  let c0 : Index := 0#32
  ![v152.toNat, 0]
def k0_off585 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_112 : BitVec 32 := 1#32
  let v155 : BitVec 32 := Scalar.addi arg20 c1_i32_112
  let c0_i32_103 : BitVec 32 := 0#32
  let c1_i32_105 : BitVec 32 := 1#32
  let arg21 : BitVec 32 := Scf.iv c0_i32_103 c1_i32_105 k0_t12
  let v156 : BitVec 32 := Scalar.addi v155 arg21
  let v157 : Index := Scalar.indexCast v156
  let c0_113 : Index := 0#32
  ![v157.toNat, 0]
def k0_off586 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v162 : Index := Scalar.indexCast arg21
  let c0_114 : Index := 0#32
  ![v162.toNat, 0]
def k0_off587 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v166 : Index := Scalar.indexCast arg20
  let c16 : Index := 16#32
  ![v166.toNat, 16]
def k0_off588 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_115 : BitVec 32 := 1#32
  let v169 : BitVec 32 := Scalar.addi arg20 c1_i32_115
  let c0_i32_103 : BitVec 32 := 0#32
  let c1_i32_105 : BitVec 32 := 1#32
  let arg21 : BitVec 32 := Scf.iv c0_i32_103 c1_i32_105 k0_t12
  let v170 : BitVec 32 := Scalar.addi v169 arg21
  let v171 : Index := Scalar.indexCast v170
  let c16_116 : Index := 16#32
  ![v171.toNat, 16]
def k0_off589 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v176 : Index := Scalar.indexCast arg21
  let c16_117 : Index := 16#32
  ![v176.toNat, 16]
def k0_off590 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v180 : Index := Scalar.indexCast arg20
  let c32 : Index := 32#32
  ![v180.toNat, 32]
def k0_off591 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_118 : BitVec 32 := 1#32
  let v183 : BitVec 32 := Scalar.addi arg20 c1_i32_118
  let c0_i32_103 : BitVec 32 := 0#32
  let c1_i32_105 : BitVec 32 := 1#32
  let arg21 : BitVec 32 := Scf.iv c0_i32_103 c1_i32_105 k0_t12
  let v184 : BitVec 32 := Scalar.addi v183 arg21
  let v185 : Index := Scalar.indexCast v184
  let c32_119 : Index := 32#32
  ![v185.toNat, 32]
def k0_off592 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v190 : Index := Scalar.indexCast arg21
  let c32_120 : Index := 32#32
  ![v190.toNat, 32]
def k0_off593 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v194 : Index := Scalar.indexCast arg20
  let c48 : Index := 48#32
  ![v194.toNat, 48]
def k0_off594 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_121 : BitVec 32 := 1#32
  let v197 : BitVec 32 := Scalar.addi arg20 c1_i32_121
  let c0_i32_103 : BitVec 32 := 0#32
  let c1_i32_105 : BitVec 32 := 1#32
  let arg21 : BitVec 32 := Scf.iv c0_i32_103 c1_i32_105 k0_t12
  let v198 : BitVec 32 := Scalar.addi v197 arg21
  let v199 : Index := Scalar.indexCast v198
  let c48_122 : Index := 48#32
  ![v199.toNat, 48]
def k0_off595 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v204 : Index := Scalar.indexCast arg21
  let c48_123 : Index := 48#32
  ![v204.toNat, 48]
def k0_off596 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v208 : Index := Scalar.indexCast arg20
  let c64 : Index := 64#32
  ![v208.toNat, 64]
def k0_off597 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_124 : BitVec 32 := 1#32
  let v211 : BitVec 32 := Scalar.addi arg20 c1_i32_124
  let c0_i32_103 : BitVec 32 := 0#32
  let c1_i32_105 : BitVec 32 := 1#32
  let arg21 : BitVec 32 := Scf.iv c0_i32_103 c1_i32_105 k0_t12
  let v212 : BitVec 32 := Scalar.addi v211 arg21
  let v213 : Index := Scalar.indexCast v212
  let c64_125 : Index := 64#32
  ![v213.toNat, 64]
def k0_off598 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v218 : Index := Scalar.indexCast arg21
  let c64_126 : Index := 64#32
  ![v218.toNat, 64]
def k0_off599 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v222 : Index := Scalar.indexCast arg20
  let c80 : Index := 80#32
  ![v222.toNat, 80]
def k0_off600 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_127 : BitVec 32 := 1#32
  let v225 : BitVec 32 := Scalar.addi arg20 c1_i32_127
  let c0_i32_103 : BitVec 32 := 0#32
  let c1_i32_105 : BitVec 32 := 1#32
  let arg21 : BitVec 32 := Scf.iv c0_i32_103 c1_i32_105 k0_t12
  let v226 : BitVec 32 := Scalar.addi v225 arg21
  let v227 : Index := Scalar.indexCast v226
  let c80_128 : Index := 80#32
  ![v227.toNat, 80]
def k0_off601 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v232 : Index := Scalar.indexCast arg21
  let c80_129 : Index := 80#32
  ![v232.toNat, 80]
def k0_off602 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v236 : Index := Scalar.indexCast arg20
  let c96 : Index := 96#32
  ![v236.toNat, 96]
def k0_off603 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_130 : BitVec 32 := 1#32
  let v239 : BitVec 32 := Scalar.addi arg20 c1_i32_130
  let c0_i32_103 : BitVec 32 := 0#32
  let c1_i32_105 : BitVec 32 := 1#32
  let arg21 : BitVec 32 := Scf.iv c0_i32_103 c1_i32_105 k0_t12
  let v240 : BitVec 32 := Scalar.addi v239 arg21
  let v241 : Index := Scalar.indexCast v240
  let c96_131 : Index := 96#32
  ![v241.toNat, 96]
def k0_off604 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v246 : Index := Scalar.indexCast arg21
  let c96_132 : Index := 96#32
  ![v246.toNat, 96]
def k0_off605 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v250 : Index := Scalar.indexCast arg20
  let c112 : Index := 112#32
  ![v250.toNat, 112]
def k0_off606 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_133 : BitVec 32 := 1#32
  let v253 : BitVec 32 := Scalar.addi arg20 c1_i32_133
  let c0_i32_103 : BitVec 32 := 0#32
  let c1_i32_105 : BitVec 32 := 1#32
  let arg21 : BitVec 32 := Scf.iv c0_i32_103 c1_i32_105 k0_t12
  let v254 : BitVec 32 := Scalar.addi v253 arg21
  let v255 : Index := Scalar.indexCast v254
  let c112_134 : Index := 112#32
  ![v255.toNat, 112]
def k0_off607 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v260 : Index := Scalar.indexCast arg21
  let c112_135 : Index := 112#32
  ![v260.toNat, 112]
def k0_off608 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v264 : Index := Scalar.indexCast arg20
  let c128 : Index := 128#32
  ![v264.toNat, 128]
def k0_off609 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_136 : BitVec 32 := 1#32
  let v267 : BitVec 32 := Scalar.addi arg20 c1_i32_136
  let c0_i32_103 : BitVec 32 := 0#32
  let c1_i32_105 : BitVec 32 := 1#32
  let arg21 : BitVec 32 := Scf.iv c0_i32_103 c1_i32_105 k0_t12
  let v268 : BitVec 32 := Scalar.addi v267 arg21
  let v269 : Index := Scalar.indexCast v268
  let c128_137 : Index := 128#32
  ![v269.toNat, 128]
def k0_off610 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v274 : Index := Scalar.indexCast arg21
  let c128_138 : Index := 128#32
  ![v274.toNat, 128]
def k0_off611 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v278 : Index := Scalar.indexCast arg20
  let c144 : Index := 144#32
  ![v278.toNat, 144]
def k0_off612 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_139 : BitVec 32 := 1#32
  let v281 : BitVec 32 := Scalar.addi arg20 c1_i32_139
  let c0_i32_103 : BitVec 32 := 0#32
  let c1_i32_105 : BitVec 32 := 1#32
  let arg21 : BitVec 32 := Scf.iv c0_i32_103 c1_i32_105 k0_t12
  let v282 : BitVec 32 := Scalar.addi v281 arg21
  let v283 : Index := Scalar.indexCast v282
  let c144_140 : Index := 144#32
  ![v283.toNat, 144]
def k0_off613 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v288 : Index := Scalar.indexCast arg21
  let c144_141 : Index := 144#32
  ![v288.toNat, 144]
def k0_off614 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v292 : Index := Scalar.indexCast arg20
  let c160 : Index := 160#32
  ![v292.toNat, 160]
def k0_off615 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_142 : BitVec 32 := 1#32
  let v295 : BitVec 32 := Scalar.addi arg20 c1_i32_142
  let c0_i32_103 : BitVec 32 := 0#32
  let c1_i32_105 : BitVec 32 := 1#32
  let arg21 : BitVec 32 := Scf.iv c0_i32_103 c1_i32_105 k0_t12
  let v296 : BitVec 32 := Scalar.addi v295 arg21
  let v297 : Index := Scalar.indexCast v296
  let c160_143 : Index := 160#32
  ![v297.toNat, 160]
def k0_off616 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v302 : Index := Scalar.indexCast arg21
  let c160_144 : Index := 160#32
  ![v302.toNat, 160]
def k0_off617 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v306 : Index := Scalar.indexCast arg20
  let c176 : Index := 176#32
  ![v306.toNat, 176]
def k0_off618 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_145 : BitVec 32 := 1#32
  let v309 : BitVec 32 := Scalar.addi arg20 c1_i32_145
  let c0_i32_103 : BitVec 32 := 0#32
  let c1_i32_105 : BitVec 32 := 1#32
  let arg21 : BitVec 32 := Scf.iv c0_i32_103 c1_i32_105 k0_t12
  let v310 : BitVec 32 := Scalar.addi v309 arg21
  let v311 : Index := Scalar.indexCast v310
  let c176_146 : Index := 176#32
  ![v311.toNat, 176]
def k0_off619 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v316 : Index := Scalar.indexCast arg21
  let c176_147 : Index := 176#32
  ![v316.toNat, 176]
def k0_off620 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v320 : Index := Scalar.indexCast arg20
  let c192 : Index := 192#32
  ![v320.toNat, 192]
def k0_off621 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_148 : BitVec 32 := 1#32
  let v323 : BitVec 32 := Scalar.addi arg20 c1_i32_148
  let c0_i32_103 : BitVec 32 := 0#32
  let c1_i32_105 : BitVec 32 := 1#32
  let arg21 : BitVec 32 := Scf.iv c0_i32_103 c1_i32_105 k0_t12
  let v324 : BitVec 32 := Scalar.addi v323 arg21
  let v325 : Index := Scalar.indexCast v324
  let c192_149 : Index := 192#32
  ![v325.toNat, 192]
def k0_off622 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v330 : Index := Scalar.indexCast arg21
  let c192_150 : Index := 192#32
  ![v330.toNat, 192]
def k0_off623 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v334 : Index := Scalar.indexCast arg20
  let c208 : Index := 208#32
  ![v334.toNat, 208]
def k0_off624 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_151 : BitVec 32 := 1#32
  let v337 : BitVec 32 := Scalar.addi arg20 c1_i32_151
  let c0_i32_103 : BitVec 32 := 0#32
  let c1_i32_105 : BitVec 32 := 1#32
  let arg21 : BitVec 32 := Scf.iv c0_i32_103 c1_i32_105 k0_t12
  let v338 : BitVec 32 := Scalar.addi v337 arg21
  let v339 : Index := Scalar.indexCast v338
  let c208_152 : Index := 208#32
  ![v339.toNat, 208]
def k0_off625 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v344 : Index := Scalar.indexCast arg21
  let c208_153 : Index := 208#32
  ![v344.toNat, 208]
def k0_off626 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v348 : Index := Scalar.indexCast arg20
  let c224 : Index := 224#32
  ![v348.toNat, 224]
def k0_off627 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_154 : BitVec 32 := 1#32
  let v351 : BitVec 32 := Scalar.addi arg20 c1_i32_154
  let c0_i32_103 : BitVec 32 := 0#32
  let c1_i32_105 : BitVec 32 := 1#32
  let arg21 : BitVec 32 := Scf.iv c0_i32_103 c1_i32_105 k0_t12
  let v352 : BitVec 32 := Scalar.addi v351 arg21
  let v353 : Index := Scalar.indexCast v352
  let c224_155 : Index := 224#32
  ![v353.toNat, 224]
def k0_off628 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v358 : Index := Scalar.indexCast arg21
  let c224_156 : Index := 224#32
  ![v358.toNat, 224]
def k0_off629 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v362 : Index := Scalar.indexCast arg20
  let c240 : Index := 240#32
  ![v362.toNat, 240]
def k0_off630 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_157 : BitVec 32 := 1#32
  let v365 : BitVec 32 := Scalar.addi arg20 c1_i32_157
  let c0_i32_103 : BitVec 32 := 0#32
  let c1_i32_105 : BitVec 32 := 1#32
  let arg21 : BitVec 32 := Scf.iv c0_i32_103 c1_i32_105 k0_t12
  let v366 : BitVec 32 := Scalar.addi v365 arg21
  let v367 : Index := Scalar.indexCast v366
  let c240_158 : Index := 240#32
  ![v367.toNat, 240]
def k0_off631 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v372 : Index := Scalar.indexCast arg21
  let c240_159 : Index := 240#32
  ![v372.toNat, 240]
def k0_off632 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v376 : Index := Scalar.indexCast arg20
  let c256 : Index := 256#32
  ![v376.toNat, 256]
def k0_off633 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_160 : BitVec 32 := 1#32
  let v379 : BitVec 32 := Scalar.addi arg20 c1_i32_160
  let c0_i32_103 : BitVec 32 := 0#32
  let c1_i32_105 : BitVec 32 := 1#32
  let arg21 : BitVec 32 := Scf.iv c0_i32_103 c1_i32_105 k0_t12
  let v380 : BitVec 32 := Scalar.addi v379 arg21
  let v381 : Index := Scalar.indexCast v380
  let c256_161 : Index := 256#32
  ![v381.toNat, 256]
def k0_off634 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v386 : Index := Scalar.indexCast arg21
  let c256_162 : Index := 256#32
  ![v386.toNat, 256]
def k0_off635 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v390 : Index := Scalar.indexCast arg20
  let c272 : Index := 272#32
  ![v390.toNat, 272]
def k0_off636 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_163 : BitVec 32 := 1#32
  let v393 : BitVec 32 := Scalar.addi arg20 c1_i32_163
  let c0_i32_103 : BitVec 32 := 0#32
  let c1_i32_105 : BitVec 32 := 1#32
  let arg21 : BitVec 32 := Scf.iv c0_i32_103 c1_i32_105 k0_t12
  let v394 : BitVec 32 := Scalar.addi v393 arg21
  let v395 : Index := Scalar.indexCast v394
  let c272_164 : Index := 272#32
  ![v395.toNat, 272]
def k0_off637 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v400 : Index := Scalar.indexCast arg21
  let c272_165 : Index := 272#32
  ![v400.toNat, 272]
def k0_off638 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v404 : Index := Scalar.indexCast arg20
  let c288 : Index := 288#32
  ![v404.toNat, 288]
def k0_off639 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_166 : BitVec 32 := 1#32
  let v407 : BitVec 32 := Scalar.addi arg20 c1_i32_166
  let c0_i32_103 : BitVec 32 := 0#32
  let c1_i32_105 : BitVec 32 := 1#32
  let arg21 : BitVec 32 := Scf.iv c0_i32_103 c1_i32_105 k0_t12
  let v408 : BitVec 32 := Scalar.addi v407 arg21
  let v409 : Index := Scalar.indexCast v408
  let c288_167 : Index := 288#32
  ![v409.toNat, 288]
def k0_off640 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v414 : Index := Scalar.indexCast arg21
  let c288_168 : Index := 288#32
  ![v414.toNat, 288]
def k0_off641 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v418 : Index := Scalar.indexCast arg20
  let c304 : Index := 304#32
  ![v418.toNat, 304]
def k0_off642 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_169 : BitVec 32 := 1#32
  let v421 : BitVec 32 := Scalar.addi arg20 c1_i32_169
  let c0_i32_103 : BitVec 32 := 0#32
  let c1_i32_105 : BitVec 32 := 1#32
  let arg21 : BitVec 32 := Scf.iv c0_i32_103 c1_i32_105 k0_t12
  let v422 : BitVec 32 := Scalar.addi v421 arg21
  let v423 : Index := Scalar.indexCast v422
  let c304_170 : Index := 304#32
  ![v423.toNat, 304]
def k0_off643 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v428 : Index := Scalar.indexCast arg21
  let c304_171 : Index := 304#32
  ![v428.toNat, 304]
def k0_off644 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v432 : Index := Scalar.indexCast arg20
  let c320 : Index := 320#32
  ![v432.toNat, 320]
def k0_off645 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_172 : BitVec 32 := 1#32
  let v435 : BitVec 32 := Scalar.addi arg20 c1_i32_172
  let c0_i32_103 : BitVec 32 := 0#32
  let c1_i32_105 : BitVec 32 := 1#32
  let arg21 : BitVec 32 := Scf.iv c0_i32_103 c1_i32_105 k0_t12
  let v436 : BitVec 32 := Scalar.addi v435 arg21
  let v437 : Index := Scalar.indexCast v436
  let c320_173 : Index := 320#32
  ![v437.toNat, 320]
def k0_off646 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v442 : Index := Scalar.indexCast arg21
  let c320_174 : Index := 320#32
  ![v442.toNat, 320]
def k0_off647 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v446 : Index := Scalar.indexCast arg20
  let c336 : Index := 336#32
  ![v446.toNat, 336]
def k0_off648 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_175 : BitVec 32 := 1#32
  let v449 : BitVec 32 := Scalar.addi arg20 c1_i32_175
  let c0_i32_103 : BitVec 32 := 0#32
  let c1_i32_105 : BitVec 32 := 1#32
  let arg21 : BitVec 32 := Scf.iv c0_i32_103 c1_i32_105 k0_t12
  let v450 : BitVec 32 := Scalar.addi v449 arg21
  let v451 : Index := Scalar.indexCast v450
  let c336_176 : Index := 336#32
  ![v451.toNat, 336]
def k0_off649 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v456 : Index := Scalar.indexCast arg21
  let c336_177 : Index := 336#32
  ![v456.toNat, 336]
def k0_off650 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v460 : Index := Scalar.indexCast arg20
  let c352 : Index := 352#32
  ![v460.toNat, 352]
def k0_off651 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_178 : BitVec 32 := 1#32
  let v463 : BitVec 32 := Scalar.addi arg20 c1_i32_178
  let c0_i32_103 : BitVec 32 := 0#32
  let c1_i32_105 : BitVec 32 := 1#32
  let arg21 : BitVec 32 := Scf.iv c0_i32_103 c1_i32_105 k0_t12
  let v464 : BitVec 32 := Scalar.addi v463 arg21
  let v465 : Index := Scalar.indexCast v464
  let c352_179 : Index := 352#32
  ![v465.toNat, 352]
def k0_off652 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v470 : Index := Scalar.indexCast arg21
  let c352_180 : Index := 352#32
  ![v470.toNat, 352]
def k0_off653 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v474 : Index := Scalar.indexCast arg20
  let c368 : Index := 368#32
  ![v474.toNat, 368]
def k0_off654 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_181 : BitVec 32 := 1#32
  let v477 : BitVec 32 := Scalar.addi arg20 c1_i32_181
  let c0_i32_103 : BitVec 32 := 0#32
  let c1_i32_105 : BitVec 32 := 1#32
  let arg21 : BitVec 32 := Scf.iv c0_i32_103 c1_i32_105 k0_t12
  let v478 : BitVec 32 := Scalar.addi v477 arg21
  let v479 : Index := Scalar.indexCast v478
  let c368_182 : Index := 368#32
  ![v479.toNat, 368]
def k0_off655 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v484 : Index := Scalar.indexCast arg21
  let c368_183 : Index := 368#32
  ![v484.toNat, 368]
def k0_off656 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v488 : Index := Scalar.indexCast arg20
  let c384 : Index := 384#32
  ![v488.toNat, 384]
def k0_off657 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_184 : BitVec 32 := 1#32
  let v491 : BitVec 32 := Scalar.addi arg20 c1_i32_184
  let c0_i32_103 : BitVec 32 := 0#32
  let c1_i32_105 : BitVec 32 := 1#32
  let arg21 : BitVec 32 := Scf.iv c0_i32_103 c1_i32_105 k0_t12
  let v492 : BitVec 32 := Scalar.addi v491 arg21
  let v493 : Index := Scalar.indexCast v492
  let c384_185 : Index := 384#32
  ![v493.toNat, 384]
def k0_off658 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v498 : Index := Scalar.indexCast arg21
  let c384_186 : Index := 384#32
  ![v498.toNat, 384]
def k0_off659 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v502 : Index := Scalar.indexCast arg20
  let c400 : Index := 400#32
  ![v502.toNat, 400]
def k0_off660 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_187 : BitVec 32 := 1#32
  let v505 : BitVec 32 := Scalar.addi arg20 c1_i32_187
  let c0_i32_103 : BitVec 32 := 0#32
  let c1_i32_105 : BitVec 32 := 1#32
  let arg21 : BitVec 32 := Scf.iv c0_i32_103 c1_i32_105 k0_t12
  let v506 : BitVec 32 := Scalar.addi v505 arg21
  let v507 : Index := Scalar.indexCast v506
  let c400_188 : Index := 400#32
  ![v507.toNat, 400]
def k0_off661 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v512 : Index := Scalar.indexCast arg21
  let c400_189 : Index := 400#32
  ![v512.toNat, 400]
def k0_off662 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v516 : Index := Scalar.indexCast arg20
  let c416 : Index := 416#32
  ![v516.toNat, 416]
def k0_off663 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_190 : BitVec 32 := 1#32
  let v519 : BitVec 32 := Scalar.addi arg20 c1_i32_190
  let c0_i32_103 : BitVec 32 := 0#32
  let c1_i32_105 : BitVec 32 := 1#32
  let arg21 : BitVec 32 := Scf.iv c0_i32_103 c1_i32_105 k0_t12
  let v520 : BitVec 32 := Scalar.addi v519 arg21
  let v521 : Index := Scalar.indexCast v520
  let c416_191 : Index := 416#32
  ![v521.toNat, 416]
def k0_off664 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v526 : Index := Scalar.indexCast arg21
  let c416_192 : Index := 416#32
  ![v526.toNat, 416]
def k0_off665 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v530 : Index := Scalar.indexCast arg20
  let c432 : Index := 432#32
  ![v530.toNat, 432]
def k0_off666 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_193 : BitVec 32 := 1#32
  let v533 : BitVec 32 := Scalar.addi arg20 c1_i32_193
  let c0_i32_103 : BitVec 32 := 0#32
  let c1_i32_105 : BitVec 32 := 1#32
  let arg21 : BitVec 32 := Scf.iv c0_i32_103 c1_i32_105 k0_t12
  let v534 : BitVec 32 := Scalar.addi v533 arg21
  let v535 : Index := Scalar.indexCast v534
  let c432_194 : Index := 432#32
  ![v535.toNat, 432]
def k0_off667 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v540 : Index := Scalar.indexCast arg21
  let c432_195 : Index := 432#32
  ![v540.toNat, 432]
def k0_off668 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v544 : Index := Scalar.indexCast arg20
  let c448 : Index := 448#32
  ![v544.toNat, 448]
def k0_off669 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_196 : BitVec 32 := 1#32
  let v547 : BitVec 32 := Scalar.addi arg20 c1_i32_196
  let c0_i32_103 : BitVec 32 := 0#32
  let c1_i32_105 : BitVec 32 := 1#32
  let arg21 : BitVec 32 := Scf.iv c0_i32_103 c1_i32_105 k0_t12
  let v548 : BitVec 32 := Scalar.addi v547 arg21
  let v549 : Index := Scalar.indexCast v548
  let c448_197 : Index := 448#32
  ![v549.toNat, 448]
def k0_off670 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v554 : Index := Scalar.indexCast arg21
  let c448_198 : Index := 448#32
  ![v554.toNat, 448]
def k0_off671 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v558 : Index := Scalar.indexCast arg20
  let c464 : Index := 464#32
  ![v558.toNat, 464]
def k0_off672 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_199 : BitVec 32 := 1#32
  let v561 : BitVec 32 := Scalar.addi arg20 c1_i32_199
  let c0_i32_103 : BitVec 32 := 0#32
  let c1_i32_105 : BitVec 32 := 1#32
  let arg21 : BitVec 32 := Scf.iv c0_i32_103 c1_i32_105 k0_t12
  let v562 : BitVec 32 := Scalar.addi v561 arg21
  let v563 : Index := Scalar.indexCast v562
  let c464_200 : Index := 464#32
  ![v563.toNat, 464]
def k0_off673 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v568 : Index := Scalar.indexCast arg21
  let c464_201 : Index := 464#32
  ![v568.toNat, 464]
def k0_off674 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v572 : Index := Scalar.indexCast arg20
  let c480 : Index := 480#32
  ![v572.toNat, 480]
def k0_off675 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_202 : BitVec 32 := 1#32
  let v575 : BitVec 32 := Scalar.addi arg20 c1_i32_202
  let c0_i32_103 : BitVec 32 := 0#32
  let c1_i32_105 : BitVec 32 := 1#32
  let arg21 : BitVec 32 := Scf.iv c0_i32_103 c1_i32_105 k0_t12
  let v576 : BitVec 32 := Scalar.addi v575 arg21
  let v577 : Index := Scalar.indexCast v576
  let c480_203 : Index := 480#32
  ![v577.toNat, 480]
def k0_off676 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v582 : Index := Scalar.indexCast arg21
  let c480_204 : Index := 480#32
  ![v582.toNat, 480]
def k0_off677 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v586 : Index := Scalar.indexCast arg20
  let c496 : Index := 496#32
  ![v586.toNat, 496]
def k0_off678 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_205 : BitVec 32 := 1#32
  let v589 : BitVec 32 := Scalar.addi arg20 c1_i32_205
  let c0_i32_103 : BitVec 32 := 0#32
  let c1_i32_105 : BitVec 32 := 1#32
  let arg21 : BitVec 32 := Scf.iv c0_i32_103 c1_i32_105 k0_t12
  let v590 : BitVec 32 := Scalar.addi v589 arg21
  let v591 : Index := Scalar.indexCast v590
  let c496_206 : Index := 496#32
  ![v591.toNat, 496]
def k0_off679 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v596 : Index := Scalar.indexCast arg21
  let c496_207 : Index := 496#32
  ![v596.toNat, 496]
def k0_off680 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v600 : Index := Scalar.indexCast arg20
  let c512 : Index := 512#32
  ![v600.toNat, 512]
def k0_off681 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_208 : BitVec 32 := 1#32
  let v603 : BitVec 32 := Scalar.addi arg20 c1_i32_208
  let c0_i32_103 : BitVec 32 := 0#32
  let c1_i32_105 : BitVec 32 := 1#32
  let arg21 : BitVec 32 := Scf.iv c0_i32_103 c1_i32_105 k0_t12
  let v604 : BitVec 32 := Scalar.addi v603 arg21
  let v605 : Index := Scalar.indexCast v604
  let c512_209 : Index := 512#32
  ![v605.toNat, 512]
def k0_off682 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v610 : Index := Scalar.indexCast arg21
  let c512_210 : Index := 512#32
  ![v610.toNat, 512]
def k0_off683 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v614 : Index := Scalar.indexCast arg20
  let c528 : Index := 528#32
  ![v614.toNat, 528]
def k0_off684 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_211 : BitVec 32 := 1#32
  let v617 : BitVec 32 := Scalar.addi arg20 c1_i32_211
  let c0_i32_103 : BitVec 32 := 0#32
  let c1_i32_105 : BitVec 32 := 1#32
  let arg21 : BitVec 32 := Scf.iv c0_i32_103 c1_i32_105 k0_t12
  let v618 : BitVec 32 := Scalar.addi v617 arg21
  let v619 : Index := Scalar.indexCast v618
  let c528_212 : Index := 528#32
  ![v619.toNat, 528]
def k0_off685 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v624 : Index := Scalar.indexCast arg21
  let c528_213 : Index := 528#32
  ![v624.toNat, 528]
def k0_off686 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v628 : Index := Scalar.indexCast arg20
  let c544 : Index := 544#32
  ![v628.toNat, 544]
def k0_off687 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_214 : BitVec 32 := 1#32
  let v631 : BitVec 32 := Scalar.addi arg20 c1_i32_214
  let c0_i32_103 : BitVec 32 := 0#32
  let c1_i32_105 : BitVec 32 := 1#32
  let arg21 : BitVec 32 := Scf.iv c0_i32_103 c1_i32_105 k0_t12
  let v632 : BitVec 32 := Scalar.addi v631 arg21
  let v633 : Index := Scalar.indexCast v632
  let c544_215 : Index := 544#32
  ![v633.toNat, 544]
def k0_off688 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v638 : Index := Scalar.indexCast arg21
  let c544_216 : Index := 544#32
  ![v638.toNat, 544]
def k0_off689 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v642 : Index := Scalar.indexCast arg20
  let c560 : Index := 560#32
  ![v642.toNat, 560]
def k0_off690 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_217 : BitVec 32 := 1#32
  let v645 : BitVec 32 := Scalar.addi arg20 c1_i32_217
  let c0_i32_103 : BitVec 32 := 0#32
  let c1_i32_105 : BitVec 32 := 1#32
  let arg21 : BitVec 32 := Scf.iv c0_i32_103 c1_i32_105 k0_t12
  let v646 : BitVec 32 := Scalar.addi v645 arg21
  let v647 : Index := Scalar.indexCast v646
  let c560_218 : Index := 560#32
  ![v647.toNat, 560]
def k0_off691 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v652 : Index := Scalar.indexCast arg21
  let c560_219 : Index := 560#32
  ![v652.toNat, 560]
def k0_off692 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v656 : Index := Scalar.indexCast arg20
  let c576 : Index := 576#32
  ![v656.toNat, 576]
def k0_off693 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_220 : BitVec 32 := 1#32
  let v659 : BitVec 32 := Scalar.addi arg20 c1_i32_220
  let c0_i32_103 : BitVec 32 := 0#32
  let c1_i32_105 : BitVec 32 := 1#32
  let arg21 : BitVec 32 := Scf.iv c0_i32_103 c1_i32_105 k0_t12
  let v660 : BitVec 32 := Scalar.addi v659 arg21
  let v661 : Index := Scalar.indexCast v660
  let c576_221 : Index := 576#32
  ![v661.toNat, 576]
def k0_off694 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v666 : Index := Scalar.indexCast arg21
  let c576_222 : Index := 576#32
  ![v666.toNat, 576]
def k0_off695 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v670 : Index := Scalar.indexCast arg20
  let c592 : Index := 592#32
  ![v670.toNat, 592]
def k0_off696 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_223 : BitVec 32 := 1#32
  let v673 : BitVec 32 := Scalar.addi arg20 c1_i32_223
  let c0_i32_103 : BitVec 32 := 0#32
  let c1_i32_105 : BitVec 32 := 1#32
  let arg21 : BitVec 32 := Scf.iv c0_i32_103 c1_i32_105 k0_t12
  let v674 : BitVec 32 := Scalar.addi v673 arg21
  let v675 : Index := Scalar.indexCast v674
  let c592_224 : Index := 592#32
  ![v675.toNat, 592]
def k0_off697 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v680 : Index := Scalar.indexCast arg21
  let c592_225 : Index := 592#32
  ![v680.toNat, 592]
def k0_off698 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v684 : Index := Scalar.indexCast arg20
  let c608 : Index := 608#32
  ![v684.toNat, 608]
def k0_off699 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_226 : BitVec 32 := 1#32
  let v687 : BitVec 32 := Scalar.addi arg20 c1_i32_226
  let c0_i32_103 : BitVec 32 := 0#32
  let c1_i32_105 : BitVec 32 := 1#32
  let arg21 : BitVec 32 := Scf.iv c0_i32_103 c1_i32_105 k0_t12
  let v688 : BitVec 32 := Scalar.addi v687 arg21
  let v689 : Index := Scalar.indexCast v688
  let c608_227 : Index := 608#32
  ![v689.toNat, 608]
def k0_off700 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v694 : Index := Scalar.indexCast arg21
  let c608_228 : Index := 608#32
  ![v694.toNat, 608]
def k0_off701 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v698 : Index := Scalar.indexCast arg20
  let c624 : Index := 624#32
  ![v698.toNat, 624]
def k0_off702 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_229 : BitVec 32 := 1#32
  let v701 : BitVec 32 := Scalar.addi arg20 c1_i32_229
  let c0_i32_103 : BitVec 32 := 0#32
  let c1_i32_105 : BitVec 32 := 1#32
  let arg21 : BitVec 32 := Scf.iv c0_i32_103 c1_i32_105 k0_t12
  let v702 : BitVec 32 := Scalar.addi v701 arg21
  let v703 : Index := Scalar.indexCast v702
  let c624_230 : Index := 624#32
  ![v703.toNat, 624]
def k0_off703 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v708 : Index := Scalar.indexCast arg21
  let c624_231 : Index := 624#32
  ![v708.toNat, 624]
def k0_off704 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v712 : Index := Scalar.indexCast arg20
  let c640 : Index := 640#32
  ![v712.toNat, 640]
def k0_off705 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_232 : BitVec 32 := 1#32
  let v715 : BitVec 32 := Scalar.addi arg20 c1_i32_232
  let c0_i32_103 : BitVec 32 := 0#32
  let c1_i32_105 : BitVec 32 := 1#32
  let arg21 : BitVec 32 := Scf.iv c0_i32_103 c1_i32_105 k0_t12
  let v716 : BitVec 32 := Scalar.addi v715 arg21
  let v717 : Index := Scalar.indexCast v716
  let c640_233 : Index := 640#32
  ![v717.toNat, 640]
def k0_off706 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v722 : Index := Scalar.indexCast arg21
  let c640_234 : Index := 640#32
  ![v722.toNat, 640]
def k0_off707 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v726 : Index := Scalar.indexCast arg20
  let c656 : Index := 656#32
  ![v726.toNat, 656]
def k0_off708 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_235 : BitVec 32 := 1#32
  let v729 : BitVec 32 := Scalar.addi arg20 c1_i32_235
  let c0_i32_103 : BitVec 32 := 0#32
  let c1_i32_105 : BitVec 32 := 1#32
  let arg21 : BitVec 32 := Scf.iv c0_i32_103 c1_i32_105 k0_t12
  let v730 : BitVec 32 := Scalar.addi v729 arg21
  let v731 : Index := Scalar.indexCast v730
  let c656_236 : Index := 656#32
  ![v731.toNat, 656]
def k0_off709 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v736 : Index := Scalar.indexCast arg21
  let c656_237 : Index := 656#32
  ![v736.toNat, 656]
def k0_off710 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v740 : Index := Scalar.indexCast arg20
  let c672 : Index := 672#32
  ![v740.toNat, 672]
def k0_off711 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_238 : BitVec 32 := 1#32
  let v743 : BitVec 32 := Scalar.addi arg20 c1_i32_238
  let c0_i32_103 : BitVec 32 := 0#32
  let c1_i32_105 : BitVec 32 := 1#32
  let arg21 : BitVec 32 := Scf.iv c0_i32_103 c1_i32_105 k0_t12
  let v744 : BitVec 32 := Scalar.addi v743 arg21
  let v745 : Index := Scalar.indexCast v744
  let c672_239 : Index := 672#32
  ![v745.toNat, 672]
def k0_off712 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v750 : Index := Scalar.indexCast arg21
  let c672_240 : Index := 672#32
  ![v750.toNat, 672]
def k0_off713 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v754 : Index := Scalar.indexCast arg20
  let c688 : Index := 688#32
  ![v754.toNat, 688]
def k0_off714 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_241 : BitVec 32 := 1#32
  let v757 : BitVec 32 := Scalar.addi arg20 c1_i32_241
  let c0_i32_103 : BitVec 32 := 0#32
  let c1_i32_105 : BitVec 32 := 1#32
  let arg21 : BitVec 32 := Scf.iv c0_i32_103 c1_i32_105 k0_t12
  let v758 : BitVec 32 := Scalar.addi v757 arg21
  let v759 : Index := Scalar.indexCast v758
  let c688_242 : Index := 688#32
  ![v759.toNat, 688]
def k0_off715 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v764 : Index := Scalar.indexCast arg21
  let c688_243 : Index := 688#32
  ![v764.toNat, 688]
def k0_off716 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v768 : Index := Scalar.indexCast arg20
  let c704 : Index := 704#32
  ![v768.toNat, 704]
def k0_off717 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_244 : BitVec 32 := 1#32
  let v771 : BitVec 32 := Scalar.addi arg20 c1_i32_244
  let c0_i32_103 : BitVec 32 := 0#32
  let c1_i32_105 : BitVec 32 := 1#32
  let arg21 : BitVec 32 := Scf.iv c0_i32_103 c1_i32_105 k0_t12
  let v772 : BitVec 32 := Scalar.addi v771 arg21
  let v773 : Index := Scalar.indexCast v772
  let c704_245 : Index := 704#32
  ![v773.toNat, 704]
def k0_off718 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v778 : Index := Scalar.indexCast arg21
  let c704_246 : Index := 704#32
  ![v778.toNat, 704]
def k0_off719 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v782 : Index := Scalar.indexCast arg20
  let c720 : Index := 720#32
  ![v782.toNat, 720]
def k0_off720 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_247 : BitVec 32 := 1#32
  let v785 : BitVec 32 := Scalar.addi arg20 c1_i32_247
  let c0_i32_103 : BitVec 32 := 0#32
  let c1_i32_105 : BitVec 32 := 1#32
  let arg21 : BitVec 32 := Scf.iv c0_i32_103 c1_i32_105 k0_t12
  let v786 : BitVec 32 := Scalar.addi v785 arg21
  let v787 : Index := Scalar.indexCast v786
  let c720_248 : Index := 720#32
  ![v787.toNat, 720]
def k0_off721 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v792 : Index := Scalar.indexCast arg21
  let c720_249 : Index := 720#32
  ![v792.toNat, 720]
def k0_off722 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v796 : Index := Scalar.indexCast arg20
  let c736 : Index := 736#32
  ![v796.toNat, 736]
def k0_off723 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_250 : BitVec 32 := 1#32
  let v799 : BitVec 32 := Scalar.addi arg20 c1_i32_250
  let c0_i32_103 : BitVec 32 := 0#32
  let c1_i32_105 : BitVec 32 := 1#32
  let arg21 : BitVec 32 := Scf.iv c0_i32_103 c1_i32_105 k0_t12
  let v800 : BitVec 32 := Scalar.addi v799 arg21
  let v801 : Index := Scalar.indexCast v800
  let c736_251 : Index := 736#32
  ![v801.toNat, 736]
def k0_off724 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v806 : Index := Scalar.indexCast arg21
  let c736_252 : Index := 736#32
  ![v806.toNat, 736]
def k0_off725 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v810 : Index := Scalar.indexCast arg20
  let c752 : Index := 752#32
  ![v810.toNat, 752]
def k0_off726 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_253 : BitVec 32 := 1#32
  let v813 : BitVec 32 := Scalar.addi arg20 c1_i32_253
  let c0_i32_103 : BitVec 32 := 0#32
  let c1_i32_105 : BitVec 32 := 1#32
  let arg21 : BitVec 32 := Scf.iv c0_i32_103 c1_i32_105 k0_t12
  let v814 : BitVec 32 := Scalar.addi v813 arg21
  let v815 : Index := Scalar.indexCast v814
  let c752_254 : Index := 752#32
  ![v815.toNat, 752]
def k0_off727 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v820 : Index := Scalar.indexCast arg21
  let c752_255 : Index := 752#32
  ![v820.toNat, 752]
def k0_off728 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v824 : Index := Scalar.indexCast arg20
  let c768 : Index := 768#32
  ![v824.toNat, 768]
def k0_off729 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_256 : BitVec 32 := 1#32
  let v827 : BitVec 32 := Scalar.addi arg20 c1_i32_256
  let c0_i32_103 : BitVec 32 := 0#32
  let c1_i32_105 : BitVec 32 := 1#32
  let arg21 : BitVec 32 := Scf.iv c0_i32_103 c1_i32_105 k0_t12
  let v828 : BitVec 32 := Scalar.addi v827 arg21
  let v829 : Index := Scalar.indexCast v828
  let c768_257 : Index := 768#32
  ![v829.toNat, 768]
def k0_off730 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v834 : Index := Scalar.indexCast arg21
  let c768_258 : Index := 768#32
  ![v834.toNat, 768]
def k0_off731 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v838 : Index := Scalar.indexCast arg20
  let c784 : Index := 784#32
  ![v838.toNat, 784]
def k0_off732 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_259 : BitVec 32 := 1#32
  let v841 : BitVec 32 := Scalar.addi arg20 c1_i32_259
  let c0_i32_103 : BitVec 32 := 0#32
  let c1_i32_105 : BitVec 32 := 1#32
  let arg21 : BitVec 32 := Scf.iv c0_i32_103 c1_i32_105 k0_t12
  let v842 : BitVec 32 := Scalar.addi v841 arg21
  let v843 : Index := Scalar.indexCast v842
  let c784_260 : Index := 784#32
  ![v843.toNat, 784]
def k0_off733 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v848 : Index := Scalar.indexCast arg21
  let c784_261 : Index := 784#32
  ![v848.toNat, 784]
def k0_off734 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v852 : Index := Scalar.indexCast arg20
  let c800 : Index := 800#32
  ![v852.toNat, 800]
def k0_off735 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_262 : BitVec 32 := 1#32
  let v855 : BitVec 32 := Scalar.addi arg20 c1_i32_262
  let c0_i32_103 : BitVec 32 := 0#32
  let c1_i32_105 : BitVec 32 := 1#32
  let arg21 : BitVec 32 := Scf.iv c0_i32_103 c1_i32_105 k0_t12
  let v856 : BitVec 32 := Scalar.addi v855 arg21
  let v857 : Index := Scalar.indexCast v856
  let c800_263 : Index := 800#32
  ![v857.toNat, 800]
def k0_off736 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v862 : Index := Scalar.indexCast arg21
  let c800_264 : Index := 800#32
  ![v862.toNat, 800]
def k0_off737 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v866 : Index := Scalar.indexCast arg20
  let c816 : Index := 816#32
  ![v866.toNat, 816]
def k0_off738 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_265 : BitVec 32 := 1#32
  let v869 : BitVec 32 := Scalar.addi arg20 c1_i32_265
  let c0_i32_103 : BitVec 32 := 0#32
  let c1_i32_105 : BitVec 32 := 1#32
  let arg21 : BitVec 32 := Scf.iv c0_i32_103 c1_i32_105 k0_t12
  let v870 : BitVec 32 := Scalar.addi v869 arg21
  let v871 : Index := Scalar.indexCast v870
  let c816_266 : Index := 816#32
  ![v871.toNat, 816]
def k0_off739 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v876 : Index := Scalar.indexCast arg21
  let c816_267 : Index := 816#32
  ![v876.toNat, 816]
def k0_off740 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v880 : Index := Scalar.indexCast arg20
  let c832 : Index := 832#32
  ![v880.toNat, 832]
def k0_off741 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_268 : BitVec 32 := 1#32
  let v883 : BitVec 32 := Scalar.addi arg20 c1_i32_268
  let c0_i32_103 : BitVec 32 := 0#32
  let c1_i32_105 : BitVec 32 := 1#32
  let arg21 : BitVec 32 := Scf.iv c0_i32_103 c1_i32_105 k0_t12
  let v884 : BitVec 32 := Scalar.addi v883 arg21
  let v885 : Index := Scalar.indexCast v884
  let c832_269 : Index := 832#32
  ![v885.toNat, 832]
def k0_off742 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v890 : Index := Scalar.indexCast arg21
  let c832_270 : Index := 832#32
  ![v890.toNat, 832]
def k0_off743 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v894 : Index := Scalar.indexCast arg20
  let c848 : Index := 848#32
  ![v894.toNat, 848]
def k0_off744 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_271 : BitVec 32 := 1#32
  let v897 : BitVec 32 := Scalar.addi arg20 c1_i32_271
  let c0_i32_103 : BitVec 32 := 0#32
  let c1_i32_105 : BitVec 32 := 1#32
  let arg21 : BitVec 32 := Scf.iv c0_i32_103 c1_i32_105 k0_t12
  let v898 : BitVec 32 := Scalar.addi v897 arg21
  let v899 : Index := Scalar.indexCast v898
  let c848_272 : Index := 848#32
  ![v899.toNat, 848]
def k0_off745 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v904 : Index := Scalar.indexCast arg21
  let c848_273 : Index := 848#32
  ![v904.toNat, 848]
def k0_off746 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v908 : Index := Scalar.indexCast arg20
  let c864 : Index := 864#32
  ![v908.toNat, 864]
def k0_off747 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_274 : BitVec 32 := 1#32
  let v911 : BitVec 32 := Scalar.addi arg20 c1_i32_274
  let c0_i32_103 : BitVec 32 := 0#32
  let c1_i32_105 : BitVec 32 := 1#32
  let arg21 : BitVec 32 := Scf.iv c0_i32_103 c1_i32_105 k0_t12
  let v912 : BitVec 32 := Scalar.addi v911 arg21
  let v913 : Index := Scalar.indexCast v912
  let c864_275 : Index := 864#32
  ![v913.toNat, 864]
def k0_off748 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v918 : Index := Scalar.indexCast arg21
  let c864_276 : Index := 864#32
  ![v918.toNat, 864]
def k0_off749 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v922 : Index := Scalar.indexCast arg20
  let c880 : Index := 880#32
  ![v922.toNat, 880]
def k0_off750 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_277 : BitVec 32 := 1#32
  let v925 : BitVec 32 := Scalar.addi arg20 c1_i32_277
  let c0_i32_103 : BitVec 32 := 0#32
  let c1_i32_105 : BitVec 32 := 1#32
  let arg21 : BitVec 32 := Scf.iv c0_i32_103 c1_i32_105 k0_t12
  let v926 : BitVec 32 := Scalar.addi v925 arg21
  let v927 : Index := Scalar.indexCast v926
  let c880_278 : Index := 880#32
  ![v927.toNat, 880]
def k0_off751 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v932 : Index := Scalar.indexCast arg21
  let c880_279 : Index := 880#32
  ![v932.toNat, 880]
def k0_off752 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v936 : Index := Scalar.indexCast arg20
  let c896 : Index := 896#32
  ![v936.toNat, 896]
def k0_off753 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_280 : BitVec 32 := 1#32
  let v939 : BitVec 32 := Scalar.addi arg20 c1_i32_280
  let c0_i32_103 : BitVec 32 := 0#32
  let c1_i32_105 : BitVec 32 := 1#32
  let arg21 : BitVec 32 := Scf.iv c0_i32_103 c1_i32_105 k0_t12
  let v940 : BitVec 32 := Scalar.addi v939 arg21
  let v941 : Index := Scalar.indexCast v940
  let c896_281 : Index := 896#32
  ![v941.toNat, 896]
def k0_off754 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v946 : Index := Scalar.indexCast arg21
  let c896_282 : Index := 896#32
  ![v946.toNat, 896]
def k0_off755 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v950 : Index := Scalar.indexCast arg20
  let c912 : Index := 912#32
  ![v950.toNat, 912]
def k0_off756 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_283 : BitVec 32 := 1#32
  let v953 : BitVec 32 := Scalar.addi arg20 c1_i32_283
  let c0_i32_103 : BitVec 32 := 0#32
  let c1_i32_105 : BitVec 32 := 1#32
  let arg21 : BitVec 32 := Scf.iv c0_i32_103 c1_i32_105 k0_t12
  let v954 : BitVec 32 := Scalar.addi v953 arg21
  let v955 : Index := Scalar.indexCast v954
  let c912_284 : Index := 912#32
  ![v955.toNat, 912]
def k0_off757 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v960 : Index := Scalar.indexCast arg21
  let c912_285 : Index := 912#32
  ![v960.toNat, 912]
def k0_off758 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v964 : Index := Scalar.indexCast arg20
  let c928 : Index := 928#32
  ![v964.toNat, 928]
def k0_off759 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_286 : BitVec 32 := 1#32
  let v967 : BitVec 32 := Scalar.addi arg20 c1_i32_286
  let c0_i32_103 : BitVec 32 := 0#32
  let c1_i32_105 : BitVec 32 := 1#32
  let arg21 : BitVec 32 := Scf.iv c0_i32_103 c1_i32_105 k0_t12
  let v968 : BitVec 32 := Scalar.addi v967 arg21
  let v969 : Index := Scalar.indexCast v968
  let c928_287 : Index := 928#32
  ![v969.toNat, 928]
def k0_off760 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v974 : Index := Scalar.indexCast arg21
  let c928_288 : Index := 928#32
  ![v974.toNat, 928]
def k0_off761 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v978 : Index := Scalar.indexCast arg20
  let c944 : Index := 944#32
  ![v978.toNat, 944]
def k0_off762 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_289 : BitVec 32 := 1#32
  let v981 : BitVec 32 := Scalar.addi arg20 c1_i32_289
  let c0_i32_103 : BitVec 32 := 0#32
  let c1_i32_105 : BitVec 32 := 1#32
  let arg21 : BitVec 32 := Scf.iv c0_i32_103 c1_i32_105 k0_t12
  let v982 : BitVec 32 := Scalar.addi v981 arg21
  let v983 : Index := Scalar.indexCast v982
  let c944_290 : Index := 944#32
  ![v983.toNat, 944]
def k0_off763 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v988 : Index := Scalar.indexCast arg21
  let c944_291 : Index := 944#32
  ![v988.toNat, 944]
def k0_off764 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v992 : Index := Scalar.indexCast arg20
  let c960 : Index := 960#32
  ![v992.toNat, 960]
def k0_off765 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_292 : BitVec 32 := 1#32
  let v995 : BitVec 32 := Scalar.addi arg20 c1_i32_292
  let c0_i32_103 : BitVec 32 := 0#32
  let c1_i32_105 : BitVec 32 := 1#32
  let arg21 : BitVec 32 := Scf.iv c0_i32_103 c1_i32_105 k0_t12
  let v996 : BitVec 32 := Scalar.addi v995 arg21
  let v997 : Index := Scalar.indexCast v996
  let c960_293 : Index := 960#32
  ![v997.toNat, 960]
def k0_off766 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v1002 : Index := Scalar.indexCast arg21
  let c960_294 : Index := 960#32
  ![v1002.toNat, 960]
def k0_off767 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v1006 : Index := Scalar.indexCast arg20
  let c976 : Index := 976#32
  ![v1006.toNat, 976]
def k0_off768 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_295 : BitVec 32 := 1#32
  let v1009 : BitVec 32 := Scalar.addi arg20 c1_i32_295
  let c0_i32_103 : BitVec 32 := 0#32
  let c1_i32_105 : BitVec 32 := 1#32
  let arg21 : BitVec 32 := Scf.iv c0_i32_103 c1_i32_105 k0_t12
  let v1010 : BitVec 32 := Scalar.addi v1009 arg21
  let v1011 : Index := Scalar.indexCast v1010
  let c976_296 : Index := 976#32
  ![v1011.toNat, 976]
def k0_off769 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v1016 : Index := Scalar.indexCast arg21
  let c976_297 : Index := 976#32
  ![v1016.toNat, 976]
def k0_off770 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v1020 : Index := Scalar.indexCast arg20
  let c992 : Index := 992#32
  ![v1020.toNat, 992]
def k0_off771 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_298 : BitVec 32 := 1#32
  let v1023 : BitVec 32 := Scalar.addi arg20 c1_i32_298
  let c0_i32_103 : BitVec 32 := 0#32
  let c1_i32_105 : BitVec 32 := 1#32
  let arg21 : BitVec 32 := Scf.iv c0_i32_103 c1_i32_105 k0_t12
  let v1024 : BitVec 32 := Scalar.addi v1023 arg21
  let v1025 : Index := Scalar.indexCast v1024
  let c992_299 : Index := 992#32
  ![v1025.toNat, 992]
def k0_off772 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v1030 : Index := Scalar.indexCast arg21
  let c992_300 : Index := 992#32
  ![v1030.toNat, 992]
def k0_off773 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v1034 : Index := Scalar.indexCast arg20
  let c1008 : Index := 1008#32
  ![v1034.toNat, 1008]
def k0_off774 (k0_t11 : Fin k0_t11_loop.trips) (k0_t12 : Fin (k0_t12_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_301 : BitVec 32 := 1#32
  let v1037 : BitVec 32 := Scalar.addi arg20 c1_i32_301
  let c0_i32_103 : BitVec 32 := 0#32
  let c1_i32_105 : BitVec 32 := 1#32
  let arg21 : BitVec 32 := Scf.iv c0_i32_103 c1_i32_105 k0_t12
  let v1038 : BitVec 32 := Scalar.addi v1037 arg21
  let v1039 : Index := Scalar.indexCast v1038
  let c1008_302 : Index := 1008#32
  ![v1039.toNat, 1008]
def k0_off775 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let v1044 : Index := Scalar.indexCast arg21
  let c1008_303 : Index := 1008#32
  ![v1044.toNat, 1008]
def k0_off776 (k0_t11 : Fin k0_t11_loop.trips) (k0_t12 : Fin (k0_t12_loop k0_t11).trips) : Fin 2 → Nat :=
  let c0_i32_103 : BitVec 32 := 0#32
  let c1_i32_105 : BitVec 32 := 1#32
  let arg21 : BitVec 32 := Scf.iv c0_i32_103 c1_i32_105 k0_t12
  let c0_i32_304 : BitVec 32 := 0#32
  ![arg21.toNat, 0]
def k0_off777 (i : grid0.Coords) (k0_t11 : Fin k0_t11_loop.trips) (k0_t12 : Fin (k0_t12_loop k0_t11).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c1_i32_86 : BitVec 32 := 1#32
  let v116 : BitVec 32 := Scalar.addi v42 c1_i32_86
  let c16_i32_93 : BitVec 32 := 16#32
  let v119 : BitVec 32 := Scalar.muli v116 c16_i32_93
  let c0_i32_88 : BitVec 32 := 0#32
  let c1_i32_90 : BitVec 32 := 1#32
  let arg20 : BitVec 32 := Scf.iv c0_i32_88 c1_i32_90 k0_t11
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c1_i32_105 : BitVec 32 := 1#32
  let arg21 : BitVec 32 := Scf.iv c0_i32_103 c1_i32_105 k0_t12
  let v1048 : BitVec 32 := Scalar.addi v141 arg21
  let c0_i32_305 : BitVec 32 := 0#32
  ![v1048.toNat, 0]
@[reducible] def k0_t13_loop (k0_t11 : Fin k0_t11_loop.trips) : Scf.Loop 32 :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let v143 : BitVec 32 := Scalar.addi c0_i32_103 v142
  let c1_i32_106 : BitVec 32 := 1#32
  ⟨v146, v143, c1_i32_106⟩
def k0_off778 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v152 : Index := Scalar.indexCast arg20
  let c0 : Index := 0#32
  ![v152.toNat, 0]
def k0_off779 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_112 : BitVec 32 := 1#32
  let v155 : BitVec 32 := Scalar.addi arg20 c1_i32_112
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v156 : BitVec 32 := Scalar.addi v155 arg21
  let v157 : Index := Scalar.indexCast v156
  let c0_113 : Index := 0#32
  ![v157.toNat, 0]
def k0_off780 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v162 : Index := Scalar.indexCast arg21
  let c0_114 : Index := 0#32
  ![v162.toNat, 0]
def k0_off781 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v166 : Index := Scalar.indexCast arg20
  let c16 : Index := 16#32
  ![v166.toNat, 16]
def k0_off782 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_115 : BitVec 32 := 1#32
  let v169 : BitVec 32 := Scalar.addi arg20 c1_i32_115
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v170 : BitVec 32 := Scalar.addi v169 arg21
  let v171 : Index := Scalar.indexCast v170
  let c16_116 : Index := 16#32
  ![v171.toNat, 16]
def k0_off783 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v176 : Index := Scalar.indexCast arg21
  let c16_117 : Index := 16#32
  ![v176.toNat, 16]
def k0_off784 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v180 : Index := Scalar.indexCast arg20
  let c32 : Index := 32#32
  ![v180.toNat, 32]
def k0_off785 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_118 : BitVec 32 := 1#32
  let v183 : BitVec 32 := Scalar.addi arg20 c1_i32_118
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v184 : BitVec 32 := Scalar.addi v183 arg21
  let v185 : Index := Scalar.indexCast v184
  let c32_119 : Index := 32#32
  ![v185.toNat, 32]
def k0_off786 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v190 : Index := Scalar.indexCast arg21
  let c32_120 : Index := 32#32
  ![v190.toNat, 32]
def k0_off787 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v194 : Index := Scalar.indexCast arg20
  let c48 : Index := 48#32
  ![v194.toNat, 48]
def k0_off788 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_121 : BitVec 32 := 1#32
  let v197 : BitVec 32 := Scalar.addi arg20 c1_i32_121
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v198 : BitVec 32 := Scalar.addi v197 arg21
  let v199 : Index := Scalar.indexCast v198
  let c48_122 : Index := 48#32
  ![v199.toNat, 48]
def k0_off789 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v204 : Index := Scalar.indexCast arg21
  let c48_123 : Index := 48#32
  ![v204.toNat, 48]
def k0_off790 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v208 : Index := Scalar.indexCast arg20
  let c64 : Index := 64#32
  ![v208.toNat, 64]
def k0_off791 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_124 : BitVec 32 := 1#32
  let v211 : BitVec 32 := Scalar.addi arg20 c1_i32_124
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v212 : BitVec 32 := Scalar.addi v211 arg21
  let v213 : Index := Scalar.indexCast v212
  let c64_125 : Index := 64#32
  ![v213.toNat, 64]
def k0_off792 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v218 : Index := Scalar.indexCast arg21
  let c64_126 : Index := 64#32
  ![v218.toNat, 64]
def k0_off793 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v222 : Index := Scalar.indexCast arg20
  let c80 : Index := 80#32
  ![v222.toNat, 80]
def k0_off794 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_127 : BitVec 32 := 1#32
  let v225 : BitVec 32 := Scalar.addi arg20 c1_i32_127
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v226 : BitVec 32 := Scalar.addi v225 arg21
  let v227 : Index := Scalar.indexCast v226
  let c80_128 : Index := 80#32
  ![v227.toNat, 80]
def k0_off795 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v232 : Index := Scalar.indexCast arg21
  let c80_129 : Index := 80#32
  ![v232.toNat, 80]
def k0_off796 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v236 : Index := Scalar.indexCast arg20
  let c96 : Index := 96#32
  ![v236.toNat, 96]
def k0_off797 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_130 : BitVec 32 := 1#32
  let v239 : BitVec 32 := Scalar.addi arg20 c1_i32_130
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v240 : BitVec 32 := Scalar.addi v239 arg21
  let v241 : Index := Scalar.indexCast v240
  let c96_131 : Index := 96#32
  ![v241.toNat, 96]
def k0_off798 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v246 : Index := Scalar.indexCast arg21
  let c96_132 : Index := 96#32
  ![v246.toNat, 96]
def k0_off799 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v250 : Index := Scalar.indexCast arg20
  let c112 : Index := 112#32
  ![v250.toNat, 112]
def k0_off800 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_133 : BitVec 32 := 1#32
  let v253 : BitVec 32 := Scalar.addi arg20 c1_i32_133
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v254 : BitVec 32 := Scalar.addi v253 arg21
  let v255 : Index := Scalar.indexCast v254
  let c112_134 : Index := 112#32
  ![v255.toNat, 112]
def k0_off801 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v260 : Index := Scalar.indexCast arg21
  let c112_135 : Index := 112#32
  ![v260.toNat, 112]
def k0_off802 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v264 : Index := Scalar.indexCast arg20
  let c128 : Index := 128#32
  ![v264.toNat, 128]
def k0_off803 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_136 : BitVec 32 := 1#32
  let v267 : BitVec 32 := Scalar.addi arg20 c1_i32_136
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v268 : BitVec 32 := Scalar.addi v267 arg21
  let v269 : Index := Scalar.indexCast v268
  let c128_137 : Index := 128#32
  ![v269.toNat, 128]
def k0_off804 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v274 : Index := Scalar.indexCast arg21
  let c128_138 : Index := 128#32
  ![v274.toNat, 128]
def k0_off805 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v278 : Index := Scalar.indexCast arg20
  let c144 : Index := 144#32
  ![v278.toNat, 144]
def k0_off806 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_139 : BitVec 32 := 1#32
  let v281 : BitVec 32 := Scalar.addi arg20 c1_i32_139
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v282 : BitVec 32 := Scalar.addi v281 arg21
  let v283 : Index := Scalar.indexCast v282
  let c144_140 : Index := 144#32
  ![v283.toNat, 144]
def k0_off807 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v288 : Index := Scalar.indexCast arg21
  let c144_141 : Index := 144#32
  ![v288.toNat, 144]
def k0_off808 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v292 : Index := Scalar.indexCast arg20
  let c160 : Index := 160#32
  ![v292.toNat, 160]
def k0_off809 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_142 : BitVec 32 := 1#32
  let v295 : BitVec 32 := Scalar.addi arg20 c1_i32_142
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v296 : BitVec 32 := Scalar.addi v295 arg21
  let v297 : Index := Scalar.indexCast v296
  let c160_143 : Index := 160#32
  ![v297.toNat, 160]
def k0_off810 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v302 : Index := Scalar.indexCast arg21
  let c160_144 : Index := 160#32
  ![v302.toNat, 160]
def k0_off811 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v306 : Index := Scalar.indexCast arg20
  let c176 : Index := 176#32
  ![v306.toNat, 176]
def k0_off812 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_145 : BitVec 32 := 1#32
  let v309 : BitVec 32 := Scalar.addi arg20 c1_i32_145
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v310 : BitVec 32 := Scalar.addi v309 arg21
  let v311 : Index := Scalar.indexCast v310
  let c176_146 : Index := 176#32
  ![v311.toNat, 176]
def k0_off813 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v316 : Index := Scalar.indexCast arg21
  let c176_147 : Index := 176#32
  ![v316.toNat, 176]
def k0_off814 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v320 : Index := Scalar.indexCast arg20
  let c192 : Index := 192#32
  ![v320.toNat, 192]
def k0_off815 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_148 : BitVec 32 := 1#32
  let v323 : BitVec 32 := Scalar.addi arg20 c1_i32_148
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v324 : BitVec 32 := Scalar.addi v323 arg21
  let v325 : Index := Scalar.indexCast v324
  let c192_149 : Index := 192#32
  ![v325.toNat, 192]
def k0_off816 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v330 : Index := Scalar.indexCast arg21
  let c192_150 : Index := 192#32
  ![v330.toNat, 192]
def k0_off817 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v334 : Index := Scalar.indexCast arg20
  let c208 : Index := 208#32
  ![v334.toNat, 208]
def k0_off818 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_151 : BitVec 32 := 1#32
  let v337 : BitVec 32 := Scalar.addi arg20 c1_i32_151
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v338 : BitVec 32 := Scalar.addi v337 arg21
  let v339 : Index := Scalar.indexCast v338
  let c208_152 : Index := 208#32
  ![v339.toNat, 208]
def k0_off819 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v344 : Index := Scalar.indexCast arg21
  let c208_153 : Index := 208#32
  ![v344.toNat, 208]
def k0_off820 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v348 : Index := Scalar.indexCast arg20
  let c224 : Index := 224#32
  ![v348.toNat, 224]
def k0_off821 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_154 : BitVec 32 := 1#32
  let v351 : BitVec 32 := Scalar.addi arg20 c1_i32_154
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v352 : BitVec 32 := Scalar.addi v351 arg21
  let v353 : Index := Scalar.indexCast v352
  let c224_155 : Index := 224#32
  ![v353.toNat, 224]
def k0_off822 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v358 : Index := Scalar.indexCast arg21
  let c224_156 : Index := 224#32
  ![v358.toNat, 224]
def k0_off823 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v362 : Index := Scalar.indexCast arg20
  let c240 : Index := 240#32
  ![v362.toNat, 240]
def k0_off824 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_157 : BitVec 32 := 1#32
  let v365 : BitVec 32 := Scalar.addi arg20 c1_i32_157
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v366 : BitVec 32 := Scalar.addi v365 arg21
  let v367 : Index := Scalar.indexCast v366
  let c240_158 : Index := 240#32
  ![v367.toNat, 240]
def k0_off825 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v372 : Index := Scalar.indexCast arg21
  let c240_159 : Index := 240#32
  ![v372.toNat, 240]
def k0_off826 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v376 : Index := Scalar.indexCast arg20
  let c256 : Index := 256#32
  ![v376.toNat, 256]
def k0_off827 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_160 : BitVec 32 := 1#32
  let v379 : BitVec 32 := Scalar.addi arg20 c1_i32_160
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v380 : BitVec 32 := Scalar.addi v379 arg21
  let v381 : Index := Scalar.indexCast v380
  let c256_161 : Index := 256#32
  ![v381.toNat, 256]
def k0_off828 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v386 : Index := Scalar.indexCast arg21
  let c256_162 : Index := 256#32
  ![v386.toNat, 256]
def k0_off829 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v390 : Index := Scalar.indexCast arg20
  let c272 : Index := 272#32
  ![v390.toNat, 272]
def k0_off830 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_163 : BitVec 32 := 1#32
  let v393 : BitVec 32 := Scalar.addi arg20 c1_i32_163
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v394 : BitVec 32 := Scalar.addi v393 arg21
  let v395 : Index := Scalar.indexCast v394
  let c272_164 : Index := 272#32
  ![v395.toNat, 272]
def k0_off831 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v400 : Index := Scalar.indexCast arg21
  let c272_165 : Index := 272#32
  ![v400.toNat, 272]
def k0_off832 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v404 : Index := Scalar.indexCast arg20
  let c288 : Index := 288#32
  ![v404.toNat, 288]
def k0_off833 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_166 : BitVec 32 := 1#32
  let v407 : BitVec 32 := Scalar.addi arg20 c1_i32_166
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v408 : BitVec 32 := Scalar.addi v407 arg21
  let v409 : Index := Scalar.indexCast v408
  let c288_167 : Index := 288#32
  ![v409.toNat, 288]
def k0_off834 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v414 : Index := Scalar.indexCast arg21
  let c288_168 : Index := 288#32
  ![v414.toNat, 288]
def k0_off835 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v418 : Index := Scalar.indexCast arg20
  let c304 : Index := 304#32
  ![v418.toNat, 304]
def k0_off836 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_169 : BitVec 32 := 1#32
  let v421 : BitVec 32 := Scalar.addi arg20 c1_i32_169
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v422 : BitVec 32 := Scalar.addi v421 arg21
  let v423 : Index := Scalar.indexCast v422
  let c304_170 : Index := 304#32
  ![v423.toNat, 304]
def k0_off837 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v428 : Index := Scalar.indexCast arg21
  let c304_171 : Index := 304#32
  ![v428.toNat, 304]
def k0_off838 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v432 : Index := Scalar.indexCast arg20
  let c320 : Index := 320#32
  ![v432.toNat, 320]
def k0_off839 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_172 : BitVec 32 := 1#32
  let v435 : BitVec 32 := Scalar.addi arg20 c1_i32_172
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v436 : BitVec 32 := Scalar.addi v435 arg21
  let v437 : Index := Scalar.indexCast v436
  let c320_173 : Index := 320#32
  ![v437.toNat, 320]
def k0_off840 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v442 : Index := Scalar.indexCast arg21
  let c320_174 : Index := 320#32
  ![v442.toNat, 320]
def k0_off841 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v446 : Index := Scalar.indexCast arg20
  let c336 : Index := 336#32
  ![v446.toNat, 336]
def k0_off842 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_175 : BitVec 32 := 1#32
  let v449 : BitVec 32 := Scalar.addi arg20 c1_i32_175
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v450 : BitVec 32 := Scalar.addi v449 arg21
  let v451 : Index := Scalar.indexCast v450
  let c336_176 : Index := 336#32
  ![v451.toNat, 336]
def k0_off843 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v456 : Index := Scalar.indexCast arg21
  let c336_177 : Index := 336#32
  ![v456.toNat, 336]
def k0_off844 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v460 : Index := Scalar.indexCast arg20
  let c352 : Index := 352#32
  ![v460.toNat, 352]
def k0_off845 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_178 : BitVec 32 := 1#32
  let v463 : BitVec 32 := Scalar.addi arg20 c1_i32_178
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v464 : BitVec 32 := Scalar.addi v463 arg21
  let v465 : Index := Scalar.indexCast v464
  let c352_179 : Index := 352#32
  ![v465.toNat, 352]
def k0_off846 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v470 : Index := Scalar.indexCast arg21
  let c352_180 : Index := 352#32
  ![v470.toNat, 352]
def k0_off847 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v474 : Index := Scalar.indexCast arg20
  let c368 : Index := 368#32
  ![v474.toNat, 368]
def k0_off848 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_181 : BitVec 32 := 1#32
  let v477 : BitVec 32 := Scalar.addi arg20 c1_i32_181
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v478 : BitVec 32 := Scalar.addi v477 arg21
  let v479 : Index := Scalar.indexCast v478
  let c368_182 : Index := 368#32
  ![v479.toNat, 368]
def k0_off849 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v484 : Index := Scalar.indexCast arg21
  let c368_183 : Index := 368#32
  ![v484.toNat, 368]
def k0_off850 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v488 : Index := Scalar.indexCast arg20
  let c384 : Index := 384#32
  ![v488.toNat, 384]
def k0_off851 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_184 : BitVec 32 := 1#32
  let v491 : BitVec 32 := Scalar.addi arg20 c1_i32_184
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v492 : BitVec 32 := Scalar.addi v491 arg21
  let v493 : Index := Scalar.indexCast v492
  let c384_185 : Index := 384#32
  ![v493.toNat, 384]
def k0_off852 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v498 : Index := Scalar.indexCast arg21
  let c384_186 : Index := 384#32
  ![v498.toNat, 384]
def k0_off853 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v502 : Index := Scalar.indexCast arg20
  let c400 : Index := 400#32
  ![v502.toNat, 400]
def k0_off854 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_187 : BitVec 32 := 1#32
  let v505 : BitVec 32 := Scalar.addi arg20 c1_i32_187
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v506 : BitVec 32 := Scalar.addi v505 arg21
  let v507 : Index := Scalar.indexCast v506
  let c400_188 : Index := 400#32
  ![v507.toNat, 400]
def k0_off855 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v512 : Index := Scalar.indexCast arg21
  let c400_189 : Index := 400#32
  ![v512.toNat, 400]
def k0_off856 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v516 : Index := Scalar.indexCast arg20
  let c416 : Index := 416#32
  ![v516.toNat, 416]
def k0_off857 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_190 : BitVec 32 := 1#32
  let v519 : BitVec 32 := Scalar.addi arg20 c1_i32_190
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v520 : BitVec 32 := Scalar.addi v519 arg21
  let v521 : Index := Scalar.indexCast v520
  let c416_191 : Index := 416#32
  ![v521.toNat, 416]
def k0_off858 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v526 : Index := Scalar.indexCast arg21
  let c416_192 : Index := 416#32
  ![v526.toNat, 416]
def k0_off859 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v530 : Index := Scalar.indexCast arg20
  let c432 : Index := 432#32
  ![v530.toNat, 432]
def k0_off860 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_193 : BitVec 32 := 1#32
  let v533 : BitVec 32 := Scalar.addi arg20 c1_i32_193
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v534 : BitVec 32 := Scalar.addi v533 arg21
  let v535 : Index := Scalar.indexCast v534
  let c432_194 : Index := 432#32
  ![v535.toNat, 432]
def k0_off861 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v540 : Index := Scalar.indexCast arg21
  let c432_195 : Index := 432#32
  ![v540.toNat, 432]
def k0_off862 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v544 : Index := Scalar.indexCast arg20
  let c448 : Index := 448#32
  ![v544.toNat, 448]
def k0_off863 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_196 : BitVec 32 := 1#32
  let v547 : BitVec 32 := Scalar.addi arg20 c1_i32_196
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v548 : BitVec 32 := Scalar.addi v547 arg21
  let v549 : Index := Scalar.indexCast v548
  let c448_197 : Index := 448#32
  ![v549.toNat, 448]
def k0_off864 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v554 : Index := Scalar.indexCast arg21
  let c448_198 : Index := 448#32
  ![v554.toNat, 448]
def k0_off865 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v558 : Index := Scalar.indexCast arg20
  let c464 : Index := 464#32
  ![v558.toNat, 464]
def k0_off866 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_199 : BitVec 32 := 1#32
  let v561 : BitVec 32 := Scalar.addi arg20 c1_i32_199
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v562 : BitVec 32 := Scalar.addi v561 arg21
  let v563 : Index := Scalar.indexCast v562
  let c464_200 : Index := 464#32
  ![v563.toNat, 464]
def k0_off867 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v568 : Index := Scalar.indexCast arg21
  let c464_201 : Index := 464#32
  ![v568.toNat, 464]
def k0_off868 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v572 : Index := Scalar.indexCast arg20
  let c480 : Index := 480#32
  ![v572.toNat, 480]
def k0_off869 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_202 : BitVec 32 := 1#32
  let v575 : BitVec 32 := Scalar.addi arg20 c1_i32_202
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v576 : BitVec 32 := Scalar.addi v575 arg21
  let v577 : Index := Scalar.indexCast v576
  let c480_203 : Index := 480#32
  ![v577.toNat, 480]
def k0_off870 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v582 : Index := Scalar.indexCast arg21
  let c480_204 : Index := 480#32
  ![v582.toNat, 480]
def k0_off871 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v586 : Index := Scalar.indexCast arg20
  let c496 : Index := 496#32
  ![v586.toNat, 496]
def k0_off872 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_205 : BitVec 32 := 1#32
  let v589 : BitVec 32 := Scalar.addi arg20 c1_i32_205
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v590 : BitVec 32 := Scalar.addi v589 arg21
  let v591 : Index := Scalar.indexCast v590
  let c496_206 : Index := 496#32
  ![v591.toNat, 496]
def k0_off873 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v596 : Index := Scalar.indexCast arg21
  let c496_207 : Index := 496#32
  ![v596.toNat, 496]
def k0_off874 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v600 : Index := Scalar.indexCast arg20
  let c512 : Index := 512#32
  ![v600.toNat, 512]
def k0_off875 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_208 : BitVec 32 := 1#32
  let v603 : BitVec 32 := Scalar.addi arg20 c1_i32_208
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v604 : BitVec 32 := Scalar.addi v603 arg21
  let v605 : Index := Scalar.indexCast v604
  let c512_209 : Index := 512#32
  ![v605.toNat, 512]
def k0_off876 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v610 : Index := Scalar.indexCast arg21
  let c512_210 : Index := 512#32
  ![v610.toNat, 512]
def k0_off877 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v614 : Index := Scalar.indexCast arg20
  let c528 : Index := 528#32
  ![v614.toNat, 528]
def k0_off878 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_211 : BitVec 32 := 1#32
  let v617 : BitVec 32 := Scalar.addi arg20 c1_i32_211
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v618 : BitVec 32 := Scalar.addi v617 arg21
  let v619 : Index := Scalar.indexCast v618
  let c528_212 : Index := 528#32
  ![v619.toNat, 528]
def k0_off879 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v624 : Index := Scalar.indexCast arg21
  let c528_213 : Index := 528#32
  ![v624.toNat, 528]
def k0_off880 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v628 : Index := Scalar.indexCast arg20
  let c544 : Index := 544#32
  ![v628.toNat, 544]
def k0_off881 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_214 : BitVec 32 := 1#32
  let v631 : BitVec 32 := Scalar.addi arg20 c1_i32_214
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v632 : BitVec 32 := Scalar.addi v631 arg21
  let v633 : Index := Scalar.indexCast v632
  let c544_215 : Index := 544#32
  ![v633.toNat, 544]
def k0_off882 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v638 : Index := Scalar.indexCast arg21
  let c544_216 : Index := 544#32
  ![v638.toNat, 544]
def k0_off883 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v642 : Index := Scalar.indexCast arg20
  let c560 : Index := 560#32
  ![v642.toNat, 560]
def k0_off884 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_217 : BitVec 32 := 1#32
  let v645 : BitVec 32 := Scalar.addi arg20 c1_i32_217
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v646 : BitVec 32 := Scalar.addi v645 arg21
  let v647 : Index := Scalar.indexCast v646
  let c560_218 : Index := 560#32
  ![v647.toNat, 560]
def k0_off885 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v652 : Index := Scalar.indexCast arg21
  let c560_219 : Index := 560#32
  ![v652.toNat, 560]
def k0_off886 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v656 : Index := Scalar.indexCast arg20
  let c576 : Index := 576#32
  ![v656.toNat, 576]
def k0_off887 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_220 : BitVec 32 := 1#32
  let v659 : BitVec 32 := Scalar.addi arg20 c1_i32_220
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v660 : BitVec 32 := Scalar.addi v659 arg21
  let v661 : Index := Scalar.indexCast v660
  let c576_221 : Index := 576#32
  ![v661.toNat, 576]
def k0_off888 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v666 : Index := Scalar.indexCast arg21
  let c576_222 : Index := 576#32
  ![v666.toNat, 576]
def k0_off889 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v670 : Index := Scalar.indexCast arg20
  let c592 : Index := 592#32
  ![v670.toNat, 592]
def k0_off890 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_223 : BitVec 32 := 1#32
  let v673 : BitVec 32 := Scalar.addi arg20 c1_i32_223
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v674 : BitVec 32 := Scalar.addi v673 arg21
  let v675 : Index := Scalar.indexCast v674
  let c592_224 : Index := 592#32
  ![v675.toNat, 592]
def k0_off891 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v680 : Index := Scalar.indexCast arg21
  let c592_225 : Index := 592#32
  ![v680.toNat, 592]
def k0_off892 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v684 : Index := Scalar.indexCast arg20
  let c608 : Index := 608#32
  ![v684.toNat, 608]
def k0_off893 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_226 : BitVec 32 := 1#32
  let v687 : BitVec 32 := Scalar.addi arg20 c1_i32_226
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v688 : BitVec 32 := Scalar.addi v687 arg21
  let v689 : Index := Scalar.indexCast v688
  let c608_227 : Index := 608#32
  ![v689.toNat, 608]
def k0_off894 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v694 : Index := Scalar.indexCast arg21
  let c608_228 : Index := 608#32
  ![v694.toNat, 608]
def k0_off895 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v698 : Index := Scalar.indexCast arg20
  let c624 : Index := 624#32
  ![v698.toNat, 624]
def k0_off896 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_229 : BitVec 32 := 1#32
  let v701 : BitVec 32 := Scalar.addi arg20 c1_i32_229
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v702 : BitVec 32 := Scalar.addi v701 arg21
  let v703 : Index := Scalar.indexCast v702
  let c624_230 : Index := 624#32
  ![v703.toNat, 624]
def k0_off897 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v708 : Index := Scalar.indexCast arg21
  let c624_231 : Index := 624#32
  ![v708.toNat, 624]
def k0_off898 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v712 : Index := Scalar.indexCast arg20
  let c640 : Index := 640#32
  ![v712.toNat, 640]
def k0_off899 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_232 : BitVec 32 := 1#32
  let v715 : BitVec 32 := Scalar.addi arg20 c1_i32_232
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v716 : BitVec 32 := Scalar.addi v715 arg21
  let v717 : Index := Scalar.indexCast v716
  let c640_233 : Index := 640#32
  ![v717.toNat, 640]
def k0_off900 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v722 : Index := Scalar.indexCast arg21
  let c640_234 : Index := 640#32
  ![v722.toNat, 640]
def k0_off901 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v726 : Index := Scalar.indexCast arg20
  let c656 : Index := 656#32
  ![v726.toNat, 656]
def k0_off902 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_235 : BitVec 32 := 1#32
  let v729 : BitVec 32 := Scalar.addi arg20 c1_i32_235
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v730 : BitVec 32 := Scalar.addi v729 arg21
  let v731 : Index := Scalar.indexCast v730
  let c656_236 : Index := 656#32
  ![v731.toNat, 656]
def k0_off903 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v736 : Index := Scalar.indexCast arg21
  let c656_237 : Index := 656#32
  ![v736.toNat, 656]
def k0_off904 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v740 : Index := Scalar.indexCast arg20
  let c672 : Index := 672#32
  ![v740.toNat, 672]
def k0_off905 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_238 : BitVec 32 := 1#32
  let v743 : BitVec 32 := Scalar.addi arg20 c1_i32_238
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v744 : BitVec 32 := Scalar.addi v743 arg21
  let v745 : Index := Scalar.indexCast v744
  let c672_239 : Index := 672#32
  ![v745.toNat, 672]
def k0_off906 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v750 : Index := Scalar.indexCast arg21
  let c672_240 : Index := 672#32
  ![v750.toNat, 672]
def k0_off907 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v754 : Index := Scalar.indexCast arg20
  let c688 : Index := 688#32
  ![v754.toNat, 688]
def k0_off908 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_241 : BitVec 32 := 1#32
  let v757 : BitVec 32 := Scalar.addi arg20 c1_i32_241
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v758 : BitVec 32 := Scalar.addi v757 arg21
  let v759 : Index := Scalar.indexCast v758
  let c688_242 : Index := 688#32
  ![v759.toNat, 688]
def k0_off909 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v764 : Index := Scalar.indexCast arg21
  let c688_243 : Index := 688#32
  ![v764.toNat, 688]
def k0_off910 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v768 : Index := Scalar.indexCast arg20
  let c704 : Index := 704#32
  ![v768.toNat, 704]
def k0_off911 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_244 : BitVec 32 := 1#32
  let v771 : BitVec 32 := Scalar.addi arg20 c1_i32_244
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v772 : BitVec 32 := Scalar.addi v771 arg21
  let v773 : Index := Scalar.indexCast v772
  let c704_245 : Index := 704#32
  ![v773.toNat, 704]
def k0_off912 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v778 : Index := Scalar.indexCast arg21
  let c704_246 : Index := 704#32
  ![v778.toNat, 704]
def k0_off913 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v782 : Index := Scalar.indexCast arg20
  let c720 : Index := 720#32
  ![v782.toNat, 720]
def k0_off914 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_247 : BitVec 32 := 1#32
  let v785 : BitVec 32 := Scalar.addi arg20 c1_i32_247
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v786 : BitVec 32 := Scalar.addi v785 arg21
  let v787 : Index := Scalar.indexCast v786
  let c720_248 : Index := 720#32
  ![v787.toNat, 720]
def k0_off915 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v792 : Index := Scalar.indexCast arg21
  let c720_249 : Index := 720#32
  ![v792.toNat, 720]
def k0_off916 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v796 : Index := Scalar.indexCast arg20
  let c736 : Index := 736#32
  ![v796.toNat, 736]
def k0_off917 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_250 : BitVec 32 := 1#32
  let v799 : BitVec 32 := Scalar.addi arg20 c1_i32_250
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v800 : BitVec 32 := Scalar.addi v799 arg21
  let v801 : Index := Scalar.indexCast v800
  let c736_251 : Index := 736#32
  ![v801.toNat, 736]
def k0_off918 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v806 : Index := Scalar.indexCast arg21
  let c736_252 : Index := 736#32
  ![v806.toNat, 736]
def k0_off919 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v810 : Index := Scalar.indexCast arg20
  let c752 : Index := 752#32
  ![v810.toNat, 752]
def k0_off920 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_253 : BitVec 32 := 1#32
  let v813 : BitVec 32 := Scalar.addi arg20 c1_i32_253
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v814 : BitVec 32 := Scalar.addi v813 arg21
  let v815 : Index := Scalar.indexCast v814
  let c752_254 : Index := 752#32
  ![v815.toNat, 752]
def k0_off921 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v820 : Index := Scalar.indexCast arg21
  let c752_255 : Index := 752#32
  ![v820.toNat, 752]
def k0_off922 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v824 : Index := Scalar.indexCast arg20
  let c768 : Index := 768#32
  ![v824.toNat, 768]
def k0_off923 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_256 : BitVec 32 := 1#32
  let v827 : BitVec 32 := Scalar.addi arg20 c1_i32_256
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v828 : BitVec 32 := Scalar.addi v827 arg21
  let v829 : Index := Scalar.indexCast v828
  let c768_257 : Index := 768#32
  ![v829.toNat, 768]
def k0_off924 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v834 : Index := Scalar.indexCast arg21
  let c768_258 : Index := 768#32
  ![v834.toNat, 768]
def k0_off925 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v838 : Index := Scalar.indexCast arg20
  let c784 : Index := 784#32
  ![v838.toNat, 784]
def k0_off926 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_259 : BitVec 32 := 1#32
  let v841 : BitVec 32 := Scalar.addi arg20 c1_i32_259
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v842 : BitVec 32 := Scalar.addi v841 arg21
  let v843 : Index := Scalar.indexCast v842
  let c784_260 : Index := 784#32
  ![v843.toNat, 784]
def k0_off927 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v848 : Index := Scalar.indexCast arg21
  let c784_261 : Index := 784#32
  ![v848.toNat, 784]
def k0_off928 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v852 : Index := Scalar.indexCast arg20
  let c800 : Index := 800#32
  ![v852.toNat, 800]
def k0_off929 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_262 : BitVec 32 := 1#32
  let v855 : BitVec 32 := Scalar.addi arg20 c1_i32_262
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v856 : BitVec 32 := Scalar.addi v855 arg21
  let v857 : Index := Scalar.indexCast v856
  let c800_263 : Index := 800#32
  ![v857.toNat, 800]
def k0_off930 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v862 : Index := Scalar.indexCast arg21
  let c800_264 : Index := 800#32
  ![v862.toNat, 800]
def k0_off931 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v866 : Index := Scalar.indexCast arg20
  let c816 : Index := 816#32
  ![v866.toNat, 816]
def k0_off932 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_265 : BitVec 32 := 1#32
  let v869 : BitVec 32 := Scalar.addi arg20 c1_i32_265
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v870 : BitVec 32 := Scalar.addi v869 arg21
  let v871 : Index := Scalar.indexCast v870
  let c816_266 : Index := 816#32
  ![v871.toNat, 816]
def k0_off933 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v876 : Index := Scalar.indexCast arg21
  let c816_267 : Index := 816#32
  ![v876.toNat, 816]
def k0_off934 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v880 : Index := Scalar.indexCast arg20
  let c832 : Index := 832#32
  ![v880.toNat, 832]
def k0_off935 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_268 : BitVec 32 := 1#32
  let v883 : BitVec 32 := Scalar.addi arg20 c1_i32_268
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v884 : BitVec 32 := Scalar.addi v883 arg21
  let v885 : Index := Scalar.indexCast v884
  let c832_269 : Index := 832#32
  ![v885.toNat, 832]
def k0_off936 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v890 : Index := Scalar.indexCast arg21
  let c832_270 : Index := 832#32
  ![v890.toNat, 832]
def k0_off937 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v894 : Index := Scalar.indexCast arg20
  let c848 : Index := 848#32
  ![v894.toNat, 848]
def k0_off938 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_271 : BitVec 32 := 1#32
  let v897 : BitVec 32 := Scalar.addi arg20 c1_i32_271
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v898 : BitVec 32 := Scalar.addi v897 arg21
  let v899 : Index := Scalar.indexCast v898
  let c848_272 : Index := 848#32
  ![v899.toNat, 848]
def k0_off939 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v904 : Index := Scalar.indexCast arg21
  let c848_273 : Index := 848#32
  ![v904.toNat, 848]
def k0_off940 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v908 : Index := Scalar.indexCast arg20
  let c864 : Index := 864#32
  ![v908.toNat, 864]
def k0_off941 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_274 : BitVec 32 := 1#32
  let v911 : BitVec 32 := Scalar.addi arg20 c1_i32_274
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v912 : BitVec 32 := Scalar.addi v911 arg21
  let v913 : Index := Scalar.indexCast v912
  let c864_275 : Index := 864#32
  ![v913.toNat, 864]
def k0_off942 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v918 : Index := Scalar.indexCast arg21
  let c864_276 : Index := 864#32
  ![v918.toNat, 864]
def k0_off943 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v922 : Index := Scalar.indexCast arg20
  let c880 : Index := 880#32
  ![v922.toNat, 880]
def k0_off944 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_277 : BitVec 32 := 1#32
  let v925 : BitVec 32 := Scalar.addi arg20 c1_i32_277
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v926 : BitVec 32 := Scalar.addi v925 arg21
  let v927 : Index := Scalar.indexCast v926
  let c880_278 : Index := 880#32
  ![v927.toNat, 880]
def k0_off945 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v932 : Index := Scalar.indexCast arg21
  let c880_279 : Index := 880#32
  ![v932.toNat, 880]
def k0_off946 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v936 : Index := Scalar.indexCast arg20
  let c896 : Index := 896#32
  ![v936.toNat, 896]
def k0_off947 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_280 : BitVec 32 := 1#32
  let v939 : BitVec 32 := Scalar.addi arg20 c1_i32_280
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v940 : BitVec 32 := Scalar.addi v939 arg21
  let v941 : Index := Scalar.indexCast v940
  let c896_281 : Index := 896#32
  ![v941.toNat, 896]
def k0_off948 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v946 : Index := Scalar.indexCast arg21
  let c896_282 : Index := 896#32
  ![v946.toNat, 896]
def k0_off949 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v950 : Index := Scalar.indexCast arg20
  let c912 : Index := 912#32
  ![v950.toNat, 912]
def k0_off950 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_283 : BitVec 32 := 1#32
  let v953 : BitVec 32 := Scalar.addi arg20 c1_i32_283
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v954 : BitVec 32 := Scalar.addi v953 arg21
  let v955 : Index := Scalar.indexCast v954
  let c912_284 : Index := 912#32
  ![v955.toNat, 912]
def k0_off951 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v960 : Index := Scalar.indexCast arg21
  let c912_285 : Index := 912#32
  ![v960.toNat, 912]
def k0_off952 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v964 : Index := Scalar.indexCast arg20
  let c928 : Index := 928#32
  ![v964.toNat, 928]
def k0_off953 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_286 : BitVec 32 := 1#32
  let v967 : BitVec 32 := Scalar.addi arg20 c1_i32_286
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v968 : BitVec 32 := Scalar.addi v967 arg21
  let v969 : Index := Scalar.indexCast v968
  let c928_287 : Index := 928#32
  ![v969.toNat, 928]
def k0_off954 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v974 : Index := Scalar.indexCast arg21
  let c928_288 : Index := 928#32
  ![v974.toNat, 928]
def k0_off955 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v978 : Index := Scalar.indexCast arg20
  let c944 : Index := 944#32
  ![v978.toNat, 944]
def k0_off956 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_289 : BitVec 32 := 1#32
  let v981 : BitVec 32 := Scalar.addi arg20 c1_i32_289
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v982 : BitVec 32 := Scalar.addi v981 arg21
  let v983 : Index := Scalar.indexCast v982
  let c944_290 : Index := 944#32
  ![v983.toNat, 944]
def k0_off957 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v988 : Index := Scalar.indexCast arg21
  let c944_291 : Index := 944#32
  ![v988.toNat, 944]
def k0_off958 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v992 : Index := Scalar.indexCast arg20
  let c960 : Index := 960#32
  ![v992.toNat, 960]
def k0_off959 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_292 : BitVec 32 := 1#32
  let v995 : BitVec 32 := Scalar.addi arg20 c1_i32_292
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v996 : BitVec 32 := Scalar.addi v995 arg21
  let v997 : Index := Scalar.indexCast v996
  let c960_293 : Index := 960#32
  ![v997.toNat, 960]
def k0_off960 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v1002 : Index := Scalar.indexCast arg21
  let c960_294 : Index := 960#32
  ![v1002.toNat, 960]
def k0_off961 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v1006 : Index := Scalar.indexCast arg20
  let c976 : Index := 976#32
  ![v1006.toNat, 976]
def k0_off962 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_295 : BitVec 32 := 1#32
  let v1009 : BitVec 32 := Scalar.addi arg20 c1_i32_295
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v1010 : BitVec 32 := Scalar.addi v1009 arg21
  let v1011 : Index := Scalar.indexCast v1010
  let c976_296 : Index := 976#32
  ![v1011.toNat, 976]
def k0_off963 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v1016 : Index := Scalar.indexCast arg21
  let c976_297 : Index := 976#32
  ![v1016.toNat, 976]
def k0_off964 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v1020 : Index := Scalar.indexCast arg20
  let c992 : Index := 992#32
  ![v1020.toNat, 992]
def k0_off965 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_298 : BitVec 32 := 1#32
  let v1023 : BitVec 32 := Scalar.addi arg20 c1_i32_298
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v1024 : BitVec 32 := Scalar.addi v1023 arg21
  let v1025 : Index := Scalar.indexCast v1024
  let c992_299 : Index := 992#32
  ![v1025.toNat, 992]
def k0_off966 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v1030 : Index := Scalar.indexCast arg21
  let c992_300 : Index := 992#32
  ![v1030.toNat, 992]
def k0_off967 (k0_t11 : Fin k0_t11_loop.trips) : Fin 2 → Nat :=
  let c0_i32_88 : BitVec 32 := 0#32
  let c1_i32_90 : BitVec 32 := 1#32
  let arg20 : BitVec 32 := Scf.iv c0_i32_88 c1_i32_90 k0_t11
  let v1034 : Index := Scalar.indexCast arg20
  let c1008 : Index := 1008#32
  ![v1034.toNat, 1008]
def k0_off968 (k0_t11 : Fin k0_t11_loop.trips) (k0_t13 : Fin (k0_t13_loop k0_t11).trips) : Fin 2 → Nat :=
  let c0_i32_88 : BitVec 32 := 0#32
  let c1_i32_90 : BitVec 32 := 1#32
  let arg20 : BitVec 32 := Scf.iv c0_i32_88 c1_i32_90 k0_t11
  let c1_i32_301 : BitVec 32 := 1#32
  let v1037 : BitVec 32 := Scalar.addi arg20 c1_i32_301
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v1038 : BitVec 32 := Scalar.addi v1037 arg21
  let v1039 : Index := Scalar.indexCast v1038
  let c1008_302 : Index := 1008#32
  ![v1039.toNat, 1008]
def k0_off969 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v1044 : Index := Scalar.indexCast arg21
  let c1008_303 : Index := 1008#32
  ![v1044.toNat, 1008]
def k0_off970 (k0_t11 : Fin k0_t11_loop.trips) (k0_t13 : Fin (k0_t13_loop k0_t11).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let c0_i32_304 : BitVec 32 := 0#32
  ![arg21.toNat, 0]
def k0_off971 (i : grid0.Coords) (k0_t11 : Fin k0_t11_loop.trips) (k0_t13 : Fin (k0_t13_loop k0_t11).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c1_i32_86 : BitVec 32 := 1#32
  let v116 : BitVec 32 := Scalar.addi v42 c1_i32_86
  let c16_i32_93 : BitVec 32 := 16#32
  let v119 : BitVec 32 := Scalar.muli v116 c16_i32_93
  let c0_i32_88 : BitVec 32 := 0#32
  let c1_i32_90 : BitVec 32 := 1#32
  let arg20 : BitVec 32 := Scf.iv c0_i32_88 c1_i32_90 k0_t11
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t13
  let v1048 : BitVec 32 := Scalar.addi v141 arg21
  let c0_i32_305 : BitVec 32 := 0#32
  ![v1048.toNat, 0]
@[reducible] def k0_t14_loop (k0_t11 : Fin k0_t11_loop.trips) : Scf.Loop 32 :=
  let c0_i32_108 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let c1_i32_110 : BitVec 32 := 1#32
  ⟨c0_i32_108, v151, c1_i32_110⟩
@[reducible] def k0_t15_loop (k0_t11 : Fin k0_t11_loop.trips) : Scf.Loop 32 :=
  let c0_i32_108 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t11
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let v148 : BitVec 32 := Scalar.addi c0_i32_108 v147
  let c1_i32_111 : BitVec 32 := 1#32
  ⟨v151, v148, c1_i32_111⟩
def k0_cond5 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32_47 : BitVec 32 := 28#32
  let v82 : BitVec 1 := Scalar.cmpi .slt v1 c28_i32_47
  let v83 : BitVec 32 := Scalar.extui v82
  let c0_i32_48 : BitVec 32 := 0#32
  let v84 : BitVec 1 := Scalar.cmpi .ne v83 c0_i32_48
  v84

@[reducible] def k0_t16_loop : Scf.Loop 32 :=
  let c0_i32_81 : BitVec 32 := 0#32
  let c8_i32 : BitVec 32 := 8#32
  let v114 : BitVec 32 := Scalar.addi c0_i32_81 c8_i32
  let c1_i32_82 : BitVec 32 := 1#32
  ⟨c0_i32_81, v114, c1_i32_82⟩
def k0_off972 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v125 : Index := Scalar.indexCast v121
  let c0 : Index := 0#32
  ![v125.toNat, 0]
def k0_off973 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v128 : Index := Scalar.indexCast v121
  let c16 : Index := 16#32
  ![v128.toNat, 16]
def k0_off974 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v131 : Index := Scalar.indexCast v121
  let c32 : Index := 32#32
  ![v131.toNat, 32]
def k0_off975 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v134 : Index := Scalar.indexCast v121
  let c48 : Index := 48#32
  ![v134.toNat, 48]
def k0_off976 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v137 : Index := Scalar.indexCast v121
  let c64 : Index := 64#32
  ![v137.toNat, 64]
def k0_off977 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v140 : Index := Scalar.indexCast v121
  let c80 : Index := 80#32
  ![v140.toNat, 80]
def k0_off978 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v143 : Index := Scalar.indexCast v121
  let c96 : Index := 96#32
  ![v143.toNat, 96]
def k0_off979 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v146 : Index := Scalar.indexCast v121
  let c112 : Index := 112#32
  ![v146.toNat, 112]
def k0_off980 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v149 : Index := Scalar.indexCast v121
  let c128 : Index := 128#32
  ![v149.toNat, 128]
def k0_off981 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v152 : Index := Scalar.indexCast v121
  let c144 : Index := 144#32
  ![v152.toNat, 144]
def k0_off982 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v155 : Index := Scalar.indexCast v121
  let c160 : Index := 160#32
  ![v155.toNat, 160]
def k0_off983 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v158 : Index := Scalar.indexCast v121
  let c176 : Index := 176#32
  ![v158.toNat, 176]
def k0_off984 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v161 : Index := Scalar.indexCast v121
  let c192 : Index := 192#32
  ![v161.toNat, 192]
def k0_off985 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v164 : Index := Scalar.indexCast v121
  let c208 : Index := 208#32
  ![v164.toNat, 208]
def k0_off986 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v167 : Index := Scalar.indexCast v121
  let c224 : Index := 224#32
  ![v167.toNat, 224]
def k0_off987 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v170 : Index := Scalar.indexCast v121
  let c240 : Index := 240#32
  ![v170.toNat, 240]
def k0_off988 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v173 : Index := Scalar.indexCast v121
  let c256 : Index := 256#32
  ![v173.toNat, 256]
def k0_off989 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v176 : Index := Scalar.indexCast v121
  let c272 : Index := 272#32
  ![v176.toNat, 272]
def k0_off990 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v179 : Index := Scalar.indexCast v121
  let c288 : Index := 288#32
  ![v179.toNat, 288]
def k0_off991 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v182 : Index := Scalar.indexCast v121
  let c304 : Index := 304#32
  ![v182.toNat, 304]
def k0_off992 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v185 : Index := Scalar.indexCast v121
  let c320 : Index := 320#32
  ![v185.toNat, 320]
def k0_off993 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v188 : Index := Scalar.indexCast v121
  let c336 : Index := 336#32
  ![v188.toNat, 336]
def k0_off994 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v191 : Index := Scalar.indexCast v121
  let c352 : Index := 352#32
  ![v191.toNat, 352]
def k0_off995 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v194 : Index := Scalar.indexCast v121
  let c368 : Index := 368#32
  ![v194.toNat, 368]
def k0_off996 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v197 : Index := Scalar.indexCast v121
  let c384 : Index := 384#32
  ![v197.toNat, 384]
def k0_off997 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v200 : Index := Scalar.indexCast v121
  let c400 : Index := 400#32
  ![v200.toNat, 400]
def k0_off998 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v203 : Index := Scalar.indexCast v121
  let c416 : Index := 416#32
  ![v203.toNat, 416]
def k0_off999 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v206 : Index := Scalar.indexCast v121
  let c432 : Index := 432#32
  ![v206.toNat, 432]
def k0_off1000 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v209 : Index := Scalar.indexCast v121
  let c448 : Index := 448#32
  ![v209.toNat, 448]
def k0_off1001 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v212 : Index := Scalar.indexCast v121
  let c464 : Index := 464#32
  ![v212.toNat, 464]
def k0_off1002 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v215 : Index := Scalar.indexCast v121
  let c480 : Index := 480#32
  ![v215.toNat, 480]
def k0_off1003 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v218 : Index := Scalar.indexCast v121
  let c496 : Index := 496#32
  ![v218.toNat, 496]
@[reducible] def k0_t17_loop : Scf.Loop 32 :=
  let c0_i32_97 : BitVec 32 := 0#32
  let c16_i32_98 : BitVec 32 := 16#32
  let v221 : BitVec 32 := Scalar.addi c0_i32_97 c16_i32_98
  let c1_i32_99 : BitVec 32 := 1#32
  ⟨c0_i32_97, v221, c1_i32_99⟩
def k0_off1004 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v576 : Index := Scalar.indexCast arg22
  let c0_212 : Index := 0#32
  ![v576.toNat, 0]
def k0_off1005 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v585 : Index := Scalar.indexCast arg22
  let c16_214 : Index := 16#32
  ![v585.toNat, 16]
def k0_off1006 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v594 : Index := Scalar.indexCast arg22
  let c32_216 : Index := 32#32
  ![v594.toNat, 32]
def k0_off1007 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v603 : Index := Scalar.indexCast arg22
  let c48_218 : Index := 48#32
  ![v603.toNat, 48]
def k0_off1008 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v612 : Index := Scalar.indexCast arg22
  let c64_220 : Index := 64#32
  ![v612.toNat, 64]
def k0_off1009 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v621 : Index := Scalar.indexCast arg22
  let c80_222 : Index := 80#32
  ![v621.toNat, 80]
def k0_off1010 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v630 : Index := Scalar.indexCast arg22
  let c96_224 : Index := 96#32
  ![v630.toNat, 96]
def k0_off1011 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v639 : Index := Scalar.indexCast arg22
  let c112_226 : Index := 112#32
  ![v639.toNat, 112]
def k0_off1012 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v648 : Index := Scalar.indexCast arg22
  let c128_228 : Index := 128#32
  ![v648.toNat, 128]
def k0_off1013 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v657 : Index := Scalar.indexCast arg22
  let c144_230 : Index := 144#32
  ![v657.toNat, 144]
def k0_off1014 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v666 : Index := Scalar.indexCast arg22
  let c160_232 : Index := 160#32
  ![v666.toNat, 160]
def k0_off1015 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v675 : Index := Scalar.indexCast arg22
  let c176_234 : Index := 176#32
  ![v675.toNat, 176]
def k0_off1016 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v684 : Index := Scalar.indexCast arg22
  let c192_236 : Index := 192#32
  ![v684.toNat, 192]
def k0_off1017 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v693 : Index := Scalar.indexCast arg22
  let c208_238 : Index := 208#32
  ![v693.toNat, 208]
def k0_off1018 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v702 : Index := Scalar.indexCast arg22
  let c224_240 : Index := 224#32
  ![v702.toNat, 224]
def k0_off1019 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v711 : Index := Scalar.indexCast arg22
  let c240_242 : Index := 240#32
  ![v711.toNat, 240]
def k0_off1020 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v720 : Index := Scalar.indexCast arg22
  let c256_244 : Index := 256#32
  ![v720.toNat, 256]
def k0_off1021 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v729 : Index := Scalar.indexCast arg22
  let c272_246 : Index := 272#32
  ![v729.toNat, 272]
def k0_off1022 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v738 : Index := Scalar.indexCast arg22
  let c288_248 : Index := 288#32
  ![v738.toNat, 288]
def k0_off1023 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v747 : Index := Scalar.indexCast arg22
  let c304_250 : Index := 304#32
  ![v747.toNat, 304]
def k0_off1024 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v756 : Index := Scalar.indexCast arg22
  let c320_252 : Index := 320#32
  ![v756.toNat, 320]
def k0_off1025 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v765 : Index := Scalar.indexCast arg22
  let c336_254 : Index := 336#32
  ![v765.toNat, 336]
def k0_off1026 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v774 : Index := Scalar.indexCast arg22
  let c352_256 : Index := 352#32
  ![v774.toNat, 352]
def k0_off1027 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v783 : Index := Scalar.indexCast arg22
  let c368_258 : Index := 368#32
  ![v783.toNat, 368]
def k0_off1028 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v792 : Index := Scalar.indexCast arg22
  let c384_260 : Index := 384#32
  ![v792.toNat, 384]
def k0_off1029 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v801 : Index := Scalar.indexCast arg22
  let c400_262 : Index := 400#32
  ![v801.toNat, 400]
def k0_off1030 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v810 : Index := Scalar.indexCast arg22
  let c416_264 : Index := 416#32
  ![v810.toNat, 416]
def k0_off1031 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v819 : Index := Scalar.indexCast arg22
  let c432_266 : Index := 432#32
  ![v819.toNat, 432]
def k0_off1032 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v828 : Index := Scalar.indexCast arg22
  let c448_268 : Index := 448#32
  ![v828.toNat, 448]
def k0_off1033 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v837 : Index := Scalar.indexCast arg22
  let c464_270 : Index := 464#32
  ![v837.toNat, 464]
def k0_off1034 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v846 : Index := Scalar.indexCast arg22
  let c480_272 : Index := 480#32
  ![v846.toNat, 480]
def k0_off1035 (k0_t17 : Fin k0_t17_loop.trips) : Fin 2 → Nat :=
  let c0_i32_97 : BitVec 32 := 0#32
  let c1_i32_99 : BitVec 32 := 1#32
  let arg22 : BitVec 32 := Scf.iv c0_i32_97 c1_i32_99 k0_t17
  let v855 : Index := Scalar.indexCast arg22
  let c496_274 : Index := 496#32
  ![v855.toNat, 496]
def k0_off1036 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v222 : Index := Scalar.indexCast v121
  let c512 : Index := 512#32
  ![v222.toNat, 512]
def k0_off1037 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v225 : Index := Scalar.indexCast v121
  let c528 : Index := 528#32
  ![v225.toNat, 528]
def k0_off1038 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v228 : Index := Scalar.indexCast v121
  let c544 : Index := 544#32
  ![v228.toNat, 544]
def k0_off1039 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v231 : Index := Scalar.indexCast v121
  let c560 : Index := 560#32
  ![v231.toNat, 560]
def k0_off1040 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v234 : Index := Scalar.indexCast v121
  let c576 : Index := 576#32
  ![v234.toNat, 576]
def k0_off1041 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v237 : Index := Scalar.indexCast v121
  let c592 : Index := 592#32
  ![v237.toNat, 592]
def k0_off1042 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v240 : Index := Scalar.indexCast v121
  let c608 : Index := 608#32
  ![v240.toNat, 608]
def k0_off1043 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v243 : Index := Scalar.indexCast v121
  let c624 : Index := 624#32
  ![v243.toNat, 624]
def k0_off1044 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v246 : Index := Scalar.indexCast v121
  let c640 : Index := 640#32
  ![v246.toNat, 640]
def k0_off1045 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v249 : Index := Scalar.indexCast v121
  let c656 : Index := 656#32
  ![v249.toNat, 656]
def k0_off1046 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v252 : Index := Scalar.indexCast v121
  let c672 : Index := 672#32
  ![v252.toNat, 672]
def k0_off1047 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v255 : Index := Scalar.indexCast v121
  let c688 : Index := 688#32
  ![v255.toNat, 688]
def k0_off1048 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v258 : Index := Scalar.indexCast v121
  let c704 : Index := 704#32
  ![v258.toNat, 704]
def k0_off1049 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v261 : Index := Scalar.indexCast v121
  let c720 : Index := 720#32
  ![v261.toNat, 720]
def k0_off1050 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v264 : Index := Scalar.indexCast v121
  let c736 : Index := 736#32
  ![v264.toNat, 736]
def k0_off1051 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v267 : Index := Scalar.indexCast v121
  let c752 : Index := 752#32
  ![v267.toNat, 752]
def k0_off1052 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v270 : Index := Scalar.indexCast v121
  let c768 : Index := 768#32
  ![v270.toNat, 768]
def k0_off1053 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v273 : Index := Scalar.indexCast v121
  let c784 : Index := 784#32
  ![v273.toNat, 784]
def k0_off1054 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v276 : Index := Scalar.indexCast v121
  let c800 : Index := 800#32
  ![v276.toNat, 800]
def k0_off1055 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v279 : Index := Scalar.indexCast v121
  let c816 : Index := 816#32
  ![v279.toNat, 816]
def k0_off1056 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v282 : Index := Scalar.indexCast v121
  let c832 : Index := 832#32
  ![v282.toNat, 832]
def k0_off1057 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v285 : Index := Scalar.indexCast v121
  let c848 : Index := 848#32
  ![v285.toNat, 848]
def k0_off1058 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v288 : Index := Scalar.indexCast v121
  let c864 : Index := 864#32
  ![v288.toNat, 864]
def k0_off1059 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v291 : Index := Scalar.indexCast v121
  let c880 : Index := 880#32
  ![v291.toNat, 880]
def k0_off1060 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v294 : Index := Scalar.indexCast v121
  let c896 : Index := 896#32
  ![v294.toNat, 896]
def k0_off1061 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v297 : Index := Scalar.indexCast v121
  let c912 : Index := 912#32
  ![v297.toNat, 912]
def k0_off1062 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v300 : Index := Scalar.indexCast v121
  let c928 : Index := 928#32
  ![v300.toNat, 928]
def k0_off1063 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v303 : Index := Scalar.indexCast v121
  let c944 : Index := 944#32
  ![v303.toNat, 944]
def k0_off1064 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v306 : Index := Scalar.indexCast v121
  let c960 : Index := 960#32
  ![v306.toNat, 960]
def k0_off1065 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v309 : Index := Scalar.indexCast v121
  let c976 : Index := 976#32
  ![v309.toNat, 976]
def k0_off1066 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v312 : Index := Scalar.indexCast v121
  let c992 : Index := 992#32
  ![v312.toNat, 992]
def k0_off1067 (k0_t16 : Fin k0_t16_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v315 : Index := Scalar.indexCast v121
  let c1008 : Index := 1008#32
  ![v315.toNat, 1008]
@[reducible] def k0_t18_loop : Scf.Loop 32 :=
  let c0_i32_102 : BitVec 32 := 0#32
  let c16_i32_103 : BitVec 32 := 16#32
  let v318 : BitVec 32 := Scalar.addi c0_i32_102 c16_i32_103
  let c1_i32_104 : BitVec 32 := 1#32
  ⟨c0_i32_102, v318, c1_i32_104⟩
def k0_off1068 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v576 : Index := Scalar.indexCast arg22
  let c512_212 : Index := 512#32
  ![v576.toNat, 512]
def k0_off1069 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v585 : Index := Scalar.indexCast arg22
  let c528_214 : Index := 528#32
  ![v585.toNat, 528]
def k0_off1070 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v594 : Index := Scalar.indexCast arg22
  let c544_216 : Index := 544#32
  ![v594.toNat, 544]
def k0_off1071 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v603 : Index := Scalar.indexCast arg22
  let c560_218 : Index := 560#32
  ![v603.toNat, 560]
def k0_off1072 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v612 : Index := Scalar.indexCast arg22
  let c576_220 : Index := 576#32
  ![v612.toNat, 576]
def k0_off1073 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v621 : Index := Scalar.indexCast arg22
  let c592_222 : Index := 592#32
  ![v621.toNat, 592]
def k0_off1074 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v630 : Index := Scalar.indexCast arg22
  let c608_224 : Index := 608#32
  ![v630.toNat, 608]
def k0_off1075 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v639 : Index := Scalar.indexCast arg22
  let c624_226 : Index := 624#32
  ![v639.toNat, 624]
def k0_off1076 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v648 : Index := Scalar.indexCast arg22
  let c640_228 : Index := 640#32
  ![v648.toNat, 640]
def k0_off1077 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v657 : Index := Scalar.indexCast arg22
  let c656_230 : Index := 656#32
  ![v657.toNat, 656]
def k0_off1078 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v666 : Index := Scalar.indexCast arg22
  let c672_232 : Index := 672#32
  ![v666.toNat, 672]
def k0_off1079 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v675 : Index := Scalar.indexCast arg22
  let c688_234 : Index := 688#32
  ![v675.toNat, 688]
def k0_off1080 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v684 : Index := Scalar.indexCast arg22
  let c704_236 : Index := 704#32
  ![v684.toNat, 704]
def k0_off1081 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v693 : Index := Scalar.indexCast arg22
  let c720_238 : Index := 720#32
  ![v693.toNat, 720]
def k0_off1082 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v702 : Index := Scalar.indexCast arg22
  let c736_240 : Index := 736#32
  ![v702.toNat, 736]
def k0_off1083 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v711 : Index := Scalar.indexCast arg22
  let c752_242 : Index := 752#32
  ![v711.toNat, 752]
def k0_off1084 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v720 : Index := Scalar.indexCast arg22
  let c768_244 : Index := 768#32
  ![v720.toNat, 768]
def k0_off1085 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v729 : Index := Scalar.indexCast arg22
  let c784_246 : Index := 784#32
  ![v729.toNat, 784]
def k0_off1086 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v738 : Index := Scalar.indexCast arg22
  let c800_248 : Index := 800#32
  ![v738.toNat, 800]
def k0_off1087 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v747 : Index := Scalar.indexCast arg22
  let c816_250 : Index := 816#32
  ![v747.toNat, 816]
def k0_off1088 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v756 : Index := Scalar.indexCast arg22
  let c832_252 : Index := 832#32
  ![v756.toNat, 832]
def k0_off1089 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v765 : Index := Scalar.indexCast arg22
  let c848_254 : Index := 848#32
  ![v765.toNat, 848]
def k0_off1090 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v774 : Index := Scalar.indexCast arg22
  let c864_256 : Index := 864#32
  ![v774.toNat, 864]
def k0_off1091 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v783 : Index := Scalar.indexCast arg22
  let c880_258 : Index := 880#32
  ![v783.toNat, 880]
def k0_off1092 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v792 : Index := Scalar.indexCast arg22
  let c896_260 : Index := 896#32
  ![v792.toNat, 896]
def k0_off1093 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v801 : Index := Scalar.indexCast arg22
  let c912_262 : Index := 912#32
  ![v801.toNat, 912]
def k0_off1094 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v810 : Index := Scalar.indexCast arg22
  let c928_264 : Index := 928#32
  ![v810.toNat, 928]
def k0_off1095 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v819 : Index := Scalar.indexCast arg22
  let c944_266 : Index := 944#32
  ![v819.toNat, 944]
def k0_off1096 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v828 : Index := Scalar.indexCast arg22
  let c960_268 : Index := 960#32
  ![v828.toNat, 960]
def k0_off1097 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v837 : Index := Scalar.indexCast arg22
  let c976_270 : Index := 976#32
  ![v837.toNat, 976]
def k0_off1098 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v846 : Index := Scalar.indexCast arg22
  let c992_272 : Index := 992#32
  ![v846.toNat, 992]
def k0_off1099 (k0_t18 : Fin k0_t18_loop.trips) : Fin 2 → Nat :=
  let c0_i32_102 : BitVec 32 := 0#32
  let c1_i32_104 : BitVec 32 := 1#32
  let arg22 : BitVec 32 := Scf.iv c0_i32_102 c1_i32_104 k0_t18
  let v855 : Index := Scalar.indexCast arg22
  let c1008_274 : Index := 1008#32
  ![v855.toNat, 1008]
def k0_off1100 (i : grid0.Coords) (k0_t16 : Fin k0_t16_loop.trips) (c0_i32_93 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32 : BitVec 32 := 7#32
  let v2 : BitVec 1 := Scalar.cmpi .sge v1 c7_i32
  let v3 : BitVec 32 := Scalar.extui v2
  let c13_i32 : BitVec 32 := 13#32
  let v4 : BitVec 1 := Scalar.cmpi .sge v1 c13_i32
  let v5 : BitVec 32 := Scalar.extui v4
  let v6 : BitVec 32 := Scalar.addi v3 v5
  let c18_i32 : BitVec 32 := 18#32
  let v7 : BitVec 1 := Scalar.cmpi .sge v1 c18_i32
  let v8 : BitVec 32 := Scalar.extui v7
  let v9 : BitVec 32 := Scalar.addi v6 v8
  let c22_i32 : BitVec 32 := 22#32
  let v10 : BitVec 1 := Scalar.cmpi .sge v1 c22_i32
  let v11 : BitVec 32 := Scalar.extui v10
  let v12 : BitVec 32 := Scalar.addi v9 v11
  let c25_i32 : BitVec 32 := 25#32
  let v13 : BitVec 1 := Scalar.cmpi .sge v1 c25_i32
  let v14 : BitVec 32 := Scalar.extui v13
  let v15 : BitVec 32 := Scalar.addi v12 v14
  let c27_i32 : BitVec 32 := 27#32
  let v16 : BitVec 1 := Scalar.cmpi .sge v1 c27_i32
  let v17 : BitVec 32 := Scalar.extui v16
  let v18 : BitVec 32 := Scalar.addi v15 v17
  let c16_i32_106 : BitVec 32 := 16#32
  let v319 : BitVec 32 := Scalar.muli v18 c16_i32_106
  let c2_i32_92 : BitVec 32 := 2#32
  let c0_i32_81 : BitVec 32 := 0#32
  let c1_i32_82 : BitVec 32 := 1#32
  let arg20 : BitVec 32 := Scf.iv c0_i32_81 c1_i32_82 k0_t16
  let v120 : BitVec 32 := Scalar.muli c2_i32_92 arg20
  let v121 : BitVec 32 := Scalar.addi v120 c0_i32_93
  let v320 : BitVec 32 := Scalar.addi v319 v121
  let c127_i32 : BitVec 32 := 127#32
  let v321 : BitVec 32 := Scalar.muli v320 c127_i32
  let c1_i32_107 : BitVec 32 := 1#32
  let v322 : BitVec 32 := Scalar.subi v320 c1_i32_107
  let v323 : BitVec 32 := Scalar.muli v320 v322
  let c0_i32_109 : BitVec 32 := 0#32
  let v325 : BitVec 1 := Scalar.cmpi .sgt v323 c0_i32_109
  let v326 : BitVec 32 := Scalar.extui v325
  let c0_i32_110 : BitVec 32 := 0#32
  let v327 : BitVec 1 := Scalar.cmpi .slt v323 c0_i32_110
  let v328 : BitVec 32 := Scalar.extui v327
  let v329 : BitVec 32 := Scalar.subi v326 v328
  let c2_i32_108 : BitVec 32 := 2#32
  let c0_i32_111 : BitVec 32 := 0#32
  let v330 : BitVec 1 := Scalar.cmpi .sgt c2_i32_108 c0_i32_111
  let v331 : BitVec 32 := Scalar.extui v330
  let c0_i32_112 : BitVec 32 := 0#32
  let v332 : BitVec 1 := Scalar.cmpi .slt c2_i32_108 c0_i32_112
  let v333 : BitVec 32 := Scalar.extui v332
  let v334 : BitVec 32 := Scalar.subi v331 v333
  let v335 : BitVec 1 := Scalar.cmpi .ne v329 v334
  let v336 : BitVec 32 := Scalar.remsi v323 c2_i32_108
  let c0_i32_113 : BitVec 32 := 0#32
  let v337 : BitVec 1 := Scalar.cmpi .ne v336 c0_i32_113
  let v338 : BitVec 1 := Scalar.andi v335 v337
  let v324 : BitVec 32 := Scalar.divsi v323 c2_i32_108
  let c1_i32_114 : BitVec 32 := 1#32
  let v339 : BitVec 32 := Scalar.subi v324 c1_i32_114
  let v340 : BitVec 32 := Scalar.select v338 v339 v324
  let v341 : BitVec 32 := Scalar.subi v321 v340
  let c15_i32 : BitVec 32 := 15#32
  let v19 : BitVec 32 := Scalar.subi c15_i32 v18
  let v20 : BitVec 32 := Scalar.muli v18 v19
  let c0_i32 : BitVec 32 := 0#32
  let v22 : BitVec 1 := Scalar.cmpi .sgt v20 c0_i32
  let v23 : BitVec 32 := Scalar.extui v22
  let c0_i32_1 : BitVec 32 := 0#32
  let v24 : BitVec 1 := Scalar.cmpi .slt v20 c0_i32_1
  let v25 : BitVec 32 := Scalar.extui v24
  let v26 : BitVec 32 := Scalar.subi v23 v25
  let c2_i32_0 : BitVec 32 := 2#32
  let c0_i32_2 : BitVec 32 := 0#32
  let v27 : BitVec 1 := Scalar.cmpi .sgt c2_i32_0 c0_i32_2
  let v28 : BitVec 32 := Scalar.extui v27
  let c0_i32_3 : BitVec 32 := 0#32
  let v29 : BitVec 1 := Scalar.cmpi .slt c2_i32_0 c0_i32_3
  let v30 : BitVec 32 := Scalar.extui v29
  let v31 : BitVec 32 := Scalar.subi v28 v30
  let v32 : BitVec 1 := Scalar.cmpi .ne v26 v31
  let v33 : BitVec 32 := Scalar.remsi v20 c2_i32_0
  let c0_i32_4 : BitVec 32 := 0#32
  let v34 : BitVec 1 := Scalar.cmpi .ne v33 c0_i32_4
  let v35 : BitVec 1 := Scalar.andi v32 v34
  let v21 : BitVec 32 := Scalar.divsi v20 c2_i32_0
  let c1_i32 : BitVec 32 := 1#32
  let v36 : BitVec 32 := Scalar.subi v21 c1_i32
  let v37 : BitVec 32 := Scalar.select v35 v36 v21
  let v38 : BitVec 32 := Scalar.subi v1 v37
  let v39 : BitVec 32 := Scalar.addi v38 v18
  let c1_i32_5 : BitVec 32 := 1#32
  let v40 : BitVec 32 := Scalar.addi v39 c1_i32_5
  let c16_i32_115 : BitVec 32 := 16#32
  let v342 : BitVec 32 := Scalar.muli v40 c16_i32_115
  let v343 : BitVec 32 := Scalar.addi v341 v342
  let v344 : BitVec 32 := Scalar.subi v343 v320
  let c1_i32_116 : BitVec 32 := 1#32
  let v345 : BitVec 32 := Scalar.subi v344 c1_i32_116
  let c0_i32_117 : BitVec 32 := 0#32
  ![v345.toNat, 0]
@[reducible] def k0_t19_loop : Scf.Loop 32 :=
  let c0_i32_156 : BitVec 32 := 0#32
  let c16_i32_157 : BitVec 32 := 16#32
  let v449 : BitVec 32 := Scalar.addi c0_i32_156 c16_i32_157
  let c1_i32_158 : BitVec 32 := 1#32
  ⟨c0_i32_156, v449, c1_i32_158⟩
def k0_off1101 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v576 : Index := Scalar.indexCast arg22
  let c0_212 : Index := 0#32
  ![v576.toNat, 0]
def k0_off1102 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v585 : Index := Scalar.indexCast arg22
  let c16_214 : Index := 16#32
  ![v585.toNat, 16]
def k0_off1103 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v594 : Index := Scalar.indexCast arg22
  let c32_216 : Index := 32#32
  ![v594.toNat, 32]
def k0_off1104 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v603 : Index := Scalar.indexCast arg22
  let c48_218 : Index := 48#32
  ![v603.toNat, 48]
def k0_off1105 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v612 : Index := Scalar.indexCast arg22
  let c64_220 : Index := 64#32
  ![v612.toNat, 64]
def k0_off1106 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v621 : Index := Scalar.indexCast arg22
  let c80_222 : Index := 80#32
  ![v621.toNat, 80]
def k0_off1107 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v630 : Index := Scalar.indexCast arg22
  let c96_224 : Index := 96#32
  ![v630.toNat, 96]
def k0_off1108 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v639 : Index := Scalar.indexCast arg22
  let c112_226 : Index := 112#32
  ![v639.toNat, 112]
def k0_off1109 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v648 : Index := Scalar.indexCast arg22
  let c128_228 : Index := 128#32
  ![v648.toNat, 128]
def k0_off1110 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v657 : Index := Scalar.indexCast arg22
  let c144_230 : Index := 144#32
  ![v657.toNat, 144]
def k0_off1111 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v666 : Index := Scalar.indexCast arg22
  let c160_232 : Index := 160#32
  ![v666.toNat, 160]
def k0_off1112 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v675 : Index := Scalar.indexCast arg22
  let c176_234 : Index := 176#32
  ![v675.toNat, 176]
def k0_off1113 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v684 : Index := Scalar.indexCast arg22
  let c192_236 : Index := 192#32
  ![v684.toNat, 192]
def k0_off1114 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v693 : Index := Scalar.indexCast arg22
  let c208_238 : Index := 208#32
  ![v693.toNat, 208]
def k0_off1115 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v702 : Index := Scalar.indexCast arg22
  let c224_240 : Index := 224#32
  ![v702.toNat, 224]
def k0_off1116 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v711 : Index := Scalar.indexCast arg22
  let c240_242 : Index := 240#32
  ![v711.toNat, 240]
def k0_off1117 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v720 : Index := Scalar.indexCast arg22
  let c256_244 : Index := 256#32
  ![v720.toNat, 256]
def k0_off1118 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v729 : Index := Scalar.indexCast arg22
  let c272_246 : Index := 272#32
  ![v729.toNat, 272]
def k0_off1119 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v738 : Index := Scalar.indexCast arg22
  let c288_248 : Index := 288#32
  ![v738.toNat, 288]
def k0_off1120 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v747 : Index := Scalar.indexCast arg22
  let c304_250 : Index := 304#32
  ![v747.toNat, 304]
def k0_off1121 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v756 : Index := Scalar.indexCast arg22
  let c320_252 : Index := 320#32
  ![v756.toNat, 320]
def k0_off1122 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v765 : Index := Scalar.indexCast arg22
  let c336_254 : Index := 336#32
  ![v765.toNat, 336]
def k0_off1123 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v774 : Index := Scalar.indexCast arg22
  let c352_256 : Index := 352#32
  ![v774.toNat, 352]
def k0_off1124 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v783 : Index := Scalar.indexCast arg22
  let c368_258 : Index := 368#32
  ![v783.toNat, 368]
def k0_off1125 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v792 : Index := Scalar.indexCast arg22
  let c384_260 : Index := 384#32
  ![v792.toNat, 384]
def k0_off1126 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v801 : Index := Scalar.indexCast arg22
  let c400_262 : Index := 400#32
  ![v801.toNat, 400]
def k0_off1127 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v810 : Index := Scalar.indexCast arg22
  let c416_264 : Index := 416#32
  ![v810.toNat, 416]
def k0_off1128 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v819 : Index := Scalar.indexCast arg22
  let c432_266 : Index := 432#32
  ![v819.toNat, 432]
def k0_off1129 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v828 : Index := Scalar.indexCast arg22
  let c448_268 : Index := 448#32
  ![v828.toNat, 448]
def k0_off1130 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v837 : Index := Scalar.indexCast arg22
  let c464_270 : Index := 464#32
  ![v837.toNat, 464]
def k0_off1131 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v846 : Index := Scalar.indexCast arg22
  let c480_272 : Index := 480#32
  ![v846.toNat, 480]
def k0_off1132 (k0_t19 : Fin k0_t19_loop.trips) : Fin 2 → Nat :=
  let c0_i32_156 : BitVec 32 := 0#32
  let c1_i32_158 : BitVec 32 := 1#32
  let arg22 : BitVec 32 := Scf.iv c0_i32_156 c1_i32_158 k0_t19
  let v855 : Index := Scalar.indexCast arg22
  let c496_274 : Index := 496#32
  ![v855.toNat, 496]
@[reducible] def k0_t20_loop : Scf.Loop 32 :=
  let c0_i32_193 : BitVec 32 := 0#32
  let c16_i32_194 : BitVec 32 := 16#32
  let v546 : BitVec 32 := Scalar.addi c0_i32_193 c16_i32_194
  let c1_i32_195 : BitVec 32 := 1#32
  ⟨c0_i32_193, v546, c1_i32_195⟩
def k0_off1133 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v576 : Index := Scalar.indexCast arg22
  let c512_212 : Index := 512#32
  ![v576.toNat, 512]
def k0_off1134 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v585 : Index := Scalar.indexCast arg22
  let c528_214 : Index := 528#32
  ![v585.toNat, 528]
def k0_off1135 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v594 : Index := Scalar.indexCast arg22
  let c544_216 : Index := 544#32
  ![v594.toNat, 544]
def k0_off1136 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v603 : Index := Scalar.indexCast arg22
  let c560_218 : Index := 560#32
  ![v603.toNat, 560]
def k0_off1137 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v612 : Index := Scalar.indexCast arg22
  let c576_220 : Index := 576#32
  ![v612.toNat, 576]
def k0_off1138 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v621 : Index := Scalar.indexCast arg22
  let c592_222 : Index := 592#32
  ![v621.toNat, 592]
def k0_off1139 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v630 : Index := Scalar.indexCast arg22
  let c608_224 : Index := 608#32
  ![v630.toNat, 608]
def k0_off1140 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v639 : Index := Scalar.indexCast arg22
  let c624_226 : Index := 624#32
  ![v639.toNat, 624]
def k0_off1141 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v648 : Index := Scalar.indexCast arg22
  let c640_228 : Index := 640#32
  ![v648.toNat, 640]
def k0_off1142 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v657 : Index := Scalar.indexCast arg22
  let c656_230 : Index := 656#32
  ![v657.toNat, 656]
def k0_off1143 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v666 : Index := Scalar.indexCast arg22
  let c672_232 : Index := 672#32
  ![v666.toNat, 672]
def k0_off1144 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v675 : Index := Scalar.indexCast arg22
  let c688_234 : Index := 688#32
  ![v675.toNat, 688]
def k0_off1145 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v684 : Index := Scalar.indexCast arg22
  let c704_236 : Index := 704#32
  ![v684.toNat, 704]
def k0_off1146 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v693 : Index := Scalar.indexCast arg22
  let c720_238 : Index := 720#32
  ![v693.toNat, 720]
def k0_off1147 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v702 : Index := Scalar.indexCast arg22
  let c736_240 : Index := 736#32
  ![v702.toNat, 736]
def k0_off1148 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v711 : Index := Scalar.indexCast arg22
  let c752_242 : Index := 752#32
  ![v711.toNat, 752]
def k0_off1149 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v720 : Index := Scalar.indexCast arg22
  let c768_244 : Index := 768#32
  ![v720.toNat, 768]
def k0_off1150 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v729 : Index := Scalar.indexCast arg22
  let c784_246 : Index := 784#32
  ![v729.toNat, 784]
def k0_off1151 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v738 : Index := Scalar.indexCast arg22
  let c800_248 : Index := 800#32
  ![v738.toNat, 800]
def k0_off1152 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v747 : Index := Scalar.indexCast arg22
  let c816_250 : Index := 816#32
  ![v747.toNat, 816]
def k0_off1153 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v756 : Index := Scalar.indexCast arg22
  let c832_252 : Index := 832#32
  ![v756.toNat, 832]
def k0_off1154 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v765 : Index := Scalar.indexCast arg22
  let c848_254 : Index := 848#32
  ![v765.toNat, 848]
def k0_off1155 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v774 : Index := Scalar.indexCast arg22
  let c864_256 : Index := 864#32
  ![v774.toNat, 864]
def k0_off1156 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v783 : Index := Scalar.indexCast arg22
  let c880_258 : Index := 880#32
  ![v783.toNat, 880]
def k0_off1157 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v792 : Index := Scalar.indexCast arg22
  let c896_260 : Index := 896#32
  ![v792.toNat, 896]
def k0_off1158 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v801 : Index := Scalar.indexCast arg22
  let c912_262 : Index := 912#32
  ![v801.toNat, 912]
def k0_off1159 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v810 : Index := Scalar.indexCast arg22
  let c928_264 : Index := 928#32
  ![v810.toNat, 928]
def k0_off1160 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v819 : Index := Scalar.indexCast arg22
  let c944_266 : Index := 944#32
  ![v819.toNat, 944]
def k0_off1161 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v828 : Index := Scalar.indexCast arg22
  let c960_268 : Index := 960#32
  ![v828.toNat, 960]
def k0_off1162 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v837 : Index := Scalar.indexCast arg22
  let c976_270 : Index := 976#32
  ![v837.toNat, 976]
def k0_off1163 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v846 : Index := Scalar.indexCast arg22
  let c992_272 : Index := 992#32
  ![v846.toNat, 992]
def k0_off1164 (k0_t20 : Fin k0_t20_loop.trips) : Fin 2 → Nat :=
  let c0_i32_193 : BitVec 32 := 0#32
  let c1_i32_195 : BitVec 32 := 1#32
  let arg22 : BitVec 32 := Scf.iv c0_i32_193 c1_i32_195 k0_t20
  let v855 : Index := Scalar.indexCast arg22
  let c1008_274 : Index := 1008#32
  ![v855.toNat, 1008]
def k0_cond8 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32_49 : BitVec 32 := 28#32
  let v85 : BitVec 1 := Scalar.cmpi .sge v1 c28_i32_49
  let v86 : BitVec 32 := Scalar.extui v85
  let c0_i32_50 : BitVec 32 := 0#32
  let v87 : BitVec 1 := Scalar.cmpi .ne v86 c0_i32_50
  v87

@[reducible] def k0_t21_loop : Scf.Loop 32 :=
  let c0_i32_82 : BitVec 32 := 0#32
  let c15_i32_83 : BitVec 32 := 15#32
  let v115 : BitVec 32 := Scalar.addi c0_i32_82 c15_i32_83
  let c1_i32_84 : BitVec 32 := 1#32
  ⟨c0_i32_82, v115, c1_i32_84⟩
@[reducible] def k0_t22_loop (k0_t21 : Fin k0_t21_loop.trips) : Scf.Loop 32 :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_105 : BitVec 32 := 1#32
  ⟨c0_i32_103, v146, c1_i32_105⟩
def k0_off1165 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v152 : Index := Scalar.indexCast arg20
  let c0 : Index := 0#32
  ![v152.toNat, 0]
def k0_off1166 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_112 : BitVec 32 := 1#32
  let v155 : BitVec 32 := Scalar.addi arg20 c1_i32_112
  let c0_i32_103 : BitVec 32 := 0#32
  let c1_i32_105 : BitVec 32 := 1#32
  let arg21 : BitVec 32 := Scf.iv c0_i32_103 c1_i32_105 k0_t22
  let v156 : BitVec 32 := Scalar.addi v155 arg21
  let v157 : Index := Scalar.indexCast v156
  let c0_113 : Index := 0#32
  ![v157.toNat, 0]
def k0_off1167 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v162 : Index := Scalar.indexCast arg21
  let c0_114 : Index := 0#32
  ![v162.toNat, 0]
def k0_off1168 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v166 : Index := Scalar.indexCast arg20
  let c16 : Index := 16#32
  ![v166.toNat, 16]
def k0_off1169 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_115 : BitVec 32 := 1#32
  let v169 : BitVec 32 := Scalar.addi arg20 c1_i32_115
  let c0_i32_103 : BitVec 32 := 0#32
  let c1_i32_105 : BitVec 32 := 1#32
  let arg21 : BitVec 32 := Scf.iv c0_i32_103 c1_i32_105 k0_t22
  let v170 : BitVec 32 := Scalar.addi v169 arg21
  let v171 : Index := Scalar.indexCast v170
  let c16_116 : Index := 16#32
  ![v171.toNat, 16]
def k0_off1170 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v176 : Index := Scalar.indexCast arg21
  let c16_117 : Index := 16#32
  ![v176.toNat, 16]
def k0_off1171 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v180 : Index := Scalar.indexCast arg20
  let c32 : Index := 32#32
  ![v180.toNat, 32]
def k0_off1172 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_118 : BitVec 32 := 1#32
  let v183 : BitVec 32 := Scalar.addi arg20 c1_i32_118
  let c0_i32_103 : BitVec 32 := 0#32
  let c1_i32_105 : BitVec 32 := 1#32
  let arg21 : BitVec 32 := Scf.iv c0_i32_103 c1_i32_105 k0_t22
  let v184 : BitVec 32 := Scalar.addi v183 arg21
  let v185 : Index := Scalar.indexCast v184
  let c32_119 : Index := 32#32
  ![v185.toNat, 32]
def k0_off1173 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v190 : Index := Scalar.indexCast arg21
  let c32_120 : Index := 32#32
  ![v190.toNat, 32]
def k0_off1174 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v194 : Index := Scalar.indexCast arg20
  let c48 : Index := 48#32
  ![v194.toNat, 48]
def k0_off1175 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_121 : BitVec 32 := 1#32
  let v197 : BitVec 32 := Scalar.addi arg20 c1_i32_121
  let c0_i32_103 : BitVec 32 := 0#32
  let c1_i32_105 : BitVec 32 := 1#32
  let arg21 : BitVec 32 := Scf.iv c0_i32_103 c1_i32_105 k0_t22
  let v198 : BitVec 32 := Scalar.addi v197 arg21
  let v199 : Index := Scalar.indexCast v198
  let c48_122 : Index := 48#32
  ![v199.toNat, 48]
def k0_off1176 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v204 : Index := Scalar.indexCast arg21
  let c48_123 : Index := 48#32
  ![v204.toNat, 48]
def k0_off1177 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v208 : Index := Scalar.indexCast arg20
  let c64 : Index := 64#32
  ![v208.toNat, 64]
def k0_off1178 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_124 : BitVec 32 := 1#32
  let v211 : BitVec 32 := Scalar.addi arg20 c1_i32_124
  let c0_i32_103 : BitVec 32 := 0#32
  let c1_i32_105 : BitVec 32 := 1#32
  let arg21 : BitVec 32 := Scf.iv c0_i32_103 c1_i32_105 k0_t22
  let v212 : BitVec 32 := Scalar.addi v211 arg21
  let v213 : Index := Scalar.indexCast v212
  let c64_125 : Index := 64#32
  ![v213.toNat, 64]
def k0_off1179 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v218 : Index := Scalar.indexCast arg21
  let c64_126 : Index := 64#32
  ![v218.toNat, 64]
def k0_off1180 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v222 : Index := Scalar.indexCast arg20
  let c80 : Index := 80#32
  ![v222.toNat, 80]
def k0_off1181 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_127 : BitVec 32 := 1#32
  let v225 : BitVec 32 := Scalar.addi arg20 c1_i32_127
  let c0_i32_103 : BitVec 32 := 0#32
  let c1_i32_105 : BitVec 32 := 1#32
  let arg21 : BitVec 32 := Scf.iv c0_i32_103 c1_i32_105 k0_t22
  let v226 : BitVec 32 := Scalar.addi v225 arg21
  let v227 : Index := Scalar.indexCast v226
  let c80_128 : Index := 80#32
  ![v227.toNat, 80]
def k0_off1182 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v232 : Index := Scalar.indexCast arg21
  let c80_129 : Index := 80#32
  ![v232.toNat, 80]
def k0_off1183 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v236 : Index := Scalar.indexCast arg20
  let c96 : Index := 96#32
  ![v236.toNat, 96]
def k0_off1184 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_130 : BitVec 32 := 1#32
  let v239 : BitVec 32 := Scalar.addi arg20 c1_i32_130
  let c0_i32_103 : BitVec 32 := 0#32
  let c1_i32_105 : BitVec 32 := 1#32
  let arg21 : BitVec 32 := Scf.iv c0_i32_103 c1_i32_105 k0_t22
  let v240 : BitVec 32 := Scalar.addi v239 arg21
  let v241 : Index := Scalar.indexCast v240
  let c96_131 : Index := 96#32
  ![v241.toNat, 96]
def k0_off1185 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v246 : Index := Scalar.indexCast arg21
  let c96_132 : Index := 96#32
  ![v246.toNat, 96]
def k0_off1186 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v250 : Index := Scalar.indexCast arg20
  let c112 : Index := 112#32
  ![v250.toNat, 112]
def k0_off1187 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_133 : BitVec 32 := 1#32
  let v253 : BitVec 32 := Scalar.addi arg20 c1_i32_133
  let c0_i32_103 : BitVec 32 := 0#32
  let c1_i32_105 : BitVec 32 := 1#32
  let arg21 : BitVec 32 := Scf.iv c0_i32_103 c1_i32_105 k0_t22
  let v254 : BitVec 32 := Scalar.addi v253 arg21
  let v255 : Index := Scalar.indexCast v254
  let c112_134 : Index := 112#32
  ![v255.toNat, 112]
def k0_off1188 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v260 : Index := Scalar.indexCast arg21
  let c112_135 : Index := 112#32
  ![v260.toNat, 112]
def k0_off1189 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v264 : Index := Scalar.indexCast arg20
  let c128 : Index := 128#32
  ![v264.toNat, 128]
def k0_off1190 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_136 : BitVec 32 := 1#32
  let v267 : BitVec 32 := Scalar.addi arg20 c1_i32_136
  let c0_i32_103 : BitVec 32 := 0#32
  let c1_i32_105 : BitVec 32 := 1#32
  let arg21 : BitVec 32 := Scf.iv c0_i32_103 c1_i32_105 k0_t22
  let v268 : BitVec 32 := Scalar.addi v267 arg21
  let v269 : Index := Scalar.indexCast v268
  let c128_137 : Index := 128#32
  ![v269.toNat, 128]
def k0_off1191 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v274 : Index := Scalar.indexCast arg21
  let c128_138 : Index := 128#32
  ![v274.toNat, 128]
def k0_off1192 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v278 : Index := Scalar.indexCast arg20
  let c144 : Index := 144#32
  ![v278.toNat, 144]
def k0_off1193 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_139 : BitVec 32 := 1#32
  let v281 : BitVec 32 := Scalar.addi arg20 c1_i32_139
  let c0_i32_103 : BitVec 32 := 0#32
  let c1_i32_105 : BitVec 32 := 1#32
  let arg21 : BitVec 32 := Scf.iv c0_i32_103 c1_i32_105 k0_t22
  let v282 : BitVec 32 := Scalar.addi v281 arg21
  let v283 : Index := Scalar.indexCast v282
  let c144_140 : Index := 144#32
  ![v283.toNat, 144]
def k0_off1194 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v288 : Index := Scalar.indexCast arg21
  let c144_141 : Index := 144#32
  ![v288.toNat, 144]
def k0_off1195 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v292 : Index := Scalar.indexCast arg20
  let c160 : Index := 160#32
  ![v292.toNat, 160]
def k0_off1196 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_142 : BitVec 32 := 1#32
  let v295 : BitVec 32 := Scalar.addi arg20 c1_i32_142
  let c0_i32_103 : BitVec 32 := 0#32
  let c1_i32_105 : BitVec 32 := 1#32
  let arg21 : BitVec 32 := Scf.iv c0_i32_103 c1_i32_105 k0_t22
  let v296 : BitVec 32 := Scalar.addi v295 arg21
  let v297 : Index := Scalar.indexCast v296
  let c160_143 : Index := 160#32
  ![v297.toNat, 160]
def k0_off1197 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v302 : Index := Scalar.indexCast arg21
  let c160_144 : Index := 160#32
  ![v302.toNat, 160]
def k0_off1198 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v306 : Index := Scalar.indexCast arg20
  let c176 : Index := 176#32
  ![v306.toNat, 176]
def k0_off1199 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_145 : BitVec 32 := 1#32
  let v309 : BitVec 32 := Scalar.addi arg20 c1_i32_145
  let c0_i32_103 : BitVec 32 := 0#32
  let c1_i32_105 : BitVec 32 := 1#32
  let arg21 : BitVec 32 := Scf.iv c0_i32_103 c1_i32_105 k0_t22
  let v310 : BitVec 32 := Scalar.addi v309 arg21
  let v311 : Index := Scalar.indexCast v310
  let c176_146 : Index := 176#32
  ![v311.toNat, 176]
def k0_off1200 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v316 : Index := Scalar.indexCast arg21
  let c176_147 : Index := 176#32
  ![v316.toNat, 176]
def k0_off1201 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v320 : Index := Scalar.indexCast arg20
  let c192 : Index := 192#32
  ![v320.toNat, 192]
def k0_off1202 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_148 : BitVec 32 := 1#32
  let v323 : BitVec 32 := Scalar.addi arg20 c1_i32_148
  let c0_i32_103 : BitVec 32 := 0#32
  let c1_i32_105 : BitVec 32 := 1#32
  let arg21 : BitVec 32 := Scf.iv c0_i32_103 c1_i32_105 k0_t22
  let v324 : BitVec 32 := Scalar.addi v323 arg21
  let v325 : Index := Scalar.indexCast v324
  let c192_149 : Index := 192#32
  ![v325.toNat, 192]
def k0_off1203 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v330 : Index := Scalar.indexCast arg21
  let c192_150 : Index := 192#32
  ![v330.toNat, 192]
def k0_off1204 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v334 : Index := Scalar.indexCast arg20
  let c208 : Index := 208#32
  ![v334.toNat, 208]
def k0_off1205 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_151 : BitVec 32 := 1#32
  let v337 : BitVec 32 := Scalar.addi arg20 c1_i32_151
  let c0_i32_103 : BitVec 32 := 0#32
  let c1_i32_105 : BitVec 32 := 1#32
  let arg21 : BitVec 32 := Scf.iv c0_i32_103 c1_i32_105 k0_t22
  let v338 : BitVec 32 := Scalar.addi v337 arg21
  let v339 : Index := Scalar.indexCast v338
  let c208_152 : Index := 208#32
  ![v339.toNat, 208]
def k0_off1206 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v344 : Index := Scalar.indexCast arg21
  let c208_153 : Index := 208#32
  ![v344.toNat, 208]
def k0_off1207 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v348 : Index := Scalar.indexCast arg20
  let c224 : Index := 224#32
  ![v348.toNat, 224]
def k0_off1208 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_154 : BitVec 32 := 1#32
  let v351 : BitVec 32 := Scalar.addi arg20 c1_i32_154
  let c0_i32_103 : BitVec 32 := 0#32
  let c1_i32_105 : BitVec 32 := 1#32
  let arg21 : BitVec 32 := Scf.iv c0_i32_103 c1_i32_105 k0_t22
  let v352 : BitVec 32 := Scalar.addi v351 arg21
  let v353 : Index := Scalar.indexCast v352
  let c224_155 : Index := 224#32
  ![v353.toNat, 224]
def k0_off1209 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v358 : Index := Scalar.indexCast arg21
  let c224_156 : Index := 224#32
  ![v358.toNat, 224]
def k0_off1210 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v362 : Index := Scalar.indexCast arg20
  let c240 : Index := 240#32
  ![v362.toNat, 240]
def k0_off1211 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_157 : BitVec 32 := 1#32
  let v365 : BitVec 32 := Scalar.addi arg20 c1_i32_157
  let c0_i32_103 : BitVec 32 := 0#32
  let c1_i32_105 : BitVec 32 := 1#32
  let arg21 : BitVec 32 := Scf.iv c0_i32_103 c1_i32_105 k0_t22
  let v366 : BitVec 32 := Scalar.addi v365 arg21
  let v367 : Index := Scalar.indexCast v366
  let c240_158 : Index := 240#32
  ![v367.toNat, 240]
def k0_off1212 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v372 : Index := Scalar.indexCast arg21
  let c240_159 : Index := 240#32
  ![v372.toNat, 240]
def k0_off1213 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v376 : Index := Scalar.indexCast arg20
  let c256 : Index := 256#32
  ![v376.toNat, 256]
def k0_off1214 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_160 : BitVec 32 := 1#32
  let v379 : BitVec 32 := Scalar.addi arg20 c1_i32_160
  let c0_i32_103 : BitVec 32 := 0#32
  let c1_i32_105 : BitVec 32 := 1#32
  let arg21 : BitVec 32 := Scf.iv c0_i32_103 c1_i32_105 k0_t22
  let v380 : BitVec 32 := Scalar.addi v379 arg21
  let v381 : Index := Scalar.indexCast v380
  let c256_161 : Index := 256#32
  ![v381.toNat, 256]
def k0_off1215 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v386 : Index := Scalar.indexCast arg21
  let c256_162 : Index := 256#32
  ![v386.toNat, 256]
def k0_off1216 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v390 : Index := Scalar.indexCast arg20
  let c272 : Index := 272#32
  ![v390.toNat, 272]
def k0_off1217 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_163 : BitVec 32 := 1#32
  let v393 : BitVec 32 := Scalar.addi arg20 c1_i32_163
  let c0_i32_103 : BitVec 32 := 0#32
  let c1_i32_105 : BitVec 32 := 1#32
  let arg21 : BitVec 32 := Scf.iv c0_i32_103 c1_i32_105 k0_t22
  let v394 : BitVec 32 := Scalar.addi v393 arg21
  let v395 : Index := Scalar.indexCast v394
  let c272_164 : Index := 272#32
  ![v395.toNat, 272]
def k0_off1218 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v400 : Index := Scalar.indexCast arg21
  let c272_165 : Index := 272#32
  ![v400.toNat, 272]
def k0_off1219 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v404 : Index := Scalar.indexCast arg20
  let c288 : Index := 288#32
  ![v404.toNat, 288]
def k0_off1220 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_166 : BitVec 32 := 1#32
  let v407 : BitVec 32 := Scalar.addi arg20 c1_i32_166
  let c0_i32_103 : BitVec 32 := 0#32
  let c1_i32_105 : BitVec 32 := 1#32
  let arg21 : BitVec 32 := Scf.iv c0_i32_103 c1_i32_105 k0_t22
  let v408 : BitVec 32 := Scalar.addi v407 arg21
  let v409 : Index := Scalar.indexCast v408
  let c288_167 : Index := 288#32
  ![v409.toNat, 288]
def k0_off1221 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v414 : Index := Scalar.indexCast arg21
  let c288_168 : Index := 288#32
  ![v414.toNat, 288]
def k0_off1222 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v418 : Index := Scalar.indexCast arg20
  let c304 : Index := 304#32
  ![v418.toNat, 304]
def k0_off1223 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_169 : BitVec 32 := 1#32
  let v421 : BitVec 32 := Scalar.addi arg20 c1_i32_169
  let c0_i32_103 : BitVec 32 := 0#32
  let c1_i32_105 : BitVec 32 := 1#32
  let arg21 : BitVec 32 := Scf.iv c0_i32_103 c1_i32_105 k0_t22
  let v422 : BitVec 32 := Scalar.addi v421 arg21
  let v423 : Index := Scalar.indexCast v422
  let c304_170 : Index := 304#32
  ![v423.toNat, 304]
def k0_off1224 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v428 : Index := Scalar.indexCast arg21
  let c304_171 : Index := 304#32
  ![v428.toNat, 304]
def k0_off1225 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v432 : Index := Scalar.indexCast arg20
  let c320 : Index := 320#32
  ![v432.toNat, 320]
def k0_off1226 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_172 : BitVec 32 := 1#32
  let v435 : BitVec 32 := Scalar.addi arg20 c1_i32_172
  let c0_i32_103 : BitVec 32 := 0#32
  let c1_i32_105 : BitVec 32 := 1#32
  let arg21 : BitVec 32 := Scf.iv c0_i32_103 c1_i32_105 k0_t22
  let v436 : BitVec 32 := Scalar.addi v435 arg21
  let v437 : Index := Scalar.indexCast v436
  let c320_173 : Index := 320#32
  ![v437.toNat, 320]
def k0_off1227 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v442 : Index := Scalar.indexCast arg21
  let c320_174 : Index := 320#32
  ![v442.toNat, 320]
def k0_off1228 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v446 : Index := Scalar.indexCast arg20
  let c336 : Index := 336#32
  ![v446.toNat, 336]
def k0_off1229 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_175 : BitVec 32 := 1#32
  let v449 : BitVec 32 := Scalar.addi arg20 c1_i32_175
  let c0_i32_103 : BitVec 32 := 0#32
  let c1_i32_105 : BitVec 32 := 1#32
  let arg21 : BitVec 32 := Scf.iv c0_i32_103 c1_i32_105 k0_t22
  let v450 : BitVec 32 := Scalar.addi v449 arg21
  let v451 : Index := Scalar.indexCast v450
  let c336_176 : Index := 336#32
  ![v451.toNat, 336]
def k0_off1230 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v456 : Index := Scalar.indexCast arg21
  let c336_177 : Index := 336#32
  ![v456.toNat, 336]
def k0_off1231 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v460 : Index := Scalar.indexCast arg20
  let c352 : Index := 352#32
  ![v460.toNat, 352]
def k0_off1232 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_178 : BitVec 32 := 1#32
  let v463 : BitVec 32 := Scalar.addi arg20 c1_i32_178
  let c0_i32_103 : BitVec 32 := 0#32
  let c1_i32_105 : BitVec 32 := 1#32
  let arg21 : BitVec 32 := Scf.iv c0_i32_103 c1_i32_105 k0_t22
  let v464 : BitVec 32 := Scalar.addi v463 arg21
  let v465 : Index := Scalar.indexCast v464
  let c352_179 : Index := 352#32
  ![v465.toNat, 352]
def k0_off1233 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v470 : Index := Scalar.indexCast arg21
  let c352_180 : Index := 352#32
  ![v470.toNat, 352]
def k0_off1234 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v474 : Index := Scalar.indexCast arg20
  let c368 : Index := 368#32
  ![v474.toNat, 368]
def k0_off1235 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_181 : BitVec 32 := 1#32
  let v477 : BitVec 32 := Scalar.addi arg20 c1_i32_181
  let c0_i32_103 : BitVec 32 := 0#32
  let c1_i32_105 : BitVec 32 := 1#32
  let arg21 : BitVec 32 := Scf.iv c0_i32_103 c1_i32_105 k0_t22
  let v478 : BitVec 32 := Scalar.addi v477 arg21
  let v479 : Index := Scalar.indexCast v478
  let c368_182 : Index := 368#32
  ![v479.toNat, 368]
def k0_off1236 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v484 : Index := Scalar.indexCast arg21
  let c368_183 : Index := 368#32
  ![v484.toNat, 368]
def k0_off1237 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v488 : Index := Scalar.indexCast arg20
  let c384 : Index := 384#32
  ![v488.toNat, 384]
def k0_off1238 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_184 : BitVec 32 := 1#32
  let v491 : BitVec 32 := Scalar.addi arg20 c1_i32_184
  let c0_i32_103 : BitVec 32 := 0#32
  let c1_i32_105 : BitVec 32 := 1#32
  let arg21 : BitVec 32 := Scf.iv c0_i32_103 c1_i32_105 k0_t22
  let v492 : BitVec 32 := Scalar.addi v491 arg21
  let v493 : Index := Scalar.indexCast v492
  let c384_185 : Index := 384#32
  ![v493.toNat, 384]
def k0_off1239 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v498 : Index := Scalar.indexCast arg21
  let c384_186 : Index := 384#32
  ![v498.toNat, 384]
def k0_off1240 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v502 : Index := Scalar.indexCast arg20
  let c400 : Index := 400#32
  ![v502.toNat, 400]
def k0_off1241 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_187 : BitVec 32 := 1#32
  let v505 : BitVec 32 := Scalar.addi arg20 c1_i32_187
  let c0_i32_103 : BitVec 32 := 0#32
  let c1_i32_105 : BitVec 32 := 1#32
  let arg21 : BitVec 32 := Scf.iv c0_i32_103 c1_i32_105 k0_t22
  let v506 : BitVec 32 := Scalar.addi v505 arg21
  let v507 : Index := Scalar.indexCast v506
  let c400_188 : Index := 400#32
  ![v507.toNat, 400]
def k0_off1242 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v512 : Index := Scalar.indexCast arg21
  let c400_189 : Index := 400#32
  ![v512.toNat, 400]
def k0_off1243 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v516 : Index := Scalar.indexCast arg20
  let c416 : Index := 416#32
  ![v516.toNat, 416]
def k0_off1244 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_190 : BitVec 32 := 1#32
  let v519 : BitVec 32 := Scalar.addi arg20 c1_i32_190
  let c0_i32_103 : BitVec 32 := 0#32
  let c1_i32_105 : BitVec 32 := 1#32
  let arg21 : BitVec 32 := Scf.iv c0_i32_103 c1_i32_105 k0_t22
  let v520 : BitVec 32 := Scalar.addi v519 arg21
  let v521 : Index := Scalar.indexCast v520
  let c416_191 : Index := 416#32
  ![v521.toNat, 416]
def k0_off1245 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v526 : Index := Scalar.indexCast arg21
  let c416_192 : Index := 416#32
  ![v526.toNat, 416]
def k0_off1246 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v530 : Index := Scalar.indexCast arg20
  let c432 : Index := 432#32
  ![v530.toNat, 432]
def k0_off1247 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_193 : BitVec 32 := 1#32
  let v533 : BitVec 32 := Scalar.addi arg20 c1_i32_193
  let c0_i32_103 : BitVec 32 := 0#32
  let c1_i32_105 : BitVec 32 := 1#32
  let arg21 : BitVec 32 := Scf.iv c0_i32_103 c1_i32_105 k0_t22
  let v534 : BitVec 32 := Scalar.addi v533 arg21
  let v535 : Index := Scalar.indexCast v534
  let c432_194 : Index := 432#32
  ![v535.toNat, 432]
def k0_off1248 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v540 : Index := Scalar.indexCast arg21
  let c432_195 : Index := 432#32
  ![v540.toNat, 432]
def k0_off1249 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v544 : Index := Scalar.indexCast arg20
  let c448 : Index := 448#32
  ![v544.toNat, 448]
def k0_off1250 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_196 : BitVec 32 := 1#32
  let v547 : BitVec 32 := Scalar.addi arg20 c1_i32_196
  let c0_i32_103 : BitVec 32 := 0#32
  let c1_i32_105 : BitVec 32 := 1#32
  let arg21 : BitVec 32 := Scf.iv c0_i32_103 c1_i32_105 k0_t22
  let v548 : BitVec 32 := Scalar.addi v547 arg21
  let v549 : Index := Scalar.indexCast v548
  let c448_197 : Index := 448#32
  ![v549.toNat, 448]
def k0_off1251 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v554 : Index := Scalar.indexCast arg21
  let c448_198 : Index := 448#32
  ![v554.toNat, 448]
def k0_off1252 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v558 : Index := Scalar.indexCast arg20
  let c464 : Index := 464#32
  ![v558.toNat, 464]
def k0_off1253 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_199 : BitVec 32 := 1#32
  let v561 : BitVec 32 := Scalar.addi arg20 c1_i32_199
  let c0_i32_103 : BitVec 32 := 0#32
  let c1_i32_105 : BitVec 32 := 1#32
  let arg21 : BitVec 32 := Scf.iv c0_i32_103 c1_i32_105 k0_t22
  let v562 : BitVec 32 := Scalar.addi v561 arg21
  let v563 : Index := Scalar.indexCast v562
  let c464_200 : Index := 464#32
  ![v563.toNat, 464]
def k0_off1254 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v568 : Index := Scalar.indexCast arg21
  let c464_201 : Index := 464#32
  ![v568.toNat, 464]
def k0_off1255 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v572 : Index := Scalar.indexCast arg20
  let c480 : Index := 480#32
  ![v572.toNat, 480]
def k0_off1256 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_202 : BitVec 32 := 1#32
  let v575 : BitVec 32 := Scalar.addi arg20 c1_i32_202
  let c0_i32_103 : BitVec 32 := 0#32
  let c1_i32_105 : BitVec 32 := 1#32
  let arg21 : BitVec 32 := Scf.iv c0_i32_103 c1_i32_105 k0_t22
  let v576 : BitVec 32 := Scalar.addi v575 arg21
  let v577 : Index := Scalar.indexCast v576
  let c480_203 : Index := 480#32
  ![v577.toNat, 480]
def k0_off1257 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v582 : Index := Scalar.indexCast arg21
  let c480_204 : Index := 480#32
  ![v582.toNat, 480]
def k0_off1258 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v586 : Index := Scalar.indexCast arg20
  let c496 : Index := 496#32
  ![v586.toNat, 496]
def k0_off1259 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_205 : BitVec 32 := 1#32
  let v589 : BitVec 32 := Scalar.addi arg20 c1_i32_205
  let c0_i32_103 : BitVec 32 := 0#32
  let c1_i32_105 : BitVec 32 := 1#32
  let arg21 : BitVec 32 := Scf.iv c0_i32_103 c1_i32_105 k0_t22
  let v590 : BitVec 32 := Scalar.addi v589 arg21
  let v591 : Index := Scalar.indexCast v590
  let c496_206 : Index := 496#32
  ![v591.toNat, 496]
def k0_off1260 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v596 : Index := Scalar.indexCast arg21
  let c496_207 : Index := 496#32
  ![v596.toNat, 496]
def k0_off1261 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v600 : Index := Scalar.indexCast arg20
  let c512 : Index := 512#32
  ![v600.toNat, 512]
def k0_off1262 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_208 : BitVec 32 := 1#32
  let v603 : BitVec 32 := Scalar.addi arg20 c1_i32_208
  let c0_i32_103 : BitVec 32 := 0#32
  let c1_i32_105 : BitVec 32 := 1#32
  let arg21 : BitVec 32 := Scf.iv c0_i32_103 c1_i32_105 k0_t22
  let v604 : BitVec 32 := Scalar.addi v603 arg21
  let v605 : Index := Scalar.indexCast v604
  let c512_209 : Index := 512#32
  ![v605.toNat, 512]
def k0_off1263 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v610 : Index := Scalar.indexCast arg21
  let c512_210 : Index := 512#32
  ![v610.toNat, 512]
def k0_off1264 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v614 : Index := Scalar.indexCast arg20
  let c528 : Index := 528#32
  ![v614.toNat, 528]
def k0_off1265 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_211 : BitVec 32 := 1#32
  let v617 : BitVec 32 := Scalar.addi arg20 c1_i32_211
  let c0_i32_103 : BitVec 32 := 0#32
  let c1_i32_105 : BitVec 32 := 1#32
  let arg21 : BitVec 32 := Scf.iv c0_i32_103 c1_i32_105 k0_t22
  let v618 : BitVec 32 := Scalar.addi v617 arg21
  let v619 : Index := Scalar.indexCast v618
  let c528_212 : Index := 528#32
  ![v619.toNat, 528]
def k0_off1266 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v624 : Index := Scalar.indexCast arg21
  let c528_213 : Index := 528#32
  ![v624.toNat, 528]
def k0_off1267 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v628 : Index := Scalar.indexCast arg20
  let c544 : Index := 544#32
  ![v628.toNat, 544]
def k0_off1268 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_214 : BitVec 32 := 1#32
  let v631 : BitVec 32 := Scalar.addi arg20 c1_i32_214
  let c0_i32_103 : BitVec 32 := 0#32
  let c1_i32_105 : BitVec 32 := 1#32
  let arg21 : BitVec 32 := Scf.iv c0_i32_103 c1_i32_105 k0_t22
  let v632 : BitVec 32 := Scalar.addi v631 arg21
  let v633 : Index := Scalar.indexCast v632
  let c544_215 : Index := 544#32
  ![v633.toNat, 544]
def k0_off1269 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v638 : Index := Scalar.indexCast arg21
  let c544_216 : Index := 544#32
  ![v638.toNat, 544]
def k0_off1270 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v642 : Index := Scalar.indexCast arg20
  let c560 : Index := 560#32
  ![v642.toNat, 560]
def k0_off1271 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_217 : BitVec 32 := 1#32
  let v645 : BitVec 32 := Scalar.addi arg20 c1_i32_217
  let c0_i32_103 : BitVec 32 := 0#32
  let c1_i32_105 : BitVec 32 := 1#32
  let arg21 : BitVec 32 := Scf.iv c0_i32_103 c1_i32_105 k0_t22
  let v646 : BitVec 32 := Scalar.addi v645 arg21
  let v647 : Index := Scalar.indexCast v646
  let c560_218 : Index := 560#32
  ![v647.toNat, 560]
def k0_off1272 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v652 : Index := Scalar.indexCast arg21
  let c560_219 : Index := 560#32
  ![v652.toNat, 560]
def k0_off1273 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v656 : Index := Scalar.indexCast arg20
  let c576 : Index := 576#32
  ![v656.toNat, 576]
def k0_off1274 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_220 : BitVec 32 := 1#32
  let v659 : BitVec 32 := Scalar.addi arg20 c1_i32_220
  let c0_i32_103 : BitVec 32 := 0#32
  let c1_i32_105 : BitVec 32 := 1#32
  let arg21 : BitVec 32 := Scf.iv c0_i32_103 c1_i32_105 k0_t22
  let v660 : BitVec 32 := Scalar.addi v659 arg21
  let v661 : Index := Scalar.indexCast v660
  let c576_221 : Index := 576#32
  ![v661.toNat, 576]
def k0_off1275 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v666 : Index := Scalar.indexCast arg21
  let c576_222 : Index := 576#32
  ![v666.toNat, 576]
def k0_off1276 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v670 : Index := Scalar.indexCast arg20
  let c592 : Index := 592#32
  ![v670.toNat, 592]
def k0_off1277 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_223 : BitVec 32 := 1#32
  let v673 : BitVec 32 := Scalar.addi arg20 c1_i32_223
  let c0_i32_103 : BitVec 32 := 0#32
  let c1_i32_105 : BitVec 32 := 1#32
  let arg21 : BitVec 32 := Scf.iv c0_i32_103 c1_i32_105 k0_t22
  let v674 : BitVec 32 := Scalar.addi v673 arg21
  let v675 : Index := Scalar.indexCast v674
  let c592_224 : Index := 592#32
  ![v675.toNat, 592]
def k0_off1278 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v680 : Index := Scalar.indexCast arg21
  let c592_225 : Index := 592#32
  ![v680.toNat, 592]
def k0_off1279 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v684 : Index := Scalar.indexCast arg20
  let c608 : Index := 608#32
  ![v684.toNat, 608]
def k0_off1280 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_226 : BitVec 32 := 1#32
  let v687 : BitVec 32 := Scalar.addi arg20 c1_i32_226
  let c0_i32_103 : BitVec 32 := 0#32
  let c1_i32_105 : BitVec 32 := 1#32
  let arg21 : BitVec 32 := Scf.iv c0_i32_103 c1_i32_105 k0_t22
  let v688 : BitVec 32 := Scalar.addi v687 arg21
  let v689 : Index := Scalar.indexCast v688
  let c608_227 : Index := 608#32
  ![v689.toNat, 608]
def k0_off1281 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v694 : Index := Scalar.indexCast arg21
  let c608_228 : Index := 608#32
  ![v694.toNat, 608]
def k0_off1282 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v698 : Index := Scalar.indexCast arg20
  let c624 : Index := 624#32
  ![v698.toNat, 624]
def k0_off1283 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_229 : BitVec 32 := 1#32
  let v701 : BitVec 32 := Scalar.addi arg20 c1_i32_229
  let c0_i32_103 : BitVec 32 := 0#32
  let c1_i32_105 : BitVec 32 := 1#32
  let arg21 : BitVec 32 := Scf.iv c0_i32_103 c1_i32_105 k0_t22
  let v702 : BitVec 32 := Scalar.addi v701 arg21
  let v703 : Index := Scalar.indexCast v702
  let c624_230 : Index := 624#32
  ![v703.toNat, 624]
def k0_off1284 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v708 : Index := Scalar.indexCast arg21
  let c624_231 : Index := 624#32
  ![v708.toNat, 624]
def k0_off1285 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v712 : Index := Scalar.indexCast arg20
  let c640 : Index := 640#32
  ![v712.toNat, 640]
def k0_off1286 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_232 : BitVec 32 := 1#32
  let v715 : BitVec 32 := Scalar.addi arg20 c1_i32_232
  let c0_i32_103 : BitVec 32 := 0#32
  let c1_i32_105 : BitVec 32 := 1#32
  let arg21 : BitVec 32 := Scf.iv c0_i32_103 c1_i32_105 k0_t22
  let v716 : BitVec 32 := Scalar.addi v715 arg21
  let v717 : Index := Scalar.indexCast v716
  let c640_233 : Index := 640#32
  ![v717.toNat, 640]
def k0_off1287 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v722 : Index := Scalar.indexCast arg21
  let c640_234 : Index := 640#32
  ![v722.toNat, 640]
def k0_off1288 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v726 : Index := Scalar.indexCast arg20
  let c656 : Index := 656#32
  ![v726.toNat, 656]
def k0_off1289 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_235 : BitVec 32 := 1#32
  let v729 : BitVec 32 := Scalar.addi arg20 c1_i32_235
  let c0_i32_103 : BitVec 32 := 0#32
  let c1_i32_105 : BitVec 32 := 1#32
  let arg21 : BitVec 32 := Scf.iv c0_i32_103 c1_i32_105 k0_t22
  let v730 : BitVec 32 := Scalar.addi v729 arg21
  let v731 : Index := Scalar.indexCast v730
  let c656_236 : Index := 656#32
  ![v731.toNat, 656]
def k0_off1290 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v736 : Index := Scalar.indexCast arg21
  let c656_237 : Index := 656#32
  ![v736.toNat, 656]
def k0_off1291 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v740 : Index := Scalar.indexCast arg20
  let c672 : Index := 672#32
  ![v740.toNat, 672]
def k0_off1292 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_238 : BitVec 32 := 1#32
  let v743 : BitVec 32 := Scalar.addi arg20 c1_i32_238
  let c0_i32_103 : BitVec 32 := 0#32
  let c1_i32_105 : BitVec 32 := 1#32
  let arg21 : BitVec 32 := Scf.iv c0_i32_103 c1_i32_105 k0_t22
  let v744 : BitVec 32 := Scalar.addi v743 arg21
  let v745 : Index := Scalar.indexCast v744
  let c672_239 : Index := 672#32
  ![v745.toNat, 672]
def k0_off1293 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v750 : Index := Scalar.indexCast arg21
  let c672_240 : Index := 672#32
  ![v750.toNat, 672]
def k0_off1294 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v754 : Index := Scalar.indexCast arg20
  let c688 : Index := 688#32
  ![v754.toNat, 688]
def k0_off1295 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_241 : BitVec 32 := 1#32
  let v757 : BitVec 32 := Scalar.addi arg20 c1_i32_241
  let c0_i32_103 : BitVec 32 := 0#32
  let c1_i32_105 : BitVec 32 := 1#32
  let arg21 : BitVec 32 := Scf.iv c0_i32_103 c1_i32_105 k0_t22
  let v758 : BitVec 32 := Scalar.addi v757 arg21
  let v759 : Index := Scalar.indexCast v758
  let c688_242 : Index := 688#32
  ![v759.toNat, 688]
def k0_off1296 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v764 : Index := Scalar.indexCast arg21
  let c688_243 : Index := 688#32
  ![v764.toNat, 688]
def k0_off1297 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v768 : Index := Scalar.indexCast arg20
  let c704 : Index := 704#32
  ![v768.toNat, 704]
def k0_off1298 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_244 : BitVec 32 := 1#32
  let v771 : BitVec 32 := Scalar.addi arg20 c1_i32_244
  let c0_i32_103 : BitVec 32 := 0#32
  let c1_i32_105 : BitVec 32 := 1#32
  let arg21 : BitVec 32 := Scf.iv c0_i32_103 c1_i32_105 k0_t22
  let v772 : BitVec 32 := Scalar.addi v771 arg21
  let v773 : Index := Scalar.indexCast v772
  let c704_245 : Index := 704#32
  ![v773.toNat, 704]
def k0_off1299 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v778 : Index := Scalar.indexCast arg21
  let c704_246 : Index := 704#32
  ![v778.toNat, 704]
def k0_off1300 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v782 : Index := Scalar.indexCast arg20
  let c720 : Index := 720#32
  ![v782.toNat, 720]
def k0_off1301 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_247 : BitVec 32 := 1#32
  let v785 : BitVec 32 := Scalar.addi arg20 c1_i32_247
  let c0_i32_103 : BitVec 32 := 0#32
  let c1_i32_105 : BitVec 32 := 1#32
  let arg21 : BitVec 32 := Scf.iv c0_i32_103 c1_i32_105 k0_t22
  let v786 : BitVec 32 := Scalar.addi v785 arg21
  let v787 : Index := Scalar.indexCast v786
  let c720_248 : Index := 720#32
  ![v787.toNat, 720]
def k0_off1302 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v792 : Index := Scalar.indexCast arg21
  let c720_249 : Index := 720#32
  ![v792.toNat, 720]
def k0_off1303 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v796 : Index := Scalar.indexCast arg20
  let c736 : Index := 736#32
  ![v796.toNat, 736]
def k0_off1304 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_250 : BitVec 32 := 1#32
  let v799 : BitVec 32 := Scalar.addi arg20 c1_i32_250
  let c0_i32_103 : BitVec 32 := 0#32
  let c1_i32_105 : BitVec 32 := 1#32
  let arg21 : BitVec 32 := Scf.iv c0_i32_103 c1_i32_105 k0_t22
  let v800 : BitVec 32 := Scalar.addi v799 arg21
  let v801 : Index := Scalar.indexCast v800
  let c736_251 : Index := 736#32
  ![v801.toNat, 736]
def k0_off1305 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v806 : Index := Scalar.indexCast arg21
  let c736_252 : Index := 736#32
  ![v806.toNat, 736]
def k0_off1306 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v810 : Index := Scalar.indexCast arg20
  let c752 : Index := 752#32
  ![v810.toNat, 752]
def k0_off1307 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_253 : BitVec 32 := 1#32
  let v813 : BitVec 32 := Scalar.addi arg20 c1_i32_253
  let c0_i32_103 : BitVec 32 := 0#32
  let c1_i32_105 : BitVec 32 := 1#32
  let arg21 : BitVec 32 := Scf.iv c0_i32_103 c1_i32_105 k0_t22
  let v814 : BitVec 32 := Scalar.addi v813 arg21
  let v815 : Index := Scalar.indexCast v814
  let c752_254 : Index := 752#32
  ![v815.toNat, 752]
def k0_off1308 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v820 : Index := Scalar.indexCast arg21
  let c752_255 : Index := 752#32
  ![v820.toNat, 752]
def k0_off1309 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v824 : Index := Scalar.indexCast arg20
  let c768 : Index := 768#32
  ![v824.toNat, 768]
def k0_off1310 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_256 : BitVec 32 := 1#32
  let v827 : BitVec 32 := Scalar.addi arg20 c1_i32_256
  let c0_i32_103 : BitVec 32 := 0#32
  let c1_i32_105 : BitVec 32 := 1#32
  let arg21 : BitVec 32 := Scf.iv c0_i32_103 c1_i32_105 k0_t22
  let v828 : BitVec 32 := Scalar.addi v827 arg21
  let v829 : Index := Scalar.indexCast v828
  let c768_257 : Index := 768#32
  ![v829.toNat, 768]
def k0_off1311 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v834 : Index := Scalar.indexCast arg21
  let c768_258 : Index := 768#32
  ![v834.toNat, 768]
def k0_off1312 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v838 : Index := Scalar.indexCast arg20
  let c784 : Index := 784#32
  ![v838.toNat, 784]
def k0_off1313 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_259 : BitVec 32 := 1#32
  let v841 : BitVec 32 := Scalar.addi arg20 c1_i32_259
  let c0_i32_103 : BitVec 32 := 0#32
  let c1_i32_105 : BitVec 32 := 1#32
  let arg21 : BitVec 32 := Scf.iv c0_i32_103 c1_i32_105 k0_t22
  let v842 : BitVec 32 := Scalar.addi v841 arg21
  let v843 : Index := Scalar.indexCast v842
  let c784_260 : Index := 784#32
  ![v843.toNat, 784]
def k0_off1314 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v848 : Index := Scalar.indexCast arg21
  let c784_261 : Index := 784#32
  ![v848.toNat, 784]
def k0_off1315 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v852 : Index := Scalar.indexCast arg20
  let c800 : Index := 800#32
  ![v852.toNat, 800]
def k0_off1316 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_262 : BitVec 32 := 1#32
  let v855 : BitVec 32 := Scalar.addi arg20 c1_i32_262
  let c0_i32_103 : BitVec 32 := 0#32
  let c1_i32_105 : BitVec 32 := 1#32
  let arg21 : BitVec 32 := Scf.iv c0_i32_103 c1_i32_105 k0_t22
  let v856 : BitVec 32 := Scalar.addi v855 arg21
  let v857 : Index := Scalar.indexCast v856
  let c800_263 : Index := 800#32
  ![v857.toNat, 800]
def k0_off1317 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v862 : Index := Scalar.indexCast arg21
  let c800_264 : Index := 800#32
  ![v862.toNat, 800]
def k0_off1318 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v866 : Index := Scalar.indexCast arg20
  let c816 : Index := 816#32
  ![v866.toNat, 816]
def k0_off1319 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_265 : BitVec 32 := 1#32
  let v869 : BitVec 32 := Scalar.addi arg20 c1_i32_265
  let c0_i32_103 : BitVec 32 := 0#32
  let c1_i32_105 : BitVec 32 := 1#32
  let arg21 : BitVec 32 := Scf.iv c0_i32_103 c1_i32_105 k0_t22
  let v870 : BitVec 32 := Scalar.addi v869 arg21
  let v871 : Index := Scalar.indexCast v870
  let c816_266 : Index := 816#32
  ![v871.toNat, 816]
def k0_off1320 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v876 : Index := Scalar.indexCast arg21
  let c816_267 : Index := 816#32
  ![v876.toNat, 816]
def k0_off1321 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v880 : Index := Scalar.indexCast arg20
  let c832 : Index := 832#32
  ![v880.toNat, 832]
def k0_off1322 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_268 : BitVec 32 := 1#32
  let v883 : BitVec 32 := Scalar.addi arg20 c1_i32_268
  let c0_i32_103 : BitVec 32 := 0#32
  let c1_i32_105 : BitVec 32 := 1#32
  let arg21 : BitVec 32 := Scf.iv c0_i32_103 c1_i32_105 k0_t22
  let v884 : BitVec 32 := Scalar.addi v883 arg21
  let v885 : Index := Scalar.indexCast v884
  let c832_269 : Index := 832#32
  ![v885.toNat, 832]
def k0_off1323 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v890 : Index := Scalar.indexCast arg21
  let c832_270 : Index := 832#32
  ![v890.toNat, 832]
def k0_off1324 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v894 : Index := Scalar.indexCast arg20
  let c848 : Index := 848#32
  ![v894.toNat, 848]
def k0_off1325 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_271 : BitVec 32 := 1#32
  let v897 : BitVec 32 := Scalar.addi arg20 c1_i32_271
  let c0_i32_103 : BitVec 32 := 0#32
  let c1_i32_105 : BitVec 32 := 1#32
  let arg21 : BitVec 32 := Scf.iv c0_i32_103 c1_i32_105 k0_t22
  let v898 : BitVec 32 := Scalar.addi v897 arg21
  let v899 : Index := Scalar.indexCast v898
  let c848_272 : Index := 848#32
  ![v899.toNat, 848]
def k0_off1326 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v904 : Index := Scalar.indexCast arg21
  let c848_273 : Index := 848#32
  ![v904.toNat, 848]
def k0_off1327 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v908 : Index := Scalar.indexCast arg20
  let c864 : Index := 864#32
  ![v908.toNat, 864]
def k0_off1328 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_274 : BitVec 32 := 1#32
  let v911 : BitVec 32 := Scalar.addi arg20 c1_i32_274
  let c0_i32_103 : BitVec 32 := 0#32
  let c1_i32_105 : BitVec 32 := 1#32
  let arg21 : BitVec 32 := Scf.iv c0_i32_103 c1_i32_105 k0_t22
  let v912 : BitVec 32 := Scalar.addi v911 arg21
  let v913 : Index := Scalar.indexCast v912
  let c864_275 : Index := 864#32
  ![v913.toNat, 864]
def k0_off1329 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v918 : Index := Scalar.indexCast arg21
  let c864_276 : Index := 864#32
  ![v918.toNat, 864]
def k0_off1330 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v922 : Index := Scalar.indexCast arg20
  let c880 : Index := 880#32
  ![v922.toNat, 880]
def k0_off1331 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_277 : BitVec 32 := 1#32
  let v925 : BitVec 32 := Scalar.addi arg20 c1_i32_277
  let c0_i32_103 : BitVec 32 := 0#32
  let c1_i32_105 : BitVec 32 := 1#32
  let arg21 : BitVec 32 := Scf.iv c0_i32_103 c1_i32_105 k0_t22
  let v926 : BitVec 32 := Scalar.addi v925 arg21
  let v927 : Index := Scalar.indexCast v926
  let c880_278 : Index := 880#32
  ![v927.toNat, 880]
def k0_off1332 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v932 : Index := Scalar.indexCast arg21
  let c880_279 : Index := 880#32
  ![v932.toNat, 880]
def k0_off1333 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v936 : Index := Scalar.indexCast arg20
  let c896 : Index := 896#32
  ![v936.toNat, 896]
def k0_off1334 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_280 : BitVec 32 := 1#32
  let v939 : BitVec 32 := Scalar.addi arg20 c1_i32_280
  let c0_i32_103 : BitVec 32 := 0#32
  let c1_i32_105 : BitVec 32 := 1#32
  let arg21 : BitVec 32 := Scf.iv c0_i32_103 c1_i32_105 k0_t22
  let v940 : BitVec 32 := Scalar.addi v939 arg21
  let v941 : Index := Scalar.indexCast v940
  let c896_281 : Index := 896#32
  ![v941.toNat, 896]
def k0_off1335 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v946 : Index := Scalar.indexCast arg21
  let c896_282 : Index := 896#32
  ![v946.toNat, 896]
def k0_off1336 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v950 : Index := Scalar.indexCast arg20
  let c912 : Index := 912#32
  ![v950.toNat, 912]
def k0_off1337 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_283 : BitVec 32 := 1#32
  let v953 : BitVec 32 := Scalar.addi arg20 c1_i32_283
  let c0_i32_103 : BitVec 32 := 0#32
  let c1_i32_105 : BitVec 32 := 1#32
  let arg21 : BitVec 32 := Scf.iv c0_i32_103 c1_i32_105 k0_t22
  let v954 : BitVec 32 := Scalar.addi v953 arg21
  let v955 : Index := Scalar.indexCast v954
  let c912_284 : Index := 912#32
  ![v955.toNat, 912]
def k0_off1338 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v960 : Index := Scalar.indexCast arg21
  let c912_285 : Index := 912#32
  ![v960.toNat, 912]
def k0_off1339 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v964 : Index := Scalar.indexCast arg20
  let c928 : Index := 928#32
  ![v964.toNat, 928]
def k0_off1340 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_286 : BitVec 32 := 1#32
  let v967 : BitVec 32 := Scalar.addi arg20 c1_i32_286
  let c0_i32_103 : BitVec 32 := 0#32
  let c1_i32_105 : BitVec 32 := 1#32
  let arg21 : BitVec 32 := Scf.iv c0_i32_103 c1_i32_105 k0_t22
  let v968 : BitVec 32 := Scalar.addi v967 arg21
  let v969 : Index := Scalar.indexCast v968
  let c928_287 : Index := 928#32
  ![v969.toNat, 928]
def k0_off1341 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v974 : Index := Scalar.indexCast arg21
  let c928_288 : Index := 928#32
  ![v974.toNat, 928]
def k0_off1342 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v978 : Index := Scalar.indexCast arg20
  let c944 : Index := 944#32
  ![v978.toNat, 944]
def k0_off1343 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_289 : BitVec 32 := 1#32
  let v981 : BitVec 32 := Scalar.addi arg20 c1_i32_289
  let c0_i32_103 : BitVec 32 := 0#32
  let c1_i32_105 : BitVec 32 := 1#32
  let arg21 : BitVec 32 := Scf.iv c0_i32_103 c1_i32_105 k0_t22
  let v982 : BitVec 32 := Scalar.addi v981 arg21
  let v983 : Index := Scalar.indexCast v982
  let c944_290 : Index := 944#32
  ![v983.toNat, 944]
def k0_off1344 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v988 : Index := Scalar.indexCast arg21
  let c944_291 : Index := 944#32
  ![v988.toNat, 944]
def k0_off1345 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v992 : Index := Scalar.indexCast arg20
  let c960 : Index := 960#32
  ![v992.toNat, 960]
def k0_off1346 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_292 : BitVec 32 := 1#32
  let v995 : BitVec 32 := Scalar.addi arg20 c1_i32_292
  let c0_i32_103 : BitVec 32 := 0#32
  let c1_i32_105 : BitVec 32 := 1#32
  let arg21 : BitVec 32 := Scf.iv c0_i32_103 c1_i32_105 k0_t22
  let v996 : BitVec 32 := Scalar.addi v995 arg21
  let v997 : Index := Scalar.indexCast v996
  let c960_293 : Index := 960#32
  ![v997.toNat, 960]
def k0_off1347 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v1002 : Index := Scalar.indexCast arg21
  let c960_294 : Index := 960#32
  ![v1002.toNat, 960]
def k0_off1348 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v1006 : Index := Scalar.indexCast arg20
  let c976 : Index := 976#32
  ![v1006.toNat, 976]
def k0_off1349 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_295 : BitVec 32 := 1#32
  let v1009 : BitVec 32 := Scalar.addi arg20 c1_i32_295
  let c0_i32_103 : BitVec 32 := 0#32
  let c1_i32_105 : BitVec 32 := 1#32
  let arg21 : BitVec 32 := Scf.iv c0_i32_103 c1_i32_105 k0_t22
  let v1010 : BitVec 32 := Scalar.addi v1009 arg21
  let v1011 : Index := Scalar.indexCast v1010
  let c976_296 : Index := 976#32
  ![v1011.toNat, 976]
def k0_off1350 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v1016 : Index := Scalar.indexCast arg21
  let c976_297 : Index := 976#32
  ![v1016.toNat, 976]
def k0_off1351 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v1020 : Index := Scalar.indexCast arg20
  let c992 : Index := 992#32
  ![v1020.toNat, 992]
def k0_off1352 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_298 : BitVec 32 := 1#32
  let v1023 : BitVec 32 := Scalar.addi arg20 c1_i32_298
  let c0_i32_103 : BitVec 32 := 0#32
  let c1_i32_105 : BitVec 32 := 1#32
  let arg21 : BitVec 32 := Scf.iv c0_i32_103 c1_i32_105 k0_t22
  let v1024 : BitVec 32 := Scalar.addi v1023 arg21
  let v1025 : Index := Scalar.indexCast v1024
  let c992_299 : Index := 992#32
  ![v1025.toNat, 992]
def k0_off1353 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v1030 : Index := Scalar.indexCast arg21
  let c992_300 : Index := 992#32
  ![v1030.toNat, 992]
def k0_off1354 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v1034 : Index := Scalar.indexCast arg20
  let c1008 : Index := 1008#32
  ![v1034.toNat, 1008]
def k0_off1355 (k0_t21 : Fin k0_t21_loop.trips) (k0_t22 : Fin (k0_t22_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_301 : BitVec 32 := 1#32
  let v1037 : BitVec 32 := Scalar.addi arg20 c1_i32_301
  let c0_i32_103 : BitVec 32 := 0#32
  let c1_i32_105 : BitVec 32 := 1#32
  let arg21 : BitVec 32 := Scf.iv c0_i32_103 c1_i32_105 k0_t22
  let v1038 : BitVec 32 := Scalar.addi v1037 arg21
  let v1039 : Index := Scalar.indexCast v1038
  let c1008_302 : Index := 1008#32
  ![v1039.toNat, 1008]
def k0_off1356 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let v1044 : Index := Scalar.indexCast arg21
  let c1008_303 : Index := 1008#32
  ![v1044.toNat, 1008]
def k0_off1357 (k0_t21 : Fin k0_t21_loop.trips) (k0_t22 : Fin (k0_t22_loop k0_t21).trips) : Fin 2 → Nat :=
  let c0_i32_103 : BitVec 32 := 0#32
  let c1_i32_105 : BitVec 32 := 1#32
  let arg21 : BitVec 32 := Scf.iv c0_i32_103 c1_i32_105 k0_t22
  let c0_i32_304 : BitVec 32 := 0#32
  ![arg21.toNat, 0]
def k0_off1358 (i : grid0.Coords) (k0_t21 : Fin k0_t21_loop.trips) (k0_t22 : Fin (k0_t22_loop k0_t21).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c0_i32_80 : BitVec 32 := 0#32
  let v114 : BitVec 32 := Scalar.addi v42 c0_i32_80
  let c16_i32_93 : BitVec 32 := 16#32
  let v119 : BitVec 32 := Scalar.muli v114 c16_i32_93
  let c0_i32_82 : BitVec 32 := 0#32
  let c1_i32_84 : BitVec 32 := 1#32
  let arg20 : BitVec 32 := Scf.iv c0_i32_82 c1_i32_84 k0_t21
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c1_i32_105 : BitVec 32 := 1#32
  let arg21 : BitVec 32 := Scf.iv c0_i32_103 c1_i32_105 k0_t22
  let v1048 : BitVec 32 := Scalar.addi v141 arg21
  let c0_i32_305 : BitVec 32 := 0#32
  ![v1048.toNat, 0]
@[reducible] def k0_t23_loop (k0_t21 : Fin k0_t21_loop.trips) : Scf.Loop 32 :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let v143 : BitVec 32 := Scalar.addi c0_i32_103 v142
  let c1_i32_106 : BitVec 32 := 1#32
  ⟨v146, v143, c1_i32_106⟩
def k0_off1359 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v152 : Index := Scalar.indexCast arg20
  let c0 : Index := 0#32
  ![v152.toNat, 0]
def k0_off1360 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_112 : BitVec 32 := 1#32
  let v155 : BitVec 32 := Scalar.addi arg20 c1_i32_112
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v156 : BitVec 32 := Scalar.addi v155 arg21
  let v157 : Index := Scalar.indexCast v156
  let c0_113 : Index := 0#32
  ![v157.toNat, 0]
def k0_off1361 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v162 : Index := Scalar.indexCast arg21
  let c0_114 : Index := 0#32
  ![v162.toNat, 0]
def k0_off1362 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v166 : Index := Scalar.indexCast arg20
  let c16 : Index := 16#32
  ![v166.toNat, 16]
def k0_off1363 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_115 : BitVec 32 := 1#32
  let v169 : BitVec 32 := Scalar.addi arg20 c1_i32_115
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v170 : BitVec 32 := Scalar.addi v169 arg21
  let v171 : Index := Scalar.indexCast v170
  let c16_116 : Index := 16#32
  ![v171.toNat, 16]
def k0_off1364 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v176 : Index := Scalar.indexCast arg21
  let c16_117 : Index := 16#32
  ![v176.toNat, 16]
def k0_off1365 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v180 : Index := Scalar.indexCast arg20
  let c32 : Index := 32#32
  ![v180.toNat, 32]
def k0_off1366 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_118 : BitVec 32 := 1#32
  let v183 : BitVec 32 := Scalar.addi arg20 c1_i32_118
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v184 : BitVec 32 := Scalar.addi v183 arg21
  let v185 : Index := Scalar.indexCast v184
  let c32_119 : Index := 32#32
  ![v185.toNat, 32]
def k0_off1367 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v190 : Index := Scalar.indexCast arg21
  let c32_120 : Index := 32#32
  ![v190.toNat, 32]
def k0_off1368 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v194 : Index := Scalar.indexCast arg20
  let c48 : Index := 48#32
  ![v194.toNat, 48]
def k0_off1369 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_121 : BitVec 32 := 1#32
  let v197 : BitVec 32 := Scalar.addi arg20 c1_i32_121
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v198 : BitVec 32 := Scalar.addi v197 arg21
  let v199 : Index := Scalar.indexCast v198
  let c48_122 : Index := 48#32
  ![v199.toNat, 48]
def k0_off1370 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v204 : Index := Scalar.indexCast arg21
  let c48_123 : Index := 48#32
  ![v204.toNat, 48]
def k0_off1371 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v208 : Index := Scalar.indexCast arg20
  let c64 : Index := 64#32
  ![v208.toNat, 64]
def k0_off1372 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_124 : BitVec 32 := 1#32
  let v211 : BitVec 32 := Scalar.addi arg20 c1_i32_124
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v212 : BitVec 32 := Scalar.addi v211 arg21
  let v213 : Index := Scalar.indexCast v212
  let c64_125 : Index := 64#32
  ![v213.toNat, 64]
def k0_off1373 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v218 : Index := Scalar.indexCast arg21
  let c64_126 : Index := 64#32
  ![v218.toNat, 64]
def k0_off1374 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v222 : Index := Scalar.indexCast arg20
  let c80 : Index := 80#32
  ![v222.toNat, 80]
def k0_off1375 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_127 : BitVec 32 := 1#32
  let v225 : BitVec 32 := Scalar.addi arg20 c1_i32_127
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v226 : BitVec 32 := Scalar.addi v225 arg21
  let v227 : Index := Scalar.indexCast v226
  let c80_128 : Index := 80#32
  ![v227.toNat, 80]
def k0_off1376 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v232 : Index := Scalar.indexCast arg21
  let c80_129 : Index := 80#32
  ![v232.toNat, 80]
def k0_off1377 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v236 : Index := Scalar.indexCast arg20
  let c96 : Index := 96#32
  ![v236.toNat, 96]
def k0_off1378 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_130 : BitVec 32 := 1#32
  let v239 : BitVec 32 := Scalar.addi arg20 c1_i32_130
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v240 : BitVec 32 := Scalar.addi v239 arg21
  let v241 : Index := Scalar.indexCast v240
  let c96_131 : Index := 96#32
  ![v241.toNat, 96]
def k0_off1379 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v246 : Index := Scalar.indexCast arg21
  let c96_132 : Index := 96#32
  ![v246.toNat, 96]
def k0_off1380 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v250 : Index := Scalar.indexCast arg20
  let c112 : Index := 112#32
  ![v250.toNat, 112]
def k0_off1381 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_133 : BitVec 32 := 1#32
  let v253 : BitVec 32 := Scalar.addi arg20 c1_i32_133
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v254 : BitVec 32 := Scalar.addi v253 arg21
  let v255 : Index := Scalar.indexCast v254
  let c112_134 : Index := 112#32
  ![v255.toNat, 112]
def k0_off1382 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v260 : Index := Scalar.indexCast arg21
  let c112_135 : Index := 112#32
  ![v260.toNat, 112]
def k0_off1383 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v264 : Index := Scalar.indexCast arg20
  let c128 : Index := 128#32
  ![v264.toNat, 128]
def k0_off1384 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_136 : BitVec 32 := 1#32
  let v267 : BitVec 32 := Scalar.addi arg20 c1_i32_136
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v268 : BitVec 32 := Scalar.addi v267 arg21
  let v269 : Index := Scalar.indexCast v268
  let c128_137 : Index := 128#32
  ![v269.toNat, 128]
def k0_off1385 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v274 : Index := Scalar.indexCast arg21
  let c128_138 : Index := 128#32
  ![v274.toNat, 128]
def k0_off1386 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v278 : Index := Scalar.indexCast arg20
  let c144 : Index := 144#32
  ![v278.toNat, 144]
def k0_off1387 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_139 : BitVec 32 := 1#32
  let v281 : BitVec 32 := Scalar.addi arg20 c1_i32_139
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v282 : BitVec 32 := Scalar.addi v281 arg21
  let v283 : Index := Scalar.indexCast v282
  let c144_140 : Index := 144#32
  ![v283.toNat, 144]
def k0_off1388 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v288 : Index := Scalar.indexCast arg21
  let c144_141 : Index := 144#32
  ![v288.toNat, 144]
def k0_off1389 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v292 : Index := Scalar.indexCast arg20
  let c160 : Index := 160#32
  ![v292.toNat, 160]
def k0_off1390 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_142 : BitVec 32 := 1#32
  let v295 : BitVec 32 := Scalar.addi arg20 c1_i32_142
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v296 : BitVec 32 := Scalar.addi v295 arg21
  let v297 : Index := Scalar.indexCast v296
  let c160_143 : Index := 160#32
  ![v297.toNat, 160]
def k0_off1391 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v302 : Index := Scalar.indexCast arg21
  let c160_144 : Index := 160#32
  ![v302.toNat, 160]
def k0_off1392 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v306 : Index := Scalar.indexCast arg20
  let c176 : Index := 176#32
  ![v306.toNat, 176]
def k0_off1393 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_145 : BitVec 32 := 1#32
  let v309 : BitVec 32 := Scalar.addi arg20 c1_i32_145
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v310 : BitVec 32 := Scalar.addi v309 arg21
  let v311 : Index := Scalar.indexCast v310
  let c176_146 : Index := 176#32
  ![v311.toNat, 176]
def k0_off1394 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v316 : Index := Scalar.indexCast arg21
  let c176_147 : Index := 176#32
  ![v316.toNat, 176]
def k0_off1395 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v320 : Index := Scalar.indexCast arg20
  let c192 : Index := 192#32
  ![v320.toNat, 192]
def k0_off1396 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_148 : BitVec 32 := 1#32
  let v323 : BitVec 32 := Scalar.addi arg20 c1_i32_148
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v324 : BitVec 32 := Scalar.addi v323 arg21
  let v325 : Index := Scalar.indexCast v324
  let c192_149 : Index := 192#32
  ![v325.toNat, 192]
def k0_off1397 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v330 : Index := Scalar.indexCast arg21
  let c192_150 : Index := 192#32
  ![v330.toNat, 192]
def k0_off1398 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v334 : Index := Scalar.indexCast arg20
  let c208 : Index := 208#32
  ![v334.toNat, 208]
def k0_off1399 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_151 : BitVec 32 := 1#32
  let v337 : BitVec 32 := Scalar.addi arg20 c1_i32_151
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v338 : BitVec 32 := Scalar.addi v337 arg21
  let v339 : Index := Scalar.indexCast v338
  let c208_152 : Index := 208#32
  ![v339.toNat, 208]
def k0_off1400 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v344 : Index := Scalar.indexCast arg21
  let c208_153 : Index := 208#32
  ![v344.toNat, 208]
def k0_off1401 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v348 : Index := Scalar.indexCast arg20
  let c224 : Index := 224#32
  ![v348.toNat, 224]
def k0_off1402 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_154 : BitVec 32 := 1#32
  let v351 : BitVec 32 := Scalar.addi arg20 c1_i32_154
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v352 : BitVec 32 := Scalar.addi v351 arg21
  let v353 : Index := Scalar.indexCast v352
  let c224_155 : Index := 224#32
  ![v353.toNat, 224]
def k0_off1403 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v358 : Index := Scalar.indexCast arg21
  let c224_156 : Index := 224#32
  ![v358.toNat, 224]
def k0_off1404 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v362 : Index := Scalar.indexCast arg20
  let c240 : Index := 240#32
  ![v362.toNat, 240]
def k0_off1405 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_157 : BitVec 32 := 1#32
  let v365 : BitVec 32 := Scalar.addi arg20 c1_i32_157
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v366 : BitVec 32 := Scalar.addi v365 arg21
  let v367 : Index := Scalar.indexCast v366
  let c240_158 : Index := 240#32
  ![v367.toNat, 240]
def k0_off1406 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v372 : Index := Scalar.indexCast arg21
  let c240_159 : Index := 240#32
  ![v372.toNat, 240]
def k0_off1407 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v376 : Index := Scalar.indexCast arg20
  let c256 : Index := 256#32
  ![v376.toNat, 256]
def k0_off1408 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_160 : BitVec 32 := 1#32
  let v379 : BitVec 32 := Scalar.addi arg20 c1_i32_160
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v380 : BitVec 32 := Scalar.addi v379 arg21
  let v381 : Index := Scalar.indexCast v380
  let c256_161 : Index := 256#32
  ![v381.toNat, 256]
def k0_off1409 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v386 : Index := Scalar.indexCast arg21
  let c256_162 : Index := 256#32
  ![v386.toNat, 256]
def k0_off1410 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v390 : Index := Scalar.indexCast arg20
  let c272 : Index := 272#32
  ![v390.toNat, 272]
def k0_off1411 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_163 : BitVec 32 := 1#32
  let v393 : BitVec 32 := Scalar.addi arg20 c1_i32_163
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v394 : BitVec 32 := Scalar.addi v393 arg21
  let v395 : Index := Scalar.indexCast v394
  let c272_164 : Index := 272#32
  ![v395.toNat, 272]
def k0_off1412 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v400 : Index := Scalar.indexCast arg21
  let c272_165 : Index := 272#32
  ![v400.toNat, 272]
def k0_off1413 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v404 : Index := Scalar.indexCast arg20
  let c288 : Index := 288#32
  ![v404.toNat, 288]
def k0_off1414 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_166 : BitVec 32 := 1#32
  let v407 : BitVec 32 := Scalar.addi arg20 c1_i32_166
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v408 : BitVec 32 := Scalar.addi v407 arg21
  let v409 : Index := Scalar.indexCast v408
  let c288_167 : Index := 288#32
  ![v409.toNat, 288]
def k0_off1415 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v414 : Index := Scalar.indexCast arg21
  let c288_168 : Index := 288#32
  ![v414.toNat, 288]
def k0_off1416 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v418 : Index := Scalar.indexCast arg20
  let c304 : Index := 304#32
  ![v418.toNat, 304]
def k0_off1417 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_169 : BitVec 32 := 1#32
  let v421 : BitVec 32 := Scalar.addi arg20 c1_i32_169
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v422 : BitVec 32 := Scalar.addi v421 arg21
  let v423 : Index := Scalar.indexCast v422
  let c304_170 : Index := 304#32
  ![v423.toNat, 304]
def k0_off1418 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v428 : Index := Scalar.indexCast arg21
  let c304_171 : Index := 304#32
  ![v428.toNat, 304]
def k0_off1419 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v432 : Index := Scalar.indexCast arg20
  let c320 : Index := 320#32
  ![v432.toNat, 320]
def k0_off1420 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_172 : BitVec 32 := 1#32
  let v435 : BitVec 32 := Scalar.addi arg20 c1_i32_172
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v436 : BitVec 32 := Scalar.addi v435 arg21
  let v437 : Index := Scalar.indexCast v436
  let c320_173 : Index := 320#32
  ![v437.toNat, 320]
def k0_off1421 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v442 : Index := Scalar.indexCast arg21
  let c320_174 : Index := 320#32
  ![v442.toNat, 320]
def k0_off1422 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v446 : Index := Scalar.indexCast arg20
  let c336 : Index := 336#32
  ![v446.toNat, 336]
def k0_off1423 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_175 : BitVec 32 := 1#32
  let v449 : BitVec 32 := Scalar.addi arg20 c1_i32_175
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v450 : BitVec 32 := Scalar.addi v449 arg21
  let v451 : Index := Scalar.indexCast v450
  let c336_176 : Index := 336#32
  ![v451.toNat, 336]
def k0_off1424 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v456 : Index := Scalar.indexCast arg21
  let c336_177 : Index := 336#32
  ![v456.toNat, 336]
def k0_off1425 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v460 : Index := Scalar.indexCast arg20
  let c352 : Index := 352#32
  ![v460.toNat, 352]
def k0_off1426 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_178 : BitVec 32 := 1#32
  let v463 : BitVec 32 := Scalar.addi arg20 c1_i32_178
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v464 : BitVec 32 := Scalar.addi v463 arg21
  let v465 : Index := Scalar.indexCast v464
  let c352_179 : Index := 352#32
  ![v465.toNat, 352]
def k0_off1427 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v470 : Index := Scalar.indexCast arg21
  let c352_180 : Index := 352#32
  ![v470.toNat, 352]
def k0_off1428 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v474 : Index := Scalar.indexCast arg20
  let c368 : Index := 368#32
  ![v474.toNat, 368]
def k0_off1429 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_181 : BitVec 32 := 1#32
  let v477 : BitVec 32 := Scalar.addi arg20 c1_i32_181
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v478 : BitVec 32 := Scalar.addi v477 arg21
  let v479 : Index := Scalar.indexCast v478
  let c368_182 : Index := 368#32
  ![v479.toNat, 368]
def k0_off1430 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v484 : Index := Scalar.indexCast arg21
  let c368_183 : Index := 368#32
  ![v484.toNat, 368]
def k0_off1431 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v488 : Index := Scalar.indexCast arg20
  let c384 : Index := 384#32
  ![v488.toNat, 384]
def k0_off1432 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_184 : BitVec 32 := 1#32
  let v491 : BitVec 32 := Scalar.addi arg20 c1_i32_184
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v492 : BitVec 32 := Scalar.addi v491 arg21
  let v493 : Index := Scalar.indexCast v492
  let c384_185 : Index := 384#32
  ![v493.toNat, 384]
def k0_off1433 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v498 : Index := Scalar.indexCast arg21
  let c384_186 : Index := 384#32
  ![v498.toNat, 384]
def k0_off1434 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v502 : Index := Scalar.indexCast arg20
  let c400 : Index := 400#32
  ![v502.toNat, 400]
def k0_off1435 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_187 : BitVec 32 := 1#32
  let v505 : BitVec 32 := Scalar.addi arg20 c1_i32_187
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v506 : BitVec 32 := Scalar.addi v505 arg21
  let v507 : Index := Scalar.indexCast v506
  let c400_188 : Index := 400#32
  ![v507.toNat, 400]
def k0_off1436 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v512 : Index := Scalar.indexCast arg21
  let c400_189 : Index := 400#32
  ![v512.toNat, 400]
def k0_off1437 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v516 : Index := Scalar.indexCast arg20
  let c416 : Index := 416#32
  ![v516.toNat, 416]
def k0_off1438 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_190 : BitVec 32 := 1#32
  let v519 : BitVec 32 := Scalar.addi arg20 c1_i32_190
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v520 : BitVec 32 := Scalar.addi v519 arg21
  let v521 : Index := Scalar.indexCast v520
  let c416_191 : Index := 416#32
  ![v521.toNat, 416]
def k0_off1439 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v526 : Index := Scalar.indexCast arg21
  let c416_192 : Index := 416#32
  ![v526.toNat, 416]
def k0_off1440 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v530 : Index := Scalar.indexCast arg20
  let c432 : Index := 432#32
  ![v530.toNat, 432]
def k0_off1441 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_193 : BitVec 32 := 1#32
  let v533 : BitVec 32 := Scalar.addi arg20 c1_i32_193
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v534 : BitVec 32 := Scalar.addi v533 arg21
  let v535 : Index := Scalar.indexCast v534
  let c432_194 : Index := 432#32
  ![v535.toNat, 432]
def k0_off1442 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v540 : Index := Scalar.indexCast arg21
  let c432_195 : Index := 432#32
  ![v540.toNat, 432]
def k0_off1443 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v544 : Index := Scalar.indexCast arg20
  let c448 : Index := 448#32
  ![v544.toNat, 448]
def k0_off1444 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_196 : BitVec 32 := 1#32
  let v547 : BitVec 32 := Scalar.addi arg20 c1_i32_196
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v548 : BitVec 32 := Scalar.addi v547 arg21
  let v549 : Index := Scalar.indexCast v548
  let c448_197 : Index := 448#32
  ![v549.toNat, 448]
def k0_off1445 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v554 : Index := Scalar.indexCast arg21
  let c448_198 : Index := 448#32
  ![v554.toNat, 448]
def k0_off1446 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v558 : Index := Scalar.indexCast arg20
  let c464 : Index := 464#32
  ![v558.toNat, 464]
def k0_off1447 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_199 : BitVec 32 := 1#32
  let v561 : BitVec 32 := Scalar.addi arg20 c1_i32_199
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v562 : BitVec 32 := Scalar.addi v561 arg21
  let v563 : Index := Scalar.indexCast v562
  let c464_200 : Index := 464#32
  ![v563.toNat, 464]
def k0_off1448 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v568 : Index := Scalar.indexCast arg21
  let c464_201 : Index := 464#32
  ![v568.toNat, 464]
def k0_off1449 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v572 : Index := Scalar.indexCast arg20
  let c480 : Index := 480#32
  ![v572.toNat, 480]
def k0_off1450 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_202 : BitVec 32 := 1#32
  let v575 : BitVec 32 := Scalar.addi arg20 c1_i32_202
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v576 : BitVec 32 := Scalar.addi v575 arg21
  let v577 : Index := Scalar.indexCast v576
  let c480_203 : Index := 480#32
  ![v577.toNat, 480]
def k0_off1451 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v582 : Index := Scalar.indexCast arg21
  let c480_204 : Index := 480#32
  ![v582.toNat, 480]
def k0_off1452 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v586 : Index := Scalar.indexCast arg20
  let c496 : Index := 496#32
  ![v586.toNat, 496]
def k0_off1453 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_205 : BitVec 32 := 1#32
  let v589 : BitVec 32 := Scalar.addi arg20 c1_i32_205
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v590 : BitVec 32 := Scalar.addi v589 arg21
  let v591 : Index := Scalar.indexCast v590
  let c496_206 : Index := 496#32
  ![v591.toNat, 496]
def k0_off1454 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v596 : Index := Scalar.indexCast arg21
  let c496_207 : Index := 496#32
  ![v596.toNat, 496]
def k0_off1455 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v600 : Index := Scalar.indexCast arg20
  let c512 : Index := 512#32
  ![v600.toNat, 512]
def k0_off1456 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_208 : BitVec 32 := 1#32
  let v603 : BitVec 32 := Scalar.addi arg20 c1_i32_208
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v604 : BitVec 32 := Scalar.addi v603 arg21
  let v605 : Index := Scalar.indexCast v604
  let c512_209 : Index := 512#32
  ![v605.toNat, 512]
def k0_off1457 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v610 : Index := Scalar.indexCast arg21
  let c512_210 : Index := 512#32
  ![v610.toNat, 512]
def k0_off1458 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v614 : Index := Scalar.indexCast arg20
  let c528 : Index := 528#32
  ![v614.toNat, 528]
def k0_off1459 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_211 : BitVec 32 := 1#32
  let v617 : BitVec 32 := Scalar.addi arg20 c1_i32_211
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v618 : BitVec 32 := Scalar.addi v617 arg21
  let v619 : Index := Scalar.indexCast v618
  let c528_212 : Index := 528#32
  ![v619.toNat, 528]
def k0_off1460 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v624 : Index := Scalar.indexCast arg21
  let c528_213 : Index := 528#32
  ![v624.toNat, 528]
def k0_off1461 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v628 : Index := Scalar.indexCast arg20
  let c544 : Index := 544#32
  ![v628.toNat, 544]
def k0_off1462 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_214 : BitVec 32 := 1#32
  let v631 : BitVec 32 := Scalar.addi arg20 c1_i32_214
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v632 : BitVec 32 := Scalar.addi v631 arg21
  let v633 : Index := Scalar.indexCast v632
  let c544_215 : Index := 544#32
  ![v633.toNat, 544]
def k0_off1463 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v638 : Index := Scalar.indexCast arg21
  let c544_216 : Index := 544#32
  ![v638.toNat, 544]
def k0_off1464 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v642 : Index := Scalar.indexCast arg20
  let c560 : Index := 560#32
  ![v642.toNat, 560]
def k0_off1465 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_217 : BitVec 32 := 1#32
  let v645 : BitVec 32 := Scalar.addi arg20 c1_i32_217
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v646 : BitVec 32 := Scalar.addi v645 arg21
  let v647 : Index := Scalar.indexCast v646
  let c560_218 : Index := 560#32
  ![v647.toNat, 560]
def k0_off1466 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v652 : Index := Scalar.indexCast arg21
  let c560_219 : Index := 560#32
  ![v652.toNat, 560]
def k0_off1467 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v656 : Index := Scalar.indexCast arg20
  let c576 : Index := 576#32
  ![v656.toNat, 576]
def k0_off1468 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_220 : BitVec 32 := 1#32
  let v659 : BitVec 32 := Scalar.addi arg20 c1_i32_220
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v660 : BitVec 32 := Scalar.addi v659 arg21
  let v661 : Index := Scalar.indexCast v660
  let c576_221 : Index := 576#32
  ![v661.toNat, 576]
def k0_off1469 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v666 : Index := Scalar.indexCast arg21
  let c576_222 : Index := 576#32
  ![v666.toNat, 576]
def k0_off1470 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v670 : Index := Scalar.indexCast arg20
  let c592 : Index := 592#32
  ![v670.toNat, 592]
def k0_off1471 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_223 : BitVec 32 := 1#32
  let v673 : BitVec 32 := Scalar.addi arg20 c1_i32_223
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v674 : BitVec 32 := Scalar.addi v673 arg21
  let v675 : Index := Scalar.indexCast v674
  let c592_224 : Index := 592#32
  ![v675.toNat, 592]
def k0_off1472 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v680 : Index := Scalar.indexCast arg21
  let c592_225 : Index := 592#32
  ![v680.toNat, 592]
def k0_off1473 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v684 : Index := Scalar.indexCast arg20
  let c608 : Index := 608#32
  ![v684.toNat, 608]
def k0_off1474 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_226 : BitVec 32 := 1#32
  let v687 : BitVec 32 := Scalar.addi arg20 c1_i32_226
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v688 : BitVec 32 := Scalar.addi v687 arg21
  let v689 : Index := Scalar.indexCast v688
  let c608_227 : Index := 608#32
  ![v689.toNat, 608]
def k0_off1475 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v694 : Index := Scalar.indexCast arg21
  let c608_228 : Index := 608#32
  ![v694.toNat, 608]
def k0_off1476 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v698 : Index := Scalar.indexCast arg20
  let c624 : Index := 624#32
  ![v698.toNat, 624]
def k0_off1477 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_229 : BitVec 32 := 1#32
  let v701 : BitVec 32 := Scalar.addi arg20 c1_i32_229
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v702 : BitVec 32 := Scalar.addi v701 arg21
  let v703 : Index := Scalar.indexCast v702
  let c624_230 : Index := 624#32
  ![v703.toNat, 624]
def k0_off1478 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v708 : Index := Scalar.indexCast arg21
  let c624_231 : Index := 624#32
  ![v708.toNat, 624]
def k0_off1479 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v712 : Index := Scalar.indexCast arg20
  let c640 : Index := 640#32
  ![v712.toNat, 640]
def k0_off1480 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_232 : BitVec 32 := 1#32
  let v715 : BitVec 32 := Scalar.addi arg20 c1_i32_232
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v716 : BitVec 32 := Scalar.addi v715 arg21
  let v717 : Index := Scalar.indexCast v716
  let c640_233 : Index := 640#32
  ![v717.toNat, 640]
def k0_off1481 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v722 : Index := Scalar.indexCast arg21
  let c640_234 : Index := 640#32
  ![v722.toNat, 640]
def k0_off1482 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v726 : Index := Scalar.indexCast arg20
  let c656 : Index := 656#32
  ![v726.toNat, 656]
def k0_off1483 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_235 : BitVec 32 := 1#32
  let v729 : BitVec 32 := Scalar.addi arg20 c1_i32_235
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v730 : BitVec 32 := Scalar.addi v729 arg21
  let v731 : Index := Scalar.indexCast v730
  let c656_236 : Index := 656#32
  ![v731.toNat, 656]
def k0_off1484 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v736 : Index := Scalar.indexCast arg21
  let c656_237 : Index := 656#32
  ![v736.toNat, 656]
def k0_off1485 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v740 : Index := Scalar.indexCast arg20
  let c672 : Index := 672#32
  ![v740.toNat, 672]
def k0_off1486 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_238 : BitVec 32 := 1#32
  let v743 : BitVec 32 := Scalar.addi arg20 c1_i32_238
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v744 : BitVec 32 := Scalar.addi v743 arg21
  let v745 : Index := Scalar.indexCast v744
  let c672_239 : Index := 672#32
  ![v745.toNat, 672]
def k0_off1487 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v750 : Index := Scalar.indexCast arg21
  let c672_240 : Index := 672#32
  ![v750.toNat, 672]
def k0_off1488 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v754 : Index := Scalar.indexCast arg20
  let c688 : Index := 688#32
  ![v754.toNat, 688]
def k0_off1489 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_241 : BitVec 32 := 1#32
  let v757 : BitVec 32 := Scalar.addi arg20 c1_i32_241
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v758 : BitVec 32 := Scalar.addi v757 arg21
  let v759 : Index := Scalar.indexCast v758
  let c688_242 : Index := 688#32
  ![v759.toNat, 688]
def k0_off1490 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v764 : Index := Scalar.indexCast arg21
  let c688_243 : Index := 688#32
  ![v764.toNat, 688]
def k0_off1491 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v768 : Index := Scalar.indexCast arg20
  let c704 : Index := 704#32
  ![v768.toNat, 704]
def k0_off1492 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_244 : BitVec 32 := 1#32
  let v771 : BitVec 32 := Scalar.addi arg20 c1_i32_244
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v772 : BitVec 32 := Scalar.addi v771 arg21
  let v773 : Index := Scalar.indexCast v772
  let c704_245 : Index := 704#32
  ![v773.toNat, 704]
def k0_off1493 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v778 : Index := Scalar.indexCast arg21
  let c704_246 : Index := 704#32
  ![v778.toNat, 704]
def k0_off1494 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v782 : Index := Scalar.indexCast arg20
  let c720 : Index := 720#32
  ![v782.toNat, 720]
def k0_off1495 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_247 : BitVec 32 := 1#32
  let v785 : BitVec 32 := Scalar.addi arg20 c1_i32_247
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v786 : BitVec 32 := Scalar.addi v785 arg21
  let v787 : Index := Scalar.indexCast v786
  let c720_248 : Index := 720#32
  ![v787.toNat, 720]
def k0_off1496 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v792 : Index := Scalar.indexCast arg21
  let c720_249 : Index := 720#32
  ![v792.toNat, 720]
def k0_off1497 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v796 : Index := Scalar.indexCast arg20
  let c736 : Index := 736#32
  ![v796.toNat, 736]
def k0_off1498 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_250 : BitVec 32 := 1#32
  let v799 : BitVec 32 := Scalar.addi arg20 c1_i32_250
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v800 : BitVec 32 := Scalar.addi v799 arg21
  let v801 : Index := Scalar.indexCast v800
  let c736_251 : Index := 736#32
  ![v801.toNat, 736]
def k0_off1499 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v806 : Index := Scalar.indexCast arg21
  let c736_252 : Index := 736#32
  ![v806.toNat, 736]
def k0_off1500 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v810 : Index := Scalar.indexCast arg20
  let c752 : Index := 752#32
  ![v810.toNat, 752]
def k0_off1501 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_253 : BitVec 32 := 1#32
  let v813 : BitVec 32 := Scalar.addi arg20 c1_i32_253
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v814 : BitVec 32 := Scalar.addi v813 arg21
  let v815 : Index := Scalar.indexCast v814
  let c752_254 : Index := 752#32
  ![v815.toNat, 752]
def k0_off1502 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v820 : Index := Scalar.indexCast arg21
  let c752_255 : Index := 752#32
  ![v820.toNat, 752]
def k0_off1503 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v824 : Index := Scalar.indexCast arg20
  let c768 : Index := 768#32
  ![v824.toNat, 768]
def k0_off1504 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_256 : BitVec 32 := 1#32
  let v827 : BitVec 32 := Scalar.addi arg20 c1_i32_256
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v828 : BitVec 32 := Scalar.addi v827 arg21
  let v829 : Index := Scalar.indexCast v828
  let c768_257 : Index := 768#32
  ![v829.toNat, 768]
def k0_off1505 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v834 : Index := Scalar.indexCast arg21
  let c768_258 : Index := 768#32
  ![v834.toNat, 768]
def k0_off1506 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v838 : Index := Scalar.indexCast arg20
  let c784 : Index := 784#32
  ![v838.toNat, 784]
def k0_off1507 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_259 : BitVec 32 := 1#32
  let v841 : BitVec 32 := Scalar.addi arg20 c1_i32_259
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v842 : BitVec 32 := Scalar.addi v841 arg21
  let v843 : Index := Scalar.indexCast v842
  let c784_260 : Index := 784#32
  ![v843.toNat, 784]
def k0_off1508 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v848 : Index := Scalar.indexCast arg21
  let c784_261 : Index := 784#32
  ![v848.toNat, 784]
def k0_off1509 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v852 : Index := Scalar.indexCast arg20
  let c800 : Index := 800#32
  ![v852.toNat, 800]
def k0_off1510 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_262 : BitVec 32 := 1#32
  let v855 : BitVec 32 := Scalar.addi arg20 c1_i32_262
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v856 : BitVec 32 := Scalar.addi v855 arg21
  let v857 : Index := Scalar.indexCast v856
  let c800_263 : Index := 800#32
  ![v857.toNat, 800]
def k0_off1511 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v862 : Index := Scalar.indexCast arg21
  let c800_264 : Index := 800#32
  ![v862.toNat, 800]
def k0_off1512 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v866 : Index := Scalar.indexCast arg20
  let c816 : Index := 816#32
  ![v866.toNat, 816]
def k0_off1513 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_265 : BitVec 32 := 1#32
  let v869 : BitVec 32 := Scalar.addi arg20 c1_i32_265
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v870 : BitVec 32 := Scalar.addi v869 arg21
  let v871 : Index := Scalar.indexCast v870
  let c816_266 : Index := 816#32
  ![v871.toNat, 816]
def k0_off1514 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v876 : Index := Scalar.indexCast arg21
  let c816_267 : Index := 816#32
  ![v876.toNat, 816]
def k0_off1515 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v880 : Index := Scalar.indexCast arg20
  let c832 : Index := 832#32
  ![v880.toNat, 832]
def k0_off1516 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_268 : BitVec 32 := 1#32
  let v883 : BitVec 32 := Scalar.addi arg20 c1_i32_268
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v884 : BitVec 32 := Scalar.addi v883 arg21
  let v885 : Index := Scalar.indexCast v884
  let c832_269 : Index := 832#32
  ![v885.toNat, 832]
def k0_off1517 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v890 : Index := Scalar.indexCast arg21
  let c832_270 : Index := 832#32
  ![v890.toNat, 832]
def k0_off1518 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v894 : Index := Scalar.indexCast arg20
  let c848 : Index := 848#32
  ![v894.toNat, 848]
def k0_off1519 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_271 : BitVec 32 := 1#32
  let v897 : BitVec 32 := Scalar.addi arg20 c1_i32_271
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v898 : BitVec 32 := Scalar.addi v897 arg21
  let v899 : Index := Scalar.indexCast v898
  let c848_272 : Index := 848#32
  ![v899.toNat, 848]
def k0_off1520 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v904 : Index := Scalar.indexCast arg21
  let c848_273 : Index := 848#32
  ![v904.toNat, 848]
def k0_off1521 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v908 : Index := Scalar.indexCast arg20
  let c864 : Index := 864#32
  ![v908.toNat, 864]
def k0_off1522 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_274 : BitVec 32 := 1#32
  let v911 : BitVec 32 := Scalar.addi arg20 c1_i32_274
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v912 : BitVec 32 := Scalar.addi v911 arg21
  let v913 : Index := Scalar.indexCast v912
  let c864_275 : Index := 864#32
  ![v913.toNat, 864]
def k0_off1523 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v918 : Index := Scalar.indexCast arg21
  let c864_276 : Index := 864#32
  ![v918.toNat, 864]
def k0_off1524 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v922 : Index := Scalar.indexCast arg20
  let c880 : Index := 880#32
  ![v922.toNat, 880]
def k0_off1525 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_277 : BitVec 32 := 1#32
  let v925 : BitVec 32 := Scalar.addi arg20 c1_i32_277
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v926 : BitVec 32 := Scalar.addi v925 arg21
  let v927 : Index := Scalar.indexCast v926
  let c880_278 : Index := 880#32
  ![v927.toNat, 880]
def k0_off1526 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v932 : Index := Scalar.indexCast arg21
  let c880_279 : Index := 880#32
  ![v932.toNat, 880]
def k0_off1527 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v936 : Index := Scalar.indexCast arg20
  let c896 : Index := 896#32
  ![v936.toNat, 896]
def k0_off1528 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_280 : BitVec 32 := 1#32
  let v939 : BitVec 32 := Scalar.addi arg20 c1_i32_280
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v940 : BitVec 32 := Scalar.addi v939 arg21
  let v941 : Index := Scalar.indexCast v940
  let c896_281 : Index := 896#32
  ![v941.toNat, 896]
def k0_off1529 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v946 : Index := Scalar.indexCast arg21
  let c896_282 : Index := 896#32
  ![v946.toNat, 896]
def k0_off1530 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v950 : Index := Scalar.indexCast arg20
  let c912 : Index := 912#32
  ![v950.toNat, 912]
def k0_off1531 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_283 : BitVec 32 := 1#32
  let v953 : BitVec 32 := Scalar.addi arg20 c1_i32_283
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v954 : BitVec 32 := Scalar.addi v953 arg21
  let v955 : Index := Scalar.indexCast v954
  let c912_284 : Index := 912#32
  ![v955.toNat, 912]
def k0_off1532 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v960 : Index := Scalar.indexCast arg21
  let c912_285 : Index := 912#32
  ![v960.toNat, 912]
def k0_off1533 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v964 : Index := Scalar.indexCast arg20
  let c928 : Index := 928#32
  ![v964.toNat, 928]
def k0_off1534 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_286 : BitVec 32 := 1#32
  let v967 : BitVec 32 := Scalar.addi arg20 c1_i32_286
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v968 : BitVec 32 := Scalar.addi v967 arg21
  let v969 : Index := Scalar.indexCast v968
  let c928_287 : Index := 928#32
  ![v969.toNat, 928]
def k0_off1535 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v974 : Index := Scalar.indexCast arg21
  let c928_288 : Index := 928#32
  ![v974.toNat, 928]
def k0_off1536 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v978 : Index := Scalar.indexCast arg20
  let c944 : Index := 944#32
  ![v978.toNat, 944]
def k0_off1537 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_289 : BitVec 32 := 1#32
  let v981 : BitVec 32 := Scalar.addi arg20 c1_i32_289
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v982 : BitVec 32 := Scalar.addi v981 arg21
  let v983 : Index := Scalar.indexCast v982
  let c944_290 : Index := 944#32
  ![v983.toNat, 944]
def k0_off1538 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v988 : Index := Scalar.indexCast arg21
  let c944_291 : Index := 944#32
  ![v988.toNat, 944]
def k0_off1539 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v992 : Index := Scalar.indexCast arg20
  let c960 : Index := 960#32
  ![v992.toNat, 960]
def k0_off1540 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_292 : BitVec 32 := 1#32
  let v995 : BitVec 32 := Scalar.addi arg20 c1_i32_292
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v996 : BitVec 32 := Scalar.addi v995 arg21
  let v997 : Index := Scalar.indexCast v996
  let c960_293 : Index := 960#32
  ![v997.toNat, 960]
def k0_off1541 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v1002 : Index := Scalar.indexCast arg21
  let c960_294 : Index := 960#32
  ![v1002.toNat, 960]
def k0_off1542 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v1006 : Index := Scalar.indexCast arg20
  let c976 : Index := 976#32
  ![v1006.toNat, 976]
def k0_off1543 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_295 : BitVec 32 := 1#32
  let v1009 : BitVec 32 := Scalar.addi arg20 c1_i32_295
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v1010 : BitVec 32 := Scalar.addi v1009 arg21
  let v1011 : Index := Scalar.indexCast v1010
  let c976_296 : Index := 976#32
  ![v1011.toNat, 976]
def k0_off1544 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v1016 : Index := Scalar.indexCast arg21
  let c976_297 : Index := 976#32
  ![v1016.toNat, 976]
def k0_off1545 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v1020 : Index := Scalar.indexCast arg20
  let c992 : Index := 992#32
  ![v1020.toNat, 992]
def k0_off1546 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_298 : BitVec 32 := 1#32
  let v1023 : BitVec 32 := Scalar.addi arg20 c1_i32_298
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v1024 : BitVec 32 := Scalar.addi v1023 arg21
  let v1025 : Index := Scalar.indexCast v1024
  let c992_299 : Index := 992#32
  ![v1025.toNat, 992]
def k0_off1547 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v1030 : Index := Scalar.indexCast arg21
  let c992_300 : Index := 992#32
  ![v1030.toNat, 992]
def k0_off1548 (k0_t21 : Fin k0_t21_loop.trips) : Fin 2 → Nat :=
  let c0_i32_82 : BitVec 32 := 0#32
  let c1_i32_84 : BitVec 32 := 1#32
  let arg20 : BitVec 32 := Scf.iv c0_i32_82 c1_i32_84 k0_t21
  let v1034 : Index := Scalar.indexCast arg20
  let c1008 : Index := 1008#32
  ![v1034.toNat, 1008]
def k0_off1549 (k0_t21 : Fin k0_t21_loop.trips) (k0_t23 : Fin (k0_t23_loop k0_t21).trips) : Fin 2 → Nat :=
  let c0_i32_82 : BitVec 32 := 0#32
  let c1_i32_84 : BitVec 32 := 1#32
  let arg20 : BitVec 32 := Scf.iv c0_i32_82 c1_i32_84 k0_t21
  let c1_i32_301 : BitVec 32 := 1#32
  let v1037 : BitVec 32 := Scalar.addi arg20 c1_i32_301
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v1038 : BitVec 32 := Scalar.addi v1037 arg21
  let v1039 : Index := Scalar.indexCast v1038
  let c1008_302 : Index := 1008#32
  ![v1039.toNat, 1008]
def k0_off1550 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v1044 : Index := Scalar.indexCast arg21
  let c1008_303 : Index := 1008#32
  ![v1044.toNat, 1008]
def k0_off1551 (k0_t21 : Fin k0_t21_loop.trips) (k0_t23 : Fin (k0_t23_loop k0_t21).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let c0_i32_304 : BitVec 32 := 0#32
  ![arg21.toNat, 0]
def k0_off1552 (i : grid0.Coords) (k0_t21 : Fin k0_t21_loop.trips) (k0_t23 : Fin (k0_t23_loop k0_t21).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c0_i32_80 : BitVec 32 := 0#32
  let v114 : BitVec 32 := Scalar.addi v42 c0_i32_80
  let c16_i32_93 : BitVec 32 := 16#32
  let v119 : BitVec 32 := Scalar.muli v114 c16_i32_93
  let c0_i32_82 : BitVec 32 := 0#32
  let c1_i32_84 : BitVec 32 := 1#32
  let arg20 : BitVec 32 := Scf.iv c0_i32_82 c1_i32_84 k0_t21
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t23
  let v1048 : BitVec 32 := Scalar.addi v141 arg21
  let c0_i32_305 : BitVec 32 := 0#32
  ![v1048.toNat, 0]
@[reducible] def k0_t24_loop (k0_t21 : Fin k0_t21_loop.trips) : Scf.Loop 32 :=
  let c0_i32_108 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let c1_i32_110 : BitVec 32 := 1#32
  ⟨c0_i32_108, v151, c1_i32_110⟩
@[reducible] def k0_t25_loop (k0_t21 : Fin k0_t21_loop.trips) : Scf.Loop 32 :=
  let c0_i32_108 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t21
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let v148 : BitVec 32 := Scalar.addi c0_i32_108 v147
  let c1_i32_111 : BitVec 32 := 1#32
  ⟨v151, v148, c1_i32_111⟩
@[reducible] def k0_t26_loop : Scf.Loop 32 :=
  let c0_i32_88 : BitVec 32 := 0#32
  let c15_i32_89 : BitVec 32 := 15#32
  let v117 : BitVec 32 := Scalar.addi c0_i32_88 c15_i32_89
  let c1_i32_90 : BitVec 32 := 1#32
  ⟨c0_i32_88, v117, c1_i32_90⟩
@[reducible] def k0_t27_loop (k0_t26 : Fin k0_t26_loop.trips) : Scf.Loop 32 :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_105 : BitVec 32 := 1#32
  ⟨c0_i32_103, v146, c1_i32_105⟩
def k0_off1553 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v152 : Index := Scalar.indexCast arg20
  let c0 : Index := 0#32
  ![v152.toNat, 0]
def k0_off1554 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_112 : BitVec 32 := 1#32
  let v155 : BitVec 32 := Scalar.addi arg20 c1_i32_112
  let c0_i32_103 : BitVec 32 := 0#32
  let c1_i32_105 : BitVec 32 := 1#32
  let arg21 : BitVec 32 := Scf.iv c0_i32_103 c1_i32_105 k0_t27
  let v156 : BitVec 32 := Scalar.addi v155 arg21
  let v157 : Index := Scalar.indexCast v156
  let c0_113 : Index := 0#32
  ![v157.toNat, 0]
def k0_off1555 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v162 : Index := Scalar.indexCast arg21
  let c0_114 : Index := 0#32
  ![v162.toNat, 0]
def k0_off1556 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v166 : Index := Scalar.indexCast arg20
  let c16 : Index := 16#32
  ![v166.toNat, 16]
def k0_off1557 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_115 : BitVec 32 := 1#32
  let v169 : BitVec 32 := Scalar.addi arg20 c1_i32_115
  let c0_i32_103 : BitVec 32 := 0#32
  let c1_i32_105 : BitVec 32 := 1#32
  let arg21 : BitVec 32 := Scf.iv c0_i32_103 c1_i32_105 k0_t27
  let v170 : BitVec 32 := Scalar.addi v169 arg21
  let v171 : Index := Scalar.indexCast v170
  let c16_116 : Index := 16#32
  ![v171.toNat, 16]
def k0_off1558 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v176 : Index := Scalar.indexCast arg21
  let c16_117 : Index := 16#32
  ![v176.toNat, 16]
def k0_off1559 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v180 : Index := Scalar.indexCast arg20
  let c32 : Index := 32#32
  ![v180.toNat, 32]
def k0_off1560 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_118 : BitVec 32 := 1#32
  let v183 : BitVec 32 := Scalar.addi arg20 c1_i32_118
  let c0_i32_103 : BitVec 32 := 0#32
  let c1_i32_105 : BitVec 32 := 1#32
  let arg21 : BitVec 32 := Scf.iv c0_i32_103 c1_i32_105 k0_t27
  let v184 : BitVec 32 := Scalar.addi v183 arg21
  let v185 : Index := Scalar.indexCast v184
  let c32_119 : Index := 32#32
  ![v185.toNat, 32]
def k0_off1561 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v190 : Index := Scalar.indexCast arg21
  let c32_120 : Index := 32#32
  ![v190.toNat, 32]
def k0_off1562 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v194 : Index := Scalar.indexCast arg20
  let c48 : Index := 48#32
  ![v194.toNat, 48]
def k0_off1563 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_121 : BitVec 32 := 1#32
  let v197 : BitVec 32 := Scalar.addi arg20 c1_i32_121
  let c0_i32_103 : BitVec 32 := 0#32
  let c1_i32_105 : BitVec 32 := 1#32
  let arg21 : BitVec 32 := Scf.iv c0_i32_103 c1_i32_105 k0_t27
  let v198 : BitVec 32 := Scalar.addi v197 arg21
  let v199 : Index := Scalar.indexCast v198
  let c48_122 : Index := 48#32
  ![v199.toNat, 48]
def k0_off1564 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v204 : Index := Scalar.indexCast arg21
  let c48_123 : Index := 48#32
  ![v204.toNat, 48]
def k0_off1565 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v208 : Index := Scalar.indexCast arg20
  let c64 : Index := 64#32
  ![v208.toNat, 64]
def k0_off1566 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_124 : BitVec 32 := 1#32
  let v211 : BitVec 32 := Scalar.addi arg20 c1_i32_124
  let c0_i32_103 : BitVec 32 := 0#32
  let c1_i32_105 : BitVec 32 := 1#32
  let arg21 : BitVec 32 := Scf.iv c0_i32_103 c1_i32_105 k0_t27
  let v212 : BitVec 32 := Scalar.addi v211 arg21
  let v213 : Index := Scalar.indexCast v212
  let c64_125 : Index := 64#32
  ![v213.toNat, 64]
def k0_off1567 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v218 : Index := Scalar.indexCast arg21
  let c64_126 : Index := 64#32
  ![v218.toNat, 64]
def k0_off1568 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v222 : Index := Scalar.indexCast arg20
  let c80 : Index := 80#32
  ![v222.toNat, 80]
def k0_off1569 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_127 : BitVec 32 := 1#32
  let v225 : BitVec 32 := Scalar.addi arg20 c1_i32_127
  let c0_i32_103 : BitVec 32 := 0#32
  let c1_i32_105 : BitVec 32 := 1#32
  let arg21 : BitVec 32 := Scf.iv c0_i32_103 c1_i32_105 k0_t27
  let v226 : BitVec 32 := Scalar.addi v225 arg21
  let v227 : Index := Scalar.indexCast v226
  let c80_128 : Index := 80#32
  ![v227.toNat, 80]
def k0_off1570 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v232 : Index := Scalar.indexCast arg21
  let c80_129 : Index := 80#32
  ![v232.toNat, 80]
def k0_off1571 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v236 : Index := Scalar.indexCast arg20
  let c96 : Index := 96#32
  ![v236.toNat, 96]
def k0_off1572 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_130 : BitVec 32 := 1#32
  let v239 : BitVec 32 := Scalar.addi arg20 c1_i32_130
  let c0_i32_103 : BitVec 32 := 0#32
  let c1_i32_105 : BitVec 32 := 1#32
  let arg21 : BitVec 32 := Scf.iv c0_i32_103 c1_i32_105 k0_t27
  let v240 : BitVec 32 := Scalar.addi v239 arg21
  let v241 : Index := Scalar.indexCast v240
  let c96_131 : Index := 96#32
  ![v241.toNat, 96]
def k0_off1573 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v246 : Index := Scalar.indexCast arg21
  let c96_132 : Index := 96#32
  ![v246.toNat, 96]
def k0_off1574 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v250 : Index := Scalar.indexCast arg20
  let c112 : Index := 112#32
  ![v250.toNat, 112]
def k0_off1575 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_133 : BitVec 32 := 1#32
  let v253 : BitVec 32 := Scalar.addi arg20 c1_i32_133
  let c0_i32_103 : BitVec 32 := 0#32
  let c1_i32_105 : BitVec 32 := 1#32
  let arg21 : BitVec 32 := Scf.iv c0_i32_103 c1_i32_105 k0_t27
  let v254 : BitVec 32 := Scalar.addi v253 arg21
  let v255 : Index := Scalar.indexCast v254
  let c112_134 : Index := 112#32
  ![v255.toNat, 112]
def k0_off1576 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v260 : Index := Scalar.indexCast arg21
  let c112_135 : Index := 112#32
  ![v260.toNat, 112]
def k0_off1577 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v264 : Index := Scalar.indexCast arg20
  let c128 : Index := 128#32
  ![v264.toNat, 128]
def k0_off1578 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_136 : BitVec 32 := 1#32
  let v267 : BitVec 32 := Scalar.addi arg20 c1_i32_136
  let c0_i32_103 : BitVec 32 := 0#32
  let c1_i32_105 : BitVec 32 := 1#32
  let arg21 : BitVec 32 := Scf.iv c0_i32_103 c1_i32_105 k0_t27
  let v268 : BitVec 32 := Scalar.addi v267 arg21
  let v269 : Index := Scalar.indexCast v268
  let c128_137 : Index := 128#32
  ![v269.toNat, 128]
def k0_off1579 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v274 : Index := Scalar.indexCast arg21
  let c128_138 : Index := 128#32
  ![v274.toNat, 128]
def k0_off1580 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v278 : Index := Scalar.indexCast arg20
  let c144 : Index := 144#32
  ![v278.toNat, 144]
def k0_off1581 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_139 : BitVec 32 := 1#32
  let v281 : BitVec 32 := Scalar.addi arg20 c1_i32_139
  let c0_i32_103 : BitVec 32 := 0#32
  let c1_i32_105 : BitVec 32 := 1#32
  let arg21 : BitVec 32 := Scf.iv c0_i32_103 c1_i32_105 k0_t27
  let v282 : BitVec 32 := Scalar.addi v281 arg21
  let v283 : Index := Scalar.indexCast v282
  let c144_140 : Index := 144#32
  ![v283.toNat, 144]
def k0_off1582 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v288 : Index := Scalar.indexCast arg21
  let c144_141 : Index := 144#32
  ![v288.toNat, 144]
def k0_off1583 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v292 : Index := Scalar.indexCast arg20
  let c160 : Index := 160#32
  ![v292.toNat, 160]
def k0_off1584 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_142 : BitVec 32 := 1#32
  let v295 : BitVec 32 := Scalar.addi arg20 c1_i32_142
  let c0_i32_103 : BitVec 32 := 0#32
  let c1_i32_105 : BitVec 32 := 1#32
  let arg21 : BitVec 32 := Scf.iv c0_i32_103 c1_i32_105 k0_t27
  let v296 : BitVec 32 := Scalar.addi v295 arg21
  let v297 : Index := Scalar.indexCast v296
  let c160_143 : Index := 160#32
  ![v297.toNat, 160]
def k0_off1585 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v302 : Index := Scalar.indexCast arg21
  let c160_144 : Index := 160#32
  ![v302.toNat, 160]
def k0_off1586 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v306 : Index := Scalar.indexCast arg20
  let c176 : Index := 176#32
  ![v306.toNat, 176]
def k0_off1587 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_145 : BitVec 32 := 1#32
  let v309 : BitVec 32 := Scalar.addi arg20 c1_i32_145
  let c0_i32_103 : BitVec 32 := 0#32
  let c1_i32_105 : BitVec 32 := 1#32
  let arg21 : BitVec 32 := Scf.iv c0_i32_103 c1_i32_105 k0_t27
  let v310 : BitVec 32 := Scalar.addi v309 arg21
  let v311 : Index := Scalar.indexCast v310
  let c176_146 : Index := 176#32
  ![v311.toNat, 176]
def k0_off1588 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v316 : Index := Scalar.indexCast arg21
  let c176_147 : Index := 176#32
  ![v316.toNat, 176]
def k0_off1589 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v320 : Index := Scalar.indexCast arg20
  let c192 : Index := 192#32
  ![v320.toNat, 192]
def k0_off1590 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_148 : BitVec 32 := 1#32
  let v323 : BitVec 32 := Scalar.addi arg20 c1_i32_148
  let c0_i32_103 : BitVec 32 := 0#32
  let c1_i32_105 : BitVec 32 := 1#32
  let arg21 : BitVec 32 := Scf.iv c0_i32_103 c1_i32_105 k0_t27
  let v324 : BitVec 32 := Scalar.addi v323 arg21
  let v325 : Index := Scalar.indexCast v324
  let c192_149 : Index := 192#32
  ![v325.toNat, 192]
def k0_off1591 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v330 : Index := Scalar.indexCast arg21
  let c192_150 : Index := 192#32
  ![v330.toNat, 192]
def k0_off1592 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v334 : Index := Scalar.indexCast arg20
  let c208 : Index := 208#32
  ![v334.toNat, 208]
def k0_off1593 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_151 : BitVec 32 := 1#32
  let v337 : BitVec 32 := Scalar.addi arg20 c1_i32_151
  let c0_i32_103 : BitVec 32 := 0#32
  let c1_i32_105 : BitVec 32 := 1#32
  let arg21 : BitVec 32 := Scf.iv c0_i32_103 c1_i32_105 k0_t27
  let v338 : BitVec 32 := Scalar.addi v337 arg21
  let v339 : Index := Scalar.indexCast v338
  let c208_152 : Index := 208#32
  ![v339.toNat, 208]
def k0_off1594 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v344 : Index := Scalar.indexCast arg21
  let c208_153 : Index := 208#32
  ![v344.toNat, 208]
def k0_off1595 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v348 : Index := Scalar.indexCast arg20
  let c224 : Index := 224#32
  ![v348.toNat, 224]
def k0_off1596 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_154 : BitVec 32 := 1#32
  let v351 : BitVec 32 := Scalar.addi arg20 c1_i32_154
  let c0_i32_103 : BitVec 32 := 0#32
  let c1_i32_105 : BitVec 32 := 1#32
  let arg21 : BitVec 32 := Scf.iv c0_i32_103 c1_i32_105 k0_t27
  let v352 : BitVec 32 := Scalar.addi v351 arg21
  let v353 : Index := Scalar.indexCast v352
  let c224_155 : Index := 224#32
  ![v353.toNat, 224]
def k0_off1597 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v358 : Index := Scalar.indexCast arg21
  let c224_156 : Index := 224#32
  ![v358.toNat, 224]
def k0_off1598 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v362 : Index := Scalar.indexCast arg20
  let c240 : Index := 240#32
  ![v362.toNat, 240]
def k0_off1599 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_157 : BitVec 32 := 1#32
  let v365 : BitVec 32 := Scalar.addi arg20 c1_i32_157
  let c0_i32_103 : BitVec 32 := 0#32
  let c1_i32_105 : BitVec 32 := 1#32
  let arg21 : BitVec 32 := Scf.iv c0_i32_103 c1_i32_105 k0_t27
  let v366 : BitVec 32 := Scalar.addi v365 arg21
  let v367 : Index := Scalar.indexCast v366
  let c240_158 : Index := 240#32
  ![v367.toNat, 240]
def k0_off1600 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v372 : Index := Scalar.indexCast arg21
  let c240_159 : Index := 240#32
  ![v372.toNat, 240]
def k0_off1601 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v376 : Index := Scalar.indexCast arg20
  let c256 : Index := 256#32
  ![v376.toNat, 256]
def k0_off1602 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_160 : BitVec 32 := 1#32
  let v379 : BitVec 32 := Scalar.addi arg20 c1_i32_160
  let c0_i32_103 : BitVec 32 := 0#32
  let c1_i32_105 : BitVec 32 := 1#32
  let arg21 : BitVec 32 := Scf.iv c0_i32_103 c1_i32_105 k0_t27
  let v380 : BitVec 32 := Scalar.addi v379 arg21
  let v381 : Index := Scalar.indexCast v380
  let c256_161 : Index := 256#32
  ![v381.toNat, 256]
def k0_off1603 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v386 : Index := Scalar.indexCast arg21
  let c256_162 : Index := 256#32
  ![v386.toNat, 256]
def k0_off1604 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v390 : Index := Scalar.indexCast arg20
  let c272 : Index := 272#32
  ![v390.toNat, 272]
def k0_off1605 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_163 : BitVec 32 := 1#32
  let v393 : BitVec 32 := Scalar.addi arg20 c1_i32_163
  let c0_i32_103 : BitVec 32 := 0#32
  let c1_i32_105 : BitVec 32 := 1#32
  let arg21 : BitVec 32 := Scf.iv c0_i32_103 c1_i32_105 k0_t27
  let v394 : BitVec 32 := Scalar.addi v393 arg21
  let v395 : Index := Scalar.indexCast v394
  let c272_164 : Index := 272#32
  ![v395.toNat, 272]
def k0_off1606 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v400 : Index := Scalar.indexCast arg21
  let c272_165 : Index := 272#32
  ![v400.toNat, 272]
def k0_off1607 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v404 : Index := Scalar.indexCast arg20
  let c288 : Index := 288#32
  ![v404.toNat, 288]
def k0_off1608 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_166 : BitVec 32 := 1#32
  let v407 : BitVec 32 := Scalar.addi arg20 c1_i32_166
  let c0_i32_103 : BitVec 32 := 0#32
  let c1_i32_105 : BitVec 32 := 1#32
  let arg21 : BitVec 32 := Scf.iv c0_i32_103 c1_i32_105 k0_t27
  let v408 : BitVec 32 := Scalar.addi v407 arg21
  let v409 : Index := Scalar.indexCast v408
  let c288_167 : Index := 288#32
  ![v409.toNat, 288]
def k0_off1609 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v414 : Index := Scalar.indexCast arg21
  let c288_168 : Index := 288#32
  ![v414.toNat, 288]
def k0_off1610 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v418 : Index := Scalar.indexCast arg20
  let c304 : Index := 304#32
  ![v418.toNat, 304]
def k0_off1611 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_169 : BitVec 32 := 1#32
  let v421 : BitVec 32 := Scalar.addi arg20 c1_i32_169
  let c0_i32_103 : BitVec 32 := 0#32
  let c1_i32_105 : BitVec 32 := 1#32
  let arg21 : BitVec 32 := Scf.iv c0_i32_103 c1_i32_105 k0_t27
  let v422 : BitVec 32 := Scalar.addi v421 arg21
  let v423 : Index := Scalar.indexCast v422
  let c304_170 : Index := 304#32
  ![v423.toNat, 304]
def k0_off1612 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v428 : Index := Scalar.indexCast arg21
  let c304_171 : Index := 304#32
  ![v428.toNat, 304]
def k0_off1613 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v432 : Index := Scalar.indexCast arg20
  let c320 : Index := 320#32
  ![v432.toNat, 320]
def k0_off1614 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_172 : BitVec 32 := 1#32
  let v435 : BitVec 32 := Scalar.addi arg20 c1_i32_172
  let c0_i32_103 : BitVec 32 := 0#32
  let c1_i32_105 : BitVec 32 := 1#32
  let arg21 : BitVec 32 := Scf.iv c0_i32_103 c1_i32_105 k0_t27
  let v436 : BitVec 32 := Scalar.addi v435 arg21
  let v437 : Index := Scalar.indexCast v436
  let c320_173 : Index := 320#32
  ![v437.toNat, 320]
def k0_off1615 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v442 : Index := Scalar.indexCast arg21
  let c320_174 : Index := 320#32
  ![v442.toNat, 320]
def k0_off1616 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v446 : Index := Scalar.indexCast arg20
  let c336 : Index := 336#32
  ![v446.toNat, 336]
def k0_off1617 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_175 : BitVec 32 := 1#32
  let v449 : BitVec 32 := Scalar.addi arg20 c1_i32_175
  let c0_i32_103 : BitVec 32 := 0#32
  let c1_i32_105 : BitVec 32 := 1#32
  let arg21 : BitVec 32 := Scf.iv c0_i32_103 c1_i32_105 k0_t27
  let v450 : BitVec 32 := Scalar.addi v449 arg21
  let v451 : Index := Scalar.indexCast v450
  let c336_176 : Index := 336#32
  ![v451.toNat, 336]
def k0_off1618 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v456 : Index := Scalar.indexCast arg21
  let c336_177 : Index := 336#32
  ![v456.toNat, 336]
def k0_off1619 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v460 : Index := Scalar.indexCast arg20
  let c352 : Index := 352#32
  ![v460.toNat, 352]
def k0_off1620 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_178 : BitVec 32 := 1#32
  let v463 : BitVec 32 := Scalar.addi arg20 c1_i32_178
  let c0_i32_103 : BitVec 32 := 0#32
  let c1_i32_105 : BitVec 32 := 1#32
  let arg21 : BitVec 32 := Scf.iv c0_i32_103 c1_i32_105 k0_t27
  let v464 : BitVec 32 := Scalar.addi v463 arg21
  let v465 : Index := Scalar.indexCast v464
  let c352_179 : Index := 352#32
  ![v465.toNat, 352]
def k0_off1621 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v470 : Index := Scalar.indexCast arg21
  let c352_180 : Index := 352#32
  ![v470.toNat, 352]
def k0_off1622 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v474 : Index := Scalar.indexCast arg20
  let c368 : Index := 368#32
  ![v474.toNat, 368]
def k0_off1623 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_181 : BitVec 32 := 1#32
  let v477 : BitVec 32 := Scalar.addi arg20 c1_i32_181
  let c0_i32_103 : BitVec 32 := 0#32
  let c1_i32_105 : BitVec 32 := 1#32
  let arg21 : BitVec 32 := Scf.iv c0_i32_103 c1_i32_105 k0_t27
  let v478 : BitVec 32 := Scalar.addi v477 arg21
  let v479 : Index := Scalar.indexCast v478
  let c368_182 : Index := 368#32
  ![v479.toNat, 368]
def k0_off1624 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v484 : Index := Scalar.indexCast arg21
  let c368_183 : Index := 368#32
  ![v484.toNat, 368]
def k0_off1625 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v488 : Index := Scalar.indexCast arg20
  let c384 : Index := 384#32
  ![v488.toNat, 384]
def k0_off1626 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_184 : BitVec 32 := 1#32
  let v491 : BitVec 32 := Scalar.addi arg20 c1_i32_184
  let c0_i32_103 : BitVec 32 := 0#32
  let c1_i32_105 : BitVec 32 := 1#32
  let arg21 : BitVec 32 := Scf.iv c0_i32_103 c1_i32_105 k0_t27
  let v492 : BitVec 32 := Scalar.addi v491 arg21
  let v493 : Index := Scalar.indexCast v492
  let c384_185 : Index := 384#32
  ![v493.toNat, 384]
def k0_off1627 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v498 : Index := Scalar.indexCast arg21
  let c384_186 : Index := 384#32
  ![v498.toNat, 384]
def k0_off1628 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v502 : Index := Scalar.indexCast arg20
  let c400 : Index := 400#32
  ![v502.toNat, 400]
def k0_off1629 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_187 : BitVec 32 := 1#32
  let v505 : BitVec 32 := Scalar.addi arg20 c1_i32_187
  let c0_i32_103 : BitVec 32 := 0#32
  let c1_i32_105 : BitVec 32 := 1#32
  let arg21 : BitVec 32 := Scf.iv c0_i32_103 c1_i32_105 k0_t27
  let v506 : BitVec 32 := Scalar.addi v505 arg21
  let v507 : Index := Scalar.indexCast v506
  let c400_188 : Index := 400#32
  ![v507.toNat, 400]
def k0_off1630 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v512 : Index := Scalar.indexCast arg21
  let c400_189 : Index := 400#32
  ![v512.toNat, 400]
def k0_off1631 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v516 : Index := Scalar.indexCast arg20
  let c416 : Index := 416#32
  ![v516.toNat, 416]
def k0_off1632 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_190 : BitVec 32 := 1#32
  let v519 : BitVec 32 := Scalar.addi arg20 c1_i32_190
  let c0_i32_103 : BitVec 32 := 0#32
  let c1_i32_105 : BitVec 32 := 1#32
  let arg21 : BitVec 32 := Scf.iv c0_i32_103 c1_i32_105 k0_t27
  let v520 : BitVec 32 := Scalar.addi v519 arg21
  let v521 : Index := Scalar.indexCast v520
  let c416_191 : Index := 416#32
  ![v521.toNat, 416]
def k0_off1633 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v526 : Index := Scalar.indexCast arg21
  let c416_192 : Index := 416#32
  ![v526.toNat, 416]
def k0_off1634 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v530 : Index := Scalar.indexCast arg20
  let c432 : Index := 432#32
  ![v530.toNat, 432]
def k0_off1635 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_193 : BitVec 32 := 1#32
  let v533 : BitVec 32 := Scalar.addi arg20 c1_i32_193
  let c0_i32_103 : BitVec 32 := 0#32
  let c1_i32_105 : BitVec 32 := 1#32
  let arg21 : BitVec 32 := Scf.iv c0_i32_103 c1_i32_105 k0_t27
  let v534 : BitVec 32 := Scalar.addi v533 arg21
  let v535 : Index := Scalar.indexCast v534
  let c432_194 : Index := 432#32
  ![v535.toNat, 432]
def k0_off1636 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v540 : Index := Scalar.indexCast arg21
  let c432_195 : Index := 432#32
  ![v540.toNat, 432]
def k0_off1637 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v544 : Index := Scalar.indexCast arg20
  let c448 : Index := 448#32
  ![v544.toNat, 448]
def k0_off1638 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_196 : BitVec 32 := 1#32
  let v547 : BitVec 32 := Scalar.addi arg20 c1_i32_196
  let c0_i32_103 : BitVec 32 := 0#32
  let c1_i32_105 : BitVec 32 := 1#32
  let arg21 : BitVec 32 := Scf.iv c0_i32_103 c1_i32_105 k0_t27
  let v548 : BitVec 32 := Scalar.addi v547 arg21
  let v549 : Index := Scalar.indexCast v548
  let c448_197 : Index := 448#32
  ![v549.toNat, 448]
def k0_off1639 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v554 : Index := Scalar.indexCast arg21
  let c448_198 : Index := 448#32
  ![v554.toNat, 448]
def k0_off1640 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v558 : Index := Scalar.indexCast arg20
  let c464 : Index := 464#32
  ![v558.toNat, 464]
def k0_off1641 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_199 : BitVec 32 := 1#32
  let v561 : BitVec 32 := Scalar.addi arg20 c1_i32_199
  let c0_i32_103 : BitVec 32 := 0#32
  let c1_i32_105 : BitVec 32 := 1#32
  let arg21 : BitVec 32 := Scf.iv c0_i32_103 c1_i32_105 k0_t27
  let v562 : BitVec 32 := Scalar.addi v561 arg21
  let v563 : Index := Scalar.indexCast v562
  let c464_200 : Index := 464#32
  ![v563.toNat, 464]
def k0_off1642 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v568 : Index := Scalar.indexCast arg21
  let c464_201 : Index := 464#32
  ![v568.toNat, 464]
def k0_off1643 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v572 : Index := Scalar.indexCast arg20
  let c480 : Index := 480#32
  ![v572.toNat, 480]
def k0_off1644 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_202 : BitVec 32 := 1#32
  let v575 : BitVec 32 := Scalar.addi arg20 c1_i32_202
  let c0_i32_103 : BitVec 32 := 0#32
  let c1_i32_105 : BitVec 32 := 1#32
  let arg21 : BitVec 32 := Scf.iv c0_i32_103 c1_i32_105 k0_t27
  let v576 : BitVec 32 := Scalar.addi v575 arg21
  let v577 : Index := Scalar.indexCast v576
  let c480_203 : Index := 480#32
  ![v577.toNat, 480]
def k0_off1645 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v582 : Index := Scalar.indexCast arg21
  let c480_204 : Index := 480#32
  ![v582.toNat, 480]
def k0_off1646 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v586 : Index := Scalar.indexCast arg20
  let c496 : Index := 496#32
  ![v586.toNat, 496]
def k0_off1647 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_205 : BitVec 32 := 1#32
  let v589 : BitVec 32 := Scalar.addi arg20 c1_i32_205
  let c0_i32_103 : BitVec 32 := 0#32
  let c1_i32_105 : BitVec 32 := 1#32
  let arg21 : BitVec 32 := Scf.iv c0_i32_103 c1_i32_105 k0_t27
  let v590 : BitVec 32 := Scalar.addi v589 arg21
  let v591 : Index := Scalar.indexCast v590
  let c496_206 : Index := 496#32
  ![v591.toNat, 496]
def k0_off1648 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v596 : Index := Scalar.indexCast arg21
  let c496_207 : Index := 496#32
  ![v596.toNat, 496]
def k0_off1649 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v600 : Index := Scalar.indexCast arg20
  let c512 : Index := 512#32
  ![v600.toNat, 512]
def k0_off1650 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_208 : BitVec 32 := 1#32
  let v603 : BitVec 32 := Scalar.addi arg20 c1_i32_208
  let c0_i32_103 : BitVec 32 := 0#32
  let c1_i32_105 : BitVec 32 := 1#32
  let arg21 : BitVec 32 := Scf.iv c0_i32_103 c1_i32_105 k0_t27
  let v604 : BitVec 32 := Scalar.addi v603 arg21
  let v605 : Index := Scalar.indexCast v604
  let c512_209 : Index := 512#32
  ![v605.toNat, 512]
def k0_off1651 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v610 : Index := Scalar.indexCast arg21
  let c512_210 : Index := 512#32
  ![v610.toNat, 512]
def k0_off1652 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v614 : Index := Scalar.indexCast arg20
  let c528 : Index := 528#32
  ![v614.toNat, 528]
def k0_off1653 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_211 : BitVec 32 := 1#32
  let v617 : BitVec 32 := Scalar.addi arg20 c1_i32_211
  let c0_i32_103 : BitVec 32 := 0#32
  let c1_i32_105 : BitVec 32 := 1#32
  let arg21 : BitVec 32 := Scf.iv c0_i32_103 c1_i32_105 k0_t27
  let v618 : BitVec 32 := Scalar.addi v617 arg21
  let v619 : Index := Scalar.indexCast v618
  let c528_212 : Index := 528#32
  ![v619.toNat, 528]
def k0_off1654 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v624 : Index := Scalar.indexCast arg21
  let c528_213 : Index := 528#32
  ![v624.toNat, 528]
def k0_off1655 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v628 : Index := Scalar.indexCast arg20
  let c544 : Index := 544#32
  ![v628.toNat, 544]
def k0_off1656 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_214 : BitVec 32 := 1#32
  let v631 : BitVec 32 := Scalar.addi arg20 c1_i32_214
  let c0_i32_103 : BitVec 32 := 0#32
  let c1_i32_105 : BitVec 32 := 1#32
  let arg21 : BitVec 32 := Scf.iv c0_i32_103 c1_i32_105 k0_t27
  let v632 : BitVec 32 := Scalar.addi v631 arg21
  let v633 : Index := Scalar.indexCast v632
  let c544_215 : Index := 544#32
  ![v633.toNat, 544]
def k0_off1657 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v638 : Index := Scalar.indexCast arg21
  let c544_216 : Index := 544#32
  ![v638.toNat, 544]
def k0_off1658 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v642 : Index := Scalar.indexCast arg20
  let c560 : Index := 560#32
  ![v642.toNat, 560]
def k0_off1659 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_217 : BitVec 32 := 1#32
  let v645 : BitVec 32 := Scalar.addi arg20 c1_i32_217
  let c0_i32_103 : BitVec 32 := 0#32
  let c1_i32_105 : BitVec 32 := 1#32
  let arg21 : BitVec 32 := Scf.iv c0_i32_103 c1_i32_105 k0_t27
  let v646 : BitVec 32 := Scalar.addi v645 arg21
  let v647 : Index := Scalar.indexCast v646
  let c560_218 : Index := 560#32
  ![v647.toNat, 560]
def k0_off1660 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v652 : Index := Scalar.indexCast arg21
  let c560_219 : Index := 560#32
  ![v652.toNat, 560]
def k0_off1661 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v656 : Index := Scalar.indexCast arg20
  let c576 : Index := 576#32
  ![v656.toNat, 576]
def k0_off1662 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_220 : BitVec 32 := 1#32
  let v659 : BitVec 32 := Scalar.addi arg20 c1_i32_220
  let c0_i32_103 : BitVec 32 := 0#32
  let c1_i32_105 : BitVec 32 := 1#32
  let arg21 : BitVec 32 := Scf.iv c0_i32_103 c1_i32_105 k0_t27
  let v660 : BitVec 32 := Scalar.addi v659 arg21
  let v661 : Index := Scalar.indexCast v660
  let c576_221 : Index := 576#32
  ![v661.toNat, 576]
def k0_off1663 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v666 : Index := Scalar.indexCast arg21
  let c576_222 : Index := 576#32
  ![v666.toNat, 576]
def k0_off1664 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v670 : Index := Scalar.indexCast arg20
  let c592 : Index := 592#32
  ![v670.toNat, 592]
def k0_off1665 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_223 : BitVec 32 := 1#32
  let v673 : BitVec 32 := Scalar.addi arg20 c1_i32_223
  let c0_i32_103 : BitVec 32 := 0#32
  let c1_i32_105 : BitVec 32 := 1#32
  let arg21 : BitVec 32 := Scf.iv c0_i32_103 c1_i32_105 k0_t27
  let v674 : BitVec 32 := Scalar.addi v673 arg21
  let v675 : Index := Scalar.indexCast v674
  let c592_224 : Index := 592#32
  ![v675.toNat, 592]
def k0_off1666 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v680 : Index := Scalar.indexCast arg21
  let c592_225 : Index := 592#32
  ![v680.toNat, 592]
def k0_off1667 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v684 : Index := Scalar.indexCast arg20
  let c608 : Index := 608#32
  ![v684.toNat, 608]
def k0_off1668 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_226 : BitVec 32 := 1#32
  let v687 : BitVec 32 := Scalar.addi arg20 c1_i32_226
  let c0_i32_103 : BitVec 32 := 0#32
  let c1_i32_105 : BitVec 32 := 1#32
  let arg21 : BitVec 32 := Scf.iv c0_i32_103 c1_i32_105 k0_t27
  let v688 : BitVec 32 := Scalar.addi v687 arg21
  let v689 : Index := Scalar.indexCast v688
  let c608_227 : Index := 608#32
  ![v689.toNat, 608]
def k0_off1669 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v694 : Index := Scalar.indexCast arg21
  let c608_228 : Index := 608#32
  ![v694.toNat, 608]
def k0_off1670 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v698 : Index := Scalar.indexCast arg20
  let c624 : Index := 624#32
  ![v698.toNat, 624]
def k0_off1671 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_229 : BitVec 32 := 1#32
  let v701 : BitVec 32 := Scalar.addi arg20 c1_i32_229
  let c0_i32_103 : BitVec 32 := 0#32
  let c1_i32_105 : BitVec 32 := 1#32
  let arg21 : BitVec 32 := Scf.iv c0_i32_103 c1_i32_105 k0_t27
  let v702 : BitVec 32 := Scalar.addi v701 arg21
  let v703 : Index := Scalar.indexCast v702
  let c624_230 : Index := 624#32
  ![v703.toNat, 624]
def k0_off1672 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v708 : Index := Scalar.indexCast arg21
  let c624_231 : Index := 624#32
  ![v708.toNat, 624]
def k0_off1673 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v712 : Index := Scalar.indexCast arg20
  let c640 : Index := 640#32
  ![v712.toNat, 640]
def k0_off1674 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_232 : BitVec 32 := 1#32
  let v715 : BitVec 32 := Scalar.addi arg20 c1_i32_232
  let c0_i32_103 : BitVec 32 := 0#32
  let c1_i32_105 : BitVec 32 := 1#32
  let arg21 : BitVec 32 := Scf.iv c0_i32_103 c1_i32_105 k0_t27
  let v716 : BitVec 32 := Scalar.addi v715 arg21
  let v717 : Index := Scalar.indexCast v716
  let c640_233 : Index := 640#32
  ![v717.toNat, 640]
def k0_off1675 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v722 : Index := Scalar.indexCast arg21
  let c640_234 : Index := 640#32
  ![v722.toNat, 640]
def k0_off1676 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v726 : Index := Scalar.indexCast arg20
  let c656 : Index := 656#32
  ![v726.toNat, 656]
def k0_off1677 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_235 : BitVec 32 := 1#32
  let v729 : BitVec 32 := Scalar.addi arg20 c1_i32_235
  let c0_i32_103 : BitVec 32 := 0#32
  let c1_i32_105 : BitVec 32 := 1#32
  let arg21 : BitVec 32 := Scf.iv c0_i32_103 c1_i32_105 k0_t27
  let v730 : BitVec 32 := Scalar.addi v729 arg21
  let v731 : Index := Scalar.indexCast v730
  let c656_236 : Index := 656#32
  ![v731.toNat, 656]
def k0_off1678 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v736 : Index := Scalar.indexCast arg21
  let c656_237 : Index := 656#32
  ![v736.toNat, 656]
def k0_off1679 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v740 : Index := Scalar.indexCast arg20
  let c672 : Index := 672#32
  ![v740.toNat, 672]
def k0_off1680 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_238 : BitVec 32 := 1#32
  let v743 : BitVec 32 := Scalar.addi arg20 c1_i32_238
  let c0_i32_103 : BitVec 32 := 0#32
  let c1_i32_105 : BitVec 32 := 1#32
  let arg21 : BitVec 32 := Scf.iv c0_i32_103 c1_i32_105 k0_t27
  let v744 : BitVec 32 := Scalar.addi v743 arg21
  let v745 : Index := Scalar.indexCast v744
  let c672_239 : Index := 672#32
  ![v745.toNat, 672]
def k0_off1681 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v750 : Index := Scalar.indexCast arg21
  let c672_240 : Index := 672#32
  ![v750.toNat, 672]
def k0_off1682 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v754 : Index := Scalar.indexCast arg20
  let c688 : Index := 688#32
  ![v754.toNat, 688]
def k0_off1683 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_241 : BitVec 32 := 1#32
  let v757 : BitVec 32 := Scalar.addi arg20 c1_i32_241
  let c0_i32_103 : BitVec 32 := 0#32
  let c1_i32_105 : BitVec 32 := 1#32
  let arg21 : BitVec 32 := Scf.iv c0_i32_103 c1_i32_105 k0_t27
  let v758 : BitVec 32 := Scalar.addi v757 arg21
  let v759 : Index := Scalar.indexCast v758
  let c688_242 : Index := 688#32
  ![v759.toNat, 688]
def k0_off1684 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v764 : Index := Scalar.indexCast arg21
  let c688_243 : Index := 688#32
  ![v764.toNat, 688]
def k0_off1685 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v768 : Index := Scalar.indexCast arg20
  let c704 : Index := 704#32
  ![v768.toNat, 704]
def k0_off1686 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_244 : BitVec 32 := 1#32
  let v771 : BitVec 32 := Scalar.addi arg20 c1_i32_244
  let c0_i32_103 : BitVec 32 := 0#32
  let c1_i32_105 : BitVec 32 := 1#32
  let arg21 : BitVec 32 := Scf.iv c0_i32_103 c1_i32_105 k0_t27
  let v772 : BitVec 32 := Scalar.addi v771 arg21
  let v773 : Index := Scalar.indexCast v772
  let c704_245 : Index := 704#32
  ![v773.toNat, 704]
def k0_off1687 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v778 : Index := Scalar.indexCast arg21
  let c704_246 : Index := 704#32
  ![v778.toNat, 704]
def k0_off1688 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v782 : Index := Scalar.indexCast arg20
  let c720 : Index := 720#32
  ![v782.toNat, 720]
def k0_off1689 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_247 : BitVec 32 := 1#32
  let v785 : BitVec 32 := Scalar.addi arg20 c1_i32_247
  let c0_i32_103 : BitVec 32 := 0#32
  let c1_i32_105 : BitVec 32 := 1#32
  let arg21 : BitVec 32 := Scf.iv c0_i32_103 c1_i32_105 k0_t27
  let v786 : BitVec 32 := Scalar.addi v785 arg21
  let v787 : Index := Scalar.indexCast v786
  let c720_248 : Index := 720#32
  ![v787.toNat, 720]
def k0_off1690 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v792 : Index := Scalar.indexCast arg21
  let c720_249 : Index := 720#32
  ![v792.toNat, 720]
def k0_off1691 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v796 : Index := Scalar.indexCast arg20
  let c736 : Index := 736#32
  ![v796.toNat, 736]
def k0_off1692 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_250 : BitVec 32 := 1#32
  let v799 : BitVec 32 := Scalar.addi arg20 c1_i32_250
  let c0_i32_103 : BitVec 32 := 0#32
  let c1_i32_105 : BitVec 32 := 1#32
  let arg21 : BitVec 32 := Scf.iv c0_i32_103 c1_i32_105 k0_t27
  let v800 : BitVec 32 := Scalar.addi v799 arg21
  let v801 : Index := Scalar.indexCast v800
  let c736_251 : Index := 736#32
  ![v801.toNat, 736]
def k0_off1693 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v806 : Index := Scalar.indexCast arg21
  let c736_252 : Index := 736#32
  ![v806.toNat, 736]
def k0_off1694 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v810 : Index := Scalar.indexCast arg20
  let c752 : Index := 752#32
  ![v810.toNat, 752]
def k0_off1695 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_253 : BitVec 32 := 1#32
  let v813 : BitVec 32 := Scalar.addi arg20 c1_i32_253
  let c0_i32_103 : BitVec 32 := 0#32
  let c1_i32_105 : BitVec 32 := 1#32
  let arg21 : BitVec 32 := Scf.iv c0_i32_103 c1_i32_105 k0_t27
  let v814 : BitVec 32 := Scalar.addi v813 arg21
  let v815 : Index := Scalar.indexCast v814
  let c752_254 : Index := 752#32
  ![v815.toNat, 752]
def k0_off1696 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v820 : Index := Scalar.indexCast arg21
  let c752_255 : Index := 752#32
  ![v820.toNat, 752]
def k0_off1697 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v824 : Index := Scalar.indexCast arg20
  let c768 : Index := 768#32
  ![v824.toNat, 768]
def k0_off1698 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_256 : BitVec 32 := 1#32
  let v827 : BitVec 32 := Scalar.addi arg20 c1_i32_256
  let c0_i32_103 : BitVec 32 := 0#32
  let c1_i32_105 : BitVec 32 := 1#32
  let arg21 : BitVec 32 := Scf.iv c0_i32_103 c1_i32_105 k0_t27
  let v828 : BitVec 32 := Scalar.addi v827 arg21
  let v829 : Index := Scalar.indexCast v828
  let c768_257 : Index := 768#32
  ![v829.toNat, 768]
def k0_off1699 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v834 : Index := Scalar.indexCast arg21
  let c768_258 : Index := 768#32
  ![v834.toNat, 768]
def k0_off1700 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v838 : Index := Scalar.indexCast arg20
  let c784 : Index := 784#32
  ![v838.toNat, 784]
def k0_off1701 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_259 : BitVec 32 := 1#32
  let v841 : BitVec 32 := Scalar.addi arg20 c1_i32_259
  let c0_i32_103 : BitVec 32 := 0#32
  let c1_i32_105 : BitVec 32 := 1#32
  let arg21 : BitVec 32 := Scf.iv c0_i32_103 c1_i32_105 k0_t27
  let v842 : BitVec 32 := Scalar.addi v841 arg21
  let v843 : Index := Scalar.indexCast v842
  let c784_260 : Index := 784#32
  ![v843.toNat, 784]
def k0_off1702 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v848 : Index := Scalar.indexCast arg21
  let c784_261 : Index := 784#32
  ![v848.toNat, 784]
def k0_off1703 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v852 : Index := Scalar.indexCast arg20
  let c800 : Index := 800#32
  ![v852.toNat, 800]
def k0_off1704 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_262 : BitVec 32 := 1#32
  let v855 : BitVec 32 := Scalar.addi arg20 c1_i32_262
  let c0_i32_103 : BitVec 32 := 0#32
  let c1_i32_105 : BitVec 32 := 1#32
  let arg21 : BitVec 32 := Scf.iv c0_i32_103 c1_i32_105 k0_t27
  let v856 : BitVec 32 := Scalar.addi v855 arg21
  let v857 : Index := Scalar.indexCast v856
  let c800_263 : Index := 800#32
  ![v857.toNat, 800]
def k0_off1705 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v862 : Index := Scalar.indexCast arg21
  let c800_264 : Index := 800#32
  ![v862.toNat, 800]
def k0_off1706 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v866 : Index := Scalar.indexCast arg20
  let c816 : Index := 816#32
  ![v866.toNat, 816]
def k0_off1707 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_265 : BitVec 32 := 1#32
  let v869 : BitVec 32 := Scalar.addi arg20 c1_i32_265
  let c0_i32_103 : BitVec 32 := 0#32
  let c1_i32_105 : BitVec 32 := 1#32
  let arg21 : BitVec 32 := Scf.iv c0_i32_103 c1_i32_105 k0_t27
  let v870 : BitVec 32 := Scalar.addi v869 arg21
  let v871 : Index := Scalar.indexCast v870
  let c816_266 : Index := 816#32
  ![v871.toNat, 816]
def k0_off1708 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v876 : Index := Scalar.indexCast arg21
  let c816_267 : Index := 816#32
  ![v876.toNat, 816]
def k0_off1709 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v880 : Index := Scalar.indexCast arg20
  let c832 : Index := 832#32
  ![v880.toNat, 832]
def k0_off1710 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_268 : BitVec 32 := 1#32
  let v883 : BitVec 32 := Scalar.addi arg20 c1_i32_268
  let c0_i32_103 : BitVec 32 := 0#32
  let c1_i32_105 : BitVec 32 := 1#32
  let arg21 : BitVec 32 := Scf.iv c0_i32_103 c1_i32_105 k0_t27
  let v884 : BitVec 32 := Scalar.addi v883 arg21
  let v885 : Index := Scalar.indexCast v884
  let c832_269 : Index := 832#32
  ![v885.toNat, 832]
def k0_off1711 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v890 : Index := Scalar.indexCast arg21
  let c832_270 : Index := 832#32
  ![v890.toNat, 832]
def k0_off1712 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v894 : Index := Scalar.indexCast arg20
  let c848 : Index := 848#32
  ![v894.toNat, 848]
def k0_off1713 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_271 : BitVec 32 := 1#32
  let v897 : BitVec 32 := Scalar.addi arg20 c1_i32_271
  let c0_i32_103 : BitVec 32 := 0#32
  let c1_i32_105 : BitVec 32 := 1#32
  let arg21 : BitVec 32 := Scf.iv c0_i32_103 c1_i32_105 k0_t27
  let v898 : BitVec 32 := Scalar.addi v897 arg21
  let v899 : Index := Scalar.indexCast v898
  let c848_272 : Index := 848#32
  ![v899.toNat, 848]
def k0_off1714 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v904 : Index := Scalar.indexCast arg21
  let c848_273 : Index := 848#32
  ![v904.toNat, 848]
def k0_off1715 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v908 : Index := Scalar.indexCast arg20
  let c864 : Index := 864#32
  ![v908.toNat, 864]
def k0_off1716 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_274 : BitVec 32 := 1#32
  let v911 : BitVec 32 := Scalar.addi arg20 c1_i32_274
  let c0_i32_103 : BitVec 32 := 0#32
  let c1_i32_105 : BitVec 32 := 1#32
  let arg21 : BitVec 32 := Scf.iv c0_i32_103 c1_i32_105 k0_t27
  let v912 : BitVec 32 := Scalar.addi v911 arg21
  let v913 : Index := Scalar.indexCast v912
  let c864_275 : Index := 864#32
  ![v913.toNat, 864]
def k0_off1717 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v918 : Index := Scalar.indexCast arg21
  let c864_276 : Index := 864#32
  ![v918.toNat, 864]
def k0_off1718 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v922 : Index := Scalar.indexCast arg20
  let c880 : Index := 880#32
  ![v922.toNat, 880]
def k0_off1719 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_277 : BitVec 32 := 1#32
  let v925 : BitVec 32 := Scalar.addi arg20 c1_i32_277
  let c0_i32_103 : BitVec 32 := 0#32
  let c1_i32_105 : BitVec 32 := 1#32
  let arg21 : BitVec 32 := Scf.iv c0_i32_103 c1_i32_105 k0_t27
  let v926 : BitVec 32 := Scalar.addi v925 arg21
  let v927 : Index := Scalar.indexCast v926
  let c880_278 : Index := 880#32
  ![v927.toNat, 880]
def k0_off1720 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v932 : Index := Scalar.indexCast arg21
  let c880_279 : Index := 880#32
  ![v932.toNat, 880]
def k0_off1721 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v936 : Index := Scalar.indexCast arg20
  let c896 : Index := 896#32
  ![v936.toNat, 896]
def k0_off1722 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_280 : BitVec 32 := 1#32
  let v939 : BitVec 32 := Scalar.addi arg20 c1_i32_280
  let c0_i32_103 : BitVec 32 := 0#32
  let c1_i32_105 : BitVec 32 := 1#32
  let arg21 : BitVec 32 := Scf.iv c0_i32_103 c1_i32_105 k0_t27
  let v940 : BitVec 32 := Scalar.addi v939 arg21
  let v941 : Index := Scalar.indexCast v940
  let c896_281 : Index := 896#32
  ![v941.toNat, 896]
def k0_off1723 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v946 : Index := Scalar.indexCast arg21
  let c896_282 : Index := 896#32
  ![v946.toNat, 896]
def k0_off1724 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v950 : Index := Scalar.indexCast arg20
  let c912 : Index := 912#32
  ![v950.toNat, 912]
def k0_off1725 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_283 : BitVec 32 := 1#32
  let v953 : BitVec 32 := Scalar.addi arg20 c1_i32_283
  let c0_i32_103 : BitVec 32 := 0#32
  let c1_i32_105 : BitVec 32 := 1#32
  let arg21 : BitVec 32 := Scf.iv c0_i32_103 c1_i32_105 k0_t27
  let v954 : BitVec 32 := Scalar.addi v953 arg21
  let v955 : Index := Scalar.indexCast v954
  let c912_284 : Index := 912#32
  ![v955.toNat, 912]
def k0_off1726 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v960 : Index := Scalar.indexCast arg21
  let c912_285 : Index := 912#32
  ![v960.toNat, 912]
def k0_off1727 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v964 : Index := Scalar.indexCast arg20
  let c928 : Index := 928#32
  ![v964.toNat, 928]
def k0_off1728 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_286 : BitVec 32 := 1#32
  let v967 : BitVec 32 := Scalar.addi arg20 c1_i32_286
  let c0_i32_103 : BitVec 32 := 0#32
  let c1_i32_105 : BitVec 32 := 1#32
  let arg21 : BitVec 32 := Scf.iv c0_i32_103 c1_i32_105 k0_t27
  let v968 : BitVec 32 := Scalar.addi v967 arg21
  let v969 : Index := Scalar.indexCast v968
  let c928_287 : Index := 928#32
  ![v969.toNat, 928]
def k0_off1729 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v974 : Index := Scalar.indexCast arg21
  let c928_288 : Index := 928#32
  ![v974.toNat, 928]
def k0_off1730 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v978 : Index := Scalar.indexCast arg20
  let c944 : Index := 944#32
  ![v978.toNat, 944]
def k0_off1731 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_289 : BitVec 32 := 1#32
  let v981 : BitVec 32 := Scalar.addi arg20 c1_i32_289
  let c0_i32_103 : BitVec 32 := 0#32
  let c1_i32_105 : BitVec 32 := 1#32
  let arg21 : BitVec 32 := Scf.iv c0_i32_103 c1_i32_105 k0_t27
  let v982 : BitVec 32 := Scalar.addi v981 arg21
  let v983 : Index := Scalar.indexCast v982
  let c944_290 : Index := 944#32
  ![v983.toNat, 944]
def k0_off1732 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v988 : Index := Scalar.indexCast arg21
  let c944_291 : Index := 944#32
  ![v988.toNat, 944]
def k0_off1733 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v992 : Index := Scalar.indexCast arg20
  let c960 : Index := 960#32
  ![v992.toNat, 960]
def k0_off1734 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_292 : BitVec 32 := 1#32
  let v995 : BitVec 32 := Scalar.addi arg20 c1_i32_292
  let c0_i32_103 : BitVec 32 := 0#32
  let c1_i32_105 : BitVec 32 := 1#32
  let arg21 : BitVec 32 := Scf.iv c0_i32_103 c1_i32_105 k0_t27
  let v996 : BitVec 32 := Scalar.addi v995 arg21
  let v997 : Index := Scalar.indexCast v996
  let c960_293 : Index := 960#32
  ![v997.toNat, 960]
def k0_off1735 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v1002 : Index := Scalar.indexCast arg21
  let c960_294 : Index := 960#32
  ![v1002.toNat, 960]
def k0_off1736 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v1006 : Index := Scalar.indexCast arg20
  let c976 : Index := 976#32
  ![v1006.toNat, 976]
def k0_off1737 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_295 : BitVec 32 := 1#32
  let v1009 : BitVec 32 := Scalar.addi arg20 c1_i32_295
  let c0_i32_103 : BitVec 32 := 0#32
  let c1_i32_105 : BitVec 32 := 1#32
  let arg21 : BitVec 32 := Scf.iv c0_i32_103 c1_i32_105 k0_t27
  let v1010 : BitVec 32 := Scalar.addi v1009 arg21
  let v1011 : Index := Scalar.indexCast v1010
  let c976_296 : Index := 976#32
  ![v1011.toNat, 976]
def k0_off1738 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v1016 : Index := Scalar.indexCast arg21
  let c976_297 : Index := 976#32
  ![v1016.toNat, 976]
def k0_off1739 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v1020 : Index := Scalar.indexCast arg20
  let c992 : Index := 992#32
  ![v1020.toNat, 992]
def k0_off1740 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_298 : BitVec 32 := 1#32
  let v1023 : BitVec 32 := Scalar.addi arg20 c1_i32_298
  let c0_i32_103 : BitVec 32 := 0#32
  let c1_i32_105 : BitVec 32 := 1#32
  let arg21 : BitVec 32 := Scf.iv c0_i32_103 c1_i32_105 k0_t27
  let v1024 : BitVec 32 := Scalar.addi v1023 arg21
  let v1025 : Index := Scalar.indexCast v1024
  let c992_299 : Index := 992#32
  ![v1025.toNat, 992]
def k0_off1741 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v1030 : Index := Scalar.indexCast arg21
  let c992_300 : Index := 992#32
  ![v1030.toNat, 992]
def k0_off1742 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v1034 : Index := Scalar.indexCast arg20
  let c1008 : Index := 1008#32
  ![v1034.toNat, 1008]
def k0_off1743 (k0_t26 : Fin k0_t26_loop.trips) (k0_t27 : Fin (k0_t27_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_301 : BitVec 32 := 1#32
  let v1037 : BitVec 32 := Scalar.addi arg20 c1_i32_301
  let c0_i32_103 : BitVec 32 := 0#32
  let c1_i32_105 : BitVec 32 := 1#32
  let arg21 : BitVec 32 := Scf.iv c0_i32_103 c1_i32_105 k0_t27
  let v1038 : BitVec 32 := Scalar.addi v1037 arg21
  let v1039 : Index := Scalar.indexCast v1038
  let c1008_302 : Index := 1008#32
  ![v1039.toNat, 1008]
def k0_off1744 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let v1044 : Index := Scalar.indexCast arg21
  let c1008_303 : Index := 1008#32
  ![v1044.toNat, 1008]
def k0_off1745 (k0_t26 : Fin k0_t26_loop.trips) (k0_t27 : Fin (k0_t27_loop k0_t26).trips) : Fin 2 → Nat :=
  let c0_i32_103 : BitVec 32 := 0#32
  let c1_i32_105 : BitVec 32 := 1#32
  let arg21 : BitVec 32 := Scf.iv c0_i32_103 c1_i32_105 k0_t27
  let c0_i32_304 : BitVec 32 := 0#32
  ![arg21.toNat, 0]
def k0_off1746 (i : grid0.Coords) (k0_t26 : Fin k0_t26_loop.trips) (k0_t27 : Fin (k0_t27_loop k0_t26).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c1_i32_86 : BitVec 32 := 1#32
  let v116 : BitVec 32 := Scalar.addi v42 c1_i32_86
  let c16_i32_93 : BitVec 32 := 16#32
  let v119 : BitVec 32 := Scalar.muli v116 c16_i32_93
  let c0_i32_88 : BitVec 32 := 0#32
  let c1_i32_90 : BitVec 32 := 1#32
  let arg20 : BitVec 32 := Scf.iv c0_i32_88 c1_i32_90 k0_t26
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c1_i32_105 : BitVec 32 := 1#32
  let arg21 : BitVec 32 := Scf.iv c0_i32_103 c1_i32_105 k0_t27
  let v1048 : BitVec 32 := Scalar.addi v141 arg21
  let c0_i32_305 : BitVec 32 := 0#32
  ![v1048.toNat, 0]
@[reducible] def k0_t28_loop (k0_t26 : Fin k0_t26_loop.trips) : Scf.Loop 32 :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let v143 : BitVec 32 := Scalar.addi c0_i32_103 v142
  let c1_i32_106 : BitVec 32 := 1#32
  ⟨v146, v143, c1_i32_106⟩
def k0_off1747 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v152 : Index := Scalar.indexCast arg20
  let c0 : Index := 0#32
  ![v152.toNat, 0]
def k0_off1748 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_112 : BitVec 32 := 1#32
  let v155 : BitVec 32 := Scalar.addi arg20 c1_i32_112
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v156 : BitVec 32 := Scalar.addi v155 arg21
  let v157 : Index := Scalar.indexCast v156
  let c0_113 : Index := 0#32
  ![v157.toNat, 0]
def k0_off1749 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v162 : Index := Scalar.indexCast arg21
  let c0_114 : Index := 0#32
  ![v162.toNat, 0]
def k0_off1750 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v166 : Index := Scalar.indexCast arg20
  let c16 : Index := 16#32
  ![v166.toNat, 16]
def k0_off1751 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_115 : BitVec 32 := 1#32
  let v169 : BitVec 32 := Scalar.addi arg20 c1_i32_115
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v170 : BitVec 32 := Scalar.addi v169 arg21
  let v171 : Index := Scalar.indexCast v170
  let c16_116 : Index := 16#32
  ![v171.toNat, 16]
def k0_off1752 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v176 : Index := Scalar.indexCast arg21
  let c16_117 : Index := 16#32
  ![v176.toNat, 16]
def k0_off1753 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v180 : Index := Scalar.indexCast arg20
  let c32 : Index := 32#32
  ![v180.toNat, 32]
def k0_off1754 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_118 : BitVec 32 := 1#32
  let v183 : BitVec 32 := Scalar.addi arg20 c1_i32_118
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v184 : BitVec 32 := Scalar.addi v183 arg21
  let v185 : Index := Scalar.indexCast v184
  let c32_119 : Index := 32#32
  ![v185.toNat, 32]
def k0_off1755 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v190 : Index := Scalar.indexCast arg21
  let c32_120 : Index := 32#32
  ![v190.toNat, 32]
def k0_off1756 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v194 : Index := Scalar.indexCast arg20
  let c48 : Index := 48#32
  ![v194.toNat, 48]
def k0_off1757 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_121 : BitVec 32 := 1#32
  let v197 : BitVec 32 := Scalar.addi arg20 c1_i32_121
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v198 : BitVec 32 := Scalar.addi v197 arg21
  let v199 : Index := Scalar.indexCast v198
  let c48_122 : Index := 48#32
  ![v199.toNat, 48]
def k0_off1758 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v204 : Index := Scalar.indexCast arg21
  let c48_123 : Index := 48#32
  ![v204.toNat, 48]
def k0_off1759 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v208 : Index := Scalar.indexCast arg20
  let c64 : Index := 64#32
  ![v208.toNat, 64]
def k0_off1760 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_124 : BitVec 32 := 1#32
  let v211 : BitVec 32 := Scalar.addi arg20 c1_i32_124
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v212 : BitVec 32 := Scalar.addi v211 arg21
  let v213 : Index := Scalar.indexCast v212
  let c64_125 : Index := 64#32
  ![v213.toNat, 64]
def k0_off1761 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v218 : Index := Scalar.indexCast arg21
  let c64_126 : Index := 64#32
  ![v218.toNat, 64]
def k0_off1762 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v222 : Index := Scalar.indexCast arg20
  let c80 : Index := 80#32
  ![v222.toNat, 80]
def k0_off1763 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_127 : BitVec 32 := 1#32
  let v225 : BitVec 32 := Scalar.addi arg20 c1_i32_127
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v226 : BitVec 32 := Scalar.addi v225 arg21
  let v227 : Index := Scalar.indexCast v226
  let c80_128 : Index := 80#32
  ![v227.toNat, 80]
def k0_off1764 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v232 : Index := Scalar.indexCast arg21
  let c80_129 : Index := 80#32
  ![v232.toNat, 80]
def k0_off1765 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v236 : Index := Scalar.indexCast arg20
  let c96 : Index := 96#32
  ![v236.toNat, 96]
def k0_off1766 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_130 : BitVec 32 := 1#32
  let v239 : BitVec 32 := Scalar.addi arg20 c1_i32_130
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v240 : BitVec 32 := Scalar.addi v239 arg21
  let v241 : Index := Scalar.indexCast v240
  let c96_131 : Index := 96#32
  ![v241.toNat, 96]
def k0_off1767 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v246 : Index := Scalar.indexCast arg21
  let c96_132 : Index := 96#32
  ![v246.toNat, 96]
def k0_off1768 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v250 : Index := Scalar.indexCast arg20
  let c112 : Index := 112#32
  ![v250.toNat, 112]
def k0_off1769 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_133 : BitVec 32 := 1#32
  let v253 : BitVec 32 := Scalar.addi arg20 c1_i32_133
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v254 : BitVec 32 := Scalar.addi v253 arg21
  let v255 : Index := Scalar.indexCast v254
  let c112_134 : Index := 112#32
  ![v255.toNat, 112]
def k0_off1770 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v260 : Index := Scalar.indexCast arg21
  let c112_135 : Index := 112#32
  ![v260.toNat, 112]
def k0_off1771 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v264 : Index := Scalar.indexCast arg20
  let c128 : Index := 128#32
  ![v264.toNat, 128]
def k0_off1772 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_136 : BitVec 32 := 1#32
  let v267 : BitVec 32 := Scalar.addi arg20 c1_i32_136
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v268 : BitVec 32 := Scalar.addi v267 arg21
  let v269 : Index := Scalar.indexCast v268
  let c128_137 : Index := 128#32
  ![v269.toNat, 128]
def k0_off1773 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v274 : Index := Scalar.indexCast arg21
  let c128_138 : Index := 128#32
  ![v274.toNat, 128]
def k0_off1774 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v278 : Index := Scalar.indexCast arg20
  let c144 : Index := 144#32
  ![v278.toNat, 144]
def k0_off1775 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_139 : BitVec 32 := 1#32
  let v281 : BitVec 32 := Scalar.addi arg20 c1_i32_139
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v282 : BitVec 32 := Scalar.addi v281 arg21
  let v283 : Index := Scalar.indexCast v282
  let c144_140 : Index := 144#32
  ![v283.toNat, 144]
def k0_off1776 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v288 : Index := Scalar.indexCast arg21
  let c144_141 : Index := 144#32
  ![v288.toNat, 144]
def k0_off1777 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v292 : Index := Scalar.indexCast arg20
  let c160 : Index := 160#32
  ![v292.toNat, 160]
def k0_off1778 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_142 : BitVec 32 := 1#32
  let v295 : BitVec 32 := Scalar.addi arg20 c1_i32_142
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v296 : BitVec 32 := Scalar.addi v295 arg21
  let v297 : Index := Scalar.indexCast v296
  let c160_143 : Index := 160#32
  ![v297.toNat, 160]
def k0_off1779 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v302 : Index := Scalar.indexCast arg21
  let c160_144 : Index := 160#32
  ![v302.toNat, 160]
def k0_off1780 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v306 : Index := Scalar.indexCast arg20
  let c176 : Index := 176#32
  ![v306.toNat, 176]
def k0_off1781 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_145 : BitVec 32 := 1#32
  let v309 : BitVec 32 := Scalar.addi arg20 c1_i32_145
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v310 : BitVec 32 := Scalar.addi v309 arg21
  let v311 : Index := Scalar.indexCast v310
  let c176_146 : Index := 176#32
  ![v311.toNat, 176]
def k0_off1782 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v316 : Index := Scalar.indexCast arg21
  let c176_147 : Index := 176#32
  ![v316.toNat, 176]
def k0_off1783 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v320 : Index := Scalar.indexCast arg20
  let c192 : Index := 192#32
  ![v320.toNat, 192]
def k0_off1784 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_148 : BitVec 32 := 1#32
  let v323 : BitVec 32 := Scalar.addi arg20 c1_i32_148
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v324 : BitVec 32 := Scalar.addi v323 arg21
  let v325 : Index := Scalar.indexCast v324
  let c192_149 : Index := 192#32
  ![v325.toNat, 192]
def k0_off1785 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v330 : Index := Scalar.indexCast arg21
  let c192_150 : Index := 192#32
  ![v330.toNat, 192]
def k0_off1786 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v334 : Index := Scalar.indexCast arg20
  let c208 : Index := 208#32
  ![v334.toNat, 208]
def k0_off1787 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_151 : BitVec 32 := 1#32
  let v337 : BitVec 32 := Scalar.addi arg20 c1_i32_151
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v338 : BitVec 32 := Scalar.addi v337 arg21
  let v339 : Index := Scalar.indexCast v338
  let c208_152 : Index := 208#32
  ![v339.toNat, 208]
def k0_off1788 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v344 : Index := Scalar.indexCast arg21
  let c208_153 : Index := 208#32
  ![v344.toNat, 208]
def k0_off1789 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v348 : Index := Scalar.indexCast arg20
  let c224 : Index := 224#32
  ![v348.toNat, 224]
def k0_off1790 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_154 : BitVec 32 := 1#32
  let v351 : BitVec 32 := Scalar.addi arg20 c1_i32_154
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v352 : BitVec 32 := Scalar.addi v351 arg21
  let v353 : Index := Scalar.indexCast v352
  let c224_155 : Index := 224#32
  ![v353.toNat, 224]
def k0_off1791 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v358 : Index := Scalar.indexCast arg21
  let c224_156 : Index := 224#32
  ![v358.toNat, 224]
def k0_off1792 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v362 : Index := Scalar.indexCast arg20
  let c240 : Index := 240#32
  ![v362.toNat, 240]
def k0_off1793 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_157 : BitVec 32 := 1#32
  let v365 : BitVec 32 := Scalar.addi arg20 c1_i32_157
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v366 : BitVec 32 := Scalar.addi v365 arg21
  let v367 : Index := Scalar.indexCast v366
  let c240_158 : Index := 240#32
  ![v367.toNat, 240]
def k0_off1794 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v372 : Index := Scalar.indexCast arg21
  let c240_159 : Index := 240#32
  ![v372.toNat, 240]
def k0_off1795 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v376 : Index := Scalar.indexCast arg20
  let c256 : Index := 256#32
  ![v376.toNat, 256]
def k0_off1796 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_160 : BitVec 32 := 1#32
  let v379 : BitVec 32 := Scalar.addi arg20 c1_i32_160
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v380 : BitVec 32 := Scalar.addi v379 arg21
  let v381 : Index := Scalar.indexCast v380
  let c256_161 : Index := 256#32
  ![v381.toNat, 256]
def k0_off1797 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v386 : Index := Scalar.indexCast arg21
  let c256_162 : Index := 256#32
  ![v386.toNat, 256]
def k0_off1798 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v390 : Index := Scalar.indexCast arg20
  let c272 : Index := 272#32
  ![v390.toNat, 272]
def k0_off1799 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_163 : BitVec 32 := 1#32
  let v393 : BitVec 32 := Scalar.addi arg20 c1_i32_163
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v394 : BitVec 32 := Scalar.addi v393 arg21
  let v395 : Index := Scalar.indexCast v394
  let c272_164 : Index := 272#32
  ![v395.toNat, 272]
def k0_off1800 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v400 : Index := Scalar.indexCast arg21
  let c272_165 : Index := 272#32
  ![v400.toNat, 272]
def k0_off1801 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v404 : Index := Scalar.indexCast arg20
  let c288 : Index := 288#32
  ![v404.toNat, 288]
def k0_off1802 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_166 : BitVec 32 := 1#32
  let v407 : BitVec 32 := Scalar.addi arg20 c1_i32_166
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v408 : BitVec 32 := Scalar.addi v407 arg21
  let v409 : Index := Scalar.indexCast v408
  let c288_167 : Index := 288#32
  ![v409.toNat, 288]
def k0_off1803 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v414 : Index := Scalar.indexCast arg21
  let c288_168 : Index := 288#32
  ![v414.toNat, 288]
def k0_off1804 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v418 : Index := Scalar.indexCast arg20
  let c304 : Index := 304#32
  ![v418.toNat, 304]
def k0_off1805 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_169 : BitVec 32 := 1#32
  let v421 : BitVec 32 := Scalar.addi arg20 c1_i32_169
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v422 : BitVec 32 := Scalar.addi v421 arg21
  let v423 : Index := Scalar.indexCast v422
  let c304_170 : Index := 304#32
  ![v423.toNat, 304]
def k0_off1806 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v428 : Index := Scalar.indexCast arg21
  let c304_171 : Index := 304#32
  ![v428.toNat, 304]
def k0_off1807 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v432 : Index := Scalar.indexCast arg20
  let c320 : Index := 320#32
  ![v432.toNat, 320]
def k0_off1808 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_172 : BitVec 32 := 1#32
  let v435 : BitVec 32 := Scalar.addi arg20 c1_i32_172
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v436 : BitVec 32 := Scalar.addi v435 arg21
  let v437 : Index := Scalar.indexCast v436
  let c320_173 : Index := 320#32
  ![v437.toNat, 320]
def k0_off1809 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v442 : Index := Scalar.indexCast arg21
  let c320_174 : Index := 320#32
  ![v442.toNat, 320]
def k0_off1810 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v446 : Index := Scalar.indexCast arg20
  let c336 : Index := 336#32
  ![v446.toNat, 336]
def k0_off1811 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_175 : BitVec 32 := 1#32
  let v449 : BitVec 32 := Scalar.addi arg20 c1_i32_175
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v450 : BitVec 32 := Scalar.addi v449 arg21
  let v451 : Index := Scalar.indexCast v450
  let c336_176 : Index := 336#32
  ![v451.toNat, 336]
def k0_off1812 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v456 : Index := Scalar.indexCast arg21
  let c336_177 : Index := 336#32
  ![v456.toNat, 336]
def k0_off1813 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v460 : Index := Scalar.indexCast arg20
  let c352 : Index := 352#32
  ![v460.toNat, 352]
def k0_off1814 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_178 : BitVec 32 := 1#32
  let v463 : BitVec 32 := Scalar.addi arg20 c1_i32_178
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v464 : BitVec 32 := Scalar.addi v463 arg21
  let v465 : Index := Scalar.indexCast v464
  let c352_179 : Index := 352#32
  ![v465.toNat, 352]
def k0_off1815 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v470 : Index := Scalar.indexCast arg21
  let c352_180 : Index := 352#32
  ![v470.toNat, 352]
def k0_off1816 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v474 : Index := Scalar.indexCast arg20
  let c368 : Index := 368#32
  ![v474.toNat, 368]
def k0_off1817 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_181 : BitVec 32 := 1#32
  let v477 : BitVec 32 := Scalar.addi arg20 c1_i32_181
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v478 : BitVec 32 := Scalar.addi v477 arg21
  let v479 : Index := Scalar.indexCast v478
  let c368_182 : Index := 368#32
  ![v479.toNat, 368]
def k0_off1818 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v484 : Index := Scalar.indexCast arg21
  let c368_183 : Index := 368#32
  ![v484.toNat, 368]
def k0_off1819 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v488 : Index := Scalar.indexCast arg20
  let c384 : Index := 384#32
  ![v488.toNat, 384]
def k0_off1820 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_184 : BitVec 32 := 1#32
  let v491 : BitVec 32 := Scalar.addi arg20 c1_i32_184
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v492 : BitVec 32 := Scalar.addi v491 arg21
  let v493 : Index := Scalar.indexCast v492
  let c384_185 : Index := 384#32
  ![v493.toNat, 384]
def k0_off1821 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v498 : Index := Scalar.indexCast arg21
  let c384_186 : Index := 384#32
  ![v498.toNat, 384]
def k0_off1822 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v502 : Index := Scalar.indexCast arg20
  let c400 : Index := 400#32
  ![v502.toNat, 400]
def k0_off1823 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_187 : BitVec 32 := 1#32
  let v505 : BitVec 32 := Scalar.addi arg20 c1_i32_187
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v506 : BitVec 32 := Scalar.addi v505 arg21
  let v507 : Index := Scalar.indexCast v506
  let c400_188 : Index := 400#32
  ![v507.toNat, 400]
def k0_off1824 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v512 : Index := Scalar.indexCast arg21
  let c400_189 : Index := 400#32
  ![v512.toNat, 400]
def k0_off1825 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v516 : Index := Scalar.indexCast arg20
  let c416 : Index := 416#32
  ![v516.toNat, 416]
def k0_off1826 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_190 : BitVec 32 := 1#32
  let v519 : BitVec 32 := Scalar.addi arg20 c1_i32_190
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v520 : BitVec 32 := Scalar.addi v519 arg21
  let v521 : Index := Scalar.indexCast v520
  let c416_191 : Index := 416#32
  ![v521.toNat, 416]
def k0_off1827 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v526 : Index := Scalar.indexCast arg21
  let c416_192 : Index := 416#32
  ![v526.toNat, 416]
def k0_off1828 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v530 : Index := Scalar.indexCast arg20
  let c432 : Index := 432#32
  ![v530.toNat, 432]
def k0_off1829 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_193 : BitVec 32 := 1#32
  let v533 : BitVec 32 := Scalar.addi arg20 c1_i32_193
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v534 : BitVec 32 := Scalar.addi v533 arg21
  let v535 : Index := Scalar.indexCast v534
  let c432_194 : Index := 432#32
  ![v535.toNat, 432]
def k0_off1830 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v540 : Index := Scalar.indexCast arg21
  let c432_195 : Index := 432#32
  ![v540.toNat, 432]
def k0_off1831 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v544 : Index := Scalar.indexCast arg20
  let c448 : Index := 448#32
  ![v544.toNat, 448]
def k0_off1832 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_196 : BitVec 32 := 1#32
  let v547 : BitVec 32 := Scalar.addi arg20 c1_i32_196
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v548 : BitVec 32 := Scalar.addi v547 arg21
  let v549 : Index := Scalar.indexCast v548
  let c448_197 : Index := 448#32
  ![v549.toNat, 448]
def k0_off1833 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v554 : Index := Scalar.indexCast arg21
  let c448_198 : Index := 448#32
  ![v554.toNat, 448]
def k0_off1834 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v558 : Index := Scalar.indexCast arg20
  let c464 : Index := 464#32
  ![v558.toNat, 464]
def k0_off1835 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_199 : BitVec 32 := 1#32
  let v561 : BitVec 32 := Scalar.addi arg20 c1_i32_199
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v562 : BitVec 32 := Scalar.addi v561 arg21
  let v563 : Index := Scalar.indexCast v562
  let c464_200 : Index := 464#32
  ![v563.toNat, 464]
def k0_off1836 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v568 : Index := Scalar.indexCast arg21
  let c464_201 : Index := 464#32
  ![v568.toNat, 464]
def k0_off1837 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v572 : Index := Scalar.indexCast arg20
  let c480 : Index := 480#32
  ![v572.toNat, 480]
def k0_off1838 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_202 : BitVec 32 := 1#32
  let v575 : BitVec 32 := Scalar.addi arg20 c1_i32_202
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v576 : BitVec 32 := Scalar.addi v575 arg21
  let v577 : Index := Scalar.indexCast v576
  let c480_203 : Index := 480#32
  ![v577.toNat, 480]
def k0_off1839 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v582 : Index := Scalar.indexCast arg21
  let c480_204 : Index := 480#32
  ![v582.toNat, 480]
def k0_off1840 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v586 : Index := Scalar.indexCast arg20
  let c496 : Index := 496#32
  ![v586.toNat, 496]
def k0_off1841 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_205 : BitVec 32 := 1#32
  let v589 : BitVec 32 := Scalar.addi arg20 c1_i32_205
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v590 : BitVec 32 := Scalar.addi v589 arg21
  let v591 : Index := Scalar.indexCast v590
  let c496_206 : Index := 496#32
  ![v591.toNat, 496]
def k0_off1842 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v596 : Index := Scalar.indexCast arg21
  let c496_207 : Index := 496#32
  ![v596.toNat, 496]
def k0_off1843 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v600 : Index := Scalar.indexCast arg20
  let c512 : Index := 512#32
  ![v600.toNat, 512]
def k0_off1844 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_208 : BitVec 32 := 1#32
  let v603 : BitVec 32 := Scalar.addi arg20 c1_i32_208
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v604 : BitVec 32 := Scalar.addi v603 arg21
  let v605 : Index := Scalar.indexCast v604
  let c512_209 : Index := 512#32
  ![v605.toNat, 512]
def k0_off1845 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v610 : Index := Scalar.indexCast arg21
  let c512_210 : Index := 512#32
  ![v610.toNat, 512]
def k0_off1846 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v614 : Index := Scalar.indexCast arg20
  let c528 : Index := 528#32
  ![v614.toNat, 528]
def k0_off1847 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_211 : BitVec 32 := 1#32
  let v617 : BitVec 32 := Scalar.addi arg20 c1_i32_211
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v618 : BitVec 32 := Scalar.addi v617 arg21
  let v619 : Index := Scalar.indexCast v618
  let c528_212 : Index := 528#32
  ![v619.toNat, 528]
def k0_off1848 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v624 : Index := Scalar.indexCast arg21
  let c528_213 : Index := 528#32
  ![v624.toNat, 528]
def k0_off1849 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v628 : Index := Scalar.indexCast arg20
  let c544 : Index := 544#32
  ![v628.toNat, 544]
def k0_off1850 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_214 : BitVec 32 := 1#32
  let v631 : BitVec 32 := Scalar.addi arg20 c1_i32_214
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v632 : BitVec 32 := Scalar.addi v631 arg21
  let v633 : Index := Scalar.indexCast v632
  let c544_215 : Index := 544#32
  ![v633.toNat, 544]
def k0_off1851 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v638 : Index := Scalar.indexCast arg21
  let c544_216 : Index := 544#32
  ![v638.toNat, 544]
def k0_off1852 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v642 : Index := Scalar.indexCast arg20
  let c560 : Index := 560#32
  ![v642.toNat, 560]
def k0_off1853 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_217 : BitVec 32 := 1#32
  let v645 : BitVec 32 := Scalar.addi arg20 c1_i32_217
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v646 : BitVec 32 := Scalar.addi v645 arg21
  let v647 : Index := Scalar.indexCast v646
  let c560_218 : Index := 560#32
  ![v647.toNat, 560]
def k0_off1854 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v652 : Index := Scalar.indexCast arg21
  let c560_219 : Index := 560#32
  ![v652.toNat, 560]
def k0_off1855 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v656 : Index := Scalar.indexCast arg20
  let c576 : Index := 576#32
  ![v656.toNat, 576]
def k0_off1856 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_220 : BitVec 32 := 1#32
  let v659 : BitVec 32 := Scalar.addi arg20 c1_i32_220
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v660 : BitVec 32 := Scalar.addi v659 arg21
  let v661 : Index := Scalar.indexCast v660
  let c576_221 : Index := 576#32
  ![v661.toNat, 576]
def k0_off1857 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v666 : Index := Scalar.indexCast arg21
  let c576_222 : Index := 576#32
  ![v666.toNat, 576]
def k0_off1858 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v670 : Index := Scalar.indexCast arg20
  let c592 : Index := 592#32
  ![v670.toNat, 592]
def k0_off1859 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_223 : BitVec 32 := 1#32
  let v673 : BitVec 32 := Scalar.addi arg20 c1_i32_223
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v674 : BitVec 32 := Scalar.addi v673 arg21
  let v675 : Index := Scalar.indexCast v674
  let c592_224 : Index := 592#32
  ![v675.toNat, 592]
def k0_off1860 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v680 : Index := Scalar.indexCast arg21
  let c592_225 : Index := 592#32
  ![v680.toNat, 592]
def k0_off1861 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v684 : Index := Scalar.indexCast arg20
  let c608 : Index := 608#32
  ![v684.toNat, 608]
def k0_off1862 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_226 : BitVec 32 := 1#32
  let v687 : BitVec 32 := Scalar.addi arg20 c1_i32_226
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v688 : BitVec 32 := Scalar.addi v687 arg21
  let v689 : Index := Scalar.indexCast v688
  let c608_227 : Index := 608#32
  ![v689.toNat, 608]
def k0_off1863 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v694 : Index := Scalar.indexCast arg21
  let c608_228 : Index := 608#32
  ![v694.toNat, 608]
def k0_off1864 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v698 : Index := Scalar.indexCast arg20
  let c624 : Index := 624#32
  ![v698.toNat, 624]
def k0_off1865 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_229 : BitVec 32 := 1#32
  let v701 : BitVec 32 := Scalar.addi arg20 c1_i32_229
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v702 : BitVec 32 := Scalar.addi v701 arg21
  let v703 : Index := Scalar.indexCast v702
  let c624_230 : Index := 624#32
  ![v703.toNat, 624]
def k0_off1866 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v708 : Index := Scalar.indexCast arg21
  let c624_231 : Index := 624#32
  ![v708.toNat, 624]
def k0_off1867 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v712 : Index := Scalar.indexCast arg20
  let c640 : Index := 640#32
  ![v712.toNat, 640]
def k0_off1868 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_232 : BitVec 32 := 1#32
  let v715 : BitVec 32 := Scalar.addi arg20 c1_i32_232
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v716 : BitVec 32 := Scalar.addi v715 arg21
  let v717 : Index := Scalar.indexCast v716
  let c640_233 : Index := 640#32
  ![v717.toNat, 640]
def k0_off1869 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v722 : Index := Scalar.indexCast arg21
  let c640_234 : Index := 640#32
  ![v722.toNat, 640]
def k0_off1870 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v726 : Index := Scalar.indexCast arg20
  let c656 : Index := 656#32
  ![v726.toNat, 656]
def k0_off1871 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_235 : BitVec 32 := 1#32
  let v729 : BitVec 32 := Scalar.addi arg20 c1_i32_235
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v730 : BitVec 32 := Scalar.addi v729 arg21
  let v731 : Index := Scalar.indexCast v730
  let c656_236 : Index := 656#32
  ![v731.toNat, 656]
def k0_off1872 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v736 : Index := Scalar.indexCast arg21
  let c656_237 : Index := 656#32
  ![v736.toNat, 656]
def k0_off1873 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v740 : Index := Scalar.indexCast arg20
  let c672 : Index := 672#32
  ![v740.toNat, 672]
def k0_off1874 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_238 : BitVec 32 := 1#32
  let v743 : BitVec 32 := Scalar.addi arg20 c1_i32_238
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v744 : BitVec 32 := Scalar.addi v743 arg21
  let v745 : Index := Scalar.indexCast v744
  let c672_239 : Index := 672#32
  ![v745.toNat, 672]
def k0_off1875 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v750 : Index := Scalar.indexCast arg21
  let c672_240 : Index := 672#32
  ![v750.toNat, 672]
def k0_off1876 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v754 : Index := Scalar.indexCast arg20
  let c688 : Index := 688#32
  ![v754.toNat, 688]
def k0_off1877 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_241 : BitVec 32 := 1#32
  let v757 : BitVec 32 := Scalar.addi arg20 c1_i32_241
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v758 : BitVec 32 := Scalar.addi v757 arg21
  let v759 : Index := Scalar.indexCast v758
  let c688_242 : Index := 688#32
  ![v759.toNat, 688]
def k0_off1878 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v764 : Index := Scalar.indexCast arg21
  let c688_243 : Index := 688#32
  ![v764.toNat, 688]
def k0_off1879 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v768 : Index := Scalar.indexCast arg20
  let c704 : Index := 704#32
  ![v768.toNat, 704]
def k0_off1880 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_244 : BitVec 32 := 1#32
  let v771 : BitVec 32 := Scalar.addi arg20 c1_i32_244
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v772 : BitVec 32 := Scalar.addi v771 arg21
  let v773 : Index := Scalar.indexCast v772
  let c704_245 : Index := 704#32
  ![v773.toNat, 704]
def k0_off1881 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v778 : Index := Scalar.indexCast arg21
  let c704_246 : Index := 704#32
  ![v778.toNat, 704]
def k0_off1882 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v782 : Index := Scalar.indexCast arg20
  let c720 : Index := 720#32
  ![v782.toNat, 720]
def k0_off1883 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_247 : BitVec 32 := 1#32
  let v785 : BitVec 32 := Scalar.addi arg20 c1_i32_247
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v786 : BitVec 32 := Scalar.addi v785 arg21
  let v787 : Index := Scalar.indexCast v786
  let c720_248 : Index := 720#32
  ![v787.toNat, 720]
def k0_off1884 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v792 : Index := Scalar.indexCast arg21
  let c720_249 : Index := 720#32
  ![v792.toNat, 720]
def k0_off1885 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v796 : Index := Scalar.indexCast arg20
  let c736 : Index := 736#32
  ![v796.toNat, 736]
def k0_off1886 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_250 : BitVec 32 := 1#32
  let v799 : BitVec 32 := Scalar.addi arg20 c1_i32_250
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v800 : BitVec 32 := Scalar.addi v799 arg21
  let v801 : Index := Scalar.indexCast v800
  let c736_251 : Index := 736#32
  ![v801.toNat, 736]
def k0_off1887 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v806 : Index := Scalar.indexCast arg21
  let c736_252 : Index := 736#32
  ![v806.toNat, 736]
def k0_off1888 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v810 : Index := Scalar.indexCast arg20
  let c752 : Index := 752#32
  ![v810.toNat, 752]
def k0_off1889 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_253 : BitVec 32 := 1#32
  let v813 : BitVec 32 := Scalar.addi arg20 c1_i32_253
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v814 : BitVec 32 := Scalar.addi v813 arg21
  let v815 : Index := Scalar.indexCast v814
  let c752_254 : Index := 752#32
  ![v815.toNat, 752]
def k0_off1890 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v820 : Index := Scalar.indexCast arg21
  let c752_255 : Index := 752#32
  ![v820.toNat, 752]
def k0_off1891 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v824 : Index := Scalar.indexCast arg20
  let c768 : Index := 768#32
  ![v824.toNat, 768]
def k0_off1892 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_256 : BitVec 32 := 1#32
  let v827 : BitVec 32 := Scalar.addi arg20 c1_i32_256
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v828 : BitVec 32 := Scalar.addi v827 arg21
  let v829 : Index := Scalar.indexCast v828
  let c768_257 : Index := 768#32
  ![v829.toNat, 768]
def k0_off1893 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v834 : Index := Scalar.indexCast arg21
  let c768_258 : Index := 768#32
  ![v834.toNat, 768]
def k0_off1894 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v838 : Index := Scalar.indexCast arg20
  let c784 : Index := 784#32
  ![v838.toNat, 784]
def k0_off1895 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_259 : BitVec 32 := 1#32
  let v841 : BitVec 32 := Scalar.addi arg20 c1_i32_259
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v842 : BitVec 32 := Scalar.addi v841 arg21
  let v843 : Index := Scalar.indexCast v842
  let c784_260 : Index := 784#32
  ![v843.toNat, 784]
def k0_off1896 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v848 : Index := Scalar.indexCast arg21
  let c784_261 : Index := 784#32
  ![v848.toNat, 784]
def k0_off1897 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v852 : Index := Scalar.indexCast arg20
  let c800 : Index := 800#32
  ![v852.toNat, 800]
def k0_off1898 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_262 : BitVec 32 := 1#32
  let v855 : BitVec 32 := Scalar.addi arg20 c1_i32_262
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v856 : BitVec 32 := Scalar.addi v855 arg21
  let v857 : Index := Scalar.indexCast v856
  let c800_263 : Index := 800#32
  ![v857.toNat, 800]
def k0_off1899 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v862 : Index := Scalar.indexCast arg21
  let c800_264 : Index := 800#32
  ![v862.toNat, 800]
def k0_off1900 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v866 : Index := Scalar.indexCast arg20
  let c816 : Index := 816#32
  ![v866.toNat, 816]
def k0_off1901 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_265 : BitVec 32 := 1#32
  let v869 : BitVec 32 := Scalar.addi arg20 c1_i32_265
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v870 : BitVec 32 := Scalar.addi v869 arg21
  let v871 : Index := Scalar.indexCast v870
  let c816_266 : Index := 816#32
  ![v871.toNat, 816]
def k0_off1902 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v876 : Index := Scalar.indexCast arg21
  let c816_267 : Index := 816#32
  ![v876.toNat, 816]
def k0_off1903 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v880 : Index := Scalar.indexCast arg20
  let c832 : Index := 832#32
  ![v880.toNat, 832]
def k0_off1904 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_268 : BitVec 32 := 1#32
  let v883 : BitVec 32 := Scalar.addi arg20 c1_i32_268
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v884 : BitVec 32 := Scalar.addi v883 arg21
  let v885 : Index := Scalar.indexCast v884
  let c832_269 : Index := 832#32
  ![v885.toNat, 832]
def k0_off1905 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v890 : Index := Scalar.indexCast arg21
  let c832_270 : Index := 832#32
  ![v890.toNat, 832]
def k0_off1906 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v894 : Index := Scalar.indexCast arg20
  let c848 : Index := 848#32
  ![v894.toNat, 848]
def k0_off1907 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_271 : BitVec 32 := 1#32
  let v897 : BitVec 32 := Scalar.addi arg20 c1_i32_271
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v898 : BitVec 32 := Scalar.addi v897 arg21
  let v899 : Index := Scalar.indexCast v898
  let c848_272 : Index := 848#32
  ![v899.toNat, 848]
def k0_off1908 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v904 : Index := Scalar.indexCast arg21
  let c848_273 : Index := 848#32
  ![v904.toNat, 848]
def k0_off1909 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v908 : Index := Scalar.indexCast arg20
  let c864 : Index := 864#32
  ![v908.toNat, 864]
def k0_off1910 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_274 : BitVec 32 := 1#32
  let v911 : BitVec 32 := Scalar.addi arg20 c1_i32_274
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v912 : BitVec 32 := Scalar.addi v911 arg21
  let v913 : Index := Scalar.indexCast v912
  let c864_275 : Index := 864#32
  ![v913.toNat, 864]
def k0_off1911 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v918 : Index := Scalar.indexCast arg21
  let c864_276 : Index := 864#32
  ![v918.toNat, 864]
def k0_off1912 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v922 : Index := Scalar.indexCast arg20
  let c880 : Index := 880#32
  ![v922.toNat, 880]
def k0_off1913 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_277 : BitVec 32 := 1#32
  let v925 : BitVec 32 := Scalar.addi arg20 c1_i32_277
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v926 : BitVec 32 := Scalar.addi v925 arg21
  let v927 : Index := Scalar.indexCast v926
  let c880_278 : Index := 880#32
  ![v927.toNat, 880]
def k0_off1914 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v932 : Index := Scalar.indexCast arg21
  let c880_279 : Index := 880#32
  ![v932.toNat, 880]
def k0_off1915 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v936 : Index := Scalar.indexCast arg20
  let c896 : Index := 896#32
  ![v936.toNat, 896]
def k0_off1916 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_280 : BitVec 32 := 1#32
  let v939 : BitVec 32 := Scalar.addi arg20 c1_i32_280
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v940 : BitVec 32 := Scalar.addi v939 arg21
  let v941 : Index := Scalar.indexCast v940
  let c896_281 : Index := 896#32
  ![v941.toNat, 896]
def k0_off1917 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v946 : Index := Scalar.indexCast arg21
  let c896_282 : Index := 896#32
  ![v946.toNat, 896]
def k0_off1918 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v950 : Index := Scalar.indexCast arg20
  let c912 : Index := 912#32
  ![v950.toNat, 912]
def k0_off1919 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_283 : BitVec 32 := 1#32
  let v953 : BitVec 32 := Scalar.addi arg20 c1_i32_283
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v954 : BitVec 32 := Scalar.addi v953 arg21
  let v955 : Index := Scalar.indexCast v954
  let c912_284 : Index := 912#32
  ![v955.toNat, 912]
def k0_off1920 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v960 : Index := Scalar.indexCast arg21
  let c912_285 : Index := 912#32
  ![v960.toNat, 912]
def k0_off1921 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v964 : Index := Scalar.indexCast arg20
  let c928 : Index := 928#32
  ![v964.toNat, 928]
def k0_off1922 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_286 : BitVec 32 := 1#32
  let v967 : BitVec 32 := Scalar.addi arg20 c1_i32_286
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v968 : BitVec 32 := Scalar.addi v967 arg21
  let v969 : Index := Scalar.indexCast v968
  let c928_287 : Index := 928#32
  ![v969.toNat, 928]
def k0_off1923 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v974 : Index := Scalar.indexCast arg21
  let c928_288 : Index := 928#32
  ![v974.toNat, 928]
def k0_off1924 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v978 : Index := Scalar.indexCast arg20
  let c944 : Index := 944#32
  ![v978.toNat, 944]
def k0_off1925 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_289 : BitVec 32 := 1#32
  let v981 : BitVec 32 := Scalar.addi arg20 c1_i32_289
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v982 : BitVec 32 := Scalar.addi v981 arg21
  let v983 : Index := Scalar.indexCast v982
  let c944_290 : Index := 944#32
  ![v983.toNat, 944]
def k0_off1926 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v988 : Index := Scalar.indexCast arg21
  let c944_291 : Index := 944#32
  ![v988.toNat, 944]
def k0_off1927 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v992 : Index := Scalar.indexCast arg20
  let c960 : Index := 960#32
  ![v992.toNat, 960]
def k0_off1928 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_292 : BitVec 32 := 1#32
  let v995 : BitVec 32 := Scalar.addi arg20 c1_i32_292
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v996 : BitVec 32 := Scalar.addi v995 arg21
  let v997 : Index := Scalar.indexCast v996
  let c960_293 : Index := 960#32
  ![v997.toNat, 960]
def k0_off1929 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v1002 : Index := Scalar.indexCast arg21
  let c960_294 : Index := 960#32
  ![v1002.toNat, 960]
def k0_off1930 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v1006 : Index := Scalar.indexCast arg20
  let c976 : Index := 976#32
  ![v1006.toNat, 976]
def k0_off1931 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_295 : BitVec 32 := 1#32
  let v1009 : BitVec 32 := Scalar.addi arg20 c1_i32_295
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v1010 : BitVec 32 := Scalar.addi v1009 arg21
  let v1011 : Index := Scalar.indexCast v1010
  let c976_296 : Index := 976#32
  ![v1011.toNat, 976]
def k0_off1932 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v1016 : Index := Scalar.indexCast arg21
  let c976_297 : Index := 976#32
  ![v1016.toNat, 976]
def k0_off1933 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v1020 : Index := Scalar.indexCast arg20
  let c992 : Index := 992#32
  ![v1020.toNat, 992]
def k0_off1934 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_298 : BitVec 32 := 1#32
  let v1023 : BitVec 32 := Scalar.addi arg20 c1_i32_298
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v1024 : BitVec 32 := Scalar.addi v1023 arg21
  let v1025 : Index := Scalar.indexCast v1024
  let c992_299 : Index := 992#32
  ![v1025.toNat, 992]
def k0_off1935 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v1030 : Index := Scalar.indexCast arg21
  let c992_300 : Index := 992#32
  ![v1030.toNat, 992]
def k0_off1936 (k0_t26 : Fin k0_t26_loop.trips) : Fin 2 → Nat :=
  let c0_i32_88 : BitVec 32 := 0#32
  let c1_i32_90 : BitVec 32 := 1#32
  let arg20 : BitVec 32 := Scf.iv c0_i32_88 c1_i32_90 k0_t26
  let v1034 : Index := Scalar.indexCast arg20
  let c1008 : Index := 1008#32
  ![v1034.toNat, 1008]
def k0_off1937 (k0_t26 : Fin k0_t26_loop.trips) (k0_t28 : Fin (k0_t28_loop k0_t26).trips) : Fin 2 → Nat :=
  let c0_i32_88 : BitVec 32 := 0#32
  let c1_i32_90 : BitVec 32 := 1#32
  let arg20 : BitVec 32 := Scf.iv c0_i32_88 c1_i32_90 k0_t26
  let c1_i32_301 : BitVec 32 := 1#32
  let v1037 : BitVec 32 := Scalar.addi arg20 c1_i32_301
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v1038 : BitVec 32 := Scalar.addi v1037 arg21
  let v1039 : Index := Scalar.indexCast v1038
  let c1008_302 : Index := 1008#32
  ![v1039.toNat, 1008]
def k0_off1938 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v1044 : Index := Scalar.indexCast arg21
  let c1008_303 : Index := 1008#32
  ![v1044.toNat, 1008]
def k0_off1939 (k0_t26 : Fin k0_t26_loop.trips) (k0_t28 : Fin (k0_t28_loop k0_t26).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let c0_i32_304 : BitVec 32 := 0#32
  ![arg21.toNat, 0]
def k0_off1940 (i : grid0.Coords) (k0_t26 : Fin k0_t26_loop.trips) (k0_t28 : Fin (k0_t28_loop k0_t26).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c1_i32_86 : BitVec 32 := 1#32
  let v116 : BitVec 32 := Scalar.addi v42 c1_i32_86
  let c16_i32_93 : BitVec 32 := 16#32
  let v119 : BitVec 32 := Scalar.muli v116 c16_i32_93
  let c0_i32_88 : BitVec 32 := 0#32
  let c1_i32_90 : BitVec 32 := 1#32
  let arg20 : BitVec 32 := Scf.iv c0_i32_88 c1_i32_90 k0_t26
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t28
  let v1048 : BitVec 32 := Scalar.addi v141 arg21
  let c0_i32_305 : BitVec 32 := 0#32
  ![v1048.toNat, 0]
@[reducible] def k0_t29_loop (k0_t26 : Fin k0_t26_loop.trips) : Scf.Loop 32 :=
  let c0_i32_108 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let c1_i32_110 : BitVec 32 := 1#32
  ⟨c0_i32_108, v151, c1_i32_110⟩
@[reducible] def k0_t30_loop (k0_t26 : Fin k0_t26_loop.trips) : Scf.Loop 32 :=
  let c0_i32_108 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t26
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let v148 : BitVec 32 := Scalar.addi c0_i32_108 v147
  let c1_i32_111 : BitVec 32 := 1#32
  ⟨v151, v148, c1_i32_111⟩
def k0_cond9 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32_64 : BitVec 32 := 28#32
  let v98 : BitVec 1 := Scalar.cmpi .slt v1 c28_i32_64
  let v99 : BitVec 32 := Scalar.extui v98
  let c0_i32_65 : BitVec 32 := 0#32
  let v100 : BitVec 1 := Scalar.cmpi .ne v99 c0_i32_65
  v100

@[reducible] def k0_t31_loop : Scf.Loop 32 :=
  let c0_i32_81 : BitVec 32 := 0#32
  let c8_i32 : BitVec 32 := 8#32
  let v114 : BitVec 32 := Scalar.addi c0_i32_81 c8_i32
  let c1_i32_82 : BitVec 32 := 1#32
  ⟨c0_i32_81, v114, c1_i32_82⟩
def k0_off1941 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v125 : Index := Scalar.indexCast v121
  let c0 : Index := 0#32
  ![v125.toNat, 0]
def k0_off1942 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v128 : Index := Scalar.indexCast v121
  let c16 : Index := 16#32
  ![v128.toNat, 16]
def k0_off1943 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v131 : Index := Scalar.indexCast v121
  let c32 : Index := 32#32
  ![v131.toNat, 32]
def k0_off1944 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v134 : Index := Scalar.indexCast v121
  let c48 : Index := 48#32
  ![v134.toNat, 48]
def k0_off1945 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v137 : Index := Scalar.indexCast v121
  let c64 : Index := 64#32
  ![v137.toNat, 64]
def k0_off1946 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v140 : Index := Scalar.indexCast v121
  let c80 : Index := 80#32
  ![v140.toNat, 80]
def k0_off1947 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v143 : Index := Scalar.indexCast v121
  let c96 : Index := 96#32
  ![v143.toNat, 96]
def k0_off1948 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v146 : Index := Scalar.indexCast v121
  let c112 : Index := 112#32
  ![v146.toNat, 112]
def k0_off1949 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v149 : Index := Scalar.indexCast v121
  let c128 : Index := 128#32
  ![v149.toNat, 128]
def k0_off1950 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v152 : Index := Scalar.indexCast v121
  let c144 : Index := 144#32
  ![v152.toNat, 144]
def k0_off1951 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v155 : Index := Scalar.indexCast v121
  let c160 : Index := 160#32
  ![v155.toNat, 160]
def k0_off1952 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v158 : Index := Scalar.indexCast v121
  let c176 : Index := 176#32
  ![v158.toNat, 176]
def k0_off1953 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v161 : Index := Scalar.indexCast v121
  let c192 : Index := 192#32
  ![v161.toNat, 192]
def k0_off1954 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v164 : Index := Scalar.indexCast v121
  let c208 : Index := 208#32
  ![v164.toNat, 208]
def k0_off1955 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v167 : Index := Scalar.indexCast v121
  let c224 : Index := 224#32
  ![v167.toNat, 224]
def k0_off1956 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v170 : Index := Scalar.indexCast v121
  let c240 : Index := 240#32
  ![v170.toNat, 240]
def k0_off1957 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v173 : Index := Scalar.indexCast v121
  let c256 : Index := 256#32
  ![v173.toNat, 256]
def k0_off1958 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v176 : Index := Scalar.indexCast v121
  let c272 : Index := 272#32
  ![v176.toNat, 272]
def k0_off1959 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v179 : Index := Scalar.indexCast v121
  let c288 : Index := 288#32
  ![v179.toNat, 288]
def k0_off1960 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v182 : Index := Scalar.indexCast v121
  let c304 : Index := 304#32
  ![v182.toNat, 304]
def k0_off1961 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v185 : Index := Scalar.indexCast v121
  let c320 : Index := 320#32
  ![v185.toNat, 320]
def k0_off1962 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v188 : Index := Scalar.indexCast v121
  let c336 : Index := 336#32
  ![v188.toNat, 336]
def k0_off1963 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v191 : Index := Scalar.indexCast v121
  let c352 : Index := 352#32
  ![v191.toNat, 352]
def k0_off1964 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v194 : Index := Scalar.indexCast v121
  let c368 : Index := 368#32
  ![v194.toNat, 368]
def k0_off1965 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v197 : Index := Scalar.indexCast v121
  let c384 : Index := 384#32
  ![v197.toNat, 384]
def k0_off1966 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v200 : Index := Scalar.indexCast v121
  let c400 : Index := 400#32
  ![v200.toNat, 400]
def k0_off1967 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v203 : Index := Scalar.indexCast v121
  let c416 : Index := 416#32
  ![v203.toNat, 416]
def k0_off1968 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v206 : Index := Scalar.indexCast v121
  let c432 : Index := 432#32
  ![v206.toNat, 432]
def k0_off1969 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v209 : Index := Scalar.indexCast v121
  let c448 : Index := 448#32
  ![v209.toNat, 448]
def k0_off1970 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v212 : Index := Scalar.indexCast v121
  let c464 : Index := 464#32
  ![v212.toNat, 464]
def k0_off1971 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v215 : Index := Scalar.indexCast v121
  let c480 : Index := 480#32
  ![v215.toNat, 480]
def k0_off1972 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v218 : Index := Scalar.indexCast v121
  let c496 : Index := 496#32
  ![v218.toNat, 496]
@[reducible] def k0_t32_loop : Scf.Loop 32 :=
  let c0_i32_97 : BitVec 32 := 0#32
  let c16_i32_98 : BitVec 32 := 16#32
  let v221 : BitVec 32 := Scalar.addi c0_i32_97 c16_i32_98
  let c1_i32_99 : BitVec 32 := 1#32
  ⟨c0_i32_97, v221, c1_i32_99⟩
def k0_off1973 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v576 : Index := Scalar.indexCast arg22
  let c0_212 : Index := 0#32
  ![v576.toNat, 0]
def k0_off1974 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v585 : Index := Scalar.indexCast arg22
  let c16_214 : Index := 16#32
  ![v585.toNat, 16]
def k0_off1975 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v594 : Index := Scalar.indexCast arg22
  let c32_216 : Index := 32#32
  ![v594.toNat, 32]
def k0_off1976 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v603 : Index := Scalar.indexCast arg22
  let c48_218 : Index := 48#32
  ![v603.toNat, 48]
def k0_off1977 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v612 : Index := Scalar.indexCast arg22
  let c64_220 : Index := 64#32
  ![v612.toNat, 64]
def k0_off1978 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v621 : Index := Scalar.indexCast arg22
  let c80_222 : Index := 80#32
  ![v621.toNat, 80]
def k0_off1979 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v630 : Index := Scalar.indexCast arg22
  let c96_224 : Index := 96#32
  ![v630.toNat, 96]
def k0_off1980 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v639 : Index := Scalar.indexCast arg22
  let c112_226 : Index := 112#32
  ![v639.toNat, 112]
def k0_off1981 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v648 : Index := Scalar.indexCast arg22
  let c128_228 : Index := 128#32
  ![v648.toNat, 128]
def k0_off1982 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v657 : Index := Scalar.indexCast arg22
  let c144_230 : Index := 144#32
  ![v657.toNat, 144]
def k0_off1983 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v666 : Index := Scalar.indexCast arg22
  let c160_232 : Index := 160#32
  ![v666.toNat, 160]
def k0_off1984 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v675 : Index := Scalar.indexCast arg22
  let c176_234 : Index := 176#32
  ![v675.toNat, 176]
def k0_off1985 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v684 : Index := Scalar.indexCast arg22
  let c192_236 : Index := 192#32
  ![v684.toNat, 192]
def k0_off1986 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v693 : Index := Scalar.indexCast arg22
  let c208_238 : Index := 208#32
  ![v693.toNat, 208]
def k0_off1987 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v702 : Index := Scalar.indexCast arg22
  let c224_240 : Index := 224#32
  ![v702.toNat, 224]
def k0_off1988 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v711 : Index := Scalar.indexCast arg22
  let c240_242 : Index := 240#32
  ![v711.toNat, 240]
def k0_off1989 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v720 : Index := Scalar.indexCast arg22
  let c256_244 : Index := 256#32
  ![v720.toNat, 256]
def k0_off1990 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v729 : Index := Scalar.indexCast arg22
  let c272_246 : Index := 272#32
  ![v729.toNat, 272]
def k0_off1991 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v738 : Index := Scalar.indexCast arg22
  let c288_248 : Index := 288#32
  ![v738.toNat, 288]
def k0_off1992 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v747 : Index := Scalar.indexCast arg22
  let c304_250 : Index := 304#32
  ![v747.toNat, 304]
def k0_off1993 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v756 : Index := Scalar.indexCast arg22
  let c320_252 : Index := 320#32
  ![v756.toNat, 320]
def k0_off1994 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v765 : Index := Scalar.indexCast arg22
  let c336_254 : Index := 336#32
  ![v765.toNat, 336]
def k0_off1995 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v774 : Index := Scalar.indexCast arg22
  let c352_256 : Index := 352#32
  ![v774.toNat, 352]
def k0_off1996 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v783 : Index := Scalar.indexCast arg22
  let c368_258 : Index := 368#32
  ![v783.toNat, 368]
def k0_off1997 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v792 : Index := Scalar.indexCast arg22
  let c384_260 : Index := 384#32
  ![v792.toNat, 384]
def k0_off1998 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v801 : Index := Scalar.indexCast arg22
  let c400_262 : Index := 400#32
  ![v801.toNat, 400]
def k0_off1999 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v810 : Index := Scalar.indexCast arg22
  let c416_264 : Index := 416#32
  ![v810.toNat, 416]
def k0_off2000 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v819 : Index := Scalar.indexCast arg22
  let c432_266 : Index := 432#32
  ![v819.toNat, 432]
def k0_off2001 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v828 : Index := Scalar.indexCast arg22
  let c448_268 : Index := 448#32
  ![v828.toNat, 448]
def k0_off2002 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v837 : Index := Scalar.indexCast arg22
  let c464_270 : Index := 464#32
  ![v837.toNat, 464]
def k0_off2003 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v846 : Index := Scalar.indexCast arg22
  let c480_272 : Index := 480#32
  ![v846.toNat, 480]
def k0_off2004 (k0_t32 : Fin k0_t32_loop.trips) : Fin 2 → Nat :=
  let c0_i32_97 : BitVec 32 := 0#32
  let c1_i32_99 : BitVec 32 := 1#32
  let arg22 : BitVec 32 := Scf.iv c0_i32_97 c1_i32_99 k0_t32
  let v855 : Index := Scalar.indexCast arg22
  let c496_274 : Index := 496#32
  ![v855.toNat, 496]
def k0_off2005 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v222 : Index := Scalar.indexCast v121
  let c512 : Index := 512#32
  ![v222.toNat, 512]
def k0_off2006 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v225 : Index := Scalar.indexCast v121
  let c528 : Index := 528#32
  ![v225.toNat, 528]
def k0_off2007 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v228 : Index := Scalar.indexCast v121
  let c544 : Index := 544#32
  ![v228.toNat, 544]
def k0_off2008 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v231 : Index := Scalar.indexCast v121
  let c560 : Index := 560#32
  ![v231.toNat, 560]
def k0_off2009 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v234 : Index := Scalar.indexCast v121
  let c576 : Index := 576#32
  ![v234.toNat, 576]
def k0_off2010 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v237 : Index := Scalar.indexCast v121
  let c592 : Index := 592#32
  ![v237.toNat, 592]
def k0_off2011 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v240 : Index := Scalar.indexCast v121
  let c608 : Index := 608#32
  ![v240.toNat, 608]
def k0_off2012 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v243 : Index := Scalar.indexCast v121
  let c624 : Index := 624#32
  ![v243.toNat, 624]
def k0_off2013 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v246 : Index := Scalar.indexCast v121
  let c640 : Index := 640#32
  ![v246.toNat, 640]
def k0_off2014 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v249 : Index := Scalar.indexCast v121
  let c656 : Index := 656#32
  ![v249.toNat, 656]
def k0_off2015 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v252 : Index := Scalar.indexCast v121
  let c672 : Index := 672#32
  ![v252.toNat, 672]
def k0_off2016 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v255 : Index := Scalar.indexCast v121
  let c688 : Index := 688#32
  ![v255.toNat, 688]
def k0_off2017 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v258 : Index := Scalar.indexCast v121
  let c704 : Index := 704#32
  ![v258.toNat, 704]
def k0_off2018 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v261 : Index := Scalar.indexCast v121
  let c720 : Index := 720#32
  ![v261.toNat, 720]
def k0_off2019 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v264 : Index := Scalar.indexCast v121
  let c736 : Index := 736#32
  ![v264.toNat, 736]
def k0_off2020 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v267 : Index := Scalar.indexCast v121
  let c752 : Index := 752#32
  ![v267.toNat, 752]
def k0_off2021 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v270 : Index := Scalar.indexCast v121
  let c768 : Index := 768#32
  ![v270.toNat, 768]
def k0_off2022 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v273 : Index := Scalar.indexCast v121
  let c784 : Index := 784#32
  ![v273.toNat, 784]
def k0_off2023 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v276 : Index := Scalar.indexCast v121
  let c800 : Index := 800#32
  ![v276.toNat, 800]
def k0_off2024 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v279 : Index := Scalar.indexCast v121
  let c816 : Index := 816#32
  ![v279.toNat, 816]
def k0_off2025 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v282 : Index := Scalar.indexCast v121
  let c832 : Index := 832#32
  ![v282.toNat, 832]
def k0_off2026 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v285 : Index := Scalar.indexCast v121
  let c848 : Index := 848#32
  ![v285.toNat, 848]
def k0_off2027 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v288 : Index := Scalar.indexCast v121
  let c864 : Index := 864#32
  ![v288.toNat, 864]
def k0_off2028 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v291 : Index := Scalar.indexCast v121
  let c880 : Index := 880#32
  ![v291.toNat, 880]
def k0_off2029 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v294 : Index := Scalar.indexCast v121
  let c896 : Index := 896#32
  ![v294.toNat, 896]
def k0_off2030 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v297 : Index := Scalar.indexCast v121
  let c912 : Index := 912#32
  ![v297.toNat, 912]
def k0_off2031 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v300 : Index := Scalar.indexCast v121
  let c928 : Index := 928#32
  ![v300.toNat, 928]
def k0_off2032 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v303 : Index := Scalar.indexCast v121
  let c944 : Index := 944#32
  ![v303.toNat, 944]
def k0_off2033 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v306 : Index := Scalar.indexCast v121
  let c960 : Index := 960#32
  ![v306.toNat, 960]
def k0_off2034 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v309 : Index := Scalar.indexCast v121
  let c976 : Index := 976#32
  ![v309.toNat, 976]
def k0_off2035 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v312 : Index := Scalar.indexCast v121
  let c992 : Index := 992#32
  ![v312.toNat, 992]
def k0_off2036 (k0_t31 : Fin k0_t31_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v315 : Index := Scalar.indexCast v121
  let c1008 : Index := 1008#32
  ![v315.toNat, 1008]
@[reducible] def k0_t33_loop : Scf.Loop 32 :=
  let c0_i32_102 : BitVec 32 := 0#32
  let c16_i32_103 : BitVec 32 := 16#32
  let v318 : BitVec 32 := Scalar.addi c0_i32_102 c16_i32_103
  let c1_i32_104 : BitVec 32 := 1#32
  ⟨c0_i32_102, v318, c1_i32_104⟩
def k0_off2037 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v576 : Index := Scalar.indexCast arg22
  let c512_212 : Index := 512#32
  ![v576.toNat, 512]
def k0_off2038 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v585 : Index := Scalar.indexCast arg22
  let c528_214 : Index := 528#32
  ![v585.toNat, 528]
def k0_off2039 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v594 : Index := Scalar.indexCast arg22
  let c544_216 : Index := 544#32
  ![v594.toNat, 544]
def k0_off2040 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v603 : Index := Scalar.indexCast arg22
  let c560_218 : Index := 560#32
  ![v603.toNat, 560]
def k0_off2041 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v612 : Index := Scalar.indexCast arg22
  let c576_220 : Index := 576#32
  ![v612.toNat, 576]
def k0_off2042 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v621 : Index := Scalar.indexCast arg22
  let c592_222 : Index := 592#32
  ![v621.toNat, 592]
def k0_off2043 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v630 : Index := Scalar.indexCast arg22
  let c608_224 : Index := 608#32
  ![v630.toNat, 608]
def k0_off2044 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v639 : Index := Scalar.indexCast arg22
  let c624_226 : Index := 624#32
  ![v639.toNat, 624]
def k0_off2045 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v648 : Index := Scalar.indexCast arg22
  let c640_228 : Index := 640#32
  ![v648.toNat, 640]
def k0_off2046 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v657 : Index := Scalar.indexCast arg22
  let c656_230 : Index := 656#32
  ![v657.toNat, 656]
def k0_off2047 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v666 : Index := Scalar.indexCast arg22
  let c672_232 : Index := 672#32
  ![v666.toNat, 672]
def k0_off2048 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v675 : Index := Scalar.indexCast arg22
  let c688_234 : Index := 688#32
  ![v675.toNat, 688]
def k0_off2049 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v684 : Index := Scalar.indexCast arg22
  let c704_236 : Index := 704#32
  ![v684.toNat, 704]
def k0_off2050 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v693 : Index := Scalar.indexCast arg22
  let c720_238 : Index := 720#32
  ![v693.toNat, 720]
def k0_off2051 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v702 : Index := Scalar.indexCast arg22
  let c736_240 : Index := 736#32
  ![v702.toNat, 736]
def k0_off2052 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v711 : Index := Scalar.indexCast arg22
  let c752_242 : Index := 752#32
  ![v711.toNat, 752]
def k0_off2053 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v720 : Index := Scalar.indexCast arg22
  let c768_244 : Index := 768#32
  ![v720.toNat, 768]
def k0_off2054 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v729 : Index := Scalar.indexCast arg22
  let c784_246 : Index := 784#32
  ![v729.toNat, 784]
def k0_off2055 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v738 : Index := Scalar.indexCast arg22
  let c800_248 : Index := 800#32
  ![v738.toNat, 800]
def k0_off2056 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v747 : Index := Scalar.indexCast arg22
  let c816_250 : Index := 816#32
  ![v747.toNat, 816]
def k0_off2057 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v756 : Index := Scalar.indexCast arg22
  let c832_252 : Index := 832#32
  ![v756.toNat, 832]
def k0_off2058 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v765 : Index := Scalar.indexCast arg22
  let c848_254 : Index := 848#32
  ![v765.toNat, 848]
def k0_off2059 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v774 : Index := Scalar.indexCast arg22
  let c864_256 : Index := 864#32
  ![v774.toNat, 864]
def k0_off2060 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v783 : Index := Scalar.indexCast arg22
  let c880_258 : Index := 880#32
  ![v783.toNat, 880]
def k0_off2061 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v792 : Index := Scalar.indexCast arg22
  let c896_260 : Index := 896#32
  ![v792.toNat, 896]
def k0_off2062 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v801 : Index := Scalar.indexCast arg22
  let c912_262 : Index := 912#32
  ![v801.toNat, 912]
def k0_off2063 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v810 : Index := Scalar.indexCast arg22
  let c928_264 : Index := 928#32
  ![v810.toNat, 928]
def k0_off2064 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v819 : Index := Scalar.indexCast arg22
  let c944_266 : Index := 944#32
  ![v819.toNat, 944]
def k0_off2065 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v828 : Index := Scalar.indexCast arg22
  let c960_268 : Index := 960#32
  ![v828.toNat, 960]
def k0_off2066 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v837 : Index := Scalar.indexCast arg22
  let c976_270 : Index := 976#32
  ![v837.toNat, 976]
def k0_off2067 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v846 : Index := Scalar.indexCast arg22
  let c992_272 : Index := 992#32
  ![v846.toNat, 992]
def k0_off2068 (k0_t33 : Fin k0_t33_loop.trips) : Fin 2 → Nat :=
  let c0_i32_102 : BitVec 32 := 0#32
  let c1_i32_104 : BitVec 32 := 1#32
  let arg22 : BitVec 32 := Scf.iv c0_i32_102 c1_i32_104 k0_t33
  let v855 : Index := Scalar.indexCast arg22
  let c1008_274 : Index := 1008#32
  ![v855.toNat, 1008]
def k0_off2069 (i : grid0.Coords) (k0_t31 : Fin k0_t31_loop.trips) (c0_i32_93 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32 : BitVec 32 := 7#32
  let v2 : BitVec 1 := Scalar.cmpi .sge v1 c7_i32
  let v3 : BitVec 32 := Scalar.extui v2
  let c13_i32 : BitVec 32 := 13#32
  let v4 : BitVec 1 := Scalar.cmpi .sge v1 c13_i32
  let v5 : BitVec 32 := Scalar.extui v4
  let v6 : BitVec 32 := Scalar.addi v3 v5
  let c18_i32 : BitVec 32 := 18#32
  let v7 : BitVec 1 := Scalar.cmpi .sge v1 c18_i32
  let v8 : BitVec 32 := Scalar.extui v7
  let v9 : BitVec 32 := Scalar.addi v6 v8
  let c22_i32 : BitVec 32 := 22#32
  let v10 : BitVec 1 := Scalar.cmpi .sge v1 c22_i32
  let v11 : BitVec 32 := Scalar.extui v10
  let v12 : BitVec 32 := Scalar.addi v9 v11
  let c25_i32 : BitVec 32 := 25#32
  let v13 : BitVec 1 := Scalar.cmpi .sge v1 c25_i32
  let v14 : BitVec 32 := Scalar.extui v13
  let v15 : BitVec 32 := Scalar.addi v12 v14
  let c27_i32 : BitVec 32 := 27#32
  let v16 : BitVec 1 := Scalar.cmpi .sge v1 c27_i32
  let v17 : BitVec 32 := Scalar.extui v16
  let v18 : BitVec 32 := Scalar.addi v15 v17
  let c16_i32_106 : BitVec 32 := 16#32
  let v319 : BitVec 32 := Scalar.muli v18 c16_i32_106
  let c2_i32_92 : BitVec 32 := 2#32
  let c0_i32_81 : BitVec 32 := 0#32
  let c1_i32_82 : BitVec 32 := 1#32
  let arg20 : BitVec 32 := Scf.iv c0_i32_81 c1_i32_82 k0_t31
  let v120 : BitVec 32 := Scalar.muli c2_i32_92 arg20
  let v121 : BitVec 32 := Scalar.addi v120 c0_i32_93
  let v320 : BitVec 32 := Scalar.addi v319 v121
  let c127_i32 : BitVec 32 := 127#32
  let v321 : BitVec 32 := Scalar.muli v320 c127_i32
  let c1_i32_107 : BitVec 32 := 1#32
  let v322 : BitVec 32 := Scalar.subi v320 c1_i32_107
  let v323 : BitVec 32 := Scalar.muli v320 v322
  let c0_i32_109 : BitVec 32 := 0#32
  let v325 : BitVec 1 := Scalar.cmpi .sgt v323 c0_i32_109
  let v326 : BitVec 32 := Scalar.extui v325
  let c0_i32_110 : BitVec 32 := 0#32
  let v327 : BitVec 1 := Scalar.cmpi .slt v323 c0_i32_110
  let v328 : BitVec 32 := Scalar.extui v327
  let v329 : BitVec 32 := Scalar.subi v326 v328
  let c2_i32_108 : BitVec 32 := 2#32
  let c0_i32_111 : BitVec 32 := 0#32
  let v330 : BitVec 1 := Scalar.cmpi .sgt c2_i32_108 c0_i32_111
  let v331 : BitVec 32 := Scalar.extui v330
  let c0_i32_112 : BitVec 32 := 0#32
  let v332 : BitVec 1 := Scalar.cmpi .slt c2_i32_108 c0_i32_112
  let v333 : BitVec 32 := Scalar.extui v332
  let v334 : BitVec 32 := Scalar.subi v331 v333
  let v335 : BitVec 1 := Scalar.cmpi .ne v329 v334
  let v336 : BitVec 32 := Scalar.remsi v323 c2_i32_108
  let c0_i32_113 : BitVec 32 := 0#32
  let v337 : BitVec 1 := Scalar.cmpi .ne v336 c0_i32_113
  let v338 : BitVec 1 := Scalar.andi v335 v337
  let v324 : BitVec 32 := Scalar.divsi v323 c2_i32_108
  let c1_i32_114 : BitVec 32 := 1#32
  let v339 : BitVec 32 := Scalar.subi v324 c1_i32_114
  let v340 : BitVec 32 := Scalar.select v338 v339 v324
  let v341 : BitVec 32 := Scalar.subi v321 v340
  let c15_i32 : BitVec 32 := 15#32
  let v19 : BitVec 32 := Scalar.subi c15_i32 v18
  let v20 : BitVec 32 := Scalar.muli v18 v19
  let c0_i32 : BitVec 32 := 0#32
  let v22 : BitVec 1 := Scalar.cmpi .sgt v20 c0_i32
  let v23 : BitVec 32 := Scalar.extui v22
  let c0_i32_1 : BitVec 32 := 0#32
  let v24 : BitVec 1 := Scalar.cmpi .slt v20 c0_i32_1
  let v25 : BitVec 32 := Scalar.extui v24
  let v26 : BitVec 32 := Scalar.subi v23 v25
  let c2_i32_0 : BitVec 32 := 2#32
  let c0_i32_2 : BitVec 32 := 0#32
  let v27 : BitVec 1 := Scalar.cmpi .sgt c2_i32_0 c0_i32_2
  let v28 : BitVec 32 := Scalar.extui v27
  let c0_i32_3 : BitVec 32 := 0#32
  let v29 : BitVec 1 := Scalar.cmpi .slt c2_i32_0 c0_i32_3
  let v30 : BitVec 32 := Scalar.extui v29
  let v31 : BitVec 32 := Scalar.subi v28 v30
  let v32 : BitVec 1 := Scalar.cmpi .ne v26 v31
  let v33 : BitVec 32 := Scalar.remsi v20 c2_i32_0
  let c0_i32_4 : BitVec 32 := 0#32
  let v34 : BitVec 1 := Scalar.cmpi .ne v33 c0_i32_4
  let v35 : BitVec 1 := Scalar.andi v32 v34
  let v21 : BitVec 32 := Scalar.divsi v20 c2_i32_0
  let c1_i32 : BitVec 32 := 1#32
  let v36 : BitVec 32 := Scalar.subi v21 c1_i32
  let v37 : BitVec 32 := Scalar.select v35 v36 v21
  let v38 : BitVec 32 := Scalar.subi v1 v37
  let v39 : BitVec 32 := Scalar.addi v38 v18
  let c1_i32_5 : BitVec 32 := 1#32
  let v40 : BitVec 32 := Scalar.addi v39 c1_i32_5
  let c16_i32_115 : BitVec 32 := 16#32
  let v342 : BitVec 32 := Scalar.muli v40 c16_i32_115
  let v343 : BitVec 32 := Scalar.addi v341 v342
  let v344 : BitVec 32 := Scalar.subi v343 v320
  let c1_i32_116 : BitVec 32 := 1#32
  let v345 : BitVec 32 := Scalar.subi v344 c1_i32_116
  let c0_i32_117 : BitVec 32 := 0#32
  ![v345.toNat, 0]
@[reducible] def k0_t34_loop : Scf.Loop 32 :=
  let c0_i32_156 : BitVec 32 := 0#32
  let c16_i32_157 : BitVec 32 := 16#32
  let v449 : BitVec 32 := Scalar.addi c0_i32_156 c16_i32_157
  let c1_i32_158 : BitVec 32 := 1#32
  ⟨c0_i32_156, v449, c1_i32_158⟩
def k0_off2070 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v576 : Index := Scalar.indexCast arg22
  let c0_212 : Index := 0#32
  ![v576.toNat, 0]
def k0_off2071 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v585 : Index := Scalar.indexCast arg22
  let c16_214 : Index := 16#32
  ![v585.toNat, 16]
def k0_off2072 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v594 : Index := Scalar.indexCast arg22
  let c32_216 : Index := 32#32
  ![v594.toNat, 32]
def k0_off2073 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v603 : Index := Scalar.indexCast arg22
  let c48_218 : Index := 48#32
  ![v603.toNat, 48]
def k0_off2074 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v612 : Index := Scalar.indexCast arg22
  let c64_220 : Index := 64#32
  ![v612.toNat, 64]
def k0_off2075 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v621 : Index := Scalar.indexCast arg22
  let c80_222 : Index := 80#32
  ![v621.toNat, 80]
def k0_off2076 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v630 : Index := Scalar.indexCast arg22
  let c96_224 : Index := 96#32
  ![v630.toNat, 96]
def k0_off2077 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v639 : Index := Scalar.indexCast arg22
  let c112_226 : Index := 112#32
  ![v639.toNat, 112]
def k0_off2078 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v648 : Index := Scalar.indexCast arg22
  let c128_228 : Index := 128#32
  ![v648.toNat, 128]
def k0_off2079 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v657 : Index := Scalar.indexCast arg22
  let c144_230 : Index := 144#32
  ![v657.toNat, 144]
def k0_off2080 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v666 : Index := Scalar.indexCast arg22
  let c160_232 : Index := 160#32
  ![v666.toNat, 160]
def k0_off2081 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v675 : Index := Scalar.indexCast arg22
  let c176_234 : Index := 176#32
  ![v675.toNat, 176]
def k0_off2082 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v684 : Index := Scalar.indexCast arg22
  let c192_236 : Index := 192#32
  ![v684.toNat, 192]
def k0_off2083 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v693 : Index := Scalar.indexCast arg22
  let c208_238 : Index := 208#32
  ![v693.toNat, 208]
def k0_off2084 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v702 : Index := Scalar.indexCast arg22
  let c224_240 : Index := 224#32
  ![v702.toNat, 224]
def k0_off2085 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v711 : Index := Scalar.indexCast arg22
  let c240_242 : Index := 240#32
  ![v711.toNat, 240]
def k0_off2086 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v720 : Index := Scalar.indexCast arg22
  let c256_244 : Index := 256#32
  ![v720.toNat, 256]
def k0_off2087 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v729 : Index := Scalar.indexCast arg22
  let c272_246 : Index := 272#32
  ![v729.toNat, 272]
def k0_off2088 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v738 : Index := Scalar.indexCast arg22
  let c288_248 : Index := 288#32
  ![v738.toNat, 288]
def k0_off2089 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v747 : Index := Scalar.indexCast arg22
  let c304_250 : Index := 304#32
  ![v747.toNat, 304]
def k0_off2090 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v756 : Index := Scalar.indexCast arg22
  let c320_252 : Index := 320#32
  ![v756.toNat, 320]
def k0_off2091 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v765 : Index := Scalar.indexCast arg22
  let c336_254 : Index := 336#32
  ![v765.toNat, 336]
def k0_off2092 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v774 : Index := Scalar.indexCast arg22
  let c352_256 : Index := 352#32
  ![v774.toNat, 352]
def k0_off2093 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v783 : Index := Scalar.indexCast arg22
  let c368_258 : Index := 368#32
  ![v783.toNat, 368]
def k0_off2094 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v792 : Index := Scalar.indexCast arg22
  let c384_260 : Index := 384#32
  ![v792.toNat, 384]
def k0_off2095 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v801 : Index := Scalar.indexCast arg22
  let c400_262 : Index := 400#32
  ![v801.toNat, 400]
def k0_off2096 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v810 : Index := Scalar.indexCast arg22
  let c416_264 : Index := 416#32
  ![v810.toNat, 416]
def k0_off2097 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v819 : Index := Scalar.indexCast arg22
  let c432_266 : Index := 432#32
  ![v819.toNat, 432]
def k0_off2098 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v828 : Index := Scalar.indexCast arg22
  let c448_268 : Index := 448#32
  ![v828.toNat, 448]
def k0_off2099 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v837 : Index := Scalar.indexCast arg22
  let c464_270 : Index := 464#32
  ![v837.toNat, 464]
def k0_off2100 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v846 : Index := Scalar.indexCast arg22
  let c480_272 : Index := 480#32
  ![v846.toNat, 480]
def k0_off2101 (k0_t34 : Fin k0_t34_loop.trips) : Fin 2 → Nat :=
  let c0_i32_156 : BitVec 32 := 0#32
  let c1_i32_158 : BitVec 32 := 1#32
  let arg22 : BitVec 32 := Scf.iv c0_i32_156 c1_i32_158 k0_t34
  let v855 : Index := Scalar.indexCast arg22
  let c496_274 : Index := 496#32
  ![v855.toNat, 496]
@[reducible] def k0_t35_loop : Scf.Loop 32 :=
  let c0_i32_193 : BitVec 32 := 0#32
  let c16_i32_194 : BitVec 32 := 16#32
  let v546 : BitVec 32 := Scalar.addi c0_i32_193 c16_i32_194
  let c1_i32_195 : BitVec 32 := 1#32
  ⟨c0_i32_193, v546, c1_i32_195⟩
def k0_off2102 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v576 : Index := Scalar.indexCast arg22
  let c512_212 : Index := 512#32
  ![v576.toNat, 512]
def k0_off2103 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v585 : Index := Scalar.indexCast arg22
  let c528_214 : Index := 528#32
  ![v585.toNat, 528]
def k0_off2104 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v594 : Index := Scalar.indexCast arg22
  let c544_216 : Index := 544#32
  ![v594.toNat, 544]
def k0_off2105 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v603 : Index := Scalar.indexCast arg22
  let c560_218 : Index := 560#32
  ![v603.toNat, 560]
def k0_off2106 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v612 : Index := Scalar.indexCast arg22
  let c576_220 : Index := 576#32
  ![v612.toNat, 576]
def k0_off2107 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v621 : Index := Scalar.indexCast arg22
  let c592_222 : Index := 592#32
  ![v621.toNat, 592]
def k0_off2108 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v630 : Index := Scalar.indexCast arg22
  let c608_224 : Index := 608#32
  ![v630.toNat, 608]
def k0_off2109 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v639 : Index := Scalar.indexCast arg22
  let c624_226 : Index := 624#32
  ![v639.toNat, 624]
def k0_off2110 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v648 : Index := Scalar.indexCast arg22
  let c640_228 : Index := 640#32
  ![v648.toNat, 640]
def k0_off2111 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v657 : Index := Scalar.indexCast arg22
  let c656_230 : Index := 656#32
  ![v657.toNat, 656]
def k0_off2112 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v666 : Index := Scalar.indexCast arg22
  let c672_232 : Index := 672#32
  ![v666.toNat, 672]
def k0_off2113 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v675 : Index := Scalar.indexCast arg22
  let c688_234 : Index := 688#32
  ![v675.toNat, 688]
def k0_off2114 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v684 : Index := Scalar.indexCast arg22
  let c704_236 : Index := 704#32
  ![v684.toNat, 704]
def k0_off2115 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v693 : Index := Scalar.indexCast arg22
  let c720_238 : Index := 720#32
  ![v693.toNat, 720]
def k0_off2116 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v702 : Index := Scalar.indexCast arg22
  let c736_240 : Index := 736#32
  ![v702.toNat, 736]
def k0_off2117 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v711 : Index := Scalar.indexCast arg22
  let c752_242 : Index := 752#32
  ![v711.toNat, 752]
def k0_off2118 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v720 : Index := Scalar.indexCast arg22
  let c768_244 : Index := 768#32
  ![v720.toNat, 768]
def k0_off2119 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v729 : Index := Scalar.indexCast arg22
  let c784_246 : Index := 784#32
  ![v729.toNat, 784]
def k0_off2120 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v738 : Index := Scalar.indexCast arg22
  let c800_248 : Index := 800#32
  ![v738.toNat, 800]
def k0_off2121 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v747 : Index := Scalar.indexCast arg22
  let c816_250 : Index := 816#32
  ![v747.toNat, 816]
def k0_off2122 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v756 : Index := Scalar.indexCast arg22
  let c832_252 : Index := 832#32
  ![v756.toNat, 832]
def k0_off2123 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v765 : Index := Scalar.indexCast arg22
  let c848_254 : Index := 848#32
  ![v765.toNat, 848]
def k0_off2124 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v774 : Index := Scalar.indexCast arg22
  let c864_256 : Index := 864#32
  ![v774.toNat, 864]
def k0_off2125 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v783 : Index := Scalar.indexCast arg22
  let c880_258 : Index := 880#32
  ![v783.toNat, 880]
def k0_off2126 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v792 : Index := Scalar.indexCast arg22
  let c896_260 : Index := 896#32
  ![v792.toNat, 896]
def k0_off2127 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v801 : Index := Scalar.indexCast arg22
  let c912_262 : Index := 912#32
  ![v801.toNat, 912]
def k0_off2128 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v810 : Index := Scalar.indexCast arg22
  let c928_264 : Index := 928#32
  ![v810.toNat, 928]
def k0_off2129 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v819 : Index := Scalar.indexCast arg22
  let c944_266 : Index := 944#32
  ![v819.toNat, 944]
def k0_off2130 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v828 : Index := Scalar.indexCast arg22
  let c960_268 : Index := 960#32
  ![v828.toNat, 960]
def k0_off2131 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v837 : Index := Scalar.indexCast arg22
  let c976_270 : Index := 976#32
  ![v837.toNat, 976]
def k0_off2132 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v846 : Index := Scalar.indexCast arg22
  let c992_272 : Index := 992#32
  ![v846.toNat, 992]
def k0_off2133 (k0_t35 : Fin k0_t35_loop.trips) : Fin 2 → Nat :=
  let c0_i32_193 : BitVec 32 := 0#32
  let c1_i32_195 : BitVec 32 := 1#32
  let arg22 : BitVec 32 := Scf.iv c0_i32_193 c1_i32_195 k0_t35
  let v855 : Index := Scalar.indexCast arg22
  let c1008_274 : Index := 1008#32
  ![v855.toNat, 1008]
def k0_cond12 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32_66 : BitVec 32 := 28#32
  let v101 : BitVec 1 := Scalar.cmpi .sge v1 c28_i32_66
  let v102 : BitVec 32 := Scalar.extui v101
  let c0_i32_67 : BitVec 32 := 0#32
  let v103 : BitVec 1 := Scalar.cmpi .ne v102 c0_i32_67
  v103

@[reducible] def k0_t36_loop : Scf.Loop 32 :=
  let c0_i32_82 : BitVec 32 := 0#32
  let c15_i32_83 : BitVec 32 := 15#32
  let v115 : BitVec 32 := Scalar.addi c0_i32_82 c15_i32_83
  let c1_i32_84 : BitVec 32 := 1#32
  ⟨c0_i32_82, v115, c1_i32_84⟩
@[reducible] def k0_t37_loop (k0_t36 : Fin k0_t36_loop.trips) : Scf.Loop 32 :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_105 : BitVec 32 := 1#32
  ⟨c0_i32_103, v146, c1_i32_105⟩
def k0_off2134 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v152 : Index := Scalar.indexCast arg20
  let c0 : Index := 0#32
  ![v152.toNat, 0]
def k0_off2135 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_112 : BitVec 32 := 1#32
  let v155 : BitVec 32 := Scalar.addi arg20 c1_i32_112
  let c0_i32_103 : BitVec 32 := 0#32
  let c1_i32_105 : BitVec 32 := 1#32
  let arg21 : BitVec 32 := Scf.iv c0_i32_103 c1_i32_105 k0_t37
  let v156 : BitVec 32 := Scalar.addi v155 arg21
  let v157 : Index := Scalar.indexCast v156
  let c0_113 : Index := 0#32
  ![v157.toNat, 0]
def k0_off2136 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v162 : Index := Scalar.indexCast arg21
  let c0_114 : Index := 0#32
  ![v162.toNat, 0]
def k0_off2137 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v166 : Index := Scalar.indexCast arg20
  let c16 : Index := 16#32
  ![v166.toNat, 16]
def k0_off2138 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_115 : BitVec 32 := 1#32
  let v169 : BitVec 32 := Scalar.addi arg20 c1_i32_115
  let c0_i32_103 : BitVec 32 := 0#32
  let c1_i32_105 : BitVec 32 := 1#32
  let arg21 : BitVec 32 := Scf.iv c0_i32_103 c1_i32_105 k0_t37
  let v170 : BitVec 32 := Scalar.addi v169 arg21
  let v171 : Index := Scalar.indexCast v170
  let c16_116 : Index := 16#32
  ![v171.toNat, 16]
def k0_off2139 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v176 : Index := Scalar.indexCast arg21
  let c16_117 : Index := 16#32
  ![v176.toNat, 16]
def k0_off2140 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v180 : Index := Scalar.indexCast arg20
  let c32 : Index := 32#32
  ![v180.toNat, 32]
def k0_off2141 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_118 : BitVec 32 := 1#32
  let v183 : BitVec 32 := Scalar.addi arg20 c1_i32_118
  let c0_i32_103 : BitVec 32 := 0#32
  let c1_i32_105 : BitVec 32 := 1#32
  let arg21 : BitVec 32 := Scf.iv c0_i32_103 c1_i32_105 k0_t37
  let v184 : BitVec 32 := Scalar.addi v183 arg21
  let v185 : Index := Scalar.indexCast v184
  let c32_119 : Index := 32#32
  ![v185.toNat, 32]
def k0_off2142 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v190 : Index := Scalar.indexCast arg21
  let c32_120 : Index := 32#32
  ![v190.toNat, 32]
def k0_off2143 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v194 : Index := Scalar.indexCast arg20
  let c48 : Index := 48#32
  ![v194.toNat, 48]
def k0_off2144 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_121 : BitVec 32 := 1#32
  let v197 : BitVec 32 := Scalar.addi arg20 c1_i32_121
  let c0_i32_103 : BitVec 32 := 0#32
  let c1_i32_105 : BitVec 32 := 1#32
  let arg21 : BitVec 32 := Scf.iv c0_i32_103 c1_i32_105 k0_t37
  let v198 : BitVec 32 := Scalar.addi v197 arg21
  let v199 : Index := Scalar.indexCast v198
  let c48_122 : Index := 48#32
  ![v199.toNat, 48]
def k0_off2145 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v204 : Index := Scalar.indexCast arg21
  let c48_123 : Index := 48#32
  ![v204.toNat, 48]
def k0_off2146 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v208 : Index := Scalar.indexCast arg20
  let c64 : Index := 64#32
  ![v208.toNat, 64]
def k0_off2147 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_124 : BitVec 32 := 1#32
  let v211 : BitVec 32 := Scalar.addi arg20 c1_i32_124
  let c0_i32_103 : BitVec 32 := 0#32
  let c1_i32_105 : BitVec 32 := 1#32
  let arg21 : BitVec 32 := Scf.iv c0_i32_103 c1_i32_105 k0_t37
  let v212 : BitVec 32 := Scalar.addi v211 arg21
  let v213 : Index := Scalar.indexCast v212
  let c64_125 : Index := 64#32
  ![v213.toNat, 64]
def k0_off2148 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v218 : Index := Scalar.indexCast arg21
  let c64_126 : Index := 64#32
  ![v218.toNat, 64]
def k0_off2149 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v222 : Index := Scalar.indexCast arg20
  let c80 : Index := 80#32
  ![v222.toNat, 80]
def k0_off2150 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_127 : BitVec 32 := 1#32
  let v225 : BitVec 32 := Scalar.addi arg20 c1_i32_127
  let c0_i32_103 : BitVec 32 := 0#32
  let c1_i32_105 : BitVec 32 := 1#32
  let arg21 : BitVec 32 := Scf.iv c0_i32_103 c1_i32_105 k0_t37
  let v226 : BitVec 32 := Scalar.addi v225 arg21
  let v227 : Index := Scalar.indexCast v226
  let c80_128 : Index := 80#32
  ![v227.toNat, 80]
def k0_off2151 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v232 : Index := Scalar.indexCast arg21
  let c80_129 : Index := 80#32
  ![v232.toNat, 80]
def k0_off2152 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v236 : Index := Scalar.indexCast arg20
  let c96 : Index := 96#32
  ![v236.toNat, 96]
def k0_off2153 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_130 : BitVec 32 := 1#32
  let v239 : BitVec 32 := Scalar.addi arg20 c1_i32_130
  let c0_i32_103 : BitVec 32 := 0#32
  let c1_i32_105 : BitVec 32 := 1#32
  let arg21 : BitVec 32 := Scf.iv c0_i32_103 c1_i32_105 k0_t37
  let v240 : BitVec 32 := Scalar.addi v239 arg21
  let v241 : Index := Scalar.indexCast v240
  let c96_131 : Index := 96#32
  ![v241.toNat, 96]
def k0_off2154 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v246 : Index := Scalar.indexCast arg21
  let c96_132 : Index := 96#32
  ![v246.toNat, 96]
def k0_off2155 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v250 : Index := Scalar.indexCast arg20
  let c112 : Index := 112#32
  ![v250.toNat, 112]
def k0_off2156 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_133 : BitVec 32 := 1#32
  let v253 : BitVec 32 := Scalar.addi arg20 c1_i32_133
  let c0_i32_103 : BitVec 32 := 0#32
  let c1_i32_105 : BitVec 32 := 1#32
  let arg21 : BitVec 32 := Scf.iv c0_i32_103 c1_i32_105 k0_t37
  let v254 : BitVec 32 := Scalar.addi v253 arg21
  let v255 : Index := Scalar.indexCast v254
  let c112_134 : Index := 112#32
  ![v255.toNat, 112]
def k0_off2157 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v260 : Index := Scalar.indexCast arg21
  let c112_135 : Index := 112#32
  ![v260.toNat, 112]
def k0_off2158 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v264 : Index := Scalar.indexCast arg20
  let c128 : Index := 128#32
  ![v264.toNat, 128]
def k0_off2159 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_136 : BitVec 32 := 1#32
  let v267 : BitVec 32 := Scalar.addi arg20 c1_i32_136
  let c0_i32_103 : BitVec 32 := 0#32
  let c1_i32_105 : BitVec 32 := 1#32
  let arg21 : BitVec 32 := Scf.iv c0_i32_103 c1_i32_105 k0_t37
  let v268 : BitVec 32 := Scalar.addi v267 arg21
  let v269 : Index := Scalar.indexCast v268
  let c128_137 : Index := 128#32
  ![v269.toNat, 128]
def k0_off2160 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v274 : Index := Scalar.indexCast arg21
  let c128_138 : Index := 128#32
  ![v274.toNat, 128]
def k0_off2161 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v278 : Index := Scalar.indexCast arg20
  let c144 : Index := 144#32
  ![v278.toNat, 144]
def k0_off2162 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_139 : BitVec 32 := 1#32
  let v281 : BitVec 32 := Scalar.addi arg20 c1_i32_139
  let c0_i32_103 : BitVec 32 := 0#32
  let c1_i32_105 : BitVec 32 := 1#32
  let arg21 : BitVec 32 := Scf.iv c0_i32_103 c1_i32_105 k0_t37
  let v282 : BitVec 32 := Scalar.addi v281 arg21
  let v283 : Index := Scalar.indexCast v282
  let c144_140 : Index := 144#32
  ![v283.toNat, 144]
def k0_off2163 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v288 : Index := Scalar.indexCast arg21
  let c144_141 : Index := 144#32
  ![v288.toNat, 144]
def k0_off2164 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v292 : Index := Scalar.indexCast arg20
  let c160 : Index := 160#32
  ![v292.toNat, 160]
def k0_off2165 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_142 : BitVec 32 := 1#32
  let v295 : BitVec 32 := Scalar.addi arg20 c1_i32_142
  let c0_i32_103 : BitVec 32 := 0#32
  let c1_i32_105 : BitVec 32 := 1#32
  let arg21 : BitVec 32 := Scf.iv c0_i32_103 c1_i32_105 k0_t37
  let v296 : BitVec 32 := Scalar.addi v295 arg21
  let v297 : Index := Scalar.indexCast v296
  let c160_143 : Index := 160#32
  ![v297.toNat, 160]
def k0_off2166 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v302 : Index := Scalar.indexCast arg21
  let c160_144 : Index := 160#32
  ![v302.toNat, 160]
def k0_off2167 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v306 : Index := Scalar.indexCast arg20
  let c176 : Index := 176#32
  ![v306.toNat, 176]
def k0_off2168 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_145 : BitVec 32 := 1#32
  let v309 : BitVec 32 := Scalar.addi arg20 c1_i32_145
  let c0_i32_103 : BitVec 32 := 0#32
  let c1_i32_105 : BitVec 32 := 1#32
  let arg21 : BitVec 32 := Scf.iv c0_i32_103 c1_i32_105 k0_t37
  let v310 : BitVec 32 := Scalar.addi v309 arg21
  let v311 : Index := Scalar.indexCast v310
  let c176_146 : Index := 176#32
  ![v311.toNat, 176]
def k0_off2169 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v316 : Index := Scalar.indexCast arg21
  let c176_147 : Index := 176#32
  ![v316.toNat, 176]
def k0_off2170 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v320 : Index := Scalar.indexCast arg20
  let c192 : Index := 192#32
  ![v320.toNat, 192]
def k0_off2171 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_148 : BitVec 32 := 1#32
  let v323 : BitVec 32 := Scalar.addi arg20 c1_i32_148
  let c0_i32_103 : BitVec 32 := 0#32
  let c1_i32_105 : BitVec 32 := 1#32
  let arg21 : BitVec 32 := Scf.iv c0_i32_103 c1_i32_105 k0_t37
  let v324 : BitVec 32 := Scalar.addi v323 arg21
  let v325 : Index := Scalar.indexCast v324
  let c192_149 : Index := 192#32
  ![v325.toNat, 192]
def k0_off2172 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v330 : Index := Scalar.indexCast arg21
  let c192_150 : Index := 192#32
  ![v330.toNat, 192]
def k0_off2173 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v334 : Index := Scalar.indexCast arg20
  let c208 : Index := 208#32
  ![v334.toNat, 208]
def k0_off2174 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_151 : BitVec 32 := 1#32
  let v337 : BitVec 32 := Scalar.addi arg20 c1_i32_151
  let c0_i32_103 : BitVec 32 := 0#32
  let c1_i32_105 : BitVec 32 := 1#32
  let arg21 : BitVec 32 := Scf.iv c0_i32_103 c1_i32_105 k0_t37
  let v338 : BitVec 32 := Scalar.addi v337 arg21
  let v339 : Index := Scalar.indexCast v338
  let c208_152 : Index := 208#32
  ![v339.toNat, 208]
def k0_off2175 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v344 : Index := Scalar.indexCast arg21
  let c208_153 : Index := 208#32
  ![v344.toNat, 208]
def k0_off2176 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v348 : Index := Scalar.indexCast arg20
  let c224 : Index := 224#32
  ![v348.toNat, 224]
def k0_off2177 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_154 : BitVec 32 := 1#32
  let v351 : BitVec 32 := Scalar.addi arg20 c1_i32_154
  let c0_i32_103 : BitVec 32 := 0#32
  let c1_i32_105 : BitVec 32 := 1#32
  let arg21 : BitVec 32 := Scf.iv c0_i32_103 c1_i32_105 k0_t37
  let v352 : BitVec 32 := Scalar.addi v351 arg21
  let v353 : Index := Scalar.indexCast v352
  let c224_155 : Index := 224#32
  ![v353.toNat, 224]
def k0_off2178 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v358 : Index := Scalar.indexCast arg21
  let c224_156 : Index := 224#32
  ![v358.toNat, 224]
def k0_off2179 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v362 : Index := Scalar.indexCast arg20
  let c240 : Index := 240#32
  ![v362.toNat, 240]
def k0_off2180 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_157 : BitVec 32 := 1#32
  let v365 : BitVec 32 := Scalar.addi arg20 c1_i32_157
  let c0_i32_103 : BitVec 32 := 0#32
  let c1_i32_105 : BitVec 32 := 1#32
  let arg21 : BitVec 32 := Scf.iv c0_i32_103 c1_i32_105 k0_t37
  let v366 : BitVec 32 := Scalar.addi v365 arg21
  let v367 : Index := Scalar.indexCast v366
  let c240_158 : Index := 240#32
  ![v367.toNat, 240]
def k0_off2181 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v372 : Index := Scalar.indexCast arg21
  let c240_159 : Index := 240#32
  ![v372.toNat, 240]
def k0_off2182 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v376 : Index := Scalar.indexCast arg20
  let c256 : Index := 256#32
  ![v376.toNat, 256]
def k0_off2183 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_160 : BitVec 32 := 1#32
  let v379 : BitVec 32 := Scalar.addi arg20 c1_i32_160
  let c0_i32_103 : BitVec 32 := 0#32
  let c1_i32_105 : BitVec 32 := 1#32
  let arg21 : BitVec 32 := Scf.iv c0_i32_103 c1_i32_105 k0_t37
  let v380 : BitVec 32 := Scalar.addi v379 arg21
  let v381 : Index := Scalar.indexCast v380
  let c256_161 : Index := 256#32
  ![v381.toNat, 256]
def k0_off2184 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v386 : Index := Scalar.indexCast arg21
  let c256_162 : Index := 256#32
  ![v386.toNat, 256]
def k0_off2185 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v390 : Index := Scalar.indexCast arg20
  let c272 : Index := 272#32
  ![v390.toNat, 272]
def k0_off2186 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_163 : BitVec 32 := 1#32
  let v393 : BitVec 32 := Scalar.addi arg20 c1_i32_163
  let c0_i32_103 : BitVec 32 := 0#32
  let c1_i32_105 : BitVec 32 := 1#32
  let arg21 : BitVec 32 := Scf.iv c0_i32_103 c1_i32_105 k0_t37
  let v394 : BitVec 32 := Scalar.addi v393 arg21
  let v395 : Index := Scalar.indexCast v394
  let c272_164 : Index := 272#32
  ![v395.toNat, 272]
def k0_off2187 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v400 : Index := Scalar.indexCast arg21
  let c272_165 : Index := 272#32
  ![v400.toNat, 272]
def k0_off2188 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v404 : Index := Scalar.indexCast arg20
  let c288 : Index := 288#32
  ![v404.toNat, 288]
def k0_off2189 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_166 : BitVec 32 := 1#32
  let v407 : BitVec 32 := Scalar.addi arg20 c1_i32_166
  let c0_i32_103 : BitVec 32 := 0#32
  let c1_i32_105 : BitVec 32 := 1#32
  let arg21 : BitVec 32 := Scf.iv c0_i32_103 c1_i32_105 k0_t37
  let v408 : BitVec 32 := Scalar.addi v407 arg21
  let v409 : Index := Scalar.indexCast v408
  let c288_167 : Index := 288#32
  ![v409.toNat, 288]
def k0_off2190 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v414 : Index := Scalar.indexCast arg21
  let c288_168 : Index := 288#32
  ![v414.toNat, 288]
def k0_off2191 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v418 : Index := Scalar.indexCast arg20
  let c304 : Index := 304#32
  ![v418.toNat, 304]
def k0_off2192 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_169 : BitVec 32 := 1#32
  let v421 : BitVec 32 := Scalar.addi arg20 c1_i32_169
  let c0_i32_103 : BitVec 32 := 0#32
  let c1_i32_105 : BitVec 32 := 1#32
  let arg21 : BitVec 32 := Scf.iv c0_i32_103 c1_i32_105 k0_t37
  let v422 : BitVec 32 := Scalar.addi v421 arg21
  let v423 : Index := Scalar.indexCast v422
  let c304_170 : Index := 304#32
  ![v423.toNat, 304]
def k0_off2193 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v428 : Index := Scalar.indexCast arg21
  let c304_171 : Index := 304#32
  ![v428.toNat, 304]
def k0_off2194 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v432 : Index := Scalar.indexCast arg20
  let c320 : Index := 320#32
  ![v432.toNat, 320]
def k0_off2195 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_172 : BitVec 32 := 1#32
  let v435 : BitVec 32 := Scalar.addi arg20 c1_i32_172
  let c0_i32_103 : BitVec 32 := 0#32
  let c1_i32_105 : BitVec 32 := 1#32
  let arg21 : BitVec 32 := Scf.iv c0_i32_103 c1_i32_105 k0_t37
  let v436 : BitVec 32 := Scalar.addi v435 arg21
  let v437 : Index := Scalar.indexCast v436
  let c320_173 : Index := 320#32
  ![v437.toNat, 320]
def k0_off2196 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v442 : Index := Scalar.indexCast arg21
  let c320_174 : Index := 320#32
  ![v442.toNat, 320]
def k0_off2197 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v446 : Index := Scalar.indexCast arg20
  let c336 : Index := 336#32
  ![v446.toNat, 336]
def k0_off2198 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_175 : BitVec 32 := 1#32
  let v449 : BitVec 32 := Scalar.addi arg20 c1_i32_175
  let c0_i32_103 : BitVec 32 := 0#32
  let c1_i32_105 : BitVec 32 := 1#32
  let arg21 : BitVec 32 := Scf.iv c0_i32_103 c1_i32_105 k0_t37
  let v450 : BitVec 32 := Scalar.addi v449 arg21
  let v451 : Index := Scalar.indexCast v450
  let c336_176 : Index := 336#32
  ![v451.toNat, 336]
def k0_off2199 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v456 : Index := Scalar.indexCast arg21
  let c336_177 : Index := 336#32
  ![v456.toNat, 336]
def k0_off2200 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v460 : Index := Scalar.indexCast arg20
  let c352 : Index := 352#32
  ![v460.toNat, 352]
def k0_off2201 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_178 : BitVec 32 := 1#32
  let v463 : BitVec 32 := Scalar.addi arg20 c1_i32_178
  let c0_i32_103 : BitVec 32 := 0#32
  let c1_i32_105 : BitVec 32 := 1#32
  let arg21 : BitVec 32 := Scf.iv c0_i32_103 c1_i32_105 k0_t37
  let v464 : BitVec 32 := Scalar.addi v463 arg21
  let v465 : Index := Scalar.indexCast v464
  let c352_179 : Index := 352#32
  ![v465.toNat, 352]
def k0_off2202 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v470 : Index := Scalar.indexCast arg21
  let c352_180 : Index := 352#32
  ![v470.toNat, 352]
def k0_off2203 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v474 : Index := Scalar.indexCast arg20
  let c368 : Index := 368#32
  ![v474.toNat, 368]
def k0_off2204 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_181 : BitVec 32 := 1#32
  let v477 : BitVec 32 := Scalar.addi arg20 c1_i32_181
  let c0_i32_103 : BitVec 32 := 0#32
  let c1_i32_105 : BitVec 32 := 1#32
  let arg21 : BitVec 32 := Scf.iv c0_i32_103 c1_i32_105 k0_t37
  let v478 : BitVec 32 := Scalar.addi v477 arg21
  let v479 : Index := Scalar.indexCast v478
  let c368_182 : Index := 368#32
  ![v479.toNat, 368]
def k0_off2205 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v484 : Index := Scalar.indexCast arg21
  let c368_183 : Index := 368#32
  ![v484.toNat, 368]
def k0_off2206 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v488 : Index := Scalar.indexCast arg20
  let c384 : Index := 384#32
  ![v488.toNat, 384]
def k0_off2207 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_184 : BitVec 32 := 1#32
  let v491 : BitVec 32 := Scalar.addi arg20 c1_i32_184
  let c0_i32_103 : BitVec 32 := 0#32
  let c1_i32_105 : BitVec 32 := 1#32
  let arg21 : BitVec 32 := Scf.iv c0_i32_103 c1_i32_105 k0_t37
  let v492 : BitVec 32 := Scalar.addi v491 arg21
  let v493 : Index := Scalar.indexCast v492
  let c384_185 : Index := 384#32
  ![v493.toNat, 384]
def k0_off2208 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v498 : Index := Scalar.indexCast arg21
  let c384_186 : Index := 384#32
  ![v498.toNat, 384]
def k0_off2209 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v502 : Index := Scalar.indexCast arg20
  let c400 : Index := 400#32
  ![v502.toNat, 400]
def k0_off2210 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_187 : BitVec 32 := 1#32
  let v505 : BitVec 32 := Scalar.addi arg20 c1_i32_187
  let c0_i32_103 : BitVec 32 := 0#32
  let c1_i32_105 : BitVec 32 := 1#32
  let arg21 : BitVec 32 := Scf.iv c0_i32_103 c1_i32_105 k0_t37
  let v506 : BitVec 32 := Scalar.addi v505 arg21
  let v507 : Index := Scalar.indexCast v506
  let c400_188 : Index := 400#32
  ![v507.toNat, 400]
def k0_off2211 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v512 : Index := Scalar.indexCast arg21
  let c400_189 : Index := 400#32
  ![v512.toNat, 400]
def k0_off2212 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v516 : Index := Scalar.indexCast arg20
  let c416 : Index := 416#32
  ![v516.toNat, 416]
def k0_off2213 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_190 : BitVec 32 := 1#32
  let v519 : BitVec 32 := Scalar.addi arg20 c1_i32_190
  let c0_i32_103 : BitVec 32 := 0#32
  let c1_i32_105 : BitVec 32 := 1#32
  let arg21 : BitVec 32 := Scf.iv c0_i32_103 c1_i32_105 k0_t37
  let v520 : BitVec 32 := Scalar.addi v519 arg21
  let v521 : Index := Scalar.indexCast v520
  let c416_191 : Index := 416#32
  ![v521.toNat, 416]
def k0_off2214 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v526 : Index := Scalar.indexCast arg21
  let c416_192 : Index := 416#32
  ![v526.toNat, 416]
def k0_off2215 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v530 : Index := Scalar.indexCast arg20
  let c432 : Index := 432#32
  ![v530.toNat, 432]
def k0_off2216 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_193 : BitVec 32 := 1#32
  let v533 : BitVec 32 := Scalar.addi arg20 c1_i32_193
  let c0_i32_103 : BitVec 32 := 0#32
  let c1_i32_105 : BitVec 32 := 1#32
  let arg21 : BitVec 32 := Scf.iv c0_i32_103 c1_i32_105 k0_t37
  let v534 : BitVec 32 := Scalar.addi v533 arg21
  let v535 : Index := Scalar.indexCast v534
  let c432_194 : Index := 432#32
  ![v535.toNat, 432]
def k0_off2217 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v540 : Index := Scalar.indexCast arg21
  let c432_195 : Index := 432#32
  ![v540.toNat, 432]
def k0_off2218 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v544 : Index := Scalar.indexCast arg20
  let c448 : Index := 448#32
  ![v544.toNat, 448]
def k0_off2219 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_196 : BitVec 32 := 1#32
  let v547 : BitVec 32 := Scalar.addi arg20 c1_i32_196
  let c0_i32_103 : BitVec 32 := 0#32
  let c1_i32_105 : BitVec 32 := 1#32
  let arg21 : BitVec 32 := Scf.iv c0_i32_103 c1_i32_105 k0_t37
  let v548 : BitVec 32 := Scalar.addi v547 arg21
  let v549 : Index := Scalar.indexCast v548
  let c448_197 : Index := 448#32
  ![v549.toNat, 448]
def k0_off2220 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v554 : Index := Scalar.indexCast arg21
  let c448_198 : Index := 448#32
  ![v554.toNat, 448]
def k0_off2221 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v558 : Index := Scalar.indexCast arg20
  let c464 : Index := 464#32
  ![v558.toNat, 464]
def k0_off2222 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_199 : BitVec 32 := 1#32
  let v561 : BitVec 32 := Scalar.addi arg20 c1_i32_199
  let c0_i32_103 : BitVec 32 := 0#32
  let c1_i32_105 : BitVec 32 := 1#32
  let arg21 : BitVec 32 := Scf.iv c0_i32_103 c1_i32_105 k0_t37
  let v562 : BitVec 32 := Scalar.addi v561 arg21
  let v563 : Index := Scalar.indexCast v562
  let c464_200 : Index := 464#32
  ![v563.toNat, 464]
def k0_off2223 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v568 : Index := Scalar.indexCast arg21
  let c464_201 : Index := 464#32
  ![v568.toNat, 464]
def k0_off2224 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v572 : Index := Scalar.indexCast arg20
  let c480 : Index := 480#32
  ![v572.toNat, 480]
def k0_off2225 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_202 : BitVec 32 := 1#32
  let v575 : BitVec 32 := Scalar.addi arg20 c1_i32_202
  let c0_i32_103 : BitVec 32 := 0#32
  let c1_i32_105 : BitVec 32 := 1#32
  let arg21 : BitVec 32 := Scf.iv c0_i32_103 c1_i32_105 k0_t37
  let v576 : BitVec 32 := Scalar.addi v575 arg21
  let v577 : Index := Scalar.indexCast v576
  let c480_203 : Index := 480#32
  ![v577.toNat, 480]
def k0_off2226 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v582 : Index := Scalar.indexCast arg21
  let c480_204 : Index := 480#32
  ![v582.toNat, 480]
def k0_off2227 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v586 : Index := Scalar.indexCast arg20
  let c496 : Index := 496#32
  ![v586.toNat, 496]
def k0_off2228 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_205 : BitVec 32 := 1#32
  let v589 : BitVec 32 := Scalar.addi arg20 c1_i32_205
  let c0_i32_103 : BitVec 32 := 0#32
  let c1_i32_105 : BitVec 32 := 1#32
  let arg21 : BitVec 32 := Scf.iv c0_i32_103 c1_i32_105 k0_t37
  let v590 : BitVec 32 := Scalar.addi v589 arg21
  let v591 : Index := Scalar.indexCast v590
  let c496_206 : Index := 496#32
  ![v591.toNat, 496]
def k0_off2229 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v596 : Index := Scalar.indexCast arg21
  let c496_207 : Index := 496#32
  ![v596.toNat, 496]
def k0_off2230 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v600 : Index := Scalar.indexCast arg20
  let c512 : Index := 512#32
  ![v600.toNat, 512]
def k0_off2231 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_208 : BitVec 32 := 1#32
  let v603 : BitVec 32 := Scalar.addi arg20 c1_i32_208
  let c0_i32_103 : BitVec 32 := 0#32
  let c1_i32_105 : BitVec 32 := 1#32
  let arg21 : BitVec 32 := Scf.iv c0_i32_103 c1_i32_105 k0_t37
  let v604 : BitVec 32 := Scalar.addi v603 arg21
  let v605 : Index := Scalar.indexCast v604
  let c512_209 : Index := 512#32
  ![v605.toNat, 512]
def k0_off2232 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v610 : Index := Scalar.indexCast arg21
  let c512_210 : Index := 512#32
  ![v610.toNat, 512]
def k0_off2233 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v614 : Index := Scalar.indexCast arg20
  let c528 : Index := 528#32
  ![v614.toNat, 528]
def k0_off2234 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_211 : BitVec 32 := 1#32
  let v617 : BitVec 32 := Scalar.addi arg20 c1_i32_211
  let c0_i32_103 : BitVec 32 := 0#32
  let c1_i32_105 : BitVec 32 := 1#32
  let arg21 : BitVec 32 := Scf.iv c0_i32_103 c1_i32_105 k0_t37
  let v618 : BitVec 32 := Scalar.addi v617 arg21
  let v619 : Index := Scalar.indexCast v618
  let c528_212 : Index := 528#32
  ![v619.toNat, 528]
def k0_off2235 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v624 : Index := Scalar.indexCast arg21
  let c528_213 : Index := 528#32
  ![v624.toNat, 528]
def k0_off2236 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v628 : Index := Scalar.indexCast arg20
  let c544 : Index := 544#32
  ![v628.toNat, 544]
def k0_off2237 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_214 : BitVec 32 := 1#32
  let v631 : BitVec 32 := Scalar.addi arg20 c1_i32_214
  let c0_i32_103 : BitVec 32 := 0#32
  let c1_i32_105 : BitVec 32 := 1#32
  let arg21 : BitVec 32 := Scf.iv c0_i32_103 c1_i32_105 k0_t37
  let v632 : BitVec 32 := Scalar.addi v631 arg21
  let v633 : Index := Scalar.indexCast v632
  let c544_215 : Index := 544#32
  ![v633.toNat, 544]
def k0_off2238 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v638 : Index := Scalar.indexCast arg21
  let c544_216 : Index := 544#32
  ![v638.toNat, 544]
def k0_off2239 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v642 : Index := Scalar.indexCast arg20
  let c560 : Index := 560#32
  ![v642.toNat, 560]
def k0_off2240 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_217 : BitVec 32 := 1#32
  let v645 : BitVec 32 := Scalar.addi arg20 c1_i32_217
  let c0_i32_103 : BitVec 32 := 0#32
  let c1_i32_105 : BitVec 32 := 1#32
  let arg21 : BitVec 32 := Scf.iv c0_i32_103 c1_i32_105 k0_t37
  let v646 : BitVec 32 := Scalar.addi v645 arg21
  let v647 : Index := Scalar.indexCast v646
  let c560_218 : Index := 560#32
  ![v647.toNat, 560]
def k0_off2241 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v652 : Index := Scalar.indexCast arg21
  let c560_219 : Index := 560#32
  ![v652.toNat, 560]
def k0_off2242 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v656 : Index := Scalar.indexCast arg20
  let c576 : Index := 576#32
  ![v656.toNat, 576]
def k0_off2243 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_220 : BitVec 32 := 1#32
  let v659 : BitVec 32 := Scalar.addi arg20 c1_i32_220
  let c0_i32_103 : BitVec 32 := 0#32
  let c1_i32_105 : BitVec 32 := 1#32
  let arg21 : BitVec 32 := Scf.iv c0_i32_103 c1_i32_105 k0_t37
  let v660 : BitVec 32 := Scalar.addi v659 arg21
  let v661 : Index := Scalar.indexCast v660
  let c576_221 : Index := 576#32
  ![v661.toNat, 576]
def k0_off2244 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v666 : Index := Scalar.indexCast arg21
  let c576_222 : Index := 576#32
  ![v666.toNat, 576]
def k0_off2245 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v670 : Index := Scalar.indexCast arg20
  let c592 : Index := 592#32
  ![v670.toNat, 592]
def k0_off2246 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_223 : BitVec 32 := 1#32
  let v673 : BitVec 32 := Scalar.addi arg20 c1_i32_223
  let c0_i32_103 : BitVec 32 := 0#32
  let c1_i32_105 : BitVec 32 := 1#32
  let arg21 : BitVec 32 := Scf.iv c0_i32_103 c1_i32_105 k0_t37
  let v674 : BitVec 32 := Scalar.addi v673 arg21
  let v675 : Index := Scalar.indexCast v674
  let c592_224 : Index := 592#32
  ![v675.toNat, 592]
def k0_off2247 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v680 : Index := Scalar.indexCast arg21
  let c592_225 : Index := 592#32
  ![v680.toNat, 592]
def k0_off2248 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v684 : Index := Scalar.indexCast arg20
  let c608 : Index := 608#32
  ![v684.toNat, 608]
def k0_off2249 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_226 : BitVec 32 := 1#32
  let v687 : BitVec 32 := Scalar.addi arg20 c1_i32_226
  let c0_i32_103 : BitVec 32 := 0#32
  let c1_i32_105 : BitVec 32 := 1#32
  let arg21 : BitVec 32 := Scf.iv c0_i32_103 c1_i32_105 k0_t37
  let v688 : BitVec 32 := Scalar.addi v687 arg21
  let v689 : Index := Scalar.indexCast v688
  let c608_227 : Index := 608#32
  ![v689.toNat, 608]
def k0_off2250 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v694 : Index := Scalar.indexCast arg21
  let c608_228 : Index := 608#32
  ![v694.toNat, 608]
def k0_off2251 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v698 : Index := Scalar.indexCast arg20
  let c624 : Index := 624#32
  ![v698.toNat, 624]
def k0_off2252 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_229 : BitVec 32 := 1#32
  let v701 : BitVec 32 := Scalar.addi arg20 c1_i32_229
  let c0_i32_103 : BitVec 32 := 0#32
  let c1_i32_105 : BitVec 32 := 1#32
  let arg21 : BitVec 32 := Scf.iv c0_i32_103 c1_i32_105 k0_t37
  let v702 : BitVec 32 := Scalar.addi v701 arg21
  let v703 : Index := Scalar.indexCast v702
  let c624_230 : Index := 624#32
  ![v703.toNat, 624]
def k0_off2253 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v708 : Index := Scalar.indexCast arg21
  let c624_231 : Index := 624#32
  ![v708.toNat, 624]
def k0_off2254 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v712 : Index := Scalar.indexCast arg20
  let c640 : Index := 640#32
  ![v712.toNat, 640]
def k0_off2255 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_232 : BitVec 32 := 1#32
  let v715 : BitVec 32 := Scalar.addi arg20 c1_i32_232
  let c0_i32_103 : BitVec 32 := 0#32
  let c1_i32_105 : BitVec 32 := 1#32
  let arg21 : BitVec 32 := Scf.iv c0_i32_103 c1_i32_105 k0_t37
  let v716 : BitVec 32 := Scalar.addi v715 arg21
  let v717 : Index := Scalar.indexCast v716
  let c640_233 : Index := 640#32
  ![v717.toNat, 640]
def k0_off2256 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v722 : Index := Scalar.indexCast arg21
  let c640_234 : Index := 640#32
  ![v722.toNat, 640]
def k0_off2257 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v726 : Index := Scalar.indexCast arg20
  let c656 : Index := 656#32
  ![v726.toNat, 656]
def k0_off2258 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_235 : BitVec 32 := 1#32
  let v729 : BitVec 32 := Scalar.addi arg20 c1_i32_235
  let c0_i32_103 : BitVec 32 := 0#32
  let c1_i32_105 : BitVec 32 := 1#32
  let arg21 : BitVec 32 := Scf.iv c0_i32_103 c1_i32_105 k0_t37
  let v730 : BitVec 32 := Scalar.addi v729 arg21
  let v731 : Index := Scalar.indexCast v730
  let c656_236 : Index := 656#32
  ![v731.toNat, 656]
def k0_off2259 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v736 : Index := Scalar.indexCast arg21
  let c656_237 : Index := 656#32
  ![v736.toNat, 656]
def k0_off2260 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v740 : Index := Scalar.indexCast arg20
  let c672 : Index := 672#32
  ![v740.toNat, 672]
def k0_off2261 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_238 : BitVec 32 := 1#32
  let v743 : BitVec 32 := Scalar.addi arg20 c1_i32_238
  let c0_i32_103 : BitVec 32 := 0#32
  let c1_i32_105 : BitVec 32 := 1#32
  let arg21 : BitVec 32 := Scf.iv c0_i32_103 c1_i32_105 k0_t37
  let v744 : BitVec 32 := Scalar.addi v743 arg21
  let v745 : Index := Scalar.indexCast v744
  let c672_239 : Index := 672#32
  ![v745.toNat, 672]
def k0_off2262 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v750 : Index := Scalar.indexCast arg21
  let c672_240 : Index := 672#32
  ![v750.toNat, 672]
def k0_off2263 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v754 : Index := Scalar.indexCast arg20
  let c688 : Index := 688#32
  ![v754.toNat, 688]
def k0_off2264 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_241 : BitVec 32 := 1#32
  let v757 : BitVec 32 := Scalar.addi arg20 c1_i32_241
  let c0_i32_103 : BitVec 32 := 0#32
  let c1_i32_105 : BitVec 32 := 1#32
  let arg21 : BitVec 32 := Scf.iv c0_i32_103 c1_i32_105 k0_t37
  let v758 : BitVec 32 := Scalar.addi v757 arg21
  let v759 : Index := Scalar.indexCast v758
  let c688_242 : Index := 688#32
  ![v759.toNat, 688]
def k0_off2265 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v764 : Index := Scalar.indexCast arg21
  let c688_243 : Index := 688#32
  ![v764.toNat, 688]
def k0_off2266 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v768 : Index := Scalar.indexCast arg20
  let c704 : Index := 704#32
  ![v768.toNat, 704]
def k0_off2267 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_244 : BitVec 32 := 1#32
  let v771 : BitVec 32 := Scalar.addi arg20 c1_i32_244
  let c0_i32_103 : BitVec 32 := 0#32
  let c1_i32_105 : BitVec 32 := 1#32
  let arg21 : BitVec 32 := Scf.iv c0_i32_103 c1_i32_105 k0_t37
  let v772 : BitVec 32 := Scalar.addi v771 arg21
  let v773 : Index := Scalar.indexCast v772
  let c704_245 : Index := 704#32
  ![v773.toNat, 704]
def k0_off2268 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v778 : Index := Scalar.indexCast arg21
  let c704_246 : Index := 704#32
  ![v778.toNat, 704]
def k0_off2269 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v782 : Index := Scalar.indexCast arg20
  let c720 : Index := 720#32
  ![v782.toNat, 720]
def k0_off2270 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_247 : BitVec 32 := 1#32
  let v785 : BitVec 32 := Scalar.addi arg20 c1_i32_247
  let c0_i32_103 : BitVec 32 := 0#32
  let c1_i32_105 : BitVec 32 := 1#32
  let arg21 : BitVec 32 := Scf.iv c0_i32_103 c1_i32_105 k0_t37
  let v786 : BitVec 32 := Scalar.addi v785 arg21
  let v787 : Index := Scalar.indexCast v786
  let c720_248 : Index := 720#32
  ![v787.toNat, 720]
def k0_off2271 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v792 : Index := Scalar.indexCast arg21
  let c720_249 : Index := 720#32
  ![v792.toNat, 720]
def k0_off2272 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v796 : Index := Scalar.indexCast arg20
  let c736 : Index := 736#32
  ![v796.toNat, 736]
def k0_off2273 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_250 : BitVec 32 := 1#32
  let v799 : BitVec 32 := Scalar.addi arg20 c1_i32_250
  let c0_i32_103 : BitVec 32 := 0#32
  let c1_i32_105 : BitVec 32 := 1#32
  let arg21 : BitVec 32 := Scf.iv c0_i32_103 c1_i32_105 k0_t37
  let v800 : BitVec 32 := Scalar.addi v799 arg21
  let v801 : Index := Scalar.indexCast v800
  let c736_251 : Index := 736#32
  ![v801.toNat, 736]
def k0_off2274 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v806 : Index := Scalar.indexCast arg21
  let c736_252 : Index := 736#32
  ![v806.toNat, 736]
def k0_off2275 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v810 : Index := Scalar.indexCast arg20
  let c752 : Index := 752#32
  ![v810.toNat, 752]
def k0_off2276 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_253 : BitVec 32 := 1#32
  let v813 : BitVec 32 := Scalar.addi arg20 c1_i32_253
  let c0_i32_103 : BitVec 32 := 0#32
  let c1_i32_105 : BitVec 32 := 1#32
  let arg21 : BitVec 32 := Scf.iv c0_i32_103 c1_i32_105 k0_t37
  let v814 : BitVec 32 := Scalar.addi v813 arg21
  let v815 : Index := Scalar.indexCast v814
  let c752_254 : Index := 752#32
  ![v815.toNat, 752]
def k0_off2277 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v820 : Index := Scalar.indexCast arg21
  let c752_255 : Index := 752#32
  ![v820.toNat, 752]
def k0_off2278 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v824 : Index := Scalar.indexCast arg20
  let c768 : Index := 768#32
  ![v824.toNat, 768]
def k0_off2279 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_256 : BitVec 32 := 1#32
  let v827 : BitVec 32 := Scalar.addi arg20 c1_i32_256
  let c0_i32_103 : BitVec 32 := 0#32
  let c1_i32_105 : BitVec 32 := 1#32
  let arg21 : BitVec 32 := Scf.iv c0_i32_103 c1_i32_105 k0_t37
  let v828 : BitVec 32 := Scalar.addi v827 arg21
  let v829 : Index := Scalar.indexCast v828
  let c768_257 : Index := 768#32
  ![v829.toNat, 768]
def k0_off2280 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v834 : Index := Scalar.indexCast arg21
  let c768_258 : Index := 768#32
  ![v834.toNat, 768]
def k0_off2281 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v838 : Index := Scalar.indexCast arg20
  let c784 : Index := 784#32
  ![v838.toNat, 784]
def k0_off2282 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_259 : BitVec 32 := 1#32
  let v841 : BitVec 32 := Scalar.addi arg20 c1_i32_259
  let c0_i32_103 : BitVec 32 := 0#32
  let c1_i32_105 : BitVec 32 := 1#32
  let arg21 : BitVec 32 := Scf.iv c0_i32_103 c1_i32_105 k0_t37
  let v842 : BitVec 32 := Scalar.addi v841 arg21
  let v843 : Index := Scalar.indexCast v842
  let c784_260 : Index := 784#32
  ![v843.toNat, 784]
def k0_off2283 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v848 : Index := Scalar.indexCast arg21
  let c784_261 : Index := 784#32
  ![v848.toNat, 784]
def k0_off2284 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v852 : Index := Scalar.indexCast arg20
  let c800 : Index := 800#32
  ![v852.toNat, 800]
def k0_off2285 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_262 : BitVec 32 := 1#32
  let v855 : BitVec 32 := Scalar.addi arg20 c1_i32_262
  let c0_i32_103 : BitVec 32 := 0#32
  let c1_i32_105 : BitVec 32 := 1#32
  let arg21 : BitVec 32 := Scf.iv c0_i32_103 c1_i32_105 k0_t37
  let v856 : BitVec 32 := Scalar.addi v855 arg21
  let v857 : Index := Scalar.indexCast v856
  let c800_263 : Index := 800#32
  ![v857.toNat, 800]
def k0_off2286 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v862 : Index := Scalar.indexCast arg21
  let c800_264 : Index := 800#32
  ![v862.toNat, 800]
def k0_off2287 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v866 : Index := Scalar.indexCast arg20
  let c816 : Index := 816#32
  ![v866.toNat, 816]
def k0_off2288 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_265 : BitVec 32 := 1#32
  let v869 : BitVec 32 := Scalar.addi arg20 c1_i32_265
  let c0_i32_103 : BitVec 32 := 0#32
  let c1_i32_105 : BitVec 32 := 1#32
  let arg21 : BitVec 32 := Scf.iv c0_i32_103 c1_i32_105 k0_t37
  let v870 : BitVec 32 := Scalar.addi v869 arg21
  let v871 : Index := Scalar.indexCast v870
  let c816_266 : Index := 816#32
  ![v871.toNat, 816]
def k0_off2289 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v876 : Index := Scalar.indexCast arg21
  let c816_267 : Index := 816#32
  ![v876.toNat, 816]
def k0_off2290 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v880 : Index := Scalar.indexCast arg20
  let c832 : Index := 832#32
  ![v880.toNat, 832]
def k0_off2291 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_268 : BitVec 32 := 1#32
  let v883 : BitVec 32 := Scalar.addi arg20 c1_i32_268
  let c0_i32_103 : BitVec 32 := 0#32
  let c1_i32_105 : BitVec 32 := 1#32
  let arg21 : BitVec 32 := Scf.iv c0_i32_103 c1_i32_105 k0_t37
  let v884 : BitVec 32 := Scalar.addi v883 arg21
  let v885 : Index := Scalar.indexCast v884
  let c832_269 : Index := 832#32
  ![v885.toNat, 832]
def k0_off2292 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v890 : Index := Scalar.indexCast arg21
  let c832_270 : Index := 832#32
  ![v890.toNat, 832]
def k0_off2293 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v894 : Index := Scalar.indexCast arg20
  let c848 : Index := 848#32
  ![v894.toNat, 848]
def k0_off2294 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_271 : BitVec 32 := 1#32
  let v897 : BitVec 32 := Scalar.addi arg20 c1_i32_271
  let c0_i32_103 : BitVec 32 := 0#32
  let c1_i32_105 : BitVec 32 := 1#32
  let arg21 : BitVec 32 := Scf.iv c0_i32_103 c1_i32_105 k0_t37
  let v898 : BitVec 32 := Scalar.addi v897 arg21
  let v899 : Index := Scalar.indexCast v898
  let c848_272 : Index := 848#32
  ![v899.toNat, 848]
def k0_off2295 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v904 : Index := Scalar.indexCast arg21
  let c848_273 : Index := 848#32
  ![v904.toNat, 848]
def k0_off2296 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v908 : Index := Scalar.indexCast arg20
  let c864 : Index := 864#32
  ![v908.toNat, 864]
def k0_off2297 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_274 : BitVec 32 := 1#32
  let v911 : BitVec 32 := Scalar.addi arg20 c1_i32_274
  let c0_i32_103 : BitVec 32 := 0#32
  let c1_i32_105 : BitVec 32 := 1#32
  let arg21 : BitVec 32 := Scf.iv c0_i32_103 c1_i32_105 k0_t37
  let v912 : BitVec 32 := Scalar.addi v911 arg21
  let v913 : Index := Scalar.indexCast v912
  let c864_275 : Index := 864#32
  ![v913.toNat, 864]
def k0_off2298 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v918 : Index := Scalar.indexCast arg21
  let c864_276 : Index := 864#32
  ![v918.toNat, 864]
def k0_off2299 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v922 : Index := Scalar.indexCast arg20
  let c880 : Index := 880#32
  ![v922.toNat, 880]
def k0_off2300 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_277 : BitVec 32 := 1#32
  let v925 : BitVec 32 := Scalar.addi arg20 c1_i32_277
  let c0_i32_103 : BitVec 32 := 0#32
  let c1_i32_105 : BitVec 32 := 1#32
  let arg21 : BitVec 32 := Scf.iv c0_i32_103 c1_i32_105 k0_t37
  let v926 : BitVec 32 := Scalar.addi v925 arg21
  let v927 : Index := Scalar.indexCast v926
  let c880_278 : Index := 880#32
  ![v927.toNat, 880]
def k0_off2301 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v932 : Index := Scalar.indexCast arg21
  let c880_279 : Index := 880#32
  ![v932.toNat, 880]
def k0_off2302 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v936 : Index := Scalar.indexCast arg20
  let c896 : Index := 896#32
  ![v936.toNat, 896]
def k0_off2303 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_280 : BitVec 32 := 1#32
  let v939 : BitVec 32 := Scalar.addi arg20 c1_i32_280
  let c0_i32_103 : BitVec 32 := 0#32
  let c1_i32_105 : BitVec 32 := 1#32
  let arg21 : BitVec 32 := Scf.iv c0_i32_103 c1_i32_105 k0_t37
  let v940 : BitVec 32 := Scalar.addi v939 arg21
  let v941 : Index := Scalar.indexCast v940
  let c896_281 : Index := 896#32
  ![v941.toNat, 896]
def k0_off2304 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v946 : Index := Scalar.indexCast arg21
  let c896_282 : Index := 896#32
  ![v946.toNat, 896]
def k0_off2305 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v950 : Index := Scalar.indexCast arg20
  let c912 : Index := 912#32
  ![v950.toNat, 912]
def k0_off2306 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_283 : BitVec 32 := 1#32
  let v953 : BitVec 32 := Scalar.addi arg20 c1_i32_283
  let c0_i32_103 : BitVec 32 := 0#32
  let c1_i32_105 : BitVec 32 := 1#32
  let arg21 : BitVec 32 := Scf.iv c0_i32_103 c1_i32_105 k0_t37
  let v954 : BitVec 32 := Scalar.addi v953 arg21
  let v955 : Index := Scalar.indexCast v954
  let c912_284 : Index := 912#32
  ![v955.toNat, 912]
def k0_off2307 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v960 : Index := Scalar.indexCast arg21
  let c912_285 : Index := 912#32
  ![v960.toNat, 912]
def k0_off2308 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v964 : Index := Scalar.indexCast arg20
  let c928 : Index := 928#32
  ![v964.toNat, 928]
def k0_off2309 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_286 : BitVec 32 := 1#32
  let v967 : BitVec 32 := Scalar.addi arg20 c1_i32_286
  let c0_i32_103 : BitVec 32 := 0#32
  let c1_i32_105 : BitVec 32 := 1#32
  let arg21 : BitVec 32 := Scf.iv c0_i32_103 c1_i32_105 k0_t37
  let v968 : BitVec 32 := Scalar.addi v967 arg21
  let v969 : Index := Scalar.indexCast v968
  let c928_287 : Index := 928#32
  ![v969.toNat, 928]
def k0_off2310 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v974 : Index := Scalar.indexCast arg21
  let c928_288 : Index := 928#32
  ![v974.toNat, 928]
def k0_off2311 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v978 : Index := Scalar.indexCast arg20
  let c944 : Index := 944#32
  ![v978.toNat, 944]
def k0_off2312 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_289 : BitVec 32 := 1#32
  let v981 : BitVec 32 := Scalar.addi arg20 c1_i32_289
  let c0_i32_103 : BitVec 32 := 0#32
  let c1_i32_105 : BitVec 32 := 1#32
  let arg21 : BitVec 32 := Scf.iv c0_i32_103 c1_i32_105 k0_t37
  let v982 : BitVec 32 := Scalar.addi v981 arg21
  let v983 : Index := Scalar.indexCast v982
  let c944_290 : Index := 944#32
  ![v983.toNat, 944]
def k0_off2313 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v988 : Index := Scalar.indexCast arg21
  let c944_291 : Index := 944#32
  ![v988.toNat, 944]
def k0_off2314 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v992 : Index := Scalar.indexCast arg20
  let c960 : Index := 960#32
  ![v992.toNat, 960]
def k0_off2315 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_292 : BitVec 32 := 1#32
  let v995 : BitVec 32 := Scalar.addi arg20 c1_i32_292
  let c0_i32_103 : BitVec 32 := 0#32
  let c1_i32_105 : BitVec 32 := 1#32
  let arg21 : BitVec 32 := Scf.iv c0_i32_103 c1_i32_105 k0_t37
  let v996 : BitVec 32 := Scalar.addi v995 arg21
  let v997 : Index := Scalar.indexCast v996
  let c960_293 : Index := 960#32
  ![v997.toNat, 960]
def k0_off2316 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v1002 : Index := Scalar.indexCast arg21
  let c960_294 : Index := 960#32
  ![v1002.toNat, 960]
def k0_off2317 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v1006 : Index := Scalar.indexCast arg20
  let c976 : Index := 976#32
  ![v1006.toNat, 976]
def k0_off2318 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_295 : BitVec 32 := 1#32
  let v1009 : BitVec 32 := Scalar.addi arg20 c1_i32_295
  let c0_i32_103 : BitVec 32 := 0#32
  let c1_i32_105 : BitVec 32 := 1#32
  let arg21 : BitVec 32 := Scf.iv c0_i32_103 c1_i32_105 k0_t37
  let v1010 : BitVec 32 := Scalar.addi v1009 arg21
  let v1011 : Index := Scalar.indexCast v1010
  let c976_296 : Index := 976#32
  ![v1011.toNat, 976]
def k0_off2319 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v1016 : Index := Scalar.indexCast arg21
  let c976_297 : Index := 976#32
  ![v1016.toNat, 976]
def k0_off2320 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v1020 : Index := Scalar.indexCast arg20
  let c992 : Index := 992#32
  ![v1020.toNat, 992]
def k0_off2321 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_298 : BitVec 32 := 1#32
  let v1023 : BitVec 32 := Scalar.addi arg20 c1_i32_298
  let c0_i32_103 : BitVec 32 := 0#32
  let c1_i32_105 : BitVec 32 := 1#32
  let arg21 : BitVec 32 := Scf.iv c0_i32_103 c1_i32_105 k0_t37
  let v1024 : BitVec 32 := Scalar.addi v1023 arg21
  let v1025 : Index := Scalar.indexCast v1024
  let c992_299 : Index := 992#32
  ![v1025.toNat, 992]
def k0_off2322 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v1030 : Index := Scalar.indexCast arg21
  let c992_300 : Index := 992#32
  ![v1030.toNat, 992]
def k0_off2323 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v1034 : Index := Scalar.indexCast arg20
  let c1008 : Index := 1008#32
  ![v1034.toNat, 1008]
def k0_off2324 (k0_t36 : Fin k0_t36_loop.trips) (k0_t37 : Fin (k0_t37_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_301 : BitVec 32 := 1#32
  let v1037 : BitVec 32 := Scalar.addi arg20 c1_i32_301
  let c0_i32_103 : BitVec 32 := 0#32
  let c1_i32_105 : BitVec 32 := 1#32
  let arg21 : BitVec 32 := Scf.iv c0_i32_103 c1_i32_105 k0_t37
  let v1038 : BitVec 32 := Scalar.addi v1037 arg21
  let v1039 : Index := Scalar.indexCast v1038
  let c1008_302 : Index := 1008#32
  ![v1039.toNat, 1008]
def k0_off2325 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let v1044 : Index := Scalar.indexCast arg21
  let c1008_303 : Index := 1008#32
  ![v1044.toNat, 1008]
def k0_off2326 (k0_t36 : Fin k0_t36_loop.trips) (k0_t37 : Fin (k0_t37_loop k0_t36).trips) : Fin 2 → Nat :=
  let c0_i32_103 : BitVec 32 := 0#32
  let c1_i32_105 : BitVec 32 := 1#32
  let arg21 : BitVec 32 := Scf.iv c0_i32_103 c1_i32_105 k0_t37
  let c0_i32_304 : BitVec 32 := 0#32
  ![arg21.toNat, 0]
def k0_off2327 (i : grid0.Coords) (k0_t36 : Fin k0_t36_loop.trips) (k0_t37 : Fin (k0_t37_loop k0_t36).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c0_i32_80 : BitVec 32 := 0#32
  let v114 : BitVec 32 := Scalar.addi v42 c0_i32_80
  let c16_i32_93 : BitVec 32 := 16#32
  let v119 : BitVec 32 := Scalar.muli v114 c16_i32_93
  let c0_i32_82 : BitVec 32 := 0#32
  let c1_i32_84 : BitVec 32 := 1#32
  let arg20 : BitVec 32 := Scf.iv c0_i32_82 c1_i32_84 k0_t36
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c1_i32_105 : BitVec 32 := 1#32
  let arg21 : BitVec 32 := Scf.iv c0_i32_103 c1_i32_105 k0_t37
  let v1048 : BitVec 32 := Scalar.addi v141 arg21
  let c0_i32_305 : BitVec 32 := 0#32
  ![v1048.toNat, 0]
@[reducible] def k0_t38_loop (k0_t36 : Fin k0_t36_loop.trips) : Scf.Loop 32 :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let v143 : BitVec 32 := Scalar.addi c0_i32_103 v142
  let c1_i32_106 : BitVec 32 := 1#32
  ⟨v146, v143, c1_i32_106⟩
def k0_off2328 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v152 : Index := Scalar.indexCast arg20
  let c0 : Index := 0#32
  ![v152.toNat, 0]
def k0_off2329 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_112 : BitVec 32 := 1#32
  let v155 : BitVec 32 := Scalar.addi arg20 c1_i32_112
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v156 : BitVec 32 := Scalar.addi v155 arg21
  let v157 : Index := Scalar.indexCast v156
  let c0_113 : Index := 0#32
  ![v157.toNat, 0]
def k0_off2330 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v162 : Index := Scalar.indexCast arg21
  let c0_114 : Index := 0#32
  ![v162.toNat, 0]
def k0_off2331 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v166 : Index := Scalar.indexCast arg20
  let c16 : Index := 16#32
  ![v166.toNat, 16]
def k0_off2332 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_115 : BitVec 32 := 1#32
  let v169 : BitVec 32 := Scalar.addi arg20 c1_i32_115
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v170 : BitVec 32 := Scalar.addi v169 arg21
  let v171 : Index := Scalar.indexCast v170
  let c16_116 : Index := 16#32
  ![v171.toNat, 16]
def k0_off2333 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v176 : Index := Scalar.indexCast arg21
  let c16_117 : Index := 16#32
  ![v176.toNat, 16]
def k0_off2334 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v180 : Index := Scalar.indexCast arg20
  let c32 : Index := 32#32
  ![v180.toNat, 32]
def k0_off2335 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_118 : BitVec 32 := 1#32
  let v183 : BitVec 32 := Scalar.addi arg20 c1_i32_118
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v184 : BitVec 32 := Scalar.addi v183 arg21
  let v185 : Index := Scalar.indexCast v184
  let c32_119 : Index := 32#32
  ![v185.toNat, 32]
def k0_off2336 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v190 : Index := Scalar.indexCast arg21
  let c32_120 : Index := 32#32
  ![v190.toNat, 32]
def k0_off2337 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v194 : Index := Scalar.indexCast arg20
  let c48 : Index := 48#32
  ![v194.toNat, 48]
def k0_off2338 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_121 : BitVec 32 := 1#32
  let v197 : BitVec 32 := Scalar.addi arg20 c1_i32_121
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v198 : BitVec 32 := Scalar.addi v197 arg21
  let v199 : Index := Scalar.indexCast v198
  let c48_122 : Index := 48#32
  ![v199.toNat, 48]
def k0_off2339 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v204 : Index := Scalar.indexCast arg21
  let c48_123 : Index := 48#32
  ![v204.toNat, 48]
def k0_off2340 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v208 : Index := Scalar.indexCast arg20
  let c64 : Index := 64#32
  ![v208.toNat, 64]
def k0_off2341 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_124 : BitVec 32 := 1#32
  let v211 : BitVec 32 := Scalar.addi arg20 c1_i32_124
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v212 : BitVec 32 := Scalar.addi v211 arg21
  let v213 : Index := Scalar.indexCast v212
  let c64_125 : Index := 64#32
  ![v213.toNat, 64]
def k0_off2342 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v218 : Index := Scalar.indexCast arg21
  let c64_126 : Index := 64#32
  ![v218.toNat, 64]
def k0_off2343 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v222 : Index := Scalar.indexCast arg20
  let c80 : Index := 80#32
  ![v222.toNat, 80]
def k0_off2344 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_127 : BitVec 32 := 1#32
  let v225 : BitVec 32 := Scalar.addi arg20 c1_i32_127
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v226 : BitVec 32 := Scalar.addi v225 arg21
  let v227 : Index := Scalar.indexCast v226
  let c80_128 : Index := 80#32
  ![v227.toNat, 80]
def k0_off2345 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v232 : Index := Scalar.indexCast arg21
  let c80_129 : Index := 80#32
  ![v232.toNat, 80]
def k0_off2346 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v236 : Index := Scalar.indexCast arg20
  let c96 : Index := 96#32
  ![v236.toNat, 96]
def k0_off2347 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_130 : BitVec 32 := 1#32
  let v239 : BitVec 32 := Scalar.addi arg20 c1_i32_130
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v240 : BitVec 32 := Scalar.addi v239 arg21
  let v241 : Index := Scalar.indexCast v240
  let c96_131 : Index := 96#32
  ![v241.toNat, 96]
def k0_off2348 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v246 : Index := Scalar.indexCast arg21
  let c96_132 : Index := 96#32
  ![v246.toNat, 96]
def k0_off2349 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v250 : Index := Scalar.indexCast arg20
  let c112 : Index := 112#32
  ![v250.toNat, 112]
def k0_off2350 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_133 : BitVec 32 := 1#32
  let v253 : BitVec 32 := Scalar.addi arg20 c1_i32_133
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v254 : BitVec 32 := Scalar.addi v253 arg21
  let v255 : Index := Scalar.indexCast v254
  let c112_134 : Index := 112#32
  ![v255.toNat, 112]
def k0_off2351 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v260 : Index := Scalar.indexCast arg21
  let c112_135 : Index := 112#32
  ![v260.toNat, 112]
def k0_off2352 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v264 : Index := Scalar.indexCast arg20
  let c128 : Index := 128#32
  ![v264.toNat, 128]
def k0_off2353 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_136 : BitVec 32 := 1#32
  let v267 : BitVec 32 := Scalar.addi arg20 c1_i32_136
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v268 : BitVec 32 := Scalar.addi v267 arg21
  let v269 : Index := Scalar.indexCast v268
  let c128_137 : Index := 128#32
  ![v269.toNat, 128]
def k0_off2354 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v274 : Index := Scalar.indexCast arg21
  let c128_138 : Index := 128#32
  ![v274.toNat, 128]
def k0_off2355 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v278 : Index := Scalar.indexCast arg20
  let c144 : Index := 144#32
  ![v278.toNat, 144]
def k0_off2356 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_139 : BitVec 32 := 1#32
  let v281 : BitVec 32 := Scalar.addi arg20 c1_i32_139
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v282 : BitVec 32 := Scalar.addi v281 arg21
  let v283 : Index := Scalar.indexCast v282
  let c144_140 : Index := 144#32
  ![v283.toNat, 144]
def k0_off2357 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v288 : Index := Scalar.indexCast arg21
  let c144_141 : Index := 144#32
  ![v288.toNat, 144]
def k0_off2358 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v292 : Index := Scalar.indexCast arg20
  let c160 : Index := 160#32
  ![v292.toNat, 160]
def k0_off2359 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_142 : BitVec 32 := 1#32
  let v295 : BitVec 32 := Scalar.addi arg20 c1_i32_142
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v296 : BitVec 32 := Scalar.addi v295 arg21
  let v297 : Index := Scalar.indexCast v296
  let c160_143 : Index := 160#32
  ![v297.toNat, 160]
def k0_off2360 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v302 : Index := Scalar.indexCast arg21
  let c160_144 : Index := 160#32
  ![v302.toNat, 160]
def k0_off2361 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v306 : Index := Scalar.indexCast arg20
  let c176 : Index := 176#32
  ![v306.toNat, 176]
def k0_off2362 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_145 : BitVec 32 := 1#32
  let v309 : BitVec 32 := Scalar.addi arg20 c1_i32_145
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v310 : BitVec 32 := Scalar.addi v309 arg21
  let v311 : Index := Scalar.indexCast v310
  let c176_146 : Index := 176#32
  ![v311.toNat, 176]
def k0_off2363 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v316 : Index := Scalar.indexCast arg21
  let c176_147 : Index := 176#32
  ![v316.toNat, 176]
def k0_off2364 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v320 : Index := Scalar.indexCast arg20
  let c192 : Index := 192#32
  ![v320.toNat, 192]
def k0_off2365 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_148 : BitVec 32 := 1#32
  let v323 : BitVec 32 := Scalar.addi arg20 c1_i32_148
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v324 : BitVec 32 := Scalar.addi v323 arg21
  let v325 : Index := Scalar.indexCast v324
  let c192_149 : Index := 192#32
  ![v325.toNat, 192]
def k0_off2366 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v330 : Index := Scalar.indexCast arg21
  let c192_150 : Index := 192#32
  ![v330.toNat, 192]
def k0_off2367 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v334 : Index := Scalar.indexCast arg20
  let c208 : Index := 208#32
  ![v334.toNat, 208]
def k0_off2368 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_151 : BitVec 32 := 1#32
  let v337 : BitVec 32 := Scalar.addi arg20 c1_i32_151
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v338 : BitVec 32 := Scalar.addi v337 arg21
  let v339 : Index := Scalar.indexCast v338
  let c208_152 : Index := 208#32
  ![v339.toNat, 208]
def k0_off2369 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v344 : Index := Scalar.indexCast arg21
  let c208_153 : Index := 208#32
  ![v344.toNat, 208]
def k0_off2370 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v348 : Index := Scalar.indexCast arg20
  let c224 : Index := 224#32
  ![v348.toNat, 224]
def k0_off2371 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_154 : BitVec 32 := 1#32
  let v351 : BitVec 32 := Scalar.addi arg20 c1_i32_154
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v352 : BitVec 32 := Scalar.addi v351 arg21
  let v353 : Index := Scalar.indexCast v352
  let c224_155 : Index := 224#32
  ![v353.toNat, 224]
def k0_off2372 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v358 : Index := Scalar.indexCast arg21
  let c224_156 : Index := 224#32
  ![v358.toNat, 224]
def k0_off2373 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v362 : Index := Scalar.indexCast arg20
  let c240 : Index := 240#32
  ![v362.toNat, 240]
def k0_off2374 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_157 : BitVec 32 := 1#32
  let v365 : BitVec 32 := Scalar.addi arg20 c1_i32_157
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v366 : BitVec 32 := Scalar.addi v365 arg21
  let v367 : Index := Scalar.indexCast v366
  let c240_158 : Index := 240#32
  ![v367.toNat, 240]
def k0_off2375 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v372 : Index := Scalar.indexCast arg21
  let c240_159 : Index := 240#32
  ![v372.toNat, 240]
def k0_off2376 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v376 : Index := Scalar.indexCast arg20
  let c256 : Index := 256#32
  ![v376.toNat, 256]
def k0_off2377 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_160 : BitVec 32 := 1#32
  let v379 : BitVec 32 := Scalar.addi arg20 c1_i32_160
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v380 : BitVec 32 := Scalar.addi v379 arg21
  let v381 : Index := Scalar.indexCast v380
  let c256_161 : Index := 256#32
  ![v381.toNat, 256]
def k0_off2378 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v386 : Index := Scalar.indexCast arg21
  let c256_162 : Index := 256#32
  ![v386.toNat, 256]
def k0_off2379 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v390 : Index := Scalar.indexCast arg20
  let c272 : Index := 272#32
  ![v390.toNat, 272]
def k0_off2380 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_163 : BitVec 32 := 1#32
  let v393 : BitVec 32 := Scalar.addi arg20 c1_i32_163
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v394 : BitVec 32 := Scalar.addi v393 arg21
  let v395 : Index := Scalar.indexCast v394
  let c272_164 : Index := 272#32
  ![v395.toNat, 272]
def k0_off2381 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v400 : Index := Scalar.indexCast arg21
  let c272_165 : Index := 272#32
  ![v400.toNat, 272]
def k0_off2382 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v404 : Index := Scalar.indexCast arg20
  let c288 : Index := 288#32
  ![v404.toNat, 288]
def k0_off2383 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_166 : BitVec 32 := 1#32
  let v407 : BitVec 32 := Scalar.addi arg20 c1_i32_166
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v408 : BitVec 32 := Scalar.addi v407 arg21
  let v409 : Index := Scalar.indexCast v408
  let c288_167 : Index := 288#32
  ![v409.toNat, 288]
def k0_off2384 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v414 : Index := Scalar.indexCast arg21
  let c288_168 : Index := 288#32
  ![v414.toNat, 288]
def k0_off2385 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v418 : Index := Scalar.indexCast arg20
  let c304 : Index := 304#32
  ![v418.toNat, 304]
def k0_off2386 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_169 : BitVec 32 := 1#32
  let v421 : BitVec 32 := Scalar.addi arg20 c1_i32_169
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v422 : BitVec 32 := Scalar.addi v421 arg21
  let v423 : Index := Scalar.indexCast v422
  let c304_170 : Index := 304#32
  ![v423.toNat, 304]
def k0_off2387 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v428 : Index := Scalar.indexCast arg21
  let c304_171 : Index := 304#32
  ![v428.toNat, 304]
def k0_off2388 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v432 : Index := Scalar.indexCast arg20
  let c320 : Index := 320#32
  ![v432.toNat, 320]
def k0_off2389 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_172 : BitVec 32 := 1#32
  let v435 : BitVec 32 := Scalar.addi arg20 c1_i32_172
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v436 : BitVec 32 := Scalar.addi v435 arg21
  let v437 : Index := Scalar.indexCast v436
  let c320_173 : Index := 320#32
  ![v437.toNat, 320]
def k0_off2390 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v442 : Index := Scalar.indexCast arg21
  let c320_174 : Index := 320#32
  ![v442.toNat, 320]
def k0_off2391 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v446 : Index := Scalar.indexCast arg20
  let c336 : Index := 336#32
  ![v446.toNat, 336]
def k0_off2392 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_175 : BitVec 32 := 1#32
  let v449 : BitVec 32 := Scalar.addi arg20 c1_i32_175
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v450 : BitVec 32 := Scalar.addi v449 arg21
  let v451 : Index := Scalar.indexCast v450
  let c336_176 : Index := 336#32
  ![v451.toNat, 336]
def k0_off2393 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v456 : Index := Scalar.indexCast arg21
  let c336_177 : Index := 336#32
  ![v456.toNat, 336]
def k0_off2394 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v460 : Index := Scalar.indexCast arg20
  let c352 : Index := 352#32
  ![v460.toNat, 352]
def k0_off2395 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_178 : BitVec 32 := 1#32
  let v463 : BitVec 32 := Scalar.addi arg20 c1_i32_178
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v464 : BitVec 32 := Scalar.addi v463 arg21
  let v465 : Index := Scalar.indexCast v464
  let c352_179 : Index := 352#32
  ![v465.toNat, 352]
def k0_off2396 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v470 : Index := Scalar.indexCast arg21
  let c352_180 : Index := 352#32
  ![v470.toNat, 352]
def k0_off2397 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v474 : Index := Scalar.indexCast arg20
  let c368 : Index := 368#32
  ![v474.toNat, 368]
def k0_off2398 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_181 : BitVec 32 := 1#32
  let v477 : BitVec 32 := Scalar.addi arg20 c1_i32_181
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v478 : BitVec 32 := Scalar.addi v477 arg21
  let v479 : Index := Scalar.indexCast v478
  let c368_182 : Index := 368#32
  ![v479.toNat, 368]
def k0_off2399 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v484 : Index := Scalar.indexCast arg21
  let c368_183 : Index := 368#32
  ![v484.toNat, 368]
def k0_off2400 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v488 : Index := Scalar.indexCast arg20
  let c384 : Index := 384#32
  ![v488.toNat, 384]
def k0_off2401 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_184 : BitVec 32 := 1#32
  let v491 : BitVec 32 := Scalar.addi arg20 c1_i32_184
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v492 : BitVec 32 := Scalar.addi v491 arg21
  let v493 : Index := Scalar.indexCast v492
  let c384_185 : Index := 384#32
  ![v493.toNat, 384]
def k0_off2402 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v498 : Index := Scalar.indexCast arg21
  let c384_186 : Index := 384#32
  ![v498.toNat, 384]
def k0_off2403 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v502 : Index := Scalar.indexCast arg20
  let c400 : Index := 400#32
  ![v502.toNat, 400]
def k0_off2404 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_187 : BitVec 32 := 1#32
  let v505 : BitVec 32 := Scalar.addi arg20 c1_i32_187
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v506 : BitVec 32 := Scalar.addi v505 arg21
  let v507 : Index := Scalar.indexCast v506
  let c400_188 : Index := 400#32
  ![v507.toNat, 400]
def k0_off2405 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v512 : Index := Scalar.indexCast arg21
  let c400_189 : Index := 400#32
  ![v512.toNat, 400]
def k0_off2406 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v516 : Index := Scalar.indexCast arg20
  let c416 : Index := 416#32
  ![v516.toNat, 416]
def k0_off2407 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_190 : BitVec 32 := 1#32
  let v519 : BitVec 32 := Scalar.addi arg20 c1_i32_190
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v520 : BitVec 32 := Scalar.addi v519 arg21
  let v521 : Index := Scalar.indexCast v520
  let c416_191 : Index := 416#32
  ![v521.toNat, 416]
def k0_off2408 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v526 : Index := Scalar.indexCast arg21
  let c416_192 : Index := 416#32
  ![v526.toNat, 416]
def k0_off2409 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v530 : Index := Scalar.indexCast arg20
  let c432 : Index := 432#32
  ![v530.toNat, 432]
def k0_off2410 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_193 : BitVec 32 := 1#32
  let v533 : BitVec 32 := Scalar.addi arg20 c1_i32_193
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v534 : BitVec 32 := Scalar.addi v533 arg21
  let v535 : Index := Scalar.indexCast v534
  let c432_194 : Index := 432#32
  ![v535.toNat, 432]
def k0_off2411 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v540 : Index := Scalar.indexCast arg21
  let c432_195 : Index := 432#32
  ![v540.toNat, 432]
def k0_off2412 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v544 : Index := Scalar.indexCast arg20
  let c448 : Index := 448#32
  ![v544.toNat, 448]
def k0_off2413 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_196 : BitVec 32 := 1#32
  let v547 : BitVec 32 := Scalar.addi arg20 c1_i32_196
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v548 : BitVec 32 := Scalar.addi v547 arg21
  let v549 : Index := Scalar.indexCast v548
  let c448_197 : Index := 448#32
  ![v549.toNat, 448]
def k0_off2414 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v554 : Index := Scalar.indexCast arg21
  let c448_198 : Index := 448#32
  ![v554.toNat, 448]
def k0_off2415 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v558 : Index := Scalar.indexCast arg20
  let c464 : Index := 464#32
  ![v558.toNat, 464]
def k0_off2416 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_199 : BitVec 32 := 1#32
  let v561 : BitVec 32 := Scalar.addi arg20 c1_i32_199
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v562 : BitVec 32 := Scalar.addi v561 arg21
  let v563 : Index := Scalar.indexCast v562
  let c464_200 : Index := 464#32
  ![v563.toNat, 464]
def k0_off2417 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v568 : Index := Scalar.indexCast arg21
  let c464_201 : Index := 464#32
  ![v568.toNat, 464]
def k0_off2418 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v572 : Index := Scalar.indexCast arg20
  let c480 : Index := 480#32
  ![v572.toNat, 480]
def k0_off2419 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_202 : BitVec 32 := 1#32
  let v575 : BitVec 32 := Scalar.addi arg20 c1_i32_202
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v576 : BitVec 32 := Scalar.addi v575 arg21
  let v577 : Index := Scalar.indexCast v576
  let c480_203 : Index := 480#32
  ![v577.toNat, 480]
def k0_off2420 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v582 : Index := Scalar.indexCast arg21
  let c480_204 : Index := 480#32
  ![v582.toNat, 480]
def k0_off2421 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v586 : Index := Scalar.indexCast arg20
  let c496 : Index := 496#32
  ![v586.toNat, 496]
def k0_off2422 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_205 : BitVec 32 := 1#32
  let v589 : BitVec 32 := Scalar.addi arg20 c1_i32_205
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v590 : BitVec 32 := Scalar.addi v589 arg21
  let v591 : Index := Scalar.indexCast v590
  let c496_206 : Index := 496#32
  ![v591.toNat, 496]
def k0_off2423 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v596 : Index := Scalar.indexCast arg21
  let c496_207 : Index := 496#32
  ![v596.toNat, 496]
def k0_off2424 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v600 : Index := Scalar.indexCast arg20
  let c512 : Index := 512#32
  ![v600.toNat, 512]
def k0_off2425 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_208 : BitVec 32 := 1#32
  let v603 : BitVec 32 := Scalar.addi arg20 c1_i32_208
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v604 : BitVec 32 := Scalar.addi v603 arg21
  let v605 : Index := Scalar.indexCast v604
  let c512_209 : Index := 512#32
  ![v605.toNat, 512]
def k0_off2426 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v610 : Index := Scalar.indexCast arg21
  let c512_210 : Index := 512#32
  ![v610.toNat, 512]
def k0_off2427 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v614 : Index := Scalar.indexCast arg20
  let c528 : Index := 528#32
  ![v614.toNat, 528]
def k0_off2428 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_211 : BitVec 32 := 1#32
  let v617 : BitVec 32 := Scalar.addi arg20 c1_i32_211
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v618 : BitVec 32 := Scalar.addi v617 arg21
  let v619 : Index := Scalar.indexCast v618
  let c528_212 : Index := 528#32
  ![v619.toNat, 528]
def k0_off2429 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v624 : Index := Scalar.indexCast arg21
  let c528_213 : Index := 528#32
  ![v624.toNat, 528]
def k0_off2430 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v628 : Index := Scalar.indexCast arg20
  let c544 : Index := 544#32
  ![v628.toNat, 544]
def k0_off2431 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_214 : BitVec 32 := 1#32
  let v631 : BitVec 32 := Scalar.addi arg20 c1_i32_214
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v632 : BitVec 32 := Scalar.addi v631 arg21
  let v633 : Index := Scalar.indexCast v632
  let c544_215 : Index := 544#32
  ![v633.toNat, 544]
def k0_off2432 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v638 : Index := Scalar.indexCast arg21
  let c544_216 : Index := 544#32
  ![v638.toNat, 544]
def k0_off2433 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v642 : Index := Scalar.indexCast arg20
  let c560 : Index := 560#32
  ![v642.toNat, 560]
def k0_off2434 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_217 : BitVec 32 := 1#32
  let v645 : BitVec 32 := Scalar.addi arg20 c1_i32_217
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v646 : BitVec 32 := Scalar.addi v645 arg21
  let v647 : Index := Scalar.indexCast v646
  let c560_218 : Index := 560#32
  ![v647.toNat, 560]
def k0_off2435 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v652 : Index := Scalar.indexCast arg21
  let c560_219 : Index := 560#32
  ![v652.toNat, 560]
def k0_off2436 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v656 : Index := Scalar.indexCast arg20
  let c576 : Index := 576#32
  ![v656.toNat, 576]
def k0_off2437 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_220 : BitVec 32 := 1#32
  let v659 : BitVec 32 := Scalar.addi arg20 c1_i32_220
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v660 : BitVec 32 := Scalar.addi v659 arg21
  let v661 : Index := Scalar.indexCast v660
  let c576_221 : Index := 576#32
  ![v661.toNat, 576]
def k0_off2438 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v666 : Index := Scalar.indexCast arg21
  let c576_222 : Index := 576#32
  ![v666.toNat, 576]
def k0_off2439 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v670 : Index := Scalar.indexCast arg20
  let c592 : Index := 592#32
  ![v670.toNat, 592]
def k0_off2440 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_223 : BitVec 32 := 1#32
  let v673 : BitVec 32 := Scalar.addi arg20 c1_i32_223
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v674 : BitVec 32 := Scalar.addi v673 arg21
  let v675 : Index := Scalar.indexCast v674
  let c592_224 : Index := 592#32
  ![v675.toNat, 592]
def k0_off2441 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v680 : Index := Scalar.indexCast arg21
  let c592_225 : Index := 592#32
  ![v680.toNat, 592]
def k0_off2442 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v684 : Index := Scalar.indexCast arg20
  let c608 : Index := 608#32
  ![v684.toNat, 608]
def k0_off2443 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_226 : BitVec 32 := 1#32
  let v687 : BitVec 32 := Scalar.addi arg20 c1_i32_226
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v688 : BitVec 32 := Scalar.addi v687 arg21
  let v689 : Index := Scalar.indexCast v688
  let c608_227 : Index := 608#32
  ![v689.toNat, 608]
def k0_off2444 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v694 : Index := Scalar.indexCast arg21
  let c608_228 : Index := 608#32
  ![v694.toNat, 608]
def k0_off2445 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v698 : Index := Scalar.indexCast arg20
  let c624 : Index := 624#32
  ![v698.toNat, 624]
def k0_off2446 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_229 : BitVec 32 := 1#32
  let v701 : BitVec 32 := Scalar.addi arg20 c1_i32_229
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v702 : BitVec 32 := Scalar.addi v701 arg21
  let v703 : Index := Scalar.indexCast v702
  let c624_230 : Index := 624#32
  ![v703.toNat, 624]
def k0_off2447 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v708 : Index := Scalar.indexCast arg21
  let c624_231 : Index := 624#32
  ![v708.toNat, 624]
def k0_off2448 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v712 : Index := Scalar.indexCast arg20
  let c640 : Index := 640#32
  ![v712.toNat, 640]
def k0_off2449 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_232 : BitVec 32 := 1#32
  let v715 : BitVec 32 := Scalar.addi arg20 c1_i32_232
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v716 : BitVec 32 := Scalar.addi v715 arg21
  let v717 : Index := Scalar.indexCast v716
  let c640_233 : Index := 640#32
  ![v717.toNat, 640]
def k0_off2450 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v722 : Index := Scalar.indexCast arg21
  let c640_234 : Index := 640#32
  ![v722.toNat, 640]
def k0_off2451 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v726 : Index := Scalar.indexCast arg20
  let c656 : Index := 656#32
  ![v726.toNat, 656]
def k0_off2452 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_235 : BitVec 32 := 1#32
  let v729 : BitVec 32 := Scalar.addi arg20 c1_i32_235
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v730 : BitVec 32 := Scalar.addi v729 arg21
  let v731 : Index := Scalar.indexCast v730
  let c656_236 : Index := 656#32
  ![v731.toNat, 656]
def k0_off2453 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v736 : Index := Scalar.indexCast arg21
  let c656_237 : Index := 656#32
  ![v736.toNat, 656]
def k0_off2454 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v740 : Index := Scalar.indexCast arg20
  let c672 : Index := 672#32
  ![v740.toNat, 672]
def k0_off2455 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_238 : BitVec 32 := 1#32
  let v743 : BitVec 32 := Scalar.addi arg20 c1_i32_238
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v744 : BitVec 32 := Scalar.addi v743 arg21
  let v745 : Index := Scalar.indexCast v744
  let c672_239 : Index := 672#32
  ![v745.toNat, 672]
def k0_off2456 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v750 : Index := Scalar.indexCast arg21
  let c672_240 : Index := 672#32
  ![v750.toNat, 672]
def k0_off2457 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v754 : Index := Scalar.indexCast arg20
  let c688 : Index := 688#32
  ![v754.toNat, 688]
def k0_off2458 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_241 : BitVec 32 := 1#32
  let v757 : BitVec 32 := Scalar.addi arg20 c1_i32_241
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v758 : BitVec 32 := Scalar.addi v757 arg21
  let v759 : Index := Scalar.indexCast v758
  let c688_242 : Index := 688#32
  ![v759.toNat, 688]
def k0_off2459 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v764 : Index := Scalar.indexCast arg21
  let c688_243 : Index := 688#32
  ![v764.toNat, 688]
def k0_off2460 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v768 : Index := Scalar.indexCast arg20
  let c704 : Index := 704#32
  ![v768.toNat, 704]
def k0_off2461 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_244 : BitVec 32 := 1#32
  let v771 : BitVec 32 := Scalar.addi arg20 c1_i32_244
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v772 : BitVec 32 := Scalar.addi v771 arg21
  let v773 : Index := Scalar.indexCast v772
  let c704_245 : Index := 704#32
  ![v773.toNat, 704]
def k0_off2462 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v778 : Index := Scalar.indexCast arg21
  let c704_246 : Index := 704#32
  ![v778.toNat, 704]
def k0_off2463 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v782 : Index := Scalar.indexCast arg20
  let c720 : Index := 720#32
  ![v782.toNat, 720]
def k0_off2464 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_247 : BitVec 32 := 1#32
  let v785 : BitVec 32 := Scalar.addi arg20 c1_i32_247
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v786 : BitVec 32 := Scalar.addi v785 arg21
  let v787 : Index := Scalar.indexCast v786
  let c720_248 : Index := 720#32
  ![v787.toNat, 720]
def k0_off2465 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v792 : Index := Scalar.indexCast arg21
  let c720_249 : Index := 720#32
  ![v792.toNat, 720]
def k0_off2466 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v796 : Index := Scalar.indexCast arg20
  let c736 : Index := 736#32
  ![v796.toNat, 736]
def k0_off2467 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_250 : BitVec 32 := 1#32
  let v799 : BitVec 32 := Scalar.addi arg20 c1_i32_250
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v800 : BitVec 32 := Scalar.addi v799 arg21
  let v801 : Index := Scalar.indexCast v800
  let c736_251 : Index := 736#32
  ![v801.toNat, 736]
def k0_off2468 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v806 : Index := Scalar.indexCast arg21
  let c736_252 : Index := 736#32
  ![v806.toNat, 736]
def k0_off2469 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v810 : Index := Scalar.indexCast arg20
  let c752 : Index := 752#32
  ![v810.toNat, 752]
def k0_off2470 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_253 : BitVec 32 := 1#32
  let v813 : BitVec 32 := Scalar.addi arg20 c1_i32_253
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v814 : BitVec 32 := Scalar.addi v813 arg21
  let v815 : Index := Scalar.indexCast v814
  let c752_254 : Index := 752#32
  ![v815.toNat, 752]
def k0_off2471 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v820 : Index := Scalar.indexCast arg21
  let c752_255 : Index := 752#32
  ![v820.toNat, 752]
def k0_off2472 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v824 : Index := Scalar.indexCast arg20
  let c768 : Index := 768#32
  ![v824.toNat, 768]
def k0_off2473 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_256 : BitVec 32 := 1#32
  let v827 : BitVec 32 := Scalar.addi arg20 c1_i32_256
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v828 : BitVec 32 := Scalar.addi v827 arg21
  let v829 : Index := Scalar.indexCast v828
  let c768_257 : Index := 768#32
  ![v829.toNat, 768]
def k0_off2474 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v834 : Index := Scalar.indexCast arg21
  let c768_258 : Index := 768#32
  ![v834.toNat, 768]
def k0_off2475 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v838 : Index := Scalar.indexCast arg20
  let c784 : Index := 784#32
  ![v838.toNat, 784]
def k0_off2476 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_259 : BitVec 32 := 1#32
  let v841 : BitVec 32 := Scalar.addi arg20 c1_i32_259
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v842 : BitVec 32 := Scalar.addi v841 arg21
  let v843 : Index := Scalar.indexCast v842
  let c784_260 : Index := 784#32
  ![v843.toNat, 784]
def k0_off2477 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v848 : Index := Scalar.indexCast arg21
  let c784_261 : Index := 784#32
  ![v848.toNat, 784]
def k0_off2478 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v852 : Index := Scalar.indexCast arg20
  let c800 : Index := 800#32
  ![v852.toNat, 800]
def k0_off2479 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_262 : BitVec 32 := 1#32
  let v855 : BitVec 32 := Scalar.addi arg20 c1_i32_262
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v856 : BitVec 32 := Scalar.addi v855 arg21
  let v857 : Index := Scalar.indexCast v856
  let c800_263 : Index := 800#32
  ![v857.toNat, 800]
def k0_off2480 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v862 : Index := Scalar.indexCast arg21
  let c800_264 : Index := 800#32
  ![v862.toNat, 800]
def k0_off2481 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v866 : Index := Scalar.indexCast arg20
  let c816 : Index := 816#32
  ![v866.toNat, 816]
def k0_off2482 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_265 : BitVec 32 := 1#32
  let v869 : BitVec 32 := Scalar.addi arg20 c1_i32_265
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v870 : BitVec 32 := Scalar.addi v869 arg21
  let v871 : Index := Scalar.indexCast v870
  let c816_266 : Index := 816#32
  ![v871.toNat, 816]
def k0_off2483 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v876 : Index := Scalar.indexCast arg21
  let c816_267 : Index := 816#32
  ![v876.toNat, 816]
def k0_off2484 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v880 : Index := Scalar.indexCast arg20
  let c832 : Index := 832#32
  ![v880.toNat, 832]
def k0_off2485 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_268 : BitVec 32 := 1#32
  let v883 : BitVec 32 := Scalar.addi arg20 c1_i32_268
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v884 : BitVec 32 := Scalar.addi v883 arg21
  let v885 : Index := Scalar.indexCast v884
  let c832_269 : Index := 832#32
  ![v885.toNat, 832]
def k0_off2486 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v890 : Index := Scalar.indexCast arg21
  let c832_270 : Index := 832#32
  ![v890.toNat, 832]
def k0_off2487 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v894 : Index := Scalar.indexCast arg20
  let c848 : Index := 848#32
  ![v894.toNat, 848]
def k0_off2488 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_271 : BitVec 32 := 1#32
  let v897 : BitVec 32 := Scalar.addi arg20 c1_i32_271
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v898 : BitVec 32 := Scalar.addi v897 arg21
  let v899 : Index := Scalar.indexCast v898
  let c848_272 : Index := 848#32
  ![v899.toNat, 848]
def k0_off2489 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v904 : Index := Scalar.indexCast arg21
  let c848_273 : Index := 848#32
  ![v904.toNat, 848]
def k0_off2490 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v908 : Index := Scalar.indexCast arg20
  let c864 : Index := 864#32
  ![v908.toNat, 864]
def k0_off2491 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_274 : BitVec 32 := 1#32
  let v911 : BitVec 32 := Scalar.addi arg20 c1_i32_274
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v912 : BitVec 32 := Scalar.addi v911 arg21
  let v913 : Index := Scalar.indexCast v912
  let c864_275 : Index := 864#32
  ![v913.toNat, 864]
def k0_off2492 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v918 : Index := Scalar.indexCast arg21
  let c864_276 : Index := 864#32
  ![v918.toNat, 864]
def k0_off2493 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v922 : Index := Scalar.indexCast arg20
  let c880 : Index := 880#32
  ![v922.toNat, 880]
def k0_off2494 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_277 : BitVec 32 := 1#32
  let v925 : BitVec 32 := Scalar.addi arg20 c1_i32_277
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v926 : BitVec 32 := Scalar.addi v925 arg21
  let v927 : Index := Scalar.indexCast v926
  let c880_278 : Index := 880#32
  ![v927.toNat, 880]
def k0_off2495 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v932 : Index := Scalar.indexCast arg21
  let c880_279 : Index := 880#32
  ![v932.toNat, 880]
def k0_off2496 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v936 : Index := Scalar.indexCast arg20
  let c896 : Index := 896#32
  ![v936.toNat, 896]
def k0_off2497 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_280 : BitVec 32 := 1#32
  let v939 : BitVec 32 := Scalar.addi arg20 c1_i32_280
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v940 : BitVec 32 := Scalar.addi v939 arg21
  let v941 : Index := Scalar.indexCast v940
  let c896_281 : Index := 896#32
  ![v941.toNat, 896]
def k0_off2498 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v946 : Index := Scalar.indexCast arg21
  let c896_282 : Index := 896#32
  ![v946.toNat, 896]
def k0_off2499 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v950 : Index := Scalar.indexCast arg20
  let c912 : Index := 912#32
  ![v950.toNat, 912]
def k0_off2500 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_283 : BitVec 32 := 1#32
  let v953 : BitVec 32 := Scalar.addi arg20 c1_i32_283
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v954 : BitVec 32 := Scalar.addi v953 arg21
  let v955 : Index := Scalar.indexCast v954
  let c912_284 : Index := 912#32
  ![v955.toNat, 912]
def k0_off2501 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v960 : Index := Scalar.indexCast arg21
  let c912_285 : Index := 912#32
  ![v960.toNat, 912]
def k0_off2502 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v964 : Index := Scalar.indexCast arg20
  let c928 : Index := 928#32
  ![v964.toNat, 928]
def k0_off2503 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_286 : BitVec 32 := 1#32
  let v967 : BitVec 32 := Scalar.addi arg20 c1_i32_286
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v968 : BitVec 32 := Scalar.addi v967 arg21
  let v969 : Index := Scalar.indexCast v968
  let c928_287 : Index := 928#32
  ![v969.toNat, 928]
def k0_off2504 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v974 : Index := Scalar.indexCast arg21
  let c928_288 : Index := 928#32
  ![v974.toNat, 928]
def k0_off2505 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v978 : Index := Scalar.indexCast arg20
  let c944 : Index := 944#32
  ![v978.toNat, 944]
def k0_off2506 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_289 : BitVec 32 := 1#32
  let v981 : BitVec 32 := Scalar.addi arg20 c1_i32_289
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v982 : BitVec 32 := Scalar.addi v981 arg21
  let v983 : Index := Scalar.indexCast v982
  let c944_290 : Index := 944#32
  ![v983.toNat, 944]
def k0_off2507 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v988 : Index := Scalar.indexCast arg21
  let c944_291 : Index := 944#32
  ![v988.toNat, 944]
def k0_off2508 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v992 : Index := Scalar.indexCast arg20
  let c960 : Index := 960#32
  ![v992.toNat, 960]
def k0_off2509 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_292 : BitVec 32 := 1#32
  let v995 : BitVec 32 := Scalar.addi arg20 c1_i32_292
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v996 : BitVec 32 := Scalar.addi v995 arg21
  let v997 : Index := Scalar.indexCast v996
  let c960_293 : Index := 960#32
  ![v997.toNat, 960]
def k0_off2510 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v1002 : Index := Scalar.indexCast arg21
  let c960_294 : Index := 960#32
  ![v1002.toNat, 960]
def k0_off2511 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v1006 : Index := Scalar.indexCast arg20
  let c976 : Index := 976#32
  ![v1006.toNat, 976]
def k0_off2512 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_295 : BitVec 32 := 1#32
  let v1009 : BitVec 32 := Scalar.addi arg20 c1_i32_295
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v1010 : BitVec 32 := Scalar.addi v1009 arg21
  let v1011 : Index := Scalar.indexCast v1010
  let c976_296 : Index := 976#32
  ![v1011.toNat, 976]
def k0_off2513 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v1016 : Index := Scalar.indexCast arg21
  let c976_297 : Index := 976#32
  ![v1016.toNat, 976]
def k0_off2514 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v1020 : Index := Scalar.indexCast arg20
  let c992 : Index := 992#32
  ![v1020.toNat, 992]
def k0_off2515 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_298 : BitVec 32 := 1#32
  let v1023 : BitVec 32 := Scalar.addi arg20 c1_i32_298
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v1024 : BitVec 32 := Scalar.addi v1023 arg21
  let v1025 : Index := Scalar.indexCast v1024
  let c992_299 : Index := 992#32
  ![v1025.toNat, 992]
def k0_off2516 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v1030 : Index := Scalar.indexCast arg21
  let c992_300 : Index := 992#32
  ![v1030.toNat, 992]
def k0_off2517 (k0_t36 : Fin k0_t36_loop.trips) : Fin 2 → Nat :=
  let c0_i32_82 : BitVec 32 := 0#32
  let c1_i32_84 : BitVec 32 := 1#32
  let arg20 : BitVec 32 := Scf.iv c0_i32_82 c1_i32_84 k0_t36
  let v1034 : Index := Scalar.indexCast arg20
  let c1008 : Index := 1008#32
  ![v1034.toNat, 1008]
def k0_off2518 (k0_t36 : Fin k0_t36_loop.trips) (k0_t38 : Fin (k0_t38_loop k0_t36).trips) : Fin 2 → Nat :=
  let c0_i32_82 : BitVec 32 := 0#32
  let c1_i32_84 : BitVec 32 := 1#32
  let arg20 : BitVec 32 := Scf.iv c0_i32_82 c1_i32_84 k0_t36
  let c1_i32_301 : BitVec 32 := 1#32
  let v1037 : BitVec 32 := Scalar.addi arg20 c1_i32_301
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v1038 : BitVec 32 := Scalar.addi v1037 arg21
  let v1039 : Index := Scalar.indexCast v1038
  let c1008_302 : Index := 1008#32
  ![v1039.toNat, 1008]
def k0_off2519 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v1044 : Index := Scalar.indexCast arg21
  let c1008_303 : Index := 1008#32
  ![v1044.toNat, 1008]
def k0_off2520 (k0_t36 : Fin k0_t36_loop.trips) (k0_t38 : Fin (k0_t38_loop k0_t36).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let c0_i32_304 : BitVec 32 := 0#32
  ![arg21.toNat, 0]
def k0_off2521 (i : grid0.Coords) (k0_t36 : Fin k0_t36_loop.trips) (k0_t38 : Fin (k0_t38_loop k0_t36).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c0_i32_80 : BitVec 32 := 0#32
  let v114 : BitVec 32 := Scalar.addi v42 c0_i32_80
  let c16_i32_93 : BitVec 32 := 16#32
  let v119 : BitVec 32 := Scalar.muli v114 c16_i32_93
  let c0_i32_82 : BitVec 32 := 0#32
  let c1_i32_84 : BitVec 32 := 1#32
  let arg20 : BitVec 32 := Scf.iv c0_i32_82 c1_i32_84 k0_t36
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t38
  let v1048 : BitVec 32 := Scalar.addi v141 arg21
  let c0_i32_305 : BitVec 32 := 0#32
  ![v1048.toNat, 0]
@[reducible] def k0_t39_loop (k0_t36 : Fin k0_t36_loop.trips) : Scf.Loop 32 :=
  let c0_i32_108 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let c1_i32_110 : BitVec 32 := 1#32
  ⟨c0_i32_108, v151, c1_i32_110⟩
@[reducible] def k0_t40_loop (k0_t36 : Fin k0_t36_loop.trips) : Scf.Loop 32 :=
  let c0_i32_108 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t36
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let v148 : BitVec 32 := Scalar.addi c0_i32_108 v147
  let c1_i32_111 : BitVec 32 := 1#32
  ⟨v151, v148, c1_i32_111⟩
@[reducible] def k0_t41_loop : Scf.Loop 32 :=
  let c0_i32_88 : BitVec 32 := 0#32
  let c15_i32_89 : BitVec 32 := 15#32
  let v117 : BitVec 32 := Scalar.addi c0_i32_88 c15_i32_89
  let c1_i32_90 : BitVec 32 := 1#32
  ⟨c0_i32_88, v117, c1_i32_90⟩
@[reducible] def k0_t42_loop (k0_t41 : Fin k0_t41_loop.trips) : Scf.Loop 32 :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_105 : BitVec 32 := 1#32
  ⟨c0_i32_103, v146, c1_i32_105⟩
def k0_off2522 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v152 : Index := Scalar.indexCast arg20
  let c0 : Index := 0#32
  ![v152.toNat, 0]
def k0_off2523 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_112 : BitVec 32 := 1#32
  let v155 : BitVec 32 := Scalar.addi arg20 c1_i32_112
  let c0_i32_103 : BitVec 32 := 0#32
  let c1_i32_105 : BitVec 32 := 1#32
  let arg21 : BitVec 32 := Scf.iv c0_i32_103 c1_i32_105 k0_t42
  let v156 : BitVec 32 := Scalar.addi v155 arg21
  let v157 : Index := Scalar.indexCast v156
  let c0_113 : Index := 0#32
  ![v157.toNat, 0]
def k0_off2524 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v162 : Index := Scalar.indexCast arg21
  let c0_114 : Index := 0#32
  ![v162.toNat, 0]
def k0_off2525 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v166 : Index := Scalar.indexCast arg20
  let c16 : Index := 16#32
  ![v166.toNat, 16]
def k0_off2526 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_115 : BitVec 32 := 1#32
  let v169 : BitVec 32 := Scalar.addi arg20 c1_i32_115
  let c0_i32_103 : BitVec 32 := 0#32
  let c1_i32_105 : BitVec 32 := 1#32
  let arg21 : BitVec 32 := Scf.iv c0_i32_103 c1_i32_105 k0_t42
  let v170 : BitVec 32 := Scalar.addi v169 arg21
  let v171 : Index := Scalar.indexCast v170
  let c16_116 : Index := 16#32
  ![v171.toNat, 16]
def k0_off2527 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v176 : Index := Scalar.indexCast arg21
  let c16_117 : Index := 16#32
  ![v176.toNat, 16]
def k0_off2528 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v180 : Index := Scalar.indexCast arg20
  let c32 : Index := 32#32
  ![v180.toNat, 32]
def k0_off2529 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_118 : BitVec 32 := 1#32
  let v183 : BitVec 32 := Scalar.addi arg20 c1_i32_118
  let c0_i32_103 : BitVec 32 := 0#32
  let c1_i32_105 : BitVec 32 := 1#32
  let arg21 : BitVec 32 := Scf.iv c0_i32_103 c1_i32_105 k0_t42
  let v184 : BitVec 32 := Scalar.addi v183 arg21
  let v185 : Index := Scalar.indexCast v184
  let c32_119 : Index := 32#32
  ![v185.toNat, 32]
def k0_off2530 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v190 : Index := Scalar.indexCast arg21
  let c32_120 : Index := 32#32
  ![v190.toNat, 32]
def k0_off2531 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v194 : Index := Scalar.indexCast arg20
  let c48 : Index := 48#32
  ![v194.toNat, 48]
def k0_off2532 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_121 : BitVec 32 := 1#32
  let v197 : BitVec 32 := Scalar.addi arg20 c1_i32_121
  let c0_i32_103 : BitVec 32 := 0#32
  let c1_i32_105 : BitVec 32 := 1#32
  let arg21 : BitVec 32 := Scf.iv c0_i32_103 c1_i32_105 k0_t42
  let v198 : BitVec 32 := Scalar.addi v197 arg21
  let v199 : Index := Scalar.indexCast v198
  let c48_122 : Index := 48#32
  ![v199.toNat, 48]
def k0_off2533 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v204 : Index := Scalar.indexCast arg21
  let c48_123 : Index := 48#32
  ![v204.toNat, 48]
def k0_off2534 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v208 : Index := Scalar.indexCast arg20
  let c64 : Index := 64#32
  ![v208.toNat, 64]
def k0_off2535 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_124 : BitVec 32 := 1#32
  let v211 : BitVec 32 := Scalar.addi arg20 c1_i32_124
  let c0_i32_103 : BitVec 32 := 0#32
  let c1_i32_105 : BitVec 32 := 1#32
  let arg21 : BitVec 32 := Scf.iv c0_i32_103 c1_i32_105 k0_t42
  let v212 : BitVec 32 := Scalar.addi v211 arg21
  let v213 : Index := Scalar.indexCast v212
  let c64_125 : Index := 64#32
  ![v213.toNat, 64]
def k0_off2536 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v218 : Index := Scalar.indexCast arg21
  let c64_126 : Index := 64#32
  ![v218.toNat, 64]
def k0_off2537 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v222 : Index := Scalar.indexCast arg20
  let c80 : Index := 80#32
  ![v222.toNat, 80]
def k0_off2538 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_127 : BitVec 32 := 1#32
  let v225 : BitVec 32 := Scalar.addi arg20 c1_i32_127
  let c0_i32_103 : BitVec 32 := 0#32
  let c1_i32_105 : BitVec 32 := 1#32
  let arg21 : BitVec 32 := Scf.iv c0_i32_103 c1_i32_105 k0_t42
  let v226 : BitVec 32 := Scalar.addi v225 arg21
  let v227 : Index := Scalar.indexCast v226
  let c80_128 : Index := 80#32
  ![v227.toNat, 80]
def k0_off2539 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v232 : Index := Scalar.indexCast arg21
  let c80_129 : Index := 80#32
  ![v232.toNat, 80]
def k0_off2540 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v236 : Index := Scalar.indexCast arg20
  let c96 : Index := 96#32
  ![v236.toNat, 96]
def k0_off2541 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_130 : BitVec 32 := 1#32
  let v239 : BitVec 32 := Scalar.addi arg20 c1_i32_130
  let c0_i32_103 : BitVec 32 := 0#32
  let c1_i32_105 : BitVec 32 := 1#32
  let arg21 : BitVec 32 := Scf.iv c0_i32_103 c1_i32_105 k0_t42
  let v240 : BitVec 32 := Scalar.addi v239 arg21
  let v241 : Index := Scalar.indexCast v240
  let c96_131 : Index := 96#32
  ![v241.toNat, 96]
def k0_off2542 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v246 : Index := Scalar.indexCast arg21
  let c96_132 : Index := 96#32
  ![v246.toNat, 96]
def k0_off2543 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v250 : Index := Scalar.indexCast arg20
  let c112 : Index := 112#32
  ![v250.toNat, 112]
def k0_off2544 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_133 : BitVec 32 := 1#32
  let v253 : BitVec 32 := Scalar.addi arg20 c1_i32_133
  let c0_i32_103 : BitVec 32 := 0#32
  let c1_i32_105 : BitVec 32 := 1#32
  let arg21 : BitVec 32 := Scf.iv c0_i32_103 c1_i32_105 k0_t42
  let v254 : BitVec 32 := Scalar.addi v253 arg21
  let v255 : Index := Scalar.indexCast v254
  let c112_134 : Index := 112#32
  ![v255.toNat, 112]
def k0_off2545 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v260 : Index := Scalar.indexCast arg21
  let c112_135 : Index := 112#32
  ![v260.toNat, 112]
def k0_off2546 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v264 : Index := Scalar.indexCast arg20
  let c128 : Index := 128#32
  ![v264.toNat, 128]
def k0_off2547 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_136 : BitVec 32 := 1#32
  let v267 : BitVec 32 := Scalar.addi arg20 c1_i32_136
  let c0_i32_103 : BitVec 32 := 0#32
  let c1_i32_105 : BitVec 32 := 1#32
  let arg21 : BitVec 32 := Scf.iv c0_i32_103 c1_i32_105 k0_t42
  let v268 : BitVec 32 := Scalar.addi v267 arg21
  let v269 : Index := Scalar.indexCast v268
  let c128_137 : Index := 128#32
  ![v269.toNat, 128]
def k0_off2548 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v274 : Index := Scalar.indexCast arg21
  let c128_138 : Index := 128#32
  ![v274.toNat, 128]
def k0_off2549 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v278 : Index := Scalar.indexCast arg20
  let c144 : Index := 144#32
  ![v278.toNat, 144]
def k0_off2550 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_139 : BitVec 32 := 1#32
  let v281 : BitVec 32 := Scalar.addi arg20 c1_i32_139
  let c0_i32_103 : BitVec 32 := 0#32
  let c1_i32_105 : BitVec 32 := 1#32
  let arg21 : BitVec 32 := Scf.iv c0_i32_103 c1_i32_105 k0_t42
  let v282 : BitVec 32 := Scalar.addi v281 arg21
  let v283 : Index := Scalar.indexCast v282
  let c144_140 : Index := 144#32
  ![v283.toNat, 144]
def k0_off2551 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v288 : Index := Scalar.indexCast arg21
  let c144_141 : Index := 144#32
  ![v288.toNat, 144]
def k0_off2552 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v292 : Index := Scalar.indexCast arg20
  let c160 : Index := 160#32
  ![v292.toNat, 160]
def k0_off2553 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_142 : BitVec 32 := 1#32
  let v295 : BitVec 32 := Scalar.addi arg20 c1_i32_142
  let c0_i32_103 : BitVec 32 := 0#32
  let c1_i32_105 : BitVec 32 := 1#32
  let arg21 : BitVec 32 := Scf.iv c0_i32_103 c1_i32_105 k0_t42
  let v296 : BitVec 32 := Scalar.addi v295 arg21
  let v297 : Index := Scalar.indexCast v296
  let c160_143 : Index := 160#32
  ![v297.toNat, 160]
def k0_off2554 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v302 : Index := Scalar.indexCast arg21
  let c160_144 : Index := 160#32
  ![v302.toNat, 160]
def k0_off2555 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v306 : Index := Scalar.indexCast arg20
  let c176 : Index := 176#32
  ![v306.toNat, 176]
def k0_off2556 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_145 : BitVec 32 := 1#32
  let v309 : BitVec 32 := Scalar.addi arg20 c1_i32_145
  let c0_i32_103 : BitVec 32 := 0#32
  let c1_i32_105 : BitVec 32 := 1#32
  let arg21 : BitVec 32 := Scf.iv c0_i32_103 c1_i32_105 k0_t42
  let v310 : BitVec 32 := Scalar.addi v309 arg21
  let v311 : Index := Scalar.indexCast v310
  let c176_146 : Index := 176#32
  ![v311.toNat, 176]
def k0_off2557 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v316 : Index := Scalar.indexCast arg21
  let c176_147 : Index := 176#32
  ![v316.toNat, 176]
def k0_off2558 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v320 : Index := Scalar.indexCast arg20
  let c192 : Index := 192#32
  ![v320.toNat, 192]
def k0_off2559 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_148 : BitVec 32 := 1#32
  let v323 : BitVec 32 := Scalar.addi arg20 c1_i32_148
  let c0_i32_103 : BitVec 32 := 0#32
  let c1_i32_105 : BitVec 32 := 1#32
  let arg21 : BitVec 32 := Scf.iv c0_i32_103 c1_i32_105 k0_t42
  let v324 : BitVec 32 := Scalar.addi v323 arg21
  let v325 : Index := Scalar.indexCast v324
  let c192_149 : Index := 192#32
  ![v325.toNat, 192]
def k0_off2560 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v330 : Index := Scalar.indexCast arg21
  let c192_150 : Index := 192#32
  ![v330.toNat, 192]
def k0_off2561 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v334 : Index := Scalar.indexCast arg20
  let c208 : Index := 208#32
  ![v334.toNat, 208]
def k0_off2562 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_151 : BitVec 32 := 1#32
  let v337 : BitVec 32 := Scalar.addi arg20 c1_i32_151
  let c0_i32_103 : BitVec 32 := 0#32
  let c1_i32_105 : BitVec 32 := 1#32
  let arg21 : BitVec 32 := Scf.iv c0_i32_103 c1_i32_105 k0_t42
  let v338 : BitVec 32 := Scalar.addi v337 arg21
  let v339 : Index := Scalar.indexCast v338
  let c208_152 : Index := 208#32
  ![v339.toNat, 208]
def k0_off2563 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v344 : Index := Scalar.indexCast arg21
  let c208_153 : Index := 208#32
  ![v344.toNat, 208]
def k0_off2564 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v348 : Index := Scalar.indexCast arg20
  let c224 : Index := 224#32
  ![v348.toNat, 224]
def k0_off2565 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_154 : BitVec 32 := 1#32
  let v351 : BitVec 32 := Scalar.addi arg20 c1_i32_154
  let c0_i32_103 : BitVec 32 := 0#32
  let c1_i32_105 : BitVec 32 := 1#32
  let arg21 : BitVec 32 := Scf.iv c0_i32_103 c1_i32_105 k0_t42
  let v352 : BitVec 32 := Scalar.addi v351 arg21
  let v353 : Index := Scalar.indexCast v352
  let c224_155 : Index := 224#32
  ![v353.toNat, 224]
def k0_off2566 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v358 : Index := Scalar.indexCast arg21
  let c224_156 : Index := 224#32
  ![v358.toNat, 224]
def k0_off2567 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v362 : Index := Scalar.indexCast arg20
  let c240 : Index := 240#32
  ![v362.toNat, 240]
def k0_off2568 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_157 : BitVec 32 := 1#32
  let v365 : BitVec 32 := Scalar.addi arg20 c1_i32_157
  let c0_i32_103 : BitVec 32 := 0#32
  let c1_i32_105 : BitVec 32 := 1#32
  let arg21 : BitVec 32 := Scf.iv c0_i32_103 c1_i32_105 k0_t42
  let v366 : BitVec 32 := Scalar.addi v365 arg21
  let v367 : Index := Scalar.indexCast v366
  let c240_158 : Index := 240#32
  ![v367.toNat, 240]
def k0_off2569 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v372 : Index := Scalar.indexCast arg21
  let c240_159 : Index := 240#32
  ![v372.toNat, 240]
def k0_off2570 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v376 : Index := Scalar.indexCast arg20
  let c256 : Index := 256#32
  ![v376.toNat, 256]
def k0_off2571 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_160 : BitVec 32 := 1#32
  let v379 : BitVec 32 := Scalar.addi arg20 c1_i32_160
  let c0_i32_103 : BitVec 32 := 0#32
  let c1_i32_105 : BitVec 32 := 1#32
  let arg21 : BitVec 32 := Scf.iv c0_i32_103 c1_i32_105 k0_t42
  let v380 : BitVec 32 := Scalar.addi v379 arg21
  let v381 : Index := Scalar.indexCast v380
  let c256_161 : Index := 256#32
  ![v381.toNat, 256]
def k0_off2572 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v386 : Index := Scalar.indexCast arg21
  let c256_162 : Index := 256#32
  ![v386.toNat, 256]
def k0_off2573 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v390 : Index := Scalar.indexCast arg20
  let c272 : Index := 272#32
  ![v390.toNat, 272]
def k0_off2574 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_163 : BitVec 32 := 1#32
  let v393 : BitVec 32 := Scalar.addi arg20 c1_i32_163
  let c0_i32_103 : BitVec 32 := 0#32
  let c1_i32_105 : BitVec 32 := 1#32
  let arg21 : BitVec 32 := Scf.iv c0_i32_103 c1_i32_105 k0_t42
  let v394 : BitVec 32 := Scalar.addi v393 arg21
  let v395 : Index := Scalar.indexCast v394
  let c272_164 : Index := 272#32
  ![v395.toNat, 272]
def k0_off2575 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v400 : Index := Scalar.indexCast arg21
  let c272_165 : Index := 272#32
  ![v400.toNat, 272]
def k0_off2576 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v404 : Index := Scalar.indexCast arg20
  let c288 : Index := 288#32
  ![v404.toNat, 288]
def k0_off2577 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_166 : BitVec 32 := 1#32
  let v407 : BitVec 32 := Scalar.addi arg20 c1_i32_166
  let c0_i32_103 : BitVec 32 := 0#32
  let c1_i32_105 : BitVec 32 := 1#32
  let arg21 : BitVec 32 := Scf.iv c0_i32_103 c1_i32_105 k0_t42
  let v408 : BitVec 32 := Scalar.addi v407 arg21
  let v409 : Index := Scalar.indexCast v408
  let c288_167 : Index := 288#32
  ![v409.toNat, 288]
def k0_off2578 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v414 : Index := Scalar.indexCast arg21
  let c288_168 : Index := 288#32
  ![v414.toNat, 288]
def k0_off2579 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v418 : Index := Scalar.indexCast arg20
  let c304 : Index := 304#32
  ![v418.toNat, 304]
def k0_off2580 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_169 : BitVec 32 := 1#32
  let v421 : BitVec 32 := Scalar.addi arg20 c1_i32_169
  let c0_i32_103 : BitVec 32 := 0#32
  let c1_i32_105 : BitVec 32 := 1#32
  let arg21 : BitVec 32 := Scf.iv c0_i32_103 c1_i32_105 k0_t42
  let v422 : BitVec 32 := Scalar.addi v421 arg21
  let v423 : Index := Scalar.indexCast v422
  let c304_170 : Index := 304#32
  ![v423.toNat, 304]
def k0_off2581 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v428 : Index := Scalar.indexCast arg21
  let c304_171 : Index := 304#32
  ![v428.toNat, 304]
def k0_off2582 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v432 : Index := Scalar.indexCast arg20
  let c320 : Index := 320#32
  ![v432.toNat, 320]
def k0_off2583 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_172 : BitVec 32 := 1#32
  let v435 : BitVec 32 := Scalar.addi arg20 c1_i32_172
  let c0_i32_103 : BitVec 32 := 0#32
  let c1_i32_105 : BitVec 32 := 1#32
  let arg21 : BitVec 32 := Scf.iv c0_i32_103 c1_i32_105 k0_t42
  let v436 : BitVec 32 := Scalar.addi v435 arg21
  let v437 : Index := Scalar.indexCast v436
  let c320_173 : Index := 320#32
  ![v437.toNat, 320]
def k0_off2584 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v442 : Index := Scalar.indexCast arg21
  let c320_174 : Index := 320#32
  ![v442.toNat, 320]
def k0_off2585 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v446 : Index := Scalar.indexCast arg20
  let c336 : Index := 336#32
  ![v446.toNat, 336]
def k0_off2586 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_175 : BitVec 32 := 1#32
  let v449 : BitVec 32 := Scalar.addi arg20 c1_i32_175
  let c0_i32_103 : BitVec 32 := 0#32
  let c1_i32_105 : BitVec 32 := 1#32
  let arg21 : BitVec 32 := Scf.iv c0_i32_103 c1_i32_105 k0_t42
  let v450 : BitVec 32 := Scalar.addi v449 arg21
  let v451 : Index := Scalar.indexCast v450
  let c336_176 : Index := 336#32
  ![v451.toNat, 336]
def k0_off2587 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v456 : Index := Scalar.indexCast arg21
  let c336_177 : Index := 336#32
  ![v456.toNat, 336]
def k0_off2588 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v460 : Index := Scalar.indexCast arg20
  let c352 : Index := 352#32
  ![v460.toNat, 352]
def k0_off2589 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_178 : BitVec 32 := 1#32
  let v463 : BitVec 32 := Scalar.addi arg20 c1_i32_178
  let c0_i32_103 : BitVec 32 := 0#32
  let c1_i32_105 : BitVec 32 := 1#32
  let arg21 : BitVec 32 := Scf.iv c0_i32_103 c1_i32_105 k0_t42
  let v464 : BitVec 32 := Scalar.addi v463 arg21
  let v465 : Index := Scalar.indexCast v464
  let c352_179 : Index := 352#32
  ![v465.toNat, 352]
def k0_off2590 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v470 : Index := Scalar.indexCast arg21
  let c352_180 : Index := 352#32
  ![v470.toNat, 352]
def k0_off2591 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v474 : Index := Scalar.indexCast arg20
  let c368 : Index := 368#32
  ![v474.toNat, 368]
def k0_off2592 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_181 : BitVec 32 := 1#32
  let v477 : BitVec 32 := Scalar.addi arg20 c1_i32_181
  let c0_i32_103 : BitVec 32 := 0#32
  let c1_i32_105 : BitVec 32 := 1#32
  let arg21 : BitVec 32 := Scf.iv c0_i32_103 c1_i32_105 k0_t42
  let v478 : BitVec 32 := Scalar.addi v477 arg21
  let v479 : Index := Scalar.indexCast v478
  let c368_182 : Index := 368#32
  ![v479.toNat, 368]
def k0_off2593 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v484 : Index := Scalar.indexCast arg21
  let c368_183 : Index := 368#32
  ![v484.toNat, 368]
def k0_off2594 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v488 : Index := Scalar.indexCast arg20
  let c384 : Index := 384#32
  ![v488.toNat, 384]
def k0_off2595 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_184 : BitVec 32 := 1#32
  let v491 : BitVec 32 := Scalar.addi arg20 c1_i32_184
  let c0_i32_103 : BitVec 32 := 0#32
  let c1_i32_105 : BitVec 32 := 1#32
  let arg21 : BitVec 32 := Scf.iv c0_i32_103 c1_i32_105 k0_t42
  let v492 : BitVec 32 := Scalar.addi v491 arg21
  let v493 : Index := Scalar.indexCast v492
  let c384_185 : Index := 384#32
  ![v493.toNat, 384]
def k0_off2596 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v498 : Index := Scalar.indexCast arg21
  let c384_186 : Index := 384#32
  ![v498.toNat, 384]
def k0_off2597 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v502 : Index := Scalar.indexCast arg20
  let c400 : Index := 400#32
  ![v502.toNat, 400]
def k0_off2598 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_187 : BitVec 32 := 1#32
  let v505 : BitVec 32 := Scalar.addi arg20 c1_i32_187
  let c0_i32_103 : BitVec 32 := 0#32
  let c1_i32_105 : BitVec 32 := 1#32
  let arg21 : BitVec 32 := Scf.iv c0_i32_103 c1_i32_105 k0_t42
  let v506 : BitVec 32 := Scalar.addi v505 arg21
  let v507 : Index := Scalar.indexCast v506
  let c400_188 : Index := 400#32
  ![v507.toNat, 400]
def k0_off2599 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v512 : Index := Scalar.indexCast arg21
  let c400_189 : Index := 400#32
  ![v512.toNat, 400]
def k0_off2600 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v516 : Index := Scalar.indexCast arg20
  let c416 : Index := 416#32
  ![v516.toNat, 416]
def k0_off2601 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_190 : BitVec 32 := 1#32
  let v519 : BitVec 32 := Scalar.addi arg20 c1_i32_190
  let c0_i32_103 : BitVec 32 := 0#32
  let c1_i32_105 : BitVec 32 := 1#32
  let arg21 : BitVec 32 := Scf.iv c0_i32_103 c1_i32_105 k0_t42
  let v520 : BitVec 32 := Scalar.addi v519 arg21
  let v521 : Index := Scalar.indexCast v520
  let c416_191 : Index := 416#32
  ![v521.toNat, 416]
def k0_off2602 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v526 : Index := Scalar.indexCast arg21
  let c416_192 : Index := 416#32
  ![v526.toNat, 416]
def k0_off2603 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v530 : Index := Scalar.indexCast arg20
  let c432 : Index := 432#32
  ![v530.toNat, 432]
def k0_off2604 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_193 : BitVec 32 := 1#32
  let v533 : BitVec 32 := Scalar.addi arg20 c1_i32_193
  let c0_i32_103 : BitVec 32 := 0#32
  let c1_i32_105 : BitVec 32 := 1#32
  let arg21 : BitVec 32 := Scf.iv c0_i32_103 c1_i32_105 k0_t42
  let v534 : BitVec 32 := Scalar.addi v533 arg21
  let v535 : Index := Scalar.indexCast v534
  let c432_194 : Index := 432#32
  ![v535.toNat, 432]
def k0_off2605 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v540 : Index := Scalar.indexCast arg21
  let c432_195 : Index := 432#32
  ![v540.toNat, 432]
def k0_off2606 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v544 : Index := Scalar.indexCast arg20
  let c448 : Index := 448#32
  ![v544.toNat, 448]
def k0_off2607 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_196 : BitVec 32 := 1#32
  let v547 : BitVec 32 := Scalar.addi arg20 c1_i32_196
  let c0_i32_103 : BitVec 32 := 0#32
  let c1_i32_105 : BitVec 32 := 1#32
  let arg21 : BitVec 32 := Scf.iv c0_i32_103 c1_i32_105 k0_t42
  let v548 : BitVec 32 := Scalar.addi v547 arg21
  let v549 : Index := Scalar.indexCast v548
  let c448_197 : Index := 448#32
  ![v549.toNat, 448]
def k0_off2608 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v554 : Index := Scalar.indexCast arg21
  let c448_198 : Index := 448#32
  ![v554.toNat, 448]
def k0_off2609 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v558 : Index := Scalar.indexCast arg20
  let c464 : Index := 464#32
  ![v558.toNat, 464]
def k0_off2610 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_199 : BitVec 32 := 1#32
  let v561 : BitVec 32 := Scalar.addi arg20 c1_i32_199
  let c0_i32_103 : BitVec 32 := 0#32
  let c1_i32_105 : BitVec 32 := 1#32
  let arg21 : BitVec 32 := Scf.iv c0_i32_103 c1_i32_105 k0_t42
  let v562 : BitVec 32 := Scalar.addi v561 arg21
  let v563 : Index := Scalar.indexCast v562
  let c464_200 : Index := 464#32
  ![v563.toNat, 464]
def k0_off2611 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v568 : Index := Scalar.indexCast arg21
  let c464_201 : Index := 464#32
  ![v568.toNat, 464]
def k0_off2612 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v572 : Index := Scalar.indexCast arg20
  let c480 : Index := 480#32
  ![v572.toNat, 480]
def k0_off2613 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_202 : BitVec 32 := 1#32
  let v575 : BitVec 32 := Scalar.addi arg20 c1_i32_202
  let c0_i32_103 : BitVec 32 := 0#32
  let c1_i32_105 : BitVec 32 := 1#32
  let arg21 : BitVec 32 := Scf.iv c0_i32_103 c1_i32_105 k0_t42
  let v576 : BitVec 32 := Scalar.addi v575 arg21
  let v577 : Index := Scalar.indexCast v576
  let c480_203 : Index := 480#32
  ![v577.toNat, 480]
def k0_off2614 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v582 : Index := Scalar.indexCast arg21
  let c480_204 : Index := 480#32
  ![v582.toNat, 480]
def k0_off2615 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v586 : Index := Scalar.indexCast arg20
  let c496 : Index := 496#32
  ![v586.toNat, 496]
def k0_off2616 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_205 : BitVec 32 := 1#32
  let v589 : BitVec 32 := Scalar.addi arg20 c1_i32_205
  let c0_i32_103 : BitVec 32 := 0#32
  let c1_i32_105 : BitVec 32 := 1#32
  let arg21 : BitVec 32 := Scf.iv c0_i32_103 c1_i32_105 k0_t42
  let v590 : BitVec 32 := Scalar.addi v589 arg21
  let v591 : Index := Scalar.indexCast v590
  let c496_206 : Index := 496#32
  ![v591.toNat, 496]
def k0_off2617 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v596 : Index := Scalar.indexCast arg21
  let c496_207 : Index := 496#32
  ![v596.toNat, 496]
def k0_off2618 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v600 : Index := Scalar.indexCast arg20
  let c512 : Index := 512#32
  ![v600.toNat, 512]
def k0_off2619 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_208 : BitVec 32 := 1#32
  let v603 : BitVec 32 := Scalar.addi arg20 c1_i32_208
  let c0_i32_103 : BitVec 32 := 0#32
  let c1_i32_105 : BitVec 32 := 1#32
  let arg21 : BitVec 32 := Scf.iv c0_i32_103 c1_i32_105 k0_t42
  let v604 : BitVec 32 := Scalar.addi v603 arg21
  let v605 : Index := Scalar.indexCast v604
  let c512_209 : Index := 512#32
  ![v605.toNat, 512]
def k0_off2620 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v610 : Index := Scalar.indexCast arg21
  let c512_210 : Index := 512#32
  ![v610.toNat, 512]
def k0_off2621 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v614 : Index := Scalar.indexCast arg20
  let c528 : Index := 528#32
  ![v614.toNat, 528]
def k0_off2622 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_211 : BitVec 32 := 1#32
  let v617 : BitVec 32 := Scalar.addi arg20 c1_i32_211
  let c0_i32_103 : BitVec 32 := 0#32
  let c1_i32_105 : BitVec 32 := 1#32
  let arg21 : BitVec 32 := Scf.iv c0_i32_103 c1_i32_105 k0_t42
  let v618 : BitVec 32 := Scalar.addi v617 arg21
  let v619 : Index := Scalar.indexCast v618
  let c528_212 : Index := 528#32
  ![v619.toNat, 528]
def k0_off2623 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v624 : Index := Scalar.indexCast arg21
  let c528_213 : Index := 528#32
  ![v624.toNat, 528]
def k0_off2624 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v628 : Index := Scalar.indexCast arg20
  let c544 : Index := 544#32
  ![v628.toNat, 544]
def k0_off2625 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_214 : BitVec 32 := 1#32
  let v631 : BitVec 32 := Scalar.addi arg20 c1_i32_214
  let c0_i32_103 : BitVec 32 := 0#32
  let c1_i32_105 : BitVec 32 := 1#32
  let arg21 : BitVec 32 := Scf.iv c0_i32_103 c1_i32_105 k0_t42
  let v632 : BitVec 32 := Scalar.addi v631 arg21
  let v633 : Index := Scalar.indexCast v632
  let c544_215 : Index := 544#32
  ![v633.toNat, 544]
def k0_off2626 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v638 : Index := Scalar.indexCast arg21
  let c544_216 : Index := 544#32
  ![v638.toNat, 544]
def k0_off2627 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v642 : Index := Scalar.indexCast arg20
  let c560 : Index := 560#32
  ![v642.toNat, 560]
def k0_off2628 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_217 : BitVec 32 := 1#32
  let v645 : BitVec 32 := Scalar.addi arg20 c1_i32_217
  let c0_i32_103 : BitVec 32 := 0#32
  let c1_i32_105 : BitVec 32 := 1#32
  let arg21 : BitVec 32 := Scf.iv c0_i32_103 c1_i32_105 k0_t42
  let v646 : BitVec 32 := Scalar.addi v645 arg21
  let v647 : Index := Scalar.indexCast v646
  let c560_218 : Index := 560#32
  ![v647.toNat, 560]
def k0_off2629 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v652 : Index := Scalar.indexCast arg21
  let c560_219 : Index := 560#32
  ![v652.toNat, 560]
def k0_off2630 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v656 : Index := Scalar.indexCast arg20
  let c576 : Index := 576#32
  ![v656.toNat, 576]
def k0_off2631 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_220 : BitVec 32 := 1#32
  let v659 : BitVec 32 := Scalar.addi arg20 c1_i32_220
  let c0_i32_103 : BitVec 32 := 0#32
  let c1_i32_105 : BitVec 32 := 1#32
  let arg21 : BitVec 32 := Scf.iv c0_i32_103 c1_i32_105 k0_t42
  let v660 : BitVec 32 := Scalar.addi v659 arg21
  let v661 : Index := Scalar.indexCast v660
  let c576_221 : Index := 576#32
  ![v661.toNat, 576]
def k0_off2632 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v666 : Index := Scalar.indexCast arg21
  let c576_222 : Index := 576#32
  ![v666.toNat, 576]
def k0_off2633 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v670 : Index := Scalar.indexCast arg20
  let c592 : Index := 592#32
  ![v670.toNat, 592]
def k0_off2634 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_223 : BitVec 32 := 1#32
  let v673 : BitVec 32 := Scalar.addi arg20 c1_i32_223
  let c0_i32_103 : BitVec 32 := 0#32
  let c1_i32_105 : BitVec 32 := 1#32
  let arg21 : BitVec 32 := Scf.iv c0_i32_103 c1_i32_105 k0_t42
  let v674 : BitVec 32 := Scalar.addi v673 arg21
  let v675 : Index := Scalar.indexCast v674
  let c592_224 : Index := 592#32
  ![v675.toNat, 592]
def k0_off2635 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v680 : Index := Scalar.indexCast arg21
  let c592_225 : Index := 592#32
  ![v680.toNat, 592]
def k0_off2636 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v684 : Index := Scalar.indexCast arg20
  let c608 : Index := 608#32
  ![v684.toNat, 608]
def k0_off2637 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_226 : BitVec 32 := 1#32
  let v687 : BitVec 32 := Scalar.addi arg20 c1_i32_226
  let c0_i32_103 : BitVec 32 := 0#32
  let c1_i32_105 : BitVec 32 := 1#32
  let arg21 : BitVec 32 := Scf.iv c0_i32_103 c1_i32_105 k0_t42
  let v688 : BitVec 32 := Scalar.addi v687 arg21
  let v689 : Index := Scalar.indexCast v688
  let c608_227 : Index := 608#32
  ![v689.toNat, 608]
def k0_off2638 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v694 : Index := Scalar.indexCast arg21
  let c608_228 : Index := 608#32
  ![v694.toNat, 608]
def k0_off2639 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v698 : Index := Scalar.indexCast arg20
  let c624 : Index := 624#32
  ![v698.toNat, 624]
def k0_off2640 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_229 : BitVec 32 := 1#32
  let v701 : BitVec 32 := Scalar.addi arg20 c1_i32_229
  let c0_i32_103 : BitVec 32 := 0#32
  let c1_i32_105 : BitVec 32 := 1#32
  let arg21 : BitVec 32 := Scf.iv c0_i32_103 c1_i32_105 k0_t42
  let v702 : BitVec 32 := Scalar.addi v701 arg21
  let v703 : Index := Scalar.indexCast v702
  let c624_230 : Index := 624#32
  ![v703.toNat, 624]
def k0_off2641 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v708 : Index := Scalar.indexCast arg21
  let c624_231 : Index := 624#32
  ![v708.toNat, 624]
def k0_off2642 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v712 : Index := Scalar.indexCast arg20
  let c640 : Index := 640#32
  ![v712.toNat, 640]
def k0_off2643 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_232 : BitVec 32 := 1#32
  let v715 : BitVec 32 := Scalar.addi arg20 c1_i32_232
  let c0_i32_103 : BitVec 32 := 0#32
  let c1_i32_105 : BitVec 32 := 1#32
  let arg21 : BitVec 32 := Scf.iv c0_i32_103 c1_i32_105 k0_t42
  let v716 : BitVec 32 := Scalar.addi v715 arg21
  let v717 : Index := Scalar.indexCast v716
  let c640_233 : Index := 640#32
  ![v717.toNat, 640]
def k0_off2644 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v722 : Index := Scalar.indexCast arg21
  let c640_234 : Index := 640#32
  ![v722.toNat, 640]
def k0_off2645 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v726 : Index := Scalar.indexCast arg20
  let c656 : Index := 656#32
  ![v726.toNat, 656]
def k0_off2646 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_235 : BitVec 32 := 1#32
  let v729 : BitVec 32 := Scalar.addi arg20 c1_i32_235
  let c0_i32_103 : BitVec 32 := 0#32
  let c1_i32_105 : BitVec 32 := 1#32
  let arg21 : BitVec 32 := Scf.iv c0_i32_103 c1_i32_105 k0_t42
  let v730 : BitVec 32 := Scalar.addi v729 arg21
  let v731 : Index := Scalar.indexCast v730
  let c656_236 : Index := 656#32
  ![v731.toNat, 656]
def k0_off2647 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v736 : Index := Scalar.indexCast arg21
  let c656_237 : Index := 656#32
  ![v736.toNat, 656]
def k0_off2648 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v740 : Index := Scalar.indexCast arg20
  let c672 : Index := 672#32
  ![v740.toNat, 672]
def k0_off2649 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_238 : BitVec 32 := 1#32
  let v743 : BitVec 32 := Scalar.addi arg20 c1_i32_238
  let c0_i32_103 : BitVec 32 := 0#32
  let c1_i32_105 : BitVec 32 := 1#32
  let arg21 : BitVec 32 := Scf.iv c0_i32_103 c1_i32_105 k0_t42
  let v744 : BitVec 32 := Scalar.addi v743 arg21
  let v745 : Index := Scalar.indexCast v744
  let c672_239 : Index := 672#32
  ![v745.toNat, 672]
def k0_off2650 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v750 : Index := Scalar.indexCast arg21
  let c672_240 : Index := 672#32
  ![v750.toNat, 672]
def k0_off2651 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v754 : Index := Scalar.indexCast arg20
  let c688 : Index := 688#32
  ![v754.toNat, 688]
def k0_off2652 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_241 : BitVec 32 := 1#32
  let v757 : BitVec 32 := Scalar.addi arg20 c1_i32_241
  let c0_i32_103 : BitVec 32 := 0#32
  let c1_i32_105 : BitVec 32 := 1#32
  let arg21 : BitVec 32 := Scf.iv c0_i32_103 c1_i32_105 k0_t42
  let v758 : BitVec 32 := Scalar.addi v757 arg21
  let v759 : Index := Scalar.indexCast v758
  let c688_242 : Index := 688#32
  ![v759.toNat, 688]
def k0_off2653 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v764 : Index := Scalar.indexCast arg21
  let c688_243 : Index := 688#32
  ![v764.toNat, 688]
def k0_off2654 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v768 : Index := Scalar.indexCast arg20
  let c704 : Index := 704#32
  ![v768.toNat, 704]
def k0_off2655 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_244 : BitVec 32 := 1#32
  let v771 : BitVec 32 := Scalar.addi arg20 c1_i32_244
  let c0_i32_103 : BitVec 32 := 0#32
  let c1_i32_105 : BitVec 32 := 1#32
  let arg21 : BitVec 32 := Scf.iv c0_i32_103 c1_i32_105 k0_t42
  let v772 : BitVec 32 := Scalar.addi v771 arg21
  let v773 : Index := Scalar.indexCast v772
  let c704_245 : Index := 704#32
  ![v773.toNat, 704]
def k0_off2656 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v778 : Index := Scalar.indexCast arg21
  let c704_246 : Index := 704#32
  ![v778.toNat, 704]
def k0_off2657 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v782 : Index := Scalar.indexCast arg20
  let c720 : Index := 720#32
  ![v782.toNat, 720]
def k0_off2658 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_247 : BitVec 32 := 1#32
  let v785 : BitVec 32 := Scalar.addi arg20 c1_i32_247
  let c0_i32_103 : BitVec 32 := 0#32
  let c1_i32_105 : BitVec 32 := 1#32
  let arg21 : BitVec 32 := Scf.iv c0_i32_103 c1_i32_105 k0_t42
  let v786 : BitVec 32 := Scalar.addi v785 arg21
  let v787 : Index := Scalar.indexCast v786
  let c720_248 : Index := 720#32
  ![v787.toNat, 720]
def k0_off2659 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v792 : Index := Scalar.indexCast arg21
  let c720_249 : Index := 720#32
  ![v792.toNat, 720]
def k0_off2660 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v796 : Index := Scalar.indexCast arg20
  let c736 : Index := 736#32
  ![v796.toNat, 736]
def k0_off2661 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_250 : BitVec 32 := 1#32
  let v799 : BitVec 32 := Scalar.addi arg20 c1_i32_250
  let c0_i32_103 : BitVec 32 := 0#32
  let c1_i32_105 : BitVec 32 := 1#32
  let arg21 : BitVec 32 := Scf.iv c0_i32_103 c1_i32_105 k0_t42
  let v800 : BitVec 32 := Scalar.addi v799 arg21
  let v801 : Index := Scalar.indexCast v800
  let c736_251 : Index := 736#32
  ![v801.toNat, 736]
def k0_off2662 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v806 : Index := Scalar.indexCast arg21
  let c736_252 : Index := 736#32
  ![v806.toNat, 736]
def k0_off2663 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v810 : Index := Scalar.indexCast arg20
  let c752 : Index := 752#32
  ![v810.toNat, 752]
def k0_off2664 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_253 : BitVec 32 := 1#32
  let v813 : BitVec 32 := Scalar.addi arg20 c1_i32_253
  let c0_i32_103 : BitVec 32 := 0#32
  let c1_i32_105 : BitVec 32 := 1#32
  let arg21 : BitVec 32 := Scf.iv c0_i32_103 c1_i32_105 k0_t42
  let v814 : BitVec 32 := Scalar.addi v813 arg21
  let v815 : Index := Scalar.indexCast v814
  let c752_254 : Index := 752#32
  ![v815.toNat, 752]
def k0_off2665 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v820 : Index := Scalar.indexCast arg21
  let c752_255 : Index := 752#32
  ![v820.toNat, 752]
def k0_off2666 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v824 : Index := Scalar.indexCast arg20
  let c768 : Index := 768#32
  ![v824.toNat, 768]
def k0_off2667 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_256 : BitVec 32 := 1#32
  let v827 : BitVec 32 := Scalar.addi arg20 c1_i32_256
  let c0_i32_103 : BitVec 32 := 0#32
  let c1_i32_105 : BitVec 32 := 1#32
  let arg21 : BitVec 32 := Scf.iv c0_i32_103 c1_i32_105 k0_t42
  let v828 : BitVec 32 := Scalar.addi v827 arg21
  let v829 : Index := Scalar.indexCast v828
  let c768_257 : Index := 768#32
  ![v829.toNat, 768]
def k0_off2668 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v834 : Index := Scalar.indexCast arg21
  let c768_258 : Index := 768#32
  ![v834.toNat, 768]
def k0_off2669 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v838 : Index := Scalar.indexCast arg20
  let c784 : Index := 784#32
  ![v838.toNat, 784]
def k0_off2670 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_259 : BitVec 32 := 1#32
  let v841 : BitVec 32 := Scalar.addi arg20 c1_i32_259
  let c0_i32_103 : BitVec 32 := 0#32
  let c1_i32_105 : BitVec 32 := 1#32
  let arg21 : BitVec 32 := Scf.iv c0_i32_103 c1_i32_105 k0_t42
  let v842 : BitVec 32 := Scalar.addi v841 arg21
  let v843 : Index := Scalar.indexCast v842
  let c784_260 : Index := 784#32
  ![v843.toNat, 784]
def k0_off2671 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v848 : Index := Scalar.indexCast arg21
  let c784_261 : Index := 784#32
  ![v848.toNat, 784]
def k0_off2672 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v852 : Index := Scalar.indexCast arg20
  let c800 : Index := 800#32
  ![v852.toNat, 800]
def k0_off2673 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_262 : BitVec 32 := 1#32
  let v855 : BitVec 32 := Scalar.addi arg20 c1_i32_262
  let c0_i32_103 : BitVec 32 := 0#32
  let c1_i32_105 : BitVec 32 := 1#32
  let arg21 : BitVec 32 := Scf.iv c0_i32_103 c1_i32_105 k0_t42
  let v856 : BitVec 32 := Scalar.addi v855 arg21
  let v857 : Index := Scalar.indexCast v856
  let c800_263 : Index := 800#32
  ![v857.toNat, 800]

variable {F : FTy → Type} [FloatOps F]

def k0_off2674 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v862 : Index := Scalar.indexCast arg21
  let c800_264 : Index := 800#32
  ![v862.toNat, 800]
def k0_off2675 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v866 : Index := Scalar.indexCast arg20
  let c816 : Index := 816#32
  ![v866.toNat, 816]
def k0_off2676 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_265 : BitVec 32 := 1#32
  let v869 : BitVec 32 := Scalar.addi arg20 c1_i32_265
  let c0_i32_103 : BitVec 32 := 0#32
  let c1_i32_105 : BitVec 32 := 1#32
  let arg21 : BitVec 32 := Scf.iv c0_i32_103 c1_i32_105 k0_t42
  let v870 : BitVec 32 := Scalar.addi v869 arg21
  let v871 : Index := Scalar.indexCast v870
  let c816_266 : Index := 816#32
  ![v871.toNat, 816]
def k0_off2677 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v876 : Index := Scalar.indexCast arg21
  let c816_267 : Index := 816#32
  ![v876.toNat, 816]
def k0_off2678 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v880 : Index := Scalar.indexCast arg20
  let c832 : Index := 832#32
  ![v880.toNat, 832]
def k0_off2679 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_268 : BitVec 32 := 1#32
  let v883 : BitVec 32 := Scalar.addi arg20 c1_i32_268
  let c0_i32_103 : BitVec 32 := 0#32
  let c1_i32_105 : BitVec 32 := 1#32
  let arg21 : BitVec 32 := Scf.iv c0_i32_103 c1_i32_105 k0_t42
  let v884 : BitVec 32 := Scalar.addi v883 arg21
  let v885 : Index := Scalar.indexCast v884
  let c832_269 : Index := 832#32
  ![v885.toNat, 832]
def k0_off2680 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v890 : Index := Scalar.indexCast arg21
  let c832_270 : Index := 832#32
  ![v890.toNat, 832]
def k0_off2681 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v894 : Index := Scalar.indexCast arg20
  let c848 : Index := 848#32
  ![v894.toNat, 848]
def k0_off2682 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_271 : BitVec 32 := 1#32
  let v897 : BitVec 32 := Scalar.addi arg20 c1_i32_271
  let c0_i32_103 : BitVec 32 := 0#32
  let c1_i32_105 : BitVec 32 := 1#32
  let arg21 : BitVec 32 := Scf.iv c0_i32_103 c1_i32_105 k0_t42
  let v898 : BitVec 32 := Scalar.addi v897 arg21
  let v899 : Index := Scalar.indexCast v898
  let c848_272 : Index := 848#32
  ![v899.toNat, 848]
def k0_off2683 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v904 : Index := Scalar.indexCast arg21
  let c848_273 : Index := 848#32
  ![v904.toNat, 848]
def k0_off2684 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v908 : Index := Scalar.indexCast arg20
  let c864 : Index := 864#32
  ![v908.toNat, 864]
def k0_off2685 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_274 : BitVec 32 := 1#32
  let v911 : BitVec 32 := Scalar.addi arg20 c1_i32_274
  let c0_i32_103 : BitVec 32 := 0#32
  let c1_i32_105 : BitVec 32 := 1#32
  let arg21 : BitVec 32 := Scf.iv c0_i32_103 c1_i32_105 k0_t42
  let v912 : BitVec 32 := Scalar.addi v911 arg21
  let v913 : Index := Scalar.indexCast v912
  let c864_275 : Index := 864#32
  ![v913.toNat, 864]
def k0_off2686 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v918 : Index := Scalar.indexCast arg21
  let c864_276 : Index := 864#32
  ![v918.toNat, 864]
def k0_off2687 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v922 : Index := Scalar.indexCast arg20
  let c880 : Index := 880#32
  ![v922.toNat, 880]
def k0_off2688 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_277 : BitVec 32 := 1#32
  let v925 : BitVec 32 := Scalar.addi arg20 c1_i32_277
  let c0_i32_103 : BitVec 32 := 0#32
  let c1_i32_105 : BitVec 32 := 1#32
  let arg21 : BitVec 32 := Scf.iv c0_i32_103 c1_i32_105 k0_t42
  let v926 : BitVec 32 := Scalar.addi v925 arg21
  let v927 : Index := Scalar.indexCast v926
  let c880_278 : Index := 880#32
  ![v927.toNat, 880]
def k0_off2689 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v932 : Index := Scalar.indexCast arg21
  let c880_279 : Index := 880#32
  ![v932.toNat, 880]
def k0_off2690 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v936 : Index := Scalar.indexCast arg20
  let c896 : Index := 896#32
  ![v936.toNat, 896]
def k0_off2691 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_280 : BitVec 32 := 1#32
  let v939 : BitVec 32 := Scalar.addi arg20 c1_i32_280
  let c0_i32_103 : BitVec 32 := 0#32
  let c1_i32_105 : BitVec 32 := 1#32
  let arg21 : BitVec 32 := Scf.iv c0_i32_103 c1_i32_105 k0_t42
  let v940 : BitVec 32 := Scalar.addi v939 arg21
  let v941 : Index := Scalar.indexCast v940
  let c896_281 : Index := 896#32
  ![v941.toNat, 896]
def k0_off2692 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v946 : Index := Scalar.indexCast arg21
  let c896_282 : Index := 896#32
  ![v946.toNat, 896]
def k0_off2693 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v950 : Index := Scalar.indexCast arg20
  let c912 : Index := 912#32
  ![v950.toNat, 912]
def k0_off2694 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_283 : BitVec 32 := 1#32
  let v953 : BitVec 32 := Scalar.addi arg20 c1_i32_283
  let c0_i32_103 : BitVec 32 := 0#32
  let c1_i32_105 : BitVec 32 := 1#32
  let arg21 : BitVec 32 := Scf.iv c0_i32_103 c1_i32_105 k0_t42
  let v954 : BitVec 32 := Scalar.addi v953 arg21
  let v955 : Index := Scalar.indexCast v954
  let c912_284 : Index := 912#32
  ![v955.toNat, 912]
def k0_off2695 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v960 : Index := Scalar.indexCast arg21
  let c912_285 : Index := 912#32
  ![v960.toNat, 912]
def k0_off2696 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v964 : Index := Scalar.indexCast arg20
  let c928 : Index := 928#32
  ![v964.toNat, 928]
def k0_off2697 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_286 : BitVec 32 := 1#32
  let v967 : BitVec 32 := Scalar.addi arg20 c1_i32_286
  let c0_i32_103 : BitVec 32 := 0#32
  let c1_i32_105 : BitVec 32 := 1#32
  let arg21 : BitVec 32 := Scf.iv c0_i32_103 c1_i32_105 k0_t42
  let v968 : BitVec 32 := Scalar.addi v967 arg21
  let v969 : Index := Scalar.indexCast v968
  let c928_287 : Index := 928#32
  ![v969.toNat, 928]
def k0_off2698 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v974 : Index := Scalar.indexCast arg21
  let c928_288 : Index := 928#32
  ![v974.toNat, 928]
def k0_off2699 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v978 : Index := Scalar.indexCast arg20
  let c944 : Index := 944#32
  ![v978.toNat, 944]
def k0_off2700 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_289 : BitVec 32 := 1#32
  let v981 : BitVec 32 := Scalar.addi arg20 c1_i32_289
  let c0_i32_103 : BitVec 32 := 0#32
  let c1_i32_105 : BitVec 32 := 1#32
  let arg21 : BitVec 32 := Scf.iv c0_i32_103 c1_i32_105 k0_t42
  let v982 : BitVec 32 := Scalar.addi v981 arg21
  let v983 : Index := Scalar.indexCast v982
  let c944_290 : Index := 944#32
  ![v983.toNat, 944]
def k0_off2701 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v988 : Index := Scalar.indexCast arg21
  let c944_291 : Index := 944#32
  ![v988.toNat, 944]
def k0_off2702 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v992 : Index := Scalar.indexCast arg20
  let c960 : Index := 960#32
  ![v992.toNat, 960]
def k0_off2703 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_292 : BitVec 32 := 1#32
  let v995 : BitVec 32 := Scalar.addi arg20 c1_i32_292
  let c0_i32_103 : BitVec 32 := 0#32
  let c1_i32_105 : BitVec 32 := 1#32
  let arg21 : BitVec 32 := Scf.iv c0_i32_103 c1_i32_105 k0_t42
  let v996 : BitVec 32 := Scalar.addi v995 arg21
  let v997 : Index := Scalar.indexCast v996
  let c960_293 : Index := 960#32
  ![v997.toNat, 960]
def k0_off2704 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v1002 : Index := Scalar.indexCast arg21
  let c960_294 : Index := 960#32
  ![v1002.toNat, 960]
def k0_off2705 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v1006 : Index := Scalar.indexCast arg20
  let c976 : Index := 976#32
  ![v1006.toNat, 976]
def k0_off2706 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_295 : BitVec 32 := 1#32
  let v1009 : BitVec 32 := Scalar.addi arg20 c1_i32_295
  let c0_i32_103 : BitVec 32 := 0#32
  let c1_i32_105 : BitVec 32 := 1#32
  let arg21 : BitVec 32 := Scf.iv c0_i32_103 c1_i32_105 k0_t42
  let v1010 : BitVec 32 := Scalar.addi v1009 arg21
  let v1011 : Index := Scalar.indexCast v1010
  let c976_296 : Index := 976#32
  ![v1011.toNat, 976]
def k0_off2707 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v1016 : Index := Scalar.indexCast arg21
  let c976_297 : Index := 976#32
  ![v1016.toNat, 976]
def k0_off2708 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v1020 : Index := Scalar.indexCast arg20
  let c992 : Index := 992#32
  ![v1020.toNat, 992]
def k0_off2709 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_298 : BitVec 32 := 1#32
  let v1023 : BitVec 32 := Scalar.addi arg20 c1_i32_298
  let c0_i32_103 : BitVec 32 := 0#32
  let c1_i32_105 : BitVec 32 := 1#32
  let arg21 : BitVec 32 := Scf.iv c0_i32_103 c1_i32_105 k0_t42
  let v1024 : BitVec 32 := Scalar.addi v1023 arg21
  let v1025 : Index := Scalar.indexCast v1024
  let c992_299 : Index := 992#32
  ![v1025.toNat, 992]
def k0_off2710 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v1030 : Index := Scalar.indexCast arg21
  let c992_300 : Index := 992#32
  ![v1030.toNat, 992]
def k0_off2711 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v1034 : Index := Scalar.indexCast arg20
  let c1008 : Index := 1008#32
  ![v1034.toNat, 1008]
def k0_off2712 (k0_t41 : Fin k0_t41_loop.trips) (k0_t42 : Fin (k0_t42_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_301 : BitVec 32 := 1#32
  let v1037 : BitVec 32 := Scalar.addi arg20 c1_i32_301
  let c0_i32_103 : BitVec 32 := 0#32
  let c1_i32_105 : BitVec 32 := 1#32
  let arg21 : BitVec 32 := Scf.iv c0_i32_103 c1_i32_105 k0_t42
  let v1038 : BitVec 32 := Scalar.addi v1037 arg21
  let v1039 : Index := Scalar.indexCast v1038
  let c1008_302 : Index := 1008#32
  ![v1039.toNat, 1008]
def k0_off2713 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let v1044 : Index := Scalar.indexCast arg21
  let c1008_303 : Index := 1008#32
  ![v1044.toNat, 1008]
def k0_off2714 (k0_t41 : Fin k0_t41_loop.trips) (k0_t42 : Fin (k0_t42_loop k0_t41).trips) : Fin 2 → Nat :=
  let c0_i32_103 : BitVec 32 := 0#32
  let c1_i32_105 : BitVec 32 := 1#32
  let arg21 : BitVec 32 := Scf.iv c0_i32_103 c1_i32_105 k0_t42
  let c0_i32_304 : BitVec 32 := 0#32
  ![arg21.toNat, 0]
def k0_off2715 (i : grid0.Coords) (k0_t41 : Fin k0_t41_loop.trips) (k0_t42 : Fin (k0_t42_loop k0_t41).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c1_i32_86 : BitVec 32 := 1#32
  let v116 : BitVec 32 := Scalar.addi v42 c1_i32_86
  let c16_i32_93 : BitVec 32 := 16#32
  let v119 : BitVec 32 := Scalar.muli v116 c16_i32_93
  let c0_i32_88 : BitVec 32 := 0#32
  let c1_i32_90 : BitVec 32 := 1#32
  let arg20 : BitVec 32 := Scf.iv c0_i32_88 c1_i32_90 k0_t41
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c1_i32_105 : BitVec 32 := 1#32
  let arg21 : BitVec 32 := Scf.iv c0_i32_103 c1_i32_105 k0_t42
  let v1048 : BitVec 32 := Scalar.addi v141 arg21
  let c0_i32_305 : BitVec 32 := 0#32
  ![v1048.toNat, 0]
@[reducible] def k0_t43_loop (k0_t41 : Fin k0_t41_loop.trips) : Scf.Loop 32 :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let v143 : BitVec 32 := Scalar.addi c0_i32_103 v142
  let c1_i32_106 : BitVec 32 := 1#32
  ⟨v146, v143, c1_i32_106⟩
def k0_off2716 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v152 : Index := Scalar.indexCast arg20
  let c0 : Index := 0#32
  ![v152.toNat, 0]
def k0_off2717 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_112 : BitVec 32 := 1#32
  let v155 : BitVec 32 := Scalar.addi arg20 c1_i32_112
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v156 : BitVec 32 := Scalar.addi v155 arg21
  let v157 : Index := Scalar.indexCast v156
  let c0_113 : Index := 0#32
  ![v157.toNat, 0]
def k0_off2718 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v162 : Index := Scalar.indexCast arg21
  let c0_114 : Index := 0#32
  ![v162.toNat, 0]
def k0_off2719 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v166 : Index := Scalar.indexCast arg20
  let c16 : Index := 16#32
  ![v166.toNat, 16]
def k0_off2720 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_115 : BitVec 32 := 1#32
  let v169 : BitVec 32 := Scalar.addi arg20 c1_i32_115
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v170 : BitVec 32 := Scalar.addi v169 arg21
  let v171 : Index := Scalar.indexCast v170
  let c16_116 : Index := 16#32
  ![v171.toNat, 16]
def k0_off2721 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v176 : Index := Scalar.indexCast arg21
  let c16_117 : Index := 16#32
  ![v176.toNat, 16]
def k0_off2722 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v180 : Index := Scalar.indexCast arg20
  let c32 : Index := 32#32
  ![v180.toNat, 32]
def k0_off2723 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_118 : BitVec 32 := 1#32
  let v183 : BitVec 32 := Scalar.addi arg20 c1_i32_118
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v184 : BitVec 32 := Scalar.addi v183 arg21
  let v185 : Index := Scalar.indexCast v184
  let c32_119 : Index := 32#32
  ![v185.toNat, 32]
def k0_off2724 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v190 : Index := Scalar.indexCast arg21
  let c32_120 : Index := 32#32
  ![v190.toNat, 32]
def k0_off2725 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v194 : Index := Scalar.indexCast arg20
  let c48 : Index := 48#32
  ![v194.toNat, 48]
def k0_off2726 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_121 : BitVec 32 := 1#32
  let v197 : BitVec 32 := Scalar.addi arg20 c1_i32_121
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v198 : BitVec 32 := Scalar.addi v197 arg21
  let v199 : Index := Scalar.indexCast v198
  let c48_122 : Index := 48#32
  ![v199.toNat, 48]
def k0_off2727 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v204 : Index := Scalar.indexCast arg21
  let c48_123 : Index := 48#32
  ![v204.toNat, 48]
def k0_off2728 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v208 : Index := Scalar.indexCast arg20
  let c64 : Index := 64#32
  ![v208.toNat, 64]
def k0_off2729 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_124 : BitVec 32 := 1#32
  let v211 : BitVec 32 := Scalar.addi arg20 c1_i32_124
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v212 : BitVec 32 := Scalar.addi v211 arg21
  let v213 : Index := Scalar.indexCast v212
  let c64_125 : Index := 64#32
  ![v213.toNat, 64]
def k0_off2730 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v218 : Index := Scalar.indexCast arg21
  let c64_126 : Index := 64#32
  ![v218.toNat, 64]
def k0_off2731 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v222 : Index := Scalar.indexCast arg20
  let c80 : Index := 80#32
  ![v222.toNat, 80]
def k0_off2732 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_127 : BitVec 32 := 1#32
  let v225 : BitVec 32 := Scalar.addi arg20 c1_i32_127
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v226 : BitVec 32 := Scalar.addi v225 arg21
  let v227 : Index := Scalar.indexCast v226
  let c80_128 : Index := 80#32
  ![v227.toNat, 80]
def k0_off2733 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v232 : Index := Scalar.indexCast arg21
  let c80_129 : Index := 80#32
  ![v232.toNat, 80]
def k0_off2734 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v236 : Index := Scalar.indexCast arg20
  let c96 : Index := 96#32
  ![v236.toNat, 96]
def k0_off2735 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_130 : BitVec 32 := 1#32
  let v239 : BitVec 32 := Scalar.addi arg20 c1_i32_130
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v240 : BitVec 32 := Scalar.addi v239 arg21
  let v241 : Index := Scalar.indexCast v240
  let c96_131 : Index := 96#32
  ![v241.toNat, 96]
def k0_off2736 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v246 : Index := Scalar.indexCast arg21
  let c96_132 : Index := 96#32
  ![v246.toNat, 96]
def k0_off2737 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v250 : Index := Scalar.indexCast arg20
  let c112 : Index := 112#32
  ![v250.toNat, 112]
def k0_off2738 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_133 : BitVec 32 := 1#32
  let v253 : BitVec 32 := Scalar.addi arg20 c1_i32_133
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v254 : BitVec 32 := Scalar.addi v253 arg21
  let v255 : Index := Scalar.indexCast v254
  let c112_134 : Index := 112#32
  ![v255.toNat, 112]
def k0_off2739 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v260 : Index := Scalar.indexCast arg21
  let c112_135 : Index := 112#32
  ![v260.toNat, 112]
def k0_off2740 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v264 : Index := Scalar.indexCast arg20
  let c128 : Index := 128#32
  ![v264.toNat, 128]
def k0_off2741 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_136 : BitVec 32 := 1#32
  let v267 : BitVec 32 := Scalar.addi arg20 c1_i32_136
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v268 : BitVec 32 := Scalar.addi v267 arg21
  let v269 : Index := Scalar.indexCast v268
  let c128_137 : Index := 128#32
  ![v269.toNat, 128]
def k0_off2742 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v274 : Index := Scalar.indexCast arg21
  let c128_138 : Index := 128#32
  ![v274.toNat, 128]
def k0_off2743 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v278 : Index := Scalar.indexCast arg20
  let c144 : Index := 144#32
  ![v278.toNat, 144]
def k0_off2744 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_139 : BitVec 32 := 1#32
  let v281 : BitVec 32 := Scalar.addi arg20 c1_i32_139
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v282 : BitVec 32 := Scalar.addi v281 arg21
  let v283 : Index := Scalar.indexCast v282
  let c144_140 : Index := 144#32
  ![v283.toNat, 144]
def k0_off2745 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v288 : Index := Scalar.indexCast arg21
  let c144_141 : Index := 144#32
  ![v288.toNat, 144]
def k0_off2746 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v292 : Index := Scalar.indexCast arg20
  let c160 : Index := 160#32
  ![v292.toNat, 160]
def k0_off2747 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_142 : BitVec 32 := 1#32
  let v295 : BitVec 32 := Scalar.addi arg20 c1_i32_142
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v296 : BitVec 32 := Scalar.addi v295 arg21
  let v297 : Index := Scalar.indexCast v296
  let c160_143 : Index := 160#32
  ![v297.toNat, 160]
def k0_off2748 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v302 : Index := Scalar.indexCast arg21
  let c160_144 : Index := 160#32
  ![v302.toNat, 160]
def k0_off2749 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v306 : Index := Scalar.indexCast arg20
  let c176 : Index := 176#32
  ![v306.toNat, 176]
def k0_off2750 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_145 : BitVec 32 := 1#32
  let v309 : BitVec 32 := Scalar.addi arg20 c1_i32_145
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v310 : BitVec 32 := Scalar.addi v309 arg21
  let v311 : Index := Scalar.indexCast v310
  let c176_146 : Index := 176#32
  ![v311.toNat, 176]
def k0_off2751 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v316 : Index := Scalar.indexCast arg21
  let c176_147 : Index := 176#32
  ![v316.toNat, 176]
def k0_off2752 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v320 : Index := Scalar.indexCast arg20
  let c192 : Index := 192#32
  ![v320.toNat, 192]
def k0_off2753 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_148 : BitVec 32 := 1#32
  let v323 : BitVec 32 := Scalar.addi arg20 c1_i32_148
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v324 : BitVec 32 := Scalar.addi v323 arg21
  let v325 : Index := Scalar.indexCast v324
  let c192_149 : Index := 192#32
  ![v325.toNat, 192]
def k0_off2754 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v330 : Index := Scalar.indexCast arg21
  let c192_150 : Index := 192#32
  ![v330.toNat, 192]
def k0_off2755 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v334 : Index := Scalar.indexCast arg20
  let c208 : Index := 208#32
  ![v334.toNat, 208]
def k0_off2756 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_151 : BitVec 32 := 1#32
  let v337 : BitVec 32 := Scalar.addi arg20 c1_i32_151
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v338 : BitVec 32 := Scalar.addi v337 arg21
  let v339 : Index := Scalar.indexCast v338
  let c208_152 : Index := 208#32
  ![v339.toNat, 208]
def k0_off2757 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v344 : Index := Scalar.indexCast arg21
  let c208_153 : Index := 208#32
  ![v344.toNat, 208]
def k0_off2758 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v348 : Index := Scalar.indexCast arg20
  let c224 : Index := 224#32
  ![v348.toNat, 224]
def k0_off2759 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_154 : BitVec 32 := 1#32
  let v351 : BitVec 32 := Scalar.addi arg20 c1_i32_154
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v352 : BitVec 32 := Scalar.addi v351 arg21
  let v353 : Index := Scalar.indexCast v352
  let c224_155 : Index := 224#32
  ![v353.toNat, 224]
def k0_off2760 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v358 : Index := Scalar.indexCast arg21
  let c224_156 : Index := 224#32
  ![v358.toNat, 224]
def k0_off2761 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v362 : Index := Scalar.indexCast arg20
  let c240 : Index := 240#32
  ![v362.toNat, 240]
def k0_off2762 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_157 : BitVec 32 := 1#32
  let v365 : BitVec 32 := Scalar.addi arg20 c1_i32_157
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v366 : BitVec 32 := Scalar.addi v365 arg21
  let v367 : Index := Scalar.indexCast v366
  let c240_158 : Index := 240#32
  ![v367.toNat, 240]
def k0_off2763 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v372 : Index := Scalar.indexCast arg21
  let c240_159 : Index := 240#32
  ![v372.toNat, 240]
def k0_off2764 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v376 : Index := Scalar.indexCast arg20
  let c256 : Index := 256#32
  ![v376.toNat, 256]
def k0_off2765 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_160 : BitVec 32 := 1#32
  let v379 : BitVec 32 := Scalar.addi arg20 c1_i32_160
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v380 : BitVec 32 := Scalar.addi v379 arg21
  let v381 : Index := Scalar.indexCast v380
  let c256_161 : Index := 256#32
  ![v381.toNat, 256]
def k0_off2766 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v386 : Index := Scalar.indexCast arg21
  let c256_162 : Index := 256#32
  ![v386.toNat, 256]
def k0_off2767 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v390 : Index := Scalar.indexCast arg20
  let c272 : Index := 272#32
  ![v390.toNat, 272]
def k0_off2768 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_163 : BitVec 32 := 1#32
  let v393 : BitVec 32 := Scalar.addi arg20 c1_i32_163
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v394 : BitVec 32 := Scalar.addi v393 arg21
  let v395 : Index := Scalar.indexCast v394
  let c272_164 : Index := 272#32
  ![v395.toNat, 272]
def k0_off2769 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v400 : Index := Scalar.indexCast arg21
  let c272_165 : Index := 272#32
  ![v400.toNat, 272]
def k0_off2770 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v404 : Index := Scalar.indexCast arg20
  let c288 : Index := 288#32
  ![v404.toNat, 288]
def k0_off2771 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_166 : BitVec 32 := 1#32
  let v407 : BitVec 32 := Scalar.addi arg20 c1_i32_166
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v408 : BitVec 32 := Scalar.addi v407 arg21
  let v409 : Index := Scalar.indexCast v408
  let c288_167 : Index := 288#32
  ![v409.toNat, 288]
def k0_off2772 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v414 : Index := Scalar.indexCast arg21
  let c288_168 : Index := 288#32
  ![v414.toNat, 288]
def k0_off2773 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v418 : Index := Scalar.indexCast arg20
  let c304 : Index := 304#32
  ![v418.toNat, 304]
def k0_off2774 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_169 : BitVec 32 := 1#32
  let v421 : BitVec 32 := Scalar.addi arg20 c1_i32_169
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v422 : BitVec 32 := Scalar.addi v421 arg21
  let v423 : Index := Scalar.indexCast v422
  let c304_170 : Index := 304#32
  ![v423.toNat, 304]
def k0_off2775 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v428 : Index := Scalar.indexCast arg21
  let c304_171 : Index := 304#32
  ![v428.toNat, 304]
def k0_off2776 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v432 : Index := Scalar.indexCast arg20
  let c320 : Index := 320#32
  ![v432.toNat, 320]
def k0_off2777 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_172 : BitVec 32 := 1#32
  let v435 : BitVec 32 := Scalar.addi arg20 c1_i32_172
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v436 : BitVec 32 := Scalar.addi v435 arg21
  let v437 : Index := Scalar.indexCast v436
  let c320_173 : Index := 320#32
  ![v437.toNat, 320]
def k0_off2778 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v442 : Index := Scalar.indexCast arg21
  let c320_174 : Index := 320#32
  ![v442.toNat, 320]
def k0_off2779 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v446 : Index := Scalar.indexCast arg20
  let c336 : Index := 336#32
  ![v446.toNat, 336]
def k0_off2780 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_175 : BitVec 32 := 1#32
  let v449 : BitVec 32 := Scalar.addi arg20 c1_i32_175
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v450 : BitVec 32 := Scalar.addi v449 arg21
  let v451 : Index := Scalar.indexCast v450
  let c336_176 : Index := 336#32
  ![v451.toNat, 336]
def k0_off2781 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v456 : Index := Scalar.indexCast arg21
  let c336_177 : Index := 336#32
  ![v456.toNat, 336]
def k0_off2782 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v460 : Index := Scalar.indexCast arg20
  let c352 : Index := 352#32
  ![v460.toNat, 352]
def k0_off2783 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_178 : BitVec 32 := 1#32
  let v463 : BitVec 32 := Scalar.addi arg20 c1_i32_178
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v464 : BitVec 32 := Scalar.addi v463 arg21
  let v465 : Index := Scalar.indexCast v464
  let c352_179 : Index := 352#32
  ![v465.toNat, 352]
def k0_off2784 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v470 : Index := Scalar.indexCast arg21
  let c352_180 : Index := 352#32
  ![v470.toNat, 352]
def k0_off2785 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v474 : Index := Scalar.indexCast arg20
  let c368 : Index := 368#32
  ![v474.toNat, 368]
def k0_off2786 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_181 : BitVec 32 := 1#32
  let v477 : BitVec 32 := Scalar.addi arg20 c1_i32_181
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v478 : BitVec 32 := Scalar.addi v477 arg21
  let v479 : Index := Scalar.indexCast v478
  let c368_182 : Index := 368#32
  ![v479.toNat, 368]
def k0_off2787 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v484 : Index := Scalar.indexCast arg21
  let c368_183 : Index := 368#32
  ![v484.toNat, 368]
def k0_off2788 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v488 : Index := Scalar.indexCast arg20
  let c384 : Index := 384#32
  ![v488.toNat, 384]
def k0_off2789 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_184 : BitVec 32 := 1#32
  let v491 : BitVec 32 := Scalar.addi arg20 c1_i32_184
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v492 : BitVec 32 := Scalar.addi v491 arg21
  let v493 : Index := Scalar.indexCast v492
  let c384_185 : Index := 384#32
  ![v493.toNat, 384]
def k0_off2790 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v498 : Index := Scalar.indexCast arg21
  let c384_186 : Index := 384#32
  ![v498.toNat, 384]
def k0_off2791 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v502 : Index := Scalar.indexCast arg20
  let c400 : Index := 400#32
  ![v502.toNat, 400]
def k0_off2792 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_187 : BitVec 32 := 1#32
  let v505 : BitVec 32 := Scalar.addi arg20 c1_i32_187
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v506 : BitVec 32 := Scalar.addi v505 arg21
  let v507 : Index := Scalar.indexCast v506
  let c400_188 : Index := 400#32
  ![v507.toNat, 400]
def k0_off2793 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v512 : Index := Scalar.indexCast arg21
  let c400_189 : Index := 400#32
  ![v512.toNat, 400]
def k0_off2794 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v516 : Index := Scalar.indexCast arg20
  let c416 : Index := 416#32
  ![v516.toNat, 416]
def k0_off2795 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_190 : BitVec 32 := 1#32
  let v519 : BitVec 32 := Scalar.addi arg20 c1_i32_190
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v520 : BitVec 32 := Scalar.addi v519 arg21
  let v521 : Index := Scalar.indexCast v520
  let c416_191 : Index := 416#32
  ![v521.toNat, 416]
def k0_off2796 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v526 : Index := Scalar.indexCast arg21
  let c416_192 : Index := 416#32
  ![v526.toNat, 416]
def k0_off2797 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v530 : Index := Scalar.indexCast arg20
  let c432 : Index := 432#32
  ![v530.toNat, 432]
def k0_off2798 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_193 : BitVec 32 := 1#32
  let v533 : BitVec 32 := Scalar.addi arg20 c1_i32_193
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v534 : BitVec 32 := Scalar.addi v533 arg21
  let v535 : Index := Scalar.indexCast v534
  let c432_194 : Index := 432#32
  ![v535.toNat, 432]
def k0_off2799 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v540 : Index := Scalar.indexCast arg21
  let c432_195 : Index := 432#32
  ![v540.toNat, 432]
def k0_off2800 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v544 : Index := Scalar.indexCast arg20
  let c448 : Index := 448#32
  ![v544.toNat, 448]
def k0_off2801 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_196 : BitVec 32 := 1#32
  let v547 : BitVec 32 := Scalar.addi arg20 c1_i32_196
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v548 : BitVec 32 := Scalar.addi v547 arg21
  let v549 : Index := Scalar.indexCast v548
  let c448_197 : Index := 448#32
  ![v549.toNat, 448]
def k0_off2802 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v554 : Index := Scalar.indexCast arg21
  let c448_198 : Index := 448#32
  ![v554.toNat, 448]
def k0_off2803 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v558 : Index := Scalar.indexCast arg20
  let c464 : Index := 464#32
  ![v558.toNat, 464]
def k0_off2804 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_199 : BitVec 32 := 1#32
  let v561 : BitVec 32 := Scalar.addi arg20 c1_i32_199
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v562 : BitVec 32 := Scalar.addi v561 arg21
  let v563 : Index := Scalar.indexCast v562
  let c464_200 : Index := 464#32
  ![v563.toNat, 464]
def k0_off2805 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v568 : Index := Scalar.indexCast arg21
  let c464_201 : Index := 464#32
  ![v568.toNat, 464]
def k0_off2806 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v572 : Index := Scalar.indexCast arg20
  let c480 : Index := 480#32
  ![v572.toNat, 480]
def k0_off2807 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_202 : BitVec 32 := 1#32
  let v575 : BitVec 32 := Scalar.addi arg20 c1_i32_202
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v576 : BitVec 32 := Scalar.addi v575 arg21
  let v577 : Index := Scalar.indexCast v576
  let c480_203 : Index := 480#32
  ![v577.toNat, 480]
def k0_off2808 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v582 : Index := Scalar.indexCast arg21
  let c480_204 : Index := 480#32
  ![v582.toNat, 480]
def k0_off2809 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v586 : Index := Scalar.indexCast arg20
  let c496 : Index := 496#32
  ![v586.toNat, 496]
def k0_off2810 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_205 : BitVec 32 := 1#32
  let v589 : BitVec 32 := Scalar.addi arg20 c1_i32_205
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v590 : BitVec 32 := Scalar.addi v589 arg21
  let v591 : Index := Scalar.indexCast v590
  let c496_206 : Index := 496#32
  ![v591.toNat, 496]
def k0_off2811 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v596 : Index := Scalar.indexCast arg21
  let c496_207 : Index := 496#32
  ![v596.toNat, 496]
def k0_off2812 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v600 : Index := Scalar.indexCast arg20
  let c512 : Index := 512#32
  ![v600.toNat, 512]
def k0_off2813 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_208 : BitVec 32 := 1#32
  let v603 : BitVec 32 := Scalar.addi arg20 c1_i32_208
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v604 : BitVec 32 := Scalar.addi v603 arg21
  let v605 : Index := Scalar.indexCast v604
  let c512_209 : Index := 512#32
  ![v605.toNat, 512]
def k0_off2814 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v610 : Index := Scalar.indexCast arg21
  let c512_210 : Index := 512#32
  ![v610.toNat, 512]
def k0_off2815 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v614 : Index := Scalar.indexCast arg20
  let c528 : Index := 528#32
  ![v614.toNat, 528]
def k0_off2816 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_211 : BitVec 32 := 1#32
  let v617 : BitVec 32 := Scalar.addi arg20 c1_i32_211
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v618 : BitVec 32 := Scalar.addi v617 arg21
  let v619 : Index := Scalar.indexCast v618
  let c528_212 : Index := 528#32
  ![v619.toNat, 528]
def k0_off2817 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v624 : Index := Scalar.indexCast arg21
  let c528_213 : Index := 528#32
  ![v624.toNat, 528]
def k0_off2818 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v628 : Index := Scalar.indexCast arg20
  let c544 : Index := 544#32
  ![v628.toNat, 544]
def k0_off2819 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_214 : BitVec 32 := 1#32
  let v631 : BitVec 32 := Scalar.addi arg20 c1_i32_214
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v632 : BitVec 32 := Scalar.addi v631 arg21
  let v633 : Index := Scalar.indexCast v632
  let c544_215 : Index := 544#32
  ![v633.toNat, 544]
def k0_off2820 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v638 : Index := Scalar.indexCast arg21
  let c544_216 : Index := 544#32
  ![v638.toNat, 544]
def k0_off2821 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v642 : Index := Scalar.indexCast arg20
  let c560 : Index := 560#32
  ![v642.toNat, 560]
def k0_off2822 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_217 : BitVec 32 := 1#32
  let v645 : BitVec 32 := Scalar.addi arg20 c1_i32_217
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v646 : BitVec 32 := Scalar.addi v645 arg21
  let v647 : Index := Scalar.indexCast v646
  let c560_218 : Index := 560#32
  ![v647.toNat, 560]
def k0_off2823 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v652 : Index := Scalar.indexCast arg21
  let c560_219 : Index := 560#32
  ![v652.toNat, 560]
def k0_off2824 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v656 : Index := Scalar.indexCast arg20
  let c576 : Index := 576#32
  ![v656.toNat, 576]
def k0_off2825 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_220 : BitVec 32 := 1#32
  let v659 : BitVec 32 := Scalar.addi arg20 c1_i32_220
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v660 : BitVec 32 := Scalar.addi v659 arg21
  let v661 : Index := Scalar.indexCast v660
  let c576_221 : Index := 576#32
  ![v661.toNat, 576]
def k0_off2826 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v666 : Index := Scalar.indexCast arg21
  let c576_222 : Index := 576#32
  ![v666.toNat, 576]
def k0_off2827 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v670 : Index := Scalar.indexCast arg20
  let c592 : Index := 592#32
  ![v670.toNat, 592]
def k0_off2828 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_223 : BitVec 32 := 1#32
  let v673 : BitVec 32 := Scalar.addi arg20 c1_i32_223
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v674 : BitVec 32 := Scalar.addi v673 arg21
  let v675 : Index := Scalar.indexCast v674
  let c592_224 : Index := 592#32
  ![v675.toNat, 592]
def k0_off2829 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v680 : Index := Scalar.indexCast arg21
  let c592_225 : Index := 592#32
  ![v680.toNat, 592]
def k0_off2830 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v684 : Index := Scalar.indexCast arg20
  let c608 : Index := 608#32
  ![v684.toNat, 608]
def k0_off2831 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_226 : BitVec 32 := 1#32
  let v687 : BitVec 32 := Scalar.addi arg20 c1_i32_226
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v688 : BitVec 32 := Scalar.addi v687 arg21
  let v689 : Index := Scalar.indexCast v688
  let c608_227 : Index := 608#32
  ![v689.toNat, 608]
def k0_off2832 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v694 : Index := Scalar.indexCast arg21
  let c608_228 : Index := 608#32
  ![v694.toNat, 608]
def k0_off2833 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v698 : Index := Scalar.indexCast arg20
  let c624 : Index := 624#32
  ![v698.toNat, 624]
def k0_off2834 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_229 : BitVec 32 := 1#32
  let v701 : BitVec 32 := Scalar.addi arg20 c1_i32_229
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v702 : BitVec 32 := Scalar.addi v701 arg21
  let v703 : Index := Scalar.indexCast v702
  let c624_230 : Index := 624#32
  ![v703.toNat, 624]
def k0_off2835 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v708 : Index := Scalar.indexCast arg21
  let c624_231 : Index := 624#32
  ![v708.toNat, 624]
def k0_off2836 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v712 : Index := Scalar.indexCast arg20
  let c640 : Index := 640#32
  ![v712.toNat, 640]
def k0_off2837 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_232 : BitVec 32 := 1#32
  let v715 : BitVec 32 := Scalar.addi arg20 c1_i32_232
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v716 : BitVec 32 := Scalar.addi v715 arg21
  let v717 : Index := Scalar.indexCast v716
  let c640_233 : Index := 640#32
  ![v717.toNat, 640]
def k0_off2838 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v722 : Index := Scalar.indexCast arg21
  let c640_234 : Index := 640#32
  ![v722.toNat, 640]
def k0_off2839 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v726 : Index := Scalar.indexCast arg20
  let c656 : Index := 656#32
  ![v726.toNat, 656]
def k0_off2840 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_235 : BitVec 32 := 1#32
  let v729 : BitVec 32 := Scalar.addi arg20 c1_i32_235
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v730 : BitVec 32 := Scalar.addi v729 arg21
  let v731 : Index := Scalar.indexCast v730
  let c656_236 : Index := 656#32
  ![v731.toNat, 656]
def k0_off2841 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v736 : Index := Scalar.indexCast arg21
  let c656_237 : Index := 656#32
  ![v736.toNat, 656]
def k0_off2842 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v740 : Index := Scalar.indexCast arg20
  let c672 : Index := 672#32
  ![v740.toNat, 672]
def k0_off2843 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_238 : BitVec 32 := 1#32
  let v743 : BitVec 32 := Scalar.addi arg20 c1_i32_238
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v744 : BitVec 32 := Scalar.addi v743 arg21
  let v745 : Index := Scalar.indexCast v744
  let c672_239 : Index := 672#32
  ![v745.toNat, 672]
def k0_off2844 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v750 : Index := Scalar.indexCast arg21
  let c672_240 : Index := 672#32
  ![v750.toNat, 672]
def k0_off2845 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v754 : Index := Scalar.indexCast arg20
  let c688 : Index := 688#32
  ![v754.toNat, 688]
def k0_off2846 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_241 : BitVec 32 := 1#32
  let v757 : BitVec 32 := Scalar.addi arg20 c1_i32_241
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v758 : BitVec 32 := Scalar.addi v757 arg21
  let v759 : Index := Scalar.indexCast v758
  let c688_242 : Index := 688#32
  ![v759.toNat, 688]
def k0_off2847 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v764 : Index := Scalar.indexCast arg21
  let c688_243 : Index := 688#32
  ![v764.toNat, 688]
def k0_off2848 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v768 : Index := Scalar.indexCast arg20
  let c704 : Index := 704#32
  ![v768.toNat, 704]
def k0_off2849 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_244 : BitVec 32 := 1#32
  let v771 : BitVec 32 := Scalar.addi arg20 c1_i32_244
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v772 : BitVec 32 := Scalar.addi v771 arg21
  let v773 : Index := Scalar.indexCast v772
  let c704_245 : Index := 704#32
  ![v773.toNat, 704]
def k0_off2850 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v778 : Index := Scalar.indexCast arg21
  let c704_246 : Index := 704#32
  ![v778.toNat, 704]
def k0_off2851 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v782 : Index := Scalar.indexCast arg20
  let c720 : Index := 720#32
  ![v782.toNat, 720]
def k0_off2852 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_247 : BitVec 32 := 1#32
  let v785 : BitVec 32 := Scalar.addi arg20 c1_i32_247
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v786 : BitVec 32 := Scalar.addi v785 arg21
  let v787 : Index := Scalar.indexCast v786
  let c720_248 : Index := 720#32
  ![v787.toNat, 720]
def k0_off2853 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v792 : Index := Scalar.indexCast arg21
  let c720_249 : Index := 720#32
  ![v792.toNat, 720]
def k0_off2854 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v796 : Index := Scalar.indexCast arg20
  let c736 : Index := 736#32
  ![v796.toNat, 736]
def k0_off2855 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_250 : BitVec 32 := 1#32
  let v799 : BitVec 32 := Scalar.addi arg20 c1_i32_250
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v800 : BitVec 32 := Scalar.addi v799 arg21
  let v801 : Index := Scalar.indexCast v800
  let c736_251 : Index := 736#32
  ![v801.toNat, 736]
def k0_off2856 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v806 : Index := Scalar.indexCast arg21
  let c736_252 : Index := 736#32
  ![v806.toNat, 736]
def k0_off2857 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v810 : Index := Scalar.indexCast arg20
  let c752 : Index := 752#32
  ![v810.toNat, 752]
def k0_off2858 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_253 : BitVec 32 := 1#32
  let v813 : BitVec 32 := Scalar.addi arg20 c1_i32_253
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v814 : BitVec 32 := Scalar.addi v813 arg21
  let v815 : Index := Scalar.indexCast v814
  let c752_254 : Index := 752#32
  ![v815.toNat, 752]
def k0_off2859 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v820 : Index := Scalar.indexCast arg21
  let c752_255 : Index := 752#32
  ![v820.toNat, 752]
def k0_off2860 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v824 : Index := Scalar.indexCast arg20
  let c768 : Index := 768#32
  ![v824.toNat, 768]
def k0_off2861 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_256 : BitVec 32 := 1#32
  let v827 : BitVec 32 := Scalar.addi arg20 c1_i32_256
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v828 : BitVec 32 := Scalar.addi v827 arg21
  let v829 : Index := Scalar.indexCast v828
  let c768_257 : Index := 768#32
  ![v829.toNat, 768]
def k0_off2862 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v834 : Index := Scalar.indexCast arg21
  let c768_258 : Index := 768#32
  ![v834.toNat, 768]
def k0_off2863 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v838 : Index := Scalar.indexCast arg20
  let c784 : Index := 784#32
  ![v838.toNat, 784]
def k0_off2864 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_259 : BitVec 32 := 1#32
  let v841 : BitVec 32 := Scalar.addi arg20 c1_i32_259
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v842 : BitVec 32 := Scalar.addi v841 arg21
  let v843 : Index := Scalar.indexCast v842
  let c784_260 : Index := 784#32
  ![v843.toNat, 784]
def k0_off2865 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v848 : Index := Scalar.indexCast arg21
  let c784_261 : Index := 784#32
  ![v848.toNat, 784]
def k0_off2866 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v852 : Index := Scalar.indexCast arg20
  let c800 : Index := 800#32
  ![v852.toNat, 800]
def k0_off2867 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_262 : BitVec 32 := 1#32
  let v855 : BitVec 32 := Scalar.addi arg20 c1_i32_262
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v856 : BitVec 32 := Scalar.addi v855 arg21
  let v857 : Index := Scalar.indexCast v856
  let c800_263 : Index := 800#32
  ![v857.toNat, 800]
def k0_off2868 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v862 : Index := Scalar.indexCast arg21
  let c800_264 : Index := 800#32
  ![v862.toNat, 800]
def k0_off2869 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v866 : Index := Scalar.indexCast arg20
  let c816 : Index := 816#32
  ![v866.toNat, 816]
def k0_off2870 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_265 : BitVec 32 := 1#32
  let v869 : BitVec 32 := Scalar.addi arg20 c1_i32_265
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v870 : BitVec 32 := Scalar.addi v869 arg21
  let v871 : Index := Scalar.indexCast v870
  let c816_266 : Index := 816#32
  ![v871.toNat, 816]
def k0_off2871 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v876 : Index := Scalar.indexCast arg21
  let c816_267 : Index := 816#32
  ![v876.toNat, 816]
def k0_off2872 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v880 : Index := Scalar.indexCast arg20
  let c832 : Index := 832#32
  ![v880.toNat, 832]
def k0_off2873 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_268 : BitVec 32 := 1#32
  let v883 : BitVec 32 := Scalar.addi arg20 c1_i32_268
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v884 : BitVec 32 := Scalar.addi v883 arg21
  let v885 : Index := Scalar.indexCast v884
  let c832_269 : Index := 832#32
  ![v885.toNat, 832]
def k0_off2874 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v890 : Index := Scalar.indexCast arg21
  let c832_270 : Index := 832#32
  ![v890.toNat, 832]
def k0_off2875 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v894 : Index := Scalar.indexCast arg20
  let c848 : Index := 848#32
  ![v894.toNat, 848]
def k0_off2876 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_271 : BitVec 32 := 1#32
  let v897 : BitVec 32 := Scalar.addi arg20 c1_i32_271
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v898 : BitVec 32 := Scalar.addi v897 arg21
  let v899 : Index := Scalar.indexCast v898
  let c848_272 : Index := 848#32
  ![v899.toNat, 848]
def k0_off2877 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v904 : Index := Scalar.indexCast arg21
  let c848_273 : Index := 848#32
  ![v904.toNat, 848]
def k0_off2878 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v908 : Index := Scalar.indexCast arg20
  let c864 : Index := 864#32
  ![v908.toNat, 864]
def k0_off2879 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_274 : BitVec 32 := 1#32
  let v911 : BitVec 32 := Scalar.addi arg20 c1_i32_274
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v912 : BitVec 32 := Scalar.addi v911 arg21
  let v913 : Index := Scalar.indexCast v912
  let c864_275 : Index := 864#32
  ![v913.toNat, 864]
def k0_off2880 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v918 : Index := Scalar.indexCast arg21
  let c864_276 : Index := 864#32
  ![v918.toNat, 864]
def k0_off2881 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v922 : Index := Scalar.indexCast arg20
  let c880 : Index := 880#32
  ![v922.toNat, 880]
def k0_off2882 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_277 : BitVec 32 := 1#32
  let v925 : BitVec 32 := Scalar.addi arg20 c1_i32_277
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v926 : BitVec 32 := Scalar.addi v925 arg21
  let v927 : Index := Scalar.indexCast v926
  let c880_278 : Index := 880#32
  ![v927.toNat, 880]
def k0_off2883 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v932 : Index := Scalar.indexCast arg21
  let c880_279 : Index := 880#32
  ![v932.toNat, 880]
def k0_off2884 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v936 : Index := Scalar.indexCast arg20
  let c896 : Index := 896#32
  ![v936.toNat, 896]
def k0_off2885 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_280 : BitVec 32 := 1#32
  let v939 : BitVec 32 := Scalar.addi arg20 c1_i32_280
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v940 : BitVec 32 := Scalar.addi v939 arg21
  let v941 : Index := Scalar.indexCast v940
  let c896_281 : Index := 896#32
  ![v941.toNat, 896]
def k0_off2886 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v946 : Index := Scalar.indexCast arg21
  let c896_282 : Index := 896#32
  ![v946.toNat, 896]
def k0_off2887 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v950 : Index := Scalar.indexCast arg20
  let c912 : Index := 912#32
  ![v950.toNat, 912]
def k0_off2888 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_283 : BitVec 32 := 1#32
  let v953 : BitVec 32 := Scalar.addi arg20 c1_i32_283
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v954 : BitVec 32 := Scalar.addi v953 arg21
  let v955 : Index := Scalar.indexCast v954
  let c912_284 : Index := 912#32
  ![v955.toNat, 912]
def k0_off2889 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v960 : Index := Scalar.indexCast arg21
  let c912_285 : Index := 912#32
  ![v960.toNat, 912]
def k0_off2890 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v964 : Index := Scalar.indexCast arg20
  let c928 : Index := 928#32
  ![v964.toNat, 928]
def k0_off2891 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_286 : BitVec 32 := 1#32
  let v967 : BitVec 32 := Scalar.addi arg20 c1_i32_286
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v968 : BitVec 32 := Scalar.addi v967 arg21
  let v969 : Index := Scalar.indexCast v968
  let c928_287 : Index := 928#32
  ![v969.toNat, 928]
def k0_off2892 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v974 : Index := Scalar.indexCast arg21
  let c928_288 : Index := 928#32
  ![v974.toNat, 928]
def k0_off2893 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v978 : Index := Scalar.indexCast arg20
  let c944 : Index := 944#32
  ![v978.toNat, 944]
def k0_off2894 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_289 : BitVec 32 := 1#32
  let v981 : BitVec 32 := Scalar.addi arg20 c1_i32_289
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v982 : BitVec 32 := Scalar.addi v981 arg21
  let v983 : Index := Scalar.indexCast v982
  let c944_290 : Index := 944#32
  ![v983.toNat, 944]
def k0_off2895 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v988 : Index := Scalar.indexCast arg21
  let c944_291 : Index := 944#32
  ![v988.toNat, 944]
def k0_off2896 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v992 : Index := Scalar.indexCast arg20
  let c960 : Index := 960#32
  ![v992.toNat, 960]
def k0_off2897 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_292 : BitVec 32 := 1#32
  let v995 : BitVec 32 := Scalar.addi arg20 c1_i32_292
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v996 : BitVec 32 := Scalar.addi v995 arg21
  let v997 : Index := Scalar.indexCast v996
  let c960_293 : Index := 960#32
  ![v997.toNat, 960]
def k0_off2898 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v1002 : Index := Scalar.indexCast arg21
  let c960_294 : Index := 960#32
  ![v1002.toNat, 960]
def k0_off2899 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v1006 : Index := Scalar.indexCast arg20
  let c976 : Index := 976#32
  ![v1006.toNat, 976]
def k0_off2900 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_295 : BitVec 32 := 1#32
  let v1009 : BitVec 32 := Scalar.addi arg20 c1_i32_295
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v1010 : BitVec 32 := Scalar.addi v1009 arg21
  let v1011 : Index := Scalar.indexCast v1010
  let c976_296 : Index := 976#32
  ![v1011.toNat, 976]
def k0_off2901 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v1016 : Index := Scalar.indexCast arg21
  let c976_297 : Index := 976#32
  ![v1016.toNat, 976]
def k0_off2902 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v1020 : Index := Scalar.indexCast arg20
  let c992 : Index := 992#32
  ![v1020.toNat, 992]
def k0_off2903 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_298 : BitVec 32 := 1#32
  let v1023 : BitVec 32 := Scalar.addi arg20 c1_i32_298
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v1024 : BitVec 32 := Scalar.addi v1023 arg21
  let v1025 : Index := Scalar.indexCast v1024
  let c992_299 : Index := 992#32
  ![v1025.toNat, 992]
def k0_off2904 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v1030 : Index := Scalar.indexCast arg21
  let c992_300 : Index := 992#32
  ![v1030.toNat, 992]
def k0_off2905 (k0_t41 : Fin k0_t41_loop.trips) : Fin 2 → Nat :=
  let c0_i32_88 : BitVec 32 := 0#32
  let c1_i32_90 : BitVec 32 := 1#32
  let arg20 : BitVec 32 := Scf.iv c0_i32_88 c1_i32_90 k0_t41
  let v1034 : Index := Scalar.indexCast arg20
  let c1008 : Index := 1008#32
  ![v1034.toNat, 1008]
def k0_off2906 (k0_t41 : Fin k0_t41_loop.trips) (k0_t43 : Fin (k0_t43_loop k0_t41).trips) : Fin 2 → Nat :=
  let c0_i32_88 : BitVec 32 := 0#32
  let c1_i32_90 : BitVec 32 := 1#32
  let arg20 : BitVec 32 := Scf.iv c0_i32_88 c1_i32_90 k0_t41
  let c1_i32_301 : BitVec 32 := 1#32
  let v1037 : BitVec 32 := Scalar.addi arg20 c1_i32_301
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v1038 : BitVec 32 := Scalar.addi v1037 arg21
  let v1039 : Index := Scalar.indexCast v1038
  let c1008_302 : Index := 1008#32
  ![v1039.toNat, 1008]
def k0_off2907 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v1044 : Index := Scalar.indexCast arg21
  let c1008_303 : Index := 1008#32
  ![v1044.toNat, 1008]
def k0_off2908 (k0_t41 : Fin k0_t41_loop.trips) (k0_t43 : Fin (k0_t43_loop k0_t41).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let c0_i32_304 : BitVec 32 := 0#32
  ![arg21.toNat, 0]
def k0_off2909 (i : grid0.Coords) (k0_t41 : Fin k0_t41_loop.trips) (k0_t43 : Fin (k0_t43_loop k0_t41).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c1_i32_86 : BitVec 32 := 1#32
  let v116 : BitVec 32 := Scalar.addi v42 c1_i32_86
  let c16_i32_93 : BitVec 32 := 16#32
  let v119 : BitVec 32 := Scalar.muli v116 c16_i32_93
  let c0_i32_88 : BitVec 32 := 0#32
  let c1_i32_90 : BitVec 32 := 1#32
  let arg20 : BitVec 32 := Scf.iv c0_i32_88 c1_i32_90 k0_t41
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t43
  let v1048 : BitVec 32 := Scalar.addi v141 arg21
  let c0_i32_305 : BitVec 32 := 0#32
  ![v1048.toNat, 0]
@[reducible] def k0_t44_loop (k0_t41 : Fin k0_t41_loop.trips) : Scf.Loop 32 :=
  let c0_i32_108 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let c1_i32_110 : BitVec 32 := 1#32
  ⟨c0_i32_108, v151, c1_i32_110⟩
@[reducible] def k0_t45_loop (k0_t41 : Fin k0_t41_loop.trips) : Scf.Loop 32 :=
  let c0_i32_108 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t41
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let v148 : BitVec 32 := Scalar.addi c0_i32_108 v147
  let c1_i32_111 : BitVec 32 := 1#32
  ⟨v151, v148, c1_i32_111⟩
def k0_cond13 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32_76 : BitVec 32 := 28#32
  let v108 : BitVec 1 := Scalar.cmpi .slt v1 c28_i32_76
  let v109 : BitVec 32 := Scalar.extui v108
  let c0_i32_77 : BitVec 32 := 0#32
  let v110 : BitVec 1 := Scalar.cmpi .ne v109 c0_i32_77
  v110

@[reducible] def k0_t46_loop : Scf.Loop 32 :=
  let c0_i32_81 : BitVec 32 := 0#32
  let c8_i32 : BitVec 32 := 8#32
  let v114 : BitVec 32 := Scalar.addi c0_i32_81 c8_i32
  let c1_i32_82 : BitVec 32 := 1#32
  ⟨c0_i32_81, v114, c1_i32_82⟩
def k0_off2910 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v125 : Index := Scalar.indexCast v121
  let c0 : Index := 0#32
  ![v125.toNat, 0]
def k0_off2911 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v128 : Index := Scalar.indexCast v121
  let c16 : Index := 16#32
  ![v128.toNat, 16]
def k0_off2912 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v131 : Index := Scalar.indexCast v121
  let c32 : Index := 32#32
  ![v131.toNat, 32]
def k0_off2913 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v134 : Index := Scalar.indexCast v121
  let c48 : Index := 48#32
  ![v134.toNat, 48]
def k0_off2914 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v137 : Index := Scalar.indexCast v121
  let c64 : Index := 64#32
  ![v137.toNat, 64]
def k0_off2915 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v140 : Index := Scalar.indexCast v121
  let c80 : Index := 80#32
  ![v140.toNat, 80]
def k0_off2916 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v143 : Index := Scalar.indexCast v121
  let c96 : Index := 96#32
  ![v143.toNat, 96]
def k0_off2917 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v146 : Index := Scalar.indexCast v121
  let c112 : Index := 112#32
  ![v146.toNat, 112]
def k0_off2918 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v149 : Index := Scalar.indexCast v121
  let c128 : Index := 128#32
  ![v149.toNat, 128]
def k0_off2919 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v152 : Index := Scalar.indexCast v121
  let c144 : Index := 144#32
  ![v152.toNat, 144]
def k0_off2920 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v155 : Index := Scalar.indexCast v121
  let c160 : Index := 160#32
  ![v155.toNat, 160]
def k0_off2921 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v158 : Index := Scalar.indexCast v121
  let c176 : Index := 176#32
  ![v158.toNat, 176]
def k0_off2922 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v161 : Index := Scalar.indexCast v121
  let c192 : Index := 192#32
  ![v161.toNat, 192]
def k0_off2923 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v164 : Index := Scalar.indexCast v121
  let c208 : Index := 208#32
  ![v164.toNat, 208]
def k0_off2924 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v167 : Index := Scalar.indexCast v121
  let c224 : Index := 224#32
  ![v167.toNat, 224]
def k0_off2925 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v170 : Index := Scalar.indexCast v121
  let c240 : Index := 240#32
  ![v170.toNat, 240]
def k0_off2926 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v173 : Index := Scalar.indexCast v121
  let c256 : Index := 256#32
  ![v173.toNat, 256]
def k0_off2927 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v176 : Index := Scalar.indexCast v121
  let c272 : Index := 272#32
  ![v176.toNat, 272]
def k0_off2928 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v179 : Index := Scalar.indexCast v121
  let c288 : Index := 288#32
  ![v179.toNat, 288]
def k0_off2929 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v182 : Index := Scalar.indexCast v121
  let c304 : Index := 304#32
  ![v182.toNat, 304]
def k0_off2930 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v185 : Index := Scalar.indexCast v121
  let c320 : Index := 320#32
  ![v185.toNat, 320]
def k0_off2931 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v188 : Index := Scalar.indexCast v121
  let c336 : Index := 336#32
  ![v188.toNat, 336]
def k0_off2932 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v191 : Index := Scalar.indexCast v121
  let c352 : Index := 352#32
  ![v191.toNat, 352]
def k0_off2933 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v194 : Index := Scalar.indexCast v121
  let c368 : Index := 368#32
  ![v194.toNat, 368]
def k0_off2934 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v197 : Index := Scalar.indexCast v121
  let c384 : Index := 384#32
  ![v197.toNat, 384]
def k0_off2935 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v200 : Index := Scalar.indexCast v121
  let c400 : Index := 400#32
  ![v200.toNat, 400]
def k0_off2936 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v203 : Index := Scalar.indexCast v121
  let c416 : Index := 416#32
  ![v203.toNat, 416]
def k0_off2937 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v206 : Index := Scalar.indexCast v121
  let c432 : Index := 432#32
  ![v206.toNat, 432]
def k0_off2938 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v209 : Index := Scalar.indexCast v121
  let c448 : Index := 448#32
  ![v209.toNat, 448]
def k0_off2939 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v212 : Index := Scalar.indexCast v121
  let c464 : Index := 464#32
  ![v212.toNat, 464]
def k0_off2940 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v215 : Index := Scalar.indexCast v121
  let c480 : Index := 480#32
  ![v215.toNat, 480]
def k0_off2941 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v218 : Index := Scalar.indexCast v121
  let c496 : Index := 496#32
  ![v218.toNat, 496]
@[reducible] def k0_t47_loop : Scf.Loop 32 :=
  let c0_i32_97 : BitVec 32 := 0#32
  let c16_i32_98 : BitVec 32 := 16#32
  let v221 : BitVec 32 := Scalar.addi c0_i32_97 c16_i32_98
  let c1_i32_99 : BitVec 32 := 1#32
  ⟨c0_i32_97, v221, c1_i32_99⟩
def k0_off2942 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v576 : Index := Scalar.indexCast arg22
  let c0_212 : Index := 0#32
  ![v576.toNat, 0]
def k0_off2943 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v585 : Index := Scalar.indexCast arg22
  let c16_214 : Index := 16#32
  ![v585.toNat, 16]
def k0_off2944 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v594 : Index := Scalar.indexCast arg22
  let c32_216 : Index := 32#32
  ![v594.toNat, 32]
def k0_off2945 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v603 : Index := Scalar.indexCast arg22
  let c48_218 : Index := 48#32
  ![v603.toNat, 48]
def k0_off2946 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v612 : Index := Scalar.indexCast arg22
  let c64_220 : Index := 64#32
  ![v612.toNat, 64]
def k0_off2947 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v621 : Index := Scalar.indexCast arg22
  let c80_222 : Index := 80#32
  ![v621.toNat, 80]
def k0_off2948 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v630 : Index := Scalar.indexCast arg22
  let c96_224 : Index := 96#32
  ![v630.toNat, 96]
def k0_off2949 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v639 : Index := Scalar.indexCast arg22
  let c112_226 : Index := 112#32
  ![v639.toNat, 112]
def k0_off2950 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v648 : Index := Scalar.indexCast arg22
  let c128_228 : Index := 128#32
  ![v648.toNat, 128]
def k0_off2951 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v657 : Index := Scalar.indexCast arg22
  let c144_230 : Index := 144#32
  ![v657.toNat, 144]
def k0_off2952 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v666 : Index := Scalar.indexCast arg22
  let c160_232 : Index := 160#32
  ![v666.toNat, 160]
def k0_off2953 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v675 : Index := Scalar.indexCast arg22
  let c176_234 : Index := 176#32
  ![v675.toNat, 176]
def k0_off2954 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v684 : Index := Scalar.indexCast arg22
  let c192_236 : Index := 192#32
  ![v684.toNat, 192]
def k0_off2955 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v693 : Index := Scalar.indexCast arg22
  let c208_238 : Index := 208#32
  ![v693.toNat, 208]
def k0_off2956 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v702 : Index := Scalar.indexCast arg22
  let c224_240 : Index := 224#32
  ![v702.toNat, 224]
def k0_off2957 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v711 : Index := Scalar.indexCast arg22
  let c240_242 : Index := 240#32
  ![v711.toNat, 240]
def k0_off2958 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v720 : Index := Scalar.indexCast arg22
  let c256_244 : Index := 256#32
  ![v720.toNat, 256]
def k0_off2959 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v729 : Index := Scalar.indexCast arg22
  let c272_246 : Index := 272#32
  ![v729.toNat, 272]
def k0_off2960 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v738 : Index := Scalar.indexCast arg22
  let c288_248 : Index := 288#32
  ![v738.toNat, 288]
def k0_off2961 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v747 : Index := Scalar.indexCast arg22
  let c304_250 : Index := 304#32
  ![v747.toNat, 304]
def k0_off2962 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v756 : Index := Scalar.indexCast arg22
  let c320_252 : Index := 320#32
  ![v756.toNat, 320]
def k0_off2963 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v765 : Index := Scalar.indexCast arg22
  let c336_254 : Index := 336#32
  ![v765.toNat, 336]
def k0_off2964 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v774 : Index := Scalar.indexCast arg22
  let c352_256 : Index := 352#32
  ![v774.toNat, 352]
def k0_off2965 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v783 : Index := Scalar.indexCast arg22
  let c368_258 : Index := 368#32
  ![v783.toNat, 368]
def k0_off2966 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v792 : Index := Scalar.indexCast arg22
  let c384_260 : Index := 384#32
  ![v792.toNat, 384]
def k0_off2967 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v801 : Index := Scalar.indexCast arg22
  let c400_262 : Index := 400#32
  ![v801.toNat, 400]
def k0_off2968 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v810 : Index := Scalar.indexCast arg22
  let c416_264 : Index := 416#32
  ![v810.toNat, 416]
def k0_off2969 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v819 : Index := Scalar.indexCast arg22
  let c432_266 : Index := 432#32
  ![v819.toNat, 432]
def k0_off2970 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v828 : Index := Scalar.indexCast arg22
  let c448_268 : Index := 448#32
  ![v828.toNat, 448]
def k0_off2971 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v837 : Index := Scalar.indexCast arg22
  let c464_270 : Index := 464#32
  ![v837.toNat, 464]
def k0_off2972 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v846 : Index := Scalar.indexCast arg22
  let c480_272 : Index := 480#32
  ![v846.toNat, 480]
def k0_off2973 (k0_t47 : Fin k0_t47_loop.trips) : Fin 2 → Nat :=
  let c0_i32_97 : BitVec 32 := 0#32
  let c1_i32_99 : BitVec 32 := 1#32
  let arg22 : BitVec 32 := Scf.iv c0_i32_97 c1_i32_99 k0_t47
  let v855 : Index := Scalar.indexCast arg22
  let c496_274 : Index := 496#32
  ![v855.toNat, 496]
def k0_off2974 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v222 : Index := Scalar.indexCast v121
  let c512 : Index := 512#32
  ![v222.toNat, 512]
def k0_off2975 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v225 : Index := Scalar.indexCast v121
  let c528 : Index := 528#32
  ![v225.toNat, 528]
def k0_off2976 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v228 : Index := Scalar.indexCast v121
  let c544 : Index := 544#32
  ![v228.toNat, 544]
def k0_off2977 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v231 : Index := Scalar.indexCast v121
  let c560 : Index := 560#32
  ![v231.toNat, 560]
def k0_off2978 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v234 : Index := Scalar.indexCast v121
  let c576 : Index := 576#32
  ![v234.toNat, 576]
def k0_off2979 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v237 : Index := Scalar.indexCast v121
  let c592 : Index := 592#32
  ![v237.toNat, 592]
def k0_off2980 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v240 : Index := Scalar.indexCast v121
  let c608 : Index := 608#32
  ![v240.toNat, 608]
def k0_off2981 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v243 : Index := Scalar.indexCast v121
  let c624 : Index := 624#32
  ![v243.toNat, 624]
def k0_off2982 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v246 : Index := Scalar.indexCast v121
  let c640 : Index := 640#32
  ![v246.toNat, 640]
def k0_off2983 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v249 : Index := Scalar.indexCast v121
  let c656 : Index := 656#32
  ![v249.toNat, 656]
def k0_off2984 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v252 : Index := Scalar.indexCast v121
  let c672 : Index := 672#32
  ![v252.toNat, 672]
def k0_off2985 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v255 : Index := Scalar.indexCast v121
  let c688 : Index := 688#32
  ![v255.toNat, 688]
def k0_off2986 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v258 : Index := Scalar.indexCast v121
  let c704 : Index := 704#32
  ![v258.toNat, 704]
def k0_off2987 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v261 : Index := Scalar.indexCast v121
  let c720 : Index := 720#32
  ![v261.toNat, 720]
def k0_off2988 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v264 : Index := Scalar.indexCast v121
  let c736 : Index := 736#32
  ![v264.toNat, 736]
def k0_off2989 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v267 : Index := Scalar.indexCast v121
  let c752 : Index := 752#32
  ![v267.toNat, 752]
def k0_off2990 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v270 : Index := Scalar.indexCast v121
  let c768 : Index := 768#32
  ![v270.toNat, 768]
def k0_off2991 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v273 : Index := Scalar.indexCast v121
  let c784 : Index := 784#32
  ![v273.toNat, 784]
def k0_off2992 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v276 : Index := Scalar.indexCast v121
  let c800 : Index := 800#32
  ![v276.toNat, 800]
def k0_off2993 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v279 : Index := Scalar.indexCast v121
  let c816 : Index := 816#32
  ![v279.toNat, 816]
def k0_off2994 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v282 : Index := Scalar.indexCast v121
  let c832 : Index := 832#32
  ![v282.toNat, 832]
def k0_off2995 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v285 : Index := Scalar.indexCast v121
  let c848 : Index := 848#32
  ![v285.toNat, 848]
def k0_off2996 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v288 : Index := Scalar.indexCast v121
  let c864 : Index := 864#32
  ![v288.toNat, 864]
def k0_off2997 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v291 : Index := Scalar.indexCast v121
  let c880 : Index := 880#32
  ![v291.toNat, 880]
def k0_off2998 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v294 : Index := Scalar.indexCast v121
  let c896 : Index := 896#32
  ![v294.toNat, 896]
def k0_off2999 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v297 : Index := Scalar.indexCast v121
  let c912 : Index := 912#32
  ![v297.toNat, 912]
def k0_off3000 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v300 : Index := Scalar.indexCast v121
  let c928 : Index := 928#32
  ![v300.toNat, 928]
def k0_off3001 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v303 : Index := Scalar.indexCast v121
  let c944 : Index := 944#32
  ![v303.toNat, 944]
def k0_off3002 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v306 : Index := Scalar.indexCast v121
  let c960 : Index := 960#32
  ![v306.toNat, 960]
def k0_off3003 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v309 : Index := Scalar.indexCast v121
  let c976 : Index := 976#32
  ![v309.toNat, 976]
def k0_off3004 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v312 : Index := Scalar.indexCast v121
  let c992 : Index := 992#32
  ![v312.toNat, 992]
def k0_off3005 (k0_t46 : Fin k0_t46_loop.trips) (c0_i32_93 : BitVec 32) : Fin 2 → Nat :=
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v315 : Index := Scalar.indexCast v121
  let c1008 : Index := 1008#32
  ![v315.toNat, 1008]
@[reducible] def k0_t48_loop : Scf.Loop 32 :=
  let c0_i32_102 : BitVec 32 := 0#32
  let c16_i32_103 : BitVec 32 := 16#32
  let v318 : BitVec 32 := Scalar.addi c0_i32_102 c16_i32_103
  let c1_i32_104 : BitVec 32 := 1#32
  ⟨c0_i32_102, v318, c1_i32_104⟩
def k0_off3006 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v576 : Index := Scalar.indexCast arg22
  let c512_212 : Index := 512#32
  ![v576.toNat, 512]
def k0_off3007 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v585 : Index := Scalar.indexCast arg22
  let c528_214 : Index := 528#32
  ![v585.toNat, 528]
def k0_off3008 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v594 : Index := Scalar.indexCast arg22
  let c544_216 : Index := 544#32
  ![v594.toNat, 544]
def k0_off3009 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v603 : Index := Scalar.indexCast arg22
  let c560_218 : Index := 560#32
  ![v603.toNat, 560]
def k0_off3010 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v612 : Index := Scalar.indexCast arg22
  let c576_220 : Index := 576#32
  ![v612.toNat, 576]
def k0_off3011 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v621 : Index := Scalar.indexCast arg22
  let c592_222 : Index := 592#32
  ![v621.toNat, 592]
def k0_off3012 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v630 : Index := Scalar.indexCast arg22
  let c608_224 : Index := 608#32
  ![v630.toNat, 608]
def k0_off3013 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v639 : Index := Scalar.indexCast arg22
  let c624_226 : Index := 624#32
  ![v639.toNat, 624]
def k0_off3014 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v648 : Index := Scalar.indexCast arg22
  let c640_228 : Index := 640#32
  ![v648.toNat, 640]
def k0_off3015 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v657 : Index := Scalar.indexCast arg22
  let c656_230 : Index := 656#32
  ![v657.toNat, 656]
def k0_off3016 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v666 : Index := Scalar.indexCast arg22
  let c672_232 : Index := 672#32
  ![v666.toNat, 672]
def k0_off3017 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v675 : Index := Scalar.indexCast arg22
  let c688_234 : Index := 688#32
  ![v675.toNat, 688]
def k0_off3018 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v684 : Index := Scalar.indexCast arg22
  let c704_236 : Index := 704#32
  ![v684.toNat, 704]
def k0_off3019 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v693 : Index := Scalar.indexCast arg22
  let c720_238 : Index := 720#32
  ![v693.toNat, 720]
def k0_off3020 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v702 : Index := Scalar.indexCast arg22
  let c736_240 : Index := 736#32
  ![v702.toNat, 736]
def k0_off3021 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v711 : Index := Scalar.indexCast arg22
  let c752_242 : Index := 752#32
  ![v711.toNat, 752]
def k0_off3022 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v720 : Index := Scalar.indexCast arg22
  let c768_244 : Index := 768#32
  ![v720.toNat, 768]
def k0_off3023 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v729 : Index := Scalar.indexCast arg22
  let c784_246 : Index := 784#32
  ![v729.toNat, 784]
def k0_off3024 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v738 : Index := Scalar.indexCast arg22
  let c800_248 : Index := 800#32
  ![v738.toNat, 800]
def k0_off3025 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v747 : Index := Scalar.indexCast arg22
  let c816_250 : Index := 816#32
  ![v747.toNat, 816]
def k0_off3026 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v756 : Index := Scalar.indexCast arg22
  let c832_252 : Index := 832#32
  ![v756.toNat, 832]
def k0_off3027 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v765 : Index := Scalar.indexCast arg22
  let c848_254 : Index := 848#32
  ![v765.toNat, 848]
def k0_off3028 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v774 : Index := Scalar.indexCast arg22
  let c864_256 : Index := 864#32
  ![v774.toNat, 864]
def k0_off3029 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v783 : Index := Scalar.indexCast arg22
  let c880_258 : Index := 880#32
  ![v783.toNat, 880]
def k0_off3030 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v792 : Index := Scalar.indexCast arg22
  let c896_260 : Index := 896#32
  ![v792.toNat, 896]
def k0_off3031 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v801 : Index := Scalar.indexCast arg22
  let c912_262 : Index := 912#32
  ![v801.toNat, 912]
def k0_off3032 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v810 : Index := Scalar.indexCast arg22
  let c928_264 : Index := 928#32
  ![v810.toNat, 928]
def k0_off3033 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v819 : Index := Scalar.indexCast arg22
  let c944_266 : Index := 944#32
  ![v819.toNat, 944]
def k0_off3034 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v828 : Index := Scalar.indexCast arg22
  let c960_268 : Index := 960#32
  ![v828.toNat, 960]
def k0_off3035 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v837 : Index := Scalar.indexCast arg22
  let c976_270 : Index := 976#32
  ![v837.toNat, 976]
def k0_off3036 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v846 : Index := Scalar.indexCast arg22
  let c992_272 : Index := 992#32
  ![v846.toNat, 992]
def k0_off3037 (k0_t48 : Fin k0_t48_loop.trips) : Fin 2 → Nat :=
  let c0_i32_102 : BitVec 32 := 0#32
  let c1_i32_104 : BitVec 32 := 1#32
  let arg22 : BitVec 32 := Scf.iv c0_i32_102 c1_i32_104 k0_t48
  let v855 : Index := Scalar.indexCast arg22
  let c1008_274 : Index := 1008#32
  ![v855.toNat, 1008]
def k0_off3038 (i : grid0.Coords) (k0_t46 : Fin k0_t46_loop.trips) (c0_i32_93 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32 : BitVec 32 := 7#32
  let v2 : BitVec 1 := Scalar.cmpi .sge v1 c7_i32
  let v3 : BitVec 32 := Scalar.extui v2
  let c13_i32 : BitVec 32 := 13#32
  let v4 : BitVec 1 := Scalar.cmpi .sge v1 c13_i32
  let v5 : BitVec 32 := Scalar.extui v4
  let v6 : BitVec 32 := Scalar.addi v3 v5
  let c18_i32 : BitVec 32 := 18#32
  let v7 : BitVec 1 := Scalar.cmpi .sge v1 c18_i32
  let v8 : BitVec 32 := Scalar.extui v7
  let v9 : BitVec 32 := Scalar.addi v6 v8
  let c22_i32 : BitVec 32 := 22#32
  let v10 : BitVec 1 := Scalar.cmpi .sge v1 c22_i32
  let v11 : BitVec 32 := Scalar.extui v10
  let v12 : BitVec 32 := Scalar.addi v9 v11
  let c25_i32 : BitVec 32 := 25#32
  let v13 : BitVec 1 := Scalar.cmpi .sge v1 c25_i32
  let v14 : BitVec 32 := Scalar.extui v13
  let v15 : BitVec 32 := Scalar.addi v12 v14
  let c27_i32 : BitVec 32 := 27#32
  let v16 : BitVec 1 := Scalar.cmpi .sge v1 c27_i32
  let v17 : BitVec 32 := Scalar.extui v16
  let v18 : BitVec 32 := Scalar.addi v15 v17
  let c16_i32_106 : BitVec 32 := 16#32
  let v319 : BitVec 32 := Scalar.muli v18 c16_i32_106
  let c2_i32_92 : BitVec 32 := 2#32
  let c0_i32_81 : BitVec 32 := 0#32
  let c1_i32_82 : BitVec 32 := 1#32
  let arg20 : BitVec 32 := Scf.iv c0_i32_81 c1_i32_82 k0_t46
  let v120 : BitVec 32 := Scalar.muli c2_i32_92 arg20
  let v121 : BitVec 32 := Scalar.addi v120 c0_i32_93
  let v320 : BitVec 32 := Scalar.addi v319 v121
  let c127_i32 : BitVec 32 := 127#32
  let v321 : BitVec 32 := Scalar.muli v320 c127_i32
  let c1_i32_107 : BitVec 32 := 1#32
  let v322 : BitVec 32 := Scalar.subi v320 c1_i32_107
  let v323 : BitVec 32 := Scalar.muli v320 v322
  let c0_i32_109 : BitVec 32 := 0#32
  let v325 : BitVec 1 := Scalar.cmpi .sgt v323 c0_i32_109
  let v326 : BitVec 32 := Scalar.extui v325
  let c0_i32_110 : BitVec 32 := 0#32
  let v327 : BitVec 1 := Scalar.cmpi .slt v323 c0_i32_110
  let v328 : BitVec 32 := Scalar.extui v327
  let v329 : BitVec 32 := Scalar.subi v326 v328
  let c2_i32_108 : BitVec 32 := 2#32
  let c0_i32_111 : BitVec 32 := 0#32
  let v330 : BitVec 1 := Scalar.cmpi .sgt c2_i32_108 c0_i32_111
  let v331 : BitVec 32 := Scalar.extui v330
  let c0_i32_112 : BitVec 32 := 0#32
  let v332 : BitVec 1 := Scalar.cmpi .slt c2_i32_108 c0_i32_112
  let v333 : BitVec 32 := Scalar.extui v332
  let v334 : BitVec 32 := Scalar.subi v331 v333
  let v335 : BitVec 1 := Scalar.cmpi .ne v329 v334
  let v336 : BitVec 32 := Scalar.remsi v323 c2_i32_108
  let c0_i32_113 : BitVec 32 := 0#32
  let v337 : BitVec 1 := Scalar.cmpi .ne v336 c0_i32_113
  let v338 : BitVec 1 := Scalar.andi v335 v337
  let v324 : BitVec 32 := Scalar.divsi v323 c2_i32_108
  let c1_i32_114 : BitVec 32 := 1#32
  let v339 : BitVec 32 := Scalar.subi v324 c1_i32_114
  let v340 : BitVec 32 := Scalar.select v338 v339 v324
  let v341 : BitVec 32 := Scalar.subi v321 v340
  let c15_i32 : BitVec 32 := 15#32
  let v19 : BitVec 32 := Scalar.subi c15_i32 v18
  let v20 : BitVec 32 := Scalar.muli v18 v19
  let c0_i32 : BitVec 32 := 0#32
  let v22 : BitVec 1 := Scalar.cmpi .sgt v20 c0_i32
  let v23 : BitVec 32 := Scalar.extui v22
  let c0_i32_1 : BitVec 32 := 0#32
  let v24 : BitVec 1 := Scalar.cmpi .slt v20 c0_i32_1
  let v25 : BitVec 32 := Scalar.extui v24
  let v26 : BitVec 32 := Scalar.subi v23 v25
  let c2_i32_0 : BitVec 32 := 2#32
  let c0_i32_2 : BitVec 32 := 0#32
  let v27 : BitVec 1 := Scalar.cmpi .sgt c2_i32_0 c0_i32_2
  let v28 : BitVec 32 := Scalar.extui v27
  let c0_i32_3 : BitVec 32 := 0#32
  let v29 : BitVec 1 := Scalar.cmpi .slt c2_i32_0 c0_i32_3
  let v30 : BitVec 32 := Scalar.extui v29
  let v31 : BitVec 32 := Scalar.subi v28 v30
  let v32 : BitVec 1 := Scalar.cmpi .ne v26 v31
  let v33 : BitVec 32 := Scalar.remsi v20 c2_i32_0
  let c0_i32_4 : BitVec 32 := 0#32
  let v34 : BitVec 1 := Scalar.cmpi .ne v33 c0_i32_4
  let v35 : BitVec 1 := Scalar.andi v32 v34
  let v21 : BitVec 32 := Scalar.divsi v20 c2_i32_0
  let c1_i32 : BitVec 32 := 1#32
  let v36 : BitVec 32 := Scalar.subi v21 c1_i32
  let v37 : BitVec 32 := Scalar.select v35 v36 v21
  let v38 : BitVec 32 := Scalar.subi v1 v37
  let v39 : BitVec 32 := Scalar.addi v38 v18
  let c1_i32_5 : BitVec 32 := 1#32
  let v40 : BitVec 32 := Scalar.addi v39 c1_i32_5
  let c16_i32_115 : BitVec 32 := 16#32
  let v342 : BitVec 32 := Scalar.muli v40 c16_i32_115
  let v343 : BitVec 32 := Scalar.addi v341 v342
  let v344 : BitVec 32 := Scalar.subi v343 v320
  let c1_i32_116 : BitVec 32 := 1#32
  let v345 : BitVec 32 := Scalar.subi v344 c1_i32_116
  let c0_i32_117 : BitVec 32 := 0#32
  ![v345.toNat, 0]
@[reducible] def k0_t49_loop : Scf.Loop 32 :=
  let c0_i32_156 : BitVec 32 := 0#32
  let c16_i32_157 : BitVec 32 := 16#32
  let v449 : BitVec 32 := Scalar.addi c0_i32_156 c16_i32_157
  let c1_i32_158 : BitVec 32 := 1#32
  ⟨c0_i32_156, v449, c1_i32_158⟩
def k0_off3039 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v576 : Index := Scalar.indexCast arg22
  let c0_212 : Index := 0#32
  ![v576.toNat, 0]
def k0_off3040 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v585 : Index := Scalar.indexCast arg22
  let c16_214 : Index := 16#32
  ![v585.toNat, 16]
def k0_off3041 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v594 : Index := Scalar.indexCast arg22
  let c32_216 : Index := 32#32
  ![v594.toNat, 32]
def k0_off3042 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v603 : Index := Scalar.indexCast arg22
  let c48_218 : Index := 48#32
  ![v603.toNat, 48]
def k0_off3043 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v612 : Index := Scalar.indexCast arg22
  let c64_220 : Index := 64#32
  ![v612.toNat, 64]
def k0_off3044 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v621 : Index := Scalar.indexCast arg22
  let c80_222 : Index := 80#32
  ![v621.toNat, 80]
def k0_off3045 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v630 : Index := Scalar.indexCast arg22
  let c96_224 : Index := 96#32
  ![v630.toNat, 96]
def k0_off3046 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v639 : Index := Scalar.indexCast arg22
  let c112_226 : Index := 112#32
  ![v639.toNat, 112]
def k0_off3047 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v648 : Index := Scalar.indexCast arg22
  let c128_228 : Index := 128#32
  ![v648.toNat, 128]
def k0_off3048 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v657 : Index := Scalar.indexCast arg22
  let c144_230 : Index := 144#32
  ![v657.toNat, 144]
def k0_off3049 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v666 : Index := Scalar.indexCast arg22
  let c160_232 : Index := 160#32
  ![v666.toNat, 160]
def k0_off3050 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v675 : Index := Scalar.indexCast arg22
  let c176_234 : Index := 176#32
  ![v675.toNat, 176]
def k0_off3051 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v684 : Index := Scalar.indexCast arg22
  let c192_236 : Index := 192#32
  ![v684.toNat, 192]
def k0_off3052 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v693 : Index := Scalar.indexCast arg22
  let c208_238 : Index := 208#32
  ![v693.toNat, 208]
def k0_off3053 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v702 : Index := Scalar.indexCast arg22
  let c224_240 : Index := 224#32
  ![v702.toNat, 224]
def k0_off3054 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v711 : Index := Scalar.indexCast arg22
  let c240_242 : Index := 240#32
  ![v711.toNat, 240]
def k0_off3055 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v720 : Index := Scalar.indexCast arg22
  let c256_244 : Index := 256#32
  ![v720.toNat, 256]
def k0_off3056 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v729 : Index := Scalar.indexCast arg22
  let c272_246 : Index := 272#32
  ![v729.toNat, 272]
def k0_off3057 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v738 : Index := Scalar.indexCast arg22
  let c288_248 : Index := 288#32
  ![v738.toNat, 288]
def k0_off3058 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v747 : Index := Scalar.indexCast arg22
  let c304_250 : Index := 304#32
  ![v747.toNat, 304]
def k0_off3059 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v756 : Index := Scalar.indexCast arg22
  let c320_252 : Index := 320#32
  ![v756.toNat, 320]
def k0_off3060 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v765 : Index := Scalar.indexCast arg22
  let c336_254 : Index := 336#32
  ![v765.toNat, 336]
def k0_off3061 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v774 : Index := Scalar.indexCast arg22
  let c352_256 : Index := 352#32
  ![v774.toNat, 352]
def k0_off3062 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v783 : Index := Scalar.indexCast arg22
  let c368_258 : Index := 368#32
  ![v783.toNat, 368]
def k0_off3063 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v792 : Index := Scalar.indexCast arg22
  let c384_260 : Index := 384#32
  ![v792.toNat, 384]
def k0_off3064 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v801 : Index := Scalar.indexCast arg22
  let c400_262 : Index := 400#32
  ![v801.toNat, 400]
def k0_off3065 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v810 : Index := Scalar.indexCast arg22
  let c416_264 : Index := 416#32
  ![v810.toNat, 416]
def k0_off3066 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v819 : Index := Scalar.indexCast arg22
  let c432_266 : Index := 432#32
  ![v819.toNat, 432]
def k0_off3067 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v828 : Index := Scalar.indexCast arg22
  let c448_268 : Index := 448#32
  ![v828.toNat, 448]
def k0_off3068 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v837 : Index := Scalar.indexCast arg22
  let c464_270 : Index := 464#32
  ![v837.toNat, 464]
def k0_off3069 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v846 : Index := Scalar.indexCast arg22
  let c480_272 : Index := 480#32
  ![v846.toNat, 480]
def k0_off3070 (k0_t49 : Fin k0_t49_loop.trips) : Fin 2 → Nat :=
  let c0_i32_156 : BitVec 32 := 0#32
  let c1_i32_158 : BitVec 32 := 1#32
  let arg22 : BitVec 32 := Scf.iv c0_i32_156 c1_i32_158 k0_t49
  let v855 : Index := Scalar.indexCast arg22
  let c496_274 : Index := 496#32
  ![v855.toNat, 496]
@[reducible] def k0_t50_loop : Scf.Loop 32 :=
  let c0_i32_193 : BitVec 32 := 0#32
  let c16_i32_194 : BitVec 32 := 16#32
  let v546 : BitVec 32 := Scalar.addi c0_i32_193 c16_i32_194
  let c1_i32_195 : BitVec 32 := 1#32
  ⟨c0_i32_193, v546, c1_i32_195⟩
def k0_off3071 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v576 : Index := Scalar.indexCast arg22
  let c512_212 : Index := 512#32
  ![v576.toNat, 512]
def k0_off3072 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v585 : Index := Scalar.indexCast arg22
  let c528_214 : Index := 528#32
  ![v585.toNat, 528]
def k0_off3073 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v594 : Index := Scalar.indexCast arg22
  let c544_216 : Index := 544#32
  ![v594.toNat, 544]
def k0_off3074 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v603 : Index := Scalar.indexCast arg22
  let c560_218 : Index := 560#32
  ![v603.toNat, 560]
def k0_off3075 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v612 : Index := Scalar.indexCast arg22
  let c576_220 : Index := 576#32
  ![v612.toNat, 576]
def k0_off3076 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v621 : Index := Scalar.indexCast arg22
  let c592_222 : Index := 592#32
  ![v621.toNat, 592]
def k0_off3077 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v630 : Index := Scalar.indexCast arg22
  let c608_224 : Index := 608#32
  ![v630.toNat, 608]
def k0_off3078 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v639 : Index := Scalar.indexCast arg22
  let c624_226 : Index := 624#32
  ![v639.toNat, 624]
def k0_off3079 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v648 : Index := Scalar.indexCast arg22
  let c640_228 : Index := 640#32
  ![v648.toNat, 640]
def k0_off3080 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v657 : Index := Scalar.indexCast arg22
  let c656_230 : Index := 656#32
  ![v657.toNat, 656]
def k0_off3081 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v666 : Index := Scalar.indexCast arg22
  let c672_232 : Index := 672#32
  ![v666.toNat, 672]
def k0_off3082 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v675 : Index := Scalar.indexCast arg22
  let c688_234 : Index := 688#32
  ![v675.toNat, 688]
def k0_off3083 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v684 : Index := Scalar.indexCast arg22
  let c704_236 : Index := 704#32
  ![v684.toNat, 704]
def k0_off3084 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v693 : Index := Scalar.indexCast arg22
  let c720_238 : Index := 720#32
  ![v693.toNat, 720]
def k0_off3085 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v702 : Index := Scalar.indexCast arg22
  let c736_240 : Index := 736#32
  ![v702.toNat, 736]
def k0_off3086 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v711 : Index := Scalar.indexCast arg22
  let c752_242 : Index := 752#32
  ![v711.toNat, 752]
def k0_off3087 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v720 : Index := Scalar.indexCast arg22
  let c768_244 : Index := 768#32
  ![v720.toNat, 768]
def k0_off3088 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v729 : Index := Scalar.indexCast arg22
  let c784_246 : Index := 784#32
  ![v729.toNat, 784]
def k0_off3089 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v738 : Index := Scalar.indexCast arg22
  let c800_248 : Index := 800#32
  ![v738.toNat, 800]
def k0_off3090 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v747 : Index := Scalar.indexCast arg22
  let c816_250 : Index := 816#32
  ![v747.toNat, 816]
def k0_off3091 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v756 : Index := Scalar.indexCast arg22
  let c832_252 : Index := 832#32
  ![v756.toNat, 832]
def k0_off3092 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v765 : Index := Scalar.indexCast arg22
  let c848_254 : Index := 848#32
  ![v765.toNat, 848]
def k0_off3093 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v774 : Index := Scalar.indexCast arg22
  let c864_256 : Index := 864#32
  ![v774.toNat, 864]
def k0_off3094 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v783 : Index := Scalar.indexCast arg22
  let c880_258 : Index := 880#32
  ![v783.toNat, 880]
def k0_off3095 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v792 : Index := Scalar.indexCast arg22
  let c896_260 : Index := 896#32
  ![v792.toNat, 896]
def k0_off3096 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v801 : Index := Scalar.indexCast arg22
  let c912_262 : Index := 912#32
  ![v801.toNat, 912]
def k0_off3097 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v810 : Index := Scalar.indexCast arg22
  let c928_264 : Index := 928#32
  ![v810.toNat, 928]
def k0_off3098 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v819 : Index := Scalar.indexCast arg22
  let c944_266 : Index := 944#32
  ![v819.toNat, 944]
def k0_off3099 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v828 : Index := Scalar.indexCast arg22
  let c960_268 : Index := 960#32
  ![v828.toNat, 960]
def k0_off3100 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v837 : Index := Scalar.indexCast arg22
  let c976_270 : Index := 976#32
  ![v837.toNat, 976]
def k0_off3101 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v846 : Index := Scalar.indexCast arg22
  let c992_272 : Index := 992#32
  ![v846.toNat, 992]
def k0_off3102 (k0_t50 : Fin k0_t50_loop.trips) : Fin 2 → Nat :=
  let c0_i32_193 : BitVec 32 := 0#32
  let c1_i32_195 : BitVec 32 := 1#32
  let arg22 : BitVec 32 := Scf.iv c0_i32_193 c1_i32_195 k0_t50
  let v855 : Index := Scalar.indexCast arg22
  let c1008_274 : Index := 1008#32
  ![v855.toNat, 1008]
def k0_cond16 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32_78 : BitVec 32 := 28#32
  let v111 : BitVec 1 := Scalar.cmpi .sge v1 c28_i32_78
  let v112 : BitVec 32 := Scalar.extui v111
  let c0_i32_79 : BitVec 32 := 0#32
  let v113 : BitVec 1 := Scalar.cmpi .ne v112 c0_i32_79
  v113

@[reducible] def k0_t51_loop : Scf.Loop 32 :=
  let c0_i32_82 : BitVec 32 := 0#32
  let c15_i32_83 : BitVec 32 := 15#32
  let v115 : BitVec 32 := Scalar.addi c0_i32_82 c15_i32_83
  let c1_i32_84 : BitVec 32 := 1#32
  ⟨c0_i32_82, v115, c1_i32_84⟩
@[reducible] def k0_t52_loop (k0_t51 : Fin k0_t51_loop.trips) : Scf.Loop 32 :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_105 : BitVec 32 := 1#32
  ⟨c0_i32_103, v146, c1_i32_105⟩
def k0_off3103 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v152 : Index := Scalar.indexCast arg20
  let c0 : Index := 0#32
  ![v152.toNat, 0]
def k0_off3104 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_112 : BitVec 32 := 1#32
  let v155 : BitVec 32 := Scalar.addi arg20 c1_i32_112
  let c0_i32_103 : BitVec 32 := 0#32
  let c1_i32_105 : BitVec 32 := 1#32
  let arg21 : BitVec 32 := Scf.iv c0_i32_103 c1_i32_105 k0_t52
  let v156 : BitVec 32 := Scalar.addi v155 arg21
  let v157 : Index := Scalar.indexCast v156
  let c0_113 : Index := 0#32
  ![v157.toNat, 0]
def k0_off3105 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v162 : Index := Scalar.indexCast arg21
  let c0_114 : Index := 0#32
  ![v162.toNat, 0]
def k0_off3106 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v166 : Index := Scalar.indexCast arg20
  let c16 : Index := 16#32
  ![v166.toNat, 16]
def k0_off3107 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_115 : BitVec 32 := 1#32
  let v169 : BitVec 32 := Scalar.addi arg20 c1_i32_115
  let c0_i32_103 : BitVec 32 := 0#32
  let c1_i32_105 : BitVec 32 := 1#32
  let arg21 : BitVec 32 := Scf.iv c0_i32_103 c1_i32_105 k0_t52
  let v170 : BitVec 32 := Scalar.addi v169 arg21
  let v171 : Index := Scalar.indexCast v170
  let c16_116 : Index := 16#32
  ![v171.toNat, 16]
def k0_off3108 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v176 : Index := Scalar.indexCast arg21
  let c16_117 : Index := 16#32
  ![v176.toNat, 16]
def k0_off3109 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v180 : Index := Scalar.indexCast arg20
  let c32 : Index := 32#32
  ![v180.toNat, 32]
def k0_off3110 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_118 : BitVec 32 := 1#32
  let v183 : BitVec 32 := Scalar.addi arg20 c1_i32_118
  let c0_i32_103 : BitVec 32 := 0#32
  let c1_i32_105 : BitVec 32 := 1#32
  let arg21 : BitVec 32 := Scf.iv c0_i32_103 c1_i32_105 k0_t52
  let v184 : BitVec 32 := Scalar.addi v183 arg21
  let v185 : Index := Scalar.indexCast v184
  let c32_119 : Index := 32#32
  ![v185.toNat, 32]
def k0_off3111 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v190 : Index := Scalar.indexCast arg21
  let c32_120 : Index := 32#32
  ![v190.toNat, 32]
def k0_off3112 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v194 : Index := Scalar.indexCast arg20
  let c48 : Index := 48#32
  ![v194.toNat, 48]
def k0_off3113 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_121 : BitVec 32 := 1#32
  let v197 : BitVec 32 := Scalar.addi arg20 c1_i32_121
  let c0_i32_103 : BitVec 32 := 0#32
  let c1_i32_105 : BitVec 32 := 1#32
  let arg21 : BitVec 32 := Scf.iv c0_i32_103 c1_i32_105 k0_t52
  let v198 : BitVec 32 := Scalar.addi v197 arg21
  let v199 : Index := Scalar.indexCast v198
  let c48_122 : Index := 48#32
  ![v199.toNat, 48]
def k0_off3114 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v204 : Index := Scalar.indexCast arg21
  let c48_123 : Index := 48#32
  ![v204.toNat, 48]
def k0_off3115 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v208 : Index := Scalar.indexCast arg20
  let c64 : Index := 64#32
  ![v208.toNat, 64]
def k0_off3116 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_124 : BitVec 32 := 1#32
  let v211 : BitVec 32 := Scalar.addi arg20 c1_i32_124
  let c0_i32_103 : BitVec 32 := 0#32
  let c1_i32_105 : BitVec 32 := 1#32
  let arg21 : BitVec 32 := Scf.iv c0_i32_103 c1_i32_105 k0_t52
  let v212 : BitVec 32 := Scalar.addi v211 arg21
  let v213 : Index := Scalar.indexCast v212
  let c64_125 : Index := 64#32
  ![v213.toNat, 64]
def k0_off3117 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v218 : Index := Scalar.indexCast arg21
  let c64_126 : Index := 64#32
  ![v218.toNat, 64]
def k0_off3118 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v222 : Index := Scalar.indexCast arg20
  let c80 : Index := 80#32
  ![v222.toNat, 80]
def k0_off3119 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_127 : BitVec 32 := 1#32
  let v225 : BitVec 32 := Scalar.addi arg20 c1_i32_127
  let c0_i32_103 : BitVec 32 := 0#32
  let c1_i32_105 : BitVec 32 := 1#32
  let arg21 : BitVec 32 := Scf.iv c0_i32_103 c1_i32_105 k0_t52
  let v226 : BitVec 32 := Scalar.addi v225 arg21
  let v227 : Index := Scalar.indexCast v226
  let c80_128 : Index := 80#32
  ![v227.toNat, 80]
def k0_off3120 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v232 : Index := Scalar.indexCast arg21
  let c80_129 : Index := 80#32
  ![v232.toNat, 80]
def k0_off3121 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v236 : Index := Scalar.indexCast arg20
  let c96 : Index := 96#32
  ![v236.toNat, 96]
def k0_off3122 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_130 : BitVec 32 := 1#32
  let v239 : BitVec 32 := Scalar.addi arg20 c1_i32_130
  let c0_i32_103 : BitVec 32 := 0#32
  let c1_i32_105 : BitVec 32 := 1#32
  let arg21 : BitVec 32 := Scf.iv c0_i32_103 c1_i32_105 k0_t52
  let v240 : BitVec 32 := Scalar.addi v239 arg21
  let v241 : Index := Scalar.indexCast v240
  let c96_131 : Index := 96#32
  ![v241.toNat, 96]
def k0_off3123 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v246 : Index := Scalar.indexCast arg21
  let c96_132 : Index := 96#32
  ![v246.toNat, 96]
def k0_off3124 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v250 : Index := Scalar.indexCast arg20
  let c112 : Index := 112#32
  ![v250.toNat, 112]
def k0_off3125 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_133 : BitVec 32 := 1#32
  let v253 : BitVec 32 := Scalar.addi arg20 c1_i32_133
  let c0_i32_103 : BitVec 32 := 0#32
  let c1_i32_105 : BitVec 32 := 1#32
  let arg21 : BitVec 32 := Scf.iv c0_i32_103 c1_i32_105 k0_t52
  let v254 : BitVec 32 := Scalar.addi v253 arg21
  let v255 : Index := Scalar.indexCast v254
  let c112_134 : Index := 112#32
  ![v255.toNat, 112]
def k0_off3126 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v260 : Index := Scalar.indexCast arg21
  let c112_135 : Index := 112#32
  ![v260.toNat, 112]
def k0_off3127 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v264 : Index := Scalar.indexCast arg20
  let c128 : Index := 128#32
  ![v264.toNat, 128]
def k0_off3128 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_136 : BitVec 32 := 1#32
  let v267 : BitVec 32 := Scalar.addi arg20 c1_i32_136
  let c0_i32_103 : BitVec 32 := 0#32
  let c1_i32_105 : BitVec 32 := 1#32
  let arg21 : BitVec 32 := Scf.iv c0_i32_103 c1_i32_105 k0_t52
  let v268 : BitVec 32 := Scalar.addi v267 arg21
  let v269 : Index := Scalar.indexCast v268
  let c128_137 : Index := 128#32
  ![v269.toNat, 128]
def k0_off3129 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v274 : Index := Scalar.indexCast arg21
  let c128_138 : Index := 128#32
  ![v274.toNat, 128]
def k0_off3130 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v278 : Index := Scalar.indexCast arg20
  let c144 : Index := 144#32
  ![v278.toNat, 144]
def k0_off3131 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_139 : BitVec 32 := 1#32
  let v281 : BitVec 32 := Scalar.addi arg20 c1_i32_139
  let c0_i32_103 : BitVec 32 := 0#32
  let c1_i32_105 : BitVec 32 := 1#32
  let arg21 : BitVec 32 := Scf.iv c0_i32_103 c1_i32_105 k0_t52
  let v282 : BitVec 32 := Scalar.addi v281 arg21
  let v283 : Index := Scalar.indexCast v282
  let c144_140 : Index := 144#32
  ![v283.toNat, 144]
def k0_off3132 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v288 : Index := Scalar.indexCast arg21
  let c144_141 : Index := 144#32
  ![v288.toNat, 144]
def k0_off3133 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v292 : Index := Scalar.indexCast arg20
  let c160 : Index := 160#32
  ![v292.toNat, 160]
def k0_off3134 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_142 : BitVec 32 := 1#32
  let v295 : BitVec 32 := Scalar.addi arg20 c1_i32_142
  let c0_i32_103 : BitVec 32 := 0#32
  let c1_i32_105 : BitVec 32 := 1#32
  let arg21 : BitVec 32 := Scf.iv c0_i32_103 c1_i32_105 k0_t52
  let v296 : BitVec 32 := Scalar.addi v295 arg21
  let v297 : Index := Scalar.indexCast v296
  let c160_143 : Index := 160#32
  ![v297.toNat, 160]
def k0_off3135 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v302 : Index := Scalar.indexCast arg21
  let c160_144 : Index := 160#32
  ![v302.toNat, 160]
def k0_off3136 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v306 : Index := Scalar.indexCast arg20
  let c176 : Index := 176#32
  ![v306.toNat, 176]
def k0_off3137 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_145 : BitVec 32 := 1#32
  let v309 : BitVec 32 := Scalar.addi arg20 c1_i32_145
  let c0_i32_103 : BitVec 32 := 0#32
  let c1_i32_105 : BitVec 32 := 1#32
  let arg21 : BitVec 32 := Scf.iv c0_i32_103 c1_i32_105 k0_t52
  let v310 : BitVec 32 := Scalar.addi v309 arg21
  let v311 : Index := Scalar.indexCast v310
  let c176_146 : Index := 176#32
  ![v311.toNat, 176]
def k0_off3138 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v316 : Index := Scalar.indexCast arg21
  let c176_147 : Index := 176#32
  ![v316.toNat, 176]
def k0_off3139 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v320 : Index := Scalar.indexCast arg20
  let c192 : Index := 192#32
  ![v320.toNat, 192]
def k0_off3140 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_148 : BitVec 32 := 1#32
  let v323 : BitVec 32 := Scalar.addi arg20 c1_i32_148
  let c0_i32_103 : BitVec 32 := 0#32
  let c1_i32_105 : BitVec 32 := 1#32
  let arg21 : BitVec 32 := Scf.iv c0_i32_103 c1_i32_105 k0_t52
  let v324 : BitVec 32 := Scalar.addi v323 arg21
  let v325 : Index := Scalar.indexCast v324
  let c192_149 : Index := 192#32
  ![v325.toNat, 192]
def k0_off3141 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v330 : Index := Scalar.indexCast arg21
  let c192_150 : Index := 192#32
  ![v330.toNat, 192]
def k0_off3142 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v334 : Index := Scalar.indexCast arg20
  let c208 : Index := 208#32
  ![v334.toNat, 208]
def k0_off3143 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_151 : BitVec 32 := 1#32
  let v337 : BitVec 32 := Scalar.addi arg20 c1_i32_151
  let c0_i32_103 : BitVec 32 := 0#32
  let c1_i32_105 : BitVec 32 := 1#32
  let arg21 : BitVec 32 := Scf.iv c0_i32_103 c1_i32_105 k0_t52
  let v338 : BitVec 32 := Scalar.addi v337 arg21
  let v339 : Index := Scalar.indexCast v338
  let c208_152 : Index := 208#32
  ![v339.toNat, 208]
def k0_off3144 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v344 : Index := Scalar.indexCast arg21
  let c208_153 : Index := 208#32
  ![v344.toNat, 208]
def k0_off3145 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v348 : Index := Scalar.indexCast arg20
  let c224 : Index := 224#32
  ![v348.toNat, 224]
def k0_off3146 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_154 : BitVec 32 := 1#32
  let v351 : BitVec 32 := Scalar.addi arg20 c1_i32_154
  let c0_i32_103 : BitVec 32 := 0#32
  let c1_i32_105 : BitVec 32 := 1#32
  let arg21 : BitVec 32 := Scf.iv c0_i32_103 c1_i32_105 k0_t52
  let v352 : BitVec 32 := Scalar.addi v351 arg21
  let v353 : Index := Scalar.indexCast v352
  let c224_155 : Index := 224#32
  ![v353.toNat, 224]
def k0_off3147 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v358 : Index := Scalar.indexCast arg21
  let c224_156 : Index := 224#32
  ![v358.toNat, 224]
def k0_off3148 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v362 : Index := Scalar.indexCast arg20
  let c240 : Index := 240#32
  ![v362.toNat, 240]
def k0_off3149 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_157 : BitVec 32 := 1#32
  let v365 : BitVec 32 := Scalar.addi arg20 c1_i32_157
  let c0_i32_103 : BitVec 32 := 0#32
  let c1_i32_105 : BitVec 32 := 1#32
  let arg21 : BitVec 32 := Scf.iv c0_i32_103 c1_i32_105 k0_t52
  let v366 : BitVec 32 := Scalar.addi v365 arg21
  let v367 : Index := Scalar.indexCast v366
  let c240_158 : Index := 240#32
  ![v367.toNat, 240]
def k0_off3150 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v372 : Index := Scalar.indexCast arg21
  let c240_159 : Index := 240#32
  ![v372.toNat, 240]
def k0_off3151 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v376 : Index := Scalar.indexCast arg20
  let c256 : Index := 256#32
  ![v376.toNat, 256]
def k0_off3152 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_160 : BitVec 32 := 1#32
  let v379 : BitVec 32 := Scalar.addi arg20 c1_i32_160
  let c0_i32_103 : BitVec 32 := 0#32
  let c1_i32_105 : BitVec 32 := 1#32
  let arg21 : BitVec 32 := Scf.iv c0_i32_103 c1_i32_105 k0_t52
  let v380 : BitVec 32 := Scalar.addi v379 arg21
  let v381 : Index := Scalar.indexCast v380
  let c256_161 : Index := 256#32
  ![v381.toNat, 256]
def k0_off3153 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v386 : Index := Scalar.indexCast arg21
  let c256_162 : Index := 256#32
  ![v386.toNat, 256]
def k0_off3154 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v390 : Index := Scalar.indexCast arg20
  let c272 : Index := 272#32
  ![v390.toNat, 272]
def k0_off3155 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_163 : BitVec 32 := 1#32
  let v393 : BitVec 32 := Scalar.addi arg20 c1_i32_163
  let c0_i32_103 : BitVec 32 := 0#32
  let c1_i32_105 : BitVec 32 := 1#32
  let arg21 : BitVec 32 := Scf.iv c0_i32_103 c1_i32_105 k0_t52
  let v394 : BitVec 32 := Scalar.addi v393 arg21
  let v395 : Index := Scalar.indexCast v394
  let c272_164 : Index := 272#32
  ![v395.toNat, 272]
def k0_off3156 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v400 : Index := Scalar.indexCast arg21
  let c272_165 : Index := 272#32
  ![v400.toNat, 272]
def k0_off3157 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v404 : Index := Scalar.indexCast arg20
  let c288 : Index := 288#32
  ![v404.toNat, 288]
def k0_off3158 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_166 : BitVec 32 := 1#32
  let v407 : BitVec 32 := Scalar.addi arg20 c1_i32_166
  let c0_i32_103 : BitVec 32 := 0#32
  let c1_i32_105 : BitVec 32 := 1#32
  let arg21 : BitVec 32 := Scf.iv c0_i32_103 c1_i32_105 k0_t52
  let v408 : BitVec 32 := Scalar.addi v407 arg21
  let v409 : Index := Scalar.indexCast v408
  let c288_167 : Index := 288#32
  ![v409.toNat, 288]
def k0_off3159 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v414 : Index := Scalar.indexCast arg21
  let c288_168 : Index := 288#32
  ![v414.toNat, 288]
def k0_off3160 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v418 : Index := Scalar.indexCast arg20
  let c304 : Index := 304#32
  ![v418.toNat, 304]
def k0_off3161 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_169 : BitVec 32 := 1#32
  let v421 : BitVec 32 := Scalar.addi arg20 c1_i32_169
  let c0_i32_103 : BitVec 32 := 0#32
  let c1_i32_105 : BitVec 32 := 1#32
  let arg21 : BitVec 32 := Scf.iv c0_i32_103 c1_i32_105 k0_t52
  let v422 : BitVec 32 := Scalar.addi v421 arg21
  let v423 : Index := Scalar.indexCast v422
  let c304_170 : Index := 304#32
  ![v423.toNat, 304]
def k0_off3162 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v428 : Index := Scalar.indexCast arg21
  let c304_171 : Index := 304#32
  ![v428.toNat, 304]
def k0_off3163 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v432 : Index := Scalar.indexCast arg20
  let c320 : Index := 320#32
  ![v432.toNat, 320]
def k0_off3164 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_172 : BitVec 32 := 1#32
  let v435 : BitVec 32 := Scalar.addi arg20 c1_i32_172
  let c0_i32_103 : BitVec 32 := 0#32
  let c1_i32_105 : BitVec 32 := 1#32
  let arg21 : BitVec 32 := Scf.iv c0_i32_103 c1_i32_105 k0_t52
  let v436 : BitVec 32 := Scalar.addi v435 arg21
  let v437 : Index := Scalar.indexCast v436
  let c320_173 : Index := 320#32
  ![v437.toNat, 320]
def k0_off3165 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v442 : Index := Scalar.indexCast arg21
  let c320_174 : Index := 320#32
  ![v442.toNat, 320]
def k0_off3166 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v446 : Index := Scalar.indexCast arg20
  let c336 : Index := 336#32
  ![v446.toNat, 336]
def k0_off3167 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_175 : BitVec 32 := 1#32
  let v449 : BitVec 32 := Scalar.addi arg20 c1_i32_175
  let c0_i32_103 : BitVec 32 := 0#32
  let c1_i32_105 : BitVec 32 := 1#32
  let arg21 : BitVec 32 := Scf.iv c0_i32_103 c1_i32_105 k0_t52
  let v450 : BitVec 32 := Scalar.addi v449 arg21
  let v451 : Index := Scalar.indexCast v450
  let c336_176 : Index := 336#32
  ![v451.toNat, 336]
def k0_off3168 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v456 : Index := Scalar.indexCast arg21
  let c336_177 : Index := 336#32
  ![v456.toNat, 336]
def k0_off3169 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v460 : Index := Scalar.indexCast arg20
  let c352 : Index := 352#32
  ![v460.toNat, 352]
def k0_off3170 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_178 : BitVec 32 := 1#32
  let v463 : BitVec 32 := Scalar.addi arg20 c1_i32_178
  let c0_i32_103 : BitVec 32 := 0#32
  let c1_i32_105 : BitVec 32 := 1#32
  let arg21 : BitVec 32 := Scf.iv c0_i32_103 c1_i32_105 k0_t52
  let v464 : BitVec 32 := Scalar.addi v463 arg21
  let v465 : Index := Scalar.indexCast v464
  let c352_179 : Index := 352#32
  ![v465.toNat, 352]
def k0_off3171 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v470 : Index := Scalar.indexCast arg21
  let c352_180 : Index := 352#32
  ![v470.toNat, 352]
def k0_off3172 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v474 : Index := Scalar.indexCast arg20
  let c368 : Index := 368#32
  ![v474.toNat, 368]
def k0_off3173 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_181 : BitVec 32 := 1#32
  let v477 : BitVec 32 := Scalar.addi arg20 c1_i32_181
  let c0_i32_103 : BitVec 32 := 0#32
  let c1_i32_105 : BitVec 32 := 1#32
  let arg21 : BitVec 32 := Scf.iv c0_i32_103 c1_i32_105 k0_t52
  let v478 : BitVec 32 := Scalar.addi v477 arg21
  let v479 : Index := Scalar.indexCast v478
  let c368_182 : Index := 368#32
  ![v479.toNat, 368]
def k0_off3174 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v484 : Index := Scalar.indexCast arg21
  let c368_183 : Index := 368#32
  ![v484.toNat, 368]
def k0_off3175 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v488 : Index := Scalar.indexCast arg20
  let c384 : Index := 384#32
  ![v488.toNat, 384]
def k0_off3176 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_184 : BitVec 32 := 1#32
  let v491 : BitVec 32 := Scalar.addi arg20 c1_i32_184
  let c0_i32_103 : BitVec 32 := 0#32
  let c1_i32_105 : BitVec 32 := 1#32
  let arg21 : BitVec 32 := Scf.iv c0_i32_103 c1_i32_105 k0_t52
  let v492 : BitVec 32 := Scalar.addi v491 arg21
  let v493 : Index := Scalar.indexCast v492
  let c384_185 : Index := 384#32
  ![v493.toNat, 384]
def k0_off3177 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v498 : Index := Scalar.indexCast arg21
  let c384_186 : Index := 384#32
  ![v498.toNat, 384]
def k0_off3178 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v502 : Index := Scalar.indexCast arg20
  let c400 : Index := 400#32
  ![v502.toNat, 400]
def k0_off3179 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_187 : BitVec 32 := 1#32
  let v505 : BitVec 32 := Scalar.addi arg20 c1_i32_187
  let c0_i32_103 : BitVec 32 := 0#32
  let c1_i32_105 : BitVec 32 := 1#32
  let arg21 : BitVec 32 := Scf.iv c0_i32_103 c1_i32_105 k0_t52
  let v506 : BitVec 32 := Scalar.addi v505 arg21
  let v507 : Index := Scalar.indexCast v506
  let c400_188 : Index := 400#32
  ![v507.toNat, 400]
def k0_off3180 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v512 : Index := Scalar.indexCast arg21
  let c400_189 : Index := 400#32
  ![v512.toNat, 400]
def k0_off3181 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v516 : Index := Scalar.indexCast arg20
  let c416 : Index := 416#32
  ![v516.toNat, 416]
def k0_off3182 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_190 : BitVec 32 := 1#32
  let v519 : BitVec 32 := Scalar.addi arg20 c1_i32_190
  let c0_i32_103 : BitVec 32 := 0#32
  let c1_i32_105 : BitVec 32 := 1#32
  let arg21 : BitVec 32 := Scf.iv c0_i32_103 c1_i32_105 k0_t52
  let v520 : BitVec 32 := Scalar.addi v519 arg21
  let v521 : Index := Scalar.indexCast v520
  let c416_191 : Index := 416#32
  ![v521.toNat, 416]
def k0_off3183 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v526 : Index := Scalar.indexCast arg21
  let c416_192 : Index := 416#32
  ![v526.toNat, 416]
def k0_off3184 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v530 : Index := Scalar.indexCast arg20
  let c432 : Index := 432#32
  ![v530.toNat, 432]
def k0_off3185 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_193 : BitVec 32 := 1#32
  let v533 : BitVec 32 := Scalar.addi arg20 c1_i32_193
  let c0_i32_103 : BitVec 32 := 0#32
  let c1_i32_105 : BitVec 32 := 1#32
  let arg21 : BitVec 32 := Scf.iv c0_i32_103 c1_i32_105 k0_t52
  let v534 : BitVec 32 := Scalar.addi v533 arg21
  let v535 : Index := Scalar.indexCast v534
  let c432_194 : Index := 432#32
  ![v535.toNat, 432]
def k0_off3186 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v540 : Index := Scalar.indexCast arg21
  let c432_195 : Index := 432#32
  ![v540.toNat, 432]
def k0_off3187 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v544 : Index := Scalar.indexCast arg20
  let c448 : Index := 448#32
  ![v544.toNat, 448]
def k0_off3188 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_196 : BitVec 32 := 1#32
  let v547 : BitVec 32 := Scalar.addi arg20 c1_i32_196
  let c0_i32_103 : BitVec 32 := 0#32
  let c1_i32_105 : BitVec 32 := 1#32
  let arg21 : BitVec 32 := Scf.iv c0_i32_103 c1_i32_105 k0_t52
  let v548 : BitVec 32 := Scalar.addi v547 arg21
  let v549 : Index := Scalar.indexCast v548
  let c448_197 : Index := 448#32
  ![v549.toNat, 448]
def k0_off3189 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v554 : Index := Scalar.indexCast arg21
  let c448_198 : Index := 448#32
  ![v554.toNat, 448]
def k0_off3190 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v558 : Index := Scalar.indexCast arg20
  let c464 : Index := 464#32
  ![v558.toNat, 464]
def k0_off3191 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_199 : BitVec 32 := 1#32
  let v561 : BitVec 32 := Scalar.addi arg20 c1_i32_199
  let c0_i32_103 : BitVec 32 := 0#32
  let c1_i32_105 : BitVec 32 := 1#32
  let arg21 : BitVec 32 := Scf.iv c0_i32_103 c1_i32_105 k0_t52
  let v562 : BitVec 32 := Scalar.addi v561 arg21
  let v563 : Index := Scalar.indexCast v562
  let c464_200 : Index := 464#32
  ![v563.toNat, 464]
def k0_off3192 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v568 : Index := Scalar.indexCast arg21
  let c464_201 : Index := 464#32
  ![v568.toNat, 464]
def k0_off3193 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v572 : Index := Scalar.indexCast arg20
  let c480 : Index := 480#32
  ![v572.toNat, 480]
def k0_off3194 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_202 : BitVec 32 := 1#32
  let v575 : BitVec 32 := Scalar.addi arg20 c1_i32_202
  let c0_i32_103 : BitVec 32 := 0#32
  let c1_i32_105 : BitVec 32 := 1#32
  let arg21 : BitVec 32 := Scf.iv c0_i32_103 c1_i32_105 k0_t52
  let v576 : BitVec 32 := Scalar.addi v575 arg21
  let v577 : Index := Scalar.indexCast v576
  let c480_203 : Index := 480#32
  ![v577.toNat, 480]
def k0_off3195 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v582 : Index := Scalar.indexCast arg21
  let c480_204 : Index := 480#32
  ![v582.toNat, 480]
def k0_off3196 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v586 : Index := Scalar.indexCast arg20
  let c496 : Index := 496#32
  ![v586.toNat, 496]
def k0_off3197 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_205 : BitVec 32 := 1#32
  let v589 : BitVec 32 := Scalar.addi arg20 c1_i32_205
  let c0_i32_103 : BitVec 32 := 0#32
  let c1_i32_105 : BitVec 32 := 1#32
  let arg21 : BitVec 32 := Scf.iv c0_i32_103 c1_i32_105 k0_t52
  let v590 : BitVec 32 := Scalar.addi v589 arg21
  let v591 : Index := Scalar.indexCast v590
  let c496_206 : Index := 496#32
  ![v591.toNat, 496]
def k0_off3198 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v596 : Index := Scalar.indexCast arg21
  let c496_207 : Index := 496#32
  ![v596.toNat, 496]
def k0_off3199 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v600 : Index := Scalar.indexCast arg20
  let c512 : Index := 512#32
  ![v600.toNat, 512]
def k0_off3200 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_208 : BitVec 32 := 1#32
  let v603 : BitVec 32 := Scalar.addi arg20 c1_i32_208
  let c0_i32_103 : BitVec 32 := 0#32
  let c1_i32_105 : BitVec 32 := 1#32
  let arg21 : BitVec 32 := Scf.iv c0_i32_103 c1_i32_105 k0_t52
  let v604 : BitVec 32 := Scalar.addi v603 arg21
  let v605 : Index := Scalar.indexCast v604
  let c512_209 : Index := 512#32
  ![v605.toNat, 512]
def k0_off3201 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v610 : Index := Scalar.indexCast arg21
  let c512_210 : Index := 512#32
  ![v610.toNat, 512]
def k0_off3202 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v614 : Index := Scalar.indexCast arg20
  let c528 : Index := 528#32
  ![v614.toNat, 528]
def k0_off3203 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_211 : BitVec 32 := 1#32
  let v617 : BitVec 32 := Scalar.addi arg20 c1_i32_211
  let c0_i32_103 : BitVec 32 := 0#32
  let c1_i32_105 : BitVec 32 := 1#32
  let arg21 : BitVec 32 := Scf.iv c0_i32_103 c1_i32_105 k0_t52
  let v618 : BitVec 32 := Scalar.addi v617 arg21
  let v619 : Index := Scalar.indexCast v618
  let c528_212 : Index := 528#32
  ![v619.toNat, 528]
def k0_off3204 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v624 : Index := Scalar.indexCast arg21
  let c528_213 : Index := 528#32
  ![v624.toNat, 528]
def k0_off3205 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v628 : Index := Scalar.indexCast arg20
  let c544 : Index := 544#32
  ![v628.toNat, 544]
def k0_off3206 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_214 : BitVec 32 := 1#32
  let v631 : BitVec 32 := Scalar.addi arg20 c1_i32_214
  let c0_i32_103 : BitVec 32 := 0#32
  let c1_i32_105 : BitVec 32 := 1#32
  let arg21 : BitVec 32 := Scf.iv c0_i32_103 c1_i32_105 k0_t52
  let v632 : BitVec 32 := Scalar.addi v631 arg21
  let v633 : Index := Scalar.indexCast v632
  let c544_215 : Index := 544#32
  ![v633.toNat, 544]
def k0_off3207 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v638 : Index := Scalar.indexCast arg21
  let c544_216 : Index := 544#32
  ![v638.toNat, 544]
def k0_off3208 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v642 : Index := Scalar.indexCast arg20
  let c560 : Index := 560#32
  ![v642.toNat, 560]
def k0_off3209 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_217 : BitVec 32 := 1#32
  let v645 : BitVec 32 := Scalar.addi arg20 c1_i32_217
  let c0_i32_103 : BitVec 32 := 0#32
  let c1_i32_105 : BitVec 32 := 1#32
  let arg21 : BitVec 32 := Scf.iv c0_i32_103 c1_i32_105 k0_t52
  let v646 : BitVec 32 := Scalar.addi v645 arg21
  let v647 : Index := Scalar.indexCast v646
  let c560_218 : Index := 560#32
  ![v647.toNat, 560]
def k0_off3210 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v652 : Index := Scalar.indexCast arg21
  let c560_219 : Index := 560#32
  ![v652.toNat, 560]
def k0_off3211 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v656 : Index := Scalar.indexCast arg20
  let c576 : Index := 576#32
  ![v656.toNat, 576]
def k0_off3212 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_220 : BitVec 32 := 1#32
  let v659 : BitVec 32 := Scalar.addi arg20 c1_i32_220
  let c0_i32_103 : BitVec 32 := 0#32
  let c1_i32_105 : BitVec 32 := 1#32
  let arg21 : BitVec 32 := Scf.iv c0_i32_103 c1_i32_105 k0_t52
  let v660 : BitVec 32 := Scalar.addi v659 arg21
  let v661 : Index := Scalar.indexCast v660
  let c576_221 : Index := 576#32
  ![v661.toNat, 576]
def k0_off3213 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v666 : Index := Scalar.indexCast arg21
  let c576_222 : Index := 576#32
  ![v666.toNat, 576]
def k0_off3214 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v670 : Index := Scalar.indexCast arg20
  let c592 : Index := 592#32
  ![v670.toNat, 592]
def k0_off3215 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_223 : BitVec 32 := 1#32
  let v673 : BitVec 32 := Scalar.addi arg20 c1_i32_223
  let c0_i32_103 : BitVec 32 := 0#32
  let c1_i32_105 : BitVec 32 := 1#32
  let arg21 : BitVec 32 := Scf.iv c0_i32_103 c1_i32_105 k0_t52
  let v674 : BitVec 32 := Scalar.addi v673 arg21
  let v675 : Index := Scalar.indexCast v674
  let c592_224 : Index := 592#32
  ![v675.toNat, 592]
def k0_off3216 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v680 : Index := Scalar.indexCast arg21
  let c592_225 : Index := 592#32
  ![v680.toNat, 592]
def k0_off3217 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v684 : Index := Scalar.indexCast arg20
  let c608 : Index := 608#32
  ![v684.toNat, 608]
def k0_off3218 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_226 : BitVec 32 := 1#32
  let v687 : BitVec 32 := Scalar.addi arg20 c1_i32_226
  let c0_i32_103 : BitVec 32 := 0#32
  let c1_i32_105 : BitVec 32 := 1#32
  let arg21 : BitVec 32 := Scf.iv c0_i32_103 c1_i32_105 k0_t52
  let v688 : BitVec 32 := Scalar.addi v687 arg21
  let v689 : Index := Scalar.indexCast v688
  let c608_227 : Index := 608#32
  ![v689.toNat, 608]
def k0_off3219 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v694 : Index := Scalar.indexCast arg21
  let c608_228 : Index := 608#32
  ![v694.toNat, 608]
def k0_off3220 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v698 : Index := Scalar.indexCast arg20
  let c624 : Index := 624#32
  ![v698.toNat, 624]
def k0_off3221 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_229 : BitVec 32 := 1#32
  let v701 : BitVec 32 := Scalar.addi arg20 c1_i32_229
  let c0_i32_103 : BitVec 32 := 0#32
  let c1_i32_105 : BitVec 32 := 1#32
  let arg21 : BitVec 32 := Scf.iv c0_i32_103 c1_i32_105 k0_t52
  let v702 : BitVec 32 := Scalar.addi v701 arg21
  let v703 : Index := Scalar.indexCast v702
  let c624_230 : Index := 624#32
  ![v703.toNat, 624]
def k0_off3222 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v708 : Index := Scalar.indexCast arg21
  let c624_231 : Index := 624#32
  ![v708.toNat, 624]
def k0_off3223 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v712 : Index := Scalar.indexCast arg20
  let c640 : Index := 640#32
  ![v712.toNat, 640]
def k0_off3224 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_232 : BitVec 32 := 1#32
  let v715 : BitVec 32 := Scalar.addi arg20 c1_i32_232
  let c0_i32_103 : BitVec 32 := 0#32
  let c1_i32_105 : BitVec 32 := 1#32
  let arg21 : BitVec 32 := Scf.iv c0_i32_103 c1_i32_105 k0_t52
  let v716 : BitVec 32 := Scalar.addi v715 arg21
  let v717 : Index := Scalar.indexCast v716
  let c640_233 : Index := 640#32
  ![v717.toNat, 640]
def k0_off3225 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v722 : Index := Scalar.indexCast arg21
  let c640_234 : Index := 640#32
  ![v722.toNat, 640]
def k0_off3226 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v726 : Index := Scalar.indexCast arg20
  let c656 : Index := 656#32
  ![v726.toNat, 656]
def k0_off3227 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_235 : BitVec 32 := 1#32
  let v729 : BitVec 32 := Scalar.addi arg20 c1_i32_235
  let c0_i32_103 : BitVec 32 := 0#32
  let c1_i32_105 : BitVec 32 := 1#32
  let arg21 : BitVec 32 := Scf.iv c0_i32_103 c1_i32_105 k0_t52
  let v730 : BitVec 32 := Scalar.addi v729 arg21
  let v731 : Index := Scalar.indexCast v730
  let c656_236 : Index := 656#32
  ![v731.toNat, 656]
def k0_off3228 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v736 : Index := Scalar.indexCast arg21
  let c656_237 : Index := 656#32
  ![v736.toNat, 656]
def k0_off3229 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v740 : Index := Scalar.indexCast arg20
  let c672 : Index := 672#32
  ![v740.toNat, 672]
def k0_off3230 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_238 : BitVec 32 := 1#32
  let v743 : BitVec 32 := Scalar.addi arg20 c1_i32_238
  let c0_i32_103 : BitVec 32 := 0#32
  let c1_i32_105 : BitVec 32 := 1#32
  let arg21 : BitVec 32 := Scf.iv c0_i32_103 c1_i32_105 k0_t52
  let v744 : BitVec 32 := Scalar.addi v743 arg21
  let v745 : Index := Scalar.indexCast v744
  let c672_239 : Index := 672#32
  ![v745.toNat, 672]
def k0_off3231 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v750 : Index := Scalar.indexCast arg21
  let c672_240 : Index := 672#32
  ![v750.toNat, 672]
def k0_off3232 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v754 : Index := Scalar.indexCast arg20
  let c688 : Index := 688#32
  ![v754.toNat, 688]
def k0_off3233 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_241 : BitVec 32 := 1#32
  let v757 : BitVec 32 := Scalar.addi arg20 c1_i32_241
  let c0_i32_103 : BitVec 32 := 0#32
  let c1_i32_105 : BitVec 32 := 1#32
  let arg21 : BitVec 32 := Scf.iv c0_i32_103 c1_i32_105 k0_t52
  let v758 : BitVec 32 := Scalar.addi v757 arg21
  let v759 : Index := Scalar.indexCast v758
  let c688_242 : Index := 688#32
  ![v759.toNat, 688]
def k0_off3234 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v764 : Index := Scalar.indexCast arg21
  let c688_243 : Index := 688#32
  ![v764.toNat, 688]
def k0_off3235 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v768 : Index := Scalar.indexCast arg20
  let c704 : Index := 704#32
  ![v768.toNat, 704]
def k0_off3236 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_244 : BitVec 32 := 1#32
  let v771 : BitVec 32 := Scalar.addi arg20 c1_i32_244
  let c0_i32_103 : BitVec 32 := 0#32
  let c1_i32_105 : BitVec 32 := 1#32
  let arg21 : BitVec 32 := Scf.iv c0_i32_103 c1_i32_105 k0_t52
  let v772 : BitVec 32 := Scalar.addi v771 arg21
  let v773 : Index := Scalar.indexCast v772
  let c704_245 : Index := 704#32
  ![v773.toNat, 704]
def k0_off3237 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v778 : Index := Scalar.indexCast arg21
  let c704_246 : Index := 704#32
  ![v778.toNat, 704]
def k0_off3238 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v782 : Index := Scalar.indexCast arg20
  let c720 : Index := 720#32
  ![v782.toNat, 720]
def k0_off3239 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_247 : BitVec 32 := 1#32
  let v785 : BitVec 32 := Scalar.addi arg20 c1_i32_247
  let c0_i32_103 : BitVec 32 := 0#32
  let c1_i32_105 : BitVec 32 := 1#32
  let arg21 : BitVec 32 := Scf.iv c0_i32_103 c1_i32_105 k0_t52
  let v786 : BitVec 32 := Scalar.addi v785 arg21
  let v787 : Index := Scalar.indexCast v786
  let c720_248 : Index := 720#32
  ![v787.toNat, 720]
def k0_off3240 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v792 : Index := Scalar.indexCast arg21
  let c720_249 : Index := 720#32
  ![v792.toNat, 720]
def k0_off3241 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v796 : Index := Scalar.indexCast arg20
  let c736 : Index := 736#32
  ![v796.toNat, 736]
def k0_off3242 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_250 : BitVec 32 := 1#32
  let v799 : BitVec 32 := Scalar.addi arg20 c1_i32_250
  let c0_i32_103 : BitVec 32 := 0#32
  let c1_i32_105 : BitVec 32 := 1#32
  let arg21 : BitVec 32 := Scf.iv c0_i32_103 c1_i32_105 k0_t52
  let v800 : BitVec 32 := Scalar.addi v799 arg21
  let v801 : Index := Scalar.indexCast v800
  let c736_251 : Index := 736#32
  ![v801.toNat, 736]
def k0_off3243 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v806 : Index := Scalar.indexCast arg21
  let c736_252 : Index := 736#32
  ![v806.toNat, 736]
def k0_off3244 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v810 : Index := Scalar.indexCast arg20
  let c752 : Index := 752#32
  ![v810.toNat, 752]
def k0_off3245 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_253 : BitVec 32 := 1#32
  let v813 : BitVec 32 := Scalar.addi arg20 c1_i32_253
  let c0_i32_103 : BitVec 32 := 0#32
  let c1_i32_105 : BitVec 32 := 1#32
  let arg21 : BitVec 32 := Scf.iv c0_i32_103 c1_i32_105 k0_t52
  let v814 : BitVec 32 := Scalar.addi v813 arg21
  let v815 : Index := Scalar.indexCast v814
  let c752_254 : Index := 752#32
  ![v815.toNat, 752]
def k0_off3246 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v820 : Index := Scalar.indexCast arg21
  let c752_255 : Index := 752#32
  ![v820.toNat, 752]
def k0_off3247 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v824 : Index := Scalar.indexCast arg20
  let c768 : Index := 768#32
  ![v824.toNat, 768]
def k0_off3248 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_256 : BitVec 32 := 1#32
  let v827 : BitVec 32 := Scalar.addi arg20 c1_i32_256
  let c0_i32_103 : BitVec 32 := 0#32
  let c1_i32_105 : BitVec 32 := 1#32
  let arg21 : BitVec 32 := Scf.iv c0_i32_103 c1_i32_105 k0_t52
  let v828 : BitVec 32 := Scalar.addi v827 arg21
  let v829 : Index := Scalar.indexCast v828
  let c768_257 : Index := 768#32
  ![v829.toNat, 768]
def k0_off3249 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v834 : Index := Scalar.indexCast arg21
  let c768_258 : Index := 768#32
  ![v834.toNat, 768]
def k0_off3250 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v838 : Index := Scalar.indexCast arg20
  let c784 : Index := 784#32
  ![v838.toNat, 784]
def k0_off3251 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_259 : BitVec 32 := 1#32
  let v841 : BitVec 32 := Scalar.addi arg20 c1_i32_259
  let c0_i32_103 : BitVec 32 := 0#32
  let c1_i32_105 : BitVec 32 := 1#32
  let arg21 : BitVec 32 := Scf.iv c0_i32_103 c1_i32_105 k0_t52
  let v842 : BitVec 32 := Scalar.addi v841 arg21
  let v843 : Index := Scalar.indexCast v842
  let c784_260 : Index := 784#32
  ![v843.toNat, 784]
def k0_off3252 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v848 : Index := Scalar.indexCast arg21
  let c784_261 : Index := 784#32
  ![v848.toNat, 784]
def k0_off3253 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v852 : Index := Scalar.indexCast arg20
  let c800 : Index := 800#32
  ![v852.toNat, 800]
def k0_off3254 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_262 : BitVec 32 := 1#32
  let v855 : BitVec 32 := Scalar.addi arg20 c1_i32_262
  let c0_i32_103 : BitVec 32 := 0#32
  let c1_i32_105 : BitVec 32 := 1#32
  let arg21 : BitVec 32 := Scf.iv c0_i32_103 c1_i32_105 k0_t52
  let v856 : BitVec 32 := Scalar.addi v855 arg21
  let v857 : Index := Scalar.indexCast v856
  let c800_263 : Index := 800#32
  ![v857.toNat, 800]
def k0_off3255 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v862 : Index := Scalar.indexCast arg21
  let c800_264 : Index := 800#32
  ![v862.toNat, 800]
def k0_off3256 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v866 : Index := Scalar.indexCast arg20
  let c816 : Index := 816#32
  ![v866.toNat, 816]
def k0_off3257 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_265 : BitVec 32 := 1#32
  let v869 : BitVec 32 := Scalar.addi arg20 c1_i32_265
  let c0_i32_103 : BitVec 32 := 0#32
  let c1_i32_105 : BitVec 32 := 1#32
  let arg21 : BitVec 32 := Scf.iv c0_i32_103 c1_i32_105 k0_t52
  let v870 : BitVec 32 := Scalar.addi v869 arg21
  let v871 : Index := Scalar.indexCast v870
  let c816_266 : Index := 816#32
  ![v871.toNat, 816]
def k0_off3258 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v876 : Index := Scalar.indexCast arg21
  let c816_267 : Index := 816#32
  ![v876.toNat, 816]
def k0_off3259 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v880 : Index := Scalar.indexCast arg20
  let c832 : Index := 832#32
  ![v880.toNat, 832]
def k0_off3260 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_268 : BitVec 32 := 1#32
  let v883 : BitVec 32 := Scalar.addi arg20 c1_i32_268
  let c0_i32_103 : BitVec 32 := 0#32
  let c1_i32_105 : BitVec 32 := 1#32
  let arg21 : BitVec 32 := Scf.iv c0_i32_103 c1_i32_105 k0_t52
  let v884 : BitVec 32 := Scalar.addi v883 arg21
  let v885 : Index := Scalar.indexCast v884
  let c832_269 : Index := 832#32
  ![v885.toNat, 832]
def k0_off3261 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v890 : Index := Scalar.indexCast arg21
  let c832_270 : Index := 832#32
  ![v890.toNat, 832]
def k0_off3262 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v894 : Index := Scalar.indexCast arg20
  let c848 : Index := 848#32
  ![v894.toNat, 848]
def k0_off3263 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_271 : BitVec 32 := 1#32
  let v897 : BitVec 32 := Scalar.addi arg20 c1_i32_271
  let c0_i32_103 : BitVec 32 := 0#32
  let c1_i32_105 : BitVec 32 := 1#32
  let arg21 : BitVec 32 := Scf.iv c0_i32_103 c1_i32_105 k0_t52
  let v898 : BitVec 32 := Scalar.addi v897 arg21
  let v899 : Index := Scalar.indexCast v898
  let c848_272 : Index := 848#32
  ![v899.toNat, 848]
def k0_off3264 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v904 : Index := Scalar.indexCast arg21
  let c848_273 : Index := 848#32
  ![v904.toNat, 848]
def k0_off3265 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v908 : Index := Scalar.indexCast arg20
  let c864 : Index := 864#32
  ![v908.toNat, 864]
def k0_off3266 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_274 : BitVec 32 := 1#32
  let v911 : BitVec 32 := Scalar.addi arg20 c1_i32_274
  let c0_i32_103 : BitVec 32 := 0#32
  let c1_i32_105 : BitVec 32 := 1#32
  let arg21 : BitVec 32 := Scf.iv c0_i32_103 c1_i32_105 k0_t52
  let v912 : BitVec 32 := Scalar.addi v911 arg21
  let v913 : Index := Scalar.indexCast v912
  let c864_275 : Index := 864#32
  ![v913.toNat, 864]
def k0_off3267 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v918 : Index := Scalar.indexCast arg21
  let c864_276 : Index := 864#32
  ![v918.toNat, 864]
def k0_off3268 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v922 : Index := Scalar.indexCast arg20
  let c880 : Index := 880#32
  ![v922.toNat, 880]
def k0_off3269 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_277 : BitVec 32 := 1#32
  let v925 : BitVec 32 := Scalar.addi arg20 c1_i32_277
  let c0_i32_103 : BitVec 32 := 0#32
  let c1_i32_105 : BitVec 32 := 1#32
  let arg21 : BitVec 32 := Scf.iv c0_i32_103 c1_i32_105 k0_t52
  let v926 : BitVec 32 := Scalar.addi v925 arg21
  let v927 : Index := Scalar.indexCast v926
  let c880_278 : Index := 880#32
  ![v927.toNat, 880]
def k0_off3270 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v932 : Index := Scalar.indexCast arg21
  let c880_279 : Index := 880#32
  ![v932.toNat, 880]
def k0_off3271 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v936 : Index := Scalar.indexCast arg20
  let c896 : Index := 896#32
  ![v936.toNat, 896]
def k0_off3272 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_280 : BitVec 32 := 1#32
  let v939 : BitVec 32 := Scalar.addi arg20 c1_i32_280
  let c0_i32_103 : BitVec 32 := 0#32
  let c1_i32_105 : BitVec 32 := 1#32
  let arg21 : BitVec 32 := Scf.iv c0_i32_103 c1_i32_105 k0_t52
  let v940 : BitVec 32 := Scalar.addi v939 arg21
  let v941 : Index := Scalar.indexCast v940
  let c896_281 : Index := 896#32
  ![v941.toNat, 896]
def k0_off3273 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v946 : Index := Scalar.indexCast arg21
  let c896_282 : Index := 896#32
  ![v946.toNat, 896]
def k0_off3274 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v950 : Index := Scalar.indexCast arg20
  let c912 : Index := 912#32
  ![v950.toNat, 912]
def k0_off3275 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_283 : BitVec 32 := 1#32
  let v953 : BitVec 32 := Scalar.addi arg20 c1_i32_283
  let c0_i32_103 : BitVec 32 := 0#32
  let c1_i32_105 : BitVec 32 := 1#32
  let arg21 : BitVec 32 := Scf.iv c0_i32_103 c1_i32_105 k0_t52
  let v954 : BitVec 32 := Scalar.addi v953 arg21
  let v955 : Index := Scalar.indexCast v954
  let c912_284 : Index := 912#32
  ![v955.toNat, 912]
def k0_off3276 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v960 : Index := Scalar.indexCast arg21
  let c912_285 : Index := 912#32
  ![v960.toNat, 912]
def k0_off3277 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v964 : Index := Scalar.indexCast arg20
  let c928 : Index := 928#32
  ![v964.toNat, 928]
def k0_off3278 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_286 : BitVec 32 := 1#32
  let v967 : BitVec 32 := Scalar.addi arg20 c1_i32_286
  let c0_i32_103 : BitVec 32 := 0#32
  let c1_i32_105 : BitVec 32 := 1#32
  let arg21 : BitVec 32 := Scf.iv c0_i32_103 c1_i32_105 k0_t52
  let v968 : BitVec 32 := Scalar.addi v967 arg21
  let v969 : Index := Scalar.indexCast v968
  let c928_287 : Index := 928#32
  ![v969.toNat, 928]
def k0_off3279 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v974 : Index := Scalar.indexCast arg21
  let c928_288 : Index := 928#32
  ![v974.toNat, 928]
def k0_off3280 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v978 : Index := Scalar.indexCast arg20
  let c944 : Index := 944#32
  ![v978.toNat, 944]
def k0_off3281 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_289 : BitVec 32 := 1#32
  let v981 : BitVec 32 := Scalar.addi arg20 c1_i32_289
  let c0_i32_103 : BitVec 32 := 0#32
  let c1_i32_105 : BitVec 32 := 1#32
  let arg21 : BitVec 32 := Scf.iv c0_i32_103 c1_i32_105 k0_t52
  let v982 : BitVec 32 := Scalar.addi v981 arg21
  let v983 : Index := Scalar.indexCast v982
  let c944_290 : Index := 944#32
  ![v983.toNat, 944]
def k0_off3282 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v988 : Index := Scalar.indexCast arg21
  let c944_291 : Index := 944#32
  ![v988.toNat, 944]
def k0_off3283 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v992 : Index := Scalar.indexCast arg20
  let c960 : Index := 960#32
  ![v992.toNat, 960]
def k0_off3284 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_292 : BitVec 32 := 1#32
  let v995 : BitVec 32 := Scalar.addi arg20 c1_i32_292
  let c0_i32_103 : BitVec 32 := 0#32
  let c1_i32_105 : BitVec 32 := 1#32
  let arg21 : BitVec 32 := Scf.iv c0_i32_103 c1_i32_105 k0_t52
  let v996 : BitVec 32 := Scalar.addi v995 arg21
  let v997 : Index := Scalar.indexCast v996
  let c960_293 : Index := 960#32
  ![v997.toNat, 960]
def k0_off3285 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v1002 : Index := Scalar.indexCast arg21
  let c960_294 : Index := 960#32
  ![v1002.toNat, 960]
def k0_off3286 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v1006 : Index := Scalar.indexCast arg20
  let c976 : Index := 976#32
  ![v1006.toNat, 976]
def k0_off3287 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_295 : BitVec 32 := 1#32
  let v1009 : BitVec 32 := Scalar.addi arg20 c1_i32_295
  let c0_i32_103 : BitVec 32 := 0#32
  let c1_i32_105 : BitVec 32 := 1#32
  let arg21 : BitVec 32 := Scf.iv c0_i32_103 c1_i32_105 k0_t52
  let v1010 : BitVec 32 := Scalar.addi v1009 arg21
  let v1011 : Index := Scalar.indexCast v1010
  let c976_296 : Index := 976#32
  ![v1011.toNat, 976]
def k0_off3288 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v1016 : Index := Scalar.indexCast arg21
  let c976_297 : Index := 976#32
  ![v1016.toNat, 976]
def k0_off3289 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v1020 : Index := Scalar.indexCast arg20
  let c992 : Index := 992#32
  ![v1020.toNat, 992]
def k0_off3290 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_298 : BitVec 32 := 1#32
  let v1023 : BitVec 32 := Scalar.addi arg20 c1_i32_298
  let c0_i32_103 : BitVec 32 := 0#32
  let c1_i32_105 : BitVec 32 := 1#32
  let arg21 : BitVec 32 := Scf.iv c0_i32_103 c1_i32_105 k0_t52
  let v1024 : BitVec 32 := Scalar.addi v1023 arg21
  let v1025 : Index := Scalar.indexCast v1024
  let c992_299 : Index := 992#32
  ![v1025.toNat, 992]
def k0_off3291 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v1030 : Index := Scalar.indexCast arg21
  let c992_300 : Index := 992#32
  ![v1030.toNat, 992]
def k0_off3292 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v1034 : Index := Scalar.indexCast arg20
  let c1008 : Index := 1008#32
  ![v1034.toNat, 1008]
def k0_off3293 (k0_t51 : Fin k0_t51_loop.trips) (k0_t52 : Fin (k0_t52_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_301 : BitVec 32 := 1#32
  let v1037 : BitVec 32 := Scalar.addi arg20 c1_i32_301
  let c0_i32_103 : BitVec 32 := 0#32
  let c1_i32_105 : BitVec 32 := 1#32
  let arg21 : BitVec 32 := Scf.iv c0_i32_103 c1_i32_105 k0_t52
  let v1038 : BitVec 32 := Scalar.addi v1037 arg21
  let v1039 : Index := Scalar.indexCast v1038
  let c1008_302 : Index := 1008#32
  ![v1039.toNat, 1008]
def k0_off3294 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let v1044 : Index := Scalar.indexCast arg21
  let c1008_303 : Index := 1008#32
  ![v1044.toNat, 1008]
def k0_off3295 (k0_t51 : Fin k0_t51_loop.trips) (k0_t52 : Fin (k0_t52_loop k0_t51).trips) : Fin 2 → Nat :=
  let c0_i32_103 : BitVec 32 := 0#32
  let c1_i32_105 : BitVec 32 := 1#32
  let arg21 : BitVec 32 := Scf.iv c0_i32_103 c1_i32_105 k0_t52
  let c0_i32_304 : BitVec 32 := 0#32
  ![arg21.toNat, 0]
def k0_off3296 (i : grid0.Coords) (k0_t51 : Fin k0_t51_loop.trips) (k0_t52 : Fin (k0_t52_loop k0_t51).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c0_i32_80 : BitVec 32 := 0#32
  let v114 : BitVec 32 := Scalar.addi v42 c0_i32_80
  let c16_i32_93 : BitVec 32 := 16#32
  let v119 : BitVec 32 := Scalar.muli v114 c16_i32_93
  let c0_i32_82 : BitVec 32 := 0#32
  let c1_i32_84 : BitVec 32 := 1#32
  let arg20 : BitVec 32 := Scf.iv c0_i32_82 c1_i32_84 k0_t51
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c1_i32_105 : BitVec 32 := 1#32
  let arg21 : BitVec 32 := Scf.iv c0_i32_103 c1_i32_105 k0_t52
  let v1048 : BitVec 32 := Scalar.addi v141 arg21
  let c0_i32_305 : BitVec 32 := 0#32
  ![v1048.toNat, 0]
@[reducible] def k0_t53_loop (k0_t51 : Fin k0_t51_loop.trips) : Scf.Loop 32 :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let v143 : BitVec 32 := Scalar.addi c0_i32_103 v142
  let c1_i32_106 : BitVec 32 := 1#32
  ⟨v146, v143, c1_i32_106⟩
def k0_off3297 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v152 : Index := Scalar.indexCast arg20
  let c0 : Index := 0#32
  ![v152.toNat, 0]
def k0_off3298 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_112 : BitVec 32 := 1#32
  let v155 : BitVec 32 := Scalar.addi arg20 c1_i32_112
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v156 : BitVec 32 := Scalar.addi v155 arg21
  let v157 : Index := Scalar.indexCast v156
  let c0_113 : Index := 0#32
  ![v157.toNat, 0]
def k0_off3299 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v162 : Index := Scalar.indexCast arg21
  let c0_114 : Index := 0#32
  ![v162.toNat, 0]
def k0_off3300 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v166 : Index := Scalar.indexCast arg20
  let c16 : Index := 16#32
  ![v166.toNat, 16]
def k0_off3301 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_115 : BitVec 32 := 1#32
  let v169 : BitVec 32 := Scalar.addi arg20 c1_i32_115
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v170 : BitVec 32 := Scalar.addi v169 arg21
  let v171 : Index := Scalar.indexCast v170
  let c16_116 : Index := 16#32
  ![v171.toNat, 16]
def k0_off3302 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v176 : Index := Scalar.indexCast arg21
  let c16_117 : Index := 16#32
  ![v176.toNat, 16]
def k0_off3303 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v180 : Index := Scalar.indexCast arg20
  let c32 : Index := 32#32
  ![v180.toNat, 32]
def k0_off3304 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_118 : BitVec 32 := 1#32
  let v183 : BitVec 32 := Scalar.addi arg20 c1_i32_118
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v184 : BitVec 32 := Scalar.addi v183 arg21
  let v185 : Index := Scalar.indexCast v184
  let c32_119 : Index := 32#32
  ![v185.toNat, 32]
def k0_off3305 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v190 : Index := Scalar.indexCast arg21
  let c32_120 : Index := 32#32
  ![v190.toNat, 32]
def k0_off3306 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v194 : Index := Scalar.indexCast arg20
  let c48 : Index := 48#32
  ![v194.toNat, 48]
def k0_off3307 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_121 : BitVec 32 := 1#32
  let v197 : BitVec 32 := Scalar.addi arg20 c1_i32_121
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v198 : BitVec 32 := Scalar.addi v197 arg21
  let v199 : Index := Scalar.indexCast v198
  let c48_122 : Index := 48#32
  ![v199.toNat, 48]
def k0_off3308 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v204 : Index := Scalar.indexCast arg21
  let c48_123 : Index := 48#32
  ![v204.toNat, 48]
def k0_off3309 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v208 : Index := Scalar.indexCast arg20
  let c64 : Index := 64#32
  ![v208.toNat, 64]
def k0_off3310 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_124 : BitVec 32 := 1#32
  let v211 : BitVec 32 := Scalar.addi arg20 c1_i32_124
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v212 : BitVec 32 := Scalar.addi v211 arg21
  let v213 : Index := Scalar.indexCast v212
  let c64_125 : Index := 64#32
  ![v213.toNat, 64]
def k0_off3311 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v218 : Index := Scalar.indexCast arg21
  let c64_126 : Index := 64#32
  ![v218.toNat, 64]
def k0_off3312 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v222 : Index := Scalar.indexCast arg20
  let c80 : Index := 80#32
  ![v222.toNat, 80]
def k0_off3313 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_127 : BitVec 32 := 1#32
  let v225 : BitVec 32 := Scalar.addi arg20 c1_i32_127
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v226 : BitVec 32 := Scalar.addi v225 arg21
  let v227 : Index := Scalar.indexCast v226
  let c80_128 : Index := 80#32
  ![v227.toNat, 80]
def k0_off3314 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v232 : Index := Scalar.indexCast arg21
  let c80_129 : Index := 80#32
  ![v232.toNat, 80]
def k0_off3315 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v236 : Index := Scalar.indexCast arg20
  let c96 : Index := 96#32
  ![v236.toNat, 96]
def k0_off3316 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_130 : BitVec 32 := 1#32
  let v239 : BitVec 32 := Scalar.addi arg20 c1_i32_130
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v240 : BitVec 32 := Scalar.addi v239 arg21
  let v241 : Index := Scalar.indexCast v240
  let c96_131 : Index := 96#32
  ![v241.toNat, 96]
def k0_off3317 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v246 : Index := Scalar.indexCast arg21
  let c96_132 : Index := 96#32
  ![v246.toNat, 96]
def k0_off3318 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v250 : Index := Scalar.indexCast arg20
  let c112 : Index := 112#32
  ![v250.toNat, 112]
def k0_off3319 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_133 : BitVec 32 := 1#32
  let v253 : BitVec 32 := Scalar.addi arg20 c1_i32_133
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v254 : BitVec 32 := Scalar.addi v253 arg21
  let v255 : Index := Scalar.indexCast v254
  let c112_134 : Index := 112#32
  ![v255.toNat, 112]
def k0_off3320 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v260 : Index := Scalar.indexCast arg21
  let c112_135 : Index := 112#32
  ![v260.toNat, 112]
def k0_off3321 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v264 : Index := Scalar.indexCast arg20
  let c128 : Index := 128#32
  ![v264.toNat, 128]
def k0_off3322 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_136 : BitVec 32 := 1#32
  let v267 : BitVec 32 := Scalar.addi arg20 c1_i32_136
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v268 : BitVec 32 := Scalar.addi v267 arg21
  let v269 : Index := Scalar.indexCast v268
  let c128_137 : Index := 128#32
  ![v269.toNat, 128]
def k0_off3323 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v274 : Index := Scalar.indexCast arg21
  let c128_138 : Index := 128#32
  ![v274.toNat, 128]
def k0_off3324 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v278 : Index := Scalar.indexCast arg20
  let c144 : Index := 144#32
  ![v278.toNat, 144]
def k0_off3325 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_139 : BitVec 32 := 1#32
  let v281 : BitVec 32 := Scalar.addi arg20 c1_i32_139
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v282 : BitVec 32 := Scalar.addi v281 arg21
  let v283 : Index := Scalar.indexCast v282
  let c144_140 : Index := 144#32
  ![v283.toNat, 144]
def k0_off3326 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v288 : Index := Scalar.indexCast arg21
  let c144_141 : Index := 144#32
  ![v288.toNat, 144]
def k0_off3327 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v292 : Index := Scalar.indexCast arg20
  let c160 : Index := 160#32
  ![v292.toNat, 160]
def k0_off3328 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_142 : BitVec 32 := 1#32
  let v295 : BitVec 32 := Scalar.addi arg20 c1_i32_142
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v296 : BitVec 32 := Scalar.addi v295 arg21
  let v297 : Index := Scalar.indexCast v296
  let c160_143 : Index := 160#32
  ![v297.toNat, 160]
def k0_off3329 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v302 : Index := Scalar.indexCast arg21
  let c160_144 : Index := 160#32
  ![v302.toNat, 160]
def k0_off3330 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v306 : Index := Scalar.indexCast arg20
  let c176 : Index := 176#32
  ![v306.toNat, 176]
def k0_off3331 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_145 : BitVec 32 := 1#32
  let v309 : BitVec 32 := Scalar.addi arg20 c1_i32_145
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v310 : BitVec 32 := Scalar.addi v309 arg21
  let v311 : Index := Scalar.indexCast v310
  let c176_146 : Index := 176#32
  ![v311.toNat, 176]
def k0_off3332 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v316 : Index := Scalar.indexCast arg21
  let c176_147 : Index := 176#32
  ![v316.toNat, 176]
def k0_off3333 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v320 : Index := Scalar.indexCast arg20
  let c192 : Index := 192#32
  ![v320.toNat, 192]
def k0_off3334 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_148 : BitVec 32 := 1#32
  let v323 : BitVec 32 := Scalar.addi arg20 c1_i32_148
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v324 : BitVec 32 := Scalar.addi v323 arg21
  let v325 : Index := Scalar.indexCast v324
  let c192_149 : Index := 192#32
  ![v325.toNat, 192]
def k0_off3335 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v330 : Index := Scalar.indexCast arg21
  let c192_150 : Index := 192#32
  ![v330.toNat, 192]
def k0_off3336 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v334 : Index := Scalar.indexCast arg20
  let c208 : Index := 208#32
  ![v334.toNat, 208]
def k0_off3337 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_151 : BitVec 32 := 1#32
  let v337 : BitVec 32 := Scalar.addi arg20 c1_i32_151
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v338 : BitVec 32 := Scalar.addi v337 arg21
  let v339 : Index := Scalar.indexCast v338
  let c208_152 : Index := 208#32
  ![v339.toNat, 208]
def k0_off3338 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v344 : Index := Scalar.indexCast arg21
  let c208_153 : Index := 208#32
  ![v344.toNat, 208]
def k0_off3339 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v348 : Index := Scalar.indexCast arg20
  let c224 : Index := 224#32
  ![v348.toNat, 224]
def k0_off3340 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_154 : BitVec 32 := 1#32
  let v351 : BitVec 32 := Scalar.addi arg20 c1_i32_154
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v352 : BitVec 32 := Scalar.addi v351 arg21
  let v353 : Index := Scalar.indexCast v352
  let c224_155 : Index := 224#32
  ![v353.toNat, 224]
def k0_off3341 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v358 : Index := Scalar.indexCast arg21
  let c224_156 : Index := 224#32
  ![v358.toNat, 224]
def k0_off3342 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v362 : Index := Scalar.indexCast arg20
  let c240 : Index := 240#32
  ![v362.toNat, 240]
def k0_off3343 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_157 : BitVec 32 := 1#32
  let v365 : BitVec 32 := Scalar.addi arg20 c1_i32_157
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v366 : BitVec 32 := Scalar.addi v365 arg21
  let v367 : Index := Scalar.indexCast v366
  let c240_158 : Index := 240#32
  ![v367.toNat, 240]
def k0_off3344 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v372 : Index := Scalar.indexCast arg21
  let c240_159 : Index := 240#32
  ![v372.toNat, 240]
def k0_off3345 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v376 : Index := Scalar.indexCast arg20
  let c256 : Index := 256#32
  ![v376.toNat, 256]
def k0_off3346 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_160 : BitVec 32 := 1#32
  let v379 : BitVec 32 := Scalar.addi arg20 c1_i32_160
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v380 : BitVec 32 := Scalar.addi v379 arg21
  let v381 : Index := Scalar.indexCast v380
  let c256_161 : Index := 256#32
  ![v381.toNat, 256]
def k0_off3347 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v386 : Index := Scalar.indexCast arg21
  let c256_162 : Index := 256#32
  ![v386.toNat, 256]
def k0_off3348 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v390 : Index := Scalar.indexCast arg20
  let c272 : Index := 272#32
  ![v390.toNat, 272]
def k0_off3349 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_163 : BitVec 32 := 1#32
  let v393 : BitVec 32 := Scalar.addi arg20 c1_i32_163
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v394 : BitVec 32 := Scalar.addi v393 arg21
  let v395 : Index := Scalar.indexCast v394
  let c272_164 : Index := 272#32
  ![v395.toNat, 272]
def k0_off3350 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v400 : Index := Scalar.indexCast arg21
  let c272_165 : Index := 272#32
  ![v400.toNat, 272]
def k0_off3351 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v404 : Index := Scalar.indexCast arg20
  let c288 : Index := 288#32
  ![v404.toNat, 288]
def k0_off3352 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_166 : BitVec 32 := 1#32
  let v407 : BitVec 32 := Scalar.addi arg20 c1_i32_166
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v408 : BitVec 32 := Scalar.addi v407 arg21
  let v409 : Index := Scalar.indexCast v408
  let c288_167 : Index := 288#32
  ![v409.toNat, 288]
def k0_off3353 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v414 : Index := Scalar.indexCast arg21
  let c288_168 : Index := 288#32
  ![v414.toNat, 288]
def k0_off3354 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v418 : Index := Scalar.indexCast arg20
  let c304 : Index := 304#32
  ![v418.toNat, 304]
def k0_off3355 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_169 : BitVec 32 := 1#32
  let v421 : BitVec 32 := Scalar.addi arg20 c1_i32_169
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v422 : BitVec 32 := Scalar.addi v421 arg21
  let v423 : Index := Scalar.indexCast v422
  let c304_170 : Index := 304#32
  ![v423.toNat, 304]
def k0_off3356 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v428 : Index := Scalar.indexCast arg21
  let c304_171 : Index := 304#32
  ![v428.toNat, 304]
def k0_off3357 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v432 : Index := Scalar.indexCast arg20
  let c320 : Index := 320#32
  ![v432.toNat, 320]
def k0_off3358 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_172 : BitVec 32 := 1#32
  let v435 : BitVec 32 := Scalar.addi arg20 c1_i32_172
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v436 : BitVec 32 := Scalar.addi v435 arg21
  let v437 : Index := Scalar.indexCast v436
  let c320_173 : Index := 320#32
  ![v437.toNat, 320]
def k0_off3359 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v442 : Index := Scalar.indexCast arg21
  let c320_174 : Index := 320#32
  ![v442.toNat, 320]
def k0_off3360 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v446 : Index := Scalar.indexCast arg20
  let c336 : Index := 336#32
  ![v446.toNat, 336]
def k0_off3361 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_175 : BitVec 32 := 1#32
  let v449 : BitVec 32 := Scalar.addi arg20 c1_i32_175
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v450 : BitVec 32 := Scalar.addi v449 arg21
  let v451 : Index := Scalar.indexCast v450
  let c336_176 : Index := 336#32
  ![v451.toNat, 336]
def k0_off3362 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v456 : Index := Scalar.indexCast arg21
  let c336_177 : Index := 336#32
  ![v456.toNat, 336]
def k0_off3363 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v460 : Index := Scalar.indexCast arg20
  let c352 : Index := 352#32
  ![v460.toNat, 352]
def k0_off3364 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_178 : BitVec 32 := 1#32
  let v463 : BitVec 32 := Scalar.addi arg20 c1_i32_178
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v464 : BitVec 32 := Scalar.addi v463 arg21
  let v465 : Index := Scalar.indexCast v464
  let c352_179 : Index := 352#32
  ![v465.toNat, 352]
def k0_off3365 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v470 : Index := Scalar.indexCast arg21
  let c352_180 : Index := 352#32
  ![v470.toNat, 352]
def k0_off3366 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v474 : Index := Scalar.indexCast arg20
  let c368 : Index := 368#32
  ![v474.toNat, 368]
def k0_off3367 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_181 : BitVec 32 := 1#32
  let v477 : BitVec 32 := Scalar.addi arg20 c1_i32_181
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v478 : BitVec 32 := Scalar.addi v477 arg21
  let v479 : Index := Scalar.indexCast v478
  let c368_182 : Index := 368#32
  ![v479.toNat, 368]
def k0_off3368 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v484 : Index := Scalar.indexCast arg21
  let c368_183 : Index := 368#32
  ![v484.toNat, 368]
def k0_off3369 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v488 : Index := Scalar.indexCast arg20
  let c384 : Index := 384#32
  ![v488.toNat, 384]
def k0_off3370 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_184 : BitVec 32 := 1#32
  let v491 : BitVec 32 := Scalar.addi arg20 c1_i32_184
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v492 : BitVec 32 := Scalar.addi v491 arg21
  let v493 : Index := Scalar.indexCast v492
  let c384_185 : Index := 384#32
  ![v493.toNat, 384]
def k0_off3371 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v498 : Index := Scalar.indexCast arg21
  let c384_186 : Index := 384#32
  ![v498.toNat, 384]
def k0_off3372 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v502 : Index := Scalar.indexCast arg20
  let c400 : Index := 400#32
  ![v502.toNat, 400]
def k0_off3373 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_187 : BitVec 32 := 1#32
  let v505 : BitVec 32 := Scalar.addi arg20 c1_i32_187
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v506 : BitVec 32 := Scalar.addi v505 arg21
  let v507 : Index := Scalar.indexCast v506
  let c400_188 : Index := 400#32
  ![v507.toNat, 400]
def k0_off3374 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v512 : Index := Scalar.indexCast arg21
  let c400_189 : Index := 400#32
  ![v512.toNat, 400]
def k0_off3375 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v516 : Index := Scalar.indexCast arg20
  let c416 : Index := 416#32
  ![v516.toNat, 416]
def k0_off3376 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_190 : BitVec 32 := 1#32
  let v519 : BitVec 32 := Scalar.addi arg20 c1_i32_190
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v520 : BitVec 32 := Scalar.addi v519 arg21
  let v521 : Index := Scalar.indexCast v520
  let c416_191 : Index := 416#32
  ![v521.toNat, 416]
def k0_off3377 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v526 : Index := Scalar.indexCast arg21
  let c416_192 : Index := 416#32
  ![v526.toNat, 416]
def k0_off3378 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v530 : Index := Scalar.indexCast arg20
  let c432 : Index := 432#32
  ![v530.toNat, 432]
def k0_off3379 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_193 : BitVec 32 := 1#32
  let v533 : BitVec 32 := Scalar.addi arg20 c1_i32_193
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v534 : BitVec 32 := Scalar.addi v533 arg21
  let v535 : Index := Scalar.indexCast v534
  let c432_194 : Index := 432#32
  ![v535.toNat, 432]
def k0_off3380 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v540 : Index := Scalar.indexCast arg21
  let c432_195 : Index := 432#32
  ![v540.toNat, 432]
def k0_off3381 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v544 : Index := Scalar.indexCast arg20
  let c448 : Index := 448#32
  ![v544.toNat, 448]
def k0_off3382 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_196 : BitVec 32 := 1#32
  let v547 : BitVec 32 := Scalar.addi arg20 c1_i32_196
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v548 : BitVec 32 := Scalar.addi v547 arg21
  let v549 : Index := Scalar.indexCast v548
  let c448_197 : Index := 448#32
  ![v549.toNat, 448]
def k0_off3383 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v554 : Index := Scalar.indexCast arg21
  let c448_198 : Index := 448#32
  ![v554.toNat, 448]
def k0_off3384 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v558 : Index := Scalar.indexCast arg20
  let c464 : Index := 464#32
  ![v558.toNat, 464]
def k0_off3385 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_199 : BitVec 32 := 1#32
  let v561 : BitVec 32 := Scalar.addi arg20 c1_i32_199
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v562 : BitVec 32 := Scalar.addi v561 arg21
  let v563 : Index := Scalar.indexCast v562
  let c464_200 : Index := 464#32
  ![v563.toNat, 464]
def k0_off3386 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v568 : Index := Scalar.indexCast arg21
  let c464_201 : Index := 464#32
  ![v568.toNat, 464]
def k0_off3387 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v572 : Index := Scalar.indexCast arg20
  let c480 : Index := 480#32
  ![v572.toNat, 480]
def k0_off3388 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_202 : BitVec 32 := 1#32
  let v575 : BitVec 32 := Scalar.addi arg20 c1_i32_202
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v576 : BitVec 32 := Scalar.addi v575 arg21
  let v577 : Index := Scalar.indexCast v576
  let c480_203 : Index := 480#32
  ![v577.toNat, 480]
def k0_off3389 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v582 : Index := Scalar.indexCast arg21
  let c480_204 : Index := 480#32
  ![v582.toNat, 480]
def k0_off3390 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v586 : Index := Scalar.indexCast arg20
  let c496 : Index := 496#32
  ![v586.toNat, 496]
def k0_off3391 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_205 : BitVec 32 := 1#32
  let v589 : BitVec 32 := Scalar.addi arg20 c1_i32_205
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v590 : BitVec 32 := Scalar.addi v589 arg21
  let v591 : Index := Scalar.indexCast v590
  let c496_206 : Index := 496#32
  ![v591.toNat, 496]
def k0_off3392 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v596 : Index := Scalar.indexCast arg21
  let c496_207 : Index := 496#32
  ![v596.toNat, 496]
def k0_off3393 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v600 : Index := Scalar.indexCast arg20
  let c512 : Index := 512#32
  ![v600.toNat, 512]
def k0_off3394 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_208 : BitVec 32 := 1#32
  let v603 : BitVec 32 := Scalar.addi arg20 c1_i32_208
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v604 : BitVec 32 := Scalar.addi v603 arg21
  let v605 : Index := Scalar.indexCast v604
  let c512_209 : Index := 512#32
  ![v605.toNat, 512]
def k0_off3395 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v610 : Index := Scalar.indexCast arg21
  let c512_210 : Index := 512#32
  ![v610.toNat, 512]
def k0_off3396 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v614 : Index := Scalar.indexCast arg20
  let c528 : Index := 528#32
  ![v614.toNat, 528]
def k0_off3397 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_211 : BitVec 32 := 1#32
  let v617 : BitVec 32 := Scalar.addi arg20 c1_i32_211
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v618 : BitVec 32 := Scalar.addi v617 arg21
  let v619 : Index := Scalar.indexCast v618
  let c528_212 : Index := 528#32
  ![v619.toNat, 528]
def k0_off3398 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v624 : Index := Scalar.indexCast arg21
  let c528_213 : Index := 528#32
  ![v624.toNat, 528]
def k0_off3399 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v628 : Index := Scalar.indexCast arg20
  let c544 : Index := 544#32
  ![v628.toNat, 544]
def k0_off3400 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_214 : BitVec 32 := 1#32
  let v631 : BitVec 32 := Scalar.addi arg20 c1_i32_214
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v632 : BitVec 32 := Scalar.addi v631 arg21
  let v633 : Index := Scalar.indexCast v632
  let c544_215 : Index := 544#32
  ![v633.toNat, 544]
def k0_off3401 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v638 : Index := Scalar.indexCast arg21
  let c544_216 : Index := 544#32
  ![v638.toNat, 544]
def k0_off3402 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v642 : Index := Scalar.indexCast arg20
  let c560 : Index := 560#32
  ![v642.toNat, 560]
def k0_off3403 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_217 : BitVec 32 := 1#32
  let v645 : BitVec 32 := Scalar.addi arg20 c1_i32_217
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v646 : BitVec 32 := Scalar.addi v645 arg21
  let v647 : Index := Scalar.indexCast v646
  let c560_218 : Index := 560#32
  ![v647.toNat, 560]
def k0_off3404 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v652 : Index := Scalar.indexCast arg21
  let c560_219 : Index := 560#32
  ![v652.toNat, 560]
def k0_off3405 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v656 : Index := Scalar.indexCast arg20
  let c576 : Index := 576#32
  ![v656.toNat, 576]
def k0_off3406 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_220 : BitVec 32 := 1#32
  let v659 : BitVec 32 := Scalar.addi arg20 c1_i32_220
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v660 : BitVec 32 := Scalar.addi v659 arg21
  let v661 : Index := Scalar.indexCast v660
  let c576_221 : Index := 576#32
  ![v661.toNat, 576]
def k0_off3407 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v666 : Index := Scalar.indexCast arg21
  let c576_222 : Index := 576#32
  ![v666.toNat, 576]
def k0_off3408 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v670 : Index := Scalar.indexCast arg20
  let c592 : Index := 592#32
  ![v670.toNat, 592]
def k0_off3409 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_223 : BitVec 32 := 1#32
  let v673 : BitVec 32 := Scalar.addi arg20 c1_i32_223
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v674 : BitVec 32 := Scalar.addi v673 arg21
  let v675 : Index := Scalar.indexCast v674
  let c592_224 : Index := 592#32
  ![v675.toNat, 592]
def k0_off3410 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v680 : Index := Scalar.indexCast arg21
  let c592_225 : Index := 592#32
  ![v680.toNat, 592]
def k0_off3411 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v684 : Index := Scalar.indexCast arg20
  let c608 : Index := 608#32
  ![v684.toNat, 608]
def k0_off3412 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_226 : BitVec 32 := 1#32
  let v687 : BitVec 32 := Scalar.addi arg20 c1_i32_226
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v688 : BitVec 32 := Scalar.addi v687 arg21
  let v689 : Index := Scalar.indexCast v688
  let c608_227 : Index := 608#32
  ![v689.toNat, 608]
def k0_off3413 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v694 : Index := Scalar.indexCast arg21
  let c608_228 : Index := 608#32
  ![v694.toNat, 608]
def k0_off3414 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v698 : Index := Scalar.indexCast arg20
  let c624 : Index := 624#32
  ![v698.toNat, 624]
def k0_off3415 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_229 : BitVec 32 := 1#32
  let v701 : BitVec 32 := Scalar.addi arg20 c1_i32_229
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v702 : BitVec 32 := Scalar.addi v701 arg21
  let v703 : Index := Scalar.indexCast v702
  let c624_230 : Index := 624#32
  ![v703.toNat, 624]
def k0_off3416 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v708 : Index := Scalar.indexCast arg21
  let c624_231 : Index := 624#32
  ![v708.toNat, 624]
def k0_off3417 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v712 : Index := Scalar.indexCast arg20
  let c640 : Index := 640#32
  ![v712.toNat, 640]
def k0_off3418 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_232 : BitVec 32 := 1#32
  let v715 : BitVec 32 := Scalar.addi arg20 c1_i32_232
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v716 : BitVec 32 := Scalar.addi v715 arg21
  let v717 : Index := Scalar.indexCast v716
  let c640_233 : Index := 640#32
  ![v717.toNat, 640]
def k0_off3419 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v722 : Index := Scalar.indexCast arg21
  let c640_234 : Index := 640#32
  ![v722.toNat, 640]
def k0_off3420 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v726 : Index := Scalar.indexCast arg20
  let c656 : Index := 656#32
  ![v726.toNat, 656]
def k0_off3421 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_235 : BitVec 32 := 1#32
  let v729 : BitVec 32 := Scalar.addi arg20 c1_i32_235
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v730 : BitVec 32 := Scalar.addi v729 arg21
  let v731 : Index := Scalar.indexCast v730
  let c656_236 : Index := 656#32
  ![v731.toNat, 656]
def k0_off3422 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v736 : Index := Scalar.indexCast arg21
  let c656_237 : Index := 656#32
  ![v736.toNat, 656]
def k0_off3423 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v740 : Index := Scalar.indexCast arg20
  let c672 : Index := 672#32
  ![v740.toNat, 672]
def k0_off3424 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_238 : BitVec 32 := 1#32
  let v743 : BitVec 32 := Scalar.addi arg20 c1_i32_238
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v744 : BitVec 32 := Scalar.addi v743 arg21
  let v745 : Index := Scalar.indexCast v744
  let c672_239 : Index := 672#32
  ![v745.toNat, 672]
def k0_off3425 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v750 : Index := Scalar.indexCast arg21
  let c672_240 : Index := 672#32
  ![v750.toNat, 672]
def k0_off3426 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v754 : Index := Scalar.indexCast arg20
  let c688 : Index := 688#32
  ![v754.toNat, 688]
def k0_off3427 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_241 : BitVec 32 := 1#32
  let v757 : BitVec 32 := Scalar.addi arg20 c1_i32_241
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v758 : BitVec 32 := Scalar.addi v757 arg21
  let v759 : Index := Scalar.indexCast v758
  let c688_242 : Index := 688#32
  ![v759.toNat, 688]
def k0_off3428 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v764 : Index := Scalar.indexCast arg21
  let c688_243 : Index := 688#32
  ![v764.toNat, 688]
def k0_off3429 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v768 : Index := Scalar.indexCast arg20
  let c704 : Index := 704#32
  ![v768.toNat, 704]
def k0_off3430 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_244 : BitVec 32 := 1#32
  let v771 : BitVec 32 := Scalar.addi arg20 c1_i32_244
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v772 : BitVec 32 := Scalar.addi v771 arg21
  let v773 : Index := Scalar.indexCast v772
  let c704_245 : Index := 704#32
  ![v773.toNat, 704]
def k0_off3431 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v778 : Index := Scalar.indexCast arg21
  let c704_246 : Index := 704#32
  ![v778.toNat, 704]
def k0_off3432 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v782 : Index := Scalar.indexCast arg20
  let c720 : Index := 720#32
  ![v782.toNat, 720]
def k0_off3433 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_247 : BitVec 32 := 1#32
  let v785 : BitVec 32 := Scalar.addi arg20 c1_i32_247
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v786 : BitVec 32 := Scalar.addi v785 arg21
  let v787 : Index := Scalar.indexCast v786
  let c720_248 : Index := 720#32
  ![v787.toNat, 720]
def k0_off3434 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v792 : Index := Scalar.indexCast arg21
  let c720_249 : Index := 720#32
  ![v792.toNat, 720]
def k0_off3435 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v796 : Index := Scalar.indexCast arg20
  let c736 : Index := 736#32
  ![v796.toNat, 736]
def k0_off3436 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_250 : BitVec 32 := 1#32
  let v799 : BitVec 32 := Scalar.addi arg20 c1_i32_250
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v800 : BitVec 32 := Scalar.addi v799 arg21
  let v801 : Index := Scalar.indexCast v800
  let c736_251 : Index := 736#32
  ![v801.toNat, 736]
def k0_off3437 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v806 : Index := Scalar.indexCast arg21
  let c736_252 : Index := 736#32
  ![v806.toNat, 736]
def k0_off3438 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v810 : Index := Scalar.indexCast arg20
  let c752 : Index := 752#32
  ![v810.toNat, 752]
def k0_off3439 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_253 : BitVec 32 := 1#32
  let v813 : BitVec 32 := Scalar.addi arg20 c1_i32_253
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v814 : BitVec 32 := Scalar.addi v813 arg21
  let v815 : Index := Scalar.indexCast v814
  let c752_254 : Index := 752#32
  ![v815.toNat, 752]
def k0_off3440 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v820 : Index := Scalar.indexCast arg21
  let c752_255 : Index := 752#32
  ![v820.toNat, 752]
def k0_off3441 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v824 : Index := Scalar.indexCast arg20
  let c768 : Index := 768#32
  ![v824.toNat, 768]
def k0_off3442 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_256 : BitVec 32 := 1#32
  let v827 : BitVec 32 := Scalar.addi arg20 c1_i32_256
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v828 : BitVec 32 := Scalar.addi v827 arg21
  let v829 : Index := Scalar.indexCast v828
  let c768_257 : Index := 768#32
  ![v829.toNat, 768]
def k0_off3443 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v834 : Index := Scalar.indexCast arg21
  let c768_258 : Index := 768#32
  ![v834.toNat, 768]
def k0_off3444 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v838 : Index := Scalar.indexCast arg20
  let c784 : Index := 784#32
  ![v838.toNat, 784]
def k0_off3445 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_259 : BitVec 32 := 1#32
  let v841 : BitVec 32 := Scalar.addi arg20 c1_i32_259
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v842 : BitVec 32 := Scalar.addi v841 arg21
  let v843 : Index := Scalar.indexCast v842
  let c784_260 : Index := 784#32
  ![v843.toNat, 784]
def k0_off3446 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v848 : Index := Scalar.indexCast arg21
  let c784_261 : Index := 784#32
  ![v848.toNat, 784]
def k0_off3447 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v852 : Index := Scalar.indexCast arg20
  let c800 : Index := 800#32
  ![v852.toNat, 800]
def k0_off3448 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_262 : BitVec 32 := 1#32
  let v855 : BitVec 32 := Scalar.addi arg20 c1_i32_262
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v856 : BitVec 32 := Scalar.addi v855 arg21
  let v857 : Index := Scalar.indexCast v856
  let c800_263 : Index := 800#32
  ![v857.toNat, 800]
def k0_off3449 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v862 : Index := Scalar.indexCast arg21
  let c800_264 : Index := 800#32
  ![v862.toNat, 800]
def k0_off3450 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v866 : Index := Scalar.indexCast arg20
  let c816 : Index := 816#32
  ![v866.toNat, 816]
def k0_off3451 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_265 : BitVec 32 := 1#32
  let v869 : BitVec 32 := Scalar.addi arg20 c1_i32_265
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v870 : BitVec 32 := Scalar.addi v869 arg21
  let v871 : Index := Scalar.indexCast v870
  let c816_266 : Index := 816#32
  ![v871.toNat, 816]
def k0_off3452 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v876 : Index := Scalar.indexCast arg21
  let c816_267 : Index := 816#32
  ![v876.toNat, 816]
def k0_off3453 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v880 : Index := Scalar.indexCast arg20
  let c832 : Index := 832#32
  ![v880.toNat, 832]
def k0_off3454 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_268 : BitVec 32 := 1#32
  let v883 : BitVec 32 := Scalar.addi arg20 c1_i32_268
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v884 : BitVec 32 := Scalar.addi v883 arg21
  let v885 : Index := Scalar.indexCast v884
  let c832_269 : Index := 832#32
  ![v885.toNat, 832]
def k0_off3455 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v890 : Index := Scalar.indexCast arg21
  let c832_270 : Index := 832#32
  ![v890.toNat, 832]
def k0_off3456 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v894 : Index := Scalar.indexCast arg20
  let c848 : Index := 848#32
  ![v894.toNat, 848]
def k0_off3457 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_271 : BitVec 32 := 1#32
  let v897 : BitVec 32 := Scalar.addi arg20 c1_i32_271
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v898 : BitVec 32 := Scalar.addi v897 arg21
  let v899 : Index := Scalar.indexCast v898
  let c848_272 : Index := 848#32
  ![v899.toNat, 848]
def k0_off3458 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v904 : Index := Scalar.indexCast arg21
  let c848_273 : Index := 848#32
  ![v904.toNat, 848]
def k0_off3459 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v908 : Index := Scalar.indexCast arg20
  let c864 : Index := 864#32
  ![v908.toNat, 864]
def k0_off3460 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_274 : BitVec 32 := 1#32
  let v911 : BitVec 32 := Scalar.addi arg20 c1_i32_274
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v912 : BitVec 32 := Scalar.addi v911 arg21
  let v913 : Index := Scalar.indexCast v912
  let c864_275 : Index := 864#32
  ![v913.toNat, 864]
def k0_off3461 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v918 : Index := Scalar.indexCast arg21
  let c864_276 : Index := 864#32
  ![v918.toNat, 864]
def k0_off3462 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v922 : Index := Scalar.indexCast arg20
  let c880 : Index := 880#32
  ![v922.toNat, 880]
def k0_off3463 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_277 : BitVec 32 := 1#32
  let v925 : BitVec 32 := Scalar.addi arg20 c1_i32_277
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v926 : BitVec 32 := Scalar.addi v925 arg21
  let v927 : Index := Scalar.indexCast v926
  let c880_278 : Index := 880#32
  ![v927.toNat, 880]
def k0_off3464 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v932 : Index := Scalar.indexCast arg21
  let c880_279 : Index := 880#32
  ![v932.toNat, 880]
def k0_off3465 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v936 : Index := Scalar.indexCast arg20
  let c896 : Index := 896#32
  ![v936.toNat, 896]
def k0_off3466 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_280 : BitVec 32 := 1#32
  let v939 : BitVec 32 := Scalar.addi arg20 c1_i32_280
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v940 : BitVec 32 := Scalar.addi v939 arg21
  let v941 : Index := Scalar.indexCast v940
  let c896_281 : Index := 896#32
  ![v941.toNat, 896]
def k0_off3467 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v946 : Index := Scalar.indexCast arg21
  let c896_282 : Index := 896#32
  ![v946.toNat, 896]
def k0_off3468 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v950 : Index := Scalar.indexCast arg20
  let c912 : Index := 912#32
  ![v950.toNat, 912]
def k0_off3469 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_283 : BitVec 32 := 1#32
  let v953 : BitVec 32 := Scalar.addi arg20 c1_i32_283
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v954 : BitVec 32 := Scalar.addi v953 arg21
  let v955 : Index := Scalar.indexCast v954
  let c912_284 : Index := 912#32
  ![v955.toNat, 912]
def k0_off3470 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v960 : Index := Scalar.indexCast arg21
  let c912_285 : Index := 912#32
  ![v960.toNat, 912]
def k0_off3471 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v964 : Index := Scalar.indexCast arg20
  let c928 : Index := 928#32
  ![v964.toNat, 928]
def k0_off3472 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_286 : BitVec 32 := 1#32
  let v967 : BitVec 32 := Scalar.addi arg20 c1_i32_286
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v968 : BitVec 32 := Scalar.addi v967 arg21
  let v969 : Index := Scalar.indexCast v968
  let c928_287 : Index := 928#32
  ![v969.toNat, 928]
def k0_off3473 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v974 : Index := Scalar.indexCast arg21
  let c928_288 : Index := 928#32
  ![v974.toNat, 928]
def k0_off3474 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v978 : Index := Scalar.indexCast arg20
  let c944 : Index := 944#32
  ![v978.toNat, 944]
def k0_off3475 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_289 : BitVec 32 := 1#32
  let v981 : BitVec 32 := Scalar.addi arg20 c1_i32_289
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v982 : BitVec 32 := Scalar.addi v981 arg21
  let v983 : Index := Scalar.indexCast v982
  let c944_290 : Index := 944#32
  ![v983.toNat, 944]
def k0_off3476 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v988 : Index := Scalar.indexCast arg21
  let c944_291 : Index := 944#32
  ![v988.toNat, 944]
def k0_off3477 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v992 : Index := Scalar.indexCast arg20
  let c960 : Index := 960#32
  ![v992.toNat, 960]
def k0_off3478 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_292 : BitVec 32 := 1#32
  let v995 : BitVec 32 := Scalar.addi arg20 c1_i32_292
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v996 : BitVec 32 := Scalar.addi v995 arg21
  let v997 : Index := Scalar.indexCast v996
  let c960_293 : Index := 960#32
  ![v997.toNat, 960]
def k0_off3479 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v1002 : Index := Scalar.indexCast arg21
  let c960_294 : Index := 960#32
  ![v1002.toNat, 960]
def k0_off3480 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v1006 : Index := Scalar.indexCast arg20
  let c976 : Index := 976#32
  ![v1006.toNat, 976]
def k0_off3481 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_295 : BitVec 32 := 1#32
  let v1009 : BitVec 32 := Scalar.addi arg20 c1_i32_295
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v1010 : BitVec 32 := Scalar.addi v1009 arg21
  let v1011 : Index := Scalar.indexCast v1010
  let c976_296 : Index := 976#32
  ![v1011.toNat, 976]
def k0_off3482 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v1016 : Index := Scalar.indexCast arg21
  let c976_297 : Index := 976#32
  ![v1016.toNat, 976]
def k0_off3483 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v1020 : Index := Scalar.indexCast arg20
  let c992 : Index := 992#32
  ![v1020.toNat, 992]
def k0_off3484 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_298 : BitVec 32 := 1#32
  let v1023 : BitVec 32 := Scalar.addi arg20 c1_i32_298
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v1024 : BitVec 32 := Scalar.addi v1023 arg21
  let v1025 : Index := Scalar.indexCast v1024
  let c992_299 : Index := 992#32
  ![v1025.toNat, 992]
def k0_off3485 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v1030 : Index := Scalar.indexCast arg21
  let c992_300 : Index := 992#32
  ![v1030.toNat, 992]
def k0_off3486 (k0_t51 : Fin k0_t51_loop.trips) : Fin 2 → Nat :=
  let c0_i32_82 : BitVec 32 := 0#32
  let c1_i32_84 : BitVec 32 := 1#32
  let arg20 : BitVec 32 := Scf.iv c0_i32_82 c1_i32_84 k0_t51
  let v1034 : Index := Scalar.indexCast arg20
  let c1008 : Index := 1008#32
  ![v1034.toNat, 1008]
def k0_off3487 (k0_t51 : Fin k0_t51_loop.trips) (k0_t53 : Fin (k0_t53_loop k0_t51).trips) : Fin 2 → Nat :=
  let c0_i32_82 : BitVec 32 := 0#32
  let c1_i32_84 : BitVec 32 := 1#32
  let arg20 : BitVec 32 := Scf.iv c0_i32_82 c1_i32_84 k0_t51
  let c1_i32_301 : BitVec 32 := 1#32
  let v1037 : BitVec 32 := Scalar.addi arg20 c1_i32_301
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v1038 : BitVec 32 := Scalar.addi v1037 arg21
  let v1039 : Index := Scalar.indexCast v1038
  let c1008_302 : Index := 1008#32
  ![v1039.toNat, 1008]
def k0_off3488 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v1044 : Index := Scalar.indexCast arg21
  let c1008_303 : Index := 1008#32
  ![v1044.toNat, 1008]
def k0_off3489 (k0_t51 : Fin k0_t51_loop.trips) (k0_t53 : Fin (k0_t53_loop k0_t51).trips) : Fin 2 → Nat :=
  let c0_i32_103 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let c0_i32_304 : BitVec 32 := 0#32
  ![arg21.toNat, 0]
def k0_off3490 (i : grid0.Coords) (k0_t51 : Fin k0_t51_loop.trips) (k0_t53 : Fin (k0_t53_loop k0_t51).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c0_i32_80 : BitVec 32 := 0#32
  let v114 : BitVec 32 := Scalar.addi v42 c0_i32_80
  let c16_i32_93 : BitVec 32 := 16#32
  let v119 : BitVec 32 := Scalar.muli v114 c16_i32_93
  let c0_i32_82 : BitVec 32 := 0#32
  let c1_i32_84 : BitVec 32 := 1#32
  let arg20 : BitVec 32 := Scf.iv c0_i32_82 c1_i32_84 k0_t51
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t53
  let v1048 : BitVec 32 := Scalar.addi v141 arg21
  let c0_i32_305 : BitVec 32 := 0#32
  ![v1048.toNat, 0]
@[reducible] def k0_t54_loop (k0_t51 : Fin k0_t51_loop.trips) : Scf.Loop 32 :=
  let c0_i32_108 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let c1_i32_110 : BitVec 32 := 1#32
  ⟨c0_i32_108, v151, c1_i32_110⟩
@[reducible] def k0_t55_loop (k0_t51 : Fin k0_t51_loop.trips) : Scf.Loop 32 :=
  let c0_i32_108 : BitVec 32 := 0#32
  let c15_i32_92 : BitVec 32 := 15#32
  let c0_i32_82 : BitVec 32 := 0#32
  let c1_i32_84 : BitVec 32 := 1#32
  let arg20 : BitVec 32 := Scf.iv c0_i32_82 c1_i32_84 k0_t51
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let v148 : BitVec 32 := Scalar.addi c0_i32_108 v147
  let c1_i32_111 : BitVec 32 := 1#32
  ⟨v151, v148, c1_i32_111⟩
@[reducible] def k0_t56_loop : Scf.Loop 32 :=
  let c0_i32_88 : BitVec 32 := 0#32
  let c15_i32_89 : BitVec 32 := 15#32
  let v117 : BitVec 32 := Scalar.addi c0_i32_88 c15_i32_89
  let c1_i32_90 : BitVec 32 := 1#32
  ⟨c0_i32_88, v117, c1_i32_90⟩
@[reducible] def k0_t57_loop (k0_t56 : Fin k0_t56_loop.trips) : Scf.Loop 32 :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_105 : BitVec 32 := 1#32
  ⟨c0_i32_103, v146, c1_i32_105⟩
def k0_off3491 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v152 : Index := Scalar.indexCast arg20
  let c0 : Index := 0#32
  ![v152.toNat, 0]
def k0_off3492 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_112 : BitVec 32 := 1#32
  let v155 : BitVec 32 := Scalar.addi arg20 c1_i32_112
  let c0_i32_103 : BitVec 32 := 0#32
  let c1_i32_105 : BitVec 32 := 1#32
  let arg21 : BitVec 32 := Scf.iv c0_i32_103 c1_i32_105 k0_t57
  let v156 : BitVec 32 := Scalar.addi v155 arg21
  let v157 : Index := Scalar.indexCast v156
  let c0_113 : Index := 0#32
  ![v157.toNat, 0]
def k0_off3493 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v162 : Index := Scalar.indexCast arg21
  let c0_114 : Index := 0#32
  ![v162.toNat, 0]
def k0_off3494 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v166 : Index := Scalar.indexCast arg20
  let c16 : Index := 16#32
  ![v166.toNat, 16]
def k0_off3495 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_115 : BitVec 32 := 1#32
  let v169 : BitVec 32 := Scalar.addi arg20 c1_i32_115
  let c0_i32_103 : BitVec 32 := 0#32
  let c1_i32_105 : BitVec 32 := 1#32
  let arg21 : BitVec 32 := Scf.iv c0_i32_103 c1_i32_105 k0_t57
  let v170 : BitVec 32 := Scalar.addi v169 arg21
  let v171 : Index := Scalar.indexCast v170
  let c16_116 : Index := 16#32
  ![v171.toNat, 16]
def k0_off3496 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v176 : Index := Scalar.indexCast arg21
  let c16_117 : Index := 16#32
  ![v176.toNat, 16]
def k0_off3497 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v180 : Index := Scalar.indexCast arg20
  let c32 : Index := 32#32
  ![v180.toNat, 32]
def k0_off3498 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_118 : BitVec 32 := 1#32
  let v183 : BitVec 32 := Scalar.addi arg20 c1_i32_118
  let c0_i32_103 : BitVec 32 := 0#32
  let c1_i32_105 : BitVec 32 := 1#32
  let arg21 : BitVec 32 := Scf.iv c0_i32_103 c1_i32_105 k0_t57
  let v184 : BitVec 32 := Scalar.addi v183 arg21
  let v185 : Index := Scalar.indexCast v184
  let c32_119 : Index := 32#32
  ![v185.toNat, 32]
def k0_off3499 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v190 : Index := Scalar.indexCast arg21
  let c32_120 : Index := 32#32
  ![v190.toNat, 32]
def k0_off3500 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v194 : Index := Scalar.indexCast arg20
  let c48 : Index := 48#32
  ![v194.toNat, 48]
def k0_off3501 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_121 : BitVec 32 := 1#32
  let v197 : BitVec 32 := Scalar.addi arg20 c1_i32_121
  let c0_i32_103 : BitVec 32 := 0#32
  let c1_i32_105 : BitVec 32 := 1#32
  let arg21 : BitVec 32 := Scf.iv c0_i32_103 c1_i32_105 k0_t57
  let v198 : BitVec 32 := Scalar.addi v197 arg21
  let v199 : Index := Scalar.indexCast v198
  let c48_122 : Index := 48#32
  ![v199.toNat, 48]
def k0_off3502 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v204 : Index := Scalar.indexCast arg21
  let c48_123 : Index := 48#32
  ![v204.toNat, 48]
def k0_off3503 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v208 : Index := Scalar.indexCast arg20
  let c64 : Index := 64#32
  ![v208.toNat, 64]
def k0_off3504 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_124 : BitVec 32 := 1#32
  let v211 : BitVec 32 := Scalar.addi arg20 c1_i32_124
  let c0_i32_103 : BitVec 32 := 0#32
  let c1_i32_105 : BitVec 32 := 1#32
  let arg21 : BitVec 32 := Scf.iv c0_i32_103 c1_i32_105 k0_t57
  let v212 : BitVec 32 := Scalar.addi v211 arg21
  let v213 : Index := Scalar.indexCast v212
  let c64_125 : Index := 64#32
  ![v213.toNat, 64]
def k0_off3505 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v218 : Index := Scalar.indexCast arg21
  let c64_126 : Index := 64#32
  ![v218.toNat, 64]
def k0_off3506 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v222 : Index := Scalar.indexCast arg20
  let c80 : Index := 80#32
  ![v222.toNat, 80]
def k0_off3507 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_127 : BitVec 32 := 1#32
  let v225 : BitVec 32 := Scalar.addi arg20 c1_i32_127
  let c0_i32_103 : BitVec 32 := 0#32
  let c1_i32_105 : BitVec 32 := 1#32
  let arg21 : BitVec 32 := Scf.iv c0_i32_103 c1_i32_105 k0_t57
  let v226 : BitVec 32 := Scalar.addi v225 arg21
  let v227 : Index := Scalar.indexCast v226
  let c80_128 : Index := 80#32
  ![v227.toNat, 80]
def k0_off3508 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v232 : Index := Scalar.indexCast arg21
  let c80_129 : Index := 80#32
  ![v232.toNat, 80]
def k0_off3509 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v236 : Index := Scalar.indexCast arg20
  let c96 : Index := 96#32
  ![v236.toNat, 96]
def k0_off3510 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_130 : BitVec 32 := 1#32
  let v239 : BitVec 32 := Scalar.addi arg20 c1_i32_130
  let c0_i32_103 : BitVec 32 := 0#32
  let c1_i32_105 : BitVec 32 := 1#32
  let arg21 : BitVec 32 := Scf.iv c0_i32_103 c1_i32_105 k0_t57
  let v240 : BitVec 32 := Scalar.addi v239 arg21
  let v241 : Index := Scalar.indexCast v240
  let c96_131 : Index := 96#32
  ![v241.toNat, 96]
def k0_off3511 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v246 : Index := Scalar.indexCast arg21
  let c96_132 : Index := 96#32
  ![v246.toNat, 96]
def k0_off3512 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v250 : Index := Scalar.indexCast arg20
  let c112 : Index := 112#32
  ![v250.toNat, 112]
def k0_off3513 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_133 : BitVec 32 := 1#32
  let v253 : BitVec 32 := Scalar.addi arg20 c1_i32_133
  let c0_i32_103 : BitVec 32 := 0#32
  let c1_i32_105 : BitVec 32 := 1#32
  let arg21 : BitVec 32 := Scf.iv c0_i32_103 c1_i32_105 k0_t57
  let v254 : BitVec 32 := Scalar.addi v253 arg21
  let v255 : Index := Scalar.indexCast v254
  let c112_134 : Index := 112#32
  ![v255.toNat, 112]
def k0_off3514 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v260 : Index := Scalar.indexCast arg21
  let c112_135 : Index := 112#32
  ![v260.toNat, 112]
def k0_off3515 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v264 : Index := Scalar.indexCast arg20
  let c128 : Index := 128#32
  ![v264.toNat, 128]
def k0_off3516 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_136 : BitVec 32 := 1#32
  let v267 : BitVec 32 := Scalar.addi arg20 c1_i32_136
  let c0_i32_103 : BitVec 32 := 0#32
  let c1_i32_105 : BitVec 32 := 1#32
  let arg21 : BitVec 32 := Scf.iv c0_i32_103 c1_i32_105 k0_t57
  let v268 : BitVec 32 := Scalar.addi v267 arg21
  let v269 : Index := Scalar.indexCast v268
  let c128_137 : Index := 128#32
  ![v269.toNat, 128]
def k0_off3517 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v274 : Index := Scalar.indexCast arg21
  let c128_138 : Index := 128#32
  ![v274.toNat, 128]
def k0_off3518 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v278 : Index := Scalar.indexCast arg20
  let c144 : Index := 144#32
  ![v278.toNat, 144]
def k0_off3519 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_139 : BitVec 32 := 1#32
  let v281 : BitVec 32 := Scalar.addi arg20 c1_i32_139
  let c0_i32_103 : BitVec 32 := 0#32
  let c1_i32_105 : BitVec 32 := 1#32
  let arg21 : BitVec 32 := Scf.iv c0_i32_103 c1_i32_105 k0_t57
  let v282 : BitVec 32 := Scalar.addi v281 arg21
  let v283 : Index := Scalar.indexCast v282
  let c144_140 : Index := 144#32
  ![v283.toNat, 144]
def k0_off3520 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v288 : Index := Scalar.indexCast arg21
  let c144_141 : Index := 144#32
  ![v288.toNat, 144]
def k0_off3521 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v292 : Index := Scalar.indexCast arg20
  let c160 : Index := 160#32
  ![v292.toNat, 160]
def k0_off3522 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_142 : BitVec 32 := 1#32
  let v295 : BitVec 32 := Scalar.addi arg20 c1_i32_142
  let c0_i32_103 : BitVec 32 := 0#32
  let c1_i32_105 : BitVec 32 := 1#32
  let arg21 : BitVec 32 := Scf.iv c0_i32_103 c1_i32_105 k0_t57
  let v296 : BitVec 32 := Scalar.addi v295 arg21
  let v297 : Index := Scalar.indexCast v296
  let c160_143 : Index := 160#32
  ![v297.toNat, 160]
def k0_off3523 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v302 : Index := Scalar.indexCast arg21
  let c160_144 : Index := 160#32
  ![v302.toNat, 160]
def k0_off3524 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v306 : Index := Scalar.indexCast arg20
  let c176 : Index := 176#32
  ![v306.toNat, 176]
def k0_off3525 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_145 : BitVec 32 := 1#32
  let v309 : BitVec 32 := Scalar.addi arg20 c1_i32_145
  let c0_i32_103 : BitVec 32 := 0#32
  let c1_i32_105 : BitVec 32 := 1#32
  let arg21 : BitVec 32 := Scf.iv c0_i32_103 c1_i32_105 k0_t57
  let v310 : BitVec 32 := Scalar.addi v309 arg21
  let v311 : Index := Scalar.indexCast v310
  let c176_146 : Index := 176#32
  ![v311.toNat, 176]
def k0_off3526 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v316 : Index := Scalar.indexCast arg21
  let c176_147 : Index := 176#32
  ![v316.toNat, 176]
def k0_off3527 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v320 : Index := Scalar.indexCast arg20
  let c192 : Index := 192#32
  ![v320.toNat, 192]
def k0_off3528 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_148 : BitVec 32 := 1#32
  let v323 : BitVec 32 := Scalar.addi arg20 c1_i32_148
  let c0_i32_103 : BitVec 32 := 0#32
  let c1_i32_105 : BitVec 32 := 1#32
  let arg21 : BitVec 32 := Scf.iv c0_i32_103 c1_i32_105 k0_t57
  let v324 : BitVec 32 := Scalar.addi v323 arg21
  let v325 : Index := Scalar.indexCast v324
  let c192_149 : Index := 192#32
  ![v325.toNat, 192]
def k0_off3529 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v330 : Index := Scalar.indexCast arg21
  let c192_150 : Index := 192#32
  ![v330.toNat, 192]
def k0_off3530 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v334 : Index := Scalar.indexCast arg20
  let c208 : Index := 208#32
  ![v334.toNat, 208]
def k0_off3531 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_151 : BitVec 32 := 1#32
  let v337 : BitVec 32 := Scalar.addi arg20 c1_i32_151
  let c0_i32_103 : BitVec 32 := 0#32
  let c1_i32_105 : BitVec 32 := 1#32
  let arg21 : BitVec 32 := Scf.iv c0_i32_103 c1_i32_105 k0_t57
  let v338 : BitVec 32 := Scalar.addi v337 arg21
  let v339 : Index := Scalar.indexCast v338
  let c208_152 : Index := 208#32
  ![v339.toNat, 208]
def k0_off3532 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v344 : Index := Scalar.indexCast arg21
  let c208_153 : Index := 208#32
  ![v344.toNat, 208]
def k0_off3533 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v348 : Index := Scalar.indexCast arg20
  let c224 : Index := 224#32
  ![v348.toNat, 224]
def k0_off3534 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_154 : BitVec 32 := 1#32
  let v351 : BitVec 32 := Scalar.addi arg20 c1_i32_154
  let c0_i32_103 : BitVec 32 := 0#32
  let c1_i32_105 : BitVec 32 := 1#32
  let arg21 : BitVec 32 := Scf.iv c0_i32_103 c1_i32_105 k0_t57
  let v352 : BitVec 32 := Scalar.addi v351 arg21
  let v353 : Index := Scalar.indexCast v352
  let c224_155 : Index := 224#32
  ![v353.toNat, 224]
def k0_off3535 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v358 : Index := Scalar.indexCast arg21
  let c224_156 : Index := 224#32
  ![v358.toNat, 224]
def k0_off3536 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v362 : Index := Scalar.indexCast arg20
  let c240 : Index := 240#32
  ![v362.toNat, 240]
def k0_off3537 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_157 : BitVec 32 := 1#32
  let v365 : BitVec 32 := Scalar.addi arg20 c1_i32_157
  let c0_i32_103 : BitVec 32 := 0#32
  let c1_i32_105 : BitVec 32 := 1#32
  let arg21 : BitVec 32 := Scf.iv c0_i32_103 c1_i32_105 k0_t57
  let v366 : BitVec 32 := Scalar.addi v365 arg21
  let v367 : Index := Scalar.indexCast v366
  let c240_158 : Index := 240#32
  ![v367.toNat, 240]
def k0_off3538 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v372 : Index := Scalar.indexCast arg21
  let c240_159 : Index := 240#32
  ![v372.toNat, 240]
def k0_off3539 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v376 : Index := Scalar.indexCast arg20
  let c256 : Index := 256#32
  ![v376.toNat, 256]
def k0_off3540 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_160 : BitVec 32 := 1#32
  let v379 : BitVec 32 := Scalar.addi arg20 c1_i32_160
  let c0_i32_103 : BitVec 32 := 0#32
  let c1_i32_105 : BitVec 32 := 1#32
  let arg21 : BitVec 32 := Scf.iv c0_i32_103 c1_i32_105 k0_t57
  let v380 : BitVec 32 := Scalar.addi v379 arg21
  let v381 : Index := Scalar.indexCast v380
  let c256_161 : Index := 256#32
  ![v381.toNat, 256]
def k0_off3541 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v386 : Index := Scalar.indexCast arg21
  let c256_162 : Index := 256#32
  ![v386.toNat, 256]
def k0_off3542 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v390 : Index := Scalar.indexCast arg20
  let c272 : Index := 272#32
  ![v390.toNat, 272]
def k0_off3543 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_163 : BitVec 32 := 1#32
  let v393 : BitVec 32 := Scalar.addi arg20 c1_i32_163
  let c0_i32_103 : BitVec 32 := 0#32
  let c1_i32_105 : BitVec 32 := 1#32
  let arg21 : BitVec 32 := Scf.iv c0_i32_103 c1_i32_105 k0_t57
  let v394 : BitVec 32 := Scalar.addi v393 arg21
  let v395 : Index := Scalar.indexCast v394
  let c272_164 : Index := 272#32
  ![v395.toNat, 272]
def k0_off3544 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v400 : Index := Scalar.indexCast arg21
  let c272_165 : Index := 272#32
  ![v400.toNat, 272]
def k0_off3545 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v404 : Index := Scalar.indexCast arg20
  let c288 : Index := 288#32
  ![v404.toNat, 288]
def k0_off3546 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_166 : BitVec 32 := 1#32
  let v407 : BitVec 32 := Scalar.addi arg20 c1_i32_166
  let c0_i32_103 : BitVec 32 := 0#32
  let c1_i32_105 : BitVec 32 := 1#32
  let arg21 : BitVec 32 := Scf.iv c0_i32_103 c1_i32_105 k0_t57
  let v408 : BitVec 32 := Scalar.addi v407 arg21
  let v409 : Index := Scalar.indexCast v408
  let c288_167 : Index := 288#32
  ![v409.toNat, 288]
def k0_off3547 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v414 : Index := Scalar.indexCast arg21
  let c288_168 : Index := 288#32
  ![v414.toNat, 288]
def k0_off3548 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v418 : Index := Scalar.indexCast arg20
  let c304 : Index := 304#32
  ![v418.toNat, 304]
def k0_off3549 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_169 : BitVec 32 := 1#32
  let v421 : BitVec 32 := Scalar.addi arg20 c1_i32_169
  let c0_i32_103 : BitVec 32 := 0#32
  let c1_i32_105 : BitVec 32 := 1#32
  let arg21 : BitVec 32 := Scf.iv c0_i32_103 c1_i32_105 k0_t57
  let v422 : BitVec 32 := Scalar.addi v421 arg21
  let v423 : Index := Scalar.indexCast v422
  let c304_170 : Index := 304#32
  ![v423.toNat, 304]
def k0_off3550 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v428 : Index := Scalar.indexCast arg21
  let c304_171 : Index := 304#32
  ![v428.toNat, 304]
def k0_off3551 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v432 : Index := Scalar.indexCast arg20
  let c320 : Index := 320#32
  ![v432.toNat, 320]
def k0_off3552 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_172 : BitVec 32 := 1#32
  let v435 : BitVec 32 := Scalar.addi arg20 c1_i32_172
  let c0_i32_103 : BitVec 32 := 0#32
  let c1_i32_105 : BitVec 32 := 1#32
  let arg21 : BitVec 32 := Scf.iv c0_i32_103 c1_i32_105 k0_t57
  let v436 : BitVec 32 := Scalar.addi v435 arg21
  let v437 : Index := Scalar.indexCast v436
  let c320_173 : Index := 320#32
  ![v437.toNat, 320]
def k0_off3553 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v442 : Index := Scalar.indexCast arg21
  let c320_174 : Index := 320#32
  ![v442.toNat, 320]
def k0_off3554 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v446 : Index := Scalar.indexCast arg20
  let c336 : Index := 336#32
  ![v446.toNat, 336]
def k0_off3555 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_175 : BitVec 32 := 1#32
  let v449 : BitVec 32 := Scalar.addi arg20 c1_i32_175
  let c0_i32_103 : BitVec 32 := 0#32
  let c1_i32_105 : BitVec 32 := 1#32
  let arg21 : BitVec 32 := Scf.iv c0_i32_103 c1_i32_105 k0_t57
  let v450 : BitVec 32 := Scalar.addi v449 arg21
  let v451 : Index := Scalar.indexCast v450
  let c336_176 : Index := 336#32
  ![v451.toNat, 336]
def k0_off3556 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v456 : Index := Scalar.indexCast arg21
  let c336_177 : Index := 336#32
  ![v456.toNat, 336]
def k0_off3557 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v460 : Index := Scalar.indexCast arg20
  let c352 : Index := 352#32
  ![v460.toNat, 352]
def k0_off3558 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_178 : BitVec 32 := 1#32
  let v463 : BitVec 32 := Scalar.addi arg20 c1_i32_178
  let c0_i32_103 : BitVec 32 := 0#32
  let c1_i32_105 : BitVec 32 := 1#32
  let arg21 : BitVec 32 := Scf.iv c0_i32_103 c1_i32_105 k0_t57
  let v464 : BitVec 32 := Scalar.addi v463 arg21
  let v465 : Index := Scalar.indexCast v464
  let c352_179 : Index := 352#32
  ![v465.toNat, 352]
def k0_off3559 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v470 : Index := Scalar.indexCast arg21
  let c352_180 : Index := 352#32
  ![v470.toNat, 352]
def k0_off3560 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v474 : Index := Scalar.indexCast arg20
  let c368 : Index := 368#32
  ![v474.toNat, 368]
def k0_off3561 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_181 : BitVec 32 := 1#32
  let v477 : BitVec 32 := Scalar.addi arg20 c1_i32_181
  let c0_i32_103 : BitVec 32 := 0#32
  let c1_i32_105 : BitVec 32 := 1#32
  let arg21 : BitVec 32 := Scf.iv c0_i32_103 c1_i32_105 k0_t57
  let v478 : BitVec 32 := Scalar.addi v477 arg21
  let v479 : Index := Scalar.indexCast v478
  let c368_182 : Index := 368#32
  ![v479.toNat, 368]
def k0_off3562 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v484 : Index := Scalar.indexCast arg21
  let c368_183 : Index := 368#32
  ![v484.toNat, 368]
def k0_off3563 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v488 : Index := Scalar.indexCast arg20
  let c384 : Index := 384#32
  ![v488.toNat, 384]
def k0_off3564 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_184 : BitVec 32 := 1#32
  let v491 : BitVec 32 := Scalar.addi arg20 c1_i32_184
  let c0_i32_103 : BitVec 32 := 0#32
  let c1_i32_105 : BitVec 32 := 1#32
  let arg21 : BitVec 32 := Scf.iv c0_i32_103 c1_i32_105 k0_t57
  let v492 : BitVec 32 := Scalar.addi v491 arg21
  let v493 : Index := Scalar.indexCast v492
  let c384_185 : Index := 384#32
  ![v493.toNat, 384]
def k0_off3565 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v498 : Index := Scalar.indexCast arg21
  let c384_186 : Index := 384#32
  ![v498.toNat, 384]
def k0_off3566 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v502 : Index := Scalar.indexCast arg20
  let c400 : Index := 400#32
  ![v502.toNat, 400]
def k0_off3567 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_187 : BitVec 32 := 1#32
  let v505 : BitVec 32 := Scalar.addi arg20 c1_i32_187
  let c0_i32_103 : BitVec 32 := 0#32
  let c1_i32_105 : BitVec 32 := 1#32
  let arg21 : BitVec 32 := Scf.iv c0_i32_103 c1_i32_105 k0_t57
  let v506 : BitVec 32 := Scalar.addi v505 arg21
  let v507 : Index := Scalar.indexCast v506
  let c400_188 : Index := 400#32
  ![v507.toNat, 400]
def k0_off3568 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v512 : Index := Scalar.indexCast arg21
  let c400_189 : Index := 400#32
  ![v512.toNat, 400]
def k0_off3569 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v516 : Index := Scalar.indexCast arg20
  let c416 : Index := 416#32
  ![v516.toNat, 416]
def k0_off3570 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_190 : BitVec 32 := 1#32
  let v519 : BitVec 32 := Scalar.addi arg20 c1_i32_190
  let c0_i32_103 : BitVec 32 := 0#32
  let c1_i32_105 : BitVec 32 := 1#32
  let arg21 : BitVec 32 := Scf.iv c0_i32_103 c1_i32_105 k0_t57
  let v520 : BitVec 32 := Scalar.addi v519 arg21
  let v521 : Index := Scalar.indexCast v520
  let c416_191 : Index := 416#32
  ![v521.toNat, 416]
def k0_off3571 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v526 : Index := Scalar.indexCast arg21
  let c416_192 : Index := 416#32
  ![v526.toNat, 416]
def k0_off3572 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v530 : Index := Scalar.indexCast arg20
  let c432 : Index := 432#32
  ![v530.toNat, 432]
def k0_off3573 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_193 : BitVec 32 := 1#32
  let v533 : BitVec 32 := Scalar.addi arg20 c1_i32_193
  let c0_i32_103 : BitVec 32 := 0#32
  let c1_i32_105 : BitVec 32 := 1#32
  let arg21 : BitVec 32 := Scf.iv c0_i32_103 c1_i32_105 k0_t57
  let v534 : BitVec 32 := Scalar.addi v533 arg21
  let v535 : Index := Scalar.indexCast v534
  let c432_194 : Index := 432#32
  ![v535.toNat, 432]
def k0_off3574 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v540 : Index := Scalar.indexCast arg21
  let c432_195 : Index := 432#32
  ![v540.toNat, 432]
def k0_off3575 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v544 : Index := Scalar.indexCast arg20
  let c448 : Index := 448#32
  ![v544.toNat, 448]
def k0_off3576 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_196 : BitVec 32 := 1#32
  let v547 : BitVec 32 := Scalar.addi arg20 c1_i32_196
  let c0_i32_103 : BitVec 32 := 0#32
  let c1_i32_105 : BitVec 32 := 1#32
  let arg21 : BitVec 32 := Scf.iv c0_i32_103 c1_i32_105 k0_t57
  let v548 : BitVec 32 := Scalar.addi v547 arg21
  let v549 : Index := Scalar.indexCast v548
  let c448_197 : Index := 448#32
  ![v549.toNat, 448]
def k0_off3577 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v554 : Index := Scalar.indexCast arg21
  let c448_198 : Index := 448#32
  ![v554.toNat, 448]
def k0_off3578 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v558 : Index := Scalar.indexCast arg20
  let c464 : Index := 464#32
  ![v558.toNat, 464]
def k0_off3579 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_199 : BitVec 32 := 1#32
  let v561 : BitVec 32 := Scalar.addi arg20 c1_i32_199
  let c0_i32_103 : BitVec 32 := 0#32
  let c1_i32_105 : BitVec 32 := 1#32
  let arg21 : BitVec 32 := Scf.iv c0_i32_103 c1_i32_105 k0_t57
  let v562 : BitVec 32 := Scalar.addi v561 arg21
  let v563 : Index := Scalar.indexCast v562
  let c464_200 : Index := 464#32
  ![v563.toNat, 464]
def k0_off3580 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v568 : Index := Scalar.indexCast arg21
  let c464_201 : Index := 464#32
  ![v568.toNat, 464]
def k0_off3581 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v572 : Index := Scalar.indexCast arg20
  let c480 : Index := 480#32
  ![v572.toNat, 480]
def k0_off3582 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_202 : BitVec 32 := 1#32
  let v575 : BitVec 32 := Scalar.addi arg20 c1_i32_202
  let c0_i32_103 : BitVec 32 := 0#32
  let c1_i32_105 : BitVec 32 := 1#32
  let arg21 : BitVec 32 := Scf.iv c0_i32_103 c1_i32_105 k0_t57
  let v576 : BitVec 32 := Scalar.addi v575 arg21
  let v577 : Index := Scalar.indexCast v576
  let c480_203 : Index := 480#32
  ![v577.toNat, 480]
def k0_off3583 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v582 : Index := Scalar.indexCast arg21
  let c480_204 : Index := 480#32
  ![v582.toNat, 480]
def k0_off3584 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v586 : Index := Scalar.indexCast arg20
  let c496 : Index := 496#32
  ![v586.toNat, 496]
def k0_off3585 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_205 : BitVec 32 := 1#32
  let v589 : BitVec 32 := Scalar.addi arg20 c1_i32_205
  let c0_i32_103 : BitVec 32 := 0#32
  let c1_i32_105 : BitVec 32 := 1#32
  let arg21 : BitVec 32 := Scf.iv c0_i32_103 c1_i32_105 k0_t57
  let v590 : BitVec 32 := Scalar.addi v589 arg21
  let v591 : Index := Scalar.indexCast v590
  let c496_206 : Index := 496#32
  ![v591.toNat, 496]
def k0_off3586 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v596 : Index := Scalar.indexCast arg21
  let c496_207 : Index := 496#32
  ![v596.toNat, 496]
def k0_off3587 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v600 : Index := Scalar.indexCast arg20
  let c512 : Index := 512#32
  ![v600.toNat, 512]
def k0_off3588 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_208 : BitVec 32 := 1#32
  let v603 : BitVec 32 := Scalar.addi arg20 c1_i32_208
  let c0_i32_103 : BitVec 32 := 0#32
  let c1_i32_105 : BitVec 32 := 1#32
  let arg21 : BitVec 32 := Scf.iv c0_i32_103 c1_i32_105 k0_t57
  let v604 : BitVec 32 := Scalar.addi v603 arg21
  let v605 : Index := Scalar.indexCast v604
  let c512_209 : Index := 512#32
  ![v605.toNat, 512]
def k0_off3589 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v610 : Index := Scalar.indexCast arg21
  let c512_210 : Index := 512#32
  ![v610.toNat, 512]
def k0_off3590 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v614 : Index := Scalar.indexCast arg20
  let c528 : Index := 528#32
  ![v614.toNat, 528]
def k0_off3591 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_211 : BitVec 32 := 1#32
  let v617 : BitVec 32 := Scalar.addi arg20 c1_i32_211
  let c0_i32_103 : BitVec 32 := 0#32
  let c1_i32_105 : BitVec 32 := 1#32
  let arg21 : BitVec 32 := Scf.iv c0_i32_103 c1_i32_105 k0_t57
  let v618 : BitVec 32 := Scalar.addi v617 arg21
  let v619 : Index := Scalar.indexCast v618
  let c528_212 : Index := 528#32
  ![v619.toNat, 528]
def k0_off3592 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v624 : Index := Scalar.indexCast arg21
  let c528_213 : Index := 528#32
  ![v624.toNat, 528]
def k0_off3593 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v628 : Index := Scalar.indexCast arg20
  let c544 : Index := 544#32
  ![v628.toNat, 544]
def k0_off3594 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_214 : BitVec 32 := 1#32
  let v631 : BitVec 32 := Scalar.addi arg20 c1_i32_214
  let c0_i32_103 : BitVec 32 := 0#32
  let c1_i32_105 : BitVec 32 := 1#32
  let arg21 : BitVec 32 := Scf.iv c0_i32_103 c1_i32_105 k0_t57
  let v632 : BitVec 32 := Scalar.addi v631 arg21
  let v633 : Index := Scalar.indexCast v632
  let c544_215 : Index := 544#32
  ![v633.toNat, 544]
def k0_off3595 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v638 : Index := Scalar.indexCast arg21
  let c544_216 : Index := 544#32
  ![v638.toNat, 544]
def k0_off3596 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v642 : Index := Scalar.indexCast arg20
  let c560 : Index := 560#32
  ![v642.toNat, 560]
def k0_off3597 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_217 : BitVec 32 := 1#32
  let v645 : BitVec 32 := Scalar.addi arg20 c1_i32_217
  let c0_i32_103 : BitVec 32 := 0#32
  let c1_i32_105 : BitVec 32 := 1#32
  let arg21 : BitVec 32 := Scf.iv c0_i32_103 c1_i32_105 k0_t57
  let v646 : BitVec 32 := Scalar.addi v645 arg21
  let v647 : Index := Scalar.indexCast v646
  let c560_218 : Index := 560#32
  ![v647.toNat, 560]
def k0_off3598 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v652 : Index := Scalar.indexCast arg21
  let c560_219 : Index := 560#32
  ![v652.toNat, 560]
def k0_off3599 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v656 : Index := Scalar.indexCast arg20
  let c576 : Index := 576#32
  ![v656.toNat, 576]
def k0_off3600 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_220 : BitVec 32 := 1#32
  let v659 : BitVec 32 := Scalar.addi arg20 c1_i32_220
  let c0_i32_103 : BitVec 32 := 0#32
  let c1_i32_105 : BitVec 32 := 1#32
  let arg21 : BitVec 32 := Scf.iv c0_i32_103 c1_i32_105 k0_t57
  let v660 : BitVec 32 := Scalar.addi v659 arg21
  let v661 : Index := Scalar.indexCast v660
  let c576_221 : Index := 576#32
  ![v661.toNat, 576]
def k0_off3601 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v666 : Index := Scalar.indexCast arg21
  let c576_222 : Index := 576#32
  ![v666.toNat, 576]
def k0_off3602 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v670 : Index := Scalar.indexCast arg20
  let c592 : Index := 592#32
  ![v670.toNat, 592]
def k0_off3603 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_223 : BitVec 32 := 1#32
  let v673 : BitVec 32 := Scalar.addi arg20 c1_i32_223
  let c0_i32_103 : BitVec 32 := 0#32
  let c1_i32_105 : BitVec 32 := 1#32
  let arg21 : BitVec 32 := Scf.iv c0_i32_103 c1_i32_105 k0_t57
  let v674 : BitVec 32 := Scalar.addi v673 arg21
  let v675 : Index := Scalar.indexCast v674
  let c592_224 : Index := 592#32
  ![v675.toNat, 592]
def k0_off3604 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v680 : Index := Scalar.indexCast arg21
  let c592_225 : Index := 592#32
  ![v680.toNat, 592]
def k0_off3605 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v684 : Index := Scalar.indexCast arg20
  let c608 : Index := 608#32
  ![v684.toNat, 608]
def k0_off3606 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_226 : BitVec 32 := 1#32
  let v687 : BitVec 32 := Scalar.addi arg20 c1_i32_226
  let c0_i32_103 : BitVec 32 := 0#32
  let c1_i32_105 : BitVec 32 := 1#32
  let arg21 : BitVec 32 := Scf.iv c0_i32_103 c1_i32_105 k0_t57
  let v688 : BitVec 32 := Scalar.addi v687 arg21
  let v689 : Index := Scalar.indexCast v688
  let c608_227 : Index := 608#32
  ![v689.toNat, 608]
def k0_off3607 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v694 : Index := Scalar.indexCast arg21
  let c608_228 : Index := 608#32
  ![v694.toNat, 608]
def k0_off3608 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v698 : Index := Scalar.indexCast arg20
  let c624 : Index := 624#32
  ![v698.toNat, 624]
def k0_off3609 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_229 : BitVec 32 := 1#32
  let v701 : BitVec 32 := Scalar.addi arg20 c1_i32_229
  let c0_i32_103 : BitVec 32 := 0#32
  let c1_i32_105 : BitVec 32 := 1#32
  let arg21 : BitVec 32 := Scf.iv c0_i32_103 c1_i32_105 k0_t57
  let v702 : BitVec 32 := Scalar.addi v701 arg21
  let v703 : Index := Scalar.indexCast v702
  let c624_230 : Index := 624#32
  ![v703.toNat, 624]
def k0_off3610 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v708 : Index := Scalar.indexCast arg21
  let c624_231 : Index := 624#32
  ![v708.toNat, 624]
def k0_off3611 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v712 : Index := Scalar.indexCast arg20
  let c640 : Index := 640#32
  ![v712.toNat, 640]
def k0_off3612 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_232 : BitVec 32 := 1#32
  let v715 : BitVec 32 := Scalar.addi arg20 c1_i32_232
  let c0_i32_103 : BitVec 32 := 0#32
  let c1_i32_105 : BitVec 32 := 1#32
  let arg21 : BitVec 32 := Scf.iv c0_i32_103 c1_i32_105 k0_t57
  let v716 : BitVec 32 := Scalar.addi v715 arg21
  let v717 : Index := Scalar.indexCast v716
  let c640_233 : Index := 640#32
  ![v717.toNat, 640]
def k0_off3613 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v722 : Index := Scalar.indexCast arg21
  let c640_234 : Index := 640#32
  ![v722.toNat, 640]
def k0_off3614 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v726 : Index := Scalar.indexCast arg20
  let c656 : Index := 656#32
  ![v726.toNat, 656]
def k0_off3615 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_235 : BitVec 32 := 1#32
  let v729 : BitVec 32 := Scalar.addi arg20 c1_i32_235
  let c0_i32_103 : BitVec 32 := 0#32
  let c1_i32_105 : BitVec 32 := 1#32
  let arg21 : BitVec 32 := Scf.iv c0_i32_103 c1_i32_105 k0_t57
  let v730 : BitVec 32 := Scalar.addi v729 arg21
  let v731 : Index := Scalar.indexCast v730
  let c656_236 : Index := 656#32
  ![v731.toNat, 656]
def k0_off3616 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v736 : Index := Scalar.indexCast arg21
  let c656_237 : Index := 656#32
  ![v736.toNat, 656]
def k0_off3617 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v740 : Index := Scalar.indexCast arg20
  let c672 : Index := 672#32
  ![v740.toNat, 672]
def k0_off3618 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_238 : BitVec 32 := 1#32
  let v743 : BitVec 32 := Scalar.addi arg20 c1_i32_238
  let c0_i32_103 : BitVec 32 := 0#32
  let c1_i32_105 : BitVec 32 := 1#32
  let arg21 : BitVec 32 := Scf.iv c0_i32_103 c1_i32_105 k0_t57
  let v744 : BitVec 32 := Scalar.addi v743 arg21
  let v745 : Index := Scalar.indexCast v744
  let c672_239 : Index := 672#32
  ![v745.toNat, 672]
def k0_off3619 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v750 : Index := Scalar.indexCast arg21
  let c672_240 : Index := 672#32
  ![v750.toNat, 672]
def k0_off3620 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v754 : Index := Scalar.indexCast arg20
  let c688 : Index := 688#32
  ![v754.toNat, 688]
def k0_off3621 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_241 : BitVec 32 := 1#32
  let v757 : BitVec 32 := Scalar.addi arg20 c1_i32_241
  let c0_i32_103 : BitVec 32 := 0#32
  let c1_i32_105 : BitVec 32 := 1#32
  let arg21 : BitVec 32 := Scf.iv c0_i32_103 c1_i32_105 k0_t57
  let v758 : BitVec 32 := Scalar.addi v757 arg21
  let v759 : Index := Scalar.indexCast v758
  let c688_242 : Index := 688#32
  ![v759.toNat, 688]
def k0_off3622 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v764 : Index := Scalar.indexCast arg21
  let c688_243 : Index := 688#32
  ![v764.toNat, 688]
def k0_off3623 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v768 : Index := Scalar.indexCast arg20
  let c704 : Index := 704#32
  ![v768.toNat, 704]
def k0_off3624 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_244 : BitVec 32 := 1#32
  let v771 : BitVec 32 := Scalar.addi arg20 c1_i32_244
  let c0_i32_103 : BitVec 32 := 0#32
  let c1_i32_105 : BitVec 32 := 1#32
  let arg21 : BitVec 32 := Scf.iv c0_i32_103 c1_i32_105 k0_t57
  let v772 : BitVec 32 := Scalar.addi v771 arg21
  let v773 : Index := Scalar.indexCast v772
  let c704_245 : Index := 704#32
  ![v773.toNat, 704]
def k0_off3625 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v778 : Index := Scalar.indexCast arg21
  let c704_246 : Index := 704#32
  ![v778.toNat, 704]
def k0_off3626 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v782 : Index := Scalar.indexCast arg20
  let c720 : Index := 720#32
  ![v782.toNat, 720]
def k0_off3627 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_247 : BitVec 32 := 1#32
  let v785 : BitVec 32 := Scalar.addi arg20 c1_i32_247
  let c0_i32_103 : BitVec 32 := 0#32
  let c1_i32_105 : BitVec 32 := 1#32
  let arg21 : BitVec 32 := Scf.iv c0_i32_103 c1_i32_105 k0_t57
  let v786 : BitVec 32 := Scalar.addi v785 arg21
  let v787 : Index := Scalar.indexCast v786
  let c720_248 : Index := 720#32
  ![v787.toNat, 720]
def k0_off3628 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v792 : Index := Scalar.indexCast arg21
  let c720_249 : Index := 720#32
  ![v792.toNat, 720]
def k0_off3629 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v796 : Index := Scalar.indexCast arg20
  let c736 : Index := 736#32
  ![v796.toNat, 736]
def k0_off3630 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_250 : BitVec 32 := 1#32
  let v799 : BitVec 32 := Scalar.addi arg20 c1_i32_250
  let c0_i32_103 : BitVec 32 := 0#32
  let c1_i32_105 : BitVec 32 := 1#32
  let arg21 : BitVec 32 := Scf.iv c0_i32_103 c1_i32_105 k0_t57
  let v800 : BitVec 32 := Scalar.addi v799 arg21
  let v801 : Index := Scalar.indexCast v800
  let c736_251 : Index := 736#32
  ![v801.toNat, 736]
def k0_off3631 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v806 : Index := Scalar.indexCast arg21
  let c736_252 : Index := 736#32
  ![v806.toNat, 736]
def k0_off3632 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v810 : Index := Scalar.indexCast arg20
  let c752 : Index := 752#32
  ![v810.toNat, 752]
def k0_off3633 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_253 : BitVec 32 := 1#32
  let v813 : BitVec 32 := Scalar.addi arg20 c1_i32_253
  let c0_i32_103 : BitVec 32 := 0#32
  let c1_i32_105 : BitVec 32 := 1#32
  let arg21 : BitVec 32 := Scf.iv c0_i32_103 c1_i32_105 k0_t57
  let v814 : BitVec 32 := Scalar.addi v813 arg21
  let v815 : Index := Scalar.indexCast v814
  let c752_254 : Index := 752#32
  ![v815.toNat, 752]
def k0_off3634 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v820 : Index := Scalar.indexCast arg21
  let c752_255 : Index := 752#32
  ![v820.toNat, 752]
def k0_off3635 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v824 : Index := Scalar.indexCast arg20
  let c768 : Index := 768#32
  ![v824.toNat, 768]
def k0_off3636 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_256 : BitVec 32 := 1#32
  let v827 : BitVec 32 := Scalar.addi arg20 c1_i32_256
  let c0_i32_103 : BitVec 32 := 0#32
  let c1_i32_105 : BitVec 32 := 1#32
  let arg21 : BitVec 32 := Scf.iv c0_i32_103 c1_i32_105 k0_t57
  let v828 : BitVec 32 := Scalar.addi v827 arg21
  let v829 : Index := Scalar.indexCast v828
  let c768_257 : Index := 768#32
  ![v829.toNat, 768]
def k0_off3637 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v834 : Index := Scalar.indexCast arg21
  let c768_258 : Index := 768#32
  ![v834.toNat, 768]
def k0_off3638 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v838 : Index := Scalar.indexCast arg20
  let c784 : Index := 784#32
  ![v838.toNat, 784]
def k0_off3639 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_259 : BitVec 32 := 1#32
  let v841 : BitVec 32 := Scalar.addi arg20 c1_i32_259
  let c0_i32_103 : BitVec 32 := 0#32
  let c1_i32_105 : BitVec 32 := 1#32
  let arg21 : BitVec 32 := Scf.iv c0_i32_103 c1_i32_105 k0_t57
  let v842 : BitVec 32 := Scalar.addi v841 arg21
  let v843 : Index := Scalar.indexCast v842
  let c784_260 : Index := 784#32
  ![v843.toNat, 784]
def k0_off3640 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v848 : Index := Scalar.indexCast arg21
  let c784_261 : Index := 784#32
  ![v848.toNat, 784]
def k0_off3641 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v852 : Index := Scalar.indexCast arg20
  let c800 : Index := 800#32
  ![v852.toNat, 800]
def k0_off3642 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_262 : BitVec 32 := 1#32
  let v855 : BitVec 32 := Scalar.addi arg20 c1_i32_262
  let c0_i32_103 : BitVec 32 := 0#32
  let c1_i32_105 : BitVec 32 := 1#32
  let arg21 : BitVec 32 := Scf.iv c0_i32_103 c1_i32_105 k0_t57
  let v856 : BitVec 32 := Scalar.addi v855 arg21
  let v857 : Index := Scalar.indexCast v856
  let c800_263 : Index := 800#32
  ![v857.toNat, 800]
def k0_off3643 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v862 : Index := Scalar.indexCast arg21
  let c800_264 : Index := 800#32
  ![v862.toNat, 800]
def k0_off3644 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v866 : Index := Scalar.indexCast arg20
  let c816 : Index := 816#32
  ![v866.toNat, 816]
def k0_off3645 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_265 : BitVec 32 := 1#32
  let v869 : BitVec 32 := Scalar.addi arg20 c1_i32_265
  let c0_i32_103 : BitVec 32 := 0#32
  let c1_i32_105 : BitVec 32 := 1#32
  let arg21 : BitVec 32 := Scf.iv c0_i32_103 c1_i32_105 k0_t57
  let v870 : BitVec 32 := Scalar.addi v869 arg21
  let v871 : Index := Scalar.indexCast v870
  let c816_266 : Index := 816#32
  ![v871.toNat, 816]
def k0_off3646 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v876 : Index := Scalar.indexCast arg21
  let c816_267 : Index := 816#32
  ![v876.toNat, 816]
def k0_off3647 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v880 : Index := Scalar.indexCast arg20
  let c832 : Index := 832#32
  ![v880.toNat, 832]
def k0_off3648 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_268 : BitVec 32 := 1#32
  let v883 : BitVec 32 := Scalar.addi arg20 c1_i32_268
  let c0_i32_103 : BitVec 32 := 0#32
  let c1_i32_105 : BitVec 32 := 1#32
  let arg21 : BitVec 32 := Scf.iv c0_i32_103 c1_i32_105 k0_t57
  let v884 : BitVec 32 := Scalar.addi v883 arg21
  let v885 : Index := Scalar.indexCast v884
  let c832_269 : Index := 832#32
  ![v885.toNat, 832]
def k0_off3649 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v890 : Index := Scalar.indexCast arg21
  let c832_270 : Index := 832#32
  ![v890.toNat, 832]
def k0_off3650 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v894 : Index := Scalar.indexCast arg20
  let c848 : Index := 848#32
  ![v894.toNat, 848]
def k0_off3651 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_271 : BitVec 32 := 1#32
  let v897 : BitVec 32 := Scalar.addi arg20 c1_i32_271
  let c0_i32_103 : BitVec 32 := 0#32
  let c1_i32_105 : BitVec 32 := 1#32
  let arg21 : BitVec 32 := Scf.iv c0_i32_103 c1_i32_105 k0_t57
  let v898 : BitVec 32 := Scalar.addi v897 arg21
  let v899 : Index := Scalar.indexCast v898
  let c848_272 : Index := 848#32
  ![v899.toNat, 848]
def k0_off3652 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v904 : Index := Scalar.indexCast arg21
  let c848_273 : Index := 848#32
  ![v904.toNat, 848]
def k0_off3653 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v908 : Index := Scalar.indexCast arg20
  let c864 : Index := 864#32
  ![v908.toNat, 864]
def k0_off3654 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_274 : BitVec 32 := 1#32
  let v911 : BitVec 32 := Scalar.addi arg20 c1_i32_274
  let c0_i32_103 : BitVec 32 := 0#32
  let c1_i32_105 : BitVec 32 := 1#32
  let arg21 : BitVec 32 := Scf.iv c0_i32_103 c1_i32_105 k0_t57
  let v912 : BitVec 32 := Scalar.addi v911 arg21
  let v913 : Index := Scalar.indexCast v912
  let c864_275 : Index := 864#32
  ![v913.toNat, 864]
def k0_off3655 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v918 : Index := Scalar.indexCast arg21
  let c864_276 : Index := 864#32
  ![v918.toNat, 864]
def k0_off3656 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v922 : Index := Scalar.indexCast arg20
  let c880 : Index := 880#32
  ![v922.toNat, 880]
def k0_off3657 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_277 : BitVec 32 := 1#32
  let v925 : BitVec 32 := Scalar.addi arg20 c1_i32_277
  let c0_i32_103 : BitVec 32 := 0#32
  let c1_i32_105 : BitVec 32 := 1#32
  let arg21 : BitVec 32 := Scf.iv c0_i32_103 c1_i32_105 k0_t57
  let v926 : BitVec 32 := Scalar.addi v925 arg21
  let v927 : Index := Scalar.indexCast v926
  let c880_278 : Index := 880#32
  ![v927.toNat, 880]
def k0_off3658 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v932 : Index := Scalar.indexCast arg21
  let c880_279 : Index := 880#32
  ![v932.toNat, 880]
def k0_off3659 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v936 : Index := Scalar.indexCast arg20
  let c896 : Index := 896#32
  ![v936.toNat, 896]
def k0_off3660 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_280 : BitVec 32 := 1#32
  let v939 : BitVec 32 := Scalar.addi arg20 c1_i32_280
  let c0_i32_103 : BitVec 32 := 0#32
  let c1_i32_105 : BitVec 32 := 1#32
  let arg21 : BitVec 32 := Scf.iv c0_i32_103 c1_i32_105 k0_t57
  let v940 : BitVec 32 := Scalar.addi v939 arg21
  let v941 : Index := Scalar.indexCast v940
  let c896_281 : Index := 896#32
  ![v941.toNat, 896]
def k0_off3661 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v946 : Index := Scalar.indexCast arg21
  let c896_282 : Index := 896#32
  ![v946.toNat, 896]
def k0_off3662 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v950 : Index := Scalar.indexCast arg20
  let c912 : Index := 912#32
  ![v950.toNat, 912]
def k0_off3663 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_283 : BitVec 32 := 1#32
  let v953 : BitVec 32 := Scalar.addi arg20 c1_i32_283
  let c0_i32_103 : BitVec 32 := 0#32
  let c1_i32_105 : BitVec 32 := 1#32
  let arg21 : BitVec 32 := Scf.iv c0_i32_103 c1_i32_105 k0_t57
  let v954 : BitVec 32 := Scalar.addi v953 arg21
  let v955 : Index := Scalar.indexCast v954
  let c912_284 : Index := 912#32
  ![v955.toNat, 912]
def k0_off3664 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v960 : Index := Scalar.indexCast arg21
  let c912_285 : Index := 912#32
  ![v960.toNat, 912]
def k0_off3665 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v964 : Index := Scalar.indexCast arg20
  let c928 : Index := 928#32
  ![v964.toNat, 928]
def k0_off3666 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_286 : BitVec 32 := 1#32
  let v967 : BitVec 32 := Scalar.addi arg20 c1_i32_286
  let c0_i32_103 : BitVec 32 := 0#32
  let c1_i32_105 : BitVec 32 := 1#32
  let arg21 : BitVec 32 := Scf.iv c0_i32_103 c1_i32_105 k0_t57
  let v968 : BitVec 32 := Scalar.addi v967 arg21
  let v969 : Index := Scalar.indexCast v968
  let c928_287 : Index := 928#32
  ![v969.toNat, 928]
def k0_off3667 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v974 : Index := Scalar.indexCast arg21
  let c928_288 : Index := 928#32
  ![v974.toNat, 928]
def k0_off3668 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v978 : Index := Scalar.indexCast arg20
  let c944 : Index := 944#32
  ![v978.toNat, 944]
def k0_off3669 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_289 : BitVec 32 := 1#32
  let v981 : BitVec 32 := Scalar.addi arg20 c1_i32_289
  let c0_i32_103 : BitVec 32 := 0#32
  let c1_i32_105 : BitVec 32 := 1#32
  let arg21 : BitVec 32 := Scf.iv c0_i32_103 c1_i32_105 k0_t57
  let v982 : BitVec 32 := Scalar.addi v981 arg21
  let v983 : Index := Scalar.indexCast v982
  let c944_290 : Index := 944#32
  ![v983.toNat, 944]
def k0_off3670 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v988 : Index := Scalar.indexCast arg21
  let c944_291 : Index := 944#32
  ![v988.toNat, 944]
def k0_off3671 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v992 : Index := Scalar.indexCast arg20
  let c960 : Index := 960#32
  ![v992.toNat, 960]
def k0_off3672 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_292 : BitVec 32 := 1#32
  let v995 : BitVec 32 := Scalar.addi arg20 c1_i32_292
  let c0_i32_103 : BitVec 32 := 0#32
  let c1_i32_105 : BitVec 32 := 1#32
  let arg21 : BitVec 32 := Scf.iv c0_i32_103 c1_i32_105 k0_t57
  let v996 : BitVec 32 := Scalar.addi v995 arg21
  let v997 : Index := Scalar.indexCast v996
  let c960_293 : Index := 960#32
  ![v997.toNat, 960]
def k0_off3673 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v1002 : Index := Scalar.indexCast arg21
  let c960_294 : Index := 960#32
  ![v1002.toNat, 960]
def k0_off3674 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v1006 : Index := Scalar.indexCast arg20
  let c976 : Index := 976#32
  ![v1006.toNat, 976]
def k0_off3675 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_295 : BitVec 32 := 1#32
  let v1009 : BitVec 32 := Scalar.addi arg20 c1_i32_295
  let c0_i32_103 : BitVec 32 := 0#32
  let c1_i32_105 : BitVec 32 := 1#32
  let arg21 : BitVec 32 := Scf.iv c0_i32_103 c1_i32_105 k0_t57
  let v1010 : BitVec 32 := Scalar.addi v1009 arg21
  let v1011 : Index := Scalar.indexCast v1010
  let c976_296 : Index := 976#32
  ![v1011.toNat, 976]
def k0_off3676 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v1016 : Index := Scalar.indexCast arg21
  let c976_297 : Index := 976#32
  ![v1016.toNat, 976]
def k0_off3677 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v1020 : Index := Scalar.indexCast arg20
  let c992 : Index := 992#32
  ![v1020.toNat, 992]
def k0_off3678 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_298 : BitVec 32 := 1#32
  let v1023 : BitVec 32 := Scalar.addi arg20 c1_i32_298
  let c0_i32_103 : BitVec 32 := 0#32
  let c1_i32_105 : BitVec 32 := 1#32
  let arg21 : BitVec 32 := Scf.iv c0_i32_103 c1_i32_105 k0_t57
  let v1024 : BitVec 32 := Scalar.addi v1023 arg21
  let v1025 : Index := Scalar.indexCast v1024
  let c992_299 : Index := 992#32
  ![v1025.toNat, 992]
def k0_off3679 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v1030 : Index := Scalar.indexCast arg21
  let c992_300 : Index := 992#32
  ![v1030.toNat, 992]
def k0_off3680 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v1034 : Index := Scalar.indexCast arg20
  let c1008 : Index := 1008#32
  ![v1034.toNat, 1008]
def k0_off3681 (k0_t56 : Fin k0_t56_loop.trips) (k0_t57 : Fin (k0_t57_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_301 : BitVec 32 := 1#32
  let v1037 : BitVec 32 := Scalar.addi arg20 c1_i32_301
  let c0_i32_103 : BitVec 32 := 0#32
  let c1_i32_105 : BitVec 32 := 1#32
  let arg21 : BitVec 32 := Scf.iv c0_i32_103 c1_i32_105 k0_t57
  let v1038 : BitVec 32 := Scalar.addi v1037 arg21
  let v1039 : Index := Scalar.indexCast v1038
  let c1008_302 : Index := 1008#32
  ![v1039.toNat, 1008]
def k0_off3682 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let v1044 : Index := Scalar.indexCast arg21
  let c1008_303 : Index := 1008#32
  ![v1044.toNat, 1008]
def k0_off3683 (k0_t56 : Fin k0_t56_loop.trips) (k0_t57 : Fin (k0_t57_loop k0_t56).trips) : Fin 2 → Nat :=
  let c0_i32_103 : BitVec 32 := 0#32
  let c1_i32_105 : BitVec 32 := 1#32
  let arg21 : BitVec 32 := Scf.iv c0_i32_103 c1_i32_105 k0_t57
  let c0_i32_304 : BitVec 32 := 0#32
  ![arg21.toNat, 0]
def k0_off3684 (i : grid0.Coords) (k0_t56 : Fin k0_t56_loop.trips) (k0_t57 : Fin (k0_t57_loop k0_t56).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c1_i32_86 : BitVec 32 := 1#32
  let v116 : BitVec 32 := Scalar.addi v42 c1_i32_86
  let c16_i32_93 : BitVec 32 := 16#32
  let v119 : BitVec 32 := Scalar.muli v116 c16_i32_93
  let c0_i32_88 : BitVec 32 := 0#32
  let c1_i32_90 : BitVec 32 := 1#32
  let arg20 : BitVec 32 := Scf.iv c0_i32_88 c1_i32_90 k0_t56
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c1_i32_105 : BitVec 32 := 1#32
  let arg21 : BitVec 32 := Scf.iv c0_i32_103 c1_i32_105 k0_t57
  let v1048 : BitVec 32 := Scalar.addi v141 arg21
  let c0_i32_305 : BitVec 32 := 0#32
  ![v1048.toNat, 0]
@[reducible] def k0_t58_loop (k0_t56 : Fin k0_t56_loop.trips) : Scf.Loop 32 :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let v143 : BitVec 32 := Scalar.addi c0_i32_103 v142
  let c1_i32_106 : BitVec 32 := 1#32
  ⟨v146, v143, c1_i32_106⟩
def k0_off3685 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v152 : Index := Scalar.indexCast arg20
  let c0 : Index := 0#32
  ![v152.toNat, 0]
def k0_off3686 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_112 : BitVec 32 := 1#32
  let v155 : BitVec 32 := Scalar.addi arg20 c1_i32_112
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v156 : BitVec 32 := Scalar.addi v155 arg21
  let v157 : Index := Scalar.indexCast v156
  let c0_113 : Index := 0#32
  ![v157.toNat, 0]
def k0_off3687 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v162 : Index := Scalar.indexCast arg21
  let c0_114 : Index := 0#32
  ![v162.toNat, 0]
def k0_off3688 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v166 : Index := Scalar.indexCast arg20
  let c16 : Index := 16#32
  ![v166.toNat, 16]
def k0_off3689 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_115 : BitVec 32 := 1#32
  let v169 : BitVec 32 := Scalar.addi arg20 c1_i32_115
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v170 : BitVec 32 := Scalar.addi v169 arg21
  let v171 : Index := Scalar.indexCast v170
  let c16_116 : Index := 16#32
  ![v171.toNat, 16]
def k0_off3690 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v176 : Index := Scalar.indexCast arg21
  let c16_117 : Index := 16#32
  ![v176.toNat, 16]
def k0_off3691 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v180 : Index := Scalar.indexCast arg20
  let c32 : Index := 32#32
  ![v180.toNat, 32]
def k0_off3692 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_118 : BitVec 32 := 1#32
  let v183 : BitVec 32 := Scalar.addi arg20 c1_i32_118
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v184 : BitVec 32 := Scalar.addi v183 arg21
  let v185 : Index := Scalar.indexCast v184
  let c32_119 : Index := 32#32
  ![v185.toNat, 32]
def k0_off3693 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v190 : Index := Scalar.indexCast arg21
  let c32_120 : Index := 32#32
  ![v190.toNat, 32]
def k0_off3694 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v194 : Index := Scalar.indexCast arg20
  let c48 : Index := 48#32
  ![v194.toNat, 48]
def k0_off3695 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_121 : BitVec 32 := 1#32
  let v197 : BitVec 32 := Scalar.addi arg20 c1_i32_121
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v198 : BitVec 32 := Scalar.addi v197 arg21
  let v199 : Index := Scalar.indexCast v198
  let c48_122 : Index := 48#32
  ![v199.toNat, 48]
def k0_off3696 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v204 : Index := Scalar.indexCast arg21
  let c48_123 : Index := 48#32
  ![v204.toNat, 48]
def k0_off3697 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v208 : Index := Scalar.indexCast arg20
  let c64 : Index := 64#32
  ![v208.toNat, 64]
def k0_off3698 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_124 : BitVec 32 := 1#32
  let v211 : BitVec 32 := Scalar.addi arg20 c1_i32_124
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v212 : BitVec 32 := Scalar.addi v211 arg21
  let v213 : Index := Scalar.indexCast v212
  let c64_125 : Index := 64#32
  ![v213.toNat, 64]
def k0_off3699 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v218 : Index := Scalar.indexCast arg21
  let c64_126 : Index := 64#32
  ![v218.toNat, 64]
def k0_off3700 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v222 : Index := Scalar.indexCast arg20
  let c80 : Index := 80#32
  ![v222.toNat, 80]
def k0_off3701 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_127 : BitVec 32 := 1#32
  let v225 : BitVec 32 := Scalar.addi arg20 c1_i32_127
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v226 : BitVec 32 := Scalar.addi v225 arg21
  let v227 : Index := Scalar.indexCast v226
  let c80_128 : Index := 80#32
  ![v227.toNat, 80]
def k0_off3702 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v232 : Index := Scalar.indexCast arg21
  let c80_129 : Index := 80#32
  ![v232.toNat, 80]
def k0_off3703 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v236 : Index := Scalar.indexCast arg20
  let c96 : Index := 96#32
  ![v236.toNat, 96]
def k0_off3704 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_130 : BitVec 32 := 1#32
  let v239 : BitVec 32 := Scalar.addi arg20 c1_i32_130
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v240 : BitVec 32 := Scalar.addi v239 arg21
  let v241 : Index := Scalar.indexCast v240
  let c96_131 : Index := 96#32
  ![v241.toNat, 96]
def k0_off3705 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v246 : Index := Scalar.indexCast arg21
  let c96_132 : Index := 96#32
  ![v246.toNat, 96]
def k0_off3706 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v250 : Index := Scalar.indexCast arg20
  let c112 : Index := 112#32
  ![v250.toNat, 112]
def k0_off3707 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_133 : BitVec 32 := 1#32
  let v253 : BitVec 32 := Scalar.addi arg20 c1_i32_133
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v254 : BitVec 32 := Scalar.addi v253 arg21
  let v255 : Index := Scalar.indexCast v254
  let c112_134 : Index := 112#32
  ![v255.toNat, 112]
def k0_off3708 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v260 : Index := Scalar.indexCast arg21
  let c112_135 : Index := 112#32
  ![v260.toNat, 112]
def k0_off3709 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v264 : Index := Scalar.indexCast arg20
  let c128 : Index := 128#32
  ![v264.toNat, 128]
def k0_off3710 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_136 : BitVec 32 := 1#32
  let v267 : BitVec 32 := Scalar.addi arg20 c1_i32_136
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v268 : BitVec 32 := Scalar.addi v267 arg21
  let v269 : Index := Scalar.indexCast v268
  let c128_137 : Index := 128#32
  ![v269.toNat, 128]
def k0_off3711 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v274 : Index := Scalar.indexCast arg21
  let c128_138 : Index := 128#32
  ![v274.toNat, 128]
def k0_off3712 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v278 : Index := Scalar.indexCast arg20
  let c144 : Index := 144#32
  ![v278.toNat, 144]
def k0_off3713 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_139 : BitVec 32 := 1#32
  let v281 : BitVec 32 := Scalar.addi arg20 c1_i32_139
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v282 : BitVec 32 := Scalar.addi v281 arg21
  let v283 : Index := Scalar.indexCast v282
  let c144_140 : Index := 144#32
  ![v283.toNat, 144]
def k0_off3714 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v288 : Index := Scalar.indexCast arg21
  let c144_141 : Index := 144#32
  ![v288.toNat, 144]
def k0_off3715 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v292 : Index := Scalar.indexCast arg20
  let c160 : Index := 160#32
  ![v292.toNat, 160]
def k0_off3716 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_142 : BitVec 32 := 1#32
  let v295 : BitVec 32 := Scalar.addi arg20 c1_i32_142
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v296 : BitVec 32 := Scalar.addi v295 arg21
  let v297 : Index := Scalar.indexCast v296
  let c160_143 : Index := 160#32
  ![v297.toNat, 160]
def k0_off3717 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v302 : Index := Scalar.indexCast arg21
  let c160_144 : Index := 160#32
  ![v302.toNat, 160]
def k0_off3718 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v306 : Index := Scalar.indexCast arg20
  let c176 : Index := 176#32
  ![v306.toNat, 176]
def k0_off3719 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_145 : BitVec 32 := 1#32
  let v309 : BitVec 32 := Scalar.addi arg20 c1_i32_145
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v310 : BitVec 32 := Scalar.addi v309 arg21
  let v311 : Index := Scalar.indexCast v310
  let c176_146 : Index := 176#32
  ![v311.toNat, 176]
def k0_off3720 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v316 : Index := Scalar.indexCast arg21
  let c176_147 : Index := 176#32
  ![v316.toNat, 176]
def k0_off3721 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v320 : Index := Scalar.indexCast arg20
  let c192 : Index := 192#32
  ![v320.toNat, 192]
def k0_off3722 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_148 : BitVec 32 := 1#32
  let v323 : BitVec 32 := Scalar.addi arg20 c1_i32_148
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v324 : BitVec 32 := Scalar.addi v323 arg21
  let v325 : Index := Scalar.indexCast v324
  let c192_149 : Index := 192#32
  ![v325.toNat, 192]
def k0_off3723 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v330 : Index := Scalar.indexCast arg21
  let c192_150 : Index := 192#32
  ![v330.toNat, 192]
def k0_off3724 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v334 : Index := Scalar.indexCast arg20
  let c208 : Index := 208#32
  ![v334.toNat, 208]
def k0_off3725 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_151 : BitVec 32 := 1#32
  let v337 : BitVec 32 := Scalar.addi arg20 c1_i32_151
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v338 : BitVec 32 := Scalar.addi v337 arg21
  let v339 : Index := Scalar.indexCast v338
  let c208_152 : Index := 208#32
  ![v339.toNat, 208]
def k0_off3726 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v344 : Index := Scalar.indexCast arg21
  let c208_153 : Index := 208#32
  ![v344.toNat, 208]
def k0_off3727 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v348 : Index := Scalar.indexCast arg20
  let c224 : Index := 224#32
  ![v348.toNat, 224]
def k0_off3728 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_154 : BitVec 32 := 1#32
  let v351 : BitVec 32 := Scalar.addi arg20 c1_i32_154
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v352 : BitVec 32 := Scalar.addi v351 arg21
  let v353 : Index := Scalar.indexCast v352
  let c224_155 : Index := 224#32
  ![v353.toNat, 224]
def k0_off3729 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v358 : Index := Scalar.indexCast arg21
  let c224_156 : Index := 224#32
  ![v358.toNat, 224]
def k0_off3730 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v362 : Index := Scalar.indexCast arg20
  let c240 : Index := 240#32
  ![v362.toNat, 240]
def k0_off3731 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_157 : BitVec 32 := 1#32
  let v365 : BitVec 32 := Scalar.addi arg20 c1_i32_157
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v366 : BitVec 32 := Scalar.addi v365 arg21
  let v367 : Index := Scalar.indexCast v366
  let c240_158 : Index := 240#32
  ![v367.toNat, 240]
def k0_off3732 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v372 : Index := Scalar.indexCast arg21
  let c240_159 : Index := 240#32
  ![v372.toNat, 240]
def k0_off3733 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v376 : Index := Scalar.indexCast arg20
  let c256 : Index := 256#32
  ![v376.toNat, 256]
def k0_off3734 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_160 : BitVec 32 := 1#32
  let v379 : BitVec 32 := Scalar.addi arg20 c1_i32_160
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v380 : BitVec 32 := Scalar.addi v379 arg21
  let v381 : Index := Scalar.indexCast v380
  let c256_161 : Index := 256#32
  ![v381.toNat, 256]
def k0_off3735 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v386 : Index := Scalar.indexCast arg21
  let c256_162 : Index := 256#32
  ![v386.toNat, 256]
def k0_off3736 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v390 : Index := Scalar.indexCast arg20
  let c272 : Index := 272#32
  ![v390.toNat, 272]
def k0_off3737 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_163 : BitVec 32 := 1#32
  let v393 : BitVec 32 := Scalar.addi arg20 c1_i32_163
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v394 : BitVec 32 := Scalar.addi v393 arg21
  let v395 : Index := Scalar.indexCast v394
  let c272_164 : Index := 272#32
  ![v395.toNat, 272]
def k0_off3738 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v400 : Index := Scalar.indexCast arg21
  let c272_165 : Index := 272#32
  ![v400.toNat, 272]
def k0_off3739 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v404 : Index := Scalar.indexCast arg20
  let c288 : Index := 288#32
  ![v404.toNat, 288]
def k0_off3740 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_166 : BitVec 32 := 1#32
  let v407 : BitVec 32 := Scalar.addi arg20 c1_i32_166
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v408 : BitVec 32 := Scalar.addi v407 arg21
  let v409 : Index := Scalar.indexCast v408
  let c288_167 : Index := 288#32
  ![v409.toNat, 288]
def k0_off3741 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v414 : Index := Scalar.indexCast arg21
  let c288_168 : Index := 288#32
  ![v414.toNat, 288]
def k0_off3742 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v418 : Index := Scalar.indexCast arg20
  let c304 : Index := 304#32
  ![v418.toNat, 304]
def k0_off3743 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_169 : BitVec 32 := 1#32
  let v421 : BitVec 32 := Scalar.addi arg20 c1_i32_169
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v422 : BitVec 32 := Scalar.addi v421 arg21
  let v423 : Index := Scalar.indexCast v422
  let c304_170 : Index := 304#32
  ![v423.toNat, 304]
def k0_off3744 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v428 : Index := Scalar.indexCast arg21
  let c304_171 : Index := 304#32
  ![v428.toNat, 304]
def k0_off3745 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v432 : Index := Scalar.indexCast arg20
  let c320 : Index := 320#32
  ![v432.toNat, 320]
def k0_off3746 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_172 : BitVec 32 := 1#32
  let v435 : BitVec 32 := Scalar.addi arg20 c1_i32_172
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v436 : BitVec 32 := Scalar.addi v435 arg21
  let v437 : Index := Scalar.indexCast v436
  let c320_173 : Index := 320#32
  ![v437.toNat, 320]
def k0_off3747 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v442 : Index := Scalar.indexCast arg21
  let c320_174 : Index := 320#32
  ![v442.toNat, 320]
def k0_off3748 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v446 : Index := Scalar.indexCast arg20
  let c336 : Index := 336#32
  ![v446.toNat, 336]
def k0_off3749 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_175 : BitVec 32 := 1#32
  let v449 : BitVec 32 := Scalar.addi arg20 c1_i32_175
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v450 : BitVec 32 := Scalar.addi v449 arg21
  let v451 : Index := Scalar.indexCast v450
  let c336_176 : Index := 336#32
  ![v451.toNat, 336]
def k0_off3750 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v456 : Index := Scalar.indexCast arg21
  let c336_177 : Index := 336#32
  ![v456.toNat, 336]
def k0_off3751 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v460 : Index := Scalar.indexCast arg20
  let c352 : Index := 352#32
  ![v460.toNat, 352]
def k0_off3752 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_178 : BitVec 32 := 1#32
  let v463 : BitVec 32 := Scalar.addi arg20 c1_i32_178
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v464 : BitVec 32 := Scalar.addi v463 arg21
  let v465 : Index := Scalar.indexCast v464
  let c352_179 : Index := 352#32
  ![v465.toNat, 352]
def k0_off3753 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v470 : Index := Scalar.indexCast arg21
  let c352_180 : Index := 352#32
  ![v470.toNat, 352]
def k0_off3754 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v474 : Index := Scalar.indexCast arg20
  let c368 : Index := 368#32
  ![v474.toNat, 368]
def k0_off3755 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_181 : BitVec 32 := 1#32
  let v477 : BitVec 32 := Scalar.addi arg20 c1_i32_181
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v478 : BitVec 32 := Scalar.addi v477 arg21
  let v479 : Index := Scalar.indexCast v478
  let c368_182 : Index := 368#32
  ![v479.toNat, 368]
def k0_off3756 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v484 : Index := Scalar.indexCast arg21
  let c368_183 : Index := 368#32
  ![v484.toNat, 368]
def k0_off3757 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v488 : Index := Scalar.indexCast arg20
  let c384 : Index := 384#32
  ![v488.toNat, 384]
def k0_off3758 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_184 : BitVec 32 := 1#32
  let v491 : BitVec 32 := Scalar.addi arg20 c1_i32_184
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v492 : BitVec 32 := Scalar.addi v491 arg21
  let v493 : Index := Scalar.indexCast v492
  let c384_185 : Index := 384#32
  ![v493.toNat, 384]
def k0_off3759 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v498 : Index := Scalar.indexCast arg21
  let c384_186 : Index := 384#32
  ![v498.toNat, 384]
def k0_off3760 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v502 : Index := Scalar.indexCast arg20
  let c400 : Index := 400#32
  ![v502.toNat, 400]
def k0_off3761 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_187 : BitVec 32 := 1#32
  let v505 : BitVec 32 := Scalar.addi arg20 c1_i32_187
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v506 : BitVec 32 := Scalar.addi v505 arg21
  let v507 : Index := Scalar.indexCast v506
  let c400_188 : Index := 400#32
  ![v507.toNat, 400]
def k0_off3762 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v512 : Index := Scalar.indexCast arg21
  let c400_189 : Index := 400#32
  ![v512.toNat, 400]
def k0_off3763 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v516 : Index := Scalar.indexCast arg20
  let c416 : Index := 416#32
  ![v516.toNat, 416]
def k0_off3764 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_190 : BitVec 32 := 1#32
  let v519 : BitVec 32 := Scalar.addi arg20 c1_i32_190
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v520 : BitVec 32 := Scalar.addi v519 arg21
  let v521 : Index := Scalar.indexCast v520
  let c416_191 : Index := 416#32
  ![v521.toNat, 416]
def k0_off3765 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v526 : Index := Scalar.indexCast arg21
  let c416_192 : Index := 416#32
  ![v526.toNat, 416]
def k0_off3766 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v530 : Index := Scalar.indexCast arg20
  let c432 : Index := 432#32
  ![v530.toNat, 432]
def k0_off3767 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_193 : BitVec 32 := 1#32
  let v533 : BitVec 32 := Scalar.addi arg20 c1_i32_193
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v534 : BitVec 32 := Scalar.addi v533 arg21
  let v535 : Index := Scalar.indexCast v534
  let c432_194 : Index := 432#32
  ![v535.toNat, 432]
def k0_off3768 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v540 : Index := Scalar.indexCast arg21
  let c432_195 : Index := 432#32
  ![v540.toNat, 432]
def k0_off3769 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v544 : Index := Scalar.indexCast arg20
  let c448 : Index := 448#32
  ![v544.toNat, 448]
def k0_off3770 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_196 : BitVec 32 := 1#32
  let v547 : BitVec 32 := Scalar.addi arg20 c1_i32_196
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v548 : BitVec 32 := Scalar.addi v547 arg21
  let v549 : Index := Scalar.indexCast v548
  let c448_197 : Index := 448#32
  ![v549.toNat, 448]
def k0_off3771 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v554 : Index := Scalar.indexCast arg21
  let c448_198 : Index := 448#32
  ![v554.toNat, 448]
def k0_off3772 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v558 : Index := Scalar.indexCast arg20
  let c464 : Index := 464#32
  ![v558.toNat, 464]
def k0_off3773 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_199 : BitVec 32 := 1#32
  let v561 : BitVec 32 := Scalar.addi arg20 c1_i32_199
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v562 : BitVec 32 := Scalar.addi v561 arg21
  let v563 : Index := Scalar.indexCast v562
  let c464_200 : Index := 464#32
  ![v563.toNat, 464]
def k0_off3774 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v568 : Index := Scalar.indexCast arg21
  let c464_201 : Index := 464#32
  ![v568.toNat, 464]
def k0_off3775 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v572 : Index := Scalar.indexCast arg20
  let c480 : Index := 480#32
  ![v572.toNat, 480]
def k0_off3776 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_202 : BitVec 32 := 1#32
  let v575 : BitVec 32 := Scalar.addi arg20 c1_i32_202
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v576 : BitVec 32 := Scalar.addi v575 arg21
  let v577 : Index := Scalar.indexCast v576
  let c480_203 : Index := 480#32
  ![v577.toNat, 480]
def k0_off3777 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v582 : Index := Scalar.indexCast arg21
  let c480_204 : Index := 480#32
  ![v582.toNat, 480]
def k0_off3778 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v586 : Index := Scalar.indexCast arg20
  let c496 : Index := 496#32
  ![v586.toNat, 496]
def k0_off3779 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_205 : BitVec 32 := 1#32
  let v589 : BitVec 32 := Scalar.addi arg20 c1_i32_205
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v590 : BitVec 32 := Scalar.addi v589 arg21
  let v591 : Index := Scalar.indexCast v590
  let c496_206 : Index := 496#32
  ![v591.toNat, 496]
def k0_off3780 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v596 : Index := Scalar.indexCast arg21
  let c496_207 : Index := 496#32
  ![v596.toNat, 496]
def k0_off3781 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v600 : Index := Scalar.indexCast arg20
  let c512 : Index := 512#32
  ![v600.toNat, 512]
def k0_off3782 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_208 : BitVec 32 := 1#32
  let v603 : BitVec 32 := Scalar.addi arg20 c1_i32_208
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v604 : BitVec 32 := Scalar.addi v603 arg21
  let v605 : Index := Scalar.indexCast v604
  let c512_209 : Index := 512#32
  ![v605.toNat, 512]
def k0_off3783 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v610 : Index := Scalar.indexCast arg21
  let c512_210 : Index := 512#32
  ![v610.toNat, 512]
def k0_off3784 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v614 : Index := Scalar.indexCast arg20
  let c528 : Index := 528#32
  ![v614.toNat, 528]
def k0_off3785 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_211 : BitVec 32 := 1#32
  let v617 : BitVec 32 := Scalar.addi arg20 c1_i32_211
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v618 : BitVec 32 := Scalar.addi v617 arg21
  let v619 : Index := Scalar.indexCast v618
  let c528_212 : Index := 528#32
  ![v619.toNat, 528]
def k0_off3786 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v624 : Index := Scalar.indexCast arg21
  let c528_213 : Index := 528#32
  ![v624.toNat, 528]
def k0_off3787 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v628 : Index := Scalar.indexCast arg20
  let c544 : Index := 544#32
  ![v628.toNat, 544]
def k0_off3788 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_214 : BitVec 32 := 1#32
  let v631 : BitVec 32 := Scalar.addi arg20 c1_i32_214
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v632 : BitVec 32 := Scalar.addi v631 arg21
  let v633 : Index := Scalar.indexCast v632
  let c544_215 : Index := 544#32
  ![v633.toNat, 544]
def k0_off3789 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v638 : Index := Scalar.indexCast arg21
  let c544_216 : Index := 544#32
  ![v638.toNat, 544]
def k0_off3790 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v642 : Index := Scalar.indexCast arg20
  let c560 : Index := 560#32
  ![v642.toNat, 560]
def k0_off3791 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_217 : BitVec 32 := 1#32
  let v645 : BitVec 32 := Scalar.addi arg20 c1_i32_217
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v646 : BitVec 32 := Scalar.addi v645 arg21
  let v647 : Index := Scalar.indexCast v646
  let c560_218 : Index := 560#32
  ![v647.toNat, 560]
def k0_off3792 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v652 : Index := Scalar.indexCast arg21
  let c560_219 : Index := 560#32
  ![v652.toNat, 560]
def k0_off3793 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v656 : Index := Scalar.indexCast arg20
  let c576 : Index := 576#32
  ![v656.toNat, 576]
def k0_off3794 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_220 : BitVec 32 := 1#32
  let v659 : BitVec 32 := Scalar.addi arg20 c1_i32_220
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v660 : BitVec 32 := Scalar.addi v659 arg21
  let v661 : Index := Scalar.indexCast v660
  let c576_221 : Index := 576#32
  ![v661.toNat, 576]
def k0_off3795 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v666 : Index := Scalar.indexCast arg21
  let c576_222 : Index := 576#32
  ![v666.toNat, 576]
def k0_off3796 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v670 : Index := Scalar.indexCast arg20
  let c592 : Index := 592#32
  ![v670.toNat, 592]
def k0_off3797 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_223 : BitVec 32 := 1#32
  let v673 : BitVec 32 := Scalar.addi arg20 c1_i32_223
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v674 : BitVec 32 := Scalar.addi v673 arg21
  let v675 : Index := Scalar.indexCast v674
  let c592_224 : Index := 592#32
  ![v675.toNat, 592]
def k0_off3798 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v680 : Index := Scalar.indexCast arg21
  let c592_225 : Index := 592#32
  ![v680.toNat, 592]
def k0_off3799 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v684 : Index := Scalar.indexCast arg20
  let c608 : Index := 608#32
  ![v684.toNat, 608]
def k0_off3800 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_226 : BitVec 32 := 1#32
  let v687 : BitVec 32 := Scalar.addi arg20 c1_i32_226
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v688 : BitVec 32 := Scalar.addi v687 arg21
  let v689 : Index := Scalar.indexCast v688
  let c608_227 : Index := 608#32
  ![v689.toNat, 608]
def k0_off3801 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v694 : Index := Scalar.indexCast arg21
  let c608_228 : Index := 608#32
  ![v694.toNat, 608]
def k0_off3802 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v698 : Index := Scalar.indexCast arg20
  let c624 : Index := 624#32
  ![v698.toNat, 624]
def k0_off3803 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_229 : BitVec 32 := 1#32
  let v701 : BitVec 32 := Scalar.addi arg20 c1_i32_229
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v702 : BitVec 32 := Scalar.addi v701 arg21
  let v703 : Index := Scalar.indexCast v702
  let c624_230 : Index := 624#32
  ![v703.toNat, 624]
def k0_off3804 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v708 : Index := Scalar.indexCast arg21
  let c624_231 : Index := 624#32
  ![v708.toNat, 624]
def k0_off3805 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v712 : Index := Scalar.indexCast arg20
  let c640 : Index := 640#32
  ![v712.toNat, 640]
def k0_off3806 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_232 : BitVec 32 := 1#32
  let v715 : BitVec 32 := Scalar.addi arg20 c1_i32_232
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v716 : BitVec 32 := Scalar.addi v715 arg21
  let v717 : Index := Scalar.indexCast v716
  let c640_233 : Index := 640#32
  ![v717.toNat, 640]
def k0_off3807 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v722 : Index := Scalar.indexCast arg21
  let c640_234 : Index := 640#32
  ![v722.toNat, 640]
def k0_off3808 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v726 : Index := Scalar.indexCast arg20
  let c656 : Index := 656#32
  ![v726.toNat, 656]
def k0_off3809 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_235 : BitVec 32 := 1#32
  let v729 : BitVec 32 := Scalar.addi arg20 c1_i32_235
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v730 : BitVec 32 := Scalar.addi v729 arg21
  let v731 : Index := Scalar.indexCast v730
  let c656_236 : Index := 656#32
  ![v731.toNat, 656]
def k0_off3810 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v736 : Index := Scalar.indexCast arg21
  let c656_237 : Index := 656#32
  ![v736.toNat, 656]
def k0_off3811 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v740 : Index := Scalar.indexCast arg20
  let c672 : Index := 672#32
  ![v740.toNat, 672]
def k0_off3812 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_238 : BitVec 32 := 1#32
  let v743 : BitVec 32 := Scalar.addi arg20 c1_i32_238
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v744 : BitVec 32 := Scalar.addi v743 arg21
  let v745 : Index := Scalar.indexCast v744
  let c672_239 : Index := 672#32
  ![v745.toNat, 672]
def k0_off3813 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v750 : Index := Scalar.indexCast arg21
  let c672_240 : Index := 672#32
  ![v750.toNat, 672]
def k0_off3814 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v754 : Index := Scalar.indexCast arg20
  let c688 : Index := 688#32
  ![v754.toNat, 688]
def k0_off3815 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_241 : BitVec 32 := 1#32
  let v757 : BitVec 32 := Scalar.addi arg20 c1_i32_241
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v758 : BitVec 32 := Scalar.addi v757 arg21
  let v759 : Index := Scalar.indexCast v758
  let c688_242 : Index := 688#32
  ![v759.toNat, 688]
def k0_off3816 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v764 : Index := Scalar.indexCast arg21
  let c688_243 : Index := 688#32
  ![v764.toNat, 688]
def k0_off3817 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v768 : Index := Scalar.indexCast arg20
  let c704 : Index := 704#32
  ![v768.toNat, 704]
def k0_off3818 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_244 : BitVec 32 := 1#32
  let v771 : BitVec 32 := Scalar.addi arg20 c1_i32_244
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v772 : BitVec 32 := Scalar.addi v771 arg21
  let v773 : Index := Scalar.indexCast v772
  let c704_245 : Index := 704#32
  ![v773.toNat, 704]
def k0_off3819 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v778 : Index := Scalar.indexCast arg21
  let c704_246 : Index := 704#32
  ![v778.toNat, 704]
def k0_off3820 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v782 : Index := Scalar.indexCast arg20
  let c720 : Index := 720#32
  ![v782.toNat, 720]
def k0_off3821 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_247 : BitVec 32 := 1#32
  let v785 : BitVec 32 := Scalar.addi arg20 c1_i32_247
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v786 : BitVec 32 := Scalar.addi v785 arg21
  let v787 : Index := Scalar.indexCast v786
  let c720_248 : Index := 720#32
  ![v787.toNat, 720]
def k0_off3822 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v792 : Index := Scalar.indexCast arg21
  let c720_249 : Index := 720#32
  ![v792.toNat, 720]
def k0_off3823 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v796 : Index := Scalar.indexCast arg20
  let c736 : Index := 736#32
  ![v796.toNat, 736]
def k0_off3824 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_250 : BitVec 32 := 1#32
  let v799 : BitVec 32 := Scalar.addi arg20 c1_i32_250
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v800 : BitVec 32 := Scalar.addi v799 arg21
  let v801 : Index := Scalar.indexCast v800
  let c736_251 : Index := 736#32
  ![v801.toNat, 736]
def k0_off3825 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v806 : Index := Scalar.indexCast arg21
  let c736_252 : Index := 736#32
  ![v806.toNat, 736]
def k0_off3826 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v810 : Index := Scalar.indexCast arg20
  let c752 : Index := 752#32
  ![v810.toNat, 752]
def k0_off3827 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_253 : BitVec 32 := 1#32
  let v813 : BitVec 32 := Scalar.addi arg20 c1_i32_253
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v814 : BitVec 32 := Scalar.addi v813 arg21
  let v815 : Index := Scalar.indexCast v814
  let c752_254 : Index := 752#32
  ![v815.toNat, 752]
def k0_off3828 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v820 : Index := Scalar.indexCast arg21
  let c752_255 : Index := 752#32
  ![v820.toNat, 752]
def k0_off3829 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v824 : Index := Scalar.indexCast arg20
  let c768 : Index := 768#32
  ![v824.toNat, 768]
def k0_off3830 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_256 : BitVec 32 := 1#32
  let v827 : BitVec 32 := Scalar.addi arg20 c1_i32_256
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v828 : BitVec 32 := Scalar.addi v827 arg21
  let v829 : Index := Scalar.indexCast v828
  let c768_257 : Index := 768#32
  ![v829.toNat, 768]
def k0_off3831 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v834 : Index := Scalar.indexCast arg21
  let c768_258 : Index := 768#32
  ![v834.toNat, 768]
def k0_off3832 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v838 : Index := Scalar.indexCast arg20
  let c784 : Index := 784#32
  ![v838.toNat, 784]
def k0_off3833 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_259 : BitVec 32 := 1#32
  let v841 : BitVec 32 := Scalar.addi arg20 c1_i32_259
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v842 : BitVec 32 := Scalar.addi v841 arg21
  let v843 : Index := Scalar.indexCast v842
  let c784_260 : Index := 784#32
  ![v843.toNat, 784]
def k0_off3834 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v848 : Index := Scalar.indexCast arg21
  let c784_261 : Index := 784#32
  ![v848.toNat, 784]
def k0_off3835 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v852 : Index := Scalar.indexCast arg20
  let c800 : Index := 800#32
  ![v852.toNat, 800]
def k0_off3836 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_262 : BitVec 32 := 1#32
  let v855 : BitVec 32 := Scalar.addi arg20 c1_i32_262
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v856 : BitVec 32 := Scalar.addi v855 arg21
  let v857 : Index := Scalar.indexCast v856
  let c800_263 : Index := 800#32
  ![v857.toNat, 800]
def k0_off3837 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v862 : Index := Scalar.indexCast arg21
  let c800_264 : Index := 800#32
  ![v862.toNat, 800]
def k0_off3838 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v866 : Index := Scalar.indexCast arg20
  let c816 : Index := 816#32
  ![v866.toNat, 816]
def k0_off3839 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_265 : BitVec 32 := 1#32
  let v869 : BitVec 32 := Scalar.addi arg20 c1_i32_265
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v870 : BitVec 32 := Scalar.addi v869 arg21
  let v871 : Index := Scalar.indexCast v870
  let c816_266 : Index := 816#32
  ![v871.toNat, 816]
def k0_off3840 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v876 : Index := Scalar.indexCast arg21
  let c816_267 : Index := 816#32
  ![v876.toNat, 816]
def k0_off3841 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v880 : Index := Scalar.indexCast arg20
  let c832 : Index := 832#32
  ![v880.toNat, 832]
def k0_off3842 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_268 : BitVec 32 := 1#32
  let v883 : BitVec 32 := Scalar.addi arg20 c1_i32_268
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v884 : BitVec 32 := Scalar.addi v883 arg21
  let v885 : Index := Scalar.indexCast v884
  let c832_269 : Index := 832#32
  ![v885.toNat, 832]
def k0_off3843 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v890 : Index := Scalar.indexCast arg21
  let c832_270 : Index := 832#32
  ![v890.toNat, 832]
def k0_off3844 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v894 : Index := Scalar.indexCast arg20
  let c848 : Index := 848#32
  ![v894.toNat, 848]
def k0_off3845 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_271 : BitVec 32 := 1#32
  let v897 : BitVec 32 := Scalar.addi arg20 c1_i32_271
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v898 : BitVec 32 := Scalar.addi v897 arg21
  let v899 : Index := Scalar.indexCast v898
  let c848_272 : Index := 848#32
  ![v899.toNat, 848]
def k0_off3846 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v904 : Index := Scalar.indexCast arg21
  let c848_273 : Index := 848#32
  ![v904.toNat, 848]
def k0_off3847 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v908 : Index := Scalar.indexCast arg20
  let c864 : Index := 864#32
  ![v908.toNat, 864]
def k0_off3848 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_274 : BitVec 32 := 1#32
  let v911 : BitVec 32 := Scalar.addi arg20 c1_i32_274
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v912 : BitVec 32 := Scalar.addi v911 arg21
  let v913 : Index := Scalar.indexCast v912
  let c864_275 : Index := 864#32
  ![v913.toNat, 864]
def k0_off3849 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v918 : Index := Scalar.indexCast arg21
  let c864_276 : Index := 864#32
  ![v918.toNat, 864]
def k0_off3850 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v922 : Index := Scalar.indexCast arg20
  let c880 : Index := 880#32
  ![v922.toNat, 880]
def k0_off3851 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_277 : BitVec 32 := 1#32
  let v925 : BitVec 32 := Scalar.addi arg20 c1_i32_277
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v926 : BitVec 32 := Scalar.addi v925 arg21
  let v927 : Index := Scalar.indexCast v926
  let c880_278 : Index := 880#32
  ![v927.toNat, 880]
def k0_off3852 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v932 : Index := Scalar.indexCast arg21
  let c880_279 : Index := 880#32
  ![v932.toNat, 880]
def k0_off3853 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v936 : Index := Scalar.indexCast arg20
  let c896 : Index := 896#32
  ![v936.toNat, 896]
def k0_off3854 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_280 : BitVec 32 := 1#32
  let v939 : BitVec 32 := Scalar.addi arg20 c1_i32_280
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v940 : BitVec 32 := Scalar.addi v939 arg21
  let v941 : Index := Scalar.indexCast v940
  let c896_281 : Index := 896#32
  ![v941.toNat, 896]
def k0_off3855 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v946 : Index := Scalar.indexCast arg21
  let c896_282 : Index := 896#32
  ![v946.toNat, 896]
def k0_off3856 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v950 : Index := Scalar.indexCast arg20
  let c912 : Index := 912#32
  ![v950.toNat, 912]
def k0_off3857 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_283 : BitVec 32 := 1#32
  let v953 : BitVec 32 := Scalar.addi arg20 c1_i32_283
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v954 : BitVec 32 := Scalar.addi v953 arg21
  let v955 : Index := Scalar.indexCast v954
  let c912_284 : Index := 912#32
  ![v955.toNat, 912]
def k0_off3858 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v960 : Index := Scalar.indexCast arg21
  let c912_285 : Index := 912#32
  ![v960.toNat, 912]
def k0_off3859 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v964 : Index := Scalar.indexCast arg20
  let c928 : Index := 928#32
  ![v964.toNat, 928]
def k0_off3860 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_286 : BitVec 32 := 1#32
  let v967 : BitVec 32 := Scalar.addi arg20 c1_i32_286
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v968 : BitVec 32 := Scalar.addi v967 arg21
  let v969 : Index := Scalar.indexCast v968
  let c928_287 : Index := 928#32
  ![v969.toNat, 928]
def k0_off3861 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v974 : Index := Scalar.indexCast arg21
  let c928_288 : Index := 928#32
  ![v974.toNat, 928]
def k0_off3862 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v978 : Index := Scalar.indexCast arg20
  let c944 : Index := 944#32
  ![v978.toNat, 944]
def k0_off3863 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_289 : BitVec 32 := 1#32
  let v981 : BitVec 32 := Scalar.addi arg20 c1_i32_289
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v982 : BitVec 32 := Scalar.addi v981 arg21
  let v983 : Index := Scalar.indexCast v982
  let c944_290 : Index := 944#32
  ![v983.toNat, 944]
def k0_off3864 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v988 : Index := Scalar.indexCast arg21
  let c944_291 : Index := 944#32
  ![v988.toNat, 944]
def k0_off3865 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v992 : Index := Scalar.indexCast arg20
  let c960 : Index := 960#32
  ![v992.toNat, 960]
def k0_off3866 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_292 : BitVec 32 := 1#32
  let v995 : BitVec 32 := Scalar.addi arg20 c1_i32_292
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v996 : BitVec 32 := Scalar.addi v995 arg21
  let v997 : Index := Scalar.indexCast v996
  let c960_293 : Index := 960#32
  ![v997.toNat, 960]
def k0_off3867 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v1002 : Index := Scalar.indexCast arg21
  let c960_294 : Index := 960#32
  ![v1002.toNat, 960]
def k0_off3868 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v1006 : Index := Scalar.indexCast arg20
  let c976 : Index := 976#32
  ![v1006.toNat, 976]
def k0_off3869 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_295 : BitVec 32 := 1#32
  let v1009 : BitVec 32 := Scalar.addi arg20 c1_i32_295
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v1010 : BitVec 32 := Scalar.addi v1009 arg21
  let v1011 : Index := Scalar.indexCast v1010
  let c976_296 : Index := 976#32
  ![v1011.toNat, 976]
def k0_off3870 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v1016 : Index := Scalar.indexCast arg21
  let c976_297 : Index := 976#32
  ![v1016.toNat, 976]
def k0_off3871 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v1020 : Index := Scalar.indexCast arg20
  let c992 : Index := 992#32
  ![v1020.toNat, 992]
def k0_off3872 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_298 : BitVec 32 := 1#32
  let v1023 : BitVec 32 := Scalar.addi arg20 c1_i32_298
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v1024 : BitVec 32 := Scalar.addi v1023 arg21
  let v1025 : Index := Scalar.indexCast v1024
  let c992_299 : Index := 992#32
  ![v1025.toNat, 992]
def k0_off3873 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v1030 : Index := Scalar.indexCast arg21
  let c992_300 : Index := 992#32
  ![v1030.toNat, 992]
def k0_off3874 (k0_t56 : Fin k0_t56_loop.trips) : Fin 2 → Nat :=
  let c0_i32_88 : BitVec 32 := 0#32
  let c1_i32_90 : BitVec 32 := 1#32
  let arg20 : BitVec 32 := Scf.iv c0_i32_88 c1_i32_90 k0_t56
  let v1034 : Index := Scalar.indexCast arg20
  let c1008 : Index := 1008#32
  ![v1034.toNat, 1008]
def k0_off3875 (k0_t56 : Fin k0_t56_loop.trips) (k0_t58 : Fin (k0_t58_loop k0_t56).trips) : Fin 2 → Nat :=
  let c0_i32_88 : BitVec 32 := 0#32
  let c1_i32_90 : BitVec 32 := 1#32
  let arg20 : BitVec 32 := Scf.iv c0_i32_88 c1_i32_90 k0_t56
  let c1_i32_301 : BitVec 32 := 1#32
  let v1037 : BitVec 32 := Scalar.addi arg20 c1_i32_301
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v1038 : BitVec 32 := Scalar.addi v1037 arg21
  let v1039 : Index := Scalar.indexCast v1038
  let c1008_302 : Index := 1008#32
  ![v1039.toNat, 1008]
def k0_off3876 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v1044 : Index := Scalar.indexCast arg21
  let c1008_303 : Index := 1008#32
  ![v1044.toNat, 1008]
def k0_off3877 (k0_t56 : Fin k0_t56_loop.trips) (k0_t58 : Fin (k0_t58_loop k0_t56).trips) : Fin 2 → Nat :=
  let c0_i32_103 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let c0_i32_304 : BitVec 32 := 0#32
  ![arg21.toNat, 0]
def k0_off3878 (i : grid0.Coords) (k0_t56 : Fin k0_t56_loop.trips) (k0_t58 : Fin (k0_t58_loop k0_t56).trips) : Fin 2 → Nat :=
  let c2_i32_6 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32 : BitVec 32 := 28#32
  let v41 : BitVec 32 := Scalar.subi v1 c28_i32
  let v42 : BitVec 32 := Scalar.muli c2_i32_6 v41
  let c1_i32_86 : BitVec 32 := 1#32
  let v116 : BitVec 32 := Scalar.addi v42 c1_i32_86
  let c16_i32_93 : BitVec 32 := 16#32
  let v119 : BitVec 32 := Scalar.muli v116 c16_i32_93
  let c0_i32_88 : BitVec 32 := 0#32
  let c1_i32_90 : BitVec 32 := 1#32
  let arg20 : BitVec 32 := Scf.iv c0_i32_88 c1_i32_90 k0_t56
  let v120 : BitVec 32 := Scalar.addi v119 arg20
  let c127_i32 : BitVec 32 := 127#32
  let v121 : BitVec 32 := Scalar.muli v120 c127_i32
  let c1_i32_94 : BitVec 32 := 1#32
  let v122 : BitVec 32 := Scalar.subi v120 c1_i32_94
  let v123 : BitVec 32 := Scalar.muli v120 v122
  let c0_i32_96 : BitVec 32 := 0#32
  let v125 : BitVec 1 := Scalar.cmpi .sgt v123 c0_i32_96
  let v126 : BitVec 32 := Scalar.extui v125
  let c0_i32_97 : BitVec 32 := 0#32
  let v127 : BitVec 1 := Scalar.cmpi .slt v123 c0_i32_97
  let v128 : BitVec 32 := Scalar.extui v127
  let v129 : BitVec 32 := Scalar.subi v126 v128
  let c2_i32_95 : BitVec 32 := 2#32
  let c0_i32_98 : BitVec 32 := 0#32
  let v130 : BitVec 1 := Scalar.cmpi .sgt c2_i32_95 c0_i32_98
  let v131 : BitVec 32 := Scalar.extui v130
  let c0_i32_99 : BitVec 32 := 0#32
  let v132 : BitVec 1 := Scalar.cmpi .slt c2_i32_95 c0_i32_99
  let v133 : BitVec 32 := Scalar.extui v132
  let v134 : BitVec 32 := Scalar.subi v131 v133
  let v135 : BitVec 1 := Scalar.cmpi .ne v129 v134
  let v136 : BitVec 32 := Scalar.remsi v123 c2_i32_95
  let c0_i32_100 : BitVec 32 := 0#32
  let v137 : BitVec 1 := Scalar.cmpi .ne v136 c0_i32_100
  let v138 : BitVec 1 := Scalar.andi v135 v137
  let v124 : BitVec 32 := Scalar.divsi v123 c2_i32_95
  let c1_i32_101 : BitVec 32 := 1#32
  let v139 : BitVec 32 := Scalar.subi v124 c1_i32_101
  let v140 : BitVec 32 := Scalar.select v138 v139 v124
  let v141 : BitVec 32 := Scalar.subi v121 v140
  let c0_i32_103 : BitVec 32 := 0#32
  let c15_i32_92 : BitVec 32 := 15#32
  let v118 : BitVec 32 := Scalar.subi c15_i32_92 arg20
  let v142 : BitVec 32 := Scalar.subi v118 c0_i32_103
  let c1_i32_104 : BitVec 32 := 1#32
  let v144 : BitVec 32 := Scalar.divsi v142 c1_i32_104
  let v145 : BitVec 32 := Scalar.muli v144 c1_i32_104
  let v146 : BitVec 32 := Scalar.addi c0_i32_103 v145
  let c1_i32_106 : BitVec 32 := 1#32
  let arg21 : BitVec 32 := Scf.iv v146 c1_i32_106 k0_t58
  let v1048 : BitVec 32 := Scalar.addi v141 arg21
  let c0_i32_305 : BitVec 32 := 0#32
  ![v1048.toNat, 0]
@[reducible] def k0_t59_loop (k0_t56 : Fin k0_t56_loop.trips) : Scf.Loop 32 :=
  let c0_i32_108 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let c1_i32_110 : BitVec 32 := 1#32
  ⟨c0_i32_108, v151, c1_i32_110⟩
@[reducible] def k0_t60_loop (k0_t56 : Fin k0_t56_loop.trips) : Scf.Loop 32 :=
  let c0_i32_108 : BitVec 32 := 0#32
  let c15_i32_92 : BitVec 32 := 15#32
  let c0_i32_88 : BitVec 32 := 0#32
  let c1_i32_90 : BitVec 32 := 1#32
  let arg20 : BitVec 32 := Scf.iv c0_i32_88 c1_i32_90 k0_t56
  let v118 : BitVec 32 := Scalar.subi c15_i32_92 arg20
  let v147 : BitVec 32 := Scalar.subi v118 c0_i32_108
  let c1_i32_109 : BitVec 32 := 1#32
  let v149 : BitVec 32 := Scalar.divsi v147 c1_i32_109
  let v150 : BitVec 32 := Scalar.muli v149 c1_i32_109
  let v151 : BitVec 32 := Scalar.addi c0_i32_108 v150
  let v148 : BitVec 32 := Scalar.addi c0_i32_108 v147
  let c1_i32_111 : BitVec 32 := 1#32
  ⟨v151, v148, c1_i32_111⟩
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x128x1024 : Shape := ⟨3, ![4, 128, 1024]⟩
abbrev S8128 : Shape := ⟨1, ![8128]⟩
abbrev S1x128x1024 : Shape := ⟨3, ![1, 128, 1024]⟩
abbrev S128x1024 : Shape := ⟨2, ![128, 1024]⟩
abbrev S_ : Shape := ⟨0, ![]⟩
abbrev S8128x1 : Shape := ⟨2, ![8128, 1]⟩
abbrev S1 : Shape := ⟨1, ![1]⟩
abbrev S1x1 : Shape := ⟨2, ![1, 1]⟩
abbrev S8128x1024 : Shape := ⟨2, ![8128, 1024]⟩

abbrev nBuf : Space → Nat
  | .hbm => 207
  | .vmem => 0
  | .smem => 0
  | _ => 0

abbrev hbmTy0_0 (i : Nat) : BufTy := match i % 128 with
  | 0 => ⟨S4x128x1024, .f32⟩
  | 1 => ⟨S8128, .i32⟩
  | 2 => ⟨S8128, .i32⟩
  | 3 => ⟨S1x128x1024, .f32⟩
  | 4 => ⟨S128x1024, .f32⟩
  | 5 => ⟨S_, .i32⟩
  | 6 => ⟨S8128, .i32⟩
  | 7 => ⟨S8128, .i1⟩
  | 8 => ⟨S_, .i32⟩
  | 9 => ⟨S8128, .i32⟩
  | 10 => ⟨S8128, .i32⟩
  | 11 => ⟨S8128, .i32⟩
  | 12 => ⟨S8128x1, .i32⟩
  | 13 => ⟨S1, .i32⟩
  | 14 => ⟨S_, .i32⟩
  | 15 => ⟨S8128x1, .i32⟩
  | 16 => ⟨S8128x1, .i1⟩
  | 17 => ⟨S1x1, .i32⟩
  | 18 => ⟨S8128x1, .i32⟩
  | 19 => ⟨S8128x1, .i1⟩
  | 20 => ⟨S8128x1, .i1⟩
  | 21 => ⟨S_, .i1⟩
  | 22 => ⟨S8128, .i1⟩
  | 23 => ⟨S8128x1024, .f32⟩
  | 24 => ⟨S8128x1024, .i1⟩
  | 25 => ⟨S_, .f32⟩
  | 26 => ⟨S8128x1024, .f32⟩
  | 27 => ⟨S8128x1024, .f32⟩
  | 28 => ⟨S_, .i32⟩
  | 29 => ⟨S8128, .i32⟩
  | 30 => ⟨S8128, .i1⟩
  | 31 => ⟨S_, .i32⟩
  | 32 => ⟨S8128, .i32⟩
  | 33 => ⟨S8128, .i32⟩
  | 34 => ⟨S8128, .i32⟩
  | 35 => ⟨S8128x1, .i32⟩
  | 36 => ⟨S1, .i32⟩
  | 37 => ⟨S_, .i32⟩
  | 38 => ⟨S8128x1, .i32⟩
  | 39 => ⟨S8128x1, .i1⟩
  | 40 => ⟨S1x1, .i32⟩
  | 41 => ⟨S8128x1, .i32⟩
  | 42 => ⟨S8128x1, .i1⟩
  | 43 => ⟨S8128x1, .i1⟩
  | 44 => ⟨S_, .i1⟩
  | 45 => ⟨S8128, .i1⟩
  | 46 => ⟨S8128x1024, .f32⟩
  | 47 => ⟨S8128x1024, .i1⟩
  | 48 => ⟨S_, .f32⟩
  | 49 => ⟨S8128x1024, .f32⟩
  | 50 => ⟨S8128x1024, .f32⟩
  | 51 => ⟨S8128x1024, .f32⟩
  | 52 => ⟨S8128x1024, .f32⟩
  | 53 => ⟨S8128x1024, .f32⟩
  | 54 => ⟨S1x128x1024, .f32⟩
  | 55 => ⟨S128x1024, .f32⟩
  | 56 => ⟨S_, .i32⟩
  | 57 => ⟨S8128, .i32⟩
  | 58 => ⟨S8128, .i1⟩
  | 59 => ⟨S_, .i32⟩
  | 60 => ⟨S8128, .i32⟩
  | 61 => ⟨S8128, .i32⟩
  | 62 => ⟨S8128, .i32⟩
  | 63 => ⟨S8128x1, .i32⟩
  | 64 => ⟨S1, .i32⟩
  | 65 => ⟨S_, .i32⟩
  | 66 => ⟨S8128x1, .i32⟩
  | 67 => ⟨S8128x1, .i1⟩
  | 68 => ⟨S1x1, .i32⟩
  | 69 => ⟨S8128x1, .i32⟩
  | 70 => ⟨S8128x1, .i1⟩
  | 71 => ⟨S8128x1, .i1⟩
  | 72 => ⟨S_, .i1⟩
  | 73 => ⟨S8128, .i1⟩
  | 74 => ⟨S8128x1024, .f32⟩
  | 75 => ⟨S8128x1024, .i1⟩
  | 76 => ⟨S_, .f32⟩
  | 77 => ⟨S8128x1024, .f32⟩
  | 78 => ⟨S8128x1024, .f32⟩
  | 79 => ⟨S_, .i32⟩
  | 80 => ⟨S8128, .i32⟩
  | 81 => ⟨S8128, .i1⟩
  | 82 => ⟨S_, .i32⟩
  | 83 => ⟨S8128, .i32⟩
  | 84 => ⟨S8128, .i32⟩
  | 85 => ⟨S8128, .i32⟩
  | 86 => ⟨S8128x1, .i32⟩
  | 87 => ⟨S1, .i32⟩
  | 88 => ⟨S_, .i32⟩
  | 89 => ⟨S8128x1, .i32⟩
  | 90 => ⟨S8128x1, .i1⟩
  | 91 => ⟨S1x1, .i32⟩
  | 92 => ⟨S8128x1, .i32⟩
  | 93 => ⟨S8128x1, .i1⟩
  | 94 => ⟨S8128x1, .i1⟩
  | 95 => ⟨S_, .i1⟩
  | 96 => ⟨S8128, .i1⟩
  | 97 => ⟨S8128x1024, .f32⟩
  | 98 => ⟨S8128x1024, .i1⟩
  | 99 => ⟨S_, .f32⟩
  | 100 => ⟨S8128x1024, .f32⟩
  | 101 => ⟨S8128x1024, .f32⟩
  | 102 => ⟨S8128x1024, .f32⟩
  | 103 => ⟨S8128x1024, .f32⟩
  | 104 => ⟨S8128x1024, .f32⟩
  | 105 => ⟨S1x128x1024, .f32⟩
  | 106 => ⟨S128x1024, .f32⟩
  | 107 => ⟨S_, .i32⟩
  | 108 => ⟨S8128, .i32⟩
  | 109 => ⟨S8128, .i1⟩
  | 110 => ⟨S_, .i32⟩
  | 111 => ⟨S8128, .i32⟩
  | 112 => ⟨S8128, .i32⟩
  | 113 => ⟨S8128, .i32⟩
  | 114 => ⟨S8128x1, .i32⟩
  | 115 => ⟨S1, .i32⟩
  | 116 => ⟨S_, .i32⟩
  | 117 => ⟨S8128x1, .i32⟩
  | 118 => ⟨S8128x1, .i1⟩
  | 119 => ⟨S1x1, .i32⟩
  | 120 => ⟨S8128x1, .i32⟩
  | 121 => ⟨S8128x1, .i1⟩
  | 122 => ⟨S8128x1, .i1⟩
  | 123 => ⟨S_, .i1⟩
  | 124 => ⟨S8128, .i1⟩
  | 125 => ⟨S8128x1024, .f32⟩
  | 126 => ⟨S8128x1024, .i1⟩
  | 127 => ⟨S_, .f32⟩
  | _ => ⟨S4x128x1024, .f32⟩

abbrev hbmTy0_1 (i : Nat) : BufTy := match i % 128 with
  | 0 => ⟨S8128x1024, .f32⟩
  | 1 => ⟨S8128x1024, .f32⟩
  | 2 => ⟨S_, .i32⟩
  | 3 => ⟨S8128, .i32⟩
  | 4 => ⟨S8128, .i1⟩
  | 5 => ⟨S_, .i32⟩
  | 6 => ⟨S8128, .i32⟩
  | 7 => ⟨S8128, .i32⟩
  | 8 => ⟨S8128, .i32⟩
  | 9 => ⟨S8128x1, .i32⟩
  | 10 => ⟨S1, .i32⟩
  | 11 => ⟨S_, .i32⟩
  | 12 => ⟨S8128x1, .i32⟩
  | 13 => ⟨S8128x1, .i1⟩
  | 14 => ⟨S1x1, .i32⟩
  | 15 => ⟨S8128x1, .i32⟩
  | 16 => ⟨S8128x1, .i1⟩
  | 17 => ⟨S8128x1, .i1⟩
  | 18 => ⟨S_, .i1⟩
  | 19 => ⟨S8128, .i1⟩
  | 20 => ⟨S8128x1024, .f32⟩
  | 21 => ⟨S8128x1024, .i1⟩
  | 22 => ⟨S_, .f32⟩
  | 23 => ⟨S8128x1024, .f32⟩
  | 24 => ⟨S8128x1024, .f32⟩
  | 25 => ⟨S8128x1024, .f32⟩
  | 26 => ⟨S8128x1024, .f32⟩
  | 27 => ⟨S8128x1024, .f32⟩
  | 28 => ⟨S1x128x1024, .f32⟩
  | 29 => ⟨S128x1024, .f32⟩
  | 30 => ⟨S_, .i32⟩
  | 31 => ⟨S8128, .i32⟩
  | 32 => ⟨S8128, .i1⟩
  | 33 => ⟨S_, .i32⟩
  | 34 => ⟨S8128, .i32⟩
  | 35 => ⟨S8128, .i32⟩
  | 36 => ⟨S8128, .i32⟩
  | 37 => ⟨S8128x1, .i32⟩
  | 38 => ⟨S1, .i32⟩
  | 39 => ⟨S_, .i32⟩
  | 40 => ⟨S8128x1, .i32⟩
  | 41 => ⟨S8128x1, .i1⟩
  | 42 => ⟨S1x1, .i32⟩
  | 43 => ⟨S8128x1, .i32⟩
  | 44 => ⟨S8128x1, .i1⟩
  | 45 => ⟨S8128x1, .i1⟩
  | 46 => ⟨S_, .i1⟩
  | 47 => ⟨S8128, .i1⟩
  | 48 => ⟨S8128x1024, .f32⟩
  | 49 => ⟨S8128x1024, .i1⟩
  | 50 => ⟨S_, .f32⟩
  | 51 => ⟨S8128x1024, .f32⟩
  | 52 => ⟨S8128x1024, .f32⟩
  | 53 => ⟨S_, .i32⟩
  | 54 => ⟨S8128, .i32⟩
  | 55 => ⟨S8128, .i1⟩
  | 56 => ⟨S_, .i32⟩
  | 57 => ⟨S8128, .i32⟩
  | 58 => ⟨S8128, .i32⟩
  | 59 => ⟨S8128, .i32⟩
  | 60 => ⟨S8128x1, .i32⟩
  | 61 => ⟨S1, .i32⟩
  | 62 => ⟨S_, .i32⟩
  | 63 => ⟨S8128x1, .i32⟩
  | 64 => ⟨S8128x1, .i1⟩
  | 65 => ⟨S1x1, .i32⟩
  | 66 => ⟨S8128x1, .i32⟩
  | 67 => ⟨S8128x1, .i1⟩
  | 68 => ⟨S8128x1, .i1⟩
  | 69 => ⟨S_, .i1⟩
  | 70 => ⟨S8128, .i1⟩
  | 71 => ⟨S8128x1024, .f32⟩
  | 72 => ⟨S8128x1024, .i1⟩
  | 73 => ⟨S_, .f32⟩
  | 74 => ⟨S8128x1024, .f32⟩
  | 75 => ⟨S8128x1024, .f32⟩
  | 76 => ⟨S8128x1024, .f32⟩
  | 77 => ⟨S8128x1024, .f32⟩
  | 78 => ⟨S8128x1024, .f32⟩
  | _ => ⟨S4x128x1024, .f32⟩

abbrev hbmTy (i : Nat) : BufTy := match i / 128 with
  | 0 => hbmTy0_0 i
  | 1 => hbmTy0_1 i
  | _ => ⟨S4x128x1024, .f32⟩

abbrev bufTy : (tb : Table) → Fin (tcTables nBuf tb) → BufTy
  | .hbm, ⟨i, _⟩ => hbmTy i
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v9 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_v14 : Ref sig .tc := ⟨.hbm, 98, rfl⟩
abbrev main_call3_cst : Ref sig .tc := ⟨.hbm, 99, rfl⟩
abbrev main_call3_v15 : Ref sig .tc := ⟨.hbm, 100, rfl⟩
abbrev main_v10 : Ref sig .tc := ⟨.hbm, 101, rfl⟩
abbrev main_v11 : Ref sig .tc := ⟨.hbm, 102, rfl⟩
abbrev main_v12 : Ref sig .tc := ⟨.hbm, 103, rfl⟩
abbrev main_v13 : Ref sig .tc := ⟨.hbm, 104, rfl⟩
abbrev main_v14 : Ref sig .tc := ⟨.hbm, 105, rfl⟩
abbrev main_v15 : Ref sig .tc := ⟨.hbm, 106, rfl⟩
abbrev main_call4_c : Ref sig .tc := ⟨.hbm, 107, rfl⟩
abbrev main_call4_v0 : Ref sig .tc := ⟨.hbm, 108, rfl⟩
abbrev main_call4_v1 : Ref sig .tc := ⟨.hbm, 109, rfl⟩
abbrev main_call4_c_0 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_c_1 : Ref sig .tc := ⟨.hbm, 115, rfl⟩
abbrev main_call4_c_2 : Ref sig .tc := ⟨.hbm, 116, rfl⟩
abbrev main_call4_v6 : Ref sig .tc := ⟨.hbm, 117, rfl⟩
abbrev main_call4_v7 : Ref sig .tc := ⟨.hbm, 118, rfl⟩
abbrev main_call4_v8 : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_c_3 : Ref sig .tc := ⟨.hbm, 123, rfl⟩
abbrev main_call4_v12 : Ref sig .tc := ⟨.hbm, 124, rfl⟩
abbrev main_call4_v13 : Ref sig .tc := ⟨.hbm, 125, rfl⟩
abbrev main_call4_v14 : Ref sig .tc := ⟨.hbm, 126, rfl⟩
abbrev main_call4_cst : Ref sig .tc := ⟨.hbm, 127, rfl⟩
abbrev main_call4_v15 : Ref sig .tc := ⟨.hbm, 128, rfl⟩
abbrev main_v16 : Ref sig .tc := ⟨.hbm, 129, rfl⟩
abbrev main_call5_c : Ref sig .tc := ⟨.hbm, 130, rfl⟩
abbrev main_call5_v0 : Ref sig .tc := ⟨.hbm, 131, rfl⟩
abbrev main_call5_v1 : Ref sig .tc := ⟨.hbm, 132, rfl⟩
abbrev main_call5_c_0 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_call5_v5 : Ref sig .tc := ⟨.hbm, 137, rfl⟩
abbrev main_call5_c_1 : Ref sig .tc := ⟨.hbm, 138, rfl⟩
abbrev main_call5_c_2 : Ref sig .tc := ⟨.hbm, 139, rfl⟩
abbrev main_call5_v6 : Ref sig .tc := ⟨.hbm, 140, rfl⟩
abbrev main_call5_v7 : Ref sig .tc := ⟨.hbm, 141, rfl⟩
abbrev main_call5_v8 : Ref sig .tc := ⟨.hbm, 142, rfl⟩
abbrev main_call5_v9 : Ref sig .tc := ⟨.hbm, 143, rfl⟩
abbrev main_call5_v10 : Ref sig .tc := ⟨.hbm, 144, rfl⟩
abbrev main_call5_v11 : Ref sig .tc := ⟨.hbm, 145, rfl⟩
abbrev main_call5_c_3 : Ref sig .tc := ⟨.hbm, 146, rfl⟩
abbrev main_call5_v12 : Ref sig .tc := ⟨.hbm, 147, rfl⟩
abbrev main_call5_v13 : Ref sig .tc := ⟨.hbm, 148, rfl⟩
abbrev main_call5_v14 : Ref sig .tc := ⟨.hbm, 149, rfl⟩
abbrev main_call5_cst : Ref sig .tc := ⟨.hbm, 150, rfl⟩
abbrev main_call5_v15 : Ref sig .tc := ⟨.hbm, 151, rfl⟩
abbrev main_v17 : Ref sig .tc := ⟨.hbm, 152, rfl⟩
abbrev main_v18 : Ref sig .tc := ⟨.hbm, 153, rfl⟩
abbrev main_v19 : Ref sig .tc := ⟨.hbm, 154, rfl⟩
abbrev main_v20 : Ref sig .tc := ⟨.hbm, 155, rfl⟩
abbrev main_v21 : Ref sig .tc := ⟨.hbm, 156, rfl⟩
abbrev main_v22 : Ref sig .tc := ⟨.hbm, 157, rfl⟩
abbrev main_call6_c : Ref sig .tc := ⟨.hbm, 158, rfl⟩
abbrev main_call6_v0 : Ref sig .tc := ⟨.hbm, 159, rfl⟩
abbrev main_call6_v1 : Ref sig .tc := ⟨.hbm, 160, rfl⟩
abbrev main_call6_c_0 : Ref sig .tc := ⟨.hbm, 161, rfl⟩
abbrev main_call6_v2 : Ref sig .tc := ⟨.hbm, 162, rfl⟩
abbrev main_call6_v3 : Ref sig .tc := ⟨.hbm, 163, rfl⟩
abbrev main_call6_v4 : Ref sig .tc := ⟨.hbm, 164, rfl⟩
abbrev main_call6_v5 : Ref sig .tc := ⟨.hbm, 165, rfl⟩
abbrev main_call6_c_1 : Ref sig .tc := ⟨.hbm, 166, rfl⟩
abbrev main_call6_c_2 : Ref sig .tc := ⟨.hbm, 167, rfl⟩
abbrev main_call6_v6 : Ref sig .tc := ⟨.hbm, 168, rfl⟩
abbrev main_call6_v7 : Ref sig .tc := ⟨.hbm, 169, rfl⟩
abbrev main_call6_v8 : Ref sig .tc := ⟨.hbm, 170, rfl⟩
abbrev main_call6_v9 : Ref sig .tc := ⟨.hbm, 171, rfl⟩
abbrev main_call6_v10 : Ref sig .tc := ⟨.hbm, 172, rfl⟩
abbrev main_call6_v11 : Ref sig .tc := ⟨.hbm, 173, rfl⟩
abbrev main_call6_c_3 : Ref sig .tc := ⟨.hbm, 174, rfl⟩
abbrev main_call6_v12 : Ref sig .tc := ⟨.hbm, 175, rfl⟩
abbrev main_call6_v13 : Ref sig .tc := ⟨.hbm, 176, rfl⟩
abbrev main_call6_v14 : Ref sig .tc := ⟨.hbm, 177, rfl⟩
abbrev main_call6_cst : Ref sig .tc := ⟨.hbm, 178, rfl⟩
abbrev main_call6_v15 : Ref sig .tc := ⟨.hbm, 179, rfl⟩
abbrev main_v23 : Ref sig .tc := ⟨.hbm, 180, rfl⟩
abbrev main_call7_c : Ref sig .tc := ⟨.hbm, 181, rfl⟩
abbrev main_call7_v0 : Ref sig .tc := ⟨.hbm, 182, rfl⟩
abbrev main_call7_v1 : Ref sig .tc := ⟨.hbm, 183, rfl⟩
abbrev main_call7_c_0 : Ref sig .tc := ⟨.hbm, 184, rfl⟩
abbrev main_call7_v2 : Ref sig .tc := ⟨.hbm, 185, rfl⟩
abbrev main_call7_v3 : Ref sig .tc := ⟨.hbm, 186, rfl⟩
abbrev main_call7_v4 : Ref sig .tc := ⟨.hbm, 187, rfl⟩
abbrev main_call7_v5 : Ref sig .tc := ⟨.hbm, 188, rfl⟩
abbrev main_call7_c_1 : Ref sig .tc := ⟨.hbm, 189, rfl⟩
abbrev main_call7_c_2 : Ref sig .tc := ⟨.hbm, 190, rfl⟩
abbrev main_call7_v6 : Ref sig .tc := ⟨.hbm, 191, rfl⟩
abbrev main_call7_v7 : Ref sig .tc := ⟨.hbm, 192, rfl⟩
abbrev main_call7_v8 : Ref sig .tc := ⟨.hbm, 193, rfl⟩
abbrev main_call7_v9 : Ref sig .tc := ⟨.hbm, 194, rfl⟩
abbrev main_call7_v10 : Ref sig .tc := ⟨.hbm, 195, rfl⟩
abbrev main_call7_v11 : Ref sig .tc := ⟨.hbm, 196, rfl⟩
abbrev main_call7_c_3 : Ref sig .tc := ⟨.hbm, 197, rfl⟩
abbrev main_call7_v12 : Ref sig .tc := ⟨.hbm, 198, rfl⟩
abbrev main_call7_v13 : Ref sig .tc := ⟨.hbm, 199, rfl⟩
abbrev main_call7_v14 : Ref sig .tc := ⟨.hbm, 200, rfl⟩
abbrev main_call7_cst : Ref sig .tc := ⟨.hbm, 201, rfl⟩
abbrev main_call7_v15 : Ref sig .tc := ⟨.hbm, 202, rfl⟩
abbrev main_v24 : Ref sig .tc := ⟨.hbm, 203, rfl⟩
abbrev main_v25 : Ref sig .tc := ⟨.hbm, 204, rfl⟩
abbrev main_v26 : Ref sig .tc := ⟨.hbm, 205, rfl⟩
abbrev main_v27 : Ref sig .tc := ⟨.hbm, 206, rfl⟩

abbrev nD : Nat := 1
abbrev τ : Topo := Topo.v7x

variable {F : FTy → Type} [FloatOps F]
-- ==== Proof.Rolled.lean ====
/- The kernel's tile program, written with its unrolled runs of vector operations as recursions. -/
module

public import proofs.«01_k».proof.KernelIdeal

@[expose] public section

noncomputable section

namespace Cert.KernelIdeal.Roll

open Idealize.ShloMosaic Idealize.SL.Sem Cert.KernelIdeal
open Idealize.ShloMosaic.RefSig (ofTables tileCredit tileCredit_eq_zero tileCredit_pos)

variable {F : FTy → Type} [FloatOps F] [Facts]

open Facts K0.R1.Facts₀ K0.R2.Facts₀ K0.R3.Facts₀ K0.R4.Facts₀ Shapes1.Facts₀

/-- A program of the vector subcore at grid point `i`. -/
abbrev TP (F : FTy → Type) [FloatOps F] (i : grid0.Coords) (α : Type) : Type 1 :=
  Prog (TpuEff nD τ sig (Elt F) Λ₀ (.scVector ((i 0).castLE hcore0) ((i 1).castLE hsub0))) α

/-- Sixteen lanes of row `x` of a 16-row buffer, from lane `16 * m`. -/
def lanes (x : BitVec 32) (m : Nat) : Fin 2 → Nat := ![(Scalar.indexCast x).toNat, 16 * (m % 64)]

theorem lanes_inb {x : BitVec 32} (hx : x.toNat < 16) (m : Nat) : ∀ a, lanes x m a + S1x16.size a ≤ S16x1024.size a := by
  have hm : m % 64 < 64 := Nat.mod_lt _ (by decide)
  have hx' : (Scalar.indexCast x).toNat < 16 := hx
  intro a
  match a with
  | 0 => show (Scalar.indexCast x).toNat + 1 ≤ 16; omega
  | 1 => show 16 * (m % 64) + 16 ≤ 1024; omega

/-- Row `x` of a 16-row buffer. -/
def line (x : BitVec 32) : Fin 2 → Nat := ![x.toNat, 0]

theorem line_inb {x : BitVec 32} (hx : x.toNat < 16) : ∀ a, line x a + S1x1024.size a ≤ S16x1024.size a := by
  intro a
  match a with
  | 0 => show x.toNat + 1 ≤ 16; omega
  | 1 => show 0 + 1024 ≤ 1024; omega

variable {i : grid0.Coords}

/-- One register: `ob[y, m] := (a - rb[x, m])²` (the read of `ob` before the store is not used). -/
def step (rb ob : Memref sig .scVector .vmem S16x1024 .f32) (x y : BitVec 32) (hx : x.toNat < 16) (hy : y.toNat < 16) (m : Nat)
    (a : FVec F S16 .f32) (k : TP F i PUnit) : TP F i PUnit :=
  .op (.load rb (Rect.unit (s := S16x1024) (lanes x m) S1x16.size (lanes_inb hx m)).toLoadRect (View.loadsAt_vmem h_S1x16)) fun v =>
  .op (.load ob (Rect.unit (s := S16x1024) (lanes y m) S1x16.size (lanes_inb hy m)).toLoadRect (View.loadsAt_vmem h_S1x16)) fun _ =>
  .op (.store ob (Rect.unit (s := S16x1024) (lanes y m) S1x16.size (lanes_inb hy m))
    (shapeCast S1x16 (mulf (subf a (shapeCast S16 v shapeCasts_S1x16_S16)) (subf a (shapeCast S16 v shapeCasts_S1x16_S16))) shapeCasts_S16_S1x16)
    Finset.univ (View.stores_vmem_bits_univ h_S1x16 rfl) (.inl rfl)) fun _ => k

/-- The registers given against row `x` of `rb`, from register `m` on. -/
def steps (rb ob : Memref sig .scVector .vmem S16x1024 .f32) (x : BitVec 32) (hx : x.toNat < 16) :
    List (FVec F S16 .f32) → Nat → TP F i PUnit
  | [], _ => .ret ⟨⟩
  | a :: l, m => step rb ob x x hx hx m a (steps rb ob x hx l (m + 1))

/-- `n` registers of row `x` of `ra` from register `m` on, read and handed to `k`. -/
def aloads (ra : Memref sig .scVector .vmem S16x1024 .f32) (x : BitVec 32) (hx : x.toNat < 16) {α : Type} :
    Nat → Nat → (List (FVec F S16 .f32) → TP F i α) → TP F i α
  | 0, _, k => k []
  | n + 1, m, k =>
    .op (.load ra (Rect.unit (s := S16x1024) (lanes x m) S1x16.size (lanes_inb hx m)).toLoadRect (View.loadsAt_vmem h_S1x16)) fun v =>
      aloads ra x hx n (m + 1) fun l => k (shapeCast S16 v shapeCasts_S1x16_S16 :: l)

/-! ## The loops -/

theorem colOk : k0_t2_loop.OK := by decide
theorem pairOk : k0_t1_loop.OK := by decide
theorem rowOk : k0_t6_loop.OK := by decide

theorem iv_col (t : Fin k0_t2_loop.trips) : (Scf.iv 0#32 1#32 t).toNat = t := by revert t; decide +kernel
theorem iv_pair (t : Fin k0_t1_loop.trips) : (Scf.iv 0#32 1#32 t).toNat = t := by revert t; decide +kernel
theorem iv_row (t : Fin k0_t6_loop.trips) : (Scf.iv 0#32 1#32 t).toNat = t := by revert t; decide +kernel
theorem tri_trips (r : Fin k0_t6_loop.trips) : (k0_t7_loop r).trips = 15 - r.val := by revert r; decide +kernel
theorem triOk (r : Fin k0_t6_loop.trips) : (k0_t7_loop r).OK := by revert r; decide +kernel
theorem iv_tri (r : Fin k0_t6_loop.trips) (t : Fin (k0_t7_loop r).trips) : (Scf.iv 0#32 1#32 t).toNat = t := by revert r t; decide +kernel

theorem col_lt (t : Fin k0_t2_loop.trips) : (Scf.iv 0#32 1#32 t).toNat < 16 := by revert t; decide +kernel
theorem row_lt (t : Fin k0_t6_loop.trips) : (Scf.iv 0#32 1#32 t).toNat < 16 := by revert t; decide +kernel
theorem tri_lt (r : Fin k0_t6_loop.trips) (t : Fin (k0_t7_loop r).trips) : (Scf.iv 0#32 1#32 t).toNat < 16 := by revert r t; decide +kernel

/-- Row `2 g + c` of the block, `c` being 0 or 1. -/
def pairRow (g : Fin k0_t1_loop.trips) (c : BitVec 32) : BitVec 32 := Scalar.addi (Scalar.muli 2#32 (Scf.iv 0#32 1#32 g)) c

/-- The row after row `r` and `j` more. -/
def otherRow (r : Fin k0_t6_loop.trips) (j : Fin (k0_t7_loop r).trips) : BitVec 32 :=
  Scalar.addi (Scalar.addi (Scf.iv 0#32 1#32 r) 1#32) (Scf.iv 0#32 1#32 j)

theorem pairRow_lt (g : Fin k0_t1_loop.trips) (b : Fin 2) : (pairRow g (BitVec.ofNat 32 b.val)).toNat < 16 := by revert g b; decide +kernel
theorem otherRow_lt (r : Fin k0_t6_loop.trips) (j : Fin (k0_t7_loop r).trips) : (otherRow r j).toNat < 16 := by revert r j; decide +kernel

/-! ## A pair of blocks off the diagonal -/

/-- Registers `m` … `m + 31` of row `x` of `ra` against all sixteen rows of `rb`. -/
def sec (ra rb ob : Memref sig .scVector .vmem S16x1024 .f32) (x : BitVec 32) (hx : x.toNat < 16) (m : Nat) {α : Type}
    (k : TP F i α) : TP F i α :=
  aloads ra x hx 32 m fun l => (Scf.Loop.for k0_t2_loop colOk ⟨⟩ fun t _ => steps rb ob (Scf.iv 0#32 1#32 t) (col_lt t) l m) >>= fun _ => k

/-- Wait for the copy of the whole of `ob` outstanding on `sw`. -/
def obWait (out : Memref sig .scVector .hbm S8128x1024 .f32) (ob : Memref sig .scVector .vmem S16x1024 .f32) (hob : ob.IsWhole)
    (sw : DmaSems sig S_) {α : Type} (k : TP F i α) : TP F i α :=
  .op (.waitDma2 sw.sem ob (out.slice (Rect.unit (s := S8128x1024) ![0, 0] S16x1024.size inb_S8128x1024_S16x1024_0_0) (fun _ => rfl))
    hob.wordExact (View.wordExact_bits rfl)) fun _ => k

/-- Row `2 g + b` of one block against the other block: sixteen rows of the result, copied out from `ob`. -/
def half (h1 : k0_cond1 i = 1#1) (out : Memref sig .scVector .hbm S8128x1024 .f32)
    (ra rb ob : Memref sig .scVector .vmem S16x1024 .f32) (hob : ob.IsWhole) (sw : DmaSems sig S_) (g : Fin k0_t1_loop.trips) (b : Fin 2)
    {α : Type} (k : TP F i α) : TP F i α :=
  (if Scalar.cmpi .ne (Scalar.extui (Scalar.cmpi .sge (pairRow g (BitVec.ofNat 32 b.val)) 2#32)) 0#32 = 1#1 then obWait out ob hob sw (.ret ⟨⟩)
    else .ret PUnit.unit) >>= fun _ =>
  sec ra rb ob (pairRow g (BitVec.ofNat 32 b.val)) (pairRow_lt g b) 0 <|
  sec ra rb ob (pairRow g (BitVec.ofNat 32 b.val)) (pairRow_lt g b) 32 <|
  .op (.enqueueDma ob (.here (out.slice (Rect.unit (s := S8128x1024) (k0_off131 i g (BitVec.ofNat 32 b.val)) S16x1024.size (k0_off131_inb i g h1 b)) (fun _ => rfl)))
    (.dma sw.sem) hob.wordExact (View.wordExact_bits rfl) ⟨Or.inl rfl, trivial⟩) fun _ => k

/-- Rows `2 g` and `2 g + 1`. -/
def pair (h1 : k0_cond1 i = 1#1) (out : Memref sig .scVector .hbm S8128x1024 .f32)
    (ra rb ob0 : Memref sig .scVector .vmem S16x1024 .f32) (hob0 : ob0.IsWhole) (ob1 : Memref sig .scVector .vmem S16x1024 .f32) (hob1 : ob1.IsWhole)
    (sw0 sw1 : DmaSems sig S_) (g : Fin k0_t1_loop.trips) : TP F i (BitVec 32) :=
  half h1 out ra rb ob0 hob0 sw0 g 0 <| half h1 out ra rb ob1 hob1 sw1 g 1 <| .ret 0#32

/-- One block against another. -/
def offDiag (h1 : k0_cond1 i = 1#1) (out : Memref sig .scVector .hbm S8128x1024 .f32)
    (ra rb ob0 : Memref sig .scVector .vmem S16x1024 .f32) (hob0 : ob0.IsWhole) (ob1 : Memref sig .scVector .vmem S16x1024 .f32) (hob1 : ob1.IsWhole)
    (sw0 sw1 : DmaSems sig S_) : TP F i PUnit :=
  (Scf.Loop.for k0_t1_loop pairOk 0#32 fun g _ => pair h1 out ra rb ob0 hob0 ob1 hob1 sw0 sw1 g) >>= fun _ =>
  obWait out ob0 hob0 sw0 <| obWait out ob1 hob1 sw1 <| .ret ⟨⟩

/-! ## A block against itself -/

/-- `n` registers of rows `x` and `y` of `win`, from register `m` on: squared differences to row `z` of `ob`. -/
def tsteps (win ob : Memref sig .scVector .vmem S16x1024 .f32) (x y z : BitVec 32) (hx : x.toNat < 16) (hy : y.toNat < 16) (hz : z.toNat < 16) :
    Nat → Nat → TP F i PUnit → TP F i PUnit
  | 0, _, k => k
  | n + 1, m, k =>
    .op (.load win (Rect.unit (s := S16x1024) (lanes x m) S1x16.size (lanes_inb hx m)).toLoadRect (View.loadsAt_vmem h_S1x16)) fun v =>
      step win ob y z hy hz m (shapeCast S16 v shapeCasts_S1x16_S16) (tsteps win ob x y z hx hy hz n (m + 1) k)

/-- Where row `j` of row `r`'s strip goes. -/
abbrev TriOff := (r : Fin k0_t6_loop.trips) → Fin (k0_t7_loop r).trips → Fin 2 → Nat

/-- Row `r` of `win` against row `r + 1 + j`, to row `j` of `ob`, whose copy out is issued. -/
def triCol (out : Memref sig .scVector .hbm S8128x1024 .f32) (off : TriOff) (hoff : ∀ r j a, off r j a + S1x1024.size a ≤ S8128x1024.size a)
    (win ob : Memref sig .scVector .vmem S16x1024 .f32) (st : DmaSems sig S_) (r : Fin k0_t6_loop.trips) (j : Fin (k0_t7_loop r).trips) : TP F i PUnit :=
  tsteps win ob (Scf.iv 0#32 1#32 r) (otherRow r j) (Scf.iv 0#32 1#32 j) (row_lt r) (otherRow_lt r j) (tri_lt r j) 64 0 <|
  .op (.enqueueDma (ob.slice (Rect.unit (s := S16x1024) (line (Scf.iv 0#32 1#32 j)) S1x1024.size (line_inb (tri_lt r j))) (fun _ => rfl))
    (.here (out.slice (Rect.unit (s := S8128x1024) (off r j) S1x1024.size (hoff r j)) (fun _ => rfl)))
    (.dma st.sem) (View.wordExact_bits rfl) (View.wordExact_bits rfl) ⟨Or.inl rfl, trivial⟩) fun _ => .ret ⟨⟩

/-- Wait for one row's copy. -/
def triWait (out : Memref sig .scVector .hbm S8128x1024 .f32) (ob : Memref sig .scVector .vmem S16x1024 .f32) (st : DmaSems sig S_) : TP F i PUnit :=
  .op (.waitDma2 st.sem (ob.slice (Rect.unit (s := S16x1024) ![0, 0] S1x1024.size inb_S16x1024_S1x1024_0_0) (fun _ => rfl))
    (out.slice (Rect.unit (s := S8128x1024) ![0, 0] S1x1024.size inb_S8128x1024_S1x1024_0_0) (fun _ => rfl))
    (View.wordExact_bits rfl) (View.wordExact_bits rfl)) fun _ => .ret ⟨⟩

/-- Row `r` of `win` against the rows below it; every copy issued is waited for. -/
def triRow (out : Memref sig .scVector .hbm S8128x1024 .f32) (off : TriOff) (hoff : ∀ r j a, off r j a + S1x1024.size a ≤ S8128x1024.size a)
    (win ob : Memref sig .scVector .vmem S16x1024 .f32) (st : DmaSems sig S_) (r : Fin k0_t6_loop.trips) : TP F i PUnit :=
  (Scf.Loop.for (k0_t7_loop r) (triOk r) ⟨⟩ fun j _ => triCol out off hoff win ob st r j) >>= fun _ =>
  (Scf.Loop.for (k0_t7_loop r) (triOk r) ⟨⟩ fun _ _ => triWait out ob st) >>= fun _ => .ret ⟨⟩

/-- A block against itself. -/
def tri (out : Memref sig .scVector .hbm S8128x1024 .f32) (off : TriOff) (hoff : ∀ r j a, off r j a + S1x1024.size a ≤ S8128x1024.size a)
    (win ob : Memref sig .scVector .vmem S16x1024 .f32) (st : DmaSems sig S_) : TP F i PUnit :=
  Scf.Loop.for k0_t6_loop rowOk ⟨⟩ fun r _ => triRow out off hoff win ob st r

/-! ## The tile -/

/-- Both of a tile's blocks of one level, copied in. -/
def rdIssue (c : BitVec 32) (hc1 : ∀ a, k0_off1 i c a + S16x1024.size a ≤ S512x1024.size a) (hc2 : ∀ a, k0_off2 i c a + S16x1024.size a ≤ S512x1024.size a)
    (table : Memref sig .scVector .hbm S512x1024 .f32)
    (ra : Memref sig .scVector .vmem S16x1024 .f32) (hra : ra.IsWhole) (rb : Memref sig .scVector .vmem S16x1024 .f32) (hrb : rb.IsWhole)
    (sra srb : DmaSems sig S_) {α : Type} (k : TP F i α) : TP F i α :=
  .op (.enqueueDma (table.slice (Rect.unit (s := S512x1024) (k0_off1 i c) S16x1024.size hc1) (fun _ => rfl)) (.here ra) (.dma sra.sem)
    (View.wordExact_bits rfl) hra.wordExact ⟨Or.inl rfl, trivial⟩) fun _ =>
  .op (.enqueueDma (table.slice (Rect.unit (s := S512x1024) (k0_off2 i c) S16x1024.size hc2) (fun _ => rfl)) (.here rb) (.dma srb.sem)
    (View.wordExact_bits rfl) hrb.wordExact ⟨Or.inl rfl, trivial⟩) fun _ => k

/-- Wait for both. -/
def rdWait (table : Memref sig .scVector .hbm S512x1024 .f32)
    (ra : Memref sig .scVector .vmem S16x1024 .f32) (hra : ra.IsWhole) (rb : Memref sig .scVector .vmem S16x1024 .f32) (hrb : rb.IsWhole)
    (sra srb : DmaSems sig S_) {α : Type} (k : TP F i α) : TP F i α :=
  .op (.waitDma2 sra.sem (table.slice (Rect.unit (s := S512x1024) ![0, 0] S16x1024.size inb_S512x1024_S16x1024_0_0) (fun _ => rfl)) ra
    (View.wordExact_bits rfl) hra.wordExact) fun _ =>
  .op (.waitDma2 srb.sem (table.slice (Rect.unit (s := S512x1024) ![0, 0] S16x1024.size inb_S512x1024_S16x1024_0_0) (fun _ => rfl)) rb
    (View.wordExact_bits rfl) hrb.wordExact) fun _ => k

/-- One level's work on the tile's two blocks. -/
def level (out : Memref sig .scVector .hbm S8128x1024 .f32)
    (ra rb ob0 : Memref sig .scVector .vmem S16x1024 .f32) (hob0 : ob0.IsWhole) (ob1 : Memref sig .scVector .vmem S16x1024 .f32) (hob1 : ob1.IsWhole)
    (sw0 sw1 st : DmaSems sig S_) {α : Type} (k : TP F i α) : TP F i α :=
  (if h1 : k0_cond1 i = 1#1 then offDiag h1 out ra rb ob0 hob0 ob1 hob1 sw0 sw1 else .ret PUnit.unit) >>= fun _ =>
  (if h4 : k0_cond4 i = 1#1 then
    tri out (k0_off389 i) (fun r j => k0_off389_inb i r j h4) ra ob0 st >>= fun _ =>
    tri out (k0_off777 i) (fun r j => k0_off777_inb i r j h4) rb ob0 st >>= fun _ => .ret PUnit.unit
  else .ret PUnit.unit) >>= fun _ => k

/-- The whole of a tile's work: four levels, the next one's blocks arriving while one is worked on. -/
def tile (table : Memref sig .scVector .hbm S512x1024 .f32) (out0 out1 out2 out3 : Memref sig .scVector .hbm S8128x1024 .f32)
    (ra0 : Memref sig .scVector .vmem S16x1024 .f32) (hra0 : ra0.IsWhole) (ra1 : Memref sig .scVector .vmem S16x1024 .f32) (hra1 : ra1.IsWhole)
    (rb0 : Memref sig .scVector .vmem S16x1024 .f32) (hrb0 : rb0.IsWhole) (rb1 : Memref sig .scVector .vmem S16x1024 .f32) (hrb1 : rb1.IsWhole)
    (ob0 : Memref sig .scVector .vmem S16x1024 .f32) (hob0 : ob0.IsWhole) (ob1 : Memref sig .scVector .vmem S16x1024 .f32) (hob1 : ob1.IsWhole)
    (sra0 sra1 srb0 srb1 sw0 sw1 st : DmaSems sig S_) : TP F i PUnit :=
  rdIssue 0 (k0_off1_inb i 0) (k0_off2_inb i 0) table ra0 hra0 rb0 hrb0 sra0 srb0 <|
  rdWait table ra0 hra0 rb0 hrb0 sra0 srb0 <|
  rdIssue 128#32 (k0_off1_inb i 1) (k0_off2_inb i 1) table ra1 hra1 rb1 hrb1 sra1 srb1 <|
  level out0 ra0 rb0 ob0 hob0 ob1 hob1 sw0 sw1 st <|
  rdWait table ra1 hra1 rb1 hrb1 sra1 srb1 <|
  rdIssue 256#32 (k0_off1_inb i 2) (k0_off2_inb i 2) table ra0 hra0 rb0 hrb0 sra0 srb0 <|
  level out1 ra1 rb1 ob0 hob0 ob1 hob1 sw0 sw1 st <|
  rdWait table ra0 hra0 rb0 hrb0 sra0 srb0 <|
  rdIssue 384#32 (k0_off1_inb i 3) (k0_off2_inb i 3) table ra1 hra1 rb1 hrb1 sra1 srb1 <|
  level out2 ra0 rb0 ob0 hob0 ob1 hob1 sw0 sw1 st <|
  rdWait table ra1 hra1 rb1 hrb1 sra1 srb1 <|
  level out3 ra1 rb1 ob0 hob0 ob1 hob1 sw0 sw1 st <| .ret ⟨⟩

end Cert.KernelIdeal.Roll
end
-- ==== Proof.Printed.lean ====
/- The printed tile program is the rolled one. -/
module

public import proofs.«01_k».proof.Proof.Rolled

@[expose] public section

noncomputable section

namespace Cert.KernelIdeal.Roll

open Idealize.ShloMosaic Idealize.SL.Sem Cert.KernelIdeal

universe v
variable {F : FTy → Type} [FloatOps F] [Facts]

open Facts K0.R1.Facts₀ K0.R2.Facts₀ K0.R3.Facts₀ K0.R4.Facts₀ Shapes1.Facts₀

/-! ## Programs equal part by part -/

section
variable {E : Type → Type v} {σ α β γ : Type}

theorem op_congr {e : E β} {k k' : β → Prog E α} (h : ∀ v, k v = k' v) : Prog.op e k = Prog.op e k' :=
  congrArg _ (funext h)

theorem bind_congr' {m m' : Prog E β} {k k' : β → Prog E α} (hm : m = m') (h : ∀ v, k v = k' v) : m >>= k = m' >>= k' := by
  rw [hm, funext h]

theorem for_congr {L : Scf.Loop 32} {h h' : L.OK} {init : σ} {b b' : Fin L.trips → σ → Prog E σ} (hb : ∀ t s, b t s = b' t s) :
    Scf.Loop.for L h init b = Scf.Loop.for L h' init b' := by
  rw [show b = b' from funext fun t => funext fun s => hb t s]

/-- A loop first in a program, its continuation in a window of its own. -/
theorem for_step {L : Scf.Loop 32} {h h' : L.OK} {init : σ} {b b' : Fin L.trips → σ → Prog E σ} {f : σ → Prog E α} {g : α → Prog E β}
    {R : σ → Prog E β} (hb : ∀ t s, b t s = b' t s) (hk : ∀ v, f v >>= g = R v) : (Scf.Loop.for L h init b >>= f) >>= g = Scf.Loop.for L h' init b' >>= R :=
  (Prog.bind_assoc _ _ _).trans (bind_congr' (for_congr hb) hk)

theorem for_step' {L : Scf.Loop 32} {h h' : L.OK} {init : σ} {b b' : Fin L.trips → σ → Prog E σ} {f : σ → Prog E α}
    {R : σ → Prog E α} (hb : ∀ t s, b t s = b' t s) (hk : ∀ v, f v = R v) : Scf.Loop.for L h init b >>= f = Scf.Loop.for L h' init b' >>= R :=
  bind_congr' (for_congr hb) hk

/-- A loop of no trips. -/
theorem for_dead {L : Scf.Loop 32} {h : L.OK} {init : σ} {b : Fin L.trips → σ → Prog E σ} {f : σ → Prog E α} {R : Prog E α} (h0 : L.trips = 0)
    (hk : f init = R) : Scf.Loop.for L h init b >>= f = R := by
  have : Scf.Loop.for L h init b = .ret init := by
    refine (Scf.for_eq _ _ _ h init b).trans ?_
    have h1 : List.finRange L.trips = [] := by simp [h0]
    rw [h1]; rfl
  rw [this]; exact hk

/-- A branch with one arm empty, the rest of its window in both arms. -/
theorem if_step {c : Prop} {hc : Decidable c} {J : Prog E α} {K : α → Prog E γ} {A : c → Prog E α} {W : c → Prog E PUnit} {R : PUnit → Prog E γ}
    (h : J >>= K = R ⟨⟩) (hA : ∀ h, A h = W h >>= fun _ => J) :
    (if h : c then A h else J) >>= K = (if h : c then W h else .ret PUnit.unit) >>= R := by
  by_cases hh : c
  · rw [dif_pos hh, dif_pos hh, hA, Prog.bind_assoc]
    exact bind_congr' rfl fun _ => h
  · rw [dif_neg hh, dif_neg hh]; exact h

theorem if_step' {c : Prop} {hc : Decidable c} {J : Prog E α} {A : c → Prog E α} {W : c → Prog E PUnit} {R : PUnit → Prog E α}
    (h : J = R ⟨⟩) (hA : ∀ h, A h = W h >>= fun _ => J) :
    (if h : c then A h else J) = (if h : c then W h else .ret PUnit.unit) >>= R := by
  by_cases hh : c
  · rw [dif_pos hh, dif_pos hh, hA]; exact bind_congr' rfl fun _ => h
  · rw [dif_neg hh, dif_neg hh]; exact h

end

theorem pair_eq (i : grid0.Coords)  (arg2 : Memref sig .scVector .hbm S512x1024 .f32) (harg2 : arg2.IsWhole) (arg3 : Memref sig .scVector .hbm S8128x1024 .f32) (harg3 : arg3.IsWhole) (arg4 : Memref sig .scVector .hbm S8128x1024 .f32) (harg4 : arg4.IsWhole) (arg5 : Memref sig .scVector .hbm S8128x1024 .f32) (harg5 : arg5.IsWhole) (arg6 : Memref sig .scVector .hbm S8128x1024 .f32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S16x1024 .f32) (harg9 : arg9.IsWhole) (arg10 : Memref sig .scVector .vmem S16x1024 .f32) (harg10 : arg10.IsWhole) (arg11 : Memref sig .scVector .vmem S16x1024 .f32) (harg11 : arg11.IsWhole) (arg12 : Memref sig .scVector .vmem S16x1024 .f32) (harg12 : arg12.IsWhole) (arg13 : DmaSems sig S_) (arg14 : DmaSems sig S_) (arg15 : DmaSems sig S_) (arg16 : DmaSems sig S_) (arg17 : DmaSems sig S_) (arg18 : DmaSems sig S_) (arg19 : DmaSems sig S_)  (v18 v40 : BitVec 32) (k0_h1 : k0_cond1 i = 1#1)
    (k0_t1 : Fin k0_t1_loop.trips) :
    k0_part35 (F := F) i arg2 harg2 arg3 harg3 arg4 harg4 arg5 harg5 arg6 harg6 arg7 harg7 arg8 harg8 arg9 harg9 arg10 harg10 arg11 harg11 arg12 harg12 arg13 arg14 arg15 arg16 arg17 arg18 arg19 v18 v40 k0_h1 0#32 1#32 k0_t1 = pair k0_h1 arg3 arg7 arg9 arg11 harg11 arg12 harg12 arg17 arg18 k0_t1 := by
  delta k0_part35 k0_part25
  refine if_step ?_ ?_
  rotate_left
  · exact fun _ => rfl
  iterate 32 refine op_congr fun _ => ?_
  refine for_step (fun _ _ => ?_) fun _ => ?_
  · rfl
  iterate 32 refine op_congr fun _ => ?_
  refine for_step (fun _ _ => ?_) fun _ => ?_
  · rfl
  refine op_congr fun _ => ?_
  refine if_step ?_ ?_
  rotate_left
  · exact fun _ => rfl
  iterate 32 refine op_congr fun _ => ?_
  refine for_step (fun _ _ => ?_) fun _ => ?_
  · rfl
  iterate 32 refine op_congr fun _ => ?_
  refine for_step' (fun _ _ => ?_) fun _ => ?_
  · rfl
  refine op_congr fun _ => ?_
  rfl

theorem t8_zero (r : Fin k0_t6_loop.trips) : (k0_t8_loop r).trips = 0 := by revert r; decide +kernel

theorem tri0_eq (i : grid0.Coords)  (arg2 : Memref sig .scVector .hbm S512x1024 .f32) (harg2 : arg2.IsWhole) (arg3 : Memref sig .scVector .hbm S8128x1024 .f32) (harg3 : arg3.IsWhole) (arg4 : Memref sig .scVector .hbm S8128x1024 .f32) (harg4 : arg4.IsWhole) (arg5 : Memref sig .scVector .hbm S8128x1024 .f32) (harg5 : arg5.IsWhole) (arg6 : Memref sig .scVector .hbm S8128x1024 .f32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S16x1024 .f32) (harg9 : arg9.IsWhole) (arg10 : Memref sig .scVector .vmem S16x1024 .f32) (harg10 : arg10.IsWhole) (arg11 : Memref sig .scVector .vmem S16x1024 .f32) (harg11 : arg11.IsWhole) (arg12 : Memref sig .scVector .vmem S16x1024 .f32) (harg12 : arg12.IsWhole) (arg13 : DmaSems sig S_) (arg14 : DmaSems sig S_) (arg15 : DmaSems sig S_) (arg16 : DmaSems sig S_) (arg17 : DmaSems sig S_) (arg18 : DmaSems sig S_) (arg19 : DmaSems sig S_)  (v : BitVec 32) (h4 : k0_cond4 i = 1#1) (t : Fin k0_t6_loop.trips) :
    k0_part76 (F := F) i arg2 harg2 arg3 harg3 arg4 harg4 arg5 harg5 arg6 harg6 arg7 harg7 arg8 harg8 arg9 harg9 arg10 harg10 arg11 harg11 arg12 harg12 arg13 arg14 arg15 arg16 arg17 arg18 arg19 h4 v 0#32 1#32 t = triRow arg3 (k0_off389 i) (fun r j => k0_off389_inb i r j h4) arg7 arg11 arg19 t := by
  delta k0_part76
  refine for_step' (fun _ _ => ?_) fun _ => ?_
  · rfl
  refine for_dead (t8_zero t) ?_
  refine for_step' (fun _ _ => ?_) fun _ => ?_
  · rfl
  refine for_dead (t8_zero t) ?_
  rfl

theorem tri1_eq (i : grid0.Coords)  (arg2 : Memref sig .scVector .hbm S512x1024 .f32) (harg2 : arg2.IsWhole) (arg3 : Memref sig .scVector .hbm S8128x1024 .f32) (harg3 : arg3.IsWhole) (arg4 : Memref sig .scVector .hbm S8128x1024 .f32) (harg4 : arg4.IsWhole) (arg5 : Memref sig .scVector .hbm S8128x1024 .f32) (harg5 : arg5.IsWhole) (arg6 : Memref sig .scVector .hbm S8128x1024 .f32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S16x1024 .f32) (harg9 : arg9.IsWhole) (arg10 : Memref sig .scVector .vmem S16x1024 .f32) (harg10 : arg10.IsWhole) (arg11 : Memref sig .scVector .vmem S16x1024 .f32) (harg11 : arg11.IsWhole) (arg12 : Memref sig .scVector .vmem S16x1024 .f32) (harg12 : arg12.IsWhole) (arg13 : DmaSems sig S_) (arg14 : DmaSems sig S_) (arg15 : DmaSems sig S_) (arg16 : DmaSems sig S_) (arg17 : DmaSems sig S_) (arg18 : DmaSems sig S_) (arg19 : DmaSems sig S_)  (v : BitVec 32) (h4 : k0_cond4 i = 1#1) (t : Fin k0_t6_loop.trips) :
    k0_part117 (F := F) i arg2 harg2 arg3 harg3 arg4 harg4 arg5 harg5 arg6 harg6 arg7 harg7 arg8 harg8 arg9 harg9 arg10 harg10 arg11 harg11 arg12 harg12 arg13 arg14 arg15 arg16 arg17 arg18 arg19 h4 v 0#32 1#32 t = triRow arg3 (k0_off777 i) (fun r j => k0_off777_inb i r j h4) arg9 arg11 arg19 t := by
  delta k0_part117
  refine for_step' (fun _ _ => ?_) fun _ => ?_
  · rfl
  refine for_dead (t8_zero t) ?_
  refine for_step' (fun _ _ => ?_) fun _ => ?_
  · rfl
  refine for_dead (t8_zero t) ?_
  rfl

theorem pair_eq1 (i : grid0.Coords)  (arg2 : Memref sig .scVector .hbm S512x1024 .f32) (harg2 : arg2.IsWhole) (arg3 : Memref sig .scVector .hbm S8128x1024 .f32) (harg3 : arg3.IsWhole) (arg4 : Memref sig .scVector .hbm S8128x1024 .f32) (harg4 : arg4.IsWhole) (arg5 : Memref sig .scVector .hbm S8128x1024 .f32) (harg5 : arg5.IsWhole) (arg6 : Memref sig .scVector .hbm S8128x1024 .f32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S16x1024 .f32) (harg9 : arg9.IsWhole) (arg10 : Memref sig .scVector .vmem S16x1024 .f32) (harg10 : arg10.IsWhole) (arg11 : Memref sig .scVector .vmem S16x1024 .f32) (harg11 : arg11.IsWhole) (arg12 : Memref sig .scVector .vmem S16x1024 .f32) (harg12 : arg12.IsWhole) (arg13 : DmaSems sig S_) (arg14 : DmaSems sig S_) (arg15 : DmaSems sig S_) (arg16 : DmaSems sig S_) (arg17 : DmaSems sig S_) (arg18 : DmaSems sig S_) (arg19 : DmaSems sig S_)  (v18 v40 : BitVec 32) (h : k0_cond1 i = 1#1) (t : Fin k0_t1_loop.trips) :
    k0_part152 (F := F) i arg2 harg2 arg3 harg3 arg4 harg4 arg5 harg5 arg6 harg6 arg7 harg7 arg8 harg8 arg9 harg9 arg10 harg10 arg11 harg11 arg12 harg12 arg13 arg14 arg15 arg16 arg17 arg18 arg19 v18 v40 h 0#32 1#32 t = k0_part35 i arg2 harg2 arg4 harg4 arg3 harg3 arg5 harg5 arg6 harg6 arg8 harg8 arg7 harg7 arg10 harg10 arg9 harg9 arg11 harg11 arg12 harg12 arg14 arg13 arg16 arg15 arg17 arg18 arg19 v18 v40 h 0#32 1#32 t := rfl

theorem tri0_eq1 (i : grid0.Coords)  (arg2 : Memref sig .scVector .hbm S512x1024 .f32) (harg2 : arg2.IsWhole) (arg3 : Memref sig .scVector .hbm S8128x1024 .f32) (harg3 : arg3.IsWhole) (arg4 : Memref sig .scVector .hbm S8128x1024 .f32) (harg4 : arg4.IsWhole) (arg5 : Memref sig .scVector .hbm S8128x1024 .f32) (harg5 : arg5.IsWhole) (arg6 : Memref sig .scVector .hbm S8128x1024 .f32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S16x1024 .f32) (harg9 : arg9.IsWhole) (arg10 : Memref sig .scVector .vmem S16x1024 .f32) (harg10 : arg10.IsWhole) (arg11 : Memref sig .scVector .vmem S16x1024 .f32) (harg11 : arg11.IsWhole) (arg12 : Memref sig .scVector .vmem S16x1024 .f32) (harg12 : arg12.IsWhole) (arg13 : DmaSems sig S_) (arg14 : DmaSems sig S_) (arg15 : DmaSems sig S_) (arg16 : DmaSems sig S_) (arg17 : DmaSems sig S_) (arg18 : DmaSems sig S_) (arg19 : DmaSems sig S_)  (v : BitVec 32) (h : k0_cond4 i = 1#1) (t : Fin k0_t6_loop.trips) :
    k0_part193 (F := F) i arg2 harg2 arg3 harg3 arg4 harg4 arg5 harg5 arg6 harg6 arg7 harg7 arg8 harg8 arg9 harg9 arg10 harg10 arg11 harg11 arg12 harg12 arg13 arg14 arg15 arg16 arg17 arg18 arg19 h v 0#32 1#32 t = k0_part76 i arg2 harg2 arg4 harg4 arg3 harg3 arg5 harg5 arg6 harg6 arg8 harg8 arg7 harg7 arg10 harg10 arg9 harg9 arg11 harg11 arg12 harg12 arg14 arg13 arg16 arg15 arg17 arg18 arg19 h v 0#32 1#32 t := rfl

theorem tri1_eq1 (i : grid0.Coords)  (arg2 : Memref sig .scVector .hbm S512x1024 .f32) (harg2 : arg2.IsWhole) (arg3 : Memref sig .scVector .hbm S8128x1024 .f32) (harg3 : arg3.IsWhole) (arg4 : Memref sig .scVector .hbm S8128x1024 .f32) (harg4 : arg4.IsWhole) (arg5 : Memref sig .scVector .hbm S8128x1024 .f32) (harg5 : arg5.IsWhole) (arg6 : Memref sig .scVector .hbm S8128x1024 .f32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S16x1024 .f32) (harg9 : arg9.IsWhole) (arg10 : Memref sig .scVector .vmem S16x1024 .f32) (harg10 : arg10.IsWhole) (arg11 : Memref sig .scVector .vmem S16x1024 .f32) (harg11 : arg11.IsWhole) (arg12 : Memref sig .scVector .vmem S16x1024 .f32) (harg12 : arg12.IsWhole) (arg13 : DmaSems sig S_) (arg14 : DmaSems sig S_) (arg15 : DmaSems sig S_) (arg16 : DmaSems sig S_) (arg17 : DmaSems sig S_) (arg18 : DmaSems sig S_) (arg19 : DmaSems sig S_)  (v : BitVec 32) (h : k0_cond4 i = 1#1) (t : Fin k0_t6_loop.trips) :
    k0_part234 (F := F) i arg2 harg2 arg3 harg3 arg4 harg4 arg5 harg5 arg6 harg6 arg7 harg7 arg8 harg8 arg9 harg9 arg10 harg10 arg11 harg11 arg12 harg12 arg13 arg14 arg15 arg16 arg17 arg18 arg19 h v 0#32 1#32 t = k0_part117 i arg2 harg2 arg4 harg4 arg3 harg3 arg5 harg5 arg6 harg6 arg8 harg8 arg7 harg7 arg10 harg10 arg9 harg9 arg11 harg11 arg12 harg12 arg14 arg13 arg16 arg15 arg17 arg18 arg19 h v 0#32 1#32 t := rfl

theorem pair_eq2 (i : grid0.Coords)  (arg2 : Memref sig .scVector .hbm S512x1024 .f32) (harg2 : arg2.IsWhole) (arg3 : Memref sig .scVector .hbm S8128x1024 .f32) (harg3 : arg3.IsWhole) (arg4 : Memref sig .scVector .hbm S8128x1024 .f32) (harg4 : arg4.IsWhole) (arg5 : Memref sig .scVector .hbm S8128x1024 .f32) (harg5 : arg5.IsWhole) (arg6 : Memref sig .scVector .hbm S8128x1024 .f32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S16x1024 .f32) (harg9 : arg9.IsWhole) (arg10 : Memref sig .scVector .vmem S16x1024 .f32) (harg10 : arg10.IsWhole) (arg11 : Memref sig .scVector .vmem S16x1024 .f32) (harg11 : arg11.IsWhole) (arg12 : Memref sig .scVector .vmem S16x1024 .f32) (harg12 : arg12.IsWhole) (arg13 : DmaSems sig S_) (arg14 : DmaSems sig S_) (arg15 : DmaSems sig S_) (arg16 : DmaSems sig S_) (arg17 : DmaSems sig S_) (arg18 : DmaSems sig S_) (arg19 : DmaSems sig S_)  (v18 v40 : BitVec 32) (h : k0_cond1 i = 1#1) (t : Fin k0_t1_loop.trips) :
    k0_part269 (F := F) i arg2 harg2 arg3 harg3 arg4 harg4 arg5 harg5 arg6 harg6 arg7 harg7 arg8 harg8 arg9 harg9 arg10 harg10 arg11 harg11 arg12 harg12 arg13 arg14 arg15 arg16 arg17 arg18 arg19 v18 v40 h 0#32 1#32 t = k0_part35 i arg2 harg2 arg5 harg5 arg4 harg4 arg3 harg3 arg6 harg6 arg7 harg7 arg8 harg8 arg9 harg9 arg10 harg10 arg11 harg11 arg12 harg12 arg13 arg14 arg15 arg16 arg17 arg18 arg19 v18 v40 h 0#32 1#32 t := rfl

theorem tri0_eq2 (i : grid0.Coords)  (arg2 : Memref sig .scVector .hbm S512x1024 .f32) (harg2 : arg2.IsWhole) (arg3 : Memref sig .scVector .hbm S8128x1024 .f32) (harg3 : arg3.IsWhole) (arg4 : Memref sig .scVector .hbm S8128x1024 .f32) (harg4 : arg4.IsWhole) (arg5 : Memref sig .scVector .hbm S8128x1024 .f32) (harg5 : arg5.IsWhole) (arg6 : Memref sig .scVector .hbm S8128x1024 .f32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S16x1024 .f32) (harg9 : arg9.IsWhole) (arg10 : Memref sig .scVector .vmem S16x1024 .f32) (harg10 : arg10.IsWhole) (arg11 : Memref sig .scVector .vmem S16x1024 .f32) (harg11 : arg11.IsWhole) (arg12 : Memref sig .scVector .vmem S16x1024 .f32) (harg12 : arg12.IsWhole) (arg13 : DmaSems sig S_) (arg14 : DmaSems sig S_) (arg15 : DmaSems sig S_) (arg16 : DmaSems sig S_) (arg17 : DmaSems sig S_) (arg18 : DmaSems sig S_) (arg19 : DmaSems sig S_)  (v : BitVec 32) (h : k0_cond4 i = 1#1) (t : Fin k0_t6_loop.trips) :
    k0_part310 (F := F) i arg2 harg2 arg3 harg3 arg4 harg4 arg5 harg5 arg6 harg6 arg7 harg7 arg8 harg8 arg9 harg9 arg10 harg10 arg11 harg11 arg12 harg12 arg13 arg14 arg15 arg16 arg17 arg18 arg19 h v 0#32 1#32 t = k0_part76 i arg2 harg2 arg5 harg5 arg4 harg4 arg3 harg3 arg6 harg6 arg7 harg7 arg8 harg8 arg9 harg9 arg10 harg10 arg11 harg11 arg12 harg12 arg13 arg14 arg15 arg16 arg17 arg18 arg19 h v 0#32 1#32 t := rfl

theorem tri1_eq2 (i : grid0.Coords)  (arg2 : Memref sig .scVector .hbm S512x1024 .f32) (harg2 : arg2.IsWhole) (arg3 : Memref sig .scVector .hbm S8128x1024 .f32) (harg3 : arg3.IsWhole) (arg4 : Memref sig .scVector .hbm S8128x1024 .f32) (harg4 : arg4.IsWhole) (arg5 : Memref sig .scVector .hbm S8128x1024 .f32) (harg5 : arg5.IsWhole) (arg6 : Memref sig .scVector .hbm S8128x1024 .f32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S16x1024 .f32) (harg9 : arg9.IsWhole) (arg10 : Memref sig .scVector .vmem S16x1024 .f32) (harg10 : arg10.IsWhole) (arg11 : Memref sig .scVector .vmem S16x1024 .f32) (harg11 : arg11.IsWhole) (arg12 : Memref sig .scVector .vmem S16x1024 .f32) (harg12 : arg12.IsWhole) (arg13 : DmaSems sig S_) (arg14 : DmaSems sig S_) (arg15 : DmaSems sig S_) (arg16 : DmaSems sig S_) (arg17 : DmaSems sig S_) (arg18 : DmaSems sig S_) (arg19 : DmaSems sig S_)  (v : BitVec 32) (h : k0_cond4 i = 1#1) (t : Fin k0_t6_loop.trips) :
    k0_part351 (F := F) i arg2 harg2 arg3 harg3 arg4 harg4 arg5 harg5 arg6 harg6 arg7 harg7 arg8 harg8 arg9 harg9 arg10 harg10 arg11 harg11 arg12 harg12 arg13 arg14 arg15 arg16 arg17 arg18 arg19 h v 0#32 1#32 t = k0_part117 i arg2 harg2 arg5 harg5 arg4 harg4 arg3 harg3 arg6 harg6 arg7 harg7 arg8 harg8 arg9 harg9 arg10 harg10 arg11 harg11 arg12 harg12 arg13 arg14 arg15 arg16 arg17 arg18 arg19 h v 0#32 1#32 t := rfl

theorem pair_eq3 (i : grid0.Coords)  (arg2 : Memref sig .scVector .hbm S512x1024 .f32) (harg2 : arg2.IsWhole) (arg3 : Memref sig .scVector .hbm S8128x1024 .f32) (harg3 : arg3.IsWhole) (arg4 : Memref sig .scVector .hbm S8128x1024 .f32) (harg4 : arg4.IsWhole) (arg5 : Memref sig .scVector .hbm S8128x1024 .f32) (harg5 : arg5.IsWhole) (arg6 : Memref sig .scVector .hbm S8128x1024 .f32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S16x1024 .f32) (harg9 : arg9.IsWhole) (arg10 : Memref sig .scVector .vmem S16x1024 .f32) (harg10 : arg10.IsWhole) (arg11 : Memref sig .scVector .vmem S16x1024 .f32) (harg11 : arg11.IsWhole) (arg12 : Memref sig .scVector .vmem S16x1024 .f32) (harg12 : arg12.IsWhole) (arg13 : DmaSems sig S_) (arg14 : DmaSems sig S_) (arg15 : DmaSems sig S_) (arg16 : DmaSems sig S_) (arg17 : DmaSems sig S_) (arg18 : DmaSems sig S_) (arg19 : DmaSems sig S_)  (v18 v40 : BitVec 32) (h : k0_cond1 i = 1#1) (t : Fin k0_t1_loop.trips) :
    k0_part386 (F := F) i arg2 harg2 arg3 harg3 arg4 harg4 arg5 harg5 arg6 harg6 arg7 harg7 arg8 harg8 arg9 harg9 arg10 harg10 arg11 harg11 arg12 harg12 arg13 arg14 arg15 arg16 arg17 arg18 arg19 v18 v40 h 0#32 1#32 t = k0_part35 i arg2 harg2 arg6 harg6 arg4 harg4 arg5 harg5 arg3 harg3 arg8 harg8 arg7 harg7 arg10 harg10 arg9 harg9 arg11 harg11 arg12 harg12 arg14 arg13 arg16 arg15 arg17 arg18 arg19 v18 v40 h 0#32 1#32 t := rfl

theorem tri0_eq3 (i : grid0.Coords)  (arg2 : Memref sig .scVector .hbm S512x1024 .f32) (harg2 : arg2.IsWhole) (arg3 : Memref sig .scVector .hbm S8128x1024 .f32) (harg3 : arg3.IsWhole) (arg4 : Memref sig .scVector .hbm S8128x1024 .f32) (harg4 : arg4.IsWhole) (arg5 : Memref sig .scVector .hbm S8128x1024 .f32) (harg5 : arg5.IsWhole) (arg6 : Memref sig .scVector .hbm S8128x1024 .f32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S16x1024 .f32) (harg9 : arg9.IsWhole) (arg10 : Memref sig .scVector .vmem S16x1024 .f32) (harg10 : arg10.IsWhole) (arg11 : Memref sig .scVector .vmem S16x1024 .f32) (harg11 : arg11.IsWhole) (arg12 : Memref sig .scVector .vmem S16x1024 .f32) (harg12 : arg12.IsWhole) (arg13 : DmaSems sig S_) (arg14 : DmaSems sig S_) (arg15 : DmaSems sig S_) (arg16 : DmaSems sig S_) (arg17 : DmaSems sig S_) (arg18 : DmaSems sig S_) (arg19 : DmaSems sig S_)  (v : BitVec 32) (h : k0_cond4 i = 1#1) (t : Fin k0_t6_loop.trips) :
    k0_part427 (F := F) i arg2 harg2 arg3 harg3 arg4 harg4 arg5 harg5 arg6 harg6 arg7 harg7 arg8 harg8 arg9 harg9 arg10 harg10 arg11 harg11 arg12 harg12 arg13 arg14 arg15 arg16 arg17 arg18 arg19 h v 0#32 1#32 t = k0_part76 i arg2 harg2 arg6 harg6 arg4 harg4 arg5 harg5 arg3 harg3 arg8 harg8 arg7 harg7 arg10 harg10 arg9 harg9 arg11 harg11 arg12 harg12 arg14 arg13 arg16 arg15 arg17 arg18 arg19 h v 0#32 1#32 t := rfl

theorem tri1_eq3 (i : grid0.Coords)  (arg2 : Memref sig .scVector .hbm S512x1024 .f32) (harg2 : arg2.IsWhole) (arg3 : Memref sig .scVector .hbm S8128x1024 .f32) (harg3 : arg3.IsWhole) (arg4 : Memref sig .scVector .hbm S8128x1024 .f32) (harg4 : arg4.IsWhole) (arg5 : Memref sig .scVector .hbm S8128x1024 .f32) (harg5 : arg5.IsWhole) (arg6 : Memref sig .scVector .hbm S8128x1024 .f32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S16x1024 .f32) (harg9 : arg9.IsWhole) (arg10 : Memref sig .scVector .vmem S16x1024 .f32) (harg10 : arg10.IsWhole) (arg11 : Memref sig .scVector .vmem S16x1024 .f32) (harg11 : arg11.IsWhole) (arg12 : Memref sig .scVector .vmem S16x1024 .f32) (harg12 : arg12.IsWhole) (arg13 : DmaSems sig S_) (arg14 : DmaSems sig S_) (arg15 : DmaSems sig S_) (arg16 : DmaSems sig S_) (arg17 : DmaSems sig S_) (arg18 : DmaSems sig S_) (arg19 : DmaSems sig S_)  (v : BitVec 32) (h : k0_cond4 i = 1#1) (t : Fin k0_t6_loop.trips) :
    k0_part468 (F := F) i arg2 harg2 arg3 harg3 arg4 harg4 arg5 harg5 arg6 harg6 arg7 harg7 arg8 harg8 arg9 harg9 arg10 harg10 arg11 harg11 arg12 harg12 arg13 arg14 arg15 arg16 arg17 arg18 arg19 h v 0#32 1#32 t = k0_part117 i arg2 harg2 arg6 harg6 arg4 harg4 arg5 harg5 arg3 harg3 arg8 harg8 arg7 harg7 arg10 harg10 arg9 harg9 arg11 harg11 arg12 harg12 arg14 arg13 arg16 arg15 arg17 arg18 arg19 h v 0#32 1#32 t := rfl

set_option maxHeartbeats 2000000 in
theorem tile_eq (i : grid0.Coords)  (arg2 : Memref sig .scVector .hbm S512x1024 .f32) (harg2 : arg2.IsWhole) (arg3 : Memref sig .scVector .hbm S8128x1024 .f32) (harg3 : arg3.IsWhole) (arg4 : Memref sig .scVector .hbm S8128x1024 .f32) (harg4 : arg4.IsWhole) (arg5 : Memref sig .scVector .hbm S8128x1024 .f32) (harg5 : arg5.IsWhole) (arg6 : Memref sig .scVector .hbm S8128x1024 .f32) (harg6 : arg6.IsWhole) (arg7 : Memref sig .scVector .vmem S16x1024 .f32) (harg7 : arg7.IsWhole) (arg8 : Memref sig .scVector .vmem S16x1024 .f32) (harg8 : arg8.IsWhole) (arg9 : Memref sig .scVector .vmem S16x1024 .f32) (harg9 : arg9.IsWhole) (arg10 : Memref sig .scVector .vmem S16x1024 .f32) (harg10 : arg10.IsWhole) (arg11 : Memref sig .scVector .vmem S16x1024 .f32) (harg11 : arg11.IsWhole) (arg12 : Memref sig .scVector .vmem S16x1024 .f32) (harg12 : arg12.IsWhole) (arg13 : DmaSems sig S_) (arg14 : DmaSems sig S_) (arg15 : DmaSems sig S_) (arg16 : DmaSems sig S_) (arg17 : DmaSems sig S_) (arg18 : DmaSems sig S_) (arg19 : DmaSems sig S_)  :
    cc0__batch_diff_sc (F := F) i arg2 harg2 arg3 harg3 arg4 harg4 arg5 harg5 arg6 harg6 arg7 harg7 arg8 harg8 arg9 harg9 arg10 harg10 arg11 harg11 arg12 harg12 arg13 arg14 arg15 arg16 arg17 arg18 arg19 =
      tile arg2 arg3 arg4 arg5 arg6 arg7 harg7 arg8 harg8 arg9 harg9 arg10 harg10 arg11 harg11 arg12 harg12 arg13 arg14 arg15 arg16 arg17 arg18 arg19 := by
  delta cc0__batch_diff_sc
  iterate 6 refine op_congr fun _ => ?_
  refine if_step ?_ fun h => ?_
  rotate_left
  · refine Eq.symm ?_
    delta offDiag
    refine for_step (fun _ _ => ?_) (fun _ => ?_)
    rotate_left
    · rfl
    refine Eq.symm ?_
    exact pair_eq (F := F) ..
  refine if_step ?_ fun h => ?_
  rotate_left
  · refine Eq.symm ?_
    delta tri
    refine for_step (fun _ _ => ?_) (fun _ => ?_)
    rotate_left
    · refine for_step (fun _ _ => ?_) (fun _ => ?_)
      rotate_left
      · rfl
      refine Eq.symm ?_
      refine (Prog.bind_pure _).trans ?_
      exact tri1_eq (F := F) ..
    refine Eq.symm ?_
    refine (Prog.bind_pure _).trans ?_
    exact tri0_eq (F := F) ..
  iterate 4 refine op_congr fun _ => ?_
  refine if_step ?_ fun h => ?_
  rotate_left
  · refine Eq.symm ?_
    delta offDiag
    refine for_step (fun _ _ => ?_) (fun _ => ?_)
    rotate_left
    · rfl
    refine Eq.symm ?_
    refine (pair_eq1 (F := F) ..).trans ?_
    exact pair_eq (F := F) ..
  refine if_step ?_ fun h => ?_
  rotate_left
  · refine Eq.symm ?_
    delta tri
    refine for_step (fun _ _ => ?_) (fun _ => ?_)
    rotate_left
    · refine for_step (fun _ _ => ?_) (fun _ => ?_)
      rotate_left
      · rfl
      refine Eq.symm ?_
      refine (Prog.bind_pure _).trans ?_
      refine (tri1_eq1 (F := F) ..).trans ?_
      exact tri1_eq (F := F) ..
    refine Eq.symm ?_
    refine (Prog.bind_pure _).trans ?_
    refine (tri0_eq1 (F := F) ..).trans ?_
    exact tri0_eq (F := F) ..
  iterate 4 refine op_congr fun _ => ?_
  refine if_step' ?_ fun h => ?_
  rotate_left
  · refine Eq.symm ?_
    delta offDiag
    refine for_step (fun _ _ => ?_) (fun _ => ?_)
    rotate_left
    · rfl
    refine Eq.symm ?_
    refine (pair_eq2 (F := F) ..).trans ?_
    exact pair_eq (F := F) ..
  refine if_step' ?_ fun h => ?_
  rotate_left
  · refine Eq.symm ?_
    delta tri
    refine for_step (fun _ _ => ?_) (fun _ => ?_)
    rotate_left
    · refine for_step (fun _ _ => ?_) (fun _ => ?_)
      rotate_left
      · rfl
      refine Eq.symm ?_
      refine (Prog.bind_pure _).trans ?_
      refine (tri1_eq2 (F := F) ..).trans ?_
      exact tri1_eq (F := F) ..
    refine Eq.symm ?_
    refine (Prog.bind_pure _).trans ?_
    refine (tri0_eq2 (F := F) ..).trans ?_
    exact tri0_eq (F := F) ..
  iterate 2 refine op_congr fun _ => ?_
  refine if_step' ?_ fun h => ?_
  rotate_left
  · refine Eq.symm ?_
    delta offDiag
    refine for_step (fun _ _ => ?_) (fun _ => ?_)
    rotate_left
    · rfl
    refine Eq.symm ?_
    refine (pair_eq3 (F := F) ..).trans ?_
    exact pair_eq (F := F) ..
  refine if_step' ?_ fun h => ?_
  rotate_left
  · refine Eq.symm ?_
    delta tri
    refine for_step (fun _ _ => ?_) (fun _ => ?_)
    rotate_left
    · refine for_step (fun _ _ => ?_) (fun _ => ?_)
      rotate_left
      · rfl
      refine Eq.symm ?_
      refine (Prog.bind_pure _).trans ?_
      refine (tri1_eq3 (F := F) ..).trans ?_
      exact tri1_eq (F := F) ..
    refine Eq.symm ?_
    refine (Prog.bind_pure _).trans ?_
    refine (tri0_eq3 (F := F) ..).trans ?_
    exact tri0_eq (F := F) ..
  rfl

end Cert.KernelIdeal.Roll
end
-- ==== Proof.Base.lean ====
/- The setting of the tile's proof: the launch configuration, ghost state, and how a tile's buffers are held. -/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Writes
public import Idealize.ShloMosaic.Lib.Tactic
public import proofs.«01_k».proof.Proof.Rolled

@[expose] public section

noncomputable section

namespace Cert.KernelIdeal.Roll

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

open Facts K0.R1.Facts₀ K0.R2.Facts₀ K0.R3.Facts₀ K0.R4.Facts₀ Shapes1.Facts₀

/-! ## The launch -/

abbrev ΛP : Labels := Pipeline.Sig Λ₀ (Fin 0) fun p => (pcfgs (F := F) p).Adm
abbrev KC : SparseCore.Cfg τ sig (ΛP (F := F)) 1 := sc (F := F)
theorem nSub_zero : (KC (F := F)).nSub 0 = 16 := rfl
theorem nCore_zero : (KC (F := F)).nCore 0 = 2 := rfl
abbrev DC : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

abbrev EH : Emb UH (MT nD τ sig (HIx 1) (Elt F) ℕ UU ℕ) := embL

/-- The state the assertions speak of. -/
abbrev MM (F : FTy → Type) : Type := MT nD τ sig (HIx 1) (Elt F) ℕ UU ℕ

/-! ## A tile's thread -/

/-- The vector subcore at grid point `i`. -/
abbrev th (d : Dev nD) (i : grid0.Coords) : Thread nD τ := V d ((i 0).castLE hcore0) ((i 1).castLE hsub0)

/-- The weakest precondition of a tile's program. -/
abbrev WP (d : Dev nD) (i : grid0.Coords) {α : Type} (k : TP F i α) (Q : α → sProp (MM F)) : sProp (MM F) :=
  wp frame (wpE (defs₀ (F := F)) 𝒱₀ (th d i) none) Set.univ k Q

variable (d : Dev nD) (i : grid0.Coords)

theorem wp_done {d : Dev nD} {i : grid0.Coords} {α : Type} (x : α) (Q : α → sProp (MM F)) : Q x ⊢ WP d i (.ret x) Q := by
  show Q x ⊢ wp frame (wpE (defs₀ (F := F)) 𝒱₀ (th d i) none) Set.univ (.ret x) Q
  rw [wp_ret]
  exact fupd_intro

/-- What the thread owes, with the evidence that it may wait, the waits made so far being on plain transfers or of `W`. -/
def Ow (O : CellTallies nD τ sig (HIx 1)) (W : Waits sig (HIx 1)) : sProp (MM F) :=
  iprop(Transfers.MayWaits (th d i) (default : HIx 1) O ∗ ∃ W', ⌜∀ p ∈ W', p ∈ W ∨ p.2 = none⌝ ∗ owes (th d i) O W')

/-- The elements `W` of a memref's buffer, at contents `f`. -/
abbrev pts {sp : Space} {s : Shape} {e : EltTy} (m : Memref sig .scVector sp s e) (W : Finset (Idx (m.view.loc (th d i)))) (f : Buf (Elt F) (m.view.loc (th d i))) : sProp (MM F) :=
  m.view.loc (th d i) ↦[W]{fullShare} f

/-- A 16-row buffer's elements `W`, the buffer reading as `Vv` on the registers `S` names by row and number. -/
def buf (m : Memref sig .scVector .vmem S16x1024 .f32) (W : Finset (Idx (m.view.loc (th d i)))) (Vv : S16x1024.Idx → F .f32) (S : ℕ → ℕ → Prop) : sProp (MM F) :=
  iprop(∃ f, pts d i m W f ∗ ⌜∀ z : S16x1024.Idx, S (z 0).val ((z 1).val / 16) → m.view.read (Elt F) f z = Vv z⌝)

variable {d i}

theorem buf_mono {m : Memref sig .scVector .vmem S16x1024 .f32} {W : Finset (Idx (m.view.loc (th d i)))} {Vv Vv' : S16x1024.Idx → F .f32} {S S' : ℕ → ℕ → Prop}
    (h : ∀ z : S16x1024.Idx, S' (z 0).val ((z 1).val / 16) → S (z 0).val ((z 1).val / 16) ∧ Vv z = Vv' z) : buf d i m W Vv S ⊢ buf d i m W Vv' S' := by
  unfold buf
  iintro ⟨%f, Hf, %hf⟩
  iexists f
  isplitl [Hf]; · iexact Hf
  ipureintro
  exact fun z hz => (hf z (h z hz).1).trans (h z hz).2

/-- The square of a difference. -/
def sqd (a b : F .f32) : F .f32 := FloatOps.mulf (FloatOps.subf a b) (FloatOps.subf a b)

/-- Row `p`, column `q` of a 16-row buffer. -/
def atR (p : ℕ) (hp : p < 16) (q : Fin 1024) : S16x1024.Idx := fun
  | 0 => ⟨p, hp⟩
  | 1 => q

abbrev reg (x : BitVec 32) (hx : x.toNat < 16) (m : ℕ) : Rect S16x1024 := Rect.unit (s := S16x1024) (lanes x m) S1x16.size (lanes_inb hx m)

theorem reg_emb {x : BitVec 32} (hx : x.toNat < 16) {m : ℕ} (hm : m < 64) (ξ : (reg x hx m).shape.Idx) :
    (reg x hx m).emb ξ = atR x.toNat hx ⟨16 * m + (ξ 1).val, by have : (ξ 1).val < 16 := (ξ 1).isLt; omega⟩ := by
  funext a
  apply Fin.ext
  match a with
  | 0 =>
    have : (ξ 0).val < 1 := (ξ 0).isLt
    show x.toNat + 1 * (ξ 0).val = x.toNat
    omega
  | 1 =>
    show 16 * (m % 64) + 1 * (ξ 1).val = 16 * m + (ξ 1).val
    rw [Nat.mod_eq_of_lt hm]; omega

theorem mem_reg {x : BitVec 32} (hx : x.toNat < 16) {m : ℕ} (hm : m < 64) (z : S16x1024.Idx) :
    z ∈ (reg x hx m).set ↔ (z 0).val = x.toNat ∧ (z 1).val / 16 = m := by
  rw [Rect.mem_set_unit]
  constructor
  · intro h
    have h0 : x.toNat ≤ (z 0).val ∧ (z 0).val < x.toNat + 1 := h 0
    have h1 : 16 * (m % 64) ≤ (z 1).val ∧ (z 1).val < 16 * (m % 64) + 16 := h 1
    rw [Nat.mod_eq_of_lt hm] at h1
    omega
  · rintro ⟨h0, h1⟩ a
    match a with
    | 0 => show x.toNat ≤ (z 0).val ∧ (z 0).val < x.toNat + 1; omega
    | 1 => show 16 * (m % 64) ≤ (z 1).val ∧ (z 1).val < 16 * (m % 64) + 16; rw [Nat.mod_eq_of_lt hm]; omega

end Cert.KernelIdeal.Roll
end
-- ==== Proof.Step.lean ====
/- The vector work: reads of registers, squared differences stored, over a row and over a block. -/
module

public import proofs.«01_k».proof.Proof.Base

@[expose] public section

noncomputable section

namespace Cert.KernelIdeal.Roll

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Facts]

open Facts K0.R1.Facts₀ K0.R2.Facts₀ K0.R3.Facts₀ K0.R4.Facts₀ Shapes1.Facts₀

variable {d : Dev nD} {i : grid0.Coords}

/-- What a load of a register reads. -/
abbrev rdReg (m : Memref sig .scVector .vmem S16x1024 .f32) (f : Buf (Elt F) (m.view.loc (th d i))) (x : BitVec 32) (hx : x.toNat < 16) (n : ℕ) : FVec F S1x16 .f32 :=
  (m.access (reg x hx n)).read (Elt F) f

theorem wp_step {rb ob : Memref sig .scVector .vmem S16x1024 .f32} {x y : BitVec 32} {hx : x.toNat < 16} {hy : y.toNat < 16} {m : ℕ} (hm : m < 64)
    {a : FVec F S1x16 .f32} {k : TP F i PUnit} {Q : PUnit → sProp (MM F)} {Wb : Finset (Idx (rb.view.loc (th d i)))} {W : Finset (Idx (ob.view.loc (th d i)))}
    {fB : Buf (Elt F) (rb.view.loc (th d i))} {Vv : S16x1024.Idx → F .f32} {S : ℕ → ℕ → Prop}
    (hWb : (rb.access (reg x hx m)).set ⊆ Wb) (hW : (ob.access (reg y hy m)).set ⊆ W)
    (hV : ∀ ξ, sqd (a ξ) (rdReg rb fB x hx m ξ) = Vv ((reg y hy m).emb ξ)) :
    iprop(pts d i rb Wb fB ∗ buf d i ob W Vv S)
      ⊢ iprop((iprop(pts d i rb Wb fB ∗ buf d i ob W Vv fun p n => S p n ∨ (p = y.toNat ∧ n = m)) -∗ WP d i k Q)
        -∗ WP d i (step rb ob x y hx hy m (shapeCast S16 a shapeCasts_S1x16_S16) k) Q) := by
  unfold step buf
  iintro ⟨Hb, %f, Ho, %hf⟩ Hk
  iapply (wp_load_rect 𝒱₀ (th d i) none Set.univ hWb) $$ Hb
  iintro Hb
  iapply (wp_load_rect 𝒱₀ (th d i) none Set.univ hW) $$ Ho
  iintro Ho
  iapply (wp_store 𝒱₀ (th d i) none Set.univ (m := ob) hW) $$ Ho
  iintro Ho
  iapply Hk
  isplitl [Hb]; · iexact Hb
  iexists _
  isplitl [Ho]; · iexact Ho
  ipureintro
  intro z hz
  by_cases hmem : z ∈ (reg y hy m).set
  · rw [← Rect.map_emb_univ] at hmem
    obtain ⟨ξ, -, rfl⟩ := Finset.mem_map.mp hmem
    refine (View.read_slice_write_emb _ _ _ (Finset.mem_univ ξ)).trans (Eq.trans ?_ (hV ξ))
    simp only [shapeCast, mulf, subf, Shape.reshapeEquiv_reshapeEquiv, Shape.reshapeEquiv_self]
    rfl
  · refine (View.read_slice_write_of_not_mem _ _ _ _ (by rwa [Rect.map_emb_univ])).trans (hf z ?_)
    rcases hz with hz | hz
    · exact hz
    · exact absurd ((mem_reg hy hm z).mpr hz) hmem

/-- The registers read off row `x`, `n` of them from number `m` on. -/
def regs (ra : Memref sig .scVector .vmem S16x1024 .f32) (f : Buf (Elt F) (ra.view.loc (th d i))) (x : BitVec 32) (hx : x.toNat < 16) : ℕ → ℕ → List (FVec F S16 .f32)
  | 0, _ => []
  | n + 1, m => shapeCast S16 (rdReg ra f x hx m) shapeCasts_S1x16_S16 :: regs ra f x hx n (m + 1)

theorem wp_aloads {ra : Memref sig .scVector .vmem S16x1024 .f32} {x : BitVec 32} {hx : x.toNat < 16} {α : Type} {Q : α → sProp (MM F)}
    {Wa : Finset (Idx (ra.view.loc (th d i)))} {fA : Buf (Elt F) (ra.view.loc (th d i))} (hWa : ∀ m, (ra.access (reg x hx m)).set ⊆ Wa) (n m : ℕ)
    (k : List (FVec F S16 .f32) → TP F i α) :
    pts d i ra Wa fA ⊢ iprop((pts d i ra Wa fA -∗ WP d i (k (regs ra fA x hx n m)) Q) -∗ WP d i (aloads ra x hx n m k) Q) := by
  induction n generalizing m k with
  | zero =>
    iintro Ha Hk
    iapply Hk; iexact Ha
  | succ n ih =>
    unfold aloads
    iintro Ha Hk
    iapply (wp_load_rect 𝒱₀ (th d i) none Set.univ (hWa m)) $$ Ha
    iintro Ha
    iapply (ih (m + 1) _) $$ Ha
    iexact Hk

theorem read_reg {ra : Memref sig .scVector .vmem S16x1024 .f32} {f : Buf (Elt F) (ra.view.loc (th d i))} {x : BitVec 32} {hx : x.toNat < 16} {m : ℕ} (hm : m < 64)
    (ξ : S1x16.Idx) : rdReg ra f x hx m ξ = ra.view.read (Elt F) f (atR x.toNat hx ⟨16 * m + (ξ 1).val, by have : (ξ 1).val < 16 := (ξ 1).isLt; omega⟩) := by
  rw [← reg_emb hx hm ξ]; rfl

theorem wp_steps {ra rb ob : Memref sig .scVector .vmem S16x1024 .f32} {xa x : BitVec 32} {hxa : xa.toNat < 16} {hx : x.toNat < 16} {Q : PUnit → sProp (MM F)}
    {Wb : Finset (Idx (rb.view.loc (th d i)))} {W : Finset (Idx (ob.view.loc (th d i)))}
    {fA : Buf (Elt F) (ra.view.loc (th d i))} {fB : Buf (Elt F) (rb.view.loc (th d i))} {Vv : S16x1024.Idx → F .f32}
    (hWb : ∀ m, (rb.access (reg x hx m)).set ⊆ Wb) (hW : ∀ m, (ob.access (reg x hx m)).set ⊆ W)
    (hV : ∀ q, sqd (ra.view.read (Elt F) fA (atR xa.toNat hxa q)) (rb.view.read (Elt F) fB (atR x.toNat hx q)) = Vv (atR x.toNat hx q))
    (n m : ℕ) (hm : m + n ≤ 64) (S : ℕ → ℕ → Prop) :
    iprop(pts d i rb Wb fB ∗ buf d i ob W Vv S)
      ⊢ iprop((iprop(pts d i rb Wb fB ∗ buf d i ob W Vv fun p q => S p q ∨ (p = x.toNat ∧ m ≤ q ∧ q < m + n)) -∗ Q ⟨⟩)
        -∗ WP d i (steps rb ob x hx (regs ra fA xa hxa n m) m) Q) := by
  induction n generalizing m S with
  | zero =>
    unfold regs steps
    iintro ⟨Hb, Ho⟩ Hk
    iapply wp_done
    iapply Hk
    isplitl [Hb]; · iexact Hb
    iapply (buf_mono fun z hz => ⟨by rcases hz with h | h; exact h; omega, rfl⟩) $$ Ho
  | succ n ih =>
    unfold regs steps
    iintro H Hk
    iapply (wp_step (a := rdReg ra fA xa hxa m) (by omega) (hWb m) (hW m) (fun ξ => by
      rw [read_reg (by omega), read_reg (by omega), hV, reg_emb hx (by omega)])) $$ H
    iintro H
    iapply (ih (m + 1) (by omega) _) $$ H
    iintro ⟨Hb, Ho⟩
    iapply Hk
    isplitl [Hb]; · iexact Hb
    iapply (buf_mono fun z hz => ⟨by
      rcases hz with h | h
      · exact .inl (.inl h)
      · by_cases hq : (z 1).val / 16 = m
        · exact .inl (.inr ⟨h.1, hq⟩)
        · exact .inr ⟨h.1, by omega⟩, rfl⟩) $$ Ho

/-- One row of a window against another, `n` registers from `m` on. -/
theorem wp_tsteps {win ob : Memref sig .scVector .vmem S16x1024 .f32} {x y z : BitVec 32} {hx : x.toNat < 16} {hy : y.toNat < 16} {hz : z.toNat < 16} {Q : PUnit → sProp (MM F)}
    {Wb : Finset (Idx (win.view.loc (th d i)))} {W : Finset (Idx (ob.view.loc (th d i)))} {f : Buf (Elt F) (win.view.loc (th d i))} {Vv : S16x1024.Idx → F .f32}
    (hWb : ∀ x hx m, (win.access (reg x hx m)).set ⊆ Wb) (hW : ∀ m, m < 64 → (ob.access (reg z hz m)).set ⊆ W)
    (hV : ∀ q, sqd (win.view.read (Elt F) f (atR x.toNat hx q)) (win.view.read (Elt F) f (atR y.toNat hy q)) = Vv (atR z.toNat hz q))
    (k : TP F i PUnit) (n m : ℕ) (hm : m + n ≤ 64) (S : ℕ → ℕ → Prop) :
    iprop(pts d i win Wb f ∗ buf d i ob W Vv S)
      ⊢ iprop((iprop(pts d i win Wb f ∗ buf d i ob W Vv fun p q => S p q ∨ (p = z.toNat ∧ m ≤ q ∧ q < m + n)) -∗ WP d i k Q)
        -∗ WP d i (tsteps win ob x y z hx hy hz n m k) Q) := by
  induction n generalizing m S with
  | zero =>
    unfold tsteps
    iintro ⟨Hb, Ho⟩ Hk
    iapply Hk
    isplitl [Hb]; · iexact Hb
    iapply (buf_mono fun z hz => ⟨by rcases hz with h | h; exact h; omega, rfl⟩) $$ Ho
  | succ n ih =>
    unfold tsteps
    iintro ⟨Hb, Ho⟩ Hk
    iapply (wp_load_rect 𝒱₀ (th d i) none Set.univ (hWb x hx m)) $$ Hb
    iintro Hb
    iapply (wp_step (a := rdReg win f x hx m) (by omega) (hWb y hy m) (hW m (by omega)) (fun ξ => by
      rw [read_reg (by omega), read_reg (by omega), hV, reg_emb hz (by omega)])) $$ [Hb Ho]
    · isplitl [Hb]; · iexact Hb
      iexact Ho
    iintro H
    iapply (ih (m + 1) (by omega) _) $$ H
    iintro ⟨Hb, Ho⟩
    iapply Hk
    isplitl [Hb]; · iexact Hb
    iapply (buf_mono fun z hz => ⟨by
      rcases hz with h | h
      · exact .inl (.inl h)
      · by_cases hq : (z 1).val / 16 = m
        · exact .inl (.inr ⟨h.1, hq⟩)
        · exact .inr ⟨h.1, by omega⟩, rfl⟩) $$ Ho

theorem col_trips : k0_t2_loop.trips = 16 := by decide

/-- Half of a row of `ra` against all of `rb`. -/
theorem wp_sec {ra rb ob : Memref sig .scVector .vmem S16x1024 .f32} {x : BitVec 32} {hx : x.toNat < 16} {α : Type} {Q : α → sProp (MM F)}
    {Wa : Finset (Idx (ra.view.loc (th d i)))} {Wb : Finset (Idx (rb.view.loc (th d i)))} {W : Finset (Idx (ob.view.loc (th d i)))}
    {fA : Buf (Elt F) (ra.view.loc (th d i))} {fB : Buf (Elt F) (rb.view.loc (th d i))} {Vv : S16x1024.Idx → F .f32}
    (hWa : ∀ x hx m, (ra.access (reg x hx m)).set ⊆ Wa) (hWb : ∀ x hx m, (rb.access (reg x hx m)).set ⊆ Wb) (hW : ∀ x hx m, (ob.access (reg x hx m)).set ⊆ W)
    (hV : ∀ z, sqd (ra.view.read (Elt F) fA (atR x.toNat hx (z 1))) (rb.view.read (Elt F) fB z) = Vv z)
    (m : ℕ) (hm : m + 32 ≤ 64) (k : TP F i α) :
    iprop(pts d i ra Wa fA ∗ pts d i rb Wb fB ∗ buf d i ob W Vv fun _ q => q < m)
      ⊢ iprop((iprop(pts d i ra Wa fA ∗ pts d i rb Wb fB ∗ buf d i ob W Vv fun _ q => q < m + 32) -∗ WP d i k Q)
        -∗ WP d i (sec ra rb ob x hx m k) Q) := by
  unfold sec
  iintro ⟨Ha, Hb, Ho⟩ Hk
  iapply (wp_aloads (hWa x hx) 32 m _) $$ Ha
  iintro Ha
  iapply (Scf.wp_for_bind frame (wpE (defs₀ (F := F)) 𝒱₀ (th d i) none) Set.univ _ _ _ colOk ⟨⟩ _
    (fun t _ => iprop(pts d i rb Wb fB ∗ buf d i ob W Vv fun p q => q < m ∨ (p < t ∧ q < m + 32))) (fun t _ => by
      iintro H
      iapply (wp_steps (S := fun p q => q < m ∨ (p < t.val ∧ q < m + 32)) (hWb _ (col_lt t)) (hW _ (col_lt t)) (fun q => hV (atR _ (col_lt t) q)) 32 m hm) $$ H
      iintro ⟨Hb, Ho⟩
      isplitl [Hb]; · iexact Hb
      iapply (buf_mono fun z hz => ⟨by
        have := iv_col t
        rcases hz with h | h
        · exact .inl (.inl h)
        · by_cases hq : (z 1).val / 16 < m
          · exact .inl (.inl hq)
          · by_cases hp : (z 0).val < t.val
            · exact .inl (.inr ⟨hp, h.2⟩)
            · exact .inr ⟨by omega, by omega, h.2⟩, rfl⟩) $$ Ho)) $$ [Hb Ho]
  · isplitl [Hb]; · iexact Hb
    iapply (buf_mono fun z hz => ⟨by rcases hz with h | h; exact h; omega, rfl⟩) $$ Ho
  iintro %_ ⟨Hb, Ho⟩
  iapply Hk
  isplitl [Ha]; · iexact Ha
  isplitl [Hb]; · iexact Hb
  iapply (buf_mono fun z hz => ⟨.inr ⟨by have := (z 0).isLt; show (z 0).val < k0_t2_loop.trips; rw [col_trips]; exact this, hz⟩, rfl⟩) $$ Ho

end Cert.KernelIdeal.Roll
end
-- ==== Proof.Copies.lean ====
/- The tile's copies: one copy on a semaphore of its own, issued and waited for. -/
module

public import proofs.«01_k».proof.Proof.Step

@[expose] public section

noncomputable section

namespace Cert.KernelIdeal.Roll

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Facts]

open Facts K0.R1.Facts₀ K0.R2.Facts₀ K0.R3.Facts₀ K0.R4.Facts₀ Shapes1.Facts₀

variable {d : Dev nD} {i : grid0.Coords} {O : CellTallies nD τ sig (HIx 1)} {W : Waits sig (HIx 1)}

/-- The semaphore at zero. -/
abbrev zero (d : Dev nD) (i : grid0.Coords) (sm : DmaSems sig S_) : sProp (MM F) := semVal (th d i, .dma sm.sem) 0

/-- A copy of `N` in flight on a semaphore, delivering `D`. -/
abbrev fly (d : Dev nD) (i : grid0.Coords) (sm : DmaSems sig S_) (N : ℕ) (D : sProp (MM F)) : sProp (MM F) :=
  Transfers.Flight countersEmb (th d i) (.dma sm.sem) (default : HIx 1) N D

/-- The wait for a copy in flight. -/
theorem wp_wait {sm : DmaSems sig S_} {N : ℕ} {D : sProp (MM F)} {sp sp' : Space} {s s' : Shape} {e e' : EltTy} {κ : Kind}
    {srcw : Memref sig .scVector sp' s' e'} {dstw : Memref sig κ sp s e} {hsrc : srcw.view.WordExact} {hdst : dstw.view.WordExact}
    (hN : dstw.view.dmaCredit = N) {α : Type} {k : PUnit → TP F i α} {Q : α → sProp (MM F)} :
    iprop(fly d i sm N D ∗ Ow d i O W)
      ⊢ iprop((iprop(D ∗ zero d i sm ∗ Ow d i O W) -∗ WP d i (k ⟨⟩) Q) -∗ WP d i (.op (.waitDma2 sm.sem srcw dstw hsrc hdst) k) Q) := by
  unfold Ow
  iintro ⟨Hf, #Hmw, %W', %hW', HO⟩ Hk
  iapply (Transfers.wp_waitLocalO countersEmb 𝒱₀ (th d i) none (default : HIx 1) hN) $$ [Hf HO]
  · isplitl [Hf]; · iexact Hf
    isplitl [HO]; · iexact HO
    iapply (Transfers.MayWaits.elim (SemLoc.dma sm.sem)) $$ Hmw
  iintro ⟨HD, Hz, HO⟩
  iapply Hk
  isplitl [HD]; · iexact HD
  isplitl [Hz]; · iexact Hz
  isplitr; · iexact Hmw
  iexists _
  isplitr
  swap; · iexact HO
  ipureintro
  intro p hp
  rcases Finset.mem_insert.mp hp with hp | hp
  · exact .inr (hp ▸ rfl)
  · exact hW' p hp

omit [FloatOps F] [Facts] in
/-- Contents that read alike are alike on the elements of the view. -/
theorem eq_of_read {sp : Space} {s : Shape} {e : EltTy} (v : View sig .scVector sp s e) (f g : v.ty.Contents (Elt F)) (h : ∀ ξ, v.read (Elt F) f ξ = v.read (Elt F) g ξ) :
    ∀ x ∈ v.set, f x = g x := by
  intro x hx
  obtain ⟨ξ, -, rfl⟩ := Finset.mem_map.mp hx
  have := h ξ
  rw [View.read_apply, View.read_apply] at this
  exact (cast_inj _).mp this

/-- The start of a copy that leaves its destination at `G`. -/
theorem wp_send {sm : DmaSems sig S_} {sp sp' : Space} {s : Shape} {e : EltTy}
    {src : Memref sig .scVector sp s e} {dst : Memref sig .scVector sp' s e} {hsrc : src.view.WordExact} {hdst : dst.view.WordExact}
    {hsem : (DmaTarget.here dst : DmaTarget nD τ sig (.scVector ((i 0).castLE hcore0) ((i 1).castLE hsub0)) sp' s e).Typed sp (.dma sm.sem)} {q : PosShare TreeShare}
    {fs : Buf (Elt F) (src.view.loc (th d i))} {fd G : Buf (Elt F) (dst.view.loc (th d i))} (hs : 0 < s.numel)
    (hG : ∀ ξ, dst.view.read (Elt F) G ξ = src.view.read (Elt F) fs ξ) {α : Type} {k : PUnit → TP F i α} {Q : α → sProp (MM F)} :
    iprop((src.view.loc (th d i) ↦[src.view.set]{q} fs) ∗ pts d i dst dst.view.set fd ∗ zero d i sm)
      ⊢ iprop((fly d i sm dst.view.dmaCredit iprop(pts d i dst dst.view.set G ∗ src.view.loc (th d i) ↦[src.view.set]{q} fs) -∗ WP d i (k ⟨⟩) Q)
        -∗ WP d i (.op (.enqueueDma src (.here dst) (.dma sm.sem) hsrc hdst hsem) k) Q) := by
  iintro H Hk
  iapply (Transfers.wp_dmaLocal countersEmb 𝒱₀ (th d i) none (default : HIx 1) dst.view.dmaCredit rfl (View.dmaCredit_pos _ hs) (Finset.Subset.refl _)) $$ H
  iintro Hf
  iapply Hk
  iapply (Transfers.Flight_mono countersEmb (th d i) (show _ ⊢ _ by
    iintro ⟨Hd, Hs⟩
    isplitl [Hd]
    · iapply (Entails.of_eq (pointsTo_congr (eq_of_read dst.view _ _ fun ξ => (congrFun (View.read_write_univ _ _) ξ).trans (hG ξ).symm))) $$ Hd
    · iexact Hs)) $$ Hf

/-! ## Runs of indices -/

/-- The indices below `k`. -/
def landed {n : ℕ} (k : ℕ) : Finset (Fin n) := Finset.univ.filter fun t => t.val < k

omit [FloatOps F] [Facts] in
theorem bigSep_landed {n k : ℕ} (hk : k < n) (Φ : Fin n → sProp (MM F)) : bigSep (landed (k + 1)) Φ = iprop(Φ ⟨k, hk⟩ ∗ bigSep (landed k) Φ) := by
  have h : (landed (k + 1) : Finset (Fin n)) = insert ⟨k, hk⟩ (landed k) := by
    ext t
    simp only [landed, Finset.mem_filter, Finset.mem_univ, true_and, Finset.mem_insert, Fin.ext_iff]
    omega
  rw [h]
  exact bigSep_insert (by simp [landed])

omit [FloatOps F] [Facts] in
theorem bigSep_landed_zero {n : ℕ} (Φ : Fin n → sProp (MM F)) : bigSep (landed 0) Φ = iprop(emp) := by
  have h : (landed 0 : Finset (Fin n)) = ∅ := by ext t; simp [landed]
  rw [h]; rfl

omit [FloatOps F] [Facts] in
theorem landed_all {n : ℕ} : (landed n : Finset (Fin n)) = Finset.univ := by ext t; simp [landed]

omit [FloatOps F] [Facts] in
theorem bigSep_pending {n k : ℕ} (hk : k < n) (Φ : Fin n → sProp (MM F)) :
    bigSep (Transfers.pending k) Φ = iprop(Φ ⟨k, hk⟩ ∗ bigSep (Transfers.pending (k + 1)) Φ) := by
  rw [Transfers.pending_succ hk]
  exact bigSep_insert (Transfers.not_mem_pending_succ hk)

end Cert.KernelIdeal.Roll
end
-- ==== Proof.Off.lean ====
/- A block against another: sixteen rows computed, each copied out while the next is computed. -/
module

public import proofs.«01_k».proof.Proof.Copies

@[expose] public section

noncomputable section

namespace Cert.KernelIdeal.Roll

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Facts]

open Facts K0.R1.Facts₀ K0.R2.Facts₀ K0.R3.Facts₀ K0.R4.Facts₀ Shapes1.Facts₀

variable {d : Dev nD} {i : grid0.Coords} {O : CellTallies nD τ sig (HIx 1)} {W : Waits sig (HIx 1)}

theorem pair_trips : k0_t1_loop.trips = 8 := by decide

/-- Where row `2 g + b`'s sixteen rows of the result go. -/
abbrev chunk (h1 : k0_cond1 i = 1#1) (out : Memref sig .scVector .hbm S8128x1024 .f32) (g : Fin k0_t1_loop.trips) (b : Fin 2) : Memref sig .scVector .hbm S16x1024 .f32 :=
  out.slice (Rect.unit (s := S8128x1024) (k0_off131 i g (BitVec.ofNat 32 b.val)) S16x1024.size (k0_off131_inb i g h1 b)) (fun _ => rfl)

/-- The buffer at some contents. -/
def own {sp : Space} {s : Shape} {e : EltTy} (d : Dev nD) (i : grid0.Coords) (m : Memref sig .scVector sp s e) : sProp (MM F) := iprop(∃ f, pts d i m m.view.set f)

section
variable (h1 : k0_cond1 i = 1#1) (out : Memref sig .scVector .hbm S8128x1024 .f32) (G f₀ : Buf (Elt F) (out.view.loc (th d i)))
  (ob : Memref sig .scVector .vmem S16x1024 .f32) (sw : DmaSems sig S_) (b : Fin 2)

/-- A chunk of the result, holding `G`. -/
abbrev chunkAt (g : Fin k0_t1_loop.trips) : sProp (MM F) := pts d i (chunk h1 out g b) (chunk h1 out g b).view.set G

/-- What a copy out of `ob` counts. -/
abbrev obN : ℕ := (out.slice (Rect.unit (s := S8128x1024) ![0, 0] S16x1024.size inb_S8128x1024_S16x1024_0_0) (fun _ => rfl)).view.dmaCredit

/-- One of the two buffers before trip `n`: free before the first, its copy out in flight after. -/
def side : ℕ → sProp (MM F)
  | 0 => iprop(own d i ob ∗ zero d i sw)
  | n + 1 => iprop(∃ hn : n < k0_t1_loop.trips, fly d i sw (obN out) iprop(chunkAt h1 out G b ⟨n, hn⟩ ∗ own d i ob) ∗ bigSep (landed n) (chunkAt h1 out G b))

/-- The same with the chunks still to be written. -/
def sideAll (n : ℕ) : sProp (MM F) := iprop(side h1 out G ob sw b n ∗ bigSep (Transfers.pending n) (chunkAt h1 out f₀ b))
end

section
variable {h1 : k0_cond1 i = 1#1} {out : Memref sig .scVector .hbm S8128x1024 .f32} {G f₀ : Buf (Elt F) (out.view.loc (th d i))}
  {ob : Memref sig .scVector .vmem S16x1024 .f32} {hob : ob.IsWhole} {sw : DmaSems sig S_} {b : Fin 2}

theorem wp_obWait {n : ℕ} (hn : n < k0_t1_loop.trips) {α : Type} {k : TP F i α} {Q : α → sProp (MM F)} :
    iprop(side h1 out G ob sw b (n + 1) ∗ Ow d i O W)
      ⊢ iprop((iprop(own d i ob ∗ zero d i sw ∗ bigSep (landed (n + 1)) (chunkAt h1 out G b) ∗ Ow d i O W) -∗ WP d i k Q)
        -∗ WP d i (obWait out ob hob sw k) Q) := by
  unfold obWait side
  rw [bigSep_landed hn]
  iintro ⟨⟨%_, Hf, Hl⟩, HO⟩ Hk
  iapply (wp_wait rfl) $$ [Hf HO]
  · isplitl [Hf]; · iexact Hf
    iexact HO
  iintro ⟨⟨Hc, Hob⟩, Hz, HO⟩
  iapply Hk
  isplitl [Hob]; · iexact Hob
  isplitl [Hz]; · iexact Hz
  isplitr [HO]
  · isplitl [Hc]; · iexact Hc
    iexact Hl
  iexact HO

theorem pairRow_val (g : Fin k0_t1_loop.trips) (b : Fin 2) : (pairRow g (BitVec.ofNat 32 b.val)).toNat = 2 * g.val + b.val := by revert g b; decide +kernel

theorem guard_iff (g : Fin k0_t1_loop.trips) (b : Fin 2) :
    (Scalar.cmpi .ne (Scalar.extui (Scalar.cmpi .sge (pairRow g (BitVec.ofNat 32 b.val)) 2#32)) 0#32 = 1#1) ↔ 0 < g.val := by revert g b; decide +kernel

/-- The wait before a buffer is used again. -/
theorem wp_guard (g : Fin k0_t1_loop.trips) {α : Type} {k : TP F i α} {Q : α → sProp (MM F)} :
    iprop(side h1 out G ob sw b g.val ∗ Ow d i O W)
      ⊢ iprop((iprop(own d i ob ∗ zero d i sw ∗ bigSep (landed g.val) (chunkAt h1 out G b) ∗ Ow d i O W) -∗ WP d i k Q)
        -∗ WP d i ((if Scalar.cmpi .ne (Scalar.extui (Scalar.cmpi .sge (pairRow g (BitVec.ofNat 32 b.val)) 2#32)) 0#32 = 1#1 then obWait out ob hob sw (.ret ⟨⟩)
    else .ret PUnit.unit) >>= fun _ => k) Q) := by
  by_cases hg : 0 < g.val
  · rw [if_pos ((guard_iff g b).mpr hg)]
    obtain ⟨⟨n, hn⟩, rfl⟩ : ∃ n : {n : ℕ // n + 1 < k0_t1_loop.trips}, g = ⟨n.val + 1, n.2⟩ := ⟨⟨g.val - 1, by have := g.isLt; omega⟩, Fin.ext (by show g.val = g.val - 1 + 1; omega)⟩
    exact wp_obWait (hob := hob) (Nat.lt_of_succ_lt hn)
  · rw [if_neg (fun h => hg ((guard_iff g b).mp h))]
    have hg0 : g.val = 0 := by omega
    rw [hg0, bigSep_landed_zero]
    unfold side
    iintro ⟨⟨Hob, Hz⟩, HO⟩ Hk
    iapply Hk
    isplitl [Hob]; · iexact Hob
    isplitl [Hz]; · iexact Hz
    isplitr; · iempintro
    iexact HO

variable {ra rb : Memref sig .scVector .vmem S16x1024 .f32} {fA : Buf (Elt F) (ra.view.loc (th d i))} {fB : Buf (Elt F) (rb.view.loc (th d i))}

theorem wp_half (g : Fin k0_t1_loop.trips) (hG : ∀ ξ : S16x1024.Idx, (chunk h1 out g b).view.read (Elt F) G ξ
      = sqd (ra.view.read (Elt F) fA (atR (pairRow g (BitVec.ofNat 32 b.val)).toNat (pairRow_lt g b) (ξ 1))) (rb.view.read (Elt F) fB ξ))
    {α : Type} {k : TP F i α} {Q : α → sProp (MM F)} :
    iprop(sideAll h1 out G f₀ ob sw b g.val ∗ pts d i ra ra.view.set fA ∗ pts d i rb rb.view.set fB ∗ Ow d i O W)
      ⊢ iprop((iprop(sideAll h1 out G f₀ ob sw b (g.val + 1) ∗ pts d i ra ra.view.set fA ∗ pts d i rb rb.view.set fB ∗ Ow d i O W) -∗ WP d i k Q)
        -∗ WP d i (half h1 out ra rb ob hob sw g b k) Q) := by
  unfold half sideAll
  rw [bigSep_pending g.isLt]
  iintro ⟨⟨Hs, Hc, Hp⟩, Ha, Hb, HO⟩ Hk
  iapply (wp_guard g) $$ [Hs HO]
  · isplitl [Hs]; · iexact Hs
    iexact HO
  iintro ⟨Hob, Hz, Hl, HO⟩
  unfold own
  icases Hob with ⟨%f, Hob⟩
  have sub (m : Memref sig .scVector .vmem S16x1024 .f32) : ∀ x hx n, (m.access (reg x hx n)).set ⊆ m.view.set := fun x hx n => View.set_slice_subset _ _
  iapply (wp_sec (sub ra) (sub rb) (sub ob) (fun z => rfl) 0 (by omega) _) $$ [Ha Hb Hob]
  · isplitl [Ha]; · iexact Ha
    isplitl [Hb]; · iexact Hb
    unfold buf
    iexists f
    isplitl [Hob]; · iexact Hob
    ipureintro
    intro z hz
    exact absurd hz (Nat.not_lt_zero _)
  iintro ⟨Ha, Hb, Hob⟩
  iapply (wp_sec (sub ra) (sub rb) (sub ob) (fun z => rfl) 32 (by omega) _) $$ [Ha Hb Hob]
  · isplitl [Ha]; · iexact Ha
    isplitl [Hb]; · iexact Hb
    iexact Hob
  iintro ⟨Ha, Hb, Hob⟩
  unfold buf
  icases Hob with ⟨%f', Hob, %hf'⟩
  iapply (wp_send (src := ob) (dst := chunk h1 out g b) (G := G) (by decide) (fun ξ => (hG ξ).trans (hf' ξ (by have : (ξ 1).val < 1024 := (ξ 1).isLt; omega)).symm)) $$ [Hob Hc Hz]
  · isplitl [Hob]; · iexact Hob
    isplitl [Hc]; · iexact Hc
    iexact Hz
  iintro Hf
  iapply Hk
  isplitr [Ha Hb HO]
  · isplitr [Hp]
    · unfold side
      iexists g.isLt
      isplitl [Hf]
      · iapply (Transfers.Flight_mono countersEmb (th d i) (show _ ⊢ _ by
          iintro ⟨Hd, Hs⟩
          isplitl [Hd]; · iexact Hd
          unfold own
          iexists f'; iexact Hs)) $$ Hf
      · iexact Hl
    · iexact Hp
  isplitl [Ha]; · iexact Ha
  isplitl [Hb]; · iexact Hb
  iexact HO
end

variable {h1 : k0_cond1 i = 1#1} {out : Memref sig .scVector .hbm S8128x1024 .f32} {G f₀ : Buf (Elt F) (out.view.loc (th d i))}
  {ob0 ob1 : Memref sig .scVector .vmem S16x1024 .f32} {hob0 : ob0.IsWhole} {hob1 : ob1.IsWhole} {sw0 sw1 : DmaSems sig S_}
  {ra rb : Memref sig .scVector .vmem S16x1024 .f32} {fA : Buf (Elt F) (ra.view.loc (th d i))} {fB : Buf (Elt F) (rb.view.loc (th d i))}

theorem wp_offDiag (hG : ∀ g b, ∀ ξ : S16x1024.Idx, (chunk h1 out g b).view.read (Elt F) G ξ
      = sqd (ra.view.read (Elt F) fA (atR (pairRow g (BitVec.ofNat 32 b.val)).toNat (pairRow_lt g b) (ξ 1))) (rb.view.read (Elt F) fB ξ))
    {Q : PUnit → sProp (MM F)} :
    iprop((bigSep Finset.univ (chunkAt h1 out f₀ 0)) ∗ (bigSep Finset.univ (chunkAt h1 out f₀ 1)) ∗ own d i ob0 ∗ own d i ob1 ∗ zero d i sw0 ∗ zero d i sw1
        ∗ pts d i ra ra.view.set fA ∗ pts d i rb rb.view.set fB ∗ Ow d i O W)
      ⊢ iprop((iprop((bigSep Finset.univ (chunkAt h1 out G 0)) ∗ (bigSep Finset.univ (chunkAt h1 out G 1)) ∗ own d i ob0 ∗ own d i ob1 ∗ zero d i sw0 ∗ zero d i sw1
        ∗ pts d i ra ra.view.set fA ∗ pts d i rb rb.view.set fB ∗ Ow d i O W) -∗ Q ⟨⟩)
        -∗ WP d i (offDiag h1 out ra rb ob0 hob0 ob1 hob1 sw0 sw1) Q) := by
  unfold offDiag
  iintro ⟨Hc0, Hc1, Ho0, Ho1, Hz0, Hz1, Ha, Hb, HO⟩ Hk
  iapply (Scf.wp_for_bind frame (wpE (defs₀ (F := F)) 𝒱₀ (th d i) none) Set.univ _ _ _ pairOk 0#32 _
    (fun n _ => iprop(sideAll h1 out G f₀ ob0 sw0 0 n ∗ sideAll h1 out G f₀ ob1 sw1 1 n ∗ pts d i ra ra.view.set fA ∗ pts d i rb rb.view.set fB ∗ Ow d i O W))
    (fun g _ => by
      unfold pair
      iintro ⟨H0, H1, Ha, Hb, HO⟩
      iapply (wp_half g (hG g 0)) $$ [H0 Ha Hb HO]
      · isplitl [H0]; · iexact H0
        isplitl [Ha]; · iexact Ha
        isplitl [Hb]; · iexact Hb
        iexact HO
      iintro ⟨H0, Ha, Hb, HO⟩
      iapply (wp_half g (hG g 1)) $$ [H1 Ha Hb HO]
      · isplitl [H1]; · iexact H1
        isplitl [Ha]; · iexact Ha
        isplitl [Hb]; · iexact Hb
        iexact HO
      iintro ⟨H1, Ha, Hb, HO⟩
      iapply wp_done
      isplitl [H0]; · iexact H0
      isplitl [H1]; · iexact H1
      isplitl [Ha]; · iexact Ha
      isplitl [Hb]; · iexact Hb
      iexact HO)) $$ [Hc0 Hc1 Ho0 Ho1 Hz0 Hz1 Ha Hb HO]
  · unfold sideAll side
    rw [Transfers.pending_zero]
    isplitl [Ho0 Hz0 Hc0]
    · isplitr [Hc0]
      · isplitl [Ho0]; · iexact Ho0
        iexact Hz0
      · iexact Hc0
    isplitl [Ho1 Hz1 Hc1]
    · isplitr [Hc1]
      · isplitl [Ho1]; · iexact Ho1
        iexact Hz1
      · iexact Hc1
    isplitl [Ha]; · iexact Ha
    isplitl [Hb]; · iexact Hb
    iexact HO
  iintro %_ ⟨H0, H1, Ha, Hb, HO⟩
  unfold sideAll
  icases H0 with ⟨H0, -⟩
  icases H1 with ⟨H1, -⟩
  iapply (wp_obWait (n := 7) (h1 := h1) (G := G) (b := 0) (by decide)) $$ [H0 HO]
  · isplitl [H0]; · iexact H0
    iexact HO
  iintro ⟨Ho0, Hz0, Hc0, HO⟩
  iapply (wp_obWait (n := 7) (h1 := h1) (G := G) (b := 1) (by decide)) $$ [H1 HO]
  · isplitl [H1]; · iexact H1
    iexact HO
  iintro ⟨Ho1, Hz1, Hc1, HO⟩
  iapply wp_done
  iapply Hk
  isplitl [Hc0]; · rw [← landed_all (n := k0_t1_loop.trips)]; iexact Hc0
  isplitl [Hc1]; · rw [← landed_all (n := k0_t1_loop.trips)]; iexact Hc1
  isplitl [Ho0]; · iexact Ho0
  isplitl [Ho1]; · iexact Ho1
  isplitl [Hz0]; · iexact Hz0
  isplitl [Hz1]; · iexact Hz1
  isplitl [Ha]; · iexact Ha
  isplitl [Hb]; · iexact Hb
  iexact HO

end Cert.KernelIdeal.Roll
end
-- ==== Proof.Tri.lean ====
/- A block against itself: a strip of rows at a time, each row copied out as it is computed. -/
module

public import proofs.«01_k».proof.Proof.Off

@[expose] public section

noncomputable section

namespace Cert.KernelIdeal.Roll

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Facts]

open Facts K0.R1.Facts₀ K0.R2.Facts₀ K0.R3.Facts₀ K0.R4.Facts₀ Shapes1.Facts₀

variable {d : Dev nD} {i : grid0.Coords} {O : CellTallies nD τ sig (HIx 1)} {W : Waits sig (HIx 1)}

omit [FloatOps F] [Facts] in
/-- Disjoint pieces of an array, each at some contents, are their union at some contents. -/
theorem gather {T : Type} {ℓ : Loc nD τ sig} (S : Finset T) (K : T → Finset (Idx ℓ)) (f₀ : Buf (Elt F) ℓ)
    (h : ∀ t ∈ S, ∀ t' ∈ S, t ≠ t' → Disjoint (K t) (K t')) :
    bigSep S (fun t => iprop(∃ f, ℓ ↦[K t]{fullShare} f)) ⊢ (iprop(∃ g, ℓ ↦[S.biUnion K]{fullShare} g) : sProp (MM F)) := by
  classical
  induction S using Finset.induction_on with
  | empty =>
    iintro -
    iexists f₀
    rw [Finset.biUnion_empty, pointsTo_empty]; iempintro
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine (show iprop((∃ f, ℓ ↦[K t]{fullShare} f) ∗ bigSep S (fun t => iprop(∃ f, ℓ ↦[K t]{fullShare} f))) ⊢ _ from ?_)
    iintro ⟨⟨%f, Ht⟩, HS⟩
    ihave H := (ih fun t₁ h₁ t₂ h₂ => h t₁ (Finset.mem_insert_of_mem h₁) t₂ (Finset.mem_insert_of_mem h₂)) $$ HS
    icases H with ⟨%g, HS⟩
    iexists _
    iapply (pointsTo_join hd)
    isplitl [Ht]; · iexact Ht
    iexact HS

/-! ## The rows of a buffer -/

/-- Row `x` of a 16-row buffer, as a memref. -/
abbrev rowOf (ob : Memref sig .scVector .vmem S16x1024 .f32) (x : BitVec 32) (hx : x.toNat < 16) : Memref sig .scVector .vmem S1x1024 .f32 :=
  ob.slice (Rect.unit (s := S16x1024) (line x) S1x1024.size (line_inb hx)) (fun _ => rfl)

theorem line_emb {x : BitVec 32} (hx : x.toNat < 16) (ξ : S1x1024.Idx) :
    (Rect.unit (s := S16x1024) (line x) S1x1024.size (line_inb hx)).emb ξ = atR x.toNat hx (ξ 1) := by
  funext a
  apply Fin.ext
  match a with
  | 0 =>
    have : (ξ 0).val < 1 := (ξ 0).isLt
    show x.toNat + 1 * (ξ 0).val = x.toNat
    omega
  | 1 =>
    show 0 + 1 * (ξ 1).val = (ξ 1).val
    omega

theorem mem_line {x : BitVec 32} (hx : x.toNat < 16) (z : S16x1024.Idx) :
    z ∈ (Rect.unit (s := S16x1024) (line x) S1x1024.size (line_inb hx)).set ↔ (z 0).val = x.toNat := by
  rw [Rect.mem_set_unit]
  constructor
  · intro h
    have h0 : x.toNat ≤ (z 0).val ∧ (z 0).val < x.toNat + 1 := h 0
    omega
  · intro h0 a
    match a with
    | 0 => show x.toNat ≤ (z 0).val ∧ (z 0).val < x.toNat + 1; omega
    | 1 => show 0 ≤ (z 1).val ∧ (z 1).val < 0 + 1024; have : (z 1).val < 1024 := (z 1).isLt; omega

theorem rowOf_set (ob : Memref sig .scVector .vmem S16x1024 .f32) {x : BitVec 32} (hx : x.toNat < 16) :
    (rowOf ob x hx).view.set = (Rect.unit (s := S16x1024) (line x) S1x1024.size (line_inb hx)).set.map ob.view.emb :=
  View.set_slice ob.view (Rect.unit (s := S16x1024) (line x) S1x1024.size (line_inb hx))

theorem read_row (ob : Memref sig .scVector .vmem S16x1024 .f32) (f : Buf (Elt F) (ob.view.loc (th d i))) {x : BitVec 32} (hx : x.toNat < 16) (ξ : S1x1024.Idx) :
    (rowOf ob x hx).view.read (Elt F) f ξ = ob.view.read (Elt F) f (atR x.toNat hx (ξ 1)) := by
  rw [← line_emb hx ξ]; rfl

theorem reg_sub_line (ob : Memref sig .scVector .vmem S16x1024 .f32) {x : BitVec 32} (hx : x.toNat < 16) {m : ℕ} (hm : m < 64) : (ob.access (reg x hx m)).set ⊆ (rowOf ob x hx).view.set := by
  rw [rowOf_set]
  refine (Eq.subset (View.set_slice ob.view (reg x hx m))).trans ?_
  exact Finset.map_subset_map.mpr fun z hz => (mem_line hx z).mpr ((mem_reg hx hm z).mp hz).1

theorem rows_disjoint (ob : Memref sig .scVector .vmem S16x1024 .f32) {x y : BitVec 32} (hx : x.toNat < 16) (hy : y.toNat < 16) (h : x.toNat ≠ y.toNat) :
    Disjoint (rowOf ob x hx).view.set (rowOf ob y hy).view.set := by
  rw [rowOf_set, rowOf_set]
  exact (Finset.disjoint_map _).mpr (Finset.disjoint_left.mpr fun z hz hz' => h (((mem_line hx z).mp hz).symm.trans ((mem_line hy z).mp hz')))

section
variable {out : Memref sig .scVector .hbm S8128x1024 .f32} {off : TriOff} {hoff : ∀ r j a, off r j a + S1x1024.size a ≤ S8128x1024.size a}
  {G f₀ : Buf (Elt F) (out.view.loc (th d i))} {win ob : Memref sig .scVector .vmem S16x1024 .f32} {st : DmaSems sig S_} {fA : Buf (Elt F) (win.view.loc (th d i))}

/-- Where row `j` of strip `r` goes. -/
abbrev bit (out : Memref sig .scVector .hbm S8128x1024 .f32) (off : TriOff) (hoff : ∀ r j a, off r j a + S1x1024.size a ≤ S8128x1024.size a)
    (r : Fin k0_t6_loop.trips) (j : Fin (k0_t7_loop r).trips) : Memref sig .scVector .hbm S1x1024 .f32 :=
  out.slice (Rect.unit (s := S8128x1024) (off r j) S1x1024.size (hoff r j)) (fun _ => rfl)

/-- A row of a strip, holding `G`. -/
abbrev bitAt (out : Memref sig .scVector .hbm S8128x1024 .f32) (off : TriOff) (hoff : ∀ r j a, off r j a + S1x1024.size a ≤ S8128x1024.size a)
    (G : Buf (Elt F) (out.view.loc (th d i))) (r : Fin k0_t6_loop.trips) (j : Fin (k0_t7_loop r).trips) : sProp (MM F) :=
  pts d i (bit out off hoff r j) (bit out off hoff r j).view.set G

/-- Row `j` of the buffer, at some contents. -/
abbrev rowAny (d : Dev nD) (i : grid0.Coords) (ob : Memref sig .scVector .vmem S16x1024 .f32) (r : Fin k0_t6_loop.trips) (j : Fin (k0_t7_loop r).trips) : sProp (MM F) :=
  iprop(∃ f : Buf (Elt F) (ob.view.loc (th d i)), ob.view.loc (th d i) ↦[(rowOf ob (Scf.iv 0#32 1#32 j) (tri_lt r j)).view.set]{fullShare} f)

/-- What one row's copy counts. -/
abbrev bitN (out : Memref sig .scVector .hbm S8128x1024 .f32) : ℕ := (out.slice (Rect.unit (s := S8128x1024) ![0, 0] S1x1024.size inb_S8128x1024_S1x1024_0_0) (fun _ => rfl)).view.dmaCredit

/-- What the copies of a strip deliver. -/
abbrev strip (out : Memref sig .scVector .hbm S8128x1024 .f32) (off : TriOff) (hoff : ∀ r j a, off r j a + S1x1024.size a ≤ S8128x1024.size a)
    (G : Buf (Elt F) (out.view.loc (th d i))) (ob : Memref sig .scVector .vmem S16x1024 .f32) (r : Fin k0_t6_loop.trips) (j : Fin (k0_t7_loop r).trips) : sProp (MM F) :=
  iprop(bitAt out off hoff G r j ∗ rowAny d i ob r j)

/-- A strip's copies, `k` issued and `u` units waited for. -/
abbrev group (out : Memref sig .scVector .hbm S8128x1024 .f32) (off : TriOff) (hoff : ∀ r j a, off r j a + S1x1024.size a ≤ S8128x1024.size a)
    (G : Buf (Elt F) (out.view.loc (th d i))) (ob : Memref sig .scVector .vmem S16x1024 .f32) (st : DmaSems sig S_) (r : Fin k0_t6_loop.trips) (k u : ℕ) : sProp (MM F) :=
  Transfers.Batch countersEmb (th d i) (.dma st.sem) (default : HIx 1) (bitN out) (strip out off hoff G ob r) k u

theorem wp_triCol (r : Fin k0_t6_loop.trips) (j : Fin (k0_t7_loop r).trips)
    (hG : ∀ ξ : S1x1024.Idx, (bit out off hoff r j).view.read (Elt F) G ξ
      = sqd (win.view.read (Elt F) fA (atR (Scf.iv 0#32 1#32 r).toNat (row_lt r) (ξ 1))) (win.view.read (Elt F) fA (atR (otherRow r j).toNat (otherRow_lt r j) (ξ 1))))
    {Q : PUnit → sProp (MM F)} :
    iprop(group out off hoff G ob st r j.val 0 ∗ bitAt out off hoff f₀ r j ∗ rowAny d i ob r j ∗ pts d i win win.view.set fA)
      ⊢ iprop((iprop(group out off hoff G ob st r (j.val + 1) 0 ∗ pts d i win win.view.set fA) -∗ Q ⟨⟩) -∗ WP d i (triCol out off hoff win ob st r j) Q) := by
  unfold triCol
  iintro ⟨Hg, Hc, ⟨%f, Ho⟩, Hw⟩ Hk
  iapply (wp_tsteps (W := (rowOf ob (Scf.iv 0#32 1#32 j) (tri_lt r j)).view.set) (S := fun _ _ => False)
    (Vv := fun z => sqd (win.view.read (Elt F) fA (atR (Scf.iv 0#32 1#32 r).toNat (row_lt r) (z 1))) (win.view.read (Elt F) fA (atR (otherRow r j).toNat (otherRow_lt r j) (z 1))))
    (fun x hx n => View.set_slice_subset _ _) (fun m hm => reg_sub_line ob _ hm) (fun q => rfl) _ 64 0 (by omega)) $$ [Ho Hw]
  · isplitl [Hw]; · iexact Hw
    unfold buf
    iexists f
    isplitl [Ho]; · iexact Ho
    ipureintro
    exact fun z hz => hz.elim
  unfold buf
  iintro ⟨Hw, %f', Ho, %hf'⟩
  iapply (Transfers.wp_dmaBatch countersEmb 𝒱₀ (th d i) none (src := rowOf ob (Scf.iv 0#32 1#32 j) (tri_lt r j)) (dst := bit out off hoff r j)
    (D := strip out off hoff G ob r) (fd := f₀) (default : HIx 1) (bitN out) rfl (Finset.Subset.refl _) j.isLt (Nat.zero_le _) (show _ ⊢ _ by
      iintro ⟨Hd, Hs⟩
      isplitl [Hd]
      · iapply (Entails.of_eq (pointsTo_congr (eq_of_read (bit out off hoff r j).view _ _ fun ξ => (congrFun (View.read_write_univ _ _) ξ).trans
          ((read_row ob f' (tri_lt r j) ξ).trans ((hf' (atR _ (tri_lt r j) (ξ 1)) (Or.inr ⟨rfl, Nat.zero_le _, by
            have : (ξ 1).val < 1024 := (ξ 1).isLt
            show (ξ 1).val / 16 < 0 + 64
            omega⟩)).trans (hG ξ).symm))))) $$ Hd
      · iexists f'; iexact Hs)) $$ [Ho Hc Hg]
  · isplitl [Ho]; · iexact Ho
    isplitl [Hc]; · iexact Hc
    iexact Hg
  iintro Hg
  iapply wp_done
  iapply Hk
  isplitl [Hg]; · iexact Hg
  iexact Hw

/-- A strip's copies after `n` of the waits. -/
def drain (out : Memref sig .scVector .hbm S8128x1024 .f32) (off : TriOff) (hoff : ∀ r j a, off r j a + S1x1024.size a ≤ S8128x1024.size a)
    (G : Buf (Elt F) (out.view.loc (th d i))) (ob : Memref sig .scVector .vmem S16x1024 .f32) (st : DmaSems sig S_) (r : Fin k0_t6_loop.trips) (n : ℕ) : sProp (MM F) :=
  if n < (k0_t7_loop r).trips then group out off hoff G ob st r (k0_t7_loop r).trips (n * bitN out)
  else iprop(bigSep Finset.univ (strip out off hoff G ob r) ∗ zero d i st)

theorem drain_all (r : Fin k0_t6_loop.trips) : drain out off hoff G ob st r (k0_t7_loop r).trips
    ⊢ iprop((bigSep Finset.univ (bitAt out off hoff G r) ∗ bigSep Finset.univ (rowAny d i ob r)) ∗ zero d i st) := by
  unfold drain
  rw [if_neg (Nat.lt_irrefl _), bigSep_sep']

theorem bitN_pos (out : Memref sig .scVector .hbm S8128x1024 .f32) : 0 < bitN out := View.dmaCredit_pos _ (show 0 < S1x1024.numel by decide)

theorem wp_triWait (r : Fin k0_t6_loop.trips) (j : Fin (k0_t7_loop r).trips) {Q : PUnit → sProp (MM F)} :
    iprop(drain out off hoff G ob st r j.val ∗ Ow d i O W)
      ⊢ iprop((iprop(drain out off hoff G ob st r (j.val + 1) ∗ Ow d i O W) -∗ Q ⟨⟩) -∗ WP d i (triWait out ob st) Q) := by
  unfold triWait drain Ow
  rw [if_pos j.isLt]
  iintro ⟨Hg, #Hmw, %W', %hW', HO⟩ Hk
  have hIn : ∀ p ∈ insert (SemLoc.dma st.sem, (default : HIx 1)) W', p ∈ W ∨ p.2 = none := fun p hp => by
    rcases Finset.mem_insert.mp hp with hp | hp
    · exact .inr (hp ▸ rfl)
    · exact hW' p hp
  by_cases hj : j.val + 1 < (k0_t7_loop r).trips
  · rw [if_pos hj]
    iapply (Transfers.wp_waitBatchO countersEmb 𝒱₀ (th d i) none (N := bitN out) (D := strip out off hoff G ob r) (default : HIx 1) rfl (by
      have := Nat.mul_lt_mul_of_pos_right hj (bitN_pos out)
      rw [Nat.mul_comm (bitN out)]; rw [Nat.add_mul, Nat.one_mul] at this; exact this)) $$ [Hg HO]
    · isplitl [Hg]; · iexact Hg
      isplitl [HO]; · iexact HO
      iapply (Transfers.MayWaits.elim (SemLoc.dma st.sem)) $$ Hmw
    iintro ⟨Hg, HO⟩
    iapply wp_done
    iapply Hk
    isplitl [Hg]; · rw [Nat.add_mul, Nat.one_mul]; iexact Hg
    isplitr; · iexact Hmw
    iexists _
    isplitr
    swap; · iexact HO
    ipureintro; exact hIn
  · rw [if_neg hj]
    iapply (Transfers.wp_waitBatchLastO countersEmb 𝒱₀ (th d i) none (N := bitN out) (D := strip out off hoff G ob r) (default : HIx 1) rfl (bitN_pos out) (by
      have h : j.val + 1 = (k0_t7_loop r).trips := by have := j.isLt; omega
      rw [← h, Nat.mul_comm (bitN out), Nat.add_mul, Nat.one_mul])) $$ [Hg HO]
    · isplitl [Hg]; · iexact Hg
      isplitl [HO]; · iexact HO
      iapply (Transfers.MayWaits.elim (SemLoc.dma st.sem)) $$ Hmw
    iintro ⟨Hd, Hz, HO⟩
    iapply wp_done
    iapply Hk
    isplitl [Hd Hz]
    · isplitl [Hd]; · iexact Hd
      iexact Hz
    isplitr; · iexact Hmw
    iexists _
    isplitr
    swap; · iexact HO
    ipureintro; exact hIn

theorem trips_pos (r : Fin k0_t6_loop.trips) : 0 < (k0_t7_loop r).trips := by revert r; decide +kernel

theorem wp_triRow (r : Fin k0_t6_loop.trips)
    (hG : ∀ j, ∀ ξ : S1x1024.Idx, (bit out off hoff r j).view.read (Elt F) G ξ
      = sqd (win.view.read (Elt F) fA (atR (Scf.iv 0#32 1#32 r).toNat (row_lt r) (ξ 1))) (win.view.read (Elt F) fA (atR (otherRow r j).toNat (otherRow_lt r j) (ξ 1))))
    {Q : PUnit → sProp (MM F)} :
    iprop(bigSep Finset.univ (bitAt out off hoff f₀ r) ∗ own d i ob ∗ zero d i st ∗ pts d i win win.view.set fA ∗ Ow d i O W)
      ⊢ iprop((iprop(bigSep Finset.univ (bitAt out off hoff G r) ∗ own d i ob ∗ zero d i st ∗ pts d i win win.view.set fA ∗ Ow d i O W) -∗ Q ⟨⟩)
        -∗ WP d i (triRow out off hoff win ob st r) Q) := by
  unfold triRow own
  have hdis : ∀ t ∈ (Finset.univ : Finset (Fin (k0_t7_loop r).trips)), ∀ t' ∈ (Finset.univ : Finset (Fin (k0_t7_loop r).trips)), t ≠ t' →
      Disjoint (rowOf ob (Scf.iv 0#32 1#32 t) (tri_lt r t)).view.set (rowOf ob (Scf.iv 0#32 1#32 t') (tri_lt r t')).view.set :=
    fun t _ t' _ h => rows_disjoint ob _ _ (by rw [iv_tri, iv_tri]; exact fun e => h (Fin.ext e))
  have hsub : (Finset.univ : Finset (Fin (k0_t7_loop r).trips)).biUnion (fun t => (rowOf ob (Scf.iv 0#32 1#32 t) (tri_lt r t)).view.set) ⊆ ob.view.set :=
    Finset.biUnion_subset.mpr fun t _ => View.set_slice_subset _ _
  have hrow : ∀ f : Buf (Elt F) (ob.view.loc (th d i)), (bigSep Finset.univ fun j : Fin (k0_t7_loop r).trips =>
      iprop(ob.view.loc (th d i) ↦[(rowOf ob (Scf.iv 0#32 1#32 j) (tri_lt r j)).view.set]{fullShare} f)) ⊢ bigSep Finset.univ (rowAny d i ob r) :=
    fun f => bigSep_mono fun j _ => (show iprop(ob.view.loc (th d i) ↦[(rowOf ob (Scf.iv 0#32 1#32 j) (tri_lt r j)).view.set]{fullShare} f) ⊢ rowAny d i ob r j by
      iintro H
      iexists f
      iexact H)
  iintro ⟨Hc, ⟨%f, Ho⟩, Hz, Hw, HO⟩ Hk
  ihave Ho' := (pointsTo_split_subset hsub).1 $$ Ho
  icases Ho' with ⟨Ho, Hrest⟩
  ihave Ho := (Entails.of_eq (pointsTo_biUnion _ _ hdis)) $$ Ho
  ihave Hr := (hrow f) $$ Ho
  imod (Transfers.batch_alloc' countersEmb (th d i) (default : HIx 1) (bitN out) (strip out off hoff G ob r) (E := Set.univ)) $$ Hz with Hg
  iapply (Scf.wp_for_bind frame (wpE (defs₀ (F := F)) 𝒱₀ (th d i) none) Set.univ _ _ _ (triOk r) ⟨⟩ _
    (fun n _ => iprop(group out off hoff G ob st r n 0 ∗ bigSep (Transfers.pending n) (bitAt out off hoff f₀ r) ∗ bigSep (Transfers.pending n) (rowAny d i ob r)
      ∗ pts d i win win.view.set fA)) (fun j _ => by
      rw [bigSep_pending j.isLt, bigSep_pending j.isLt]
      iintro ⟨Hg, ⟨Hc, Hcs⟩, ⟨Ho, Hos⟩, Hw⟩
      iapply (wp_triCol r j (hG j)) $$ [Hg Hc Ho Hw]
      · isplitl [Hg]; · iexact Hg
        isplitl [Hc]; · iexact Hc
        isplitl [Ho]; · iexact Ho
        iexact Hw
      iintro ⟨Hg, Hw⟩
      isplitl [Hg]; · iexact Hg
      isplitl [Hcs]; · iexact Hcs
      isplitl [Hos]; · iexact Hos
      iexact Hw)) $$ [Hg Hc Hr Hw]
  · rw [Transfers.pending_zero]
    isplitl [Hg]; · iexact Hg
    isplitl [Hc]; · iexact Hc
    isplitl [Hr]; · iexact Hr
    iexact Hw
  iintro %_ ⟨Hg, -, -, Hw⟩
  iapply (Scf.wp_for_bind frame (wpE (defs₀ (F := F)) 𝒱₀ (th d i) none) Set.univ _ _ _ (triOk r) ⟨⟩ _
    (fun n _ => iprop(drain out off hoff G ob st r n ∗ Ow d i O W)) (fun j _ => by
      iintro H
      iapply (wp_triWait r j) $$ H
      iintro H
      iexact H)) $$ [Hg HO]
  · isplitl [Hg]
    · unfold drain; rw [if_pos (trips_pos r), Nat.zero_mul]; iexact Hg
    · iexact HO
  iintro %_ ⟨Hd, HO⟩
  ihave Hd := (drain_all r) $$ Hd
  icases Hd with ⟨⟨Hc, Hr⟩, Hz⟩
  ihave Ho := (gather Finset.univ _ f hdis) $$ Hr
  icases Ho with ⟨%g, Ho⟩
  iapply wp_done
  iapply Hk
  isplitl [Hc]; · iexact Hc
  isplitl [Ho Hrest]
  · iexists _
    iapply (pointsTo_join_subset hsub)
    isplitl [Ho]; · iexact Ho
    iexact Hrest
  isplitl [Hz]; · iexact Hz
  isplitl [Hw]; · iexact Hw
  iexact HO

theorem wp_tri (hG : ∀ r j, ∀ ξ : S1x1024.Idx, (bit out off hoff r j).view.read (Elt F) G ξ
      = sqd (win.view.read (Elt F) fA (atR (Scf.iv 0#32 1#32 r).toNat (row_lt r) (ξ 1))) (win.view.read (Elt F) fA (atR (otherRow r j).toNat (otherRow_lt r j) (ξ 1))))
    {Q : PUnit → sProp (MM F)} :
    iprop((bigSep Finset.univ fun r => bigSep Finset.univ (bitAt out off hoff f₀ r)) ∗ own d i ob ∗ zero d i st ∗ pts d i win win.view.set fA ∗ Ow d i O W)
      ⊢ iprop((iprop((bigSep Finset.univ fun r => bigSep Finset.univ (bitAt out off hoff G r)) ∗ own d i ob ∗ zero d i st ∗ pts d i win win.view.set fA ∗ Ow d i O W) -∗ Q ⟨⟩)
        -∗ WP d i (tri out off hoff win ob st) Q) := by
  unfold tri
  iintro ⟨Hc, Ho, Hz, Hw, HO⟩ Hk
  iapply (Scf.wp_for frame (wpE (defs₀ (F := F)) 𝒱₀ (th d i) none) Set.univ _ _ _ rowOk ⟨⟩ _
    (fun n _ => iprop(bigSep (landed n) (fun r => bigSep Finset.univ (bitAt out off hoff G r)) ∗ bigSep (Transfers.pending n) (fun r => bigSep Finset.univ (bitAt out off hoff f₀ r))
      ∗ own d i ob ∗ zero d i st ∗ pts d i win win.view.set fA ∗ Ow d i O W)) (fun r _ => by
      rw [bigSep_pending r.isLt, bigSep_landed r.isLt]
      iintro ⟨Hl, ⟨Hc, Hp⟩, H⟩
      iapply (wp_triRow r (hG r)) $$ [Hc H]
      · isplitl [Hc]; · iexact Hc
        iexact H
      iintro ⟨Hc, H⟩
      isplitl [Hl Hc]
      · isplitl [Hc]; · iexact Hc
        iexact Hl
      isplitl [Hp]; · iexact Hp
      iexact H))
  isplitr [Hk]
  · rw [bigSep_landed_zero, Transfers.pending_zero]
    isplitr; · iempintro
    isplitl [Hc]; · iexact Hc
    isplitl [Ho]; · iexact Ho
    isplitl [Hz]; · iexact Hz
    isplitl [Hw]; · iexact Hw
    iexact HO
  iintro %_ ⟨Hc, -, H⟩
  iapply Hk
  isplitl [Hc]; · rw [← landed_all (n := k0_t6_loop.trips)]; iexact Hc
  iexact H
end

end Cert.KernelIdeal.Roll
end
-- ==== Proof.Tile.lean ====
/- The tile: blocks copied in, four levels worked through. -/
module

public import proofs.«01_k».proof.Proof.Tri

@[expose] public section

noncomputable section

namespace Cert.KernelIdeal.Roll

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Facts]

open Facts K0.R1.Facts₀ K0.R2.Facts₀ K0.R3.Facts₀ K0.R4.Facts₀ Shapes1.Facts₀

variable {d : Dev nD} {i : grid0.Coords} {O : CellTallies nD τ sig (HIx 1)} {W : Waits sig (HIx 1)}

/-! ## Blocks copied in -/

/-- Sixteen rows of the table. -/
abbrev rows16 (table : Memref sig .scVector .hbm S512x1024 .f32) (off : Fin 2 → ℕ) (hoff : ∀ a, off a + S16x1024.size a ≤ S512x1024.size a) : Memref sig .scVector .hbm S16x1024 .f32 :=
  table.slice (Rect.unit (s := S512x1024) off S16x1024.size hoff) (fun _ => rfl)

section
variable {table : Memref sig .scVector .hbm S512x1024 .f32} {off : Fin 2 → ℕ} {hoff : ∀ a, off a + S16x1024.size a ≤ S512x1024.size a}
  {fT : Buf (Elt F) (table.view.loc (th d i))} {q : PosShare TreeShare} {ra : Memref sig .scVector .vmem S16x1024 .f32} {sm : DmaSems sig S_}

/-- A share of the table. -/
abbrev tab (d : Dev nD) (i : grid0.Coords) (table : Memref sig .scVector .hbm S512x1024 .f32) (fT : Buf (Elt F) (table.view.loc (th d i))) (q : PosShare TreeShare) : sProp (MM F) :=
  table.view.loc (th d i) ↦[table.view.set]{q} fT

/-- A buffer reading as `A`. -/
def loaded (d : Dev nD) (i : grid0.Coords) (ra : Memref sig .scVector .vmem S16x1024 .f32) (A : S16x1024.Idx → F .f32) : sProp (MM F) :=
  iprop(∃ g, pts d i ra ra.view.set g ∗ ⌜∀ ξ, ra.view.read (Elt F) g ξ = A ξ⌝)

/-- What the table's sixteen rows read. -/
abbrev rowsVal (table : Memref sig .scVector .hbm S512x1024 .f32) (off : Fin 2 → ℕ) (hoff : ∀ a, off a + S16x1024.size a ≤ S512x1024.size a)
    (fT : Buf (Elt F) (table.view.loc (th d i))) : S16x1024.Idx → F .f32 := (rows16 table off hoff).view.read (Elt F) fT

/-- Sixteen rows of the table on their way into a buffer. -/
def coming (table : Memref sig .scVector .hbm S512x1024 .f32) (off : Fin 2 → ℕ) (hoff : ∀ a, off a + S16x1024.size a ≤ S512x1024.size a)
    (fT : Buf (Elt F) (table.view.loc (th d i))) (q : PosShare TreeShare) (ra : Memref sig .scVector .vmem S16x1024 .f32) (sm : DmaSems sig S_) : sProp (MM F) :=
  iprop(∃ g : Buf (Elt F) (ra.view.loc (th d i)), ⌜∀ ξ, ra.view.read (Elt F) g ξ = rowsVal table off hoff fT ξ⌝
    ∗ fly d i sm ra.view.dmaCredit iprop(pts d i ra ra.view.set g ∗ table.view.loc (th d i) ↦[(rows16 table off hoff).view.set]{q} fT)
    ∗ table.view.loc (th d i) ↦[table.view.set \ (rows16 table off hoff).view.set]{q} fT)

theorem wp_fetch {hsrc : (rows16 table off hoff).view.WordExact} {hdst : ra.view.WordExact}
    {hsem : (DmaTarget.here ra : DmaTarget nD τ sig (.scVector ((i 0).castLE hcore0) ((i 1).castLE hsub0)) .vmem S16x1024 .f32).Typed .hbm (.dma sm.sem)}
    {α : Type} {k : PUnit → TP F i α} {Q : α → sProp (MM F)} :
    iprop(tab d i table fT q ∗ own d i ra ∗ zero d i sm)
      ⊢ iprop((coming table off hoff fT q ra sm -∗ WP d i (k ⟨⟩) Q)
        -∗ WP d i (.op (.enqueueDma (rows16 table off hoff) (.here ra) (.dma sm.sem) hsrc hdst hsem) k) Q) := by
  unfold own
  iintro ⟨Ht, ⟨%f, Hr⟩, Hz⟩ Hk
  ihave Ht := (pointsTo_split_subset (View.set_slice_subset table.view (Rect.unit (s := S512x1024) off S16x1024.size hoff))).1 $$ Ht
  icases Ht with ⟨Hs, Hrest⟩
  iapply (wp_send (src := rows16 table off hoff) (dst := ra) (fs := fT) (fd := f)
    (G := ra.view.write (Elt F) f (rowsVal table off hoff fT) Finset.univ) (show 0 < S16x1024.numel by decide) (fun ξ => congrFun (View.read_write_univ _ _) ξ)) $$ [Hs Hr Hz]
  · isplitl [Hs]; · iexact Hs
    isplitl [Hr]; · iexact Hr
    iexact Hz
  iintro Hf
  iapply Hk
  unfold coming
  iexists _
  isplitr
  swap
  · isplitl [Hf]; · iexact Hf
    iexact Hrest
  ipureintro
  exact fun ξ => congrFun (View.read_write_univ _ _) ξ

theorem wp_fetched {sp' : Space} {s' : Shape} {e' : EltTy} {srcw : Memref sig .scVector sp' s' e'} {hsrc : srcw.view.WordExact} {hdst : ra.view.WordExact}
    {α : Type} {k : PUnit → TP F i α} {Q : α → sProp (MM F)} :
    iprop(coming table off hoff fT q ra sm ∗ Ow d i O W)
      ⊢ iprop((iprop(loaded d i ra (rowsVal table off hoff fT) ∗ tab d i table fT q ∗ zero d i sm ∗ Ow d i O W) -∗ WP d i (k ⟨⟩) Q)
        -∗ WP d i (.op (.waitDma2 sm.sem srcw ra hsrc hdst) k) Q) := by
  unfold coming loaded
  iintro ⟨⟨%g, %hg, Hf, Hrest⟩, HO⟩ Hk
  iapply (wp_wait rfl) $$ [Hf HO]
  · isplitl [Hf]; · iexact Hf
    iexact HO
  iintro ⟨⟨Hr, Hs⟩, Hz, HO⟩
  iapply Hk
  isplitl [Hr]
  · iexists g
    isplitl [Hr]; · iexact Hr
    ipureintro; exact hg
  isplitl [Hs Hrest]
  · iapply (pointsTo_split_subset (View.set_slice_subset table.view (Rect.unit (s := S512x1024) off S16x1024.size hoff))).2
    isplitl [Hs]; · iexact Hs
    iexact Hrest
  isplitl [Hz]; · iexact Hz
  iexact HO
end

section
variable {table : Memref sig .scVector .hbm S512x1024 .f32} {c : BitVec 32} {hc1 : ∀ a, k0_off1 i c a + S16x1024.size a ≤ S512x1024.size a}
  {hc2 : ∀ a, k0_off2 i c a + S16x1024.size a ≤ S512x1024.size a} {fT : Buf (Elt F) (table.view.loc (th d i))} {q : PosShare TreeShare}
  {ra rb : Memref sig .scVector .vmem S16x1024 .f32} {hra : ra.IsWhole} {hrb : rb.IsWhole} {sra srb : DmaSems sig S_}

/-- Both blocks of a level on their way. -/
def coming2 (c : BitVec 32) (hc1 : ∀ a, k0_off1 i c a + S16x1024.size a ≤ S512x1024.size a) (hc2 : ∀ a, k0_off2 i c a + S16x1024.size a ≤ S512x1024.size a)
    (table : Memref sig .scVector .hbm S512x1024 .f32) (fT : Buf (Elt F) (table.view.loc (th d i))) (q : PosShare TreeShare)
    (ra rb : Memref sig .scVector .vmem S16x1024 .f32) (sra srb : DmaSems sig S_) : sProp (MM F) :=
  iprop(coming table (k0_off1 i c) hc1 fT q.left ra sra ∗ coming table (k0_off2 i c) hc2 fT q.right rb srb)

/-- A pair of read buffers not in use. -/
def idle (d : Dev nD) (i : grid0.Coords) (ra rb : Memref sig .scVector .vmem S16x1024 .f32) (sra srb : DmaSems sig S_) : sProp (MM F) :=
  iprop(own d i ra ∗ own d i rb ∗ zero d i sra ∗ zero d i srb)

/-- A pair of read buffers holding a level's two blocks. -/
def full (c : BitVec 32) (hc1 : ∀ a, k0_off1 i c a + S16x1024.size a ≤ S512x1024.size a) (hc2 : ∀ a, k0_off2 i c a + S16x1024.size a ≤ S512x1024.size a)
    (table : Memref sig .scVector .hbm S512x1024 .f32) (fT : Buf (Elt F) (table.view.loc (th d i)))
    (ra rb : Memref sig .scVector .vmem S16x1024 .f32) (sra srb : DmaSems sig S_) : sProp (MM F) :=
  iprop(loaded d i ra (rowsVal table (k0_off1 i c) hc1 fT) ∗ loaded d i rb (rowsVal table (k0_off2 i c) hc2 fT) ∗ zero d i sra ∗ zero d i srb)

theorem wp_rdIssue {α : Type} {k : TP F i α} {Q : α → sProp (MM F)} :
    iprop(tab d i table fT q ∗ idle d i ra rb sra srb)
      ⊢ iprop((coming2 c hc1 hc2 table fT q ra rb sra srb -∗ WP d i k Q) -∗ WP d i (rdIssue c hc1 hc2 table ra hra rb hrb sra srb k) Q) := by
  unfold rdIssue idle
  iintro ⟨Ht, Ha, Hb, Hza, Hzb⟩ Hk
  ihave Ht := (pointsTo_share (PosShare.mem_left_op_right q)).1 $$ Ht
  icases Ht with ⟨Hl, Hr⟩
  iapply (wp_fetch (q := q.left)) $$ [Hl Ha Hza]
  · isplitl [Hl]; · iexact Hl
    isplitl [Ha]; · iexact Ha
    iexact Hza
  iintro Hca
  iapply (wp_fetch (q := q.right)) $$ [Hr Hb Hzb]
  · isplitl [Hr]; · iexact Hr
    isplitl [Hb]; · iexact Hb
    iexact Hzb
  iintro Hcb
  iapply Hk
  unfold coming2
  isplitl [Hca]; · iexact Hca
  iexact Hcb

theorem wp_rdWait {α : Type} {k : TP F i α} {Q : α → sProp (MM F)} :
    iprop(coming2 c hc1 hc2 table fT q ra rb sra srb ∗ Ow d i O W)
      ⊢ iprop((iprop(tab d i table fT q ∗ full c hc1 hc2 table fT ra rb sra srb ∗ Ow d i O W) -∗ WP d i k Q) -∗ WP d i (rdWait table ra hra rb hrb sra srb k) Q) := by
  unfold rdWait coming2 full
  iintro ⟨⟨Hca, Hcb⟩, HO⟩ Hk
  iapply wp_fetched $$ [Hca HO]
  · isplitl [Hca]; · iexact Hca
    iexact HO
  iintro ⟨Ha, Hl, Hza, HO⟩
  iapply wp_fetched $$ [Hcb HO]
  · isplitl [Hcb]; · iexact Hcb
    iexact HO
  iintro ⟨Hb, Hr, Hzb, HO⟩
  iapply Hk
  isplitl [Hl Hr]
  · iapply (pointsTo_share (PosShare.mem_left_op_right q)).2
    isplitl [Hl]; · iexact Hl
    iexact Hr
  isplitr [HO]
  · isplitl [Ha]; · iexact Ha
    isplitl [Hb]; · iexact Hb
    isplitl [Hza]; · iexact Hza
    iexact Hzb
  iexact HO
end

/-! ## A level -/

/-- A tile's rows of one result, at `G`. -/
def piecesAt (d : Dev nD) (i : grid0.Coords) (out : Memref sig .scVector .hbm S8128x1024 .f32) (G : Buf (Elt F) (out.view.loc (th d i))) : sProp (MM F) :=
  if h1 : k0_cond1 i = 1#1 then iprop(bigSep Finset.univ (chunkAt h1 out G 0) ∗ bigSep Finset.univ (chunkAt h1 out G 1))
  else if h4 : k0_cond4 i = 1#1 then
    iprop((bigSep Finset.univ fun r => bigSep Finset.univ (bitAt out (k0_off389 i) (fun r j => k0_off389_inb i r j h4) G r))
      ∗ (bigSep Finset.univ fun r => bigSep Finset.univ (bitAt out (k0_off777 i) (fun r j => k0_off777_inb i r j h4) G r)))
  else iprop(emp)

/-- The tile's rows of `G` hold the squared differences of the rows of `A` and `B`. -/
structure Meets (d : Dev nD) (i : grid0.Coords) (out : Memref sig .scVector .hbm S8128x1024 .f32) (G : Buf (Elt F) (out.view.loc (th d i))) (A B : S16x1024.Idx → F .f32) : Prop where
  off : ∀ h1 : k0_cond1 i = 1#1, ∀ g b, ∀ ξ : S16x1024.Idx, (chunk h1 out g b).view.read (Elt F) G ξ
    = sqd (A (atR (pairRow g (BitVec.ofNat 32 b.val)).toNat (pairRow_lt g b) (ξ 1))) (B ξ)
  tri0 : ∀ h4 : k0_cond4 i = 1#1, ∀ r j, ∀ ξ : S1x1024.Idx, (bit out (k0_off389 i) (fun r j => k0_off389_inb i r j h4) r j).view.read (Elt F) G ξ
    = sqd (A (atR (Scf.iv 0#32 1#32 r).toNat (row_lt r) (ξ 1))) (A (atR (otherRow r j).toNat (otherRow_lt r j) (ξ 1)))
  tri1 : ∀ h4 : k0_cond4 i = 1#1, ∀ r j, ∀ ξ : S1x1024.Idx, (bit out (k0_off777 i) (fun r j => k0_off777_inb i r j h4) r j).view.read (Elt F) G ξ
    = sqd (B (atR (Scf.iv 0#32 1#32 r).toNat (row_lt r) (ξ 1))) (B (atR (otherRow r j).toNat (otherRow_lt r j) (ξ 1)))

/-- The write buffers, free. -/
def scratch (d : Dev nD) (i : grid0.Coords) (ob0 ob1 : Memref sig .scVector .vmem S16x1024 .f32) (sw0 sw1 st : DmaSems sig S_) : sProp (MM F) :=
  iprop(own d i ob0 ∗ own d i ob1 ∗ zero d i sw0 ∗ zero d i sw1 ∗ zero d i st)

theorem cond_excl (i : grid0.Coords) (h1 : k0_cond1 i = 1#1) : ¬ k0_cond4 i = 1#1 := by
  revert h1; revert i; decide +kernel

section
variable {out : Memref sig .scVector .hbm S8128x1024 .f32} {G f₀ : Buf (Elt F) (out.view.loc (th d i))}
  {ra rb ob0 ob1 : Memref sig .scVector .vmem S16x1024 .f32} {hob0 : ob0.IsWhole} {hob1 : ob1.IsWhole} {sw0 sw1 st sra srb : DmaSems sig S_}
  {A B : S16x1024.Idx → F .f32}

theorem wp_level (hM : Meets d i out G A B) {α : Type} {k : TP F i α} {Q : α → sProp (MM F)} :
    iprop(piecesAt d i out f₀ ∗ loaded d i ra A ∗ loaded d i rb B ∗ scratch d i ob0 ob1 sw0 sw1 st ∗ Ow d i O W)
      ⊢ iprop((iprop(piecesAt d i out G ∗ own d i ra ∗ own d i rb ∗ scratch d i ob0 ob1 sw0 sw1 st ∗ Ow d i O W) -∗ WP d i k Q)
        -∗ WP d i (level out ra rb ob0 hob0 ob1 hob1 sw0 sw1 st k) Q) := by
  unfold level WP
  rw [wp_bind, wp_bind]
  unfold piecesAt loaded scratch
  by_cases h1 : k0_cond1 i = 1#1
  · rw [dif_pos h1, dif_pos h1, dif_pos h1, dif_neg (cond_excl i h1)]
    iintro ⟨⟨Hc0, Hc1⟩, ⟨%fA, Ha, %hA⟩, ⟨%fB, Hb, %hB⟩, ⟨Ho0, Ho1, Hz0, Hz1, Hzt⟩, HO⟩ Hk
    iapply (wp_offDiag (h1 := h1) (G := G) (f₀ := f₀) (fun g b ξ => by rw [hM.off h1 g b ξ, hA, hB])) $$ [Hc0 Hc1 Ha Hb Ho0 Ho1 Hz0 Hz1 HO]
    · isplitl [Hc0]; · iexact Hc0
      isplitl [Hc1]; · iexact Hc1
      isplitl [Ho0]; · iexact Ho0
      isplitl [Ho1]; · iexact Ho1
      isplitl [Hz0]; · iexact Hz0
      isplitl [Hz1]; · iexact Hz1
      isplitl [Ha]; · iexact Ha
      isplitl [Hb]; · iexact Hb
      iexact HO
    iintro ⟨Hc0, Hc1, Ho0, Ho1, Hz0, Hz1, Ha, Hb, HO⟩
    iapply wp_done
    iapply Hk
    isplitl [Hc0 Hc1]
    · isplitl [Hc0]; · iexact Hc0
      iexact Hc1
    isplitl [Ha]; · unfold own; iexists fA; iexact Ha
    isplitl [Hb]; · unfold own; iexists fB; iexact Hb
    isplitr [HO]
    · isplitl [Ho0]; · iexact Ho0
      isplitl [Ho1]; · iexact Ho1
      isplitl [Hz0]; · iexact Hz0
      isplitl [Hz1]; · iexact Hz1
      iexact Hzt
    iexact HO
  · rw [dif_neg h1, dif_neg h1, dif_neg h1]
    by_cases h4 : k0_cond4 i = 1#1
    · rw [dif_pos h4, dif_pos h4, dif_pos h4, wp_bind, wp_bind]
      iintro ⟨⟨Hc0, Hc1⟩, ⟨%fA, Ha, %hA⟩, ⟨%fB, Hb, %hB⟩, ⟨Ho0, Ho1, Hz0, Hz1, Hzt⟩, HO⟩ Hk
      iapply wp_done
      iapply (wp_tri (G := G) (f₀ := f₀) (fun r j ξ => by rw [hM.tri0 h4 r j ξ, hA, hA])) $$ [Hc0 Ha Ho0 Hzt HO]
      · isplitl [Hc0]; · iexact Hc0
        isplitl [Ho0]; · iexact Ho0
        isplitl [Hzt]; · iexact Hzt
        isplitl [Ha]; · iexact Ha
        iexact HO
      iintro ⟨Hc0, Ho0, Hzt, Ha, HO⟩
      iapply (wp_tri (G := G) (f₀ := f₀) (fun r j ξ => by rw [hM.tri1 h4 r j ξ, hB, hB])) $$ [Hc1 Hb Ho0 Hzt HO]
      · isplitl [Hc1]; · iexact Hc1
        isplitl [Ho0]; · iexact Ho0
        isplitl [Hzt]; · iexact Hzt
        isplitl [Hb]; · iexact Hb
        iexact HO
      iintro ⟨Hc1, Ho0, Hzt, Hb, HO⟩
      iapply wp_done
      iapply Hk
      isplitl [Hc0 Hc1]
      · isplitl [Hc0]; · iexact Hc0
        iexact Hc1
      isplitl [Ha]; · unfold own; iexists fA; iexact Ha
      isplitl [Hb]; · unfold own; iexists fB; iexact Hb
      isplitr [HO]
      · isplitl [Ho0]; · iexact Ho0
        isplitl [Ho1]; · iexact Ho1
        isplitl [Hz0]; · iexact Hz0
        isplitl [Hz1]; · iexact Hz1
        iexact Hzt
      iexact HO
    · rw [dif_neg h4, dif_neg h4, dif_neg h4]
      iintro ⟨-, ⟨%fA, Ha, %hA⟩, ⟨%fB, Hb, %hB⟩, Hs, HO⟩ Hk
      iapply wp_done
      iapply wp_done
      iapply Hk
      isplitr; · iempintro
      isplitl [Ha]; · unfold own; iexists fA; iexact Ha
      isplitl [Hb]; · unfold own; iexists fB; iexact Hb
      isplitl [Hs]; · iexact Hs
      iexact HO

/-- A level, its blocks being the table's. -/
theorem wp_level' {table : Memref sig .scVector .hbm S512x1024 .f32} {c : BitVec 32} {hc1 : ∀ a, k0_off1 i c a + S16x1024.size a ≤ S512x1024.size a}
    {hc2 : ∀ a, k0_off2 i c a + S16x1024.size a ≤ S512x1024.size a} {fT : Buf (Elt F) (table.view.loc (th d i))}
    (hM : Meets d i out G (rowsVal table (k0_off1 i c) hc1 fT) (rowsVal table (k0_off2 i c) hc2 fT)) {α : Type} {k : TP F i α} {Q : α → sProp (MM F)} :
    iprop(piecesAt d i out f₀ ∗ full c hc1 hc2 table fT ra rb sra srb ∗ scratch d i ob0 ob1 sw0 sw1 st ∗ Ow d i O W)
      ⊢ iprop((iprop(piecesAt d i out G ∗ idle d i ra rb sra srb ∗ scratch d i ob0 ob1 sw0 sw1 st ∗ Ow d i O W) -∗ WP d i k Q)
        -∗ WP d i (level out ra rb ob0 hob0 ob1 hob1 sw0 sw1 st k) Q) := by
  unfold full idle
  iintro ⟨Hp, ⟨Ha, Hb, Hza, Hzb⟩, Hs, HO⟩ Hk
  iapply (wp_level hM) $$ [Hp Ha Hb Hs HO]
  · isplitl [Hp]; · iexact Hp
    isplitl [Ha]; · iexact Ha
    isplitl [Hb]; · iexact Hb
    isplitl [Hs]; · iexact Hs
    iexact HO
  iintro ⟨Hp, Ha, Hb, Hs, HO⟩
  iapply Hk
  isplitl [Hp]; · iexact Hp
  isplitr [Hs HO]
  · isplitl [Ha]; · iexact Ha
    isplitl [Hb]; · iexact Hb
    isplitl [Hza]; · iexact Hza
    iexact Hzb
  isplitl [Hs]; · iexact Hs
  iexact HO
end

/-! ## The whole tile -/

variable {table : Memref sig .scVector .hbm S512x1024 .f32} {out0 out1 out2 out3 : Memref sig .scVector .hbm S8128x1024 .f32}
  {fT : Buf (Elt F) (table.view.loc (th d i))} {q : PosShare TreeShare}
  {G0 f0 : Buf (Elt F) (out0.view.loc (th d i))} {G1 f1 : Buf (Elt F) (out1.view.loc (th d i))}
  {G2 f2 : Buf (Elt F) (out2.view.loc (th d i))} {G3 f3 : Buf (Elt F) (out3.view.loc (th d i))}
  {ra0 ra1 rb0 rb1 ob0 ob1 : Memref sig .scVector .vmem S16x1024 .f32} {hra0 : ra0.IsWhole} {hra1 : ra1.IsWhole} {hrb0 : rb0.IsWhole} {hrb1 : rb1.IsWhole}
  {hob0 : ob0.IsWhole} {hob1 : ob1.IsWhole} {sra0 sra1 srb0 srb1 sw0 sw1 st : DmaSems sig S_}

/-- Level `l`'s blocks of the table, the rows' and the columns'. -/
abbrev valA (table : Memref sig .scVector .hbm S512x1024 .f32) (fT : Buf (Elt F) (table.view.loc (th d i))) (l : Fin 4) : S16x1024.Idx → F .f32 :=
  rowsVal table (k0_off1 i (BitVec.ofNat 32 (128 * l.val))) (k0_off1_inb i l) fT
abbrev valB (table : Memref sig .scVector .hbm S512x1024 .f32) (fT : Buf (Elt F) (table.view.loc (th d i))) (l : Fin 4) : S16x1024.Idx → F .f32 :=
  rowsVal table (k0_off2 i (BitVec.ofNat 32 (128 * l.val))) (k0_off2_inb i l) fT

theorem wp_tile (h0 : Meets d i out0 G0 (valA table fT 0) (valB table fT 0)) (h1 : Meets d i out1 G1 (valA table fT 1) (valB table fT 1))
    (h2 : Meets d i out2 G2 (valA table fT 2) (valB table fT 2)) (h3 : Meets d i out3 G3 (valA table fT 3) (valB table fT 3)) {Q : PUnit → sProp (MM F)} :
    iprop(tab d i table fT q ∗ (piecesAt d i out0 f0 ∗ piecesAt d i out1 f1 ∗ piecesAt d i out2 f2 ∗ piecesAt d i out3 f3)
        ∗ idle d i ra0 rb0 sra0 srb0 ∗ idle d i ra1 rb1 sra1 srb1 ∗ scratch d i ob0 ob1 sw0 sw1 st ∗ Ow d i O W)
      ⊢ iprop((iprop(tab d i table fT q ∗ (piecesAt d i out0 G0 ∗ piecesAt d i out1 G1 ∗ piecesAt d i out2 G2 ∗ piecesAt d i out3 G3)
        ∗ idle d i ra0 rb0 sra0 srb0 ∗ idle d i ra1 rb1 sra1 srb1 ∗ scratch d i ob0 ob1 sw0 sw1 st ∗ Ow d i O W) -∗ Q ⟨⟩)
        -∗ WP d i (tile table out0 out1 out2 out3 ra0 hra0 ra1 hra1 rb0 hrb0 rb1 hrb1 ob0 hob0 ob1 hob1 sra0 sra1 srb0 srb1 sw0 sw1 st) Q) := by
  unfold tile
  iintro ⟨Ht, ⟨Hp0, Hp1, Hp2, Hp3⟩, Hi0, Hi1, Hs, HO⟩ Hk
  iapply wp_rdIssue $$ [Ht Hi0]
  · isplitl [Ht]; · iexact Ht
    iexact Hi0
  iintro Hc0
  iapply wp_rdWait $$ [Hc0 HO]
  · isplitl [Hc0]; · iexact Hc0
    iexact HO
  iintro ⟨Ht, Hf0, HO⟩
  iapply wp_rdIssue $$ [Ht Hi1]
  · isplitl [Ht]; · iexact Ht
    iexact Hi1
  iintro Hc1
  iapply (wp_level' h0) $$ [Hp0 Hf0 Hs HO]
  · isplitl [Hp0]; · iexact Hp0
    isplitl [Hf0]; · iexact Hf0
    isplitl [Hs]; · iexact Hs
    iexact HO
  iintro ⟨Hp0, Hi0, Hs, HO⟩
  iapply wp_rdWait $$ [Hc1 HO]
  · isplitl [Hc1]; · iexact Hc1
    iexact HO
  iintro ⟨Ht, Hf1, HO⟩
  iapply wp_rdIssue $$ [Ht Hi0]
  · isplitl [Ht]; · iexact Ht
    iexact Hi0
  iintro Hc0
  iapply (wp_level' h1) $$ [Hp1 Hf1 Hs HO]
  · isplitl [Hp1]; · iexact Hp1
    isplitl [Hf1]; · iexact Hf1
    isplitl [Hs]; · iexact Hs
    iexact HO
  iintro ⟨Hp1, Hi1, Hs, HO⟩
  iapply wp_rdWait $$ [Hc0 HO]
  · isplitl [Hc0]; · iexact Hc0
    iexact HO
  iintro ⟨Ht, Hf0, HO⟩
  iapply wp_rdIssue $$ [Ht Hi1]
  · isplitl [Ht]; · iexact Ht
    iexact Hi1
  iintro Hc1
  iapply (wp_level' h2) $$ [Hp2 Hf0 Hs HO]
  · isplitl [Hp2]; · iexact Hp2
    isplitl [Hf0]; · iexact Hf0
    isplitl [Hs]; · iexact Hs
    iexact HO
  iintro ⟨Hp2, Hi0, Hs, HO⟩
  iapply wp_rdWait $$ [Hc1 HO]
  · isplitl [Hc1]; · iexact Hc1
    iexact HO
  iintro ⟨Ht, Hf1, HO⟩
  iapply (wp_level' h3) $$ [Hp3 Hf1 Hs HO]
  · isplitl [Hp3]; · iexact Hp3
    isplitl [Hf1]; · iexact Hf1
    isplitl [Hs]; · iexact Hs
    iexact HO
  iintro ⟨Hp3, Hi1, Hs, HO⟩
  iapply wp_done
  iapply Hk
  isplitl [Ht]; · iexact Ht
  isplitl [Hp0 Hp1 Hp2 Hp3]
  · isplitl [Hp0]; · iexact Hp0
    isplitl [Hp1]; · iexact Hp1
    isplitl [Hp2]; · iexact Hp2
    iexact Hp3
  isplitl [Hi0]; · iexact Hi0
  isplitl [Hi1]; · iexact Hi1
  isplitl [Hs]; · iexact Hs
  iexact HO

end Cert.KernelIdeal.Roll
end
-- ==== Proof.Table.lean ====
/- The pairs of rows, listed: which pair a row of a result is for, and where a pair's row is. -/
module

public import proofs.«01_k».proof.ReferenceIdeal

@[expose] public section

noncomputable section

namespace Cert.Pairs

/-- Where the pair `(a, b)`, `a < b`, is listed. -/
def pos (a b : ℕ) : ℕ := a * 127 - a * (a - 1) / 2 + (b - a - 1)

/-- The lower and the higher row of the pair listed at `k`, as the reference's tables have them. -/
def lo (k : Fin 8128) : ℕ := (ReferenceIdeal.lit0 k).toNat
def hi (k : Fin 8128) : ℕ := (ReferenceIdeal.lit1 k).toNat

theorem listed_blocks : ∀ u : Fin 127, ∀ v : Fin 64, pos (lo ⟨64 * u.val + v.val, by omega⟩) (hi ⟨64 * u.val + v.val, by omega⟩) = 64 * u.val + v.val
    ∧ lo ⟨64 * u.val + v.val, by omega⟩ < hi ⟨64 * u.val + v.val, by omega⟩ ∧ hi ⟨64 * u.val + v.val, by omega⟩ < 128 := by
  decide +kernel

/-- The tables list pairs, each at its own place. -/
theorem listed (k : Fin 8128) : pos (lo k) (hi k) = k.val ∧ lo k < hi k ∧ hi k < 128 := by
  have h := listed_blocks ⟨k.val / 64, by omega⟩ ⟨k.val % 64, by omega⟩
  have e : (⟨64 * (k.val / 64) + k.val % 64, by omega⟩ : Fin 8128) = k := Fin.ext (by show 64 * (k.val / 64) + k.val % 64 = k.val; omega)
  simp only [e] at h
  exact ⟨h.1.trans (by omega), h.2⟩

/-- Every row's pairs are listed after those of the rows before it. -/
theorem strips : ∀ a : Fin 128, ∀ a' : Fin 128, a < a' → a.val * 127 - a.val * (a.val - 1) / 2 + (127 - a.val) ≤ a'.val * 127 - a'.val * (a'.val - 1) / 2 := by
  decide +kernel

theorem pos_inj {a b a' b' : ℕ} (h : a < b) (hb : b < 128) (h' : a' < b') (hb' : b' < 128) (e : pos a b = pos a' b') : a = a' ∧ b = b' := by
  unfold pos at e
  rcases Nat.lt_trichotomy a a' with hl | hl | hl
  · have := strips ⟨a, by omega⟩ ⟨a', by omega⟩ hl
    simp only at this
    omega
  · subst hl; omega
  · have := strips ⟨a', by omega⟩ ⟨a, by omega⟩ hl
    simp only at this
    omega

/-- What is listed at a pair's place is the pair. -/
theorem at_pos {k : Fin 8128} {a b : ℕ} (h : a < b) (hb : b < 128) (e : k.val = pos a b) : lo k = a ∧ hi k = b :=
  pos_inj (listed k).2.1 (listed k).2.2 h hb ((listed k).1.trans e)

/-- Places along a row are consecutive. -/
theorem pos_add {a b : ℕ} (h : a < b) (t : ℕ) : pos a (b + t) = pos a b + t := by
  unfold pos; omega

end Cert.Pairs
end
-- ==== Proof.Places.lean ====
/- Which rows of a result a tile writes. -/
module

public import proofs.«01_k».proof.Proof.Tile
public import proofs.«01_k».proof.Proof.Table

@[expose] public section

noncomputable section

namespace Cert.KernelIdeal.Roll

open Cert.KernelIdeal Cert.Pairs
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Facts]

open Facts K0.R1.Facts₀ K0.R2.Facts₀ K0.R3.Facts₀ K0.R4.Facts₀ Shapes1.Facts₀

/-- A tile's two blocks of rows: the first of each, by sixteens. -/
def ba (i : grid0.Coords) : ℕ := k0_off1 i 0#32 0 / 16
def bb (i : grid0.Coords) : ℕ := k0_off2 i 0#32 0 / 16

/-! ## The offsets the kernel computes -/

theorem off1_eq (i : grid0.Coords) (l : Fin 4) : k0_off1 i (BitVec.ofNat 32 (128 * l.val)) = ![128 * l.val + 16 * ba i, 0] := by
  revert i l; decide +kernel
theorem off2_eq (i : grid0.Coords) (l : Fin 4) : k0_off2 i (BitVec.ofNat 32 (128 * l.val)) = ![128 * l.val + 16 * bb i, 0] := by
  revert i l; decide +kernel
theorem off131_eq (i : grid0.Coords) (h : k0_cond1 i = 1#1) (g : Fin k0_t1_loop.trips) (b : Fin 2) :
    k0_off131 i g (BitVec.ofNat 32 b.val) = ![pos (16 * ba i + (2 * g.val + b.val)) (16 * bb i), 0] := by
  revert i h g b; decide +kernel
theorem off389_eq (i : grid0.Coords) (h : k0_cond4 i = 1#1) (r : Fin k0_t6_loop.trips) (j : Fin (k0_t7_loop r).trips) :
    k0_off389 i r j = ![pos (16 * ba i + r.val) (16 * ba i + (r.val + 1 + j.val)), 0] := by
  revert i h r j; decide +kernel
theorem off777_eq (i : grid0.Coords) (h : k0_cond4 i = 1#1) (r : Fin k0_t6_loop.trips) (j : Fin (k0_t7_loop r).trips) :
    k0_off777 i r j = ![pos (16 * bb i + r.val) (16 * bb i + (r.val + 1 + j.val)), 0] := by
  revert i h r j; decide +kernel

theorem ba_lt (i : grid0.Coords) : ba i < 8 := by revert i; decide +kernel
theorem bb_lt (i : grid0.Coords) : bb i < 8 := by revert i; decide +kernel
theorem ba_lt_bb (i : grid0.Coords) : ba i < bb i := by revert i; decide +kernel
theorem cond_or (i : grid0.Coords) (h : ¬ k0_cond1 i = 1#1) : k0_cond4 i = 1#1 := by revert i h; decide +kernel

/-! ## A tile's pairs -/

/-- The tile's pairs, by the blocks of their rows: one block against the other, or each of the two against itself. -/
def ownsB (i : grid0.Coords) (x y : ℕ) : Prop := (k0_cond1 i = 1#1 ∧ x = ba i ∧ y = bb i) ∨ (¬ k0_cond1 i = 1#1 ∧ x = y ∧ (x = ba i ∨ x = bb i))

instance (i : grid0.Coords) (x y : ℕ) : Decidable (ownsB i x y) := by unfold ownsB; infer_instance

theorem owns_some : ∀ x y : Fin 8, x ≤ y → ∃ i : grid0.Coords, ownsB i x.val y.val := by decide +kernel
theorem owns_one : ∀ x y : Fin 8, ∀ i : grid0.Coords, ownsB i x.val y.val → ∀ i' : grid0.Coords, ownsB i' x.val y.val → i = i' := by decide +kernel

/-- The rows of a result a tile writes. -/
def rowsOf (i : grid0.Coords) : Finset S8128x1024.Idx := Finset.univ.filter fun z => ownsB i (lo (z 0) / 16) (hi (z 0) / 16)

theorem mem_rowsOf (i : grid0.Coords) (z : S8128x1024.Idx) : z ∈ rowsOf i ↔ ownsB i (lo (z 0) / 16) (hi (z 0) / 16) := by simp [rowsOf]

theorem rowsOf_disjoint {i i' : grid0.Coords} (h : i ≠ i') : Disjoint (rowsOf i) (rowsOf i') := by
  refine Finset.disjoint_left.mpr fun z hz hz' => h ?_
  have hk := listed (z 0)
  exact owns_one ⟨lo (z 0) / 16, by omega⟩ ⟨hi (z 0) / 16, by omega⟩ i ((mem_rowsOf i z).mp hz) i' ((mem_rowsOf i' z).mp hz')

theorem rowsOf_cover : (Finset.univ : Finset grid0.Coords).biUnion rowsOf = Finset.univ := by
  ext z
  simp only [Finset.mem_biUnion, Finset.mem_univ, true_and, iff_true]
  have hk := listed (z 0)
  obtain ⟨i, hi⟩ := owns_some ⟨lo (z 0) / 16, by omega⟩ ⟨hi (z 0) / 16, by omega⟩ (by show lo (z 0) / 16 ≤ hi (z 0) / 16; omega)
  exact ⟨i, (mem_rowsOf i z).mpr hi⟩

/-! ## The rows of a piece -/

/-- A run of `n` rows from where `(a, b)` is listed, within `a`'s strip. -/
theorem mem_run {off : Fin 2 → ℕ} {size : Fin 2 → ℕ} {hoff : ∀ x, off x + size x ≤ S8128x1024.size x} {a b n : ℕ} (hab : a < b) (hbn : b + n ≤ 128)
    (h0 : off = ![pos a b, 0]) (hs : size = ![n, 1024]) (z : S8128x1024.Idx) :
    z ∈ (Rect.unit (s := S8128x1024) off size hoff).set ↔ lo (z 0) = a ∧ b ≤ hi (z 0) ∧ hi (z 0) < b + n := by
  subst h0 hs
  rw [Rect.mem_set_unit]
  have hk := listed (z 0)
  constructor
  · intro h
    have h0 : pos a b ≤ (z 0).val ∧ (z 0).val < pos a b + n := h 0
    have e := at_pos (k := z 0) (a := a) (b := b + ((z 0).val - pos a b)) (by omega) (by omega) (by rw [pos_add hab]; omega)
    omega
  · rintro ⟨h1, h2, h3⟩ x
    have e := hk.1
    rw [h1, show hi (z 0) = b + (hi (z 0) - b) by omega, pos_add hab] at e
    match x with
    | 0 => show pos a b ≤ (z 0).val ∧ (z 0).val < pos a b + n; omega
    | 1 => show 0 ≤ (z 1).val ∧ (z 1).val < 0 + 1024; have : (z 1).val < 1024 := (z 1).isLt; omega

theorem mem_chunk {i : grid0.Coords} (h1 : k0_cond1 i = 1#1) (g : Fin k0_t1_loop.trips) (b : Fin 2) (z : S8128x1024.Idx) :
    z ∈ (Rect.unit (s := S8128x1024) (k0_off131 i g (BitVec.ofNat 32 b.val)) S16x1024.size (k0_off131_inb i g h1 b)).set
      ↔ lo (z 0) = 16 * ba i + (2 * g.val + b.val) ∧ hi (z 0) / 16 = bb i := by
  have hg : g.val < 8 := pair_trips ▸ g.isLt
  have := ba_lt_bb i
  have := bb_lt i
  rw [mem_run (by omega) (by omega) (off131_eq i h1 g b) (show S16x1024.size = ![16, 1024] from rfl)]
  omega

theorem row_trips : k0_t6_loop.trips = 15 := by decide

theorem mem_bit {off : TriOff} {hoff : ∀ r j a, off r j a + S1x1024.size a ≤ S8128x1024.size a} {β : ℕ} (hβ : β < 8)
    (h : ∀ r j, off r j = ![pos (16 * β + r.val) (16 * β + (r.val + 1 + j.val)), 0]) (r : Fin k0_t6_loop.trips) (j : Fin (k0_t7_loop r).trips) (z : S8128x1024.Idx) :
    z ∈ (Rect.unit (s := S8128x1024) (off r j) S1x1024.size (hoff r j)).set ↔ lo (z 0) = 16 * β + r.val ∧ hi (z 0) = 16 * β + (r.val + 1 + j.val) := by
  have hr : r.val < 15 := row_trips ▸ r.isLt
  have hj : j.val < 15 - r.val := tri_trips r ▸ j.isLt
  rw [mem_run (by omega) (by omega) (h r j) (show S1x1024.size = ![1, 1024] from rfl)]
  omega

/-! ## A tile's pieces are its rows -/

variable {d : Dev nD} {i : grid0.Coords}

omit [FloatOps F] [Facts] in
theorem pts_family {T : Type} [Fintype T] {ℓ : Loc nD τ sig} (v : S8128x1024.Idx ↪ Idx ℓ) (G : Buf (Elt F) ℓ) (R : T → Finset S8128x1024.Idx)
    (h : ∀ t t', t ≠ t' → ∀ z ∈ R t, z ∉ R t') :
    (bigSep Finset.univ fun t => ℓ ↦[(R t).map v]{fullShare} G) = (ℓ ↦[(Finset.univ.biUnion R).map v]{fullShare} G : sProp (MM F)) := by
  classical
  rw [← pointsTo_biUnion Finset.univ (fun t => (R t).map v) (fun t _ t' _ ht => (Finset.disjoint_map v).mpr (Finset.disjoint_left.mpr (h t t' ht)))]
  congr 1
  ext z
  simp only [Finset.mem_biUnion, Finset.mem_map, Finset.mem_univ, true_and]
  constructor
  · rintro ⟨t, y, hy, e⟩; exact ⟨y, ⟨t, hy⟩, e⟩
  · rintro ⟨y, ⟨t, hy⟩, e⟩; exact ⟨t, y, hy, e⟩

omit [FloatOps F] [Facts] in
theorem pts_two {ℓ : Loc nD τ sig} (v : S8128x1024.Idx ↪ Idx ℓ) (G : Buf (Elt F) ℓ) {A B C : Finset S8128x1024.Idx} (h : ∀ z ∈ A, z ∉ B) (hC : ∀ z, z ∈ C ↔ z ∈ A ∨ z ∈ B) :
    iprop((ℓ ↦[A.map v]{fullShare} G) ∗ ℓ ↦[B.map v]{fullShare} G) = (ℓ ↦[C.map v]{fullShare} G : sProp (MM F)) := by
  classical
  have e : C = A ∪ B := by ext z; rw [hC, Finset.mem_union]
  rw [e, Finset.map_union]
  have := pointsTo_union (ℓ := ℓ) (q := fullShare) (f := G) (Val := Elt F) (nD := nD) (τ := τ) (I := A.map v) (J := B.map v)
    ((Finset.disjoint_map v).mpr (Finset.disjoint_left.mpr h)) (Ix := HIx 1) (Name := ℕ) (U := UU) (Lvl := ℕ)
  exact (BI.Entails.antisymm this.1 this.2).symm

/-- The rows of a block's strips. -/
theorem tri_rows (out : Memref sig .scVector .hbm S8128x1024 .f32) (G : Buf (Elt F) (out.view.loc (th d i))) {off : TriOff}
    (hoff : ∀ r j a, off r j a + S1x1024.size a ≤ S8128x1024.size a) {β : ℕ} (hβ : β < 8)
    (h : ∀ r j, off r j = ![pos (16 * β + r.val) (16 * β + (r.val + 1 + j.val)), 0]) :
    (bigSep Finset.univ fun r => bigSep Finset.univ (bitAt out off hoff G r))
      = (out.view.loc (th d i) ↦[(Finset.univ.filter fun z : S8128x1024.Idx => lo (z 0) / 16 = β ∧ hi (z 0) / 16 = β).map out.view.emb]{fullShare} G : sProp (MM F)) := by
  have e : ∀ r, bigSep Finset.univ (bitAt out off hoff G r)
      = (out.view.loc (th d i) ↦[(Finset.univ.biUnion fun j => (Rect.unit (s := S8128x1024) (off r j) S1x1024.size (hoff r j)).set).map out.view.emb]{fullShare} G : sProp (MM F)) := by
    intro r
    rw [← pts_family]
    · refine bigSep_congr fun j _ => ?_
      exact congrArg (fun S => (out.view.loc (th d i) ↦[S]{fullShare} G : sProp (MM F))) (View.set_slice out.view (Rect.unit (s := S8128x1024) (off r j) S1x1024.size (hoff r j)))
    · intro t t' ht z hz hz'
      rw [mem_bit hβ h] at hz hz'
      exact ht (Fin.ext (by omega))
  rw [bigSep_congr fun r _ => e r, pts_family]
  · refine congrArg (fun S : Finset S8128x1024.Idx => (out.view.loc (th d i) ↦[S.map out.view.emb]{fullShare} G : sProp (MM F))) ?_
    ext z
    simp only [Finset.mem_biUnion, Finset.mem_univ, true_and, mem_bit hβ h, Finset.mem_filter]
    have hk := listed (z 0)
    constructor
    · rintro ⟨r, j, h1, h2⟩
      have hr : r.val < 15 := row_trips ▸ r.isLt
      have hj : j.val < 15 - r.val := tri_trips r ▸ j.isLt
      omega
    · rintro ⟨h1, h2⟩
      refine ⟨⟨lo (z 0) - 16 * β, by rw [row_trips]; omega⟩, ⟨hi (z 0) - lo (z 0) - 1, by rw [tri_trips]; show _ < 15 - (lo (z 0) - 16 * β); omega⟩, ?_, ?_⟩
      · show lo (z 0) = 16 * β + (lo (z 0) - 16 * β); omega
      · show hi (z 0) = 16 * β + (lo (z 0) - 16 * β + 1 + (hi (z 0) - lo (z 0) - 1)); omega
  · intro t t' ht z hz hz'
    simp only [Finset.mem_biUnion, Finset.mem_univ, true_and, mem_bit hβ h] at hz hz'
    obtain ⟨j, hj, -⟩ := hz
    obtain ⟨j', hj', -⟩ := hz'
    exact ht (Fin.ext (by omega))

theorem pieces_eq (out : Memref sig .scVector .hbm S8128x1024 .f32) (G : Buf (Elt F) (out.view.loc (th d i))) :
    piecesAt d i out G = (out.view.loc (th d i) ↦[(rowsOf i).map out.view.emb]{fullShare} G : sProp (MM F)) := by
  unfold piecesAt
  by_cases h1 : k0_cond1 i = 1#1
  · rw [dif_pos h1]
    have e : ∀ b, bigSep Finset.univ (chunkAt h1 out G b)
        = (out.view.loc (th d i) ↦[(Finset.univ.biUnion fun g => (Rect.unit (s := S8128x1024) (k0_off131 i g (BitVec.ofNat 32 b.val)) S16x1024.size (k0_off131_inb i g h1 b)).set).map out.view.emb]{fullShare} G : sProp (MM F)) := by
      intro b
      rw [← pts_family]
      · refine bigSep_congr fun g _ => ?_
        exact congrArg (fun S => (out.view.loc (th d i) ↦[S]{fullShare} G : sProp (MM F)))
          (View.set_slice out.view (Rect.unit (s := S8128x1024) (k0_off131 i g (BitVec.ofNat 32 b.val)) S16x1024.size (k0_off131_inb i g h1 b)))
      · intro t t' ht z hz hz'
        rw [mem_chunk h1] at hz hz'
        exact ht (Fin.ext (by omega))
    rw [e, e]
    refine pts_two _ _ ?_ ?_
    · intro z hz hz'
      simp only [Finset.mem_biUnion, Finset.mem_univ, true_and, mem_chunk h1] at hz hz'
      obtain ⟨g, hg, -⟩ := hz
      obtain ⟨g', hg', -⟩ := hz'
      have h0 : ((0 : Fin 2) : ℕ) = 0 := rfl
      have h1 : ((1 : Fin 2) : ℕ) = 1 := rfl
      omega
    · intro z
      simp only [Finset.mem_biUnion, Finset.mem_univ, _root_.true_and, mem_chunk h1, mem_rowsOf, ownsB, h1, not_true, _root_.false_and, _root_.or_false]
      have h0 : ((0 : Fin 2) : ℕ) = 0 := rfl
      have h1' : ((1 : Fin 2) : ℕ) = 1 := rfl
      constructor
      · rintro ⟨ha, hb⟩
        rcases Nat.mod_two_eq_zero_or_one (lo (z 0)) with hp | hp
        · exact .inl ⟨⟨(lo (z 0) - 16 * ba i) / 2, by rw [pair_trips]; omega⟩, by
            show lo (z 0) = 16 * ba i + (2 * ((lo (z 0) - 16 * ba i) / 2) + ((0 : Fin 2) : ℕ)); omega, hb⟩
        · exact .inr ⟨⟨(lo (z 0) - 16 * ba i) / 2, by rw [pair_trips]; omega⟩, by
            show lo (z 0) = 16 * ba i + (2 * ((lo (z 0) - 16 * ba i) / 2) + ((1 : Fin 2) : ℕ)); omega, hb⟩
      · rintro (⟨g, hg, hb⟩ | ⟨g, hg, hb⟩)
        · have : g.val < 8 := pair_trips ▸ g.isLt
          exact ⟨by omega, hb⟩
        · have : g.val < 8 := pair_trips ▸ g.isLt
          exact ⟨by omega, hb⟩
  · have h4 := cond_or i h1
    rw [dif_neg h1, dif_pos h4, tri_rows out G _ (ba_lt i) (off389_eq i h4), tri_rows out G _ (bb_lt i) (off777_eq i h4)]
    refine pts_two _ _ ?_ ?_
    · intro z hz hz'
      simp only [Finset.mem_filter, Finset.mem_univ, _root_.true_and] at hz hz'
      have := ba_lt_bb i
      omega
    · intro z
      simp only [Finset.mem_filter, Finset.mem_univ, _root_.true_and, mem_rowsOf, ownsB, h1, _root_.false_and, _root_.false_or, not_false_eq_true]
      omega

end Cert.KernelIdeal.Roll
end
-- ==== Proof.Values.lean ====
/- The values a tile writes are the listed rows of squared differences. -/
module

public import proofs.«01_k».proof.Proof.Places

@[expose] public section

noncomputable section

namespace Cert.KernelIdeal.Roll

open Cert.KernelIdeal Cert.Pairs
open Idealize.ShloMosaic

variable {F : FTy → Type} [FloatOps F] [Facts]

open Facts K0.R1.Facts₀ K0.R2.Facts₀ K0.R3.Facts₀ K0.R4.Facts₀ Shapes1.Facts₀

/-- Column `q` of row `r` of level `l`, in the table of all four levels. -/
def cell (l : Fin 4) (r : ℕ) (hr : r < 128) (q : Fin 1024) : S512x1024.Idx := fun
  | 0 => ⟨128 * l.val + r, by show _ < 512; omega⟩
  | 1 => q

/-- Level `l`'s result: row `k` holds the squared differences of the rows of the pair listed at `k`. -/
def diffs (t : S512x1024.Idx → F .f32) (l : Fin 4) : S8128x1024.Idx → F .f32 := fun z =>
  sqd (t (cell l (lo (z 0)) (by have := listed (z 0); omega) (z 1))) (t (cell l (hi (z 0)) (by have := listed (z 0); omega) (z 1)))

omit [Facts] in
theorem diffs_at (t : S512x1024.Idx → F .f32) (l : Fin 4) (z : S8128x1024.Idx) {a b : ℕ} (hab : a < b) (hb : b < 128) (e : (z 0).val = pos a b) :
    diffs t l z = sqd (t (cell l a (by omega) (z 1))) (t (cell l b hb (z 1))) := by
  obtain ⟨rfl, rfl⟩ := at_pos hab hb e
  rfl

variable {d : Dev nD} {i : grid0.Coords}

theorem val_eq (table : Memref sig .scVector .hbm S512x1024 .f32) (fT : Buf (Elt F) (table.view.loc (th d i))) (l : Fin 4) {off : Fin 2 → ℕ}
    (hoff : ∀ a, off a + S16x1024.size a ≤ S512x1024.size a) {β : ℕ} (hβ : β < 8) (h : off = ![128 * l.val + 16 * β, 0]) (ζ : S16x1024.Idx) :
    rowsVal table off hoff fT ζ = table.view.read (Elt F) fT (cell l (16 * β + (ζ 0).val) (by have : (ζ 0).val < 16 := (ζ 0).isLt; omega) (ζ 1)) := by
  subst h
  show table.view.read (Elt F) fT ((Rect.unit (s := S512x1024) _ S16x1024.size hoff).emb ζ) = _
  congr 1
  funext a
  apply Fin.ext
  match a with
  | 0 => show 128 * l.val + 16 * β + 1 * (ζ 0).val = 128 * l.val + (16 * β + (ζ 0).val); omega
  | 1 => show 0 + 1 * (ζ 1).val = (ζ 1).val; omega

theorem otherRow_val (r : Fin k0_t6_loop.trips) (j : Fin (k0_t7_loop r).trips) : (otherRow r j).toNat = r.val + 1 + j.val := by revert r j; decide +kernel
theorem row_val (r : Fin k0_t6_loop.trips) : (Scf.iv 0#32 1#32 r).toNat = r.val := by revert r; decide +kernel

/-- One entry, from the rows the tile holds: row `p` of the block at `16 β` and row `q` of the block at `16 γ`. -/
theorem sqd_rows (table : Memref sig .scVector .hbm S512x1024 .f32) (fT : Buf (Elt F) (table.view.loc (th d i))) (l : Fin 4) {offA offB : Fin 2 → ℕ}
    (hA : ∀ a, offA a + S16x1024.size a ≤ S512x1024.size a) (hB : ∀ a, offB a + S16x1024.size a ≤ S512x1024.size a) {β γ : ℕ} (hβ : β < 8) (hγ : γ < 8)
    (eA : offA = ![128 * l.val + 16 * β, 0]) (eB : offB = ![128 * l.val + 16 * γ, 0]) {ζ ζ' : S16x1024.Idx} {z : S8128x1024.Idx}
    (hz : (z 0).val = pos (16 * β + (ζ 0).val) (16 * γ + (ζ' 0).val)) (hlt : 16 * β + (ζ 0).val < 16 * γ + (ζ' 0).val) (h1 : ζ 1 = z 1) (h1' : ζ' 1 = z 1) :
    diffs (table.view.read (Elt F) fT) l z = sqd (rowsVal table offA hA fT ζ) (rowsVal table offB hB fT ζ') := by
  have b : (ζ' 0).val < 16 := (ζ' 0).isLt
  rw [val_eq table fT l hA hβ eA ζ, val_eq table fT l hB hγ eB ζ', h1, h1', diffs_at _ l z hlt (by omega) hz]

theorem meets (table : Memref sig .scVector .hbm S512x1024 .f32) (fT : Buf (Elt F) (table.view.loc (th d i))) (l : Fin 4)
    (out : Memref sig .scVector .hbm S8128x1024 .f32) (G : Buf (Elt F) (out.view.loc (th d i)))
    (hG : ∀ z, out.view.read (Elt F) G z = diffs (table.view.read (Elt F) fT) l z) : Meets d i out G (valA table fT l) (valB table fT l) where
  off h1 g b ξ := by
    have hg : g.val < 8 := pair_trips ▸ g.isLt
    have hξ : (ξ 0).val < 16 := (ξ 0).isLt
    have hlt := ba_lt_bb i
    have hb := bb_lt i
    refine (hG ((Rect.unit (s := S8128x1024) (k0_off131 i g (BitVec.ofNat 32 b.val)) S16x1024.size (k0_off131_inb i g h1 b)).emb ξ)).trans
      (sqd_rows table fT l _ _ (ba_lt i) hb (off1_eq i l) (off2_eq i l) ?_ ?_ ?_ ?_)
    · show k0_off131 i g (BitVec.ofNat 32 b.val) 0 + 1 * (ξ 0).val = pos (16 * ba i + (pairRow g (BitVec.ofNat 32 b.val)).toNat) (16 * bb i + (ξ 0).val)
      rw [pairRow_val, pos_add (by omega), off131_eq i h1 g b]
      show pos (16 * ba i + (2 * g.val + b.val)) (16 * bb i) + 1 * (ξ 0).val = _
      omega
    · show 16 * ba i + (pairRow g (BitVec.ofNat 32 b.val)).toNat < 16 * bb i + (ξ 0).val
      rw [pairRow_val]; omega
    all_goals
      apply Fin.ext
      show (ξ 1).val = k0_off131 i g (BitVec.ofNat 32 b.val) 1 + 1 * (ξ 1).val
      rw [off131_eq i h1 g b]
      show (ξ 1).val = 0 + 1 * (ξ 1).val
      omega
  tri0 h4 r j ξ := by
    have hr : r.val < 15 := row_trips ▸ r.isLt
    have hj : j.val < 15 - r.val := tri_trips r ▸ j.isLt
    have hξ : (ξ 0).val < 1 := (ξ 0).isLt
    refine (hG ((Rect.unit (s := S8128x1024) (k0_off389 i r j) S1x1024.size (k0_off389_inb i r j h4)).emb ξ)).trans
      (sqd_rows table fT l _ _ (ba_lt i) (ba_lt i) (off1_eq i l) (off1_eq i l) ?_ ?_ ?_ ?_)
    · show k0_off389 i r j 0 + 1 * (ξ 0).val = pos (16 * ba i + (Scf.iv 0#32 1#32 r).toNat) (16 * ba i + (otherRow r j).toNat)
      rw [row_val, otherRow_val, off389_eq i h4 r j]
      show pos (16 * ba i + r.val) (16 * ba i + (r.val + 1 + j.val)) + 1 * (ξ 0).val = _
      omega
    · show 16 * ba i + (Scf.iv 0#32 1#32 r).toNat < 16 * ba i + (otherRow r j).toNat
      rw [row_val, otherRow_val]; omega
    all_goals
      apply Fin.ext
      show (ξ 1).val = k0_off389 i r j 1 + 1 * (ξ 1).val
      rw [off389_eq i h4 r j]
      show (ξ 1).val = 0 + 1 * (ξ 1).val
      omega
  tri1 h4 r j ξ := by
    have hr : r.val < 15 := row_trips ▸ r.isLt
    have hj : j.val < 15 - r.val := tri_trips r ▸ j.isLt
    have hξ : (ξ 0).val < 1 := (ξ 0).isLt
    refine (hG ((Rect.unit (s := S8128x1024) (k0_off777 i r j) S1x1024.size (k0_off777_inb i r j h4)).emb ξ)).trans
      (sqd_rows table fT l _ _ (bb_lt i) (bb_lt i) (off2_eq i l) (off2_eq i l) ?_ ?_ ?_ ?_)
    · show k0_off777 i r j 0 + 1 * (ξ 0).val = pos (16 * bb i + (Scf.iv 0#32 1#32 r).toNat) (16 * bb i + (otherRow r j).toNat)
      rw [row_val, otherRow_val, off777_eq i h4 r j]
      show pos (16 * bb i + r.val) (16 * bb i + (r.val + 1 + j.val)) + 1 * (ξ 0).val = _
      omega
    · show 16 * bb i + (Scf.iv 0#32 1#32 r).toNat < 16 * bb i + (otherRow r j).toNat
      rw [row_val, otherRow_val]; omega
    all_goals
      apply Fin.ext
      show (ξ 1).val = k0_off777 i r j 1 + 1 * (ξ 1).val
      rw [off777_eq i h4 r j]
      show (ξ 1).val = 0 + 1 * (ξ 1).val
      omega

end Cert.KernelIdeal.Roll
end
-- ==== Proof.Task.lean ====
/- One tile's task: what it is given, what it brings back, and that its program does so. -/
module

public import proofs.«01_k».proof.Proof.Printed
public import proofs.«01_k».proof.Proof.Values

@[expose] public section

noncomputable section

namespace Cert.KernelIdeal.Roll

open Cert.KernelIdeal Cert.Pairs
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

open Facts K0.R1.Facts₀ K0.R2.Facts₀ K0.R3.Facts₀ K0.R4.Facts₀ Shapes1.Facts₀

/-! ## Shares of the table -/

omit [FloatOps F] [Facts] in
theorem sep_turn (A B C : sProp (MM F)) : iprop(A ∗ B ∗ C) = iprop((B ∗ A) ∗ C) := by
  refine BI.Entails.antisymm (show iprop(A ∗ B ∗ C) ⊢ iprop((B ∗ A) ∗ C) from ?_) (show iprop((B ∗ A) ∗ C) ⊢ iprop(A ∗ B ∗ C) from ?_)
  · iintro ⟨H1, H2, H3⟩
    isplitl [H1 H2]
    · isplitl [H2] <;> iassumption
    · iexact H3
  · iintro ⟨⟨H1, H2⟩, H3⟩
    isplitl [H2]; · iexact H2
    isplitl [H1] <;> iassumption

omit [FloatOps F] [Facts] in
/-- A share is as many parts as wanted, and a remainder. -/
theorem shares {T : Type} [DecidableEq T] (S : Finset T) (q : PosShare TreeShare) :
    ∃ π : T → PosShare TreeShare, ∃ r : PosShare TreeShare, ∀ (ℓ : Loc nD τ sig) (f : Buf (Elt F) ℓ),
      (ℓ ↦{q} f : sProp (MM F)) = iprop((bigSep S fun t => ℓ ↦{π t} f) ∗ ℓ ↦{r} f) := by
  induction S using Finset.induction with
  | empty => exact ⟨fun _ => q, q, fun ℓ f => (BI.Entails.antisymm emp_sep.1 emp_sep.2).symm⟩
  | insert a S ha ih =>
    obtain ⟨π, r, h⟩ := ih
    refine ⟨Function.update π a r.left, r.right, fun ℓ f => ?_⟩
    have e : (bigSep S fun t => (ℓ ↦{Function.update π a r.left t} f : sProp (MM F))) = bigSep S fun t => ℓ ↦{π t} f :=
      bigSep_congr fun t ht => by
        have hne : t ≠ a := by rintro rfl; exact ha ht
        rw [Function.update_of_ne hne]
    rw [h, SparseCore.bigSep_insert' ha, e, Function.update_self,
      BI.Entails.antisymm (pointsTo_share (PosShare.mem_left_op_right r)).1 (pointsTo_share (PosShare.mem_left_op_right r)).2, sep_turn]

variable (F) in
/-- A tile's share of the table, and what none of them has. -/
def tq : grid0.Coords → PosShare TreeShare := (shares (F := F) Finset.univ fullShare).choose
variable (F) in
def tr : PosShare TreeShare := (shares (F := F) (Finset.univ : Finset grid0.Coords) fullShare).choose_spec.choose

omit [FloatOps F] [Facts] in
theorem table_shares (ℓ : Loc nD τ sig) (f : Buf (Elt F) ℓ) :
    (ℓ ↦{fullShare} f : sProp (MM F)) = iprop((bigSep Finset.univ fun i => ℓ ↦{tq F i} f) ∗ ℓ ↦{tr F} f) :=
  (shares (F := F) (Finset.univ : Finset grid0.Coords) fullShare).choose_spec.choose_spec ℓ f

/-! ## What a tile holds -/

abbrev tLoc (d : Dev nD) : Loc nD τ sig := (SparseCore.T d).loc main_v0
abbrev oLoc0 (d : Dev nD) : Loc nD τ sig := (SparseCore.T d).loc main_v1_0
abbrev oLoc1 (d : Dev nD) : Loc nD τ sig := (SparseCore.T d).loc main_v1_1
abbrev oLoc2 (d : Dev nD) : Loc nD τ sig := (SparseCore.T d).loc main_v1_2
abbrev oLoc3 (d : Dev nD) : Loc nD τ sig := (SparseCore.T d).loc main_v1_3

section
variable (d : Dev nD) (i : grid0.Coords) (t : Buf (Elt F) (tLoc d)) (f0 : Buf (Elt F) (oLoc0 d)) (f1 : Buf (Elt F) (oLoc1 d)) (f2 : Buf (Elt F) (oLoc2 d)) (f3 : Buf (Elt F) (oLoc3 d))

/-- A tile's share of the table and its rows of the four results. -/
abbrev given : sProp (MM F) :=
  iprop((tLoc d ↦{tq F i} t) ∗ (oLoc0 d ↦[rowsOf i]{fullShare} f0) ∗ (oLoc1 d ↦[rowsOf i]{fullShare} f1) ∗ (oLoc2 d ↦[rowsOf i]{fullShare} f2) ∗ oLoc3 d ↦[rowsOf i]{fullShare} f3)
end

section
variable (d : Dev nD) (i : grid0.Coords)

theorem pieces0 (G : Buf (Elt F) (oLoc0 d)) : piecesAt d i (Memref.whole main_v1_0_scv) G = (oLoc0 d ↦[rowsOf i]{fullShare} G : sProp (MM F)) :=
  (pieces_eq (Memref.whole main_v1_0_scv) G).trans (congrArg (fun R => (oLoc0 d ↦[R]{fullShare} G : sProp (MM F))) Finset.map_refl)
theorem pieces1 (G : Buf (Elt F) (oLoc1 d)) : piecesAt d i (Memref.whole main_v1_1_scv) G = (oLoc1 d ↦[rowsOf i]{fullShare} G : sProp (MM F)) :=
  (pieces_eq (Memref.whole main_v1_1_scv) G).trans (congrArg (fun R => (oLoc1 d ↦[R]{fullShare} G : sProp (MM F))) Finset.map_refl)
theorem pieces2 (G : Buf (Elt F) (oLoc2 d)) : piecesAt d i (Memref.whole main_v1_2_scv) G = (oLoc2 d ↦[rowsOf i]{fullShare} G : sProp (MM F)) :=
  (pieces_eq (Memref.whole main_v1_2_scv) G).trans (congrArg (fun R => (oLoc2 d ↦[R]{fullShare} G : sProp (MM F))) Finset.map_refl)
theorem pieces3 (G : Buf (Elt F) (oLoc3 d)) : piecesAt d i (Memref.whole main_v1_3_scv) G = (oLoc3 d ↦[rowsOf i]{fullShare} G : sProp (MM F)) :=
  (pieces_eq (Memref.whole main_v1_3_scv) G).trans (congrArg (fun R => (oLoc3 d ↦[R]{fullShare} G : sProp (MM F))) Finset.map_refl)

theorem tab_eq (t : Buf (Elt F) (tLoc d)) (q : PosShare TreeShare) : tab d i (Memref.whole main_v0_scv) t q = (tLoc d ↦{q} t : sProp (MM F)) :=
  congrArg (fun R => (tLoc d ↦[R]{q} t : sProp (MM F))) (View.set_whole main_v0_scv)

/-! ## The tile's own buffers and semaphores -/

/-- The semaphores the kernel is given. -/
abbrev sems : Finset (SemLoc sig) :=
  {.dma (0 : Fin 7), .dma (1 : Fin 7), .dma (2 : Fin 7), .dma (3 : Fin 7), .dma (4 : Fin 7), .dma (5 : Fin 7), .dma (6 : Fin 7)}
/-- The buffers the kernel is given. -/
abbrev bufs : Finset (Ref sig .scVector) := {cc0_scratch0, cc0_scratch1, cc0_scratch2, cc0_scratch3, cc0_scratch4, cc0_scratch5}

abbrev cellOf : SemLoc sig ↪ GSem nD τ sig := ⟨fun s => (th d i, s), fun _ _ h => (Prod.ext_iff.mp h).2⟩
abbrev refOf : Ref sig .scVector ↪ DevRef τ sig := ⟨(Proc.scVector ((i 0).castLE hcore0) ((i 1).castLE hsub0)).devRef, Proc.devRef_injective _⟩

theorem ownSems0_V : (ownSems0 (th d i) : sProp (MM F))
    = iprop((zero d i cc0_scratch6 ∗ zero d i cc0_scratch7 ∗ zero d i cc0_scratch8 ∗ zero d i cc0_scratch9 ∗ zero d i cc0_scratch10 ∗ zero d i cc0_scratch11 ∗ zero d i cc0_scratch12)
        ∗ bigSep (ownCells (th d i) \ sems.map (cellOf d i)) fun g => semVal g 0) := by
  unfold SparseCore.Cfg.ownSems0
  rw [SparseCore.bigSep_sdiff_split' (t := sems.map (cellOf d i)), bigSep_map, SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  · rfl
  · intro g hg
    obtain ⟨s, hs, rfl⟩ := Finset.mem_map.mp hg
    exact mem_ownCells.mpr ⟨rfl, (show ∀ s ∈ sems, s.isScoped .scVector = true by decide) s hs⟩

theorem ownBufs_V : (ownBufs (th d i) : sProp (MM F))
    = iprop((own d i (Memref.whole cc0_scratch0) ∗ own d i (Memref.whole cc0_scratch1) ∗ own d i (Memref.whole cc0_scratch2) ∗ own d i (Memref.whole cc0_scratch3)
          ∗ own d i (Memref.whole cc0_scratch4) ∗ own d i (Memref.whole cc0_scratch5))
        ∗ bigSep (ownRefs (τ := τ) (.scVector ((i 0).castLE hcore0) ((i 1).castLE hsub0)) \ bufs.map (refOf i)) fun b => iprop(∃ f, ((d, b) : Loc nD τ sig) ↦{fullShare} f)) := by
  unfold SparseCore.Cfg.ownBufs
  refine (SparseCore.bigSep_sdiff_split' (t := bufs.map (refOf i)) ?_).trans ?_
  · intro b hb
    obtain ⟨r, hr, rfl⟩ := Finset.mem_map.mp hb
    refine SparseCore.Cfg.mem_ownRefs_of_owner ?_
    simp only [bufs, Finset.mem_insert, Finset.mem_singleton] at hr
    rcases hr with rfl | rfl | rfl | rfl | rfl | rfl <;> rfl
  · have e : ∀ r : Ref sig .scVector, iprop(∃ f, ((d, refOf i r) : Loc nD τ sig) ↦{fullShare} f) = (own d i (Memref.whole r) : sProp (MM F)) := by
      intro r
      unfold own
      rw [show (Memref.whole r).view.set = Finset.univ from View.set_whole r]
      rfl
    rw [bigSep_map, bigSep_congr fun r _ => e r, SparseCore.bigSep_insert' (by decide), SparseCore.bigSep_insert' (by decide),
      SparseCore.bigSep_insert' (by decide), SparseCore.bigSep_insert' (by decide), SparseCore.bigSep_insert' (by decide), bigSep_singleton]

/-! ## The task -/

/-- The tile's program, on the arrays and buffers it is called with. -/
abbrev task : TP F i PUnit := cc0__batch_diff_sc (F := F) i (Memref.whole main_v0_scv) (Memref.isWhole_whole _) (Memref.whole main_v1_0_scv) (Memref.isWhole_whole _)
  (Memref.whole main_v1_1_scv) (Memref.isWhole_whole _) (Memref.whole main_v1_2_scv) (Memref.isWhole_whole _) (Memref.whole main_v1_3_scv) (Memref.isWhole_whole _)
  (Memref.whole cc0_scratch0) (Memref.isWhole_whole _) (Memref.whole cc0_scratch1) (Memref.isWhole_whole _) (Memref.whole cc0_scratch2) (Memref.isWhole_whole _)
  (Memref.whole cc0_scratch3) (Memref.isWhole_whole _) (Memref.whole cc0_scratch4) (Memref.isWhole_whole _) (Memref.whole cc0_scratch5) (Memref.isWhole_whole _)
  cc0_scratch6 cc0_scratch7 cc0_scratch8 cc0_scratch9 cc0_scratch10 cc0_scratch11 cc0_scratch12

theorem wp_task (t : Buf (Elt F) (tLoc d)) (f0 : Buf (Elt F) (oLoc0 d)) (f1 : Buf (Elt F) (oLoc1 d)) (f2 : Buf (Elt F) (oLoc2 d)) (f3 : Buf (Elt F) (oLoc3 d))
    (hF : (KC (F := F)).Facts) (O : CellTallies nD τ sig (HIx 1)) (W : Waits sig (HIx 1)) (hO : ∀ g, O g none = 0) :
    iprop(levAts (KC (F := F)).L (KC (F := F)).lev ∗ emp ∗ given d i t f0 f1 f2 f3 ∗ scopedBufs (th d i) ∗ scopedSems0 (th d i) ∗ owes (th d i) O W)
      ⊢ wp frame (wpE (defs₀ (F := F)) 𝒱₀ (th d i) none) Set.univ (task i)
          fun _ => iprop(given d i t (diffs t 0) (diffs t 1) (diffs t 2) (diffs t 3) ∗ scopedBufs (th d i) ∗ scopedSems0 (th d i)
            ∗ ∃ W', ⌜∀ p ∈ W', p ∈ W ∨ p.2 = none⌝ ∗ owes (th d i) O W') := by
  rw [(KC (F := F)).scopedBufs_V hF d _ _, SparseCore.Cfg.scopedSems0_V (Val := Elt F) d _ _, ownSems0_V, ownBufs_V]
  unfold task
  rw [tile_eq]
  have m0 := meets (d := d) (i := i) (Memref.whole main_v0_scv) t 0 (Memref.whole main_v1_0_scv) (diffs t 0) (fun _ => by rfl)
  have m1 := meets (d := d) (i := i) (Memref.whole main_v0_scv) t 1 (Memref.whole main_v1_1_scv) (diffs t 1) (fun _ => by rfl)
  have m2 := meets (d := d) (i := i) (Memref.whole main_v0_scv) t 2 (Memref.whole main_v1_2_scv) (diffs t 2) (fun _ => by rfl)
  have m3 := meets (d := d) (i := i) (Memref.whole main_v0_scv) t 3 (Memref.whole main_v1_3_scv) (diffs t 3) (fun _ => by rfl)
  unfold given
  rw [← tab_eq d i, ← pieces0 d i f0, ← pieces1 d i f1, ← pieces2 d i f2, ← pieces3 d i f3,
    ← pieces0 d i (diffs t 0), ← pieces1 d i (diffs t 1), ← pieces2 d i (diffs t 2), ← pieces3 d i (diffs t 3)]
  iintro ⟨#Hlv, -, ⟨Ht, H0, H1, H2, H3⟩, ⟨⟨B0, B1, B2, B3, B4, B5⟩, Hbufs⟩, ⟨⟨S6, S7, S8, S9, S10, S11, S12⟩, Hsems⟩, HO⟩
  ihave Hmw := (show levAts (KC (F := F)).L (KC (F := F)).lev ⊢ Transfers.MayWaits (th d i) (default : HIx 1) O from
    (KC (F := F)).mayWaits_none (thr := th d i) hO) $$ Hlv
  iapply (wp_tile m0 m1 m2 m3 (q := tq F i) (f0 := f0) (f1 := f1) (f2 := f2) (f3 := f3)) $$ [Ht H0 H1 H2 H3 B0 B1 B2 B3 B4 B5 S6 S7 S8 S9 S10 S11 S12 Hmw HO]
  · isplitl [Ht]; · iexact Ht
    isplitl [H0 H1 H2 H3]
    · isplitl [H0]; · iexact H0
      isplitl [H1]; · iexact H1
      isplitl [H2] <;> iassumption
    unfold idle scratch Ow
    isplitl [B0 B2 S6 S8]
    · isplitl [B0]; · iexact B0
      isplitl [B2]; · iexact B2
      isplitl [S6] <;> iassumption
    isplitl [B1 B3 S7 S9]
    · isplitl [B1]; · iexact B1
      isplitl [B3]; · iexact B3
      isplitl [S7] <;> iassumption
    isplitl [B4 B5 S10 S11 S12]
    · isplitl [B4]; · iexact B4
      isplitl [B5]; · iexact B5
      isplitl [S10]; · iexact S10
      isplitl [S11] <;> iassumption
    isplitl [Hmw]; · iexact Hmw
    iexists W
    isplitr
    · ipureintro; exact fun p hp => .inl hp
    · iexact HO
  iintro ⟨Ht, ⟨H0, H1, H2, H3⟩, Hi0, Hi1, Hs, HO⟩
  unfold idle scratch Ow
  icases Hi0 with ⟨B0, B2, S6, S8⟩
  icases Hi1 with ⟨B1, B3, S7, S9⟩
  icases Hs with ⟨B4, B5, S10, S11, S12⟩
  icases HO with ⟨-, HO⟩
  isplitl [Ht H0 H1 H2 H3]
  · isplitl [Ht]; · iexact Ht
    isplitl [H0]; · iexact H0
    isplitl [H1]; · iexact H1
    isplitl [H2] <;> iassumption
  isplitl [B0 B1 B2 B3 B4 B5 Hbufs]
  · isplitl [B0 B1 B2 B3 B4 B5]
    · isplitl [B0]; · iexact B0
      isplitl [B1]; · iexact B1
      isplitl [B2]; · iexact B2
      isplitl [B3]; · iexact B3
      isplitl [B4] <;> iassumption
    · iexact Hbufs
  isplitl [S6 S7 S8 S9 S10 S11 S12 Hsems]
  · isplitl [S6 S7 S8 S9 S10 S11 S12]
    · isplitl [S6]; · iexact S6
      isplitl [S7]; · iexact S7
      isplitl [S8]; · iexact S8
      isplitl [S9]; · iexact S9
      isplitl [S10]; · iexact S10
      isplitl [S11] <;> iassumption
    · iexact Hsems
  iexact HO

end

end Cert.KernelIdeal.Roll
end
-- ==== Proof.Launch.lean ====
/- The whole program: the table made, the tiles launched on their parts and their parts gathered. -/
module

public import proofs.«01_k».proof.Proof.Task

@[expose] public section

noncomputable section

namespace Cert.KernelIdeal.Roll

open Cert.KernelIdeal Cert.Pairs
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F] [Facts]

open Facts K0.R1.Facts₀ K0.R2.Facts₀ K0.R3.Facts₀ K0.R4.Facts₀ Shapes1.Facts₀

/-! ## The launch configuration -/

theorem facts : (KC (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The grid point of tile `s` of core `c`. -/
def point (c : Fin (grid0.bound 0)) (s : Fin (grid0.bound 1)) : grid0.Coords := fun | 0 => c | 1 => s | ⟨_ + 2, h⟩ => absurd h (Nat.not_lt.2 (Nat.le_add_left _ _))

/-- Grid points are cores and tiles. -/
def points : Fin 2 × Fin 16 ≃ grid0.Coords where
  toFun p := point p.1 p.2
  invFun i := (i 0, i 1)
  left_inv _ := rfl
  right_inv i := by
    funext a
    match a with
    | 0 => rfl
    | 1 => rfl

omit [FloatOps F] [Facts] in
theorem bigSep_points (Φ : grid0.Coords → sProp (MM F)) :
    bigSep Finset.univ Φ = bigSep Finset.univ fun c : Fin 2 => bigSep Finset.univ fun s : Fin 16 => Φ (point c s) := by
  rw [bigSep_univ_equiv points Φ, bigSep_univ_prod]
  rfl

/-! ## What the launch hands over -/

variable (m : (ℓ : Loc nD τ sig) → Buf (Elt F) ℓ) (ρ : Dev nD → PrngReg)

abbrev aLoc (d : Dev nD) : Loc nD τ sig := (SparseCore.T d).loc main_arg0

abbrev a' : DevRef τ sig := Proc.devRef .tc (main_arg0 : Ref sig .tc)
abbrev t' : DevRef τ sig := Proc.devRef .tc (main_v0 : Ref sig .tc)
abbrev o0' : DevRef τ sig := Proc.devRef .tc (main_v1_0 : Ref sig .tc)
abbrev o1' : DevRef τ sig := Proc.devRef .tc (main_v1_1 : Ref sig .tc)
abbrev o2' : DevRef τ sig := Proc.devRef .tc (main_v1_2 : Ref sig .tc)
abbrev o3' : DevRef τ sig := Proc.devRef .tc (main_v1_3 : Ref sig .tc)

/-- The levels' rows, put in one table. -/
abbrev opR : HloOp τ sig (Elt F) := StableHlo.reshape main_arg0 main_v0 (rfl : (.f32 : EltTy) = .f32) shapeCasts_S4x128x1024_S512x1024

def V0 (d : Dev nD) : Valuation τ sig (Elt F) := fun b => m (d, b)

/-- The table. -/
def tb (d : Dev nD) : Buf (Elt F) (tLoc d) := (opR (F := F)).result (V0 m d) t'

abbrev tilePre (d : Dev nD) (i : grid0.Coords) : sProp (MM F) := given d i (tb m d) (m (oLoc0 d)) (m (oLoc1 d)) (m (oLoc2 d)) (m (oLoc3 d))
abbrev tilePost (d : Dev nD) (i : grid0.Coords) : sProp (MM F) := given d i (tb m d) (diffs (tb m d) 0) (diffs (tb m d) 1) (diffs (tb m d) 2) (diffs (tb m d) 3)

/-- Each core is handed its tiles' parts, each tile its own. -/
def P : (KC (F := F)).Pay (nD := nD) (Val := Elt F) (Name := ℕ) (U := UU) where
  st := fun q d c => match q with | 0 => bigSep Finset.univ fun s : Fin 16 => tilePre m d (point (Fin.cast nCore_zero c) s)
  dn := fun q d c => match q with | 0 => bigSep Finset.univ fun s : Fin 16 => tilePost m d (point (Fin.cast nCore_zero c) s)
  go := fun q d c s => match q with | 0 => tilePre m d (point (Fin.cast nCore_zero c) (Fin.cast nSub_zero s))
  td := fun q d c s => match q with | 0 => tilePost m d (point (Fin.cast nCore_zero c) (Fin.cast nSub_zero s))
  x := fun _ _ => iprop(emp)

instance P_storable : (P (F := F) m).IsStorable where
  st q d c := match q with
    | 0 => (inferInstance : BI.Storable (upEmb : UEmb _ (MM F)) (bigSep Finset.univ fun s : Fin 16 => tilePre m d (point (Fin.cast nCore_zero c) s)))
  dn q d c := match q with
    | 0 => (inferInstance : BI.Storable (upEmb : UEmb _ (MM F)) (bigSep Finset.univ fun s : Fin 16 => tilePost m d (point (Fin.cast nCore_zero c) s)))
  go q d c s := match q with
    | 0 => (inferInstance : BI.Storable (upEmb : UEmb _ (MM F)) (tilePre m d (point (Fin.cast nCore_zero c) (Fin.cast nSub_zero s))))
  td q d c s := match q with
    | 0 => (inferInstance : BI.Storable (upEmb : UEmb _ (MM F)) (tilePost m d (point (Fin.cast nCore_zero c) (Fin.cast nSub_zero s))))

/-! ## The tiles' obligation -/

theorem defs₀_vector (c : Fin τ.nSC) (s : Fin τ.nSub) :
    defs₀ (F := F) (.scVector c s) 0 () = SparseCore.onTile hcore0 hsub0 (fun c s => task (point c s)) ⟨⟩ c s := rfl

omit [FloatOps F] [Facts] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (KC (F := F)).Facts) : (KC (F := F)).TileObl (DC (F := F)) 𝒱 (P m) v₀ 0 := by
  intro d c s O W hO _ _
  simp only [show (P m).ox = fun _ _ => 0 from rfl, add_zero]
  have hci : ((KC (F := F)).core 0 c).val < grid0.bound 0 ∧ ((KC (F := F)).sub 0 s).val < grid0.bound 1 := ⟨c.isLt, s.isLt⟩
  change _ ⊢ wp _ _ _ (Pipeline.liftProg (defs₀ (F := F) (.scVector ((KC (F := F)).core 0 c) ((KC (F := F)).sub 0 s)) 0 ())) _
  refine BI.Entails.trans ?_ (Pipeline.wp_liftProg (DC (F := F)) (Pipeline.defs_kernel pcfgs defs₀) 𝒱₀ _ Set.univ none _ _)
  rw [defs₀_vector]; simp only [SparseCore.onTile, hci, and_self, ↓reduceDIte]
  exact (wp_task d (point ⟨_, hci.1⟩ ⟨_, hci.2⟩) (tb m d) _ _ _ _ hF O W hO).trans (wp_mono frame _ _ fun _ => obl_post)

theorem vecSplit : (KC (F := F)).VecSplit' (P m) 0 := by
  intro d c
  show (bigSep Finset.univ fun s : Fin 16 => tilePre m d (point (Fin.cast nCore_zero c) s)) ⊢ |={Set.univ}=> iprop(
      (bigSep Finset.univ fun s : Fin 16 => tilePre m d (point (Fin.cast nCore_zero c) s))
      ∗ ((bigSep Finset.univ fun s : Fin 16 => tilePost m d (point (Fin.cast nCore_zero c) s)) -∗ bigSep Finset.univ fun s : Fin 16 => tilePost m d (point (Fin.cast nCore_zero c) s)))
  iintro H; imodintro
  isplitl [H]; · iexact H
  iintro H; iexact H

/-! ## The launch's ghost state -/

def u₀ : UU := (initOf (KC (F := F)).hsCells (KC (F := F)).hsToks, 1)

omit [FloatOps F] [Facts] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (KC (F := F)).hsCells (KC (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (KC (F := F)).hsCells (KC (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The parts and the whole -/

omit [FloatOps F] in
theorem rows_all {ℓ : Loc nD τ sig} (h : Idx ℓ = S8128x1024.Idx) (R : grid0.Coords → Finset (Idx ℓ)) (hR : ∀ i z, z ∈ R i ↔ cast h z ∈ rowsOf i) (f : Buf (Elt F) ℓ) :
    (ℓ ↦{fullShare} f : sProp (MM F)) = bigSep Finset.univ fun i => ℓ ↦[R i]{fullShare} f := by
  classical
  rw [← pointsTo_biUnion Finset.univ R (fun i _ j _ e => Finset.disjoint_left.mpr fun z hz hz' =>
    Finset.disjoint_left.mp (rowsOf_disjoint e) ((hR i z).mp hz) ((hR j z).mp hz'))]
  congr 1
  ext z
  have : cast h z ∈ (Finset.univ : Finset grid0.Coords).biUnion rowsOf := (Finset.ext_iff.mp rowsOf_cover _).mpr (Finset.mem_univ _)
  obtain ⟨i, _, hi⟩ := Finset.mem_biUnion.mp this
  simp only [Finset.mem_univ, true_iff]
  exact Finset.mem_biUnion.mpr ⟨i, Finset.mem_univ i, (hR i z).mpr hi⟩

omit [FloatOps F] [Facts] in
theorem sep_regroup (A B C : sProp (MM F)) : iprop((A ∗ B) ∗ C) = iprop(A ∗ B ∗ C) := by
  refine BI.Entails.antisymm (show iprop((A ∗ B) ∗ C) ⊢ iprop(A ∗ B ∗ C) from ?_) (show iprop(A ∗ B ∗ C) ⊢ iprop((A ∗ B) ∗ C) from ?_)
  · iintro ⟨⟨H1, H2⟩, H3⟩
    isplitl [H1]; · iexact H1
    isplitl [H2] <;> iassumption
  · iintro ⟨H1, H2, H3⟩
    isplitl [H1 H2]
    · isplitl [H1] <;> iassumption
    · iexact H3

/-- The table and the four results, at given contents, are the tiles' parts and the rest of the table. -/
theorem parts (d : Dev nD) (t : Buf (Elt F) (tLoc d)) (f0 : Buf (Elt F) (oLoc0 d)) (f1 : Buf (Elt F) (oLoc1 d)) (f2 : Buf (Elt F) (oLoc2 d)) (f3 : Buf (Elt F) (oLoc3 d)) :
    (iprop(((tLoc d ↦{tr F} t) ∗ bigSep Finset.univ fun i => tLoc d ↦{tq F i} t) ∗ (oLoc0 d ↦{fullShare} f0) ∗ (oLoc1 d ↦{fullShare} f1) ∗ (oLoc2 d ↦{fullShare} f2) ∗ oLoc3 d ↦{fullShare} f3) : sProp (MM F))
      = iprop((tLoc d ↦{tr F} t) ∗ bigSep Finset.univ fun c : Fin 2 => bigSep Finset.univ fun s : Fin 16 => given d (point c s) t f0 f1 f2 f3) := by
  rw [← bigSep_points (fun i => given d i t f0 f1 f2 f3)]
  unfold given
  rw [bigSep_sep', bigSep_sep', bigSep_sep', bigSep_sep',
    rows_all (ℓ := oLoc0 d) rfl (fun i => rowsOf i) (fun _ _ => Iff.rfl) f0, rows_all (ℓ := oLoc1 d) rfl (fun i => rowsOf i) (fun _ _ => Iff.rfl) f1,
    rows_all (ℓ := oLoc2 d) rfl (fun i => rowsOf i) (fun _ _ => Iff.rfl) f2, rows_all (ℓ := oLoc3 d) rfl (fun i => rowsOf i) (fun _ _ => Iff.rfl) f3]
  exact sep_regroup _ _ _

/-! ## The program on the TensorCore -/

/-- The program's arrays. -/
abbrev arrays : Finset (DevRef τ sig) := {a', t', o0', o1', o2', o3'}

theorem held_arrays (d : Dev nD) (W : Valuation τ sig (Elt F)) :
    (held (SparseCore.T d) arrays W : sProp (MM F)) = iprop((aLoc d ↦{fullShare} W a') ∗ (tLoc d ↦{fullShare} W t') ∗ (oLoc0 d ↦{fullShare} W o0') ∗ (oLoc1 d ↦{fullShare} W o1')
      ∗ (oLoc2 d ↦{fullShare} W o2') ∗ oLoc3 d ↦{fullShare} W o3') := by
  unfold held arrays
  rw [SparseCore.bigSep_insert' (by decide), SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp (MM F)) = held (SparseCore.T d) arrays (V0 m d) := by
  rw [held_arrays]
  unfold unscopedBufs
  rw [show (Finset.univ.filter fun b : Ref sig .tc => ¬ b.isScoped) = {main_arg0, main_v0, main_v1_0, main_v1_1, main_v1_2, main_v1_3} by decide,
    SparseCore.bigSep_insert' (by decide), SparseCore.bigSep_insert' (by decide), SparseCore.bigSep_insert' (by decide), SparseCore.bigSep_insert' (by decide),
    SparseCore.bigSep_insert' (by decide), bigSep_singleton]
  rfl

theorem held_table (d : Dev nD) : (held (SparseCore.T d) arrays ((opR (F := F)).result (V0 m d)) : sProp (MM F))
    = iprop((aLoc d ↦{fullShare} m (aLoc d)) ∗ (tLoc d ↦{fullShare} tb m d) ∗ (oLoc0 d ↦{fullShare} m (oLoc0 d)) ∗ (oLoc1 d ↦{fullShare} m (oLoc1 d))
      ∗ (oLoc2 d ↦{fullShare} m (oLoc2 d)) ∗ oLoc3 d ↦{fullShare} m (oLoc3 d)) := by
  have e : ∀ b : DevRef τ sig, b ∉ ({t'} : Finset (DevRef τ sig)) → (opR (F := F)).result (V0 m d) b = m (d, b) := fun b hb =>
    (opR (F := F)).result_of_not_mem (V0 m d) (b := b) hb
  rw [held_arrays, e a' (by decide), e o0' (by decide), e o1' (by decide), e o2' (by decide), e o3' (by decide)]
  rfl

theorem opR_bufs : (opR (F := F)).bufs ⊆ arrays := show ({a', t'} : Finset (DevRef τ sig)) ⊆ arrays by decide

theorem st0_eq (d : Dev nD) : (bigSep Finset.univ fun c : Fin ((KC (F := F)).nCore 0) => (P m).st 0 d c)
    = bigSep Finset.univ fun c : Fin 2 => bigSep Finset.univ fun s : Fin 16 => tilePre m d (point c s) := rfl
theorem dn0_eq (d : Dev nD) : (bigSep Finset.univ fun c : Fin ((KC (F := F)).nCore 0) => (P m).dn 0 d c)
    = bigSep Finset.univ fun c : Fin 2 => bigSep Finset.univ fun s : Fin 16 => tilePost m d (point c s) := rfl

/-- What the program leaves: the argument as it was, each result its level's rows. -/
abbrev FIN (d : Dev nD) : sProp (MM F) :=
  iprop((aLoc d ↦{fullShare} m (aLoc d)) ∗ (oLoc0 d ↦{fullShare} diffs (tb m d) 0) ∗ (oLoc1 d ↦{fullShare} diffs (tb m d) 1) ∗ (oLoc2 d ↦{fullShare} diffs (tb m d) 2)
    ∗ oLoc3 d ↦{fullShare} diffs (tb m d) 3)

theorem hmain (κ : GSem nD τ sig → ℕ) (d : Dev nD) :
    iprop((KC (F := F)).ctx EH (P m) κ ∗ (KC (F := F)).tcSt EH d 0 ∗ (KC (F := F)).tcRes m ρ d ∗ emp)
      ⊢ wp frame (wpE ((KC (F := F)).defs (DC (F := F))) 𝒱 (SparseCore.T d) none) Set.univ (main d)
          fun _ => iprop((KC (F := F)).tcSt EH d 1 ∗ FIN m d ∗ (KC (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opR) (S := arrays) opR_bufs (V := V0 m d)) $$ [Hb Hheld]
  · isplitl [Hb] <;> iassumption
  iintro ⟨Hb, Hheld⟩
  ihave Hh := (Entails.of_eq (held_table m d)) $$ Hheld
  icases Hh with ⟨Ha, Ht, Ho⟩
  rw [wp_ret]; imodintro
  ihave Ht := (Entails.of_eq (table_shares (tLoc d) (tb m d))) $$ Ht
  icases Ht with ⟨Ht, Hr⟩
  ihave Hp := (Entails.of_eq (parts d (tb m d) (m (oLoc0 d)) (m (oLoc1 d)) (m (oLoc2 d)) (m (oLoc3 d)))) $$ [Ht Hr Ho]
  · isplitl [Ht Hr]
    · isplitl [Hr] <;> iassumption
    · iexact Ho
  icases Hp with ⟨Hr, Hp⟩
  iapply ((KC (F := F)).wp_run (DC (F := F)) 𝒱 (EH := EH) (P := P m) κ d 0) $$ [Hst Hp Hb Hts Hr Ha]
  isplitr; · iexact Hctx
  isplitl [Hst]; · iexact Hst
  isplitl [Hp]
  · iapply (Entails.of_eq (st0_eq m d).symm); iexact Hp
  iintro ⟨Hst, Hdn⟩
  ihave Hdn := (Entails.of_eq (dn0_eq m d)) $$ Hdn
  ihave Hp := (Entails.of_eq (parts d (tb m d) (diffs (tb m d) 0) (diffs (tb m d) 1) (diffs (tb m d) 2) (diffs (tb m d) 3)).symm) $$ [Hr Hdn]
  · isplitl [Hr] <;> iassumption
  icases Hp with ⟨-, Ho⟩
  imodintro
  isplitl [Hst]; · iexact Hst
  isplitr [Hb Hts]
  · isplitl [Ha]; · iexact Ha
    iexact Ho
  isplitl [Hb] <;> iassumption

/-- What a final state shows of device `d`. -/
def fq (d : Dev nD) (s' : Phys nD τ sig (Elt F)) : Prop :=
  s'.mem.mem (aLoc d) = m (aLoc d) ∧ s'.mem.mem (oLoc0 d) = diffs (tb m d) 0 ∧ s'.mem.mem (oLoc1 d) = diffs (tb m d) 1
    ∧ s'.mem.mem (oLoc2 d) = diffs (tb m d) 2 ∧ s'.mem.mem (oLoc3 d) = diffs (tb m d) 3

omit [FloatOps F] [Facts] in
theorem at_end {ℓ : Loc nD τ sig} {f : Buf (Elt F) ℓ} {s' : Phys nD τ sig (Elt F)} : iprop(SI s' ∗ ℓ ↦{fullShare} f) ⊢ (iprop(⌜s'.mem.mem ℓ = f⌝ ∗ SI s') : sProp (MM F)) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp (MM F)) := by
  iintro ⟨⟨Ha, H0, H1, H2, H3⟩, HSI⟩
  ihave H := (at_end (F := F)) $$ [HSI Ha]
  · isplitl [HSI] <;> iassumption
  icases H with ⟨%ha, HSI⟩
  ihave H := (at_end (F := F)) $$ [HSI H0]
  · isplitl [HSI] <;> iassumption
  icases H with ⟨%h0, HSI⟩
  ihave H := (at_end (F := F)) $$ [HSI H1]
  · isplitl [HSI] <;> iassumption
  icases H with ⟨%h1, HSI⟩
  ihave H := (at_end (F := F)) $$ [HSI H2]
  · isplitl [HSI] <;> iassumption
  icases H with ⟨%h2, HSI⟩
  ihave H := (at_end (F := F)) $$ [HSI H3]
  · isplitl [HSI] <;> iassumption
  icases H with ⟨%h3, -⟩
  ipureintro; exact ⟨ha, h0, h1, h2, h3⟩

/-! ## The run -/

def QC : PUnit × MemSt nD τ sig (Elt F) → Prop := fun r =>
  (∀ c : Dev nD, r.2.mem (aLoc c) = m (aLoc c) ∧ r.2.mem (oLoc0 c) = diffs (tb m c) 0 ∧ r.2.mem (oLoc1 c) = diffs (tb m c) 1
    ∧ r.2.mem (oLoc2 c) = diffs (tb m c) 2 ∧ r.2.mem (oLoc3 c) = diffs (tb m c) 3) ∧ r.2.sem = fun _ => 0

/-- Every execution ends, the argument as it was, each result its level's rows of squared differences, every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := KC (F := F)) (D := DC (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Roll
end
-- ==== Proof.Frames.lean ====
/- Every execution ends with the argument as it was and every semaphore at zero. -/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_ideal [Cert.KernelIdeal.Facts] : Cert.quiescent_KernelIdeal := fun m ρ _ =>
  (θ_run Cert.KernelIdeal.defs _ _).mono (fun _ h => ⟨fun c => (h.1 c).1, h.2⟩) (Cert.KernelIdeal.Roll.run_main (F := Ideal) m ρ)

theorem frame_kernel : Cert.quiescent_Kernel (hKernel := Cert.Kernel.Gen.facts) := fun m ρ _ =>
  (θ_run Cert.Kernel.defs _ _).mono (fun _ h => ⟨fun c => (h.1 c).1, h.2⟩) (@Cert.KernelIdeal.Roll.run_main Bits _ Cert.KernelIdeal.Gen.facts m ρ _)

theorem frame_reference [Cert.ReferenceIdeal.Facts] : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)

end Cert.Proof
end
-- ==== Proof.Reference.lean ====
/- What the reference computes: row `k` of a level's result is the squared differences of the rows of the pair listed at `k`. -/
module

public import proofs.«01_k».proof.Proof.Values
public import proofs.«01_k».proof.Proof.Gen.ReferenceIdeal.Run
public import Idealize.ShloMosaic.PureOps.Ideal
public import Idealize.ShloMosaic.Lib.ReduceAll
public import Idealize.ShloMosaic.Lib.WordCmp
public import Idealize.ShloMosaic.Lib.Pipeline.Value

@[expose] public section

noncomputable section

namespace Cert.ReferenceIdeal.Rows

open Cert.ReferenceIdeal Cert.Pairs
open Cert.KernelIdeal.Roll (cell diffs sqd)
open Idealize.ShloMosaic

variable {F : FTy → Type} [FloatOps F] [Facts]

open Facts Facts₀

/-! ## A row taken at a listed index -/

/-- The listed indices as a column, a negative one counted from the end. -/
def wrap (c : IVec S8128 32) : IVec S8128x1 32 :=
  broadcastInDim S8128x1 ![0] bcast_S8128_S8128x1_0 (select (cmpi .slt c (broadcastInDim S8128 ![] bcast_S_S8128 (constantI S_ 32 0#32)))
    (addi c (broadcastInDim S8128 ![] bcast_S_S8128 (constantI S_ 32 128#32))) c)

/-- Whether each index is a row's. -/
def inside (i : IVec S8128x1 32) : IVec S8128x1 1 :=
  andi (cmpi .sge i (broadcastInDim S8128x1 ![] bcast_S_S8128x1 (constantI S_ 32 0#32)))
    (cmpi .sle i (broadcastInDim S8128x1 ![0, 1] bcast_S1x1_S8128x1_0_1 (broadcastInDim S1x1 ![1] bcast_S1_S1x1_1 (constantI S1 32 127#32))))

/-- The rows at the indices, another value in place of a row whose index is no row's. -/
def take (x : S128x1024.Idx → F .f32) (i : IVec S8128x1 32) : S8128x1024.Idx → F .f32 :=
  select (broadcastInDim S8128x1024 ![0] bcast_S8128_S8128x1024_0
      (Host.reduce IntOp.andi (inside i) (constantI S_ 1 1#1) reducesTo_S8128x1_S8128_d1 h_S_))
    (Host.gather gather_S128x1024_S8128x1_S8128x1024_1_0_n_n_0_1_11024 x i)
    (broadcastInDim S8128x1024 ![] bcast_S_S8128x1024 (constant S_ .f32 0x7FC00000#32))

/-- Row `k` of a column. -/
def at1 (k : Fin 8128) : S8128x1.Idx := fun
  | 0 => k
  | 1 => (0 : Fin 1)

/-- Entry `k` of a list. -/
def at0 (k : Fin 8128) : S8128.Idx := fun | 0 => k

/-- Column `q` of row `r` of a level. -/
def atX (r : ℕ) (hr : r < 128) (q : Fin 1024) : S128x1024.Idx := fun
  | 0 => ⟨r, hr⟩
  | 1 => q

theorem wrap_apply (c : IVec S8128 32) (hc : ∀ k, (c k).toNat < 128) (j : S8128x1.Idx) : wrap c j = c (at0 (j 0)) := by
  unfold wrap
  rw [broadcastInDim_apply _ _ _ j (at0 (j 0)) (fun a => by match a with | 0 => rfl)]
  show (if IntOp.cmpi .slt (c (at0 (j 0))) 0#32 = 1#1 then _ else _) = _
  rw [if_neg]
  rw [WordCmp.cmpi_slt_of_lt (by have := hc (at0 (j 0)); omega) (by decide)]
  simp

theorem inside_apply (i : IVec S8128x1 32) (hi : ∀ k, (i k).toNat < 128) (j : S8128x1.Idx) : inside i j = 1#1 := by
  have h := hi j
  show IntOp.andi (IntOp.cmpi .sge (i j) 0#32) (IntOp.cmpi .sle (i j) 127#32) = 1#1
  rw [WordCmp.cmpi_sge_of_lt (by omega) (by decide), WordCmp.cmpi_sle_of_lt (by omega) (by decide)]
  have : (i j).toNat ≤ 127 := by omega
  simp [this, IntOp.andi]

theorem gather_apply (x : S128x1024.Idx → F .f32) (i : IVec S8128x1 32) (z : S8128x1024.Idx) (h : (i (at1 (z 0))).toNat < 128) :
    Host.gather gather_S128x1024_S8128x1_S8128x1024_1_0_n_n_0_1_11024 x i z = x (atX (i (at1 (z 0))).toNat h (z 1)) := by
  unfold Host.gather
  congr 1
  funext a
  apply Fin.ext
  show GatherDims.start _ z i a + GatherDims.batchCoord _ z a + GatherDims.offCoord _ z a = _
  rw [GatherDims.batchCoord_eq_zero _ _ _ (fun h => by cases h)]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ gather_S128x1024_S8128x1_S8128x1024_1_0_n_n_0_1_11024.startIndexMap from List.mem_singleton.mpr rfl)]
    have e : GatherDims.siIdx gather_S128x1024_S8128x1_S8128x1024_1_0_n_n_0_1_11024 z
        ⟨List.idxOf (0 : Fin 2) [0], List.idxOf_lt_length_iff.2 (List.mem_singleton.mpr rfl)⟩ = at1 (z 0) := by
      funext b
      apply Fin.ext
      match b with
      | 0 => rfl
      | 1 => rfl
    show min (i (GatherDims.siIdx gather_S128x1024_S8128x1_S8128x1024_1_0_n_n_0_1_11024 z
        ⟨List.idxOf (0 : Fin 2) [0], List.idxOf_lt_length_iff.2 (List.mem_singleton.mpr rfl)⟩)).toInt.toNat (128 - 1) + 0 + 0 = (i (at1 (z 0))).toNat
    rw [e, WordCmp.toInt_eq_toNat_of_lt_half (by omega)]
    omega
  | 1 =>
    have e : GatherDims.start gather_S128x1024_S8128x1_S8128x1024_1_0_n_n_0_1_11024 z i 1 = 0 := by
      unfold GatherDims.start
      rw [dif_neg (by show (1 : Fin 2) ∉ [0]; decide)]
    rw [e]
    show 0 + 0 + (z 1).val = (z 1).val
    omega

set_option maxRecDepth 8192 in
theorem take_apply (x : S128x1024.Idx → F .f32) (c : IVec S8128 32) (hc : ∀ k, (c k).toNat < 128) (z : S8128x1024.Idx) :
    take x (wrap c) z = x (atX (c (at0 (z 0))).toNat (hc _) (z 1)) := by
  have hw : ∀ k, (wrap c k).toNat < 128 := fun k => by rw [wrap_apply c hc]; exact hc _
  unfold take
  show (if broadcastInDim (s := S8128) S8128x1024 ![0] bcast_S8128_S8128x1024_0 _ z = 1#1 then _ else _) = _
  rw [broadcastInDim_apply _ _ _ z (at0 (z 0)) (fun a => by match a with | 0 => rfl),
    Host.reduce_andi_one _ _ _ _ _ rfl (inside_apply _ hw), if_pos rfl, gather_apply _ _ _ (hw _)]
  congr 1
  funext a
  match a with
  | 0 => exact Fin.ext (show (wrap c (at1 (z 0))).toNat = (c (at0 (z 0))).toNat from congrArg BitVec.toNat (wrap_apply c hc (at1 (z 0))))
  | 1 => rfl

/-! ## The pairs' rows -/

/-- The lower rows and the higher rows, as listed. -/
def los : IVec S8128 32 := fun i => lit0 (S8128.rowMajor i)
def his : IVec S8128 32 := fun i => lit1 (S8128.rowMajor i)

omit [Facts] in
theorem rowMajor_at (k : S8128.Idx) : S8128.rowMajor k = k 0 := Fin.ext (Shape.rowMajor_val_one k)

omit [Facts] in
theorem los_lt (k : S8128.Idx) : (los k).toNat < 128 := by
  unfold los; rw [rowMajor_at]; have := listed (k 0); unfold lo hi at this; omega

omit [Facts] in
theorem his_lt (k : S8128.Idx) : (his k).toNat < 128 := by
  unfold his; rw [rowMajor_at]; exact (listed (k 0)).2.2

/-- A level's rows. -/
def level (x : S4x128x1024.Idx → F .f32) (l : ℕ) (h : S4x128x1024.Slices ![l, 0, 0] S1x128x1024) : S128x1024.Idx → F .f32 :=
  shapeCast _ (extractStridedSlice S1x128x1024 ![l, 0, 0] x h) shapeCasts_S1x128x1024_S128x1024

set_option maxRecDepth 8192 in
/-- A level's row is the table's. -/
theorem level_apply (x : S4x128x1024.Idx → F .f32) (l : Fin 4) (h : S4x128x1024.Slices ![l.val, 0, 0] S1x128x1024)
    (hc : S4x128x1024.ShapeCasts Cert.KernelIdeal.S512x1024) (r : ℕ) (hr : r < 128) (q : Fin 1024) :
    level x l.val h (atX r hr q) = shapeCast Cert.KernelIdeal.S512x1024 x hc (cell l r hr q) := by
  let k : S4x128x1024.Idx := fun | 0 => l | 1 => ⟨r, hr⟩ | 2 => q
  let k' : S1x128x1024.Idx := fun | 0 => (0 : Fin 1) | 1 => ⟨r, hr⟩ | 2 => q
  rw [shapeCast_apply x hc (cell l r hr q) k ?_]
  · unfold level
    rw [shapeCast_apply _ _ (atX r hr q) k' ?_]
    · refine extractStridedSlice_apply _ _ _ k' k fun a => ?_
      match a with
      | 0 => rfl
      | 1 => show r = 0 + r; omega
      | 2 => show q.val = 0 + q.val; omega
    · rw [Shape.rowMajor_val_three, Shape.rowMajor_val_two]
      show (0 * 128 + r) * 1024 + q.val = r * 1024 + q.val
      omega
  · rw [Shape.rowMajor_val_three, Shape.rowMajor_val_two]
    show (l.val * 128 + r) * 1024 + q.val = (128 * l.val + r) * 1024 + q.val
    omega

/-! ## A level's result -/

omit [Facts] in
/-- A square is the square of the absolute value, at the infinities too. -/
theorem abs_sq (e : EReal) : max e (-e) * max e (-e) = e * e := by
  rcases le_total e (-e) with h | h
  · rw [max_eq_right h, neg_mul_neg]
  · rw [max_eq_left h]

/-- The absolute differences of the rows of the listed pairs. -/
def gaps (y : S128x1024.Idx → Ideal .f32) : S8128x1024.Idx → Ideal .f32 :=
  Host.absf (subf (take y (wrap los)) (take y (wrap his)))

theorem gaps_sq (x : S4x128x1024.Idx → Ideal .f32) (l : Fin 4) (h : S4x128x1024.Slices ![l.val, 0, 0] S1x128x1024)
    (hc : S4x128x1024.ShapeCasts Cert.KernelIdeal.S512x1024) :
    mulf (gaps (level x l.val h)) (gaps (level x l.val h)) = diffs (shapeCast Cert.KernelIdeal.S512x1024 x hc) l := by
  funext z
  have row : ∀ (c : IVec S8128 32) (hlt : ∀ k, (c k).toNat < 128) (r : ℕ) (hr : r < 128), (c (at0 (z 0))).toNat = r →
      take (level x l.val h) (wrap c) z = shapeCast Cert.KernelIdeal.S512x1024 x hc (cell l r hr (z 1)) := by
    rintro c hlt r hr rfl
    exact (take_apply _ c hlt z).trans (level_apply x l h hc _ _ (z 1))
  have low := row los los_lt (lo (z 0)) (by have := listed (z 0); omega) (congrArg (fun k => (lit0 k).toNat) (rowMajor_at (at0 (z 0))))
  have high := row his his_lt (hi (z 0)) (by have := listed (z 0); omega) (congrArg (fun k => (lit1 k).toNat) (rowMajor_at (at0 (z 0))))
  refine (abs_sq (take (level x l.val h) (wrap los) z - take (level x l.val h) (wrap his) z)).trans ?_
  rw [low, high]
  rfl

end Cert.ReferenceIdeal.Rows
end
-- ==== Proof.Equal.lean ====
/- On the same argument the program and the reference end with the same results. -/
module

public import proofs.«01_k».proof.Proof.Frames
public import proofs.«01_k».proof.Proof.Reference

@[expose] public section

noncomputable section

namespace Cert.Proof

open Idealize.ShloMosaic Idealize.SL.Sem
open Cert.KernelIdeal.Roll (tb diffs run_main)
open Cert.ReferenceIdeal.Rows (gaps gaps_sq level)

/-- The table is the argument, its levels one under the other. -/
theorem table_eq [Cert.KernelIdeal.Facts]
    (m : (ℓ : Loc Cert.KernelIdeal.nD Cert.KernelIdeal.τ Cert.KernelIdeal.sig) → Buf (Elt Ideal) ℓ) (c : Dev Cert.KernelIdeal.nD) :
    tb m c = shapeCast (s := Cert.KernelIdeal.S4x128x1024) Cert.KernelIdeal.S512x1024 (m ((c.tc : Thread Cert.KernelIdeal.nD Cert.KernelIdeal.τ).loc Cert.KernelIdeal.main_arg0))
      (by decide) :=
  StableHlo.reshape_result _ _ _ _ _ _ (Cert.KernelIdeal.Roll.V0 m c)

theorem algebraic [Cert.KernelIdeal.Facts] [Cert.ReferenceIdeal.Facts] : Cert.algebraic_KernelIdeal_ReferenceIdeal := by
  intro m g m' g' _ same
  have table : ∀ (c : Dev Cert.KernelIdeal.nD) (l : Fin 4) (h : Cert.ReferenceIdeal.S4x128x1024.Slices ![l.val, 0, 0] Cert.ReferenceIdeal.S1x128x1024),
      mulf (gaps (level (m' ((c.tc : Thread Cert.ReferenceIdeal.nD Cert.ReferenceIdeal.τ).loc Cert.ReferenceIdeal.main_arg0)) l.val h))
        (gaps (level (m' ((c.tc : Thread Cert.ReferenceIdeal.nD Cert.ReferenceIdeal.τ).loc Cert.ReferenceIdeal.main_arg0)) l.val h))
        = diffs (tb m c) l := fun c l h => by
    rw [table_eq m c, same c]
    exact gaps_sq _ l h _
  refine ⟨fun c => diffs (F := Ideal) (tb m c) 0, fun c => diffs (F := Ideal) (tb m c) 1, fun c => diffs (F := Ideal) (tb m c) 2, fun c => diffs (F := Ideal) (tb m c) 3, ?_, ?_⟩
  · exact (θ_run Cert.KernelIdeal.defs _ _).mono
      (fun _ h c => ⟨(h.1 c).2.1, (h.1 c).2.2.1, (h.1 c).2.2.2.1, (h.1 c).2.2.2.2, (h.1 c).1⟩) (run_main (F := Ideal) m g)
  · exact (θ_run Cert.ReferenceIdeal.defs _ _).mono
      (fun _ h c => ⟨(h c).1.trans (table c 0 _), (h c).2.1.trans (table c 1 _), (h c).2.2.1.trans (table c 2 _), (h c).2.2.2.1.trans (table c 3 _),
        (h c).2.2.2.2⟩) (Cert.ReferenceIdeal.Value.run m' g')

end Cert.Proof
end
-- ==== Proof.lean ====
/- The proof of the claim: the program frames its argument, with floats as words and as extended reals; so does the
   reference; and over the extended reals the two end with the same four results.

   Rolled    the tile's program with its unrolled runs of vector operations written as recursions
   Printed   the printed tile program is that one
   Base      the setting: the launch configuration, how a tile's buffers are held, the squared difference
   Step      the vector work: squared differences over a row and over a block
   Copies    one copy on a semaphore of its own, issued and waited for
   Off       a block of rows against another block
   Tri       a block of rows against itself
   Tile      a whole tile: blocks copied in, four levels worked through
   Table     the list of pairs of rows
   Places    which rows of a result a tile writes: every row one tile's
   Values    what is written there
   Task      a tile's task, from the parts it is given to the parts it brings back
   Launch    the whole program, on every thread
   Reference what the reference computes
   Frames    the three frames
   Equal     the same results -/
module

public import proofs.«01_k».proof.Defs
public import proofs.«01_k».proof.Proof.Frames
public import proofs.«01_k».proof.Proof.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  frame_kernel, @frame_ideal Cert.KernelIdeal.Gen.facts, @frame_reference Cert.ReferenceIdeal.Gen.facts, trivial,
  @algebraic Cert.KernelIdeal.Gen.facts Cert.ReferenceIdeal.Gen.facts⟩

end Cert.Proof

end
